-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_conditions_finite [hPre_conditions_finite : Cert.Pre_conditions_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_conditions_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_conditions_finite [hPre_conditions_finite : Cert.Pre_conditions_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_conditions_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_tables_in_range [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_conditions_finite [hKernel5Ideal : Cert.Kernel5Ideal.Facts] [hPre_conditions_finite : Cert.Pre_conditions_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_conditions_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_conditions_finite [hReference5Ideal : Cert.Reference5Ideal.Facts] [hPre_conditions_finite : Cert.Pre_conditions_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_conditions_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v70_0)) (v1 : (c : Dev Cert.Kernel4Ideal.nD) → Buf (Elt Ideal) ((c.tc : Thread Cert.Kernel4Ideal.nD Cert.Kernel4Ideal.τ).loc Cert.Kernel4Ideal.main_v70_1)) (v2 : (c : Dev Cert.Kernel4Ideal.nD) → Buf (Elt Ideal) ((c.tc : Thread Cert.Kernel4Ideal.nD Cert.Kernel4Ideal.τ).loc Cert.Kernel4Ideal.main_v70_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v70_0) = v0 c
          ∧ r.2.mem ((c.tc : Thread Cert.Kernel4Ideal.nD Cert.Kernel4Ideal.τ).loc Cert.Kernel4Ideal.main_v70_1) = v1 c
          ∧ r.2.mem ((c.tc : Thread Cert.Kernel4Ideal.nD Cert.Kernel4Ideal.τ).loc Cert.Kernel4Ideal.main_v70_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v113) = v0 c
          ∧ r.2.mem ((c.tc : Thread Cert.Reference4Ideal.nD Cert.Reference4Ideal.τ).loc Cert.Reference4Ideal.main_v154) = v1 c
          ∧ r.2.mem ((c.tc : Thread Cert.Reference4Ideal.nD Cert.Reference4Ideal.τ).loc Cert.Reference4Ideal.main_v160) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_conditions_finite [hKernel5Ideal : Cert.Kernel5Ideal.Facts] [hReference5Ideal : Cert.Reference5Ideal.Facts] [hPre_conditions_finite : Cert.Pre_conditions_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_conditions_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_v97) = v1 c
          ∧ r.2.mem ((c.tc : Thread Cert.Reference6Ideal.nD Cert.Reference6Ideal.τ).loc Cert.Reference6Ideal.main_v99) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables_in_range : Cert.Pre_tables_in_range.Facts) (hPre_conditions_finite : Cert.Pre_conditions_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal)
    ∧ quiescent_Reference3Ideal_pre_tables_in_range (hReference3Ideal := hReference3Ideal) (hPre_tables_in_range := hPre_tables_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_conditions_finite (hKernel5Ideal := hKernel5Ideal) (hPre_conditions_finite := hPre_conditions_finite)
    ∧ quiescent_Reference5Ideal (hReference5Ideal := hReference5Ideal)
    ∧ quiescent_Reference5Ideal_pre_conditions_finite (hReference5Ideal := hReference5Ideal) (hPre_conditions_finite := hPre_conditions_finite)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_in_range := hPre_tables_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_conditions_finite (hKernel5Ideal := hKernel5Ideal) (hReference5Ideal := hReference5Ideal) (hPre_conditions_finite := hPre_conditions_finite)
    ∧ preserves_Kernel6_Kernel6Ideal
    ∧ algebraic_Kernel6Ideal_Reference6Ideal (hKernel6Ideal := hKernel6Ideal) (hReference6Ideal := hReference6Ideal)
-- ==== Pre_conditions_finite.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S4x1024 .f32) (main_arg1 : FVec F S1024 .f32) (main_arg2 : FVec F S2x1024x6144 .f32) (main_arg3 : FVec F S2x6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Pre_tables_in_range.lean ====
abbrev S8650752x128 : Shape := ⟨2, ![8650752, 128]⟩
abbrev S163 : Shape := ⟨1, ![163]⟩
abbrev S1 : Shape := ⟨1, ![1]⟩
abbrev S2x32x1024x1024 : Shape := ⟨4, ![2, 32, 1024, 1024]⟩
abbrev S2x32x512x1024 : Shape := ⟨4, ![2, 32, 512, 1024]⟩
abbrev S_ : Shape := ⟨0, ![]⟩

class Facts : Prop where
  bcast_S_S1 : S_.BroadcastsInDim S1 (![] : Fin 0 → Fin S1.rank)
  bcast_S1_S163_0 : S1.BroadcastsInDim S163 (![0] : Fin 1 → Fin S163.rank)
  bcast_S_S163 : S_.BroadcastsInDim S163 (![] : Fin 0 → Fin S163.rank)

variable [Facts]

def fn_part1 {F : FTy → Type} [FloatOps F] (main_v6 : IVec S163 1) (main_v17 : IVec S163 1) : IVec S163 1 :=
  let main_v18 : IVec S163 1 := ori main_v6 main_v17
  main_v18

def fn {F : FTy → Type} [FloatOps F] (main_arg0 : FVec F S8650752x128 .f32) (main_arg1 : IVec S163 32) (main_arg2 : IVec S163 32) (main_arg3 : IVec S1 32) (main_arg4 : FVec F S2x32x1024x1024 .f32) (main_arg5 : FVec F S2x32x512x1024 .f32) : IVec S163 1 :=
  let main_v0 : IVec S163 32 := iotaInDim S163 32 0
  let main_c : IVec S_ 32 := constantI S_ 32 1#32
  let main_v1 : IVec S1 32 := broadcastInDim S1 ![] bcast_S_S1 main_c
  let main_v2 : IVec S1 32 := subi main_arg3 main_v1
  let main_c_0 : IVec S_ 32 := constantI S_ 32 0#32
  let main_v3 : IVec S1 32 := broadcastInDim S1 ![] bcast_S_S1 main_c_0
  let main_v4 : IVec S1 32 := maxsi main_v2 main_v3
  let main_v5 : IVec S163 32 := broadcastInDim S163 ![0] bcast_S1_S163_0 main_v4
  let main_v6 : IVec S163 1 := cmpi .sgt main_v0 main_v5
  let main_c_1 : IVec S_ 32 := constantI S_ 32 0#32
  let main_v7 : IVec S163 32 := broadcastInDim S163 ![] bcast_S_S163 main_c_1
  let main_v8 : IVec S163 1 := cmpi .sge main_arg1 main_v7
  let main_c_2 : IVec S_ 32 := constantI S_ 32 32#32
  let main_v9 : IVec S163 32 := broadcastInDim S163 ![] bcast_S_S163 main_c_2
  let main_v10 : IVec S163 1 := cmpi .slt main_arg1 main_v9
  let main_v11 : IVec S163 1 := andi main_v8 main_v10
  let main_c_3 : IVec S_ 32 := constantI S_ 32 0#32
  let main_v12 : IVec S163 32 := broadcastInDim S163 ![] bcast_S_S163 main_c_3
  let main_v13 : IVec S163 1 := cmpi .sge main_arg2 main_v12
  let main_v14 : IVec S163 1 := andi main_v11 main_v13
  let main_c_4 : IVec S_ 32 := constantI S_ 32 2112#32
  let main_v15 : IVec S163 32 := broadcastInDim S163 ![] bcast_S_S163 main_c_4
  let main_v16 : IVec S163 1 := cmpi .slt main_arg2 main_v15
  let main_v17 : IVec S163 1 := andi main_v14 main_v16
  fn_part1 (F := F) main_v6 main_v17
-- ==== Kernel.lean ====
abbrev S4x8192x16x64 : Shape := ⟨4, ![4, 8192, 16, 64]⟩
abbrev S4x8192x4x64 : Shape := ⟨4, ![4, 8192, 4, 64]⟩
abbrev S4x256x16x64 : Shape := ⟨4, ![4, 256, 16, 64]⟩
abbrev S4x256x4x64 : Shape := ⟨4, ![4, 256, 4, 64]⟩
abbrev S16 : Shape := ⟨1, ![16]⟩
abbrev S32768x1024 : Shape := ⟨2, ![32768, 1024]⟩
abbrev S1024x1024 : Shape := ⟨2, ![1024, 1024]⟩
abbrev S33792x1024 : Shape := ⟨2, ![33792, 1024]⟩
abbrev S_ : Shape := ⟨0, ![]⟩
abbrev S4x8192x4x128 : Shape := ⟨4, ![4, 8192, 4, 128]⟩
abbrev S4x256x4x128 : Shape := ⟨4, ![4, 256, 4, 128]⟩
abbrev S32768x512 : Shape := ⟨2, ![32768, 512]⟩
abbrev S1024x512 : Shape := ⟨2, ![1024, 512]⟩
abbrev S33792x512 : Shape := ⟨2, ![33792, 512]⟩
abbrev S128x1024 : Shape := ⟨2, ![128, 1024]⟩
abbrev S128x512 : Shape := ⟨2, ![128, 512]⟩
abbrev S256x512 : Shape := ⟨2, ![256, 512]⟩
abbrev S512x384 : Shape := ⟨2, ![512, 384]⟩
abbrev S1x128 : Shape := ⟨2, ![1, 128]⟩
abbrev S512x1 : Shape := ⟨2, ![512, 1]⟩
abbrev S128x128 : Shape := ⟨2, ![128, 128]⟩
abbrev S512x128 : Shape := ⟨2, ![512, 128]⟩
abbrev S384x128 : Shape := ⟨2, ![384, 128]⟩
abbrev S256x128 : Shape := ⟨2, ![256, 128]⟩
abbrev S512x256 : Shape := ⟨2, ![512, 256]⟩
abbrev S1 : Shape := ⟨1, ![1]⟩
abbrev S512 : Shape := ⟨1, ![512]⟩

abbrev nBuf : Space → Nat
  | .hbm => 27
  | .vmem => 20
  | .smem => 1
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x256x16x64, .f32⟩
  | .hbm, ⟨4, _⟩ => ⟨S4x256x4x64, .f32⟩
  | .hbm, ⟨5, _⟩ => ⟨S4x256x4x64, .f32⟩
  | .hbm, ⟨6, _⟩ => ⟨S16, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S_, .f32⟩
  | .hbm, ⟨11, _⟩ => ⟨S33792x1024, .f32⟩
  | .hbm, ⟨12, _⟩ => ⟨S33792x1024, .f32⟩
  | .hbm, ⟨13, _⟩ => ⟨S33792x1024, .bf16⟩
  | .hbm, ⟨14, _⟩ => ⟨S4x8192x4x128, .f32⟩
  | .hbm, ⟨15, _⟩ => ⟨S4x256x4x128, .f32⟩
  | .hbm, ⟨16, _⟩ => ⟨S32768x512, .f32⟩
  | .hbm, ⟨17, _⟩ => ⟨S1024x512, .f32⟩
  | .hbm, ⟨18, _⟩ => ⟨S33792x512, .f32⟩
  | .hbm, ⟨19, _⟩ => ⟨S33792x512, .bf16⟩
  | .hbm, ⟨20, _⟩ => ⟨S4x8192x4x128, .f32⟩
  | .hbm, ⟨21, _⟩ => ⟨S4x256x4x128, .f32⟩
  | .hbm, ⟨22, _⟩ => ⟨S32768x512, .f32⟩
  | .hbm, ⟨23, _⟩ => ⟨S1024x512, .f32⟩
  | .hbm, ⟨24, _⟩ => ⟨S33792x512, .f32⟩
  | .hbm, ⟨25, _⟩ => ⟨S33792x512, .bf16⟩
  | .hbm, ⟨26, _⟩ => ⟨S33792x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S256x512, .bf16⟩
  | .local _ .vmem, ⟨17, _⟩ => ⟨S256x512, .bf16⟩
  | .local _ .vmem, ⟨18, _⟩ => ⟨S128x1024, .bf16⟩
  | .local _ .vmem, ⟨19, _⟩ => ⟨S128x1024, .bf16⟩
  | .local _ .smem, ⟨0, _⟩ => ⟨S16, .f32⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 66], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c64_i32_0 : BitVec 32 := 64#32
  let v1 : BitVec 32 := Scalar.muli arg0 c64_i32_0
  let v2 : BitVec 32 := Scalar.addi v1 arg1
  let c2_i32 : BitVec 32 := 2#32
  let v3 : BitVec 32 := Scalar.muli arg0 c2_i32
  let c256_i32 : BitVec 32 := 256#32
  let v4 : BitVec 32 := Scalar.addi c256_i32 v3
  let c64_i32_1 : BitVec 32 := 64#32
  let v5 : BitVec 32 := Scalar.subi arg1 c64_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c0_i32 : BitVec 32 := 0#32
  let v1 : BitVec 32 := Scalar.select v0 arg1 c0_i32
  let c_m1_i32 : BitVec 32 := 4294967295#32
  let v2 : BitVec 32 := Scalar.addi v1 c_m1_i32
  let c0_i32_0 : BitVec 32 := 0#32
  let c63_i32 : BitVec 32 := 63#32
  let v3 : BitVec 32 := Scalar.maxsi c0_i32_0 v2
  let v4 : BitVec 32 := Scalar.minsi c63_i32 v3
  let c64_i32_1 : BitVec 32 := 64#32
  let v5 : BitVec 32 := Scalar.muli arg0 c64_i32_1
  let v6 : BitVec 32 := Scalar.addi v5 v4
  let c0_i32_2 : BitVec 32 := 0#32
  let c0_i32_3 : BitVec 32 := 0#32
  ![v6.toNat, c0_i32_2.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c0_i32 : BitVec 32 := 0#32
  let v1 : BitVec 32 := Scalar.select v0 arg1 c0_i32
  let c0_i32_0 : BitVec 32 := 0#32
  let v2 : BitVec 32 := Scalar.addi v1 c0_i32_0
  let c0_i32_1 : BitVec 32 := 0#32
  let c63_i32 : BitVec 32 := 63#32
  let v3 : BitVec 32 := Scalar.maxsi c0_i32_1 v2
  let v4 : BitVec 32 := Scalar.minsi c63_i32 v3
  let c64_i32_2 : BitVec 32 := 64#32
  let v5 : BitVec 32 := Scalar.muli arg0 c64_i32_2
  let v6 : BitVec 32 := Scalar.addi v5 v4
  let c0_i32_3 : BitVec 32 := 0#32
  let c0_i32_4 : BitVec 32 := 0#32
  ![v6.toNat, c0_i32_3.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c0_i32 : BitVec 32 := 0#32
  let v1 : BitVec 32 := Scalar.select v0 arg1 c0_i32
  let c1_i32 : BitVec 32 := 1#32
  let v2 : BitVec 32 := Scalar.addi v1 c1_i32
  let c0_i32_0 : BitVec 32 := 0#32
  let c63_i32 : BitVec 32 := 63#32
  let v3 : BitVec 32 := Scalar.maxsi c0_i32_0 v2
  let v4 : BitVec 32 := Scalar.minsi c63_i32 v3
  let c64_i32_1 : BitVec 32 := 64#32
  let v5 : BitVec 32 := Scalar.muli arg0 c64_i32_1
  let v6 : BitVec 32 := Scalar.addi v5 v4
  let c0_i32_2 : BitVec 32 := 0#32
  let c0_i32_3 : BitVec 32 := 0#32
  ![v6.toNat, c0_i32_2.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c0_i32 : BitVec 32 := 0#32
  let v1 : BitVec 32 := Scalar.select v0 arg1 c0_i32
  let c_m1_i32 : BitVec 32 := 4294967295#32
  let v2 : BitVec 32 := Scalar.addi v1 c_m1_i32
  let c0_i32_0 : BitVec 32 := 0#32
  let c63_i32 : BitVec 32 := 63#32
  let v3 : BitVec 32 := Scalar.maxsi c0_i32_0 v2
  let v4 : BitVec 32 := Scalar.minsi c63_i32 v3
  let c64_i32_1 : BitVec 32 := 64#32
  let v5 : BitVec 32 := Scalar.muli arg0 c64_i32_1
  let v6 : BitVec 32 := Scalar.addi v5 v4
  let c0_i32_2 : BitVec 32 := 0#32
  let c0_i32_3 : BitVec 32 := 0#32
  ![v6.toNat, c0_i32_2.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c0_i32 : BitVec 32 := 0#32
  let v1 : BitVec 32 := Scalar.select v0 arg1 c0_i32
  let c0_i32_0 : BitVec 32 := 0#32
  let v2 : BitVec 32 := Scalar.addi v1 c0_i32_0
  let c0_i32_1 : BitVec 32 := 0#32
  let c63_i32 : BitVec 32 := 63#32
  let v3 : BitVec 32 := Scalar.maxsi c0_i32_1 v2
  let v4 : BitVec 32 := Scalar.minsi c63_i32 v3
  let c64_i32_2 : BitVec 32 := 64#32
  let v5 : BitVec 32 := Scalar.muli arg0 c64_i32_2
  let v6 : BitVec 32 := Scalar.addi v5 v4
  let c0_i32_3 : BitVec 32 := 0#32
  let c0_i32_4 : BitVec 32 := 0#32
  ![v6.toNat, c0_i32_3.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c0_i32 : BitVec 32 := 0#32
  let v1 : BitVec 32 := Scalar.select v0 arg1 c0_i32
  let c1_i32 : BitVec 32 := 1#32
  let v2 : BitVec 32 := Scalar.addi v1 c1_i32
  let c0_i32_0 : BitVec 32 := 0#32
  let c63_i32 : BitVec 32 := 63#32
  let v3 : BitVec 32 := Scalar.maxsi c0_i32_0 v2
  let v4 : BitVec 32 := Scalar.minsi c63_i32 v3
  let c64_i32_1 : BitVec 32 := 64#32
  let v5 : BitVec 32 := Scalar.muli arg0 c64_i32_1
  let v6 : BitVec 32 := Scalar.addi v5 v4
  let c0_i32_2 : BitVec 32 := 0#32
  let c0_i32_3 : BitVec 32 := 0#32
  ![v6.toNat, c0_i32_2.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c64_i32_0 : BitVec 32 := 64#32
  let v1 : BitVec 32 := Scalar.muli arg0 c64_i32_0
  let v2 : BitVec 32 := Scalar.addi v1 arg1
  let c2_i32 : BitVec 32 := 2#32
  let v3 : BitVec 32 := Scalar.muli arg0 c2_i32
  let c256_i32 : BitVec 32 := 256#32
  let v4 : BitVec 32 := Scalar.addi c256_i32 v3
  let c64_i32_1 : BitVec 32 := 64#32
  let v5 : BitVec 32 := Scalar.subi arg1 c64_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x8192x16x64 : Shape := ⟨4, ![4, 8192, 16, 64]⟩
abbrev S4x8192x4x64 : Shape := ⟨4, ![4, 8192, 4, 64]⟩
abbrev S4x256x16x64 : Shape := ⟨4, ![4, 256, 16, 64]⟩
abbrev S4x256x4x64 : Shape := ⟨4, ![4, 256, 4, 64]⟩
abbrev S16 : Shape := ⟨1, ![16]⟩
abbrev S1x4x4x1x1 : Shape := ⟨5, ![1, 4, 4, 1, 1]⟩
abbrev S4x8192x4x4x64 : Shape := ⟨5, ![4, 8192, 4, 4, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x4x8192x8192x4 : Shape := ⟨5, ![4, 4, 8192, 8192, 4]⟩
abbrev S4x4x4x8192x8192 : Shape := ⟨5, ![4, 4, 4, 8192, 8192]⟩
abbrev S4x4x256x8192x4 : Shape := ⟨5, ![4, 4, 256, 8192, 4]⟩
abbrev S4x4x4x8192x256 : Shape := ⟨5, ![4, 4, 4, 8192, 256]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩
abbrev S4x8192x4x4 : Shape := ⟨4, ![4, 8192, 4, 4]⟩
abbrev S4x8192x4x4x1 : Shape := ⟨5, ![4, 8192, 4, 4, 1]⟩
abbrev S32768x1024 : Shape := ⟨2, ![32768, 1024]⟩
abbrev S4x256x4x4x64 : Shape := ⟨5, ![4, 256, 4, 4, 64]⟩
abbrev S4x4x256x256x4 : Shape := ⟨5, ![4, 4, 256, 256, 4]⟩
abbrev S4x4x4x256x256 : Shape := ⟨5, ![4, 4, 4, 256, 256]⟩
abbrev S4x4x4x256 : Shape := ⟨4, ![4, 4, 4, 256]⟩
abbrev S4x4x4x256x1 : Shape := ⟨5, ![4, 4, 4, 256, 1]⟩
abbrev S4x4x64x4x256 : Shape := ⟨5, ![4, 4, 64, 4, 256]⟩
abbrev S4x256x4x4 : Shape := ⟨4, ![4, 256, 4, 4]⟩
abbrev S4x256x4x4x1 : Shape := ⟨5, ![4, 256, 4, 4, 1]⟩
abbrev S1024x1024 : Shape := ⟨2, ![1024, 1024]⟩
abbrev S33792x1024 : Shape := ⟨2, ![33792, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x256x16x64, .f32⟩
  | .hbm, ⟨4, _⟩ => ⟨S4x256x4x64, .f32⟩
  | .hbm, ⟨5, _⟩ => ⟨S4x256x4x64, .f32⟩
  | .hbm, ⟨6, _⟩ => ⟨S16, .f32⟩
  | .hbm, ⟨7, _⟩ => ⟨S1x4x4x1x1, .f32⟩
  | .hbm, ⟨8, _⟩ => ⟨S4x8192x4x4x64, .f32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S4x4x8192x8192x4, .f32⟩
  | .hbm, ⟨20, _⟩ => ⟨S4x4x4x8192x8192, .f32⟩
  | .hbm, ⟨21, _⟩ => ⟨S_, .f32⟩
  | .hbm, ⟨22, _⟩ => ⟨S4x4x4x8192x8192, .f32⟩
  | .hbm, ⟨23, _⟩ => ⟨S4x4x4x8192x8192, .f32⟩
  | .hbm, ⟨24, _⟩ => ⟨S_, .f32⟩
  | .hbm, ⟨25, _⟩ => ⟨S_, .f32⟩
  | .hbm, ⟨26, _⟩ => ⟨S4x4x4x8192x8192, .i1⟩
  | .hbm, ⟨27, _⟩ => ⟨S4x4x4x8192x8192, .f32⟩
  | .hbm, ⟨28, _⟩ => ⟨S4x4x4x8192x8192, .f32⟩
  | .hbm, ⟨29, _⟩ => ⟨S4x4x256x8192x4, .f32⟩
  | .hbm, ⟨30, _⟩ => ⟨S4x4x4x8192x256, .f32⟩
  | .hbm, ⟨31, _⟩ => ⟨S_, .f32⟩
  | .hbm, ⟨32, _⟩ => ⟨S4x4x4x8192x256, .f32⟩
  | .hbm, ⟨33, _⟩ => ⟨S4x4x4x8192x256, .f32⟩
  | .hbm, ⟨34, _⟩ => ⟨S_, .f32⟩
  | .hbm, ⟨35, _⟩ => ⟨S4x4x4x8192, .f32⟩
  | .hbm, ⟨36, _⟩ => ⟨S4x4x4x8192x1, .f32⟩
  | .hbm, ⟨37, _⟩ => ⟨S_, .f32⟩
  | .hbm, ⟨38, _⟩ => ⟨S4x4x4x8192, .f32⟩
  | .hbm, ⟨39, _⟩ => ⟨S4x4x4x8192x1, .f32⟩
  | .hbm, ⟨40, _⟩ => ⟨S4x4x4x8192x1, .f32⟩
  | .hbm, ⟨41, _⟩ => ⟨S4x4x4x8192x1, .f32⟩
  | .hbm, ⟨42, _⟩ => ⟨S4x4x4x8192x1, .f32⟩
  | .hbm, ⟨43, _⟩ => ⟨S4x4x4x8192x8192, .f32⟩
  | .hbm, ⟨44, _⟩ => ⟨S4x4x4x8192x8192, .f32⟩
  | .hbm, ⟨45, _⟩ => ⟨S4x4x4x8192x8192, .f32⟩
  | .hbm, ⟨46, _⟩ => ⟨S4x4x4x8192x256, .f32⟩
  | .hbm, ⟨47, _⟩ => ⟨S4x4x4x8192x256, .f32⟩
  | .hbm, ⟨48, _⟩ => ⟨S4x4x4x8192x256, .f32⟩
  | .hbm, ⟨49, _⟩ => ⟨S_, .f32⟩
  | .hbm, ⟨50, _⟩ => ⟨S4x4x4x8192, .f32⟩
  | .hbm, ⟨51, _⟩ => ⟨S_, .f32⟩
  | .hbm, ⟨52, _⟩ => ⟨S4x4x4x8192, .f32⟩
  | .hbm, ⟨53, _⟩ => ⟨S4x4x4x8192, .f32⟩
  | .hbm, ⟨54, _⟩ => ⟨S4x4x4x8192x1, .f32⟩
  | .hbm, ⟨55, _⟩ => ⟨S4x4x4x8192x1, .f32⟩
  | .hbm, ⟨56, _⟩ => ⟨S4x4x4x8192x1, .f32⟩
  | .hbm, ⟨57, _⟩ => ⟨S4x4x4x8192, .f32⟩
  | .hbm, ⟨58, _⟩ => ⟨S4x4x4x8192, .f32⟩
  | .hbm, ⟨59, _⟩ => ⟨S4x4x64x4x8192, .f32⟩
  | .hbm, ⟨60, _⟩ => ⟨S4x8192x4x4x64, .f32⟩
  | .hbm, ⟨61, _⟩ => ⟨S4x4x64x4x8192, .f32⟩
  | .hbm, ⟨62, _⟩ => ⟨S4x8192x4x4x64, .f32⟩
  | .hbm, ⟨63, _⟩ => ⟨S4x8192x4x4x64, .f32⟩
  | .hbm, ⟨64, _⟩ => ⟨S4x8192x4x4, .f32⟩
  | .hbm, ⟨65, _⟩ => ⟨S4x8192x4x4x1, .f32⟩
  | .hbm, ⟨66, _⟩ => ⟨S4x8192x4x4x64, .f32⟩
  | .hbm, ⟨67, _⟩ => ⟨S4x8192x4x4x64, .f32⟩
  | .hbm, ⟨68, _⟩ => ⟨S32768x1024, .f32⟩
  | .hbm, ⟨69, _⟩ => ⟨S4x256x4x4x64, .f32⟩
  | .hbm, ⟨70, _⟩ => ⟨S4x4x256x256x4, .f32⟩
  | .hbm, ⟨71, _⟩ => ⟨S4x4x4x256x256, .f32⟩
  | .hbm, ⟨72, _⟩ => ⟨S_, .f32⟩
  | .hbm, ⟨73, _⟩ => ⟨S4x4x4x256x256, .f32⟩
  | .hbm, ⟨74, _⟩ => ⟨S4x4x4x256x256, .f32⟩
  | .hbm, ⟨75, _⟩ => ⟨S_, .f32⟩
  | .hbm, ⟨76, _⟩ => ⟨S4x4x4x256, .f32⟩
  | .hbm, ⟨77, _⟩ => ⟨S4x4x4x256x1, .f32⟩
  | .hbm, ⟨78, _⟩ => ⟨S4x4x4x256x1, .f32⟩
  | .hbm, ⟨79, _⟩ => ⟨S4x4x4x256x1, .f32⟩
  | .hbm, ⟨80, _⟩ => ⟨S4x4x4x256x256, .f32⟩
  | .hbm, ⟨81, _⟩ => ⟨S4x4x4x256x256, .f32⟩
  | .hbm, ⟨82, _⟩ => ⟨S4x4x4x256x256, .f32⟩
  | .hbm, ⟨83, _⟩ => ⟨S_, .f32⟩
  | .hbm, ⟨84, _⟩ => ⟨S4x4x4x256, .f32⟩
  | .hbm, ⟨85, _⟩ => ⟨S4x4x4x256x1, .f32⟩
  | .hbm, ⟨86, _⟩ => ⟨S4x4x4x256x1, .f32⟩
  | .hbm, ⟨87, _⟩ => ⟨S4x4x4x256x1, .f32⟩
  | .hbm, ⟨88, _⟩ => ⟨S4x4x4x256, .f32⟩
  | .hbm, ⟨89, _⟩ => ⟨S4x4x4x256, .f32⟩
  | .hbm, ⟨90, _⟩ => ⟨S4x4x64x4x256, .f32⟩
  | .hbm, ⟨91, _⟩ => ⟨S4x256x4x4x64, .f32⟩
  | .hbm, ⟨92, _⟩ => ⟨S4x256x4x4, .f32⟩
  | .hbm, ⟨93, _⟩ => ⟨S4x256x4x4x1, .f32⟩
  | .hbm, ⟨94, _⟩ => ⟨S4x256x4x4x64, .f32⟩
  | .hbm, ⟨95, _⟩ => ⟨S4x256x4x4x64, .f32⟩
  | .hbm, ⟨96, _⟩ => ⟨S1024x1024, .f32⟩
  | .hbm, ⟨97, _⟩ => ⟨S33792x1024, .f32⟩
  | .hbm, ⟨98, _⟩ => ⟨S33792x1024, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S33792x1024 : Shape := ⟨2, ![33792, 1024]⟩
abbrev S5x6x1024 : Shape := ⟨3, ![5, 6, 1024]⟩
abbrev S1024 : Shape := ⟨1, ![1024]⟩
abbrev S1024x4128 : Shape := ⟨2, ![1024, 4128]⟩
abbrev S_ : Shape := ⟨0, ![]⟩
abbrev S1024x96 : Shape := ⟨2, ![1024, 96]⟩
abbrev S1024x4224 : Shape := ⟨2, ![1024, 4224]⟩
abbrev S1x1024 : Shape := ⟨2, ![1, 1024]⟩
abbrev S33792x3072 : Shape := ⟨2, ![33792, 3072]⟩
abbrev S33792x128 : Shape := ⟨2, ![33792, 128]⟩
abbrev S512x1024 : Shape := ⟨2, ![512, 1024]⟩
abbrev S1x6x1024 : Shape := ⟨3, ![1, 6, 1024]⟩
abbrev S512x3072 : Shape := ⟨2, ![512, 3072]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 12
  | .vmem => 12
  | .smem => 0
  | _ => 0

abbrev bufTy : (tb : Table) → Fin (tcTables nBuf tb) → BufTy
  | .hbm, ⟨0, _⟩ => ⟨S33792x1024, .f32⟩
  | .hbm, ⟨1, _⟩ => ⟨S5x6x1024, .f32⟩
  | .hbm, ⟨2, _⟩ => ⟨S1024, .f32⟩
  | .hbm, ⟨3, _⟩ => ⟨S1024x4128, .f32⟩
  | .hbm, ⟨4, _⟩ => ⟨S_, .f32⟩
  | .hbm, ⟨5, _⟩ => ⟨S1024x96, .f32⟩
  | .hbm, ⟨6, _⟩ => ⟨S1024x4224, .f32⟩
  | .hbm, ⟨7, _⟩ => ⟨S1024x4224, .bf16⟩
  | .hbm, ⟨8, _⟩ => ⟨S1x1024, .f32⟩
  | .hbm, ⟨9, _⟩ => ⟨S33792x3072, .f32⟩
  | .hbm, ⟨10, _⟩ => ⟨S33792x1024, .f32⟩
  | .hbm, ⟨11, _⟩ => ⟨S33792x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4224, .bf16⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S33792x1024 : Shape := ⟨2, ![33792, 1024]⟩
abbrev S5x6x1024 : Shape := ⟨3, ![5, 6, 1024]⟩
abbrev S1024 : Shape := ⟨1, ![1024]⟩
abbrev S1024x4128 : Shape := ⟨2, ![1024, 4128]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S5x1x1024 : Shape := ⟨3, ![5, 1, 1024]⟩
abbrev S5x1024 : Shape := ⟨2, ![5, 1024]⟩
abbrev S4x1024 : Shape := ⟨2, ![4, 1024]⟩
abbrev S4x1x1024 : Shape := ⟨3, ![4, 1, 1024]⟩
abbrev S4x8192x1024 : Shape := ⟨3, ![4, 8192, 1024]⟩
abbrev S32768x1024 : Shape := ⟨2, ![32768, 1024]⟩
abbrev S1024x1024 : Shape := ⟨2, ![1024, 1024]⟩
abbrev S33792x4128 : Shape := ⟨2, ![33792, 4128]⟩
abbrev S33792x32 : Shape := ⟨2, ![33792, 32]⟩
abbrev S33792x3072 : Shape := ⟨2, ![33792, 3072]⟩
abbrev S33792x96 : Shape := ⟨2, ![33792, 96]⟩
abbrev S33792x128 : Shape := ⟨2, ![33792, 128]⟩

abbrev nBuf : Space → Nat
  | .hbm => 52
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S5x6x1024, .f32⟩
  | .hbm, ⟨2, _⟩ => ⟨S1024, .f32⟩
  | .hbm, ⟨3, _⟩ => ⟨S1024x4128, .f32⟩
  | .hbm, ⟨4, _⟩ => ⟨S33792x1024, .f32⟩
  | .hbm, ⟨5, _⟩ => ⟨S_, .f32⟩
  | .hbm, ⟨6, _⟩ => ⟨S33792, .f32⟩
  | .hbm, ⟨7, _⟩ => ⟨S33792x1, .f32⟩
  | .hbm, ⟨8, _⟩ => ⟨S_, .f32⟩
  | .hbm, ⟨9, _⟩ => ⟨S33792x1, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S33792x1, .f32⟩
  | .hbm, ⟨15, _⟩ => ⟨S33792x1024, .f32⟩
  | .hbm, ⟨16, _⟩ => ⟨S33792x1024, .f32⟩
  | .hbm, ⟨17, _⟩ => ⟨S1x1024, .f32⟩
  | .hbm, ⟨18, _⟩ => ⟨S33792x1024, .f32⟩
  | .hbm, ⟨19, _⟩ => ⟨S33792x1024, .f32⟩
  | .hbm, ⟨20, _⟩ => ⟨S5x1x1024, .f32⟩
  | .hbm, ⟨21, _⟩ => ⟨S5x1024, .f32⟩
  | .hbm, ⟨22, _⟩ => ⟨S4x1024, .f32⟩
  | .hbm, ⟨23, _⟩ => ⟨S4x1x1024, .f32⟩
  | .hbm, ⟨24, _⟩ => ⟨S4x8192x1024, .f32⟩
  | .hbm, ⟨25, _⟩ => ⟨S32768x1024, .f32⟩
  | .hbm, ⟨26, _⟩ => ⟨S1x1024, .f32⟩
  | .hbm, ⟨27, _⟩ => ⟨S1024, .f32⟩
  | .hbm, ⟨28, _⟩ => ⟨S1024x1024, .f32⟩
  | .hbm, ⟨29, _⟩ => ⟨S33792x1024, .f32⟩
  | .hbm, ⟨30, _⟩ => ⟨S_, .f32⟩
  | .hbm, ⟨31, _⟩ => ⟨S33792x1024, .f32⟩
  | .hbm, ⟨32, _⟩ => ⟨S33792x1024, .f32⟩
  | .hbm, ⟨33, _⟩ => ⟨S33792x1024, .f32⟩
  | .hbm, ⟨34, _⟩ => ⟨S5x1x1024, .f32⟩
  | .hbm, ⟨35, _⟩ => ⟨S5x1024, .f32⟩
  | .hbm, ⟨36, _⟩ => ⟨S4x1024, .f32⟩
  | .hbm, ⟨37, _⟩ => ⟨S4x1x1024, .f32⟩
  | .hbm, ⟨38, _⟩ => ⟨S4x8192x1024, .f32⟩
  | .hbm, ⟨39, _⟩ => ⟨S32768x1024, .f32⟩
  | .hbm, ⟨40, _⟩ => ⟨S1x1024, .f32⟩
  | .hbm, ⟨41, _⟩ => ⟨S1024, .f32⟩
  | .hbm, ⟨42, _⟩ => ⟨S1024x1024, .f32⟩
  | .hbm, ⟨43, _⟩ => ⟨S33792x1024, .f32⟩
  | .hbm, ⟨44, _⟩ => ⟨S33792x1024, .f32⟩
  | .hbm, ⟨45, _⟩ => ⟨S33792x4128, .f32⟩
  | .hbm, ⟨46, _⟩ => ⟨S33792x32, .f32⟩
  | .hbm, ⟨47, _⟩ => ⟨S33792x3072, .f32⟩
  | .hbm, ⟨48, _⟩ => ⟨S33792x1024, .f32⟩
  | .hbm, ⟨49, _⟩ => ⟨S_, .f32⟩
  | .hbm, ⟨50, _⟩ => ⟨S33792x96, .f32⟩
  | .hbm, ⟨51, _⟩ => ⟨S33792x128, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel3.lean ====
abbrev S8650752x128 : Shape := ⟨2, ![8650752, 128]⟩
abbrev S163 : Shape := ⟨1, ![163]⟩
abbrev S1 : Shape := ⟨1, ![1]⟩
abbrev S2x32x1024x1024 : Shape := ⟨4, ![2, 32, 1024, 1024]⟩
abbrev S2x32x512x1024 : Shape := ⟨4, ![2, 32, 512, 1024]⟩
abbrev S_ : Shape := ⟨0, ![]⟩
abbrev S163x1 : Shape := ⟨2, ![163, 1]⟩
abbrev S667648x128 : Shape := ⟨2, ![667648, 128]⟩
abbrev S4096x128 : Shape := ⟨2, ![4096, 128]⟩
abbrev S1x1x1024x1024 : Shape := ⟨4, ![1, 1, 1024, 1024]⟩
abbrev S1x1x512x1024 : Shape := ⟨4, ![1, 1, 512, 1024]⟩
abbrev S1024x1024 : Shape := ⟨2, ![1024, 1024]⟩
abbrev S512x1024 : Shape := ⟨2, ![512, 1024]⟩
abbrev S512x128 : Shape := ⟨2, ![512, 128]⟩
abbrev S512x512 : Shape := ⟨2, ![512, 512]⟩

abbrev nBuf : Space → Nat
  | .hbm => 14
  | .vmem => 10
  | .smem => 3
  | _ => 0

abbrev bufTy : (tb : Table) → Fin (tcTables nBuf tb) → BufTy
  | .hbm, ⟨0, _⟩ => ⟨S8650752x128, .f32⟩
  | .hbm, ⟨1, _⟩ => ⟨S163, .i32⟩
  | .hbm, ⟨2, _⟩ => ⟨S163, .i32⟩
  | .hbm, ⟨3, _⟩ => ⟨S2x32x1024x1024, .f32⟩
  | .hbm, ⟨4, _⟩ => ⟨S2x32x512x1024, .f32⟩
  | .hbm, ⟨5, _⟩ => ⟨S163, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S163, .i32⟩
  | .hbm, ⟨10, _⟩ => ⟨S163, .i32⟩
  | .hbm, ⟨11, _⟩ => ⟨S163x1, .i32⟩
  | .hbm, ⟨12, _⟩ => ⟨S163x1, .i32⟩
  | .hbm, ⟨13, _⟩ => ⟨S667648x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S4096x128, .f32⟩
  | .local _ .vmem, ⟨7, _⟩ => ⟨S4096x128, .f32⟩
  | .local _ .vmem, ⟨8, _⟩ => ⟨S1024x1024, .bf16⟩
  | .local _ .vmem, ⟨9, _⟩ => ⟨S512x1024, .bf16⟩
  | .local _ .smem, ⟨0, _⟩ => ⟨S163, .i32⟩
  | .local _ .smem, ⟨1, _⟩ => ⟨S163, .i32⟩
  | .local _ .smem, ⟨2, _⟩ => ⟨S1, .i32⟩
  | _, _ => ⟨S8650752x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v7 : Ref sig .tc := ⟨.hbm, 12, rfl⟩
abbrev main_v9 : Ref sig .tc := ⟨.hbm, 13, rfl⟩
abbrev main_v6 : Ref sig .tc := ⟨.smem, 0, rfl⟩
abbrev main_v8 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![163], ![false]⟩

abbrev pre0 : Pipeline.Prefetch sig := ⟨3, ![main_v6.idx, main_v8.idx, main_arg3.idx], fun | 0 => main_v6.names | 1 => main_v8.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (k0_off1_inb : ∀ i : grid0.Coords, ∀ a, (k0_off1 i) a + S1.size a ≤ S163.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S163) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S163.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S163.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8650752x128 : Shape := ⟨2, ![8650752, 128]⟩
abbrev S163 : Shape := ⟨1, ![163]⟩
abbrev S1 : Shape := ⟨1, ![1]⟩
abbrev S2x32x1024x1024 : Shape := ⟨4, ![2, 32, 1024, 1024]⟩
abbrev S2x32x512x1024 : Shape := ⟨4, ![2, 32, 512, 1024]⟩
abbrev S2112x512x1024 : Shape := ⟨3, ![2112, 512, 1024]⟩
abbrev S163x1 : Shape := ⟨2, ![163, 1]⟩
abbrev S163x512x1024 : Shape := ⟨3, ![163, 512, 1024]⟩
abbrev S1x32x1024x1024 : Shape := ⟨4, ![1, 32, 1024, 1024]⟩
abbrev S32x1024x1024 : Shape := ⟨3, ![32, 1024, 1024]⟩
abbrev S163x1024x1024 : Shape := ⟨3, ![163, 1024, 1024]⟩
abbrev S163x512x512 : Shape := ⟨3, ![163, 512, 512]⟩
abbrev S_ : Shape := ⟨0, ![]⟩
abbrev S1x32x512x1024 : Shape := ⟨4, ![1, 32, 512, 1024]⟩
abbrev S32x512x1024 : Shape := ⟨3, ![32, 512, 1024]⟩
abbrev S163x1x1 : Shape := ⟨3, ![163, 1, 1]⟩
abbrev S667648x128 : Shape := ⟨2, ![667648, 128]⟩

abbrev nBuf : Space → Nat
  | .hbm => 42
  | .vmem => 0
  | .smem => 0
  | _ => 0

abbrev bufTy : (tb : Table) → Fin (tcTables nBuf tb) → BufTy
  | .hbm, ⟨0, _⟩ => ⟨S8650752x128, .f32⟩
  | .hbm, ⟨1, _⟩ => ⟨S163, .i32⟩
  | .hbm, ⟨2, _⟩ => ⟨S163, .i32⟩
  | .hbm, ⟨3, _⟩ => ⟨S1, .i32⟩
  | .hbm, ⟨4, _⟩ => ⟨S2x32x1024x1024, .f32⟩
  | .hbm, ⟨5, _⟩ => ⟨S2x32x512x1024, .f32⟩
  | .hbm, ⟨6, _⟩ => ⟨S2112x512x1024, .f32⟩
  | .hbm, ⟨7, _⟩ => ⟨S163x1, .i32⟩
  | .hbm, ⟨8, _⟩ => ⟨S163x512x1024, .f32⟩
  | .hbm, ⟨9, _⟩ => ⟨S1x32x1024x1024, .f32⟩
  | .hbm, ⟨10, _⟩ => ⟨S32x1024x1024, .f32⟩
  | .hbm, ⟨11, _⟩ => ⟨S163x1, .i32⟩
  | .hbm, ⟨12, _⟩ => ⟨S163x1024x1024, .f32⟩
  | .hbm, ⟨13, _⟩ => ⟨S163x512x1024, .f32⟩
  | .hbm, ⟨14, _⟩ => ⟨S163x512x512, .f32⟩
  | .hbm, ⟨15, _⟩ => ⟨S163x512x512, .f32⟩
  | .hbm, ⟨16, _⟩ => ⟨S163x512x512, .f32⟩
  | .hbm, ⟨17, _⟩ => ⟨S_, .f32⟩
  | .hbm, ⟨18, _⟩ => ⟨S163x512x512, .f32⟩
  | .hbm, ⟨19, _⟩ => ⟨S163x512x512, .f32⟩
  | .hbm, ⟨20, _⟩ => ⟨S_, .f32⟩
  | .hbm, ⟨21, _⟩ => ⟨S163x512x512, .f32⟩
  | .hbm, ⟨22, _⟩ => ⟨S163x512x512, .f32⟩
  | .hbm, ⟨23, _⟩ => ⟨S163x512x512, .f32⟩
  | .hbm, ⟨24, _⟩ => ⟨S163x512x512, .f32⟩
  | .hbm, ⟨25, _⟩ => ⟨S163x512x512, .f32⟩
  | .hbm, ⟨26, _⟩ => ⟨S1x32x512x1024, .f32⟩
  | .hbm, ⟨27, _⟩ => ⟨S32x512x1024, .f32⟩
  | .hbm, ⟨28, _⟩ => ⟨S163x1, .i32⟩
  | .hbm, ⟨29, _⟩ => ⟨S163x512x1024, .f32⟩
  | .hbm, ⟨30, _⟩ => ⟨S163x512x1024, .f32⟩
  | .hbm, ⟨31, _⟩ => ⟨S163, .i32⟩
  | .hbm, ⟨32, _⟩ => ⟨S_, .i32⟩
  | .hbm, ⟨33, _⟩ => ⟨S163, .i32⟩
  | .hbm, ⟨34, _⟩ => ⟨S163, .i1⟩
  | .hbm, ⟨35, _⟩ => ⟨S163x1x1, .i1⟩
  | .hbm, ⟨36, _⟩ => ⟨S_, .f32⟩
  | .hbm, ⟨37, _⟩ => ⟨S_, .f32⟩
  | .hbm, ⟨38, _⟩ => ⟨S163x512x1024, .i1⟩
  | .hbm, ⟨39, _⟩ => ⟨S163x512x1024, .f32⟩
  | .hbm, ⟨40, _⟩ => ⟨S163x512x1024, .f32⟩
  | .hbm, ⟨41, _⟩ => ⟨S667648x128, .f32⟩
  | _, _ => ⟨S8650752x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call2_v0 : Ref sig .tc := ⟨.hbm, 15, rfl⟩
abbrev main_call2_v1 : Ref sig .tc := ⟨.hbm, 16, rfl⟩
abbrev main_call2_cst : Ref sig .tc := ⟨.hbm, 17, rfl⟩
abbrev main_call2_v2 : Ref sig .tc := ⟨.hbm, 18, rfl⟩
abbrev main_call2_v3 : Ref sig .tc := ⟨.hbm, 19, rfl⟩
abbrev main_call2_cst_0 : Ref sig .tc := ⟨.hbm, 20, rfl⟩
abbrev main_call2_v4 : Ref sig .tc := ⟨.hbm, 21, rfl⟩
abbrev main_call2_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call3_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_call4_v0 : Ref sig .tc := ⟨.hbm, 37, rfl⟩
abbrev main_call4_v1 : Ref sig .tc := ⟨.hbm, 38, rfl⟩
abbrev main_call4_v2 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩
abbrev S5x6x1024 : Shape := ⟨3, ![5, 6, 1024]⟩
abbrev S1024 : Shape := ⟨1, ![1024]⟩
abbrev S1024x1536 : Shape := ⟨2, ![1024, 1536]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S128x1 : Shape := ⟨2, ![128, 1]⟩
abbrev S_ : Shape := ⟨0, ![]⟩
abbrev S128x128 : Shape := ⟨2, ![128, 128]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S32 : Shape := ⟨1, ![32]⟩
abbrev S1x32 : Shape := ⟨2, ![1, 32]⟩
abbrev S2x32 : Shape := ⟨2, ![2, 32]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S512x128 : Shape := ⟨2, ![512, 128]⟩
abbrev S8704x128 : Shape := ⟨2, ![8704, 128]⟩
abbrev S1x1024 : Shape := ⟨2, ![1, 1024]⟩
abbrev S33792x1024 : Shape := ⟨2, ![33792, 1024]⟩
abbrev S33792x512 : Shape := ⟨2, ![33792, 512]⟩
abbrev S512x1024 : Shape := ⟨2, ![512, 1024]⟩
abbrev S1x6x1024 : Shape := ⟨3, ![1, 6, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 121
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S5x6x1024, .f32⟩
  | .hbm, ⟨3, _⟩ => ⟨S1024, .f32⟩
  | .hbm, ⟨4, _⟩ => ⟨S1024x1536, .f32⟩
  | .hbm, ⟨5, _⟩ => ⟨S64, .f32⟩
  | .hbm, ⟨6, _⟩ => ⟨S64, .f32⟩
  | .hbm, ⟨7, _⟩ => ⟨S1024x1536, .bf16⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S2x128, .f32⟩
  | .hbm, ⟨17, _⟩ => ⟨S128, .i32⟩
  | .hbm, ⟨18, _⟩ => ⟨S128x1, .i32⟩
  | .hbm, ⟨19, _⟩ => ⟨S_, .i32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S_, .i32⟩
  | .hbm, ⟨25, _⟩ => ⟨S128x1, .i32⟩
  | .hbm, ⟨26, _⟩ => ⟨S128x1, .i1⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i1⟩
  | .hbm, ⟨32, _⟩ => ⟨S128x1, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x1, .i32⟩
  | .hbm, ⟨37, _⟩ => ⟨S128, .i32⟩
  | .hbm, ⟨38, _⟩ => ⟨S1x128, .i32⟩
  | .hbm, ⟨39, _⟩ => ⟨S_, .i32⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S1x128, .i32⟩
  | .hbm, ⟨44, _⟩ => ⟨S_, .i32⟩
  | .hbm, ⟨45, _⟩ => ⟨S1x128, .i32⟩
  | .hbm, ⟨46, _⟩ => ⟨S1x128, .i1⟩
  | .hbm, ⟨47, _⟩ => ⟨S1x128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i1⟩
  | .hbm, ⟨52, _⟩ => ⟨S1x128, .i1⟩
  | .hbm, ⟨53, _⟩ => ⟨S_, .i32⟩
  | .hbm, ⟨54, _⟩ => ⟨S1x128, .i32⟩
  | .hbm, ⟨55, _⟩ => ⟨S1x128, .i32⟩
  | .hbm, ⟨56, _⟩ => ⟨S1x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .f32⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S128x128, .bf16⟩
  | .hbm, ⟨65, _⟩ => ⟨S128, .f32⟩
  | .hbm, ⟨66, _⟩ => ⟨S128x64, .f32⟩
  | .hbm, ⟨67, _⟩ => ⟨S8192, .f32⟩
  | .hbm, ⟨68, _⟩ => ⟨S64, .f32⟩
  | .hbm, ⟨69, _⟩ => ⟨S1x64, .f32⟩
  | .hbm, ⟨70, _⟩ => ⟨S128x64, .f32⟩
  | .hbm, ⟨71, _⟩ => ⟨S8192, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S8192x1, .f32⟩
  | .hbm, ⟨81, _⟩ => ⟨S1x16, .f32⟩
  | .hbm, ⟨82, _⟩ => ⟨S8192x16, .f32⟩
  | .hbm, ⟨83, _⟩ => ⟨S8192x16, .f32⟩
  | .hbm, ⟨84, _⟩ => ⟨S8192x16, .f32⟩
  | .hbm, ⟨85, _⟩ => ⟨S8192x1, .f32⟩
  | .hbm, ⟨86, _⟩ => ⟨S1x16, .f32⟩
  | .hbm, ⟨87, _⟩ => ⟨S8192x16, .f32⟩
  | .hbm, ⟨88, _⟩ => ⟨S8192x16, .f32⟩
  | .hbm, ⟨89, _⟩ => ⟨S8192x16, .f32⟩
  | .hbm, ⟨90, _⟩ => ⟨S8192x64, .f32⟩
  | .hbm, ⟨91, _⟩ => ⟨S_, .f32⟩
  | .hbm, ⟨92, _⟩ => ⟨S16, .f32⟩
  | .hbm, ⟨93, _⟩ => ⟨S16, .f32⟩
  | .hbm, ⟨94, _⟩ => ⟨S_, .f32⟩
  | .hbm, ⟨95, _⟩ => ⟨S16, .f32⟩
  | .hbm, ⟨96, _⟩ => ⟨S32, .f32⟩
  | .hbm, ⟨97, _⟩ => ⟨S1x32, .f32⟩
  | .hbm, ⟨98, _⟩ => ⟨S2x32, .f32⟩
  | .hbm, ⟨99, _⟩ => ⟨S64, .f32⟩
  | .hbm, ⟨100, _⟩ => ⟨S8192x64, .f32⟩
  | .hbm, ⟨101, _⟩ => ⟨S1x8192x1x64, .f32⟩
  | .hbm, ⟨102, _⟩ => ⟨S1x8192x2x64, .f32⟩
  | .hbm, ⟨103, _⟩ => ⟨S8192x128, .f32⟩
  | .hbm, ⟨104, _⟩ => ⟨S8192x64, .f32⟩
  | .hbm, ⟨105, _⟩ => ⟨S1x64, .f32⟩
  | .hbm, ⟨106, _⟩ => ⟨S8192x64, .f32⟩
  | .hbm, ⟨107, _⟩ => ⟨S8192x64, .f32⟩
  | .hbm, ⟨108, _⟩ => ⟨S1x8192x1x64, .f32⟩
  | .hbm, ⟨109, _⟩ => ⟨S1x8192x2x64, .f32⟩
  | .hbm, ⟨110, _⟩ => ⟨S8192x128, .f32⟩
  | .hbm, ⟨111, _⟩ => ⟨S_, .f32⟩
  | .hbm, ⟨112, _⟩ => ⟨S512x128, .f32⟩
  | .hbm, ⟨113, _⟩ => ⟨S8704x128, .f32⟩
  | .hbm, ⟨114, _⟩ => ⟨S_, .f32⟩
  | .hbm, ⟨115, _⟩ => ⟨S512x128, .f32⟩
  | .hbm, ⟨116, _⟩ => ⟨S8704x128, .f32⟩
  | .hbm, ⟨117, _⟩ => ⟨S1x1024, .f32⟩
  | .hbm, ⟨118, _⟩ => ⟨S33792x1024, .bf16⟩
  | .hbm, ⟨119, _⟩ => ⟨S33792x512, .bf16⟩
  | .hbm, ⟨120, _⟩ => ⟨S33792x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1536, .bf16⟩
  | .local _ .vmem, ⟨8, _⟩ => ⟨S2x128, .f32⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_1 : Ref sig .tc := ⟨.hbm, 74, rfl⟩
abbrev main_v32 : Ref sig .tc := ⟨.hbm, 75, rfl⟩
abbrev main_v33 : Ref sig .tc := ⟨.hbm, 76, rfl⟩
abbrev main_cst_2 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_3 : Ref sig .tc := ⟨.hbm, 91, rfl⟩
abbrev main_v47 : Ref sig .tc := ⟨.hbm, 92, rfl⟩
abbrev main_v48 : Ref sig .tc := ⟨.hbm, 93, rfl⟩
abbrev main_cst_4 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_5 : Ref sig .tc := ⟨.hbm, 111, rfl⟩
abbrev main_v65 : Ref sig .tc := ⟨.hbm, 112, rfl⟩
abbrev main_v66 : Ref sig .tc := ⟨.hbm, 113, rfl⟩
abbrev main_cst_6 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70_0 : Ref sig .tc := ⟨.hbm, 118, rfl⟩
abbrev main_v70_1 : Ref sig .tc := ⟨.hbm, 119, rfl⟩
abbrev main_v70_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x1024 : Shape := ⟨2, ![32768, 1024]⟩
abbrev S1024x1024 : Shape := ⟨2, ![1024, 1024]⟩
abbrev S5x6x1024 : Shape := ⟨3, ![5, 6, 1024]⟩
abbrev S1024 : Shape := ⟨1, ![1024]⟩
abbrev S1024x1536 : Shape := ⟨2, ![1024, 1536]⟩
abbrev S64 : Shape := ⟨1, ![64]⟩
abbrev S33792x1024 : Shape := ⟨2, ![33792, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S5x1x1024 : Shape := ⟨3, ![5, 1, 1024]⟩
abbrev S5x1024 : Shape := ⟨2, ![5, 1024]⟩
abbrev S4x1024 : Shape := ⟨2, ![4, 1024]⟩
abbrev S4x1x1024 : Shape := ⟨3, ![4, 1, 1024]⟩
abbrev S4x8192x1024 : Shape := ⟨3, ![4, 8192, 1024]⟩
abbrev S33792x1536 : Shape := ⟨2, ![33792, 1536]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S1x8192x2x16 : Shape := ⟨4, ![1, 8192, 2, 16]⟩
abbrev S4x8192x2x16 : Shape := ⟨4, ![4, 8192, 2, 16]⟩
abbrev S32768x1x2x16 : Shape := ⟨4, ![32768, 1, 2, 16]⟩
abbrev S33792x16x64 : Shape := ⟨3, ![33792, 16, 64]⟩
abbrev S33792x16 : Shape := ⟨2, ![33792, 16]⟩
abbrev S33792x16x1 : Shape := ⟨3, ![33792, 16, 1]⟩
abbrev S1x1x64 : Shape := ⟨3, ![1, 1, 64]⟩
abbrev S32768x16x64 : Shape := ⟨3, ![32768, 16, 64]⟩
abbrev S32768x16x2x2x16 : Shape := ⟨5, ![32768, 16, 2, 2, 16]⟩
abbrev S32768x16x2x1x16 : Shape := ⟨5, ![32768, 16, 2, 1, 16]⟩
abbrev S32768x16x2x16 : Shape := ⟨4, ![32768, 16, 2, 16]⟩
abbrev S1024x16x64 : Shape := ⟨3, ![1024, 16, 64]⟩
abbrev S33792x256 : Shape := ⟨2, ![33792, 256]⟩
abbrev S33792x4x64 : Shape := ⟨3, ![33792, 4, 64]⟩
abbrev S33792x4 : Shape := ⟨2, ![33792, 4]⟩
abbrev S33792x4x1 : Shape := ⟨3, ![33792, 4, 1]⟩
abbrev S32768x4x64 : Shape := ⟨3, ![32768, 4, 64]⟩
abbrev S32768x4x2x2x16 : Shape := ⟨5, ![32768, 4, 2, 2, 16]⟩
abbrev S32768x4x2x1x16 : Shape := ⟨5, ![32768, 4, 2, 1, 16]⟩
abbrev S32768x4x2x16 : Shape := ⟨4, ![32768, 4, 2, 16]⟩
abbrev S1024x4x64 : Shape := ⟨3, ![1024, 4, 64]⟩
abbrev S33792x4x1x64 : Shape := ⟨4, ![33792, 4, 1, 64]⟩
abbrev S33792x4x2x64 : Shape := ⟨4, ![33792, 4, 2, 64]⟩
abbrev S33792x512 : Shape := ⟨2, ![33792, 512]⟩

abbrev nBuf : Space → Nat
  | .hbm => 181
  | .vmem => 0
  | .smem => 0
  | _ => 0

abbrev hbmTy0_0 (i : Nat) : BufTy := match i % 128 with
  | 0 => ⟨S32768x1024, .f32⟩
  | 1 => ⟨S1024x1024, .f32⟩
  | 2 => ⟨S5x6x1024, .f32⟩
  | 3 => ⟨S1024, .f32⟩
  | 4 => ⟨S1024x1536, .f32⟩
  | 5 => ⟨S64, .f32⟩
  | 6 => ⟨S64, .f32⟩
  | 7 => ⟨S33792x1024, .f32⟩
  | 8 => ⟨S33792x1024, .f32⟩
  | 9 => ⟨S_, .f32⟩
  | 10 => ⟨S33792, .f32⟩
  | 11 => ⟨S33792x1, .f32⟩
  | 12 => ⟨S_, .f32⟩
  | 13 => ⟨S33792x1, .f32⟩
  | 14 => ⟨S33792x1, .f32⟩
  | 15 => ⟨S_, .f32⟩
  | 16 => ⟨S33792x1, .f32⟩
  | 17 => ⟨S33792x1, .f32⟩
  | 18 => ⟨S33792x1, .f32⟩
  | 19 => ⟨S33792x1024, .f32⟩
  | 20 => ⟨S33792x1024, .f32⟩
  | 21 => ⟨S1x1024, .f32⟩
  | 22 => ⟨S33792x1024, .f32⟩
  | 23 => ⟨S33792x1024, .f32⟩
  | 24 => ⟨S5x1x1024, .f32⟩
  | 25 => ⟨S5x1024, .f32⟩
  | 26 => ⟨S4x1024, .f32⟩
  | 27 => ⟨S4x1x1024, .f32⟩
  | 28 => ⟨S4x8192x1024, .f32⟩
  | 29 => ⟨S32768x1024, .f32⟩
  | 30 => ⟨S1x1024, .f32⟩
  | 31 => ⟨S1024, .f32⟩
  | 32 => ⟨S1024x1024, .f32⟩
  | 33 => ⟨S33792x1024, .f32⟩
  | 34 => ⟨S_, .f32⟩
  | 35 => ⟨S33792x1024, .f32⟩
  | 36 => ⟨S33792x1024, .f32⟩
  | 37 => ⟨S33792x1024, .f32⟩
  | 38 => ⟨S5x1x1024, .f32⟩
  | 39 => ⟨S5x1024, .f32⟩
  | 40 => ⟨S4x1024, .f32⟩
  | 41 => ⟨S4x1x1024, .f32⟩
  | 42 => ⟨S4x8192x1024, .f32⟩
  | 43 => ⟨S32768x1024, .f32⟩
  | 44 => ⟨S1x1024, .f32⟩
  | 45 => ⟨S1024, .f32⟩
  | 46 => ⟨S1024x1024, .f32⟩
  | 47 => ⟨S33792x1024, .f32⟩
  | 48 => ⟨S33792x1024, .f32⟩
  | 49 => ⟨S33792x1536, .f32⟩
  | 50 => ⟨S128, .f32⟩
  | 51 => ⟨S128x64, .f32⟩
  | 52 => ⟨S8192, .f32⟩
  | 53 => ⟨S64, .f32⟩
  | 54 => ⟨S1x64, .f32⟩
  | 55 => ⟨S128x64, .f32⟩
  | 56 => ⟨S8192, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S8192x1, .f32⟩
  | 66 => ⟨S1x16, .f32⟩
  | 67 => ⟨S8192x16, .f32⟩
  | 68 => ⟨S8192x16, .f32⟩
  | 69 => ⟨S8192x16, .f32⟩
  | 70 => ⟨S8192x1, .f32⟩
  | 71 => ⟨S1x16, .f32⟩
  | 72 => ⟨S8192x16, .f32⟩
  | 73 => ⟨S8192x16, .f32⟩
  | 74 => ⟨S8192x16, .f32⟩
  | 75 => ⟨S8192x1x16, .f32⟩
  | 76 => ⟨S8192x1x16, .f32⟩
  | 77 => ⟨S8192x2x16, .f32⟩
  | 78 => ⟨S8192x2x16, .f32⟩
  | 79 => ⟨S1x8192x2x16, .f32⟩
  | 80 => ⟨S4x8192x2x16, .f32⟩
  | 81 => ⟨S32768x1x2x16, .f32⟩
  | 82 => ⟨S8192x2x16, .f32⟩
  | 83 => ⟨S1x8192x2x16, .f32⟩
  | 84 => ⟨S4x8192x2x16, .f32⟩
  | 85 => ⟨S32768x1x2x16, .f32⟩
  | 86 => ⟨S33792x1024, .f32⟩
  | 87 => ⟨S33792x16x64, .f32⟩
  | 88 => ⟨S33792x16x64, .f32⟩
  | 89 => ⟨S_, .f32⟩
  | 90 => ⟨S33792x16, .f32⟩
  | 91 => ⟨S33792x16x1, .f32⟩
  | 92 => ⟨S_, .f32⟩
  | 93 => ⟨S33792x16x1, .f32⟩
  | 94 => ⟨S33792x16x1, .f32⟩
  | 95 => ⟨S_, .f32⟩
  | 96 => ⟨S33792x16x1, .f32⟩
  | 97 => ⟨S33792x16x1, .f32⟩
  | 98 => ⟨S33792x16x1, .f32⟩
  | 99 => ⟨S33792x16x64, .f32⟩
  | 100 => ⟨S33792x16x64, .f32⟩
  | 101 => ⟨S1x1x64, .f32⟩
  | 102 => ⟨S33792x16x64, .f32⟩
  | 103 => ⟨S33792x16x64, .f32⟩
  | 104 => ⟨S32768x16x64, .f32⟩
  | 105 => ⟨S32768x16x2x2x16, .f32⟩
  | 106 => ⟨S32768x16x2x1x16, .f32⟩
  | 107 => ⟨S32768x16x2x16, .f32⟩
  | 108 => ⟨S32768x16x2x1x16, .f32⟩
  | 109 => ⟨S32768x16x2x16, .f32⟩
  | 110 => ⟨S32768x16x2x16, .f32⟩
  | 111 => ⟨S32768x16x2x16, .f32⟩
  | 112 => ⟨S32768x16x2x16, .f32⟩
  | 113 => ⟨S32768x16x2x16, .f32⟩
  | 114 => ⟨S32768x16x2x16, .f32⟩
  | 115 => ⟨S32768x16x2x16, .f32⟩
  | 116 => ⟨S32768x16x2x16, .f32⟩
  | 117 => ⟨S32768x16x2x16, .f32⟩
  | 118 => ⟨S32768x16x2x16, .f32⟩
  | 119 => ⟨S32768x16x2x16, .f32⟩
  | 120 => ⟨S32768x16x2x1x16, .f32⟩
  | 121 => ⟨S32768x16x2x1x16, .f32⟩
  | 122 => ⟨S32768x16x2x2x16, .f32⟩
  | 123 => ⟨S32768x16x64, .f32⟩
  | 124 => ⟨S1024x16x64, .f32⟩
  | 125 => ⟨S33792x16x64, .f32⟩
  | 126 => ⟨S_, .f32⟩
  | 127 => ⟨S33792x16x64, .f32⟩
  | _ => ⟨S32768x1024, .f32⟩

abbrev hbmTy0_1 (i : Nat) : BufTy := match i % 128 with
  | 0 => ⟨S33792x16x64, .f32⟩
  | 1 => ⟨S33792x1024, .f32⟩
  | 2 => ⟨S33792x1024, .bf16⟩
  | 3 => ⟨S33792x256, .f32⟩
  | 4 => ⟨S33792x4x64, .f32⟩
  | 5 => ⟨S33792x4x64, .f32⟩
  | 6 => ⟨S_, .f32⟩
  | 7 => ⟨S33792x4, .f32⟩
  | 8 => ⟨S33792x4x1, .f32⟩
  | 9 => ⟨S_, .f32⟩
  | 10 => ⟨S33792x4x1, .f32⟩
  | 11 => ⟨S33792x4x1, .f32⟩
  | 12 => ⟨S_, .f32⟩
  | 13 => ⟨S33792x4x1, .f32⟩
  | 14 => ⟨S33792x4x1, .f32⟩
  | 15 => ⟨S33792x4x1, .f32⟩
  | 16 => ⟨S33792x4x64, .f32⟩
  | 17 => ⟨S33792x4x64, .f32⟩
  | 18 => ⟨S1x1x64, .f32⟩
  | 19 => ⟨S33792x4x64, .f32⟩
  | 20 => ⟨S33792x4x64, .f32⟩
  | 21 => ⟨S32768x4x64, .f32⟩
  | 22 => ⟨S32768x4x2x2x16, .f32⟩
  | 23 => ⟨S32768x4x2x1x16, .f32⟩
  | 24 => ⟨S32768x4x2x16, .f32⟩
  | 25 => ⟨S32768x4x2x1x16, .f32⟩
  | 26 => ⟨S32768x4x2x16, .f32⟩
  | 27 => ⟨S32768x4x2x16, .f32⟩
  | 28 => ⟨S32768x4x2x16, .f32⟩
  | 29 => ⟨S32768x4x2x16, .f32⟩
  | 30 => ⟨S32768x4x2x16, .f32⟩
  | 31 => ⟨S32768x4x2x16, .f32⟩
  | 32 => ⟨S32768x4x2x16, .f32⟩
  | 33 => ⟨S32768x4x2x16, .f32⟩
  | 34 => ⟨S32768x4x2x16, .f32⟩
  | 35 => ⟨S32768x4x2x16, .f32⟩
  | 36 => ⟨S32768x4x2x16, .f32⟩
  | 37 => ⟨S32768x4x2x1x16, .f32⟩
  | 38 => ⟨S32768x4x2x1x16, .f32⟩
  | 39 => ⟨S32768x4x2x2x16, .f32⟩
  | 40 => ⟨S32768x4x64, .f32⟩
  | 41 => ⟨S1024x4x64, .f32⟩
  | 42 => ⟨S33792x4x64, .f32⟩
  | 43 => ⟨S33792x4x1x64, .f32⟩
  | 44 => ⟨S33792x4x2x64, .f32⟩
  | 45 => ⟨S33792x512, .f32⟩
  | 46 => ⟨S33792x512, .bf16⟩
  | 47 => ⟨S33792x256, .f32⟩
  | 48 => ⟨S33792x4x64, .f32⟩
  | 49 => ⟨S33792x4x1x64, .f32⟩
  | 50 => ⟨S33792x4x2x64, .f32⟩
  | 51 => ⟨S33792x512, .f32⟩
  | 52 => ⟨S33792x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_5 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_8 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_cst_9 : Ref sig .tc := ⟨.hbm, 134, rfl⟩
abbrev main_v117 : Ref sig .tc := ⟨.hbm, 135, rfl⟩
abbrev main_v118 : Ref sig .tc := ⟨.hbm, 136, rfl⟩
abbrev main_cst_10 : Ref sig .tc := ⟨.hbm, 137, rfl⟩
abbrev main_v119 : Ref sig .tc := ⟨.hbm, 138, rfl⟩
abbrev main_v120 : Ref sig .tc := ⟨.hbm, 139, rfl⟩
abbrev main_cst_11 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 36
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S1x1024x6144, .f32⟩
  | .hbm, ⟨26, _⟩ => ⟨S1024x6144, .f32⟩
  | .hbm, ⟨27, _⟩ => ⟨S8x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S8x6144, .f32⟩
  | .hbm, ⟨32, _⟩ => ⟨S8x6144, .f32⟩
  | .hbm, ⟨33, _⟩ => ⟨S1x8x6144, .f32⟩
  | .hbm, ⟨34, _⟩ => ⟨S1x8x6144, .f32⟩
  | .hbm, ⟨35, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel6.lean ====
abbrev S33792x3072 : Shape := ⟨2, ![33792, 3072]⟩
abbrev S33792x128 : Shape := ⟨2, ![33792, 128]⟩
abbrev S5x3072 : Shape := ⟨2, ![5, 3072]⟩
abbrev S2x8 : Shape := ⟨2, ![2, 8]⟩
abbrev S_ : Shape := ⟨0, ![]⟩
abbrev S3x3072 : Shape := ⟨2, ![3, 3072]⟩
abbrev S8x3072 : Shape := ⟨2, ![8, 3072]⟩
abbrev S16 : Shape := ⟨1, ![16]⟩
abbrev S112 : Shape := ⟨1, ![112]⟩
abbrev S128 : Shape := ⟨1, ![128]⟩
abbrev S1x128 : Shape := ⟨2, ![1, 128]⟩
abbrev S2x128 : Shape := ⟨2, ![2, 128]⟩
abbrev S33792x1024 : Shape := ⟨2, ![33792, 1024]⟩
abbrev S256x3072 : Shape := ⟨2, ![256, 3072]⟩
abbrev S256x128 : Shape := ⟨2, ![256, 128]⟩
abbrev S256x1024 : Shape := ⟨2, ![256, 1024]⟩
abbrev S272x3072 : Shape := ⟨2, ![272, 3072]⟩
abbrev S256 : Shape := ⟨1, ![256]⟩
abbrev S256x1 : Shape := ⟨2, ![256, 1]⟩
abbrev S256x256 : Shape := ⟨2, ![256, 256]⟩

abbrev nBuf : Space → Nat
  | .hbm => 23
  | .vmem => 19
  | .smem => 0
  | _ => 0

abbrev bufTy : (tb : Table) → Fin (tcTables nBuf tb) → BufTy
  | .hbm, ⟨0, _⟩ => ⟨S33792x3072, .f32⟩
  | .hbm, ⟨1, _⟩ => ⟨S33792x128, .f32⟩
  | .hbm, ⟨2, _⟩ => ⟨S5x3072, .f32⟩
  | .hbm, ⟨3, _⟩ => ⟨S2x8, .f32⟩
  | .hbm, ⟨4, _⟩ => ⟨S2x8, .f32⟩
  | .hbm, ⟨5, _⟩ => ⟨S_, .f32⟩
  | .hbm, ⟨6, _⟩ => ⟨S3x3072, .f32⟩
  | .hbm, ⟨7, _⟩ => ⟨S8x3072, .f32⟩
  | .hbm, ⟨8, _⟩ => ⟨S16, .f32⟩
  | .hbm, ⟨9, _⟩ => ⟨S_, .f32⟩
  | .hbm, ⟨10, _⟩ => ⟨S112, .f32⟩
  | .hbm, ⟨11, _⟩ => ⟨S128, .f32⟩
  | .hbm, ⟨12, _⟩ => ⟨S16, .f32⟩
  | .hbm, ⟨13, _⟩ => ⟨S_, .f32⟩
  | .hbm, ⟨14, _⟩ => ⟨S112, .f32⟩
  | .hbm, ⟨15, _⟩ => ⟨S128, .f32⟩
  | .hbm, ⟨16, _⟩ => ⟨S1x128, .f32⟩
  | .hbm, ⟨17, _⟩ => ⟨S1x128, .f32⟩
  | .hbm, ⟨18, _⟩ => ⟨S2x128, .f32⟩
  | .hbm, ⟨19, _⟩ => ⟨S33792x1024, .bf16⟩
  | .hbm, ⟨20, _⟩ => ⟨S33792x1024, .bf16⟩
  | .hbm, ⟨21, _⟩ => ⟨S33792x1024, .bf16⟩
  | .hbm, ⟨22, _⟩ => ⟨S33792x128, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S8x3072, .f32⟩
  | .local _ .vmem, ⟨7, _⟩ => ⟨S256x128, .f32⟩
  | .local _ .vmem, ⟨8, _⟩ => ⟨S256x128, .f32⟩
  | .local _ .vmem, ⟨9, _⟩ => ⟨S2x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x128, .f32⟩
  | .local _ .vmem, ⟨17, _⟩ => ⟨S256x128, .f32⟩
  | .local _ .vmem, ⟨18, _⟩ => ⟨S272x3072, .f32⟩
  | _, _ => ⟨S33792x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4223_i32 : BitVec 32 := 4223#32
  let v2 : BitVec 32 := Scalar.minsi v1 c4223_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S33792x3072 : Shape := ⟨2, ![33792, 3072]⟩
abbrev S33792x128 : Shape := ⟨2, ![33792, 128]⟩
abbrev S5x3072 : Shape := ⟨2, ![5, 3072]⟩
abbrev S2x8 : Shape := ⟨2, ![2, 8]⟩
abbrev S32768x3072 : Shape := ⟨2, ![32768, 3072]⟩
abbrev S_ : Shape := ⟨0, ![]⟩
abbrev S4x2x3072 : Shape := ⟨3, ![4, 2, 3072]⟩
abbrev S4x8192x3072 : Shape := ⟨3, ![4, 8192, 3072]⟩
abbrev S4x8194x3072 : Shape := ⟨3, ![4, 8194, 3072]⟩
abbrev S4x8196x3072 : Shape := ⟨3, ![4, 8196, 3072]⟩
abbrev S1x3072 : Shape := ⟨2, ![1, 3072]⟩
abbrev S1x1x3072 : Shape := ⟨3, ![1, 1, 3072]⟩
abbrev S1024x3072 : Shape := ⟨2, ![1024, 3072]⟩
abbrev S4x256x3072 : Shape := ⟨3, ![4, 256, 3072]⟩
abbrev S4x258x3072 : Shape := ⟨3, ![4, 258, 3072]⟩
abbrev S4x260x3072 : Shape := ⟨3, ![4, 260, 3072]⟩
abbrev S33792x1024 : Shape := ⟨2, ![33792, 1024]⟩
abbrev S33792x8x128 : Shape := ⟨3, ![33792, 8, 128]⟩
abbrev S33792x8 : Shape := ⟨2, ![33792, 8]⟩
abbrev S33792x8x1 : Shape := ⟨3, ![33792, 8, 1]⟩

abbrev nBuf : Space → Nat
  | .hbm => 120
  | .vmem => 0
  | .smem => 0
  | _ => 0

abbrev bufTy : (tb : Table) → Fin (tcTables nBuf tb) → BufTy
  | .hbm, ⟨0, _⟩ => ⟨S33792x3072, .f32⟩
  | .hbm, ⟨1, _⟩ => ⟨S33792x128, .f32⟩
  | .hbm, ⟨2, _⟩ => ⟨S5x3072, .f32⟩
  | .hbm, ⟨3, _⟩ => ⟨S2x8, .f32⟩
  | .hbm, ⟨4, _⟩ => ⟨S2x8, .f32⟩
  | .hbm, ⟨5, _⟩ => ⟨S32768x3072, .f32⟩
  | .hbm, ⟨6, _⟩ => ⟨S_, .f32⟩
  | .hbm, ⟨7, _⟩ => ⟨S4x2x3072, .f32⟩
  | .hbm, ⟨8, _⟩ => ⟨S4x8192x3072, .f32⟩
  | .hbm, ⟨9, _⟩ => ⟨S4x8194x3072, .f32⟩
  | .hbm, ⟨10, _⟩ => ⟨S4x8196x3072, .f32⟩
  | .hbm, ⟨11, _⟩ => ⟨S1x3072, .f32⟩
  | .hbm, ⟨12, _⟩ => ⟨S4x8192x3072, .f32⟩
  | .hbm, ⟨13, _⟩ => ⟨S1x1x3072, .f32⟩
  | .hbm, ⟨14, _⟩ => ⟨S4x8192x3072, .f32⟩
  | .hbm, ⟨15, _⟩ => ⟨S4x8192x3072, .f32⟩
  | .hbm, ⟨16, _⟩ => ⟨S1x3072, .f32⟩
  | .hbm, ⟨17, _⟩ => ⟨S4x8192x3072, .f32⟩
  | .hbm, ⟨18, _⟩ => ⟨S1x1x3072, .f32⟩
  | .hbm, ⟨19, _⟩ => ⟨S4x8192x3072, .f32⟩
  | .hbm, ⟨20, _⟩ => ⟨S4x8192x3072, .f32⟩
  | .hbm, ⟨21, _⟩ => ⟨S4x8192x3072, .f32⟩
  | .hbm, ⟨22, _⟩ => ⟨S1x3072, .f32⟩
  | .hbm, ⟨23, _⟩ => ⟨S4x8192x3072, .f32⟩
  | .hbm, ⟨24, _⟩ => ⟨S1x1x3072, .f32⟩
  | .hbm, ⟨25, _⟩ => ⟨S4x8192x3072, .f32⟩
  | .hbm, ⟨26, _⟩ => ⟨S4x8192x3072, .f32⟩
  | .hbm, ⟨27, _⟩ => ⟨S4x8192x3072, .f32⟩
  | .hbm, ⟨28, _⟩ => ⟨S1x3072, .f32⟩
  | .hbm, ⟨29, _⟩ => ⟨S4x8192x3072, .f32⟩
  | .hbm, ⟨30, _⟩ => ⟨S1x1x3072, .f32⟩
  | .hbm, ⟨31, _⟩ => ⟨S4x8192x3072, .f32⟩
  | .hbm, ⟨32, _⟩ => ⟨S4x8192x3072, .f32⟩
  | .hbm, ⟨33, _⟩ => ⟨S4x8192x3072, .f32⟩
  | .hbm, ⟨34, _⟩ => ⟨S1x3072, .f32⟩
  | .hbm, ⟨35, _⟩ => ⟨S4x8192x3072, .f32⟩
  | .hbm, ⟨36, _⟩ => ⟨S1x1x3072, .f32⟩
  | .hbm, ⟨37, _⟩ => ⟨S4x8192x3072, .f32⟩
  | .hbm, ⟨38, _⟩ => ⟨S4x8192x3072, .f32⟩
  | .hbm, ⟨39, _⟩ => ⟨S4x8192x3072, .f32⟩
  | .hbm, ⟨40, _⟩ => ⟨S32768x3072, .f32⟩
  | .hbm, ⟨41, _⟩ => ⟨S1024x3072, .f32⟩
  | .hbm, ⟨42, _⟩ => ⟨S_, .f32⟩
  | .hbm, ⟨43, _⟩ => ⟨S4x2x3072, .f32⟩
  | .hbm, ⟨44, _⟩ => ⟨S4x256x3072, .f32⟩
  | .hbm, ⟨45, _⟩ => ⟨S4x258x3072, .f32⟩
  | .hbm, ⟨46, _⟩ => ⟨S4x260x3072, .f32⟩
  | .hbm, ⟨47, _⟩ => ⟨S1x3072, .f32⟩
  | .hbm, ⟨48, _⟩ => ⟨S4x256x3072, .f32⟩
  | .hbm, ⟨49, _⟩ => ⟨S1x1x3072, .f32⟩
  | .hbm, ⟨50, _⟩ => ⟨S4x256x3072, .f32⟩
  | .hbm, ⟨51, _⟩ => ⟨S4x256x3072, .f32⟩
  | .hbm, ⟨52, _⟩ => ⟨S1x3072, .f32⟩
  | .hbm, ⟨53, _⟩ => ⟨S4x256x3072, .f32⟩
  | .hbm, ⟨54, _⟩ => ⟨S1x1x3072, .f32⟩
  | .hbm, ⟨55, _⟩ => ⟨S4x256x3072, .f32⟩
  | .hbm, ⟨56, _⟩ => ⟨S4x256x3072, .f32⟩
  | .hbm, ⟨57, _⟩ => ⟨S4x256x3072, .f32⟩
  | .hbm, ⟨58, _⟩ => ⟨S1x3072, .f32⟩
  | .hbm, ⟨59, _⟩ => ⟨S4x256x3072, .f32⟩
  | .hbm, ⟨60, _⟩ => ⟨S1x1x3072, .f32⟩
  | .hbm, ⟨61, _⟩ => ⟨S4x256x3072, .f32⟩
  | .hbm, ⟨62, _⟩ => ⟨S4x256x3072, .f32⟩
  | .hbm, ⟨63, _⟩ => ⟨S4x256x3072, .f32⟩
  | .hbm, ⟨64, _⟩ => ⟨S1x3072, .f32⟩
  | .hbm, ⟨65, _⟩ => ⟨S4x256x3072, .f32⟩
  | .hbm, ⟨66, _⟩ => ⟨S1x1x3072, .f32⟩
  | .hbm, ⟨67, _⟩ => ⟨S4x256x3072, .f32⟩
  | .hbm, ⟨68, _⟩ => ⟨S4x256x3072, .f32⟩
  | .hbm, ⟨69, _⟩ => ⟨S4x256x3072, .f32⟩
  | .hbm, ⟨70, _⟩ => ⟨S1x3072, .f32⟩
  | .hbm, ⟨71, _⟩ => ⟨S4x256x3072, .f32⟩
  | .hbm, ⟨72, _⟩ => ⟨S1x1x3072, .f32⟩
  | .hbm, ⟨73, _⟩ => ⟨S4x256x3072, .f32⟩
  | .hbm, ⟨74, _⟩ => ⟨S4x256x3072, .f32⟩
  | .hbm, ⟨75, _⟩ => ⟨S4x256x3072, .f32⟩
  | .hbm, ⟨76, _⟩ => ⟨S1024x3072, .f32⟩
  | .hbm, ⟨77, _⟩ => ⟨S33792x3072, .f32⟩
  | .hbm, ⟨78, _⟩ => ⟨S33792x3072, .f32⟩
  | .hbm, ⟨79, _⟩ => ⟨S33792x3072, .f32⟩
  | .hbm, ⟨80, _⟩ => ⟨S_, .f32⟩
  | .hbm, ⟨81, _⟩ => ⟨S33792x3072, .f32⟩
  | .hbm, ⟨82, _⟩ => ⟨S33792x3072, .f32⟩
  | .hbm, ⟨83, _⟩ => ⟨S_, .f32⟩
  | .hbm, ⟨84, _⟩ => ⟨S33792x3072, .f32⟩
  | .hbm, ⟨85, _⟩ => ⟨S33792x3072, .f32⟩
  | .hbm, ⟨86, _⟩ => ⟨S33792x3072, .f32⟩
  | .hbm, ⟨87, _⟩ => ⟨S33792x1024, .f32⟩
  | .hbm, ⟨88, _⟩ => ⟨S33792x8x128, .f32⟩
  | .hbm, ⟨89, _⟩ => ⟨S33792x8x128, .f32⟩
  | .hbm, ⟨90, _⟩ => ⟨S_, .f32⟩
  | .hbm, ⟨91, _⟩ => ⟨S33792x8, .f32⟩
  | .hbm, ⟨92, _⟩ => ⟨S33792x8x1, .f32⟩
  | .hbm, ⟨93, _⟩ => ⟨S_, .f32⟩
  | .hbm, ⟨94, _⟩ => ⟨S33792x8x1, .f32⟩
  | .hbm, ⟨95, _⟩ => ⟨S33792x8x1, .f32⟩
  | .hbm, ⟨96, _⟩ => ⟨S33792x8x1, .f32⟩
  | .hbm, ⟨97, _⟩ => ⟨S33792x8x128, .f32⟩
  | .hbm, ⟨98, _⟩ => ⟨S33792x8x128, .f32⟩
  | .hbm, ⟨99, _⟩ => ⟨S_, .f32⟩
  | .hbm, ⟨100, _⟩ => ⟨S33792x8x128, .f32⟩
  | .hbm, ⟨101, _⟩ => ⟨S33792x8x128, .f32⟩
  | .hbm, ⟨102, _⟩ => ⟨S33792x1024, .f32⟩
  | .hbm, ⟨103, _⟩ => ⟨S33792x8x128, .f32⟩
  | .hbm, ⟨104, _⟩ => ⟨S33792x8x128, .f32⟩
  | .hbm, ⟨105, _⟩ => ⟨S_, .f32⟩
  | .hbm, ⟨106, _⟩ => ⟨S33792x8, .f32⟩
  | .hbm, ⟨107, _⟩ => ⟨S33792x8x1, .f32⟩
  | .hbm, ⟨108, _⟩ => ⟨S_, .f32⟩
  | .hbm, ⟨109, _⟩ => ⟨S33792x8x1, .f32⟩
  | .hbm, ⟨110, _⟩ => ⟨S33792x8x1, .f32⟩
  | .hbm, ⟨111, _⟩ => ⟨S33792x8x1, .f32⟩
  | .hbm, ⟨112, _⟩ => ⟨S33792x8x128, .f32⟩
  | .hbm, ⟨113, _⟩ => ⟨S33792x8x128, .f32⟩
  | .hbm, ⟨114, _⟩ => ⟨S33792x1024, .f32⟩
  | .hbm, ⟨115, _⟩ => ⟨S33792x1024, .bf16⟩
  | .hbm, ⟨116, _⟩ => ⟨S33792x1024, .f32⟩
  | .hbm, ⟨117, _⟩ => ⟨S33792x1024, .bf16⟩
  | .hbm, ⟨118, _⟩ => ⟨S33792x1024, .f32⟩
  | .hbm, ⟨119, _⟩ => ⟨S33792x1024, .bf16⟩
  | _, _ => ⟨S33792x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_1 : Ref sig .tc := ⟨.hbm, 90, rfl⟩
abbrev main_v75 : Ref sig .tc := ⟨.hbm, 91, rfl⟩
abbrev main_v76 : Ref sig .tc := ⟨.hbm, 92, rfl⟩
abbrev main_cst_2 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_3 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_4 : Ref sig .tc := ⟨.hbm, 105, rfl⟩
abbrev main_v87 : Ref sig .tc := ⟨.hbm, 106, rfl⟩
abbrev main_v88 : Ref sig .tc := ⟨.hbm, 107, rfl⟩
abbrev main_cst_5 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩

abbrev nD : Nat := 1
abbrev τ : Topo := Topo.v7x

variable {F : FTy → Type} [FloatOps F]
-- ==== Proof.Spec.lean ====
module
public import Idealize.ShloMosaic.PureOps.Ideal
public import Mathlib.Data.EReal.Operations

@[expose] public section

/-! The softmax with a sink over two groups of keys, on the extended reals, and the facts about its
sums and maxima by which two spellings of it (over a window of keys, over all the keys with most of
them masked) are one value. -/

noncomputable section

namespace Cert.Att

open Idealize.ShloMosaic
open scoped BigOperators

/-- The greatest of the scores of both groups and of the sink. -/
def top {ι κ : Type} [Fintype ι] [Fintype κ] (sw : ι → EReal) (sc : κ → EReal) (sk : EReal) : EReal :=
  max (max (Finset.univ.sup sw) (Finset.univ.sup sc)) sk

/-- Attention with a sink: the values weighted by `exp (score - m)` over both groups, divided by the sum
    of the weights and the sink's own weight, `m` the greatest score. -/
def att {ι κ : Type} [Fintype ι] [Fintype κ] (sw vw : ι → EReal) (sc vc : κ → EReal) (sk : EReal) : EReal :=
  Ideal.div
    ((∑ k, Ideal.exp (sw k - top sw sc sk) * vw k) + ∑ k, Ideal.exp (sc k - top sw sc sk) * vc k)
    (((∑ k, Ideal.exp (sw k - top sw sc sk)) + ∑ k, Ideal.exp (sc k - top sw sc sk))
      + Ideal.exp (sk - top sw sc sk))

/-- Two families that are `⊥` off `P` and `P'`, and equal along a map of `P` onto `P'`, have one supremum. -/
theorem sup_eq_of_onto {ι ι' : Type} [Fintype ι] [Fintype ι'] (P : ι → Prop) (P' : ι' → Prop) (f : ι → ι')
    (s : ι → EReal) (s' : ι' → EReal) (hs : ∀ i, ¬P i → s i = ⊥) (hs' : ∀ j, ¬P' j → s' j = ⊥)
    (hP : ∀ i, P i → P' (f i)) (hsurj : ∀ j, P' j → ∃ i, P i ∧ f i = j) (he : ∀ i, P i → s i = s' (f i)) :
    Finset.univ.sup s = Finset.univ.sup s' := by
  refine le_antisymm (Finset.sup_le fun i _ => ?_) (Finset.sup_le fun j _ => ?_)
  · by_cases h : P i
    · rw [he i h]; exact Finset.le_sup (f := s') (Finset.mem_univ _)
    · rw [hs i h]; exact bot_le
  · by_cases h : P' j
    · obtain ⟨i, hi, rfl⟩ := hsurj j h
      rw [← he i hi]; exact Finset.le_sup (f := s) (Finset.mem_univ _)
    · rw [hs' j h]; exact bot_le

/-- Two families that are zero off `P` and `P'`, and equal along a bijection of `P` onto `P'`, have one sum. -/
theorem sum_eq_of_onto {ι ι' : Type} [Fintype ι] [Fintype ι'] (P : ι → Prop) (P' : ι' → Prop) (f : ι → ι')
    (s : ι → EReal) (s' : ι' → EReal) (hs : ∀ i, ¬P i → s i = 0) (hs' : ∀ j, ¬P' j → s' j = 0)
    (hP : ∀ i, P i → P' (f i)) (hinj : ∀ i k, P i → P k → f i = f k → i = k)
    (hsurj : ∀ j, P' j → ∃ i, P i ∧ f i = j) (he : ∀ i, P i → s i = s' (f i)) :
    ∑ i, s i = ∑ j, s' j := by
  classical
  rw [← Finset.sum_subset (Finset.subset_univ (Finset.univ.filter P)) (fun i _ hi => hs i (by simpa using hi)),
    ← Finset.sum_subset (Finset.subset_univ (Finset.univ.filter P')) (fun j _ hj => hs' j (by simpa using hj))]
  refine Finset.sum_bij (fun i _ => f i) (fun i hi => ?_) (fun i hi k hk h => ?_) (fun j hj => ?_) (fun i hi => ?_)
  · simp only [Finset.mem_filter, Finset.mem_univ, true_and] at hi ⊢; exact hP i hi
  · simp only [Finset.mem_filter, Finset.mem_univ, true_and] at hi hk; exact hinj i k hi hk h
  · simp only [Finset.mem_filter, Finset.mem_univ, true_and] at hj
    obtain ⟨i, hi, rfl⟩ := hsurj j hj
    exact ⟨i, by simpa using hi, rfl⟩
  · simp only [Finset.mem_filter, Finset.mem_univ, true_and] at hi; exact he i hi

/-- A masked key has weight zero, whatever the maximum. -/
theorem exp_bot_sub (x : EReal) : Ideal.exp ((⊥ : EReal) - x) = 0 := by
  rw [sub_eq_add_neg, EReal.bot_add]; rfl

/-- Attention over two spellings of the first group of keys: masked keys (score `⊥`) do not count, so a bijection
    between the keys that are not masked, keeping scores and values, keeps the result. -/
theorem att_eq_of_onto {ι ι' κ : Type} [Fintype ι] [Fintype ι'] [Fintype κ] (P : ι → Prop) (P' : ι' → Prop) (f : ι → ι')
    (s v : ι → EReal) (s' v' : ι' → EReal) (sc vc : κ → EReal) (sk : EReal)
    (hs : ∀ i, ¬P i → s i = ⊥) (hs' : ∀ j, ¬P' j → s' j = ⊥)
    (hP : ∀ i, P i → P' (f i)) (hinj : ∀ i k, P i → P k → f i = f k → i = k)
    (hsurj : ∀ j, P' j → ∃ i, P i ∧ f i = j) (he : ∀ i, P i → s i = s' (f i)) (hv : ∀ i, P i → v i = v' (f i)) :
    att s v sc vc sk = att s' v' sc vc sk := by
  have ht : top s sc sk = top s' sc sk := by
    unfold top; rw [sup_eq_of_onto P P' f s s' hs hs' hP hsurj he]
  unfold att
  rw [ht]
  congr 1
  · congr 1
    refine sum_eq_of_onto P P' f _ _ (fun i h => ?_) (fun j h => ?_) hP hinj hsurj (fun i h => ?_)
    · rw [hs i h, exp_bot_sub, zero_mul]
    · rw [hs' j h, exp_bot_sub, zero_mul]
    · rw [he i h, hv i h]
  · congr 2
    refine sum_eq_of_onto P P' f _ _ (fun i h => ?_) (fun j h => ?_) hP hinj hsurj (fun i h => ?_)
    · rw [hs i h, exp_bot_sub]
    · rw [hs' j h, exp_bot_sub]
    · rw [he i h]

/-- With every key of the first group masked the group does not count, whatever it is spelled over. -/
theorem att_eq_of_none {ι ι' κ : Type} [Fintype ι] [Fintype ι'] [Fintype κ] (s v : ι → EReal) (s' v' : ι' → EReal)
    (sc vc : κ → EReal) (sk : EReal) (hs : ∀ i, s i = ⊥) (hs' : ∀ j, s' j = ⊥) :
    att s v sc vc sk = att s' v' sc vc sk := by
  obtain rfl : s = fun _ => ⊥ := funext hs
  obtain rfl : s' = fun _ => ⊥ := funext hs'
  have ht : top (fun _ : ι => (⊥ : EReal)) sc sk = top (fun _ : ι' => (⊥ : EReal)) sc sk := by
    unfold top; rw [Finset.sup_bot, Finset.sup_bot]
  unfold att
  simp only [ht, exp_bot_sub, zero_mul, Finset.sum_const_zero]

/-- A finite nonnegative factor moves out of a sum of products. -/
theorem sum_mul_scale {n : ℕ} (q k : Fin n → EReal) (c : ℝ) (hc : 0 ≤ c) :
    ∑ e, (q e * (c : EReal)) * k e = (∑ e, k e * q e) * (c : EReal) := by
  have h : ∀ s : Finset (Fin n), ∑ e ∈ s, (q e * (c : EReal)) * k e = (∑ e ∈ s, k e * q e) * (c : EReal) := by
    classical
    intro s
    induction s using Finset.induction_on with
    | empty => simp
    | insert a s ha ih =>
      rw [Finset.sum_insert ha, Finset.sum_insert ha, ih,
        EReal.right_distrib_of_nonneg_of_ne_top (by exact_mod_cast hc) (EReal.coe_ne_top c),
        mul_right_comm, mul_comm (q a) (k a)]
  exact h Finset.univ

end Cert.Att

end
-- ==== Proof.Head.lean ====
module
public import proofs.«01_k».proof.Proof.Gen.KernelIdeal.Frame
public import proofs.«01_k».proof.Proof.Spec
public import Idealize.ShloMosaic.Lib.Pipeline.Value
public import Idealize.ShloMosaic.Lib.Pointwise
public import Idealize.ShloMosaic.Lib.WordCmp

@[expose] public section

noncomputable section

namespace Cert.KernelIdeal.Hd

open Cert.KernelIdeal Cert.KernelIdeal.Gen Idealize.ShloMosaic Idealize.SL.Sem
open Cert.Att

variable {F : FTy → Type} [FloatOps F]

/-- The row numbers of the 512 stacked rows: four query heads of 128 queries each. -/
abbrev rowIds : IVec S512x1 32 := iota Kind.tc S512x1 32 [0] iota_S512x1_d0_w32
/-- Which of the 128 lanes are in the lower half. -/
abbrev low : IVec S1x128 1 := k0_pay4 (iota Kind.tc S1x128 32 [1] iota_S1x128_d1_w32) k0_pay3

/-- The four query heads of one key head stacked along the rows, each zero outside its half of the lanes. -/
abbrev q4 (q0 q1 : Vec F S128x128 .bf16) : FVec F S512x128 .bf16 :=
  k0_pay5 (iota Kind.tc S1x128 32 [1] iota_S1x128_d1_w32) k0_pay3 q0 q1

/-- The scores of the stacked queries over the three blocks of the window, the bias added. -/
abbrev sw (i : grid0.Coords) (q0 q1 k0 k1 k2 : Vec F S128x128 .bf16) : FVec F S512x384 .f32 :=
  k0_pay7 (k0_pay2 i) (iota Kind.tc S1x128 32 [1] iota_S1x128_d1_w32) k0_pay3 q0 q1 k0 k1 k2

/-- The scores over the context keys. -/
abbrev sc (q0 q1 : Vec F S128x128 .bf16) (kx : Vec F S256x128 .bf16) : FVec F S512x256 .f32 :=
  k0_pay9 (q4 q0 q1) (k0_pay8 kx)

/-- The stacked rows' sinks, all but the last head's. -/
abbrev sk2 (s0 s1 s2 : Elt F .f32) : FVec F S512x1 .f32 :=
  k0_pay13 rowIds (k0_pay10 rowIds s0) 128#32 (k0_pay11 rowIds) (k0_pay12 rowIds) 1#32 0#32 s1 s2

/-- What one key head's pass over its four query heads computes, before the lanes are taken apart. -/
def headO (i : grid0.Coords) (q0 q1 k0 k1 k2 : Vec F S128x128 .bf16) (kx : Vec F S256x128 .bf16)
    (v0 v1 v2 : Vec F S128x128 .bf16) (vx : Vec F S256x128 .bf16) (s0 s1 s2 s3 : Elt F .f32) : FVec F S512x128 .f32 :=
  k0_pay20 (k0_pay6 v0 v1 v2)
    (k0_pay17 rowIds (sw i q0 q1 k0 k1 k2) (sc q0 q1 kx) (sk2 s0 s1 s2) 128#32 k0_pay14 s3)
    (k0_pay18 rowIds (sw i q0 q1 k0 k1 k2) (sc q0 q1 kx) (sk2 s0 s1 s2) 128#32 k0_pay14 s3)
    (k0_pay19 rowIds (sw i q0 q1 k0 k1 k2) (sc q0 q1 kx) (sk2 s0 s1 s2) 128#32 k0_pay14 s3)
    vx

/-- The first pair of heads' 128 output columns: the lower lanes from the first head, the upper from the second. -/
def outLo (o : FVec F S512x128 .f32) : FVec F S128x128 .bf16 :=
  truncf .bf16 (select (broadcastTo S128x128 (shapeCast S1x128 low shapeCasts_S1x128_S1x128) broadcasts_S1x128_S128x128)
    (extractStridedSlice S128x128 ![0, 0] o slices_S512x128_o0_0_S128x128)
    (extractStridedSlice S128x128 ![128, 0] o slices_S512x128_o128_0_S128x128)) bitsLt_bf16_f32
/-- The second pair's. -/
def outHi (o : FVec F S512x128 .f32) : FVec F S128x128 .bf16 :=
  truncf .bf16 (select (broadcastTo S128x128 (shapeCast S1x128 low shapeCasts_S1x128_S1x128) broadcasts_S1x128_S128x128)
    (extractStridedSlice S128x128 ![256, 0] o slices_S512x128_o256_0_S128x128)
    (extractStridedSlice S128x128 ![384, 0] o slices_S512x128_o384_0_S128x128)) bitsLt_bf16_f32

/-! ## The words -/

/-- A row's number among the four heads, as the body computes it (a floor division by 128). -/
def rrWord : IVec S512x1 32 :=
  select (andi (cmpi .ne (k0_pay12 rowIds) (broadcast S512x1 1#32)) (cmpi .ne (remsi rowIds (broadcast S512x1 128#32)) (broadcast S512x1 0#32)))
    (subi (divsi rowIds (broadcast S512x1 128#32)) (broadcast S512x1 1#32)) (divsi rowIds (broadcast S512x1 128#32))

theorem rrWord_apply : ∀ r : Fin 512, rrWord (ix2 r 0) = BitVec.ofNat 32 (r.val / 128) := by decide +kernel

theorem sinks_eq (s0 s1 s2 s3 : Elt F .f32) :
    k0_pay15 rowIds (sk2 s0 s1 s2) 128#32 k0_pay14 s3
      = select (cmpi .eq rrWord (broadcast S512x1 3#32)) (broadcast S512x1 s3)
        (select (cmpi .eq rrWord (broadcast S512x1 2#32)) (broadcast S512x1 s2)
          (select (cmpi .eq rrWord (broadcast S512x1 1#32)) (broadcast S512x1 s1)
            (select (cmpi .eq rrWord (broadcast S512x1 0#32)) (broadcast S512x1 s0)
              (broadcast S512x1 (Scalar.ofBits .f32 0x00000000#32))))) := rfl

theorem low_apply : ∀ l : Fin 128, low (ix2 0 l) = BitVec.ofBool (decide (l.val < 64)) := by decide +kernel

/-- The sink of stacked row `rr * 128 + r` is head `rr`'s. -/
theorem sinks_apply (s : Fin 4 → Elt F .f32) (r : Fin 512) (rr : Fin 4) (h : r.val / 128 = rr.val) :
    k0_pay15 rowIds (sk2 (s 0) (s 1) (s 2)) 128#32 k0_pay14 (s 3) (ix2 r 0) = s rr := by
  rw [sinks_eq]
  pointwise
  rw [rrWord_apply, h]
  fin_cases rr <;> rfl

end Cert.KernelIdeal.Hd

end
-- ==== Proof.Reading.lean ====
module
public import proofs.«01_k».proof.Proof.Head
public import Mathlib.Algebra.BigOperators.Fin
public import Mathlib.Tactic.Ring

@[expose] public section

noncomputable section

namespace Cert.KernelIdeal.Hd

open Cert.KernelIdeal Cert.KernelIdeal.Gen Idealize.ShloMosaic Idealize.SL.Sem
open Cert.Att Idealize.ShloMosaic.WordCmp
open scoped BigOperators

/-- Of the two blocks of query columns the one that holds head `rr`. -/
abbrev qsel (q0 q1 : Vec Ideal S128x128 .bf16) (rr : Fin 4) : Vec Ideal S128x128 .bf16 := if rr.val < 2 then q0 else q1

/-- Lane `e` of head `rr`'s half of the lanes. -/
abbrev lane (rr : Fin 4) (e : Fin 64) : Fin 128 := ⟨rr.val % 2 * 64 + e.val, by omega⟩

/-- Stacked row of query `r` of head `rr`. -/
abbrev row (rr : Fin 4) (r : Fin 128) : Fin 512 := ⟨rr.val * 128 + r.val, by omega⟩

/-- Three blocks of 128 rows, one under the other. -/
def cat3 (k0 k1 k2 : Vec Ideal S128x128 .bf16) (kk : Fin 384) (l : Fin 128) : EReal :=
  if h0 : kk.val < 128 then k0 (ix2 ⟨kk.val, h0⟩ l)
  else if h1 : kk.val < 256 then k1 (ix2 ⟨kk.val - 128, by omega⟩ l) else k2 (ix2 ⟨kk.val - 256, by omega⟩ l)

theorem ofBits_zero_bf16 : (Scalar.ofBits .bf16 0x0000#16 : Ideal .bf16) = 0 := Ideal.ofBits_zero_bf16
theorem ofBits_ninf : (Scalar.ofBits .f32 0xFF800000#32 : Ideal .f32) = (⊥ : EReal) := by
  show Ideal.ofBits .f32 0xFF800000#32 = ⊥
  simp [Ideal.ofBits, Ideal.ieee]

/-- The stacked queries: head `rr`'s rows hold its block where the lane is in its half, zero elsewhere. -/
theorem q4_apply (q0 q1 : Vec Ideal S128x128 .bf16) (rr : Fin 4) (r l : Fin 128) :
    q4 q0 q1 (ix2 (row rr r) l) = if (l.val < 64 ↔ rr.val % 2 = 0) then qsel q0 q1 rr (ix2 r l) else (0 : EReal) := by
  unfold q4 k0_pay5
  have hl := low_apply l
  simp only [low] at hl
  match rr with
  | 0 =>
    refine Eq.trans (concatenate_apply_piece (t := S512x128) 0 _ _ _ 0 ?_ S128x128 _ rfl rfl 0 rfl (ix2 r l)
      (by intro b hb; fin_cases b <;> first | rfl | exact absurd rfl hb) ?_) ?_
    · show 0 < 4; omega
    · show 0 + r.val = 0 * 128 + r.val; omega
    pointwise [hl, ofBits_zero_bf16]
    by_cases h : l.val < 64 <;> simp [h, Scalar.select, qsel]
  | 1 =>
    refine Eq.trans (concatenate_apply_piece (t := S512x128) 0 _ _ _ 1 ?_ S128x128 _ rfl rfl 128 rfl (ix2 r l)
      (by intro b hb; fin_cases b <;> first | rfl | exact absurd rfl hb) ?_) ?_
    · show 1 < 4; omega
    · show 128 + r.val = 1 * 128 + r.val; omega
    pointwise [hl, ofBits_zero_bf16]
    by_cases h : l.val < 64 <;> simp [h, Scalar.select, qsel]
  | 2 =>
    refine Eq.trans (concatenate_apply_piece (t := S512x128) 0 _ _ _ 2 ?_ S128x128 _ rfl rfl 256 rfl (ix2 r l)
      (by intro b hb; fin_cases b <;> first | rfl | exact absurd rfl hb) ?_) ?_
    · show 2 < 4; omega
    · show 256 + r.val = 2 * 128 + r.val; omega
    pointwise [hl, ofBits_zero_bf16]
    by_cases h : l.val < 64 <;> simp [h, Scalar.select, qsel]
  | 3 =>
    refine Eq.trans (concatenate_apply_piece (t := S512x128) 0 _ _ _ 3 ?_ S128x128 _ rfl rfl 384 rfl (ix2 r l)
      (by intro b hb; fin_cases b <;> first | rfl | exact absurd rfl hb) ?_) ?_
    · show 3 < 4; omega
    · show 384 + r.val = 3 * 128 + r.val; omega
    pointwise [hl, ofBits_zero_bf16]
    by_cases h : l.val < 64 <;> simp [h, Scalar.select, qsel]

/-- The three blocks of the window, concatenated, read at an index. -/
theorem pay6_apply (k0 k1 k2 : Vec Ideal S128x128 .bf16) (kk : Fin 384) (l : Fin 128) :
    k0_pay6 k0 k1 k2 (ix2 kk l) = cat3 k0 k1 k2 kk l := by
  unfold k0_pay6 cat3
  by_cases h0 : kk.val < 128
  · rw [dif_pos h0]
    refine Eq.trans (concatenate_apply_piece (t := S384x128) 0 _ _ _ 0 ?_ S128x128 _ rfl rfl 0 rfl (ix2 ⟨kk.val, h0⟩ l)
      (by intro b hb; fin_cases b <;> first | rfl | exact absurd rfl hb) ?_) ?_
    · show 0 < 3; omega
    · show 0 + kk.val = kk.val; omega
    pointwise
  · rw [dif_neg h0]
    by_cases h1 : kk.val < 256
    · rw [dif_pos h1]
      refine Eq.trans (concatenate_apply_piece (t := S384x128) 0 _ _ _ 1 ?_ S128x128 _ rfl rfl 128 rfl (ix2 ⟨kk.val - 128, by omega⟩ l)
        (by intro b hb; fin_cases b <;> first | rfl | exact absurd rfl hb) ?_) ?_
      · show 1 < 3; omega
      · show 128 + (kk.val - 128) = kk.val; omega
      pointwise
    · rw [dif_neg h1]
      refine Eq.trans (concatenate_apply_piece (t := S384x128) 0 _ _ _ 2 ?_ S128x128 _ rfl rfl 256 rfl (ix2 ⟨kk.val - 256, by omega⟩ l)
        (by intro b hb; fin_cases b <;> first | rfl | exact absurd rfl hb) ?_) ?_
      · show 2 < 3; omega
      · show 256 + (kk.val - 256) = kk.val; omega
      pointwise

/-- A sum over the 128 lanes of a factor that is zero outside head `rr`'s half is the sum over that half. -/
theorem sum_lanes (rr : Fin 4) (f g : Fin 128 → EReal) :
    (∑ l : Fin 128, (if (l.val < 64 ↔ rr.val % 2 = 0) then f l else 0) * g l)
      = ∑ e : Fin 64, f (lane rr e) * g (lane rr e) := by
  rw [show (∑ l : Fin 128, (if (l.val < 64 ↔ rr.val % 2 = 0) then f l else 0) * g l)
      = ∑ l : Fin (64 + 64), (if (l.val < 64 ↔ rr.val % 2 = 0) then f l else 0) * g l from rfl, Fin.sum_univ_add]
  have hr : rr.val % 2 = 0 ∨ rr.val % 2 = 1 := by omega
  rcases hr with h | h
  · rw [Finset.sum_eq_zero (s := Finset.univ) (f := fun i : Fin 64 => (if ((Fin.natAdd 64 i).val < 64 ↔ rr.val % 2 = 0) then f (Fin.natAdd 64 i) else 0) * g (Fin.natAdd 64 i)) ?_, add_zero]
    · refine Finset.sum_congr rfl fun e _ => ?_
      have : (Fin.castAdd 64 e : Fin 128) = lane rr e := Fin.ext (by simp [lane, h])
      rw [if_pos (by simp [h]), this]
    · intro e _
      rw [if_neg (by simp [h]), zero_mul]
  · rw [Finset.sum_eq_zero (s := Finset.univ) (f := fun i : Fin 64 => (if ((Fin.castAdd 64 i).val < 64 ↔ rr.val % 2 = 0) then f (Fin.castAdd 64 i) else 0) * g (Fin.castAdd 64 i)) ?_, zero_add]
    · refine Finset.sum_congr rfl fun e _ => ?_
      have : (Fin.natAdd 64 e : Fin 128) = lane rr e := Fin.ext (by simp [lane, h]; omega)
      rw [if_pos (by simp [h]), this]
    · intro e _
      rw [if_neg (by simp [h]), zero_mul]

/-- A query row against a key row, over the head's 64 lanes. -/
def dot64 (q0 q1 : Vec Ideal S128x128 .bf16) (rr : Fin 4) (r : Fin 128) (g : Fin 128 → EReal) : EReal :=
  ∑ e : Fin 64, (qsel q0 q1 rr (ix2 r (lane rr e)) : EReal) * g (lane rr e)

/-- Where a window key counts: in the band, inside the sequence, and only for a latent block. -/
def valid (i : grid0.Coords) (r : Fin 128) (kk : Fin 384) : Prop :=
  r.val ≤ kk.val ∧ kk.val ≤ r.val + 256 ∧ (0 < (i 1).val ∨ 128 ≤ kk.val) ∧ ((i 1).val < 63 ∨ kk.val < 256) ∧ (i 1).val < 64

instance (i : grid0.Coords) (r : Fin 128) (kk : Fin 384) : Decidable (valid i r kk) := by unfold valid; infer_instance

/-- A row's number within its head, as the body computes it (a remainder by 128). -/
def rmWord : IVec S512x384 32 :=
  have v3 : BitVec 32 := Scalar.select (Scalar.cmpi .eq 128#32 0#32) 1#32 128#32
  have v5 : IVec S512x384 32 := remsi (iota .tc S512x384 32 [0] iota_S512x384_d0_w32) (broadcast S512x384 v3)
  have v12 : IVec S512x384 1 :=
    broadcastTo S512x384 (broadcast S512x384 (Scalar.cmpi .slt v3 0#32)) broadcasts_S512x384_S512x384
  select (andi (xori (cmpi .slt v5 (broadcast S512x384 0#32)) v12) (cmpi .ne v5 (broadcast S512x384 0#32)))
    (addi v5 (broadcast S512x384 v3)) v5

theorem rmWord_apply0 : ∀ r : Fin 512, rmWord (ix2 r 0) = BitVec.ofNat 32 (r.val % 128) := by decide +kernel

theorem rmWord_apply (r : Fin 512) (kk : Fin 384) : rmWord (ix2 r kk) = BitVec.ofNat 32 (r.val % 128) :=
  (show rmWord (ix2 r kk) = rmWord (ix2 r 0) from rfl).trans (rmWord_apply0 r)

/-- The body's comparisons of words are the comparisons of the numbers they stand for. -/
theorem bias_words (n r k : ℕ) (hn : n < 66) (hr : r < 128) (hk : k < 384) (A B : EReal) :
    Scalar.select (IntOp.andi (IntOp.andi (IntOp.andi (IntOp.andi
          (IntOp.cmpi .sge (BitVec.ofNat 32 k) (BitVec.ofNat 32 r))
          (IntOp.cmpi .sle (BitVec.ofNat 32 k) (IntOp.addi (BitVec.ofNat 32 r) 256#32)))
          (IntOp.cmpi .sge (BitVec.ofNat 32 k) (Scalar.select (Scalar.cmpi .sgt (BitVec.ofNat 32 n) 0#32) 0#32 128#32)))
          (IntOp.cmpi .slt (BitVec.ofNat 32 k) (Scalar.select (Scalar.cmpi .slt (BitVec.ofNat 32 n) 63#32) 384#32 256#32)))
          (Scalar.cmpi .slt (BitVec.ofNat 32 n) 64#32)) A B
      = if (r ≤ k ∧ k ≤ r + 256 ∧ (0 < n ∨ 128 ≤ k) ∧ (n < 63 ∨ k < 256) ∧ n < 64) then A else B := by
  rw [show IntOp.addi (BitVec.ofNat 32 r) 256#32 = BitVec.ofNat 32 (r + 256) from (BitVec.ofNat_add _ _).symm,
    show Scalar.cmpi .sgt (BitVec.ofNat 32 n) 0#32 = BitVec.ofBool (decide (0 < n)) from
      cmpi_sgt_ofNat (by omega) (by omega),
    show Scalar.cmpi .slt (BitVec.ofNat 32 n) 63#32 = BitVec.ofBool (decide (n < 63)) from
      cmpi_slt_ofNat (by omega) (by omega),
    show Scalar.cmpi .slt (BitVec.ofNat 32 n) 64#32 = BitVec.ofBool (decide (n < 64)) from
      cmpi_slt_ofNat (by omega) (by omega),
    show Scalar.select (BitVec.ofBool (decide (0 < n))) 0#32 128#32 = BitVec.ofNat 32 (if 0 < n then 0 else 128) by
      by_cases h : 0 < n <;> simp [h, Scalar.select],
    show Scalar.select (BitVec.ofBool (decide (n < 63))) 384#32 256#32 = BitVec.ofNat 32 (if n < 63 then 384 else 256) by
      by_cases h : n < 63 <;> simp [h, Scalar.select],
    cmpi_sge_ofNat (by omega) (by omega), cmpi_sle_ofNat (by omega) (by omega),
    cmpi_sge_ofNat (by omega) (by split <;> omega), cmpi_slt_ofNat (by omega) (by split <;> omega)]
  simp only [andi_ofBool, ← Bool.decide_and]
  unfold Scalar.select
  have hiff : (((((r ≤ k ∧ k ≤ r + 256) ∧ (if 0 < n then 0 else 128) ≤ k) ∧ k < if n < 63 then 384 else 256) ∧ n < 64)) ↔
      (r ≤ k ∧ k ≤ r + 256 ∧ (0 < n ∨ 128 ≤ k) ∧ (n < 63 ∨ k < 256) ∧ n < 64) := by
    split_ifs <;> omega
  by_cases hv : (r ≤ k ∧ k ≤ r + 256 ∧ (0 < n ∨ 128 ≤ k) ∧ (n < 63 ∨ k < 256) ∧ n < 64)
  · rw [if_pos hv, if_pos (by rw [decide_eq_true (hiff.mpr hv)]; rfl)]
  · rw [if_neg hv, if_neg (by rw [decide_eq_false (fun h => hv (hiff.mp h))]; decide)]

/-- The bias: zero where the key counts, minus infinity elsewhere. -/
theorem bias_apply (i : grid0.Coords) (rr : Fin 4) (r : Fin 128) (kk : Fin 384) :
    (k0_pay2 (F := Ideal) i) (ix2 (row rr r) kk) = if valid i r kk then (0 : EReal) else ⊥ := by
  have h1 : (i 1).val < 66 := (i 1).isLt
  have e : (k0_pay2 (F := Ideal) i)
      = select (andi (andi (andi (andi
            (cmpi .sge (iota .tc S512x384 32 [1] iota_S512x384_d1_w32) rmWord)
            (cmpi .sle (iota .tc S512x384 32 [1] iota_S512x384_d1_w32) (addi rmWord (broadcast S512x384 256#32))))
            (cmpi .sge (iota .tc S512x384 32 [1] iota_S512x384_d1_w32)
              (broadcast S512x384 (Scalar.select (Scalar.cmpi .sgt (BitVec.ofNat 32 (i 1).val) 0#32) 0#32 128#32))))
            (cmpi .slt (iota .tc S512x384 32 [1] iota_S512x384_d1_w32)
              (broadcast S512x384 (Scalar.select (Scalar.cmpi .slt (BitVec.ofNat 32 (i 1).val) 63#32) 384#32 256#32))))
            (broadcast S512x384 (Scalar.cmpi .slt (BitVec.ofNat 32 (i 1).val) 64#32)))
          (broadcast S512x384 (Scalar.ofBits .f32 0x00000000#32 : Ideal .f32))
          (broadcast S512x384 (Scalar.ofBits .f32 0xFF800000#32)) := rfl
  rw [e]
  have hw := rmWord_apply (row rr r) kk
  have hm : (rr.val * 128 + r.val) % 128 = r.val := by omega
  pointwise [hw, hm]
  refine (bias_words (i 1).val r.val kk.val h1 r.isLt kk.isLt _ _).trans ?_
  rw [show Ideal.ofBits .f32 0xFF800000#32 = (⊥ : EReal) from ofBits_ninf]
  rfl

/-- The window's scores of stacked row `(rr, r)`. -/
theorem sw_apply (i : grid0.Coords) (q0 q1 k0 k1 k2 : Vec Ideal S128x128 .bf16) (rr : Fin 4) (r : Fin 128) (kk : Fin 384) :
    sw i q0 q1 k0 k1 k2 (ix2 (row rr r) kk)
      = dot64 q0 q1 rr r (cat3 k0 k1 k2 kk) + if valid i r kk then (0 : EReal) else ⊥ := by
  rw [← bias_apply i rr r kk]
  show (matmul (F := Ideal) dot_S512x128_S384x128_S512x384_1_1_0_0_n_n none (q4 q0 q1) (k0_pay6 k0 k1 k2)
    (constant S512x384 .f32 0x00000000#32)) (ix2 (row rr r) kk) + (k0_pay2 (F := Ideal) i) (ix2 (row rr r) kk) = _
  congr 1
  pointwise [dot_S512x128_S384x128_S512x384_1_1_0_0_n_n, pay6_apply]
  simp only [q4_apply]
  exact sum_lanes rr _ _

/-- The context's scores. -/
theorem sc_apply (q0 q1 : Vec Ideal S128x128 .bf16) (kx : Vec Ideal S256x128 .bf16) (rr : Fin 4) (r : Fin 128) (kk : Fin 256) :
    sc q0 q1 kx (ix2 (row rr r) kk) = dot64 q0 q1 rr r (fun l => kx (ix2 kk l)) := by
  unfold sc k0_pay9 k0_pay8
  pointwise [dot_S512x128_S256x128_S512x256_1_1_0_0_n_n]
  simp only [q4_apply]
  exact sum_lanes rr _ _

/-- One key head's pass, at stacked row `(rr, r)` and lane `l`: attention with a sink over the window and the context. -/
theorem headO_apply (i : grid0.Coords) (q0 q1 k0 k1 k2 : Vec Ideal S128x128 .bf16) (kx : Vec Ideal S256x128 .bf16)
    (v0 v1 v2 : Vec Ideal S128x128 .bf16) (vx : Vec Ideal S256x128 .bf16) (s : Fin 4 → Elt Ideal .f32)
    (rr : Fin 4) (r l : Fin 128) :
    headO i q0 q1 k0 k1 k2 kx v0 v1 v2 vx (s 0) (s 1) (s 2) (s 3) (ix2 (row rr r) l)
      = att (fun kk => dot64 q0 q1 rr r (cat3 k0 k1 k2 kk) + if valid i r kk then (0 : EReal) else ⊥)
          (fun kk => cat3 v0 v1 v2 kk l) (fun kk => dot64 q0 q1 rr r (fun l => kx (ix2 kk l)))
          (fun kk => vx (ix2 kk l)) (s rr) := by
  have hm : k0_pay16 rowIds (sw i q0 q1 k0 k1 k2) (sc q0 q1 kx) (sk2 (s 0) (s 1) (s 2)) 128#32 k0_pay14 (s 3) (ix2 (row rr r) 0)
      = top (fun kk => dot64 q0 q1 rr r (cat3 k0 k1 k2 kk) + if valid i r kk then (0 : EReal) else ⊥)
          (fun kk => dot64 q0 q1 rr r (fun l => kx (ix2 kk l))) (s rr) := by
    unfold k0_pay16 top
    pointwise [sw_apply, sc_apply]
    rw [sinks_apply s (row rr r) rr (by show (rr.val * 128 + r.val) / 128 = rr.val; omega),
      show Ideal.ofBits .f32 0xFF800000#32 = (⊥ : EReal) from ofBits_ninf]
    rfl
  have h17 : ∀ kk : Fin 384, k0_pay17 rowIds (sw i q0 q1 k0 k1 k2) (sc q0 q1 kx) (sk2 (s 0) (s 1) (s 2)) 128#32 k0_pay14 (s 3) (ix2 (row rr r) kk)
      = Ideal.exp ((dot64 q0 q1 rr r (cat3 k0 k1 k2 kk) + if valid i r kk then (0 : EReal) else ⊥) - top (fun kk => dot64 q0 q1 rr r (cat3 k0 k1 k2 kk) + if valid i r kk then (0 : EReal) else ⊥)
          (fun kk => dot64 q0 q1 rr r (fun l => kx (ix2 kk l))) (s rr)) := by
    intro kk
    rw [← hm]
    unfold k0_pay17
    pointwise [sw_apply]
  have h18 : ∀ kk : Fin 256, k0_pay18 rowIds (sw i q0 q1 k0 k1 k2) (sc q0 q1 kx) (sk2 (s 0) (s 1) (s 2)) 128#32 k0_pay14 (s 3) (ix2 (row rr r) kk)
      = Ideal.exp (dot64 q0 q1 rr r (fun l => kx (ix2 kk l)) - top (fun kk => dot64 q0 q1 rr r (cat3 k0 k1 k2 kk) + if valid i r kk then (0 : EReal) else ⊥)
          (fun kk => dot64 q0 q1 rr r (fun l => kx (ix2 kk l))) (s rr)) := by
    intro kk
    rw [← hm]
    unfold k0_pay18
    pointwise [sc_apply]
  have h19 : k0_pay19 rowIds (sw i q0 q1 k0 k1 k2) (sc q0 q1 kx) (sk2 (s 0) (s 1) (s 2)) 128#32 k0_pay14 (s 3) (ix2 (row rr r) 0)
      = ((∑ kk : Fin 384, k0_pay17 rowIds (sw i q0 q1 k0 k1 k2) (sc q0 q1 kx) (sk2 (s 0) (s 1) (s 2)) 128#32 k0_pay14 (s 3) (ix2 (row rr r) kk))
        + ∑ kk : Fin 256, k0_pay18 rowIds (sw i q0 q1 k0 k1 k2) (sc q0 q1 kx) (sk2 (s 0) (s 1) (s 2)) 128#32 k0_pay14 (s 3) (ix2 (row rr r) kk))
        + Ideal.exp (s rr - k0_pay16 rowIds (sw i q0 q1 k0 k1 k2) (sc q0 q1 kx) (sk2 (s 0) (s 1) (s 2)) 128#32 k0_pay14 (s 3) (ix2 (row rr r) 0)) := by
    unfold k0_pay19
    pointwise
    rw [sinks_apply s (row rr r) rr (by show (rr.val * 128 + r.val) / 128 = rr.val; omega)]
  unfold headO k0_pay20
  pointwise [dot_S512x384_S384x128_S512x128_1_0_0_1_n_n, dot_S512x256_S256x128_S512x128_1_0_0_1_n_n, pay6_apply]
  rw [show (ix2 (⟨rr.val * 128 + r.val, (row rr r).isLt⟩ : Fin 512) (0 : Fin 1)) = ix2 (row rr r) 0 from rfl, h19, hm]
  simp only [h17, h18]
  rfl

end Cert.KernelIdeal.Hd

end
-- ==== Proof.Block.lean ====
module
public import proofs.«01_k».proof.Proof.Reading

@[expose] public section

noncomputable section

namespace Cert.KernelIdeal.Hd

open Cert.KernelIdeal Cert.KernelIdeal.Gen Idealize.ShloMosaic Idealize.ShloMosaic.TcCoe Idealize.ShloMosaic.Tactic Idealize.SL.Sem
open Cert.Att
open scoped BigOperators

section AnyFloat
variable {F : FTy → Type} [FloatOps F]

/-- Key head 0's pass, its operands read off the blocks. -/
def head0 (i : grid0.Coords) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) : FVec F S512x128 .f32 :=
  headO i (View.ld x1 (Rect.unit ![0, 0] ![128, 128] inb_S128x1024_S128x128_0_0)) (View.ld x1 (Rect.unit ![0, 128] ![128, 128] inb_S128x1024_S128x128_0_128)) (View.ld x2 (Rect.unit ![0, 0] ![128, 128] inb_S128x512_S128x128_0_0)) (View.ld x3 (Rect.unit ![0, 0] ![128, 128] inb_S128x512_S128x128_0_0)) (View.ld x4 (Rect.unit ![0, 0] ![128, 128] inb_S128x512_S128x128_0_0)) (View.ld x5 (Rect.unit ![0, 0] ![256, 128] inb_S256x512_S256x128_0_0)) (View.ld x6 (Rect.unit ![0, 0] ![128, 128] inb_S128x512_S128x128_0_0)) (View.ld x7 (Rect.unit ![0, 0] ![128, 128] inb_S128x512_S128x128_0_0)) (View.ld x8 (Rect.unit ![0, 0] ![128, 128] inb_S128x512_S128x128_0_0)) (View.ld x9 (Rect.unit ![0, 0] ![256, 128] inb_S256x512_S256x128_0_0)) (View.ld x0 (Rect.unit ![0] ![1] inb_S16_S1_0) (Shape.Idx.first (by decide))) (View.ld x0 (Rect.unit ![1] ![1] inb_S16_S1_1) (Shape.Idx.first (by decide))) (View.ld x0 (Rect.unit ![2] ![1] inb_S16_S1_2) (Shape.Idx.first (by decide))) (View.ld x0 (Rect.unit ![3] ![1] inb_S16_S1_3) (Shape.Idx.first (by decide)))

/-- Key head 1's pass, its operands read off the blocks. -/
def head1 (i : grid0.Coords) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) : FVec F S512x128 .f32 :=
  headO i (View.ld x1 (Rect.unit ![0, 256] ![128, 128] inb_S128x1024_S128x128_0_256)) (View.ld x1 (Rect.unit ![0, 384] ![128, 128] inb_S128x1024_S128x128_0_384)) (View.ld x2 (Rect.unit ![0, 128] ![128, 128] inb_S128x512_S128x128_0_128)) (View.ld x3 (Rect.unit ![0, 128] ![128, 128] inb_S128x512_S128x128_0_128)) (View.ld x4 (Rect.unit ![0, 128] ![128, 128] inb_S128x512_S128x128_0_128)) (View.ld x5 (Rect.unit ![0, 128] ![256, 128] inb_S256x512_S256x128_0_128)) (View.ld x6 (Rect.unit ![0, 128] ![128, 128] inb_S128x512_S128x128_0_128)) (View.ld x7 (Rect.unit ![0, 128] ![128, 128] inb_S128x512_S128x128_0_128)) (View.ld x8 (Rect.unit ![0, 128] ![128, 128] inb_S128x512_S128x128_0_128)) (View.ld x9 (Rect.unit ![0, 128] ![256, 128] inb_S256x512_S256x128_0_128)) (View.ld x0 (Rect.unit ![4] ![1] inb_S16_S1_4) (Shape.Idx.first (by decide))) (View.ld x0 (Rect.unit ![5] ![1] inb_S16_S1_5) (Shape.Idx.first (by decide))) (View.ld x0 (Rect.unit ![6] ![1] inb_S16_S1_6) (Shape.Idx.first (by decide))) (View.ld x0 (Rect.unit ![7] ![1] inb_S16_S1_7) (Shape.Idx.first (by decide)))

/-- Key head 2's pass, its operands read off the blocks. -/
def head2 (i : grid0.Coords) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) : FVec F S512x128 .f32 :=
  headO i (View.ld x1 (Rect.unit ![0, 512] ![128, 128] inb_S128x1024_S128x128_0_512)) (View.ld x1 (Rect.unit ![0, 640] ![128, 128] inb_S128x1024_S128x128_0_640)) (View.ld x2 (Rect.unit ![0, 256] ![128, 128] inb_S128x512_S128x128_0_256)) (View.ld x3 (Rect.unit ![0, 256] ![128, 128] inb_S128x512_S128x128_0_256)) (View.ld x4 (Rect.unit ![0, 256] ![128, 128] inb_S128x512_S128x128_0_256)) (View.ld x5 (Rect.unit ![0, 256] ![256, 128] inb_S256x512_S256x128_0_256)) (View.ld x6 (Rect.unit ![0, 256] ![128, 128] inb_S128x512_S128x128_0_256)) (View.ld x7 (Rect.unit ![0, 256] ![128, 128] inb_S128x512_S128x128_0_256)) (View.ld x8 (Rect.unit ![0, 256] ![128, 128] inb_S128x512_S128x128_0_256)) (View.ld x9 (Rect.unit ![0, 256] ![256, 128] inb_S256x512_S256x128_0_256)) (View.ld x0 (Rect.unit ![8] ![1] inb_S16_S1_8) (Shape.Idx.first (by decide))) (View.ld x0 (Rect.unit ![9] ![1] inb_S16_S1_9) (Shape.Idx.first (by decide))) (View.ld x0 (Rect.unit ![10] ![1] inb_S16_S1_10) (Shape.Idx.first (by decide))) (View.ld x0 (Rect.unit ![11] ![1] inb_S16_S1_11) (Shape.Idx.first (by decide)))

/-- Key head 3's pass, its operands read off the blocks. -/
def head3 (i : grid0.Coords) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) : FVec F S512x128 .f32 :=
  headO i (View.ld x1 (Rect.unit ![0, 768] ![128, 128] inb_S128x1024_S128x128_0_768)) (View.ld x1 (Rect.unit ![0, 896] ![128, 128] inb_S128x1024_S128x128_0_896)) (View.ld x2 (Rect.unit ![0, 384] ![128, 128] inb_S128x512_S128x128_0_384)) (View.ld x3 (Rect.unit ![0, 384] ![128, 128] inb_S128x512_S128x128_0_384)) (View.ld x4 (Rect.unit ![0, 384] ![128, 128] inb_S128x512_S128x128_0_384)) (View.ld x5 (Rect.unit ![0, 384] ![256, 128] inb_S256x512_S256x128_0_384)) (View.ld x6 (Rect.unit ![0, 384] ![128, 128] inb_S128x512_S128x128_0_384)) (View.ld x7 (Rect.unit ![0, 384] ![128, 128] inb_S128x512_S128x128_0_384)) (View.ld x8 (Rect.unit ![0, 384] ![128, 128] inb_S128x512_S128x128_0_384)) (View.ld x9 (Rect.unit ![0, 384] ![256, 128] inb_S256x512_S256x128_0_384)) (View.ld x0 (Rect.unit ![12] ![1] inb_S16_S1_12) (Shape.Idx.first (by decide))) (View.ld x0 (Rect.unit ![13] ![1] inb_S16_S1_13) (Shape.Idx.first (by decide))) (View.ld x0 (Rect.unit ![14] ![1] inb_S16_S1_14) (Shape.Idx.first (by decide))) (View.ld x0 (Rect.unit ![15] ![1] inb_S16_S1_15) (Shape.Idx.first (by decide)))

/-- The eight blocks of output columns the body stores, the last first. -/
def pieces (i : grid0.Coords) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) : List (View.Piece (Elt F) S128x1024 .bf16) :=
  [⟨Rect.unit ![0, 896] ![128, 128] inb_S128x1024_S128x128_0_896, outHi (head3 i x0 x1 x2 x3 x4 x5 x6 x7 x8 x9)⟩,
   ⟨Rect.unit ![0, 768] ![128, 128] inb_S128x1024_S128x128_0_768, outLo (head3 i x0 x1 x2 x3 x4 x5 x6 x7 x8 x9)⟩,
   ⟨Rect.unit ![0, 640] ![128, 128] inb_S128x1024_S128x128_0_640, outHi (head2 i x0 x1 x2 x3 x4 x5 x6 x7 x8 x9)⟩,
   ⟨Rect.unit ![0, 512] ![128, 128] inb_S128x1024_S128x128_0_512, outLo (head2 i x0 x1 x2 x3 x4 x5 x6 x7 x8 x9)⟩,
   ⟨Rect.unit ![0, 384] ![128, 128] inb_S128x1024_S128x128_0_384, outHi (head1 i x0 x1 x2 x3 x4 x5 x6 x7 x8 x9)⟩,
   ⟨Rect.unit ![0, 256] ![128, 128] inb_S128x1024_S128x128_0_256, outLo (head1 i x0 x1 x2 x3 x4 x5 x6 x7 x8 x9)⟩,
   ⟨Rect.unit ![0, 128] ![128, 128] inb_S128x1024_S128x128_0_128, outHi (head0 i x0 x1 x2 x3 x4 x5 x6 x7 x8 x9)⟩,
   ⟨Rect.unit ![0, 0] ![128, 128] inb_S128x1024_S128x128_0_0, outLo (head0 i x0 x1 x2 x3 x4 x5 x6 x7 x8 x9)⟩]

set_option maxHeartbeats 1000000 in
set_option maxRecDepth 16384 in
/-- What the body's run stores are those blocks. -/
theorem run_pieces (c : Dev nD) (t : Fin cfg0.N) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8 x9).1 = pieces (grid0.coords t) x0 x1 x2 x3 x4 x5 x6 x7 x8 x9 := by
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  unfold pieces head0 head1 head2 head3 headO outLo outHi
  repeat' refine congrArg₂ List.cons (congrArg (Sigma.mk _) ?_) ?_
  all_goals rfl

/-- So its output block is their canon. -/
theorem out_eq_canon (c : Dev nD) (t : Fin cfg0.N) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8 x9 = View.canon (pieces (grid0.coords t) x0 x1 x2 x3 x4 x5 x6 x7 x8 x9) := by
  unfold out0_A_10
  rw [View.read_writes_eq_canon _ _ _ (cover0_A_10 c _ _ _ _ _ _ _ _ _ _ _ _ _ _ _ _ _ _ _ _ _ _ _ _ _ _ _ _ _ _ _ _ _ ), run_pieces]

theorem cover_pieces (c : Dev nD) (t : Fin cfg0.N) (x0 : Vec F S16 .f32) (x1 : Vec F S128x1024 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) (y : S128x1024.Idx) :
    ∃ pc ∈ pieces (grid0.coords t) x0 x1 x2 x3 x4 x5 x6 x7 x8 x9, y ∈ pc.1.set := by
  rw [← run_pieces c t]
  exact cover0_A_10 c _ _ _ _ _ _ _ _ _ _ _ _ _ _ _ _ _ _ _ _ _ _ _ _ _ _ _ _ _ _ _ _ _  y

end AnyFloat

/-! ## The blocks of columns -/

/-- 128 columns of a block, from column `n * 128`. -/
def colsQ (x : Vec Ideal S128x1024 .bf16) (n : ℕ) (h : n < 8) : Vec Ideal S128x128 .bf16 :=
  fun j => x (ix2 (j 0) ⟨n * 128 + (j 1).val, by have h1 : (j 1).val < 128 := (j 1).isLt; omega⟩)
def cols (x : Vec Ideal S128x512 .bf16) (g : Fin 4) : Vec Ideal S128x128 .bf16 :=
  fun j => x (ix2 (j 0) ⟨g.val * 128 + (j 1).val, by have h1 : (j 1).val < 128 := (j 1).isLt; omega⟩)
def colsX (x : Vec Ideal S256x512 .bf16) (g : Fin 4) : Vec Ideal S256x128 .bf16 :=
  fun j => x (ix2 (j 0) ⟨g.val * 128 + (j 1).val, by have h1 : (j 1).val < 128 := (j 1).isLt; omega⟩)

theorem ldq_eq (x : Vec Ideal S128x1024 .bf16) (n : ℕ) (h : n < 8) (o : ℕ) (ho : o = n * 128) (inb) :
    View.ld x (Rect.unit ![0, o] ![128, 128] inb) = colsQ x n h := by
  subst ho; funext j; pointwise [colsQ]
theorem ld_eq (x : Vec Ideal S128x512 .bf16) (g : Fin 4) (o : ℕ) (ho : o = g.val * 128) (inb) :
    View.ld x (Rect.unit ![0, o] ![128, 128] inb) = cols x g := by
  subst ho; funext j; pointwise [cols]
theorem ldx_eq (x : Vec Ideal S256x512 .bf16) (g : Fin 4) (o : ℕ) (ho : o = g.val * 128) (inb) :
    View.ld x (Rect.unit ![0, o] ![256, 128] inb) = colsX x g := by
  subst ho; funext j; pointwise [colsX]
theorem lds_eq (x : Vec Ideal S16 .f32) (k : ℕ) (h : k < 16) (inb) (j) :
    View.ld x (Rect.unit ![k] ![1] inb) j = x (ix1 ⟨k, h⟩) := by
  pointwise

/-- Key head `g`'s pass. -/
def headG (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (g : Fin 4) : FVec Ideal S512x128 .f32 :=
  headO i (colsQ x1 (2 * g.val) (by omega)) (colsQ x1 (2 * g.val + 1) (by omega)) (cols x2 g) (cols x3 g) (cols x4 g) (colsX x5 g)
    (cols x6 g) (cols x7 g) (cols x8 g) (colsX x9 g) (x0 (ix1 ⟨4 * g.val, by omega⟩)) (x0 (ix1 ⟨4 * g.val + 1, by omega⟩))
    (x0 (ix1 ⟨4 * g.val + 2, by omega⟩)) (x0 (ix1 ⟨4 * g.val + 3, by omega⟩))

theorem head0_eq (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) :
    head0 i x0 x1 x2 x3 x4 x5 x6 x7 x8 x9 = headG i x0 x1 x2 x3 x4 x5 x6 x7 x8 x9 0 := by
  unfold head0 headG
  rw [ldq_eq x1 0 (by decide) 0 rfl, ldq_eq x1 1 (by decide) 128 rfl, ld_eq x2 0 0 rfl, ld_eq x3 0 0 rfl, ld_eq x4 0 0 rfl, ldx_eq x5 0 0 rfl, ld_eq x6 0 0 rfl, ld_eq x7 0 0 rfl, ld_eq x8 0 0 rfl, ldx_eq x9 0 0 rfl]
  rw [lds_eq x0 0 (by decide), lds_eq x0 1 (by decide), lds_eq x0 2 (by decide), lds_eq x0 3 (by decide)]
  rfl

theorem head1_eq (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) :
    head1 i x0 x1 x2 x3 x4 x5 x6 x7 x8 x9 = headG i x0 x1 x2 x3 x4 x5 x6 x7 x8 x9 1 := by
  unfold head1 headG
  rw [ldq_eq x1 2 (by decide) 256 rfl, ldq_eq x1 3 (by decide) 384 rfl, ld_eq x2 1 128 rfl, ld_eq x3 1 128 rfl, ld_eq x4 1 128 rfl, ldx_eq x5 1 128 rfl, ld_eq x6 1 128 rfl, ld_eq x7 1 128 rfl, ld_eq x8 1 128 rfl, ldx_eq x9 1 128 rfl]
  rw [lds_eq x0 4 (by decide), lds_eq x0 5 (by decide), lds_eq x0 6 (by decide), lds_eq x0 7 (by decide)]
  rfl

theorem head2_eq (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) :
    head2 i x0 x1 x2 x3 x4 x5 x6 x7 x8 x9 = headG i x0 x1 x2 x3 x4 x5 x6 x7 x8 x9 2 := by
  unfold head2 headG
  rw [ldq_eq x1 4 (by decide) 512 rfl, ldq_eq x1 5 (by decide) 640 rfl, ld_eq x2 2 256 rfl, ld_eq x3 2 256 rfl, ld_eq x4 2 256 rfl, ldx_eq x5 2 256 rfl, ld_eq x6 2 256 rfl, ld_eq x7 2 256 rfl, ld_eq x8 2 256 rfl, ldx_eq x9 2 256 rfl]
  rw [lds_eq x0 8 (by decide), lds_eq x0 9 (by decide), lds_eq x0 10 (by decide), lds_eq x0 11 (by decide)]
  rfl

theorem head3_eq (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) :
    head3 i x0 x1 x2 x3 x4 x5 x6 x7 x8 x9 = headG i x0 x1 x2 x3 x4 x5 x6 x7 x8 x9 3 := by
  unfold head3 headG
  rw [ldq_eq x1 6 (by decide) 768 rfl, ldq_eq x1 7 (by decide) 896 rfl, ld_eq x2 3 384 rfl, ld_eq x3 3 384 rfl, ld_eq x4 3 384 rfl, ldx_eq x5 3 384 rfl, ld_eq x6 3 384 rfl, ld_eq x7 3 384 rfl, ld_eq x8 3 384 rfl, ldx_eq x9 3 384 rfl]
  rw [lds_eq x0 12 (by decide), lds_eq x0 13 (by decide), lds_eq x0 14 (by decide), lds_eq x0 15 (by decide)]
  rfl

end Cert.KernelIdeal.Hd

end
-- ==== Proof.Out.lean ====
module
public import proofs.«01_k».proof.Proof.Block

@[expose] public section

noncomputable section

namespace Cert.KernelIdeal.Hd

open Cert.KernelIdeal Cert.KernelIdeal.Gen Idealize.ShloMosaic Idealize.ShloMosaic.TcCoe Idealize.ShloMosaic.Tactic Idealize.SL.Sem
open Cert.Att
open scoped BigOperators

/-- Column of query head `h`'s lane `e` in the queries and in the output. -/
abbrev hcol (h : Fin 16) (e : Fin 64) : Fin 1024 := ⟨h.val * 64 + e.val, by omega⟩
/-- Column that query head `h` reads for lane `e` in the keys and values, which hold every key head twice. -/
abbrev gcol (h : Fin 16) (e : Fin 64) : Fin 512 := ⟨h.val / 4 * 128 + h.val % 2 * 64 + e.val, by omega⟩

/-- The 384 rows of the window: three blocks of 128 rows, one under the other. -/
def kcat (k0 k1 k2 : Vec Ideal S128x512 .bf16) (kk : Fin 384) (c : Fin 512) : EReal :=
  if h0 : kk.val < 128 then k0 (ix2 ⟨kk.val, h0⟩ c)
  else if h1 : kk.val < 256 then k1 (ix2 ⟨kk.val - 128, by omega⟩ c) else k2 (ix2 ⟨kk.val - 256, by omega⟩ c)

/-- What the body computes for query `r`, head `h` and lane `d` of its block, from the blocks it is given. -/
def blkOut (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (r : Fin 128) (h : Fin 16) (d : Fin 64) : EReal :=
  att (fun kk : Fin 384 => (∑ e : Fin 64, (x1 (ix2 r (hcol h e)) : EReal) * kcat x2 x3 x4 kk (gcol h e)) + if valid i r kk then (0 : EReal) else ⊥)
    (fun kk => kcat x6 x7 x8 kk (gcol h d))
    (fun kk : Fin 256 => ∑ e : Fin 64, (x1 (ix2 r (hcol h e)) : EReal) * x5 (ix2 kk (gcol h e)))
    (fun kk => x9 (ix2 kk (gcol h d))) (x0 (ix1 h))

theorem cat3_cols (k0 k1 k2 : Vec Ideal S128x512 .bf16) (g : Fin 4) (kk : Fin 384) (l : Fin 128) (c : Fin 512)
    (hc : c.val = g.val * 128 + l.val) : cat3 (cols k0 g) (cols k1 g) (cols k2 g) kk l = kcat k0 k1 k2 kk c := by
  rw [show c = ⟨g.val * 128 + l.val, by omega⟩ from Fin.ext hc]
  rfl

theorem dot64_cols (x1 : Vec Ideal S128x1024 .bf16) (g rr : Fin 4) (r : Fin 128) (h : Fin 16) (hh : h.val = 4 * g.val + rr.val)
    (f : Fin 128 → EReal) (f' : Fin 512 → EReal) (hf : ∀ e, f (lane rr e) = f' (gcol h e)) :
    dot64 (colsQ x1 (2 * g.val) (by omega)) (colsQ x1 (2 * g.val + 1) (by omega)) rr r f
      = ∑ e : Fin 64, (x1 (ix2 r (hcol h e)) : EReal) * f' (gcol h e) := by
  unfold dot64
  refine Finset.sum_congr rfl fun e _ => ?_
  rw [hf]
  congr 1
  unfold qsel colsQ
  split <;> exact congrArg (fun c => x1 (ix2 r c)) (Fin.ext (by show _ * 128 + (rr.val % 2 * 64 + e.val) = h.val * 64 + e.val; omega))

/-- Key head `g`'s pass at the stacked row of its query head `rr` is that query head's block output. -/
theorem headG_apply (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (g rr : Fin 4) (r l : Fin 128) (h : Fin 16) (d : Fin 64)
    (hh : h.val = 4 * g.val + rr.val) (hl : l.val = rr.val % 2 * 64 + d.val) :
    headG i x0 x1 x2 x3 x4 x5 x6 x7 x8 x9 g (ix2 (row rr r) l) = blkOut i x0 x1 x2 x3 x4 x5 x6 x7 x8 x9 r h d := by
  obtain rfl : l = lane rr d := Fin.ext hl
  have hg : ∀ e : Fin 64, (gcol h e).val = g.val * 128 + (lane rr e).val := fun e => by
    show h.val / 4 * 128 + h.val % 2 * 64 + e.val = g.val * 128 + (rr.val % 2 * 64 + e.val); omega
  have hx : ∀ (x : Vec Ideal S256x512 .bf16) (kk : Fin 256) (e : Fin 64), colsX x g (ix2 kk (lane rr e)) = x (ix2 kk (gcol h e)) :=
    fun x kk e => congrArg (fun c => x (ix2 kk c)) (Fin.ext (hg e).symm)
  unfold headG blkOut
  refine (headO_apply i _ _ _ _ _ _ _ _ _ _ (fun q : Fin 4 => x0 (ix1 ⟨4 * g.val + q.val, by omega⟩)) rr r (lane rr d)).trans ?_
  congr 1
  · funext kk
    rw [dot64_cols x1 g rr r h hh _ (fun c => kcat x2 x3 x4 kk c) fun e => cat3_cols _ _ _ g kk _ _ (hg e)]
  · funext kk
    exact cat3_cols _ _ _ g kk _ _ (hg d)
  · funext kk
    rw [dot64_cols x1 g rr r h hh _ (fun c => x5 (ix2 kk c)) fun e => hx x5 kk e]
  · funext kk
    exact hx x9 kk d
  · exact congrArg (fun c => x0 (ix1 c)) (Fin.ext hh.symm)

theorem outLo_apply (o : FVec Ideal S512x128 .f32) (r l : Fin 128) :
    outLo o (ix2 r l) = if l.val < 64 then o (ix2 (row 0 r) l) else o (ix2 (row 1 r) l) := by
  have hl := low_apply l
  unfold outLo
  pointwise
  refine Eq.trans (congrArg (fun w => Scalar.select w _ _) hl) ?_
  split_ifs with h
  · rw [decide_eq_true h]
    exact congrArg (fun q => o (ix2 q l)) (Fin.ext (by show _ = 0 * 128 + r.val; simp <;> omega))
  · rw [decide_eq_false h]
    exact congrArg (fun q => o (ix2 q l)) (Fin.ext (by show _ = 1 * 128 + r.val; simp <;> omega))
theorem outHi_apply (o : FVec Ideal S512x128 .f32) (r l : Fin 128) :
    outHi o (ix2 r l) = if l.val < 64 then o (ix2 (row 2 r) l) else o (ix2 (row 3 r) l) := by
  have hl := low_apply l
  unfold outHi
  pointwise
  refine Eq.trans (congrArg (fun w => Scalar.select w _ _) hl) ?_
  split_ifs with h
  · rw [decide_eq_true h]
    exact congrArg (fun q => o (ix2 q l)) (Fin.ext (by show _ = 2 * 128 + r.val; simp <;> omega))
  · rw [decide_eq_false h]
    exact congrArg (fun q => o (ix2 q l)) (Fin.ext (by show _ = 3 * 128 + r.val; simp <;> omega))

/-- The whole output block, index by index. -/
def blkG (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) : S128x1024.Idx → Elt Ideal .bf16 := fun y =>
  blkOut i x0 x1 x2 x3 x4 x5 x6 x7 x8 x9 (y 0) ⟨(y 1).val / 64, by have h : (y 1).val < 1024 := (y 1).isLt; omega⟩ ⟨(y 1).val % 64, by omega⟩

theorem blkG_eq (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (y : S128x1024.Idx) (r : Fin 128) (h : Fin 16) (d : Fin 64)
    (h0 : (y 0).val = r.val) (h1 : (y 1).val = h.val * 64 + d.val) : blkG i x0 x1 x2 x3 x4 x5 x6 x7 x8 x9 y = blkOut i x0 x1 x2 x3 x4 x5 x6 x7 x8 x9 r h d := by
  unfold blkG
  obtain rfl : y 0 = r := Fin.ext h0
  congr 1
  · exact Fin.ext (by show (y 1).val / 64 = h.val; omega)
  · exact Fin.ext (by show (y 1).val % 64 = d.val; omega)

theorem outLo_piece (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (g : Fin 4) (x : S128x128.Idx) (y : S128x1024.Idx)
    (h0 : (y 0).val = (x 0).val) (h1 : (y 1).val = 2 * g.val * 128 + (x 1).val) :
    outLo (headG i x0 x1 x2 x3 x4 x5 x6 x7 x8 x9 g) x = blkG i x0 x1 x2 x3 x4 x5 x6 x7 x8 x9 y := by
  obtain ⟨r, l, rfl⟩ : ∃ r l : Fin 128, x = ix2 r l := ⟨x 0, x 1, eq_ix2 x⟩
  replace h0 : (y 0).val = r.val := h0
  replace h1 : (y 1).val = 2 * g.val * 128 + l.val := h1
  rw [outLo_apply]
  split_ifs with hl
  · rw [headG_apply i x0 x1 x2 x3 x4 x5 x6 x7 x8 x9 g 0 r l ⟨4 * g.val, by omega⟩ ⟨l.val, hl⟩ rfl (by show l.val = 0 % 2 * 64 + l.val; omega)]
    exact (blkG_eq i x0 x1 x2 x3 x4 x5 x6 x7 x8 x9 y _ _ _ h0 (by show _ = 4 * g.val * 64 + l.val; omega)).symm
  · rw [headG_apply i x0 x1 x2 x3 x4 x5 x6 x7 x8 x9 g 1 r l ⟨4 * g.val + 1, by omega⟩ ⟨l.val - 64, by omega⟩ rfl
      (by show _ = 1 % 2 * 64 + (l.val - 64); omega)]
    exact (blkG_eq i x0 x1 x2 x3 x4 x5 x6 x7 x8 x9 y _ _ _ h0 (by show _ = (4 * g.val + 1) * 64 + (l.val - 64); omega)).symm

theorem outHi_piece (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (g : Fin 4) (x : S128x128.Idx) (y : S128x1024.Idx)
    (h0 : (y 0).val = (x 0).val) (h1 : (y 1).val = (2 * g.val + 1) * 128 + (x 1).val) :
    outHi (headG i x0 x1 x2 x3 x4 x5 x6 x7 x8 x9 g) x = blkG i x0 x1 x2 x3 x4 x5 x6 x7 x8 x9 y := by
  obtain ⟨r, l, rfl⟩ : ∃ r l : Fin 128, x = ix2 r l := ⟨x 0, x 1, eq_ix2 x⟩
  replace h0 : (y 0).val = r.val := h0
  replace h1 : (y 1).val = (2 * g.val + 1) * 128 + l.val := h1
  rw [outHi_apply]
  split_ifs with hl
  · rw [headG_apply i x0 x1 x2 x3 x4 x5 x6 x7 x8 x9 g 2 r l ⟨4 * g.val + 2, by omega⟩ ⟨l.val, hl⟩ rfl (by show l.val = 2 % 2 * 64 + l.val; omega)]
    exact (blkG_eq i x0 x1 x2 x3 x4 x5 x6 x7 x8 x9 y _ _ _ h0 (by show _ = (4 * g.val + 2) * 64 + l.val; omega)).symm
  · rw [headG_apply i x0 x1 x2 x3 x4 x5 x6 x7 x8 x9 g 3 r l ⟨4 * g.val + 3, by omega⟩ ⟨l.val - 64, by omega⟩ rfl
      (by show _ = 3 % 2 * 64 + (l.val - 64); omega)]
    exact (blkG_eq i x0 x1 x2 x3 x4 x5 x6 x7 x8 x9 y _ _ _ h0 (by show _ = (4 * g.val + 3) * 64 + (l.val - 64); omega)).symm

/-- The body's output block at a point, index by index. -/
theorem out_apply (c : Dev nD) (t : Fin cfg0.N) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16) (y : S128x1024.Idx) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8 x9 y = blkG (grid0.coords t) x0 x1 x2 x3 x4 x5 x6 x7 x8 x9 y := by
  rw [out_eq_canon]
  refine View.canon_apply_of_pieces (blkG (grid0.coords t) x0 x1 x2 x3 x4 x5 x6 x7 x8 x9) _ ?_ y (cover_pieces c t x0 x1 x2 x3 x4 x5 x6 x7 x8 x9 y)
  generalize grid0.coords t = i
  unfold pieces
  simp only [List.forall_mem_cons, List.not_mem_nil, false_implies, implies_true, and_true]
  simp only [head0_eq, head1_eq, head2_eq, head3_eq]
  refine ⟨?_, ?_, ?_, ?_, ?_, ?_, ?_, ?_⟩
  · exact fun x => outHi_piece i x0 x1 x2 x3 x4 x5 x6 x7 x8 x9 3 x _ (by show 0 + 1 * (x 0).val = _; omega) (by show 896 + 1 * (x 1).val = _; norm_num <;> omega)
  · exact fun x => outLo_piece i x0 x1 x2 x3 x4 x5 x6 x7 x8 x9 3 x _ (by show 0 + 1 * (x 0).val = _; omega) (by show 768 + 1 * (x 1).val = _; norm_num <;> omega)
  · exact fun x => outHi_piece i x0 x1 x2 x3 x4 x5 x6 x7 x8 x9 2 x _ (by show 0 + 1 * (x 0).val = _; omega) (by show 640 + 1 * (x 1).val = _; norm_num <;> omega)
  · exact fun x => outLo_piece i x0 x1 x2 x3 x4 x5 x6 x7 x8 x9 2 x _ (by show 0 + 1 * (x 0).val = _; omega) (by show 512 + 1 * (x 1).val = _; norm_num <;> omega)
  · exact fun x => outHi_piece i x0 x1 x2 x3 x4 x5 x6 x7 x8 x9 1 x _ (by show 0 + 1 * (x 0).val = _; omega) (by show 384 + 1 * (x 1).val = _; norm_num <;> omega)
  · exact fun x => outLo_piece i x0 x1 x2 x3 x4 x5 x6 x7 x8 x9 1 x _ (by show 0 + 1 * (x 0).val = _; omega) (by show 256 + 1 * (x 1).val = _; norm_num <;> omega)
  · exact fun x => outHi_piece i x0 x1 x2 x3 x4 x5 x6 x7 x8 x9 0 x _ (by show 0 + 1 * (x 0).val = _; omega) (by show 128 + 1 * (x 1).val = _; norm_num <;> omega)
  · exact fun x => outLo_piece i x0 x1 x2 x3 x4 x5 x6 x7 x8 x9 0 x _ (by show 0 + 1 * (x 0).val = _; omega) (by show 0 + 1 * (x 1).val = _; norm_num <;> omega)

end Cert.KernelIdeal.Hd

end
-- ==== Proof.Host.lean ====
module
public import proofs.«01_k».proof.Proof.Out
public import Idealize.ShloMosaic.Lib.StableHlo.RunRead

@[expose] public section

noncomputable section

namespace Cert.KernelIdeal.Hd

open Cert.KernelIdeal Cert.KernelIdeal.Gen Idealize.ShloMosaic Idealize.ShloMosaic.TcCoe Idealize.SL.Sem
open scoped BigOperators

/-- The queries as the kernel is given them: latent rows above context rows, heads side by side, scaled by 1/8. -/
def hostQ (q : FVec Ideal S4x8192x16x64 .f32) (qc : FVec Ideal S4x256x16x64 .f32) : FVec Ideal S33792x1024 .bf16 :=
  truncf .bf16 (mulf (concatenate S33792x1024 0 [⟨S32768x1024, shapeCast S32768x1024 q shapeCasts_S4x8192x16x64_S32768x1024⟩,
      ⟨S1024x1024, shapeCast S1024x1024 qc shapeCasts_S4x256x16x64_S1024x1024⟩] concatenates_S32768x1024_S1024x1024_S33792x1024_d0)
    (broadcastInDim S33792x1024 ![] bcast_S_S33792x1024 (constant S_ .f32 0x3E000000#32))) bitsLt_bf16_f32

/-- The keys (or values) as the kernel is given them: every key head's 64 lanes twice, latent rows above context rows. -/
def hostK (k : FVec Ideal S4x8192x4x64 .f32) (kc : FVec Ideal S4x256x4x64 .f32) : FVec Ideal S33792x512 .bf16 :=
  truncf .bf16 (concatenate S33792x512 0
    [⟨S32768x512, shapeCast S32768x512 (concatenate S4x8192x4x128 3 [⟨S4x8192x4x64, k⟩, ⟨S4x8192x4x64, k⟩]
        concatenates_S4x8192x4x64_S4x8192x4x64_S4x8192x4x128_d3) shapeCasts_S4x8192x4x128_S32768x512⟩,
      ⟨S1024x512, shapeCast S1024x512 (concatenate S4x256x4x128 3 [⟨S4x256x4x64, kc⟩, ⟨S4x256x4x64, kc⟩]
        concatenates_S4x256x4x64_S4x256x4x64_S4x256x4x128_d3) shapeCasts_S4x256x4x128_S1024x512⟩]
    concatenates_S32768x512_S1024x512_S33792x512_d0) bitsLt_bf16_f32

variable (m : (ℓ : Loc nD τ sig) → Buf (Elt Ideal) ℓ)

theorem V_v5 (c : Dev nD) : V m c main_v5 = hostQ (m ((c : Thread nD τ).loc main_arg0)) (m ((c : Thread nD τ).loc main_arg3)) := by
  unfold V
  after_reads_simp
  rfl

theorem V_v11 (c : Dev nD) : V m c main_v11 = hostK (m ((c : Thread nD τ).loc main_arg1)) (m ((c : Thread nD τ).loc main_arg4)) := by
  unfold V
  after_reads_simp
  rfl

theorem V_v17 (c : Dev nD) : V m c main_v17 = hostK (m ((c : Thread nD τ).loc main_arg2)) (m ((c : Thread nD τ).loc main_arg5)) := by
  unfold V
  after_reads_simp
  rfl

theorem ofBits_eighth : (Scalar.ofBits .f32 0x3E000000#32 : Ideal .f32) = ((1 / 8 : ℝ) : EReal) := by
  show Ideal.ofBits .f32 0x3E000000#32 = _
  simp [Ideal.ofBits, Ideal.ieee]
  rw [← EReal.coe_mul]
  norm_num

/-- Rows above and rows below, read at a row above. -/
theorem cat_lo {w : ℕ} (a : FVec Ideal ⟨2, ![32768, w]⟩ .f32) (b : FVec Ideal ⟨2, ![1024, w]⟩ .f32) (h) (R : Fin 33792) (C : Fin w)
    (hR : R.val < 32768) :
    concatenate ⟨2, ![33792, w]⟩ 0 [⟨⟨2, ![32768, w]⟩, a⟩, ⟨⟨2, ![1024, w]⟩, b⟩] h (ix2 R C) = a (ix2 ⟨R.val, hR⟩ C) :=
  concatenate_pair_apply_left (t := ⟨2, ![33792, w]⟩) (s₁ := ⟨2, ![32768, w]⟩) (s₂ := ⟨2, ![1024, w]⟩) 0 a b h (ix2 R C) rfl
    (ix2 ⟨R.val, hR⟩ C) (fun x => match x with | ⟨0, _⟩ => rfl | ⟨1, _⟩ => rfl)

/-- … and at a row below. -/
theorem cat_hi {w : ℕ} (a : FVec Ideal ⟨2, ![32768, w]⟩ .f32) (b : FVec Ideal ⟨2, ![1024, w]⟩ .f32) (h) (R : Fin 33792) (C : Fin w)
    (hR : 32768 ≤ R.val) :
    concatenate ⟨2, ![33792, w]⟩ 0 [⟨⟨2, ![32768, w]⟩, a⟩, ⟨⟨2, ![1024, w]⟩, b⟩] h (ix2 R C) = b (ix2 ⟨R.val - 32768, by omega⟩ C) :=
  concatenate_pair_apply_right (t := ⟨2, ![33792, w]⟩) (s₁ := ⟨2, ![32768, w]⟩) (s₂ := ⟨2, ![1024, w]⟩) 0 a b h (ix2 R C) rfl rfl
    (ix2 ⟨R.val - 32768, by omega⟩ C) (fun x hx => match x with | ⟨0, _⟩ => absurd rfl hx | ⟨1, _⟩ => rfl)
    (by show R.val - 32768 + 32768 = R.val; omega)

/-- An array beside itself along the last axis, read at either copy. -/
theorem twice_apply {n : ℕ} (k : FVec Ideal ⟨4, ![4, n, 4, 64]⟩ .f32) (h) (b : Fin 4) (r : Fin n) (g : Fin 4) (p : Fin 2) (e : Fin 64)
    (l : Fin 128) (hl : l.val = p.val * 64 + e.val) :
    concatenate ⟨4, ![4, n, 4, 128]⟩ 3 [⟨⟨4, ![4, n, 4, 64]⟩, k⟩, ⟨⟨4, ![4, n, 4, 64]⟩, k⟩] h (ix4 b r g l) = k (ix4 b r g e) := by
  match p with
  | ⟨0, _⟩ =>
    exact concatenate_pair_apply_left (t := ⟨4, ![4, n, 4, 128]⟩) (s₁ := ⟨4, ![4, n, 4, 64]⟩) (s₂ := ⟨4, ![4, n, 4, 64]⟩) 3 k k h _ rfl
      (ix4 b r g e) (fun x => match x with
        | ⟨0, _⟩ => rfl | ⟨1, _⟩ => rfl | ⟨2, _⟩ => rfl | ⟨3, _⟩ => by show e.val = l.val; rw [hl]; show _ = 0 * 64 + e.val; omega)
  | ⟨1, _⟩ =>
    exact concatenate_pair_apply_right (t := ⟨4, ![4, n, 4, 128]⟩) (s₁ := ⟨4, ![4, n, 4, 64]⟩) (s₂ := ⟨4, ![4, n, 4, 64]⟩) 3 k k h _ rfl rfl
      (ix4 b r g e) (fun x hx => match x with
        | ⟨0, _⟩ => rfl | ⟨1, _⟩ => rfl | ⟨2, _⟩ => rfl | ⟨3, _⟩ => absurd rfl hx)
      (by show e.val + 64 = l.val; rw [hl]; show _ = 1 * 64 + e.val; omega)

/-- A latent query row of the kernel's queries. -/
theorem hostQ_lat (q : FVec Ideal S4x8192x16x64 .f32) (qc : FVec Ideal S4x256x16x64 .f32) (R : Fin 33792) (C : Fin 1024)
    (b : Fin 4) (n : Fin 8192) (h : Fin 16) (e : Fin 64) (hR : R.val = b.val * 8192 + n.val) (hC : C.val = h.val * 64 + e.val) :
    hostQ q qc (ix2 R C) = (q (ix4 b n h e) : EReal) * ((1 / 8 : ℝ) : EReal) := by
  rw [← ofBits_eighth]
  unfold hostQ
  refine congrArg (fun x : EReal => x * _) ?_
  refine (cat_lo (w := 1024) _ _ concatenates_S32768x1024_S1024x1024_S33792x1024_d0 R C (by omega)).trans ?_
  refine shapeCast_apply (t := S32768x1024) (s := S4x8192x16x64) _ _ _ _ ?_
  rw [Shape.rowMajor_val_four, Shape.rowMajor_val_two]
  show ((b.val * 8192 + n.val) * 16 + h.val) * 64 + e.val = R.val * 1024 + C.val
  omega

/-- A context query row of the kernel's queries. -/
theorem hostQ_ctx (q : FVec Ideal S4x8192x16x64 .f32) (qc : FVec Ideal S4x256x16x64 .f32) (R : Fin 33792) (C : Fin 1024)
    (b : Fin 4) (n : Fin 256) (h : Fin 16) (e : Fin 64) (hR : R.val = 32768 + b.val * 256 + n.val) (hC : C.val = h.val * 64 + e.val) :
    hostQ q qc (ix2 R C) = (qc (ix4 b n h e) : EReal) * ((1 / 8 : ℝ) : EReal) := by
  rw [← ofBits_eighth]
  unfold hostQ
  refine congrArg (fun x : EReal => x * _) ?_
  refine (cat_hi (w := 1024) _ _ concatenates_S32768x1024_S1024x1024_S33792x1024_d0 R C (by omega)).trans ?_
  refine shapeCast_apply (t := S1024x1024) (s := S4x256x16x64) _ _ _ _ ?_
  rw [Shape.rowMajor_val_four, Shape.rowMajor_val_two]
  show ((b.val * 256 + n.val) * 16 + h.val) * 64 + e.val = (R.val - 32768) * 1024 + C.val
  omega

/-- A latent row of the kernel's keys. -/
theorem hostK_lat (k : FVec Ideal S4x8192x4x64 .f32) (kc : FVec Ideal S4x256x4x64 .f32) (R : Fin 33792) (C : Fin 512)
    (b : Fin 4) (n : Fin 8192) (g : Fin 4) (p : Fin 2) (e : Fin 64) (hR : R.val = b.val * 8192 + n.val)
    (hC : C.val = g.val * 128 + p.val * 64 + e.val) :
    hostK k kc (ix2 R C) = k (ix4 b n g e) := by
  unfold hostK
  refine (cat_lo (w := 512) _ _ concatenates_S32768x512_S1024x512_S33792x512_d0 R C (by omega)).trans ?_
  refine (shapeCast_apply (t := S32768x512) (s := S4x8192x4x128) _ _ _ (ix4 b n g ⟨p.val * 64 + e.val, by omega⟩) ?_).trans ?_
  · rw [Shape.rowMajor_val_four, Shape.rowMajor_val_two]
    show ((b.val * 8192 + n.val) * 4 + g.val) * 128 + (p.val * 64 + e.val) = R.val * 512 + C.val
    omega
  · exact twice_apply (n := 8192) _ _ b n g p e _ rfl

/-- A context row of the kernel's keys. -/
theorem hostK_ctx (k : FVec Ideal S4x8192x4x64 .f32) (kc : FVec Ideal S4x256x4x64 .f32) (R : Fin 33792) (C : Fin 512)
    (b : Fin 4) (n : Fin 256) (g : Fin 4) (p : Fin 2) (e : Fin 64) (hR : R.val = 32768 + b.val * 256 + n.val)
    (hC : C.val = g.val * 128 + p.val * 64 + e.val) :
    hostK k kc (ix2 R C) = kc (ix4 b n g e) := by
  unfold hostK
  refine (cat_hi (w := 512) _ _ concatenates_S32768x512_S1024x512_S33792x512_d0 R C (by omega)).trans ?_
  refine (shapeCast_apply (t := S1024x512) (s := S4x256x4x128) _ _ _ (ix4 b n g ⟨p.val * 64 + e.val, by omega⟩) ?_).trans ?_
  · rw [Shape.rowMajor_val_four, Shape.rowMajor_val_two]
    show ((b.val * 256 + n.val) * 4 + g.val) * 128 + (p.val * 64 + e.val) = (R.val - 32768) * 512 + C.val
    omega
  · exact twice_apply (n := 256) _ _ b n g p e _ rfl

end Cert.KernelIdeal.Hd

end
-- ==== Proof.Index.lean ====
module
public import proofs.«01_k».proof.Proof.Gen.KernelIdeal
public import Idealize.ShloMosaic.Lib.Pipeline.Value

@[expose] public section

/-! Which block of its array each window of the attention call holds at each point of the grid: point `t` is batch
`t / 66` and step `t % 66`; the first 64 steps are blocks of the sequence, the last two of the context. -/

noncomputable section

namespace Cert.KernelIdeal.Hd

open Cert.KernelIdeal Cert.KernelIdeal.Gen Idealize.ShloMosaic Idealize.ShloMosaic.TcCoe

/-- The two coordinates of a point. -/
theorem coords0 : ∀ t : Fin cfg0.N, (grid0.coords t 0).val = t.val / 66 ∧ (grid0.coords t 1).val = t.val % 66 := by decide +kernel
/-- Block index of window 1. -/
theorem idx1 : ∀ t : Fin cfg0.N, win0_1.index t 0 = (if t.val % 66 < 64 then t.val / 66 * 64 + t.val % 66 else 256 + t.val / 66 * 2 + (t.val % 66 - 64)) ∧ win0_1.index t 1 = 0 := by decide +kernel
/-- Block index of window 2. -/
theorem idx2 : ∀ t : Fin cfg0.N, win0_2.index t 0 = t.val / 66 * 64 + ((if t.val % 66 < 64 then t.val % 66 else 0) - 1) ∧ win0_2.index t 1 = 0 := by decide +kernel
/-- Block index of window 3. -/
theorem idx3 : ∀ t : Fin cfg0.N, win0_3.index t 0 = t.val / 66 * 64 + (if t.val % 66 < 64 then t.val % 66 else 0) ∧ win0_3.index t 1 = 0 := by decide +kernel
/-- Block index of window 4. -/
theorem idx4 : ∀ t : Fin cfg0.N, win0_4.index t 0 = t.val / 66 * 64 + min 63 ((if t.val % 66 < 64 then t.val % 66 else 0) + 1) ∧ win0_4.index t 1 = 0 := by decide +kernel
/-- Block index of window 5. -/
theorem idx5 : ∀ t : Fin cfg0.N, win0_5.index t 0 = 128 + t.val / 66 ∧ win0_5.index t 1 = 0 := by decide +kernel
/-- Block index of window 6. -/
theorem idx6 : ∀ t : Fin cfg0.N, win0_6.index t 0 = t.val / 66 * 64 + ((if t.val % 66 < 64 then t.val % 66 else 0) - 1) ∧ win0_6.index t 1 = 0 := by decide +kernel
/-- Block index of window 7. -/
theorem idx7 : ∀ t : Fin cfg0.N, win0_7.index t 0 = t.val / 66 * 64 + (if t.val % 66 < 64 then t.val % 66 else 0) ∧ win0_7.index t 1 = 0 := by decide +kernel
/-- Block index of window 8. -/
theorem idx8 : ∀ t : Fin cfg0.N, win0_8.index t 0 = t.val / 66 * 64 + min 63 ((if t.val % 66 < 64 then t.val % 66 else 0) + 1) ∧ win0_8.index t 1 = 0 := by decide +kernel
/-- Block index of window 9. -/
theorem idx9 : ∀ t : Fin cfg0.N, win0_9.index t 0 = 128 + t.val / 66 ∧ win0_9.index t 1 = 0 := by decide +kernel
/-- Block index of window 10. -/
theorem idx10 : ∀ t : Fin cfg0.N, win0_10.index t 0 = (if t.val % 66 < 64 then t.val / 66 * 64 + t.val % 66 else 256 + t.val / 66 * 2 + (t.val % 66 - 64)) ∧ win0_10.index t 1 = 0 := by decide +kernel

end Cert.KernelIdeal.Hd

end
-- ==== Proof.Blocks.lean ====
module
public import proofs.«01_k».proof.Proof.Index
public import proofs.«01_k».proof.Proof.Host

@[expose] public section

/-! The blocks the windows of the attention call hold, row by row of the arrays they are blocks of. -/

noncomputable section

namespace Cert.KernelIdeal.Hd

open Cert.KernelIdeal Cert.KernelIdeal.Gen Idealize.ShloMosaic Idealize.ShloMosaic.TcCoe Idealize.ShloMosaic.Pipeline

variable (m : (ℓ : Loc nD τ sig) → Buf (Elt Ideal) ℓ)

/-- An index of rank two is its two coordinates. -/
theorem idx_eq_ix2 {a b : ℕ} (y : Shape.Idx ⟨2, ![a, b]⟩) (R : Fin a) (C : Fin b) (h0 : (y 0).val = R.val) (h1 : (y 1).val = C.val) :
    y = ix2 R C := by
  rw [eq_ix2 y]
  exact congrArg₂ ix2 (Fin.ext h0) (Fin.ext h1)

/-- An index of rank one is its coordinate. -/
theorem idx_eq_ix1 {a : ℕ} (y : Shape.Idx ⟨1, ![a]⟩) (R : Fin a) (h0 : (y 0).val = R.val) : y = ix1 R := by
  rw [eq_ix1 y]
  exact congrArg ix1 (Fin.ext h0)

/-- Window 1's block of an array at a point, row by row. -/
theorem read1 (X : FVec Ideal S33792x1024 .bf16) (t : Fin cfg0.N) (r : Fin 128) (C : Fin 1024) (R : Fin 33792) (hR : R.val = win0_1.index t 0 * 128 + r.val) :
    (((cfg0.win 1).blk t).view.read (Elt Ideal) X : Vec Ideal S128x1024 .bf16) (ix2 r C) = X (ix2 R C) := by
  have h0 : ((win0_1.rect t).emb (ix2 r C) 0 : Nat) = win0_1.index t 0 * 128 + r.val := Window.rect_emb_val win0_1 t (ix2 r C) 0
  have h1 : ((win0_1.rect t).emb (ix2 r C) 1 : Nat) = win0_1.index t 1 * 1024 + C.val := Window.rect_emb_val win0_1 t (ix2 r C) 1
  rw [(idx1 t).2] at h1
  exact congrArg X (idx_eq_ix2 _ R C (h0.trans hR.symm) (h1.trans (by rw [Nat.zero_mul, Nat.zero_add])))

/-- Window 2's block of an array at a point, row by row. -/
theorem read2 (X : FVec Ideal S33792x512 .bf16) (t : Fin cfg0.N) (r : Fin 128) (C : Fin 512) (R : Fin 33792) (hR : R.val = win0_2.index t 0 * 128 + r.val) :
    (((cfg0.win 2).blk t).view.read (Elt Ideal) X : Vec Ideal S128x512 .bf16) (ix2 r C) = X (ix2 R C) := by
  have h0 : ((win0_2.rect t).emb (ix2 r C) 0 : Nat) = win0_2.index t 0 * 128 + r.val := Window.rect_emb_val win0_2 t (ix2 r C) 0
  have h1 : ((win0_2.rect t).emb (ix2 r C) 1 : Nat) = win0_2.index t 1 * 512 + C.val := Window.rect_emb_val win0_2 t (ix2 r C) 1
  rw [(idx2 t).2] at h1
  exact congrArg X (idx_eq_ix2 _ R C (h0.trans hR.symm) (h1.trans (by rw [Nat.zero_mul, Nat.zero_add])))

/-- Window 3's block of an array at a point, row by row. -/
theorem read3 (X : FVec Ideal S33792x512 .bf16) (t : Fin cfg0.N) (r : Fin 128) (C : Fin 512) (R : Fin 33792) (hR : R.val = win0_3.index t 0 * 128 + r.val) :
    (((cfg0.win 3).blk t).view.read (Elt Ideal) X : Vec Ideal S128x512 .bf16) (ix2 r C) = X (ix2 R C) := by
  have h0 : ((win0_3.rect t).emb (ix2 r C) 0 : Nat) = win0_3.index t 0 * 128 + r.val := Window.rect_emb_val win0_3 t (ix2 r C) 0
  have h1 : ((win0_3.rect t).emb (ix2 r C) 1 : Nat) = win0_3.index t 1 * 512 + C.val := Window.rect_emb_val win0_3 t (ix2 r C) 1
  rw [(idx3 t).2] at h1
  exact congrArg X (idx_eq_ix2 _ R C (h0.trans hR.symm) (h1.trans (by rw [Nat.zero_mul, Nat.zero_add])))

/-- Window 4's block of an array at a point, row by row. -/
theorem read4 (X : FVec Ideal S33792x512 .bf16) (t : Fin cfg0.N) (r : Fin 128) (C : Fin 512) (R : Fin 33792) (hR : R.val = win0_4.index t 0 * 128 + r.val) :
    (((cfg0.win 4).blk t).view.read (Elt Ideal) X : Vec Ideal S128x512 .bf16) (ix2 r C) = X (ix2 R C) := by
  have h0 : ((win0_4.rect t).emb (ix2 r C) 0 : Nat) = win0_4.index t 0 * 128 + r.val := Window.rect_emb_val win0_4 t (ix2 r C) 0
  have h1 : ((win0_4.rect t).emb (ix2 r C) 1 : Nat) = win0_4.index t 1 * 512 + C.val := Window.rect_emb_val win0_4 t (ix2 r C) 1
  rw [(idx4 t).2] at h1
  exact congrArg X (idx_eq_ix2 _ R C (h0.trans hR.symm) (h1.trans (by rw [Nat.zero_mul, Nat.zero_add])))

/-- Window 5's block of an array at a point, row by row. -/
theorem read5 (X : FVec Ideal S33792x512 .bf16) (t : Fin cfg0.N) (r : Fin 256) (C : Fin 512) (R : Fin 33792) (hR : R.val = win0_5.index t 0 * 256 + r.val) :
    (((cfg0.win 5).blk t).view.read (Elt Ideal) X : Vec Ideal S256x512 .bf16) (ix2 r C) = X (ix2 R C) := by
  have h0 : ((win0_5.rect t).emb (ix2 r C) 0 : Nat) = win0_5.index t 0 * 256 + r.val := Window.rect_emb_val win0_5 t (ix2 r C) 0
  have h1 : ((win0_5.rect t).emb (ix2 r C) 1 : Nat) = win0_5.index t 1 * 512 + C.val := Window.rect_emb_val win0_5 t (ix2 r C) 1
  rw [(idx5 t).2] at h1
  exact congrArg X (idx_eq_ix2 _ R C (h0.trans hR.symm) (h1.trans (by rw [Nat.zero_mul, Nat.zero_add])))

/-- Window 6's block of an array at a point, row by row. -/
theorem read6 (X : FVec Ideal S33792x512 .bf16) (t : Fin cfg0.N) (r : Fin 128) (C : Fin 512) (R : Fin 33792) (hR : R.val = win0_6.index t 0 * 128 + r.val) :
    (((cfg0.win 6).blk t).view.read (Elt Ideal) X : Vec Ideal S128x512 .bf16) (ix2 r C) = X (ix2 R C) := by
  have h0 : ((win0_6.rect t).emb (ix2 r C) 0 : Nat) = win0_6.index t 0 * 128 + r.val := Window.rect_emb_val win0_6 t (ix2 r C) 0
  have h1 : ((win0_6.rect t).emb (ix2 r C) 1 : Nat) = win0_6.index t 1 * 512 + C.val := Window.rect_emb_val win0_6 t (ix2 r C) 1
  rw [(idx6 t).2] at h1
  exact congrArg X (idx_eq_ix2 _ R C (h0.trans hR.symm) (h1.trans (by rw [Nat.zero_mul, Nat.zero_add])))

/-- Window 7's block of an array at a point, row by row. -/
theorem read7 (X : FVec Ideal S33792x512 .bf16) (t : Fin cfg0.N) (r : Fin 128) (C : Fin 512) (R : Fin 33792) (hR : R.val = win0_7.index t 0 * 128 + r.val) :
    (((cfg0.win 7).blk t).view.read (Elt Ideal) X : Vec Ideal S128x512 .bf16) (ix2 r C) = X (ix2 R C) := by
  have h0 : ((win0_7.rect t).emb (ix2 r C) 0 : Nat) = win0_7.index t 0 * 128 + r.val := Window.rect_emb_val win0_7 t (ix2 r C) 0
  have h1 : ((win0_7.rect t).emb (ix2 r C) 1 : Nat) = win0_7.index t 1 * 512 + C.val := Window.rect_emb_val win0_7 t (ix2 r C) 1
  rw [(idx7 t).2] at h1
  exact congrArg X (idx_eq_ix2 _ R C (h0.trans hR.symm) (h1.trans (by rw [Nat.zero_mul, Nat.zero_add])))

/-- Window 8's block of an array at a point, row by row. -/
theorem read8 (X : FVec Ideal S33792x512 .bf16) (t : Fin cfg0.N) (r : Fin 128) (C : Fin 512) (R : Fin 33792) (hR : R.val = win0_8.index t 0 * 128 + r.val) :
    (((cfg0.win 8).blk t).view.read (Elt Ideal) X : Vec Ideal S128x512 .bf16) (ix2 r C) = X (ix2 R C) := by
  have h0 : ((win0_8.rect t).emb (ix2 r C) 0 : Nat) = win0_8.index t 0 * 128 + r.val := Window.rect_emb_val win0_8 t (ix2 r C) 0
  have h1 : ((win0_8.rect t).emb (ix2 r C) 1 : Nat) = win0_8.index t 1 * 512 + C.val := Window.rect_emb_val win0_8 t (ix2 r C) 1
  rw [(idx8 t).2] at h1
  exact congrArg X (idx_eq_ix2 _ R C (h0.trans hR.symm) (h1.trans (by rw [Nat.zero_mul, Nat.zero_add])))

/-- Window 9's block of an array at a point, row by row. -/
theorem read9 (X : FVec Ideal S33792x512 .bf16) (t : Fin cfg0.N) (r : Fin 256) (C : Fin 512) (R : Fin 33792) (hR : R.val = win0_9.index t 0 * 256 + r.val) :
    (((cfg0.win 9).blk t).view.read (Elt Ideal) X : Vec Ideal S256x512 .bf16) (ix2 r C) = X (ix2 R C) := by
  have h0 : ((win0_9.rect t).emb (ix2 r C) 0 : Nat) = win0_9.index t 0 * 256 + r.val := Window.rect_emb_val win0_9 t (ix2 r C) 0
  have h1 : ((win0_9.rect t).emb (ix2 r C) 1 : Nat) = win0_9.index t 1 * 512 + C.val := Window.rect_emb_val win0_9 t (ix2 r C) 1
  rw [(idx9 t).2] at h1
  exact congrArg X (idx_eq_ix2 _ R C (h0.trans hR.symm) (h1.trans (by rw [Nat.zero_mul, Nat.zero_add])))

/-- Window 1 is a window of `main_v5`. -/
theorem arr1 (c : Dev nD) (t : Fin cfg0.N) : iblk m c 1 t = ((cfg0.win 1).blk t).view.read (Elt Ideal) (V m c main_v5) := rfl

/-- Window 2 is a window of `main_v11`. -/
theorem arr2 (c : Dev nD) (t : Fin cfg0.N) : iblk m c 2 t = ((cfg0.win 2).blk t).view.read (Elt Ideal) (V m c main_v11) := rfl

/-- Window 3 is a window of `main_v11`. -/
theorem arr3 (c : Dev nD) (t : Fin cfg0.N) : iblk m c 3 t = ((cfg0.win 3).blk t).view.read (Elt Ideal) (V m c main_v11) := rfl

/-- Window 4 is a window of `main_v11`. -/
theorem arr4 (c : Dev nD) (t : Fin cfg0.N) : iblk m c 4 t = ((cfg0.win 4).blk t).view.read (Elt Ideal) (V m c main_v11) := rfl

/-- Window 5 is a window of `main_v11`. -/
theorem arr5 (c : Dev nD) (t : Fin cfg0.N) : iblk m c 5 t = ((cfg0.win 5).blk t).view.read (Elt Ideal) (V m c main_v11) := rfl

/-- Window 6 is a window of `main_v17`. -/
theorem arr6 (c : Dev nD) (t : Fin cfg0.N) : iblk m c 6 t = ((cfg0.win 6).blk t).view.read (Elt Ideal) (V m c main_v17) := rfl

/-- Window 7 is a window of `main_v17`. -/
theorem arr7 (c : Dev nD) (t : Fin cfg0.N) : iblk m c 7 t = ((cfg0.win 7).blk t).view.read (Elt Ideal) (V m c main_v17) := rfl

/-- Window 8 is a window of `main_v17`. -/
theorem arr8 (c : Dev nD) (t : Fin cfg0.N) : iblk m c 8 t = ((cfg0.win 8).blk t).view.read (Elt Ideal) (V m c main_v17) := rfl

/-- Window 9 is a window of `main_v17`. -/
theorem arr9 (c : Dev nD) (t : Fin cfg0.N) : iblk m c 9 t = ((cfg0.win 9).blk t).view.read (Elt Ideal) (V m c main_v17) := rfl

/-- The sinks are given whole at every point. -/
theorem iblk0 (c : Dev nD) (t : Fin cfg0.N) (h : Fin 16) :
    (iblk m c 0 t : Vec Ideal S16 .f32) (ix1 h) = (m ((c : Thread nD τ).loc main_arg6) : FVec Ideal S16 .f32) (ix1 h) := by
  have h0 : ((win0_0.rect t).emb (ix1 h) 0 : Nat) = h.val := Window.rect_emb_val_of_index_zero win0_0 t 0 rfl (ix1 h)
  rw [iblk, View.read_apply]
  show V m c main_arg6 ((win0_0.rect t).emb (ix1 h)) = _
  rw [V_main_arg6]
  exact congrArg (m ((c : Thread nD τ).loc main_arg6)) (idx_eq_ix1 _ h h0)

end Cert.KernelIdeal.Hd

end
-- ==== Proof.Array.lean ====
module
public import proofs.«01_k».proof.Proof.Out
public import proofs.«01_k».proof.Proof.Host
public import proofs.«01_k».proof.Proof.Blocks

@[expose] public section

/-! The whole result array of the attention call: every block the grid writes is the block of one function of
the arguments, so the array is that function. -/

noncomputable section

namespace Cert.KernelIdeal.Hd

open Cert.KernelIdeal Cert.KernelIdeal.Gen Idealize.ShloMosaic Idealize.ShloMosaic.TcCoe Idealize.ShloMosaic.Tactic Idealize.SL.Sem Idealize.ShloMosaic.Pipeline
open Cert.Att
open scoped BigOperators

variable (m : (ℓ : Loc nD τ sig) → Buf (Elt Ideal) ℓ)

/-- Key head of a query head. -/
abbrev kvh (h : Fin 16) : Fin 4 := ⟨h.val / 4, by omega⟩

/-- Sequence position `n` attends to position `j` when they are at most 128 apart. -/
def near (n j : Fin 8192) : Prop := n.val ≤ j.val + 128 ∧ j.val ≤ n.val + 128
instance (n j : Fin 8192) : Decidable (near n j) := by unfold near; infer_instance

/-- A score: the dot product of a key with a query, times `1/8`. -/
def score {s s' : Shape} (k : s.Idx → EReal) (q : s'.Idx → EReal) (ik : Fin 64 → s.Idx) (iq : Fin 64 → s'.Idx) : EReal :=
  (∑ e : Fin 64, k (ik e) * q (iq e)) * (((1 / 8 : ℝ) : ℝ) : EReal)

/-- The attention of sequence position `n`: over the positions near it, every context key and the head's sink. -/
def latOut (q : FVec Ideal S4x8192x16x64 .f32) (k v : FVec Ideal S4x8192x4x64 .f32) (kc vc : FVec Ideal S4x256x4x64 .f32)
    (sink : FVec Ideal S16 .f32) (b : Fin 4) (n : Fin 8192) (h : Fin 16) (d : Fin 64) : EReal :=
  att (fun j : Fin 8192 => if near n j then score k q (fun e => ix4 b j (kvh h) e) (fun e => ix4 b n h e) else ⊥)
    (fun j => v (ix4 b j (kvh h) d))
    (fun j : Fin 256 => score kc q (fun e => ix4 b j (kvh h) e) (fun e => ix4 b n h e))
    (fun j => vc (ix4 b j (kvh h) d)) (sink (ix1 h))

/-- The attention of context token `n`: over every context key and the head's sink (no key of the sequence). -/
def ctxOut (qc : FVec Ideal S4x256x16x64 .f32) (kc vc : FVec Ideal S4x256x4x64 .f32)
    (sink : FVec Ideal S16 .f32) (b : Fin 4) (n : Fin 256) (h : Fin 16) (d : Fin 64) : EReal :=
  att (fun _ : Fin 0 => ⊥) (fun _ => 0)
    (fun j : Fin 256 => score kc qc (fun e => ix4 b j (kvh h) e) (fun e => ix4 b n h e))
    (fun j => vc (ix4 b j (kvh h) d)) (sink (ix1 h))

/-- The result array: the sequence's rows of the four batches, then the context's. -/
def result (q : FVec Ideal S4x8192x16x64 .f32) (k v : FVec Ideal S4x8192x4x64 .f32) (qc : FVec Ideal S4x256x16x64 .f32)
    (kc vc : FVec Ideal S4x256x4x64 .f32) (sink : FVec Ideal S16 .f32) : FVec Ideal S33792x1024 .bf16 := fun y =>
  have h0 : (y 0).val < 33792 := (y 0).isLt
  have h1 : (y 1).val < 1024 := (y 1).isLt
  if hy : (y 0).val < 32768 then
    latOut q k v kc vc sink ⟨(y 0).val / 8192, by omega⟩ ⟨(y 0).val % 8192, by omega⟩ ⟨(y 1).val / 64, by omega⟩ ⟨(y 1).val % 64, by omega⟩
  else
    ctxOut qc kc vc sink ⟨((y 0).val - 32768) / 256, by omega⟩ ⟨((y 0).val - 32768) % 256, by omega⟩ ⟨(y 1).val / 64, by omega⟩ ⟨(y 1).val % 64, by omega⟩

/-- A scaled query times a key is the score. -/
theorem score_eq {s s' : Shape} (k : s.Idx → EReal) (q : s'.Idx → EReal) (ik : Fin 64 → s.Idx) (iq : Fin 64 → s'.Idx)
    (a c : Fin 64 → EReal) (ha : ∀ e, a e = q (iq e) * (((1 / 8 : ℝ) : ℝ) : EReal)) (hc : ∀ e, c e = k (ik e)) :
    ∑ e : Fin 64, a e * c e = score k q ik iq := by
  unfold score
  rw [← sum_mul_scale (fun e => q (iq e)) (fun e => k (ik e)) (1 / 8) (by norm_num)]
  exact Finset.sum_congr rfl fun e _ => by rw [ha, hc]

/-- A block of the sequence: given the query rows of step `s` of batch `b` and, wherever the window is not masked, the
    keys and values at positions `s * 128 + kk - 128`, the body computes those positions' attention. -/
theorem blkOut_lat (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16)
    (q : FVec Ideal S4x8192x16x64 .f32) (k v : FVec Ideal S4x8192x4x64 .f32)
    (kc vc : FVec Ideal S4x256x4x64 .f32) (sink : FVec Ideal S16 .f32) (b : Fin 4) (s : ℕ) (hs : s < 64) (hi : (i 1).val = s)
    (r : Fin 128) (n : Fin 8192) (hn : n.val = s * 128 + r.val)
    (h0 : ∀ h, x0 (ix1 h) = sink (ix1 h))
    (h1 : ∀ h e, (x1 (ix2 r (hcol h e)) : EReal) = q (ix4 b n h e) * (((1 / 8 : ℝ) : ℝ) : EReal))
    (hk : ∀ (kk : Fin 384) (j : Fin 8192) h e, j.val + 128 = s * 128 + kk.val → kcat x2 x3 x4 kk (gcol h e) = k (ix4 b j (kvh h) e))
    (hv : ∀ (kk : Fin 384) (j : Fin 8192) h e, j.val + 128 = s * 128 + kk.val → kcat x6 x7 x8 kk (gcol h e) = v (ix4 b j (kvh h) e))
    (h5 : ∀ kk h e, x5 (ix2 kk (gcol h e)) = kc (ix4 b kk (kvh h) e))
    (h9 : ∀ kk h e, x9 (ix2 kk (gcol h e)) = vc (ix4 b kk (kvh h) e)) (h : Fin 16) (d : Fin 64) :
    blkOut i x0 x1 x2 x3 x4 x5 x6 x7 x8 x9 r h d = latOut q k v kc vc sink b n h d := by
  have hf : ∀ kk : Fin 384, valid i r kk → 128 ≤ s * 128 + kk.val ∧ s * 128 + kk.val - 128 < 8192 := by
    intro kk hv
    obtain ⟨e1, e2, e3, e4, e5⟩ := hv
    rw [hi] at e3 e4
    have := kk.isLt
    constructor <;> omega
  unfold blkOut latOut
  rw [h0, show (fun kk : Fin 256 => ∑ e : Fin 64, (x1 (ix2 r (hcol h e)) : EReal) * x5 (ix2 kk (gcol h e)))
      = fun j : Fin 256 => score kc q (fun e => ix4 b j (kvh h) e) (fun e => ix4 b n h e) from
    funext fun j => score_eq kc q _ _ _ _ (fun e => h1 h e) (fun e => h5 j h e),
    show (fun kk => x9 (ix2 kk (gcol h d))) = fun j => vc (ix4 b j (kvh h) d) from funext fun j => h9 j h d]
  refine att_eq_of_onto (valid i r) (near n) (fun kk => ⟨(s * 128 + kk.val - 128) % 8192, Nat.mod_lt _ (by norm_num)⟩)
    _ _ _ _ _ _ _ (fun kk hkk => ?_) (fun j hj => if_neg hj) (fun kk hkk => ?_) (fun a c ha hc hac => ?_) (fun j hj => ?_) (fun kk hkk => ?_) (fun kk hkk => ?_)
  · rw [if_neg hkk, EReal.add_bot]
  · obtain ⟨e1, e2⟩ := hf kk hkk
    obtain ⟨e3, e4, -⟩ := hkk
    show n.val ≤ (s * 128 + kk.val - 128) % 8192 + 128 ∧ (s * 128 + kk.val - 128) % 8192 ≤ n.val + 128
    omega
  · obtain ⟨e1, e2⟩ := hf a ha
    obtain ⟨e3, e4⟩ := hf c hc
    have e5 : (s * 128 + a.val - 128) % 8192 = (s * 128 + c.val - 128) % 8192 := congrArg Fin.val hac
    exact Fin.ext (by omega)
  · obtain ⟨e1, e2⟩ := hj
    have := j.isLt
    have := r.isLt
    refine ⟨⟨j.val + 128 - s * 128, by omega⟩, ⟨?_, ?_, ?_, ?_, ?_⟩, Fin.ext ?_⟩
    · show r.val ≤ j.val + 128 - s * 128; omega
    · show j.val + 128 - s * 128 ≤ r.val + 256; omega
    · show 0 < (i 1).val ∨ 128 ≤ j.val + 128 - s * 128; omega
    · show (i 1).val < 63 ∨ j.val + 128 - s * 128 < 256; omega
    · omega
    · show (s * 128 + (j.val + 128 - s * 128) - 128) % 8192 = j.val; omega
  · obtain ⟨e1, e2⟩ := hf kk hkk
    have hj : (s * 128 + kk.val - 128) % 8192 + 128 = s * 128 + kk.val := by omega
    have hnear : near n ⟨(s * 128 + kk.val - 128) % 8192, Nat.mod_lt _ (by norm_num)⟩ := by
      obtain ⟨e3, e4, -⟩ := hkk
      show n.val ≤ (s * 128 + kk.val - 128) % 8192 + 128 ∧ (s * 128 + kk.val - 128) % 8192 ≤ n.val + 128
      omega
    rw [if_pos hkk, add_zero, if_pos hnear]
    exact score_eq k q _ _ _ _ (fun e => h1 h e) (fun e => hk kk _ h e hj)
  · obtain ⟨e1, e2⟩ := hf kk hkk
    exact hv kk _ h d (by show (s * 128 + kk.val - 128) % 8192 + 128 = s * 128 + kk.val; omega)

/-- A block of the context: every key of the window is masked, so the body computes the attention over the context
    keys alone. -/
theorem blkOut_ctx (i : grid0.Coords) (x0 : Vec Ideal S16 .f32) (x1 : Vec Ideal S128x1024 .bf16) (x2 : Vec Ideal S128x512 .bf16) (x3 : Vec Ideal S128x512 .bf16) (x4 : Vec Ideal S128x512 .bf16) (x5 : Vec Ideal S256x512 .bf16) (x6 : Vec Ideal S128x512 .bf16) (x7 : Vec Ideal S128x512 .bf16) (x8 : Vec Ideal S128x512 .bf16) (x9 : Vec Ideal S256x512 .bf16)
    (qc : FVec Ideal S4x256x16x64 .f32)
    (kc vc : FVec Ideal S4x256x4x64 .f32) (sink : FVec Ideal S16 .f32) (b : Fin 4) (hi : 64 ≤ (i 1).val)
    (r : Fin 128) (n : Fin 256)
    (h0 : ∀ h, x0 (ix1 h) = sink (ix1 h))
    (h1 : ∀ h e, (x1 (ix2 r (hcol h e)) : EReal) = qc (ix4 b n h e) * (((1 / 8 : ℝ) : ℝ) : EReal))
    (h5 : ∀ kk h e, x5 (ix2 kk (gcol h e)) = kc (ix4 b kk (kvh h) e))
    (h9 : ∀ kk h e, x9 (ix2 kk (gcol h e)) = vc (ix4 b kk (kvh h) e)) (h : Fin 16) (d : Fin 64) :
    blkOut i x0 x1 x2 x3 x4 x5 x6 x7 x8 x9 r h d = ctxOut qc kc vc sink b n h d := by
  have hf : ∀ kk : Fin 384, ¬valid i r kk := fun kk hv => by
    obtain ⟨-, -, -, -, e5⟩ := hv
    omega
  unfold blkOut ctxOut
  rw [h0, show (fun kk : Fin 256 => ∑ e : Fin 64, (x1 (ix2 r (hcol h e)) : EReal) * x5 (ix2 kk (gcol h e)))
      = fun j : Fin 256 => score kc qc (fun e => ix4 b j (kvh h) e) (fun e => ix4 b n h e) from
    funext fun j => score_eq kc qc _ _ _ _ (fun e => h1 h e) (fun e => h5 j h e),
    show (fun kk => x9 (ix2 kk (gcol h d))) = fun j => vc (ix4 b j (kvh h) d) from funext fun j => h9 j h d]
  exact att_eq_of_none _ _ _ _ _ _ _ (fun kk => by rw [if_neg (hf kk), EReal.add_bot]) (fun _ => rfl)

end Cert.KernelIdeal.Hd

end
-- ==== Proof.Final.lean ====
module
public import proofs.«01_k».proof.Proof.Array
public import proofs.«01_k».proof.Proof.Gen.KernelIdeal.Value

@[expose] public section

/-! The attention call's result array is `result` of its arguments: each point of the grid writes its block of it, and
the blocks cover the array. -/

noncomputable section

namespace Cert.KernelIdeal.Hd

open Cert.KernelIdeal Cert.KernelIdeal.Gen Idealize.ShloMosaic Idealize.ShloMosaic.TcCoe Idealize.ShloMosaic.Tactic Idealize.SL.Sem Idealize.ShloMosaic.Pipeline
open Cert.Att

variable (m : (ℓ : Loc nD τ sig) → Buf (Elt Ideal) ℓ)

/-- The window's three blocks under one another are 384 consecutive rows of the batch, from 128 above the query block,
    wherever those rows exist. -/
theorem kcat_read (x2 x3 x4 : Vec Ideal S128x512 .bf16) (X : FVec Ideal S33792x512 .bf16) (b s : ℕ) (hs : s < 64)
    (h2 : ∀ (r : Fin 128) (C : Fin 512) (R : Fin 33792), R.val = (b * 64 + (s - 1)) * 128 + r.val → x2 (ix2 r C) = X (ix2 R C))
    (h3 : ∀ (r : Fin 128) (C : Fin 512) (R : Fin 33792), R.val = (b * 64 + s) * 128 + r.val → x3 (ix2 r C) = X (ix2 R C))
    (h4 : ∀ (r : Fin 128) (C : Fin 512) (R : Fin 33792), R.val = (b * 64 + min 63 (s + 1)) * 128 + r.val → x4 (ix2 r C) = X (ix2 R C))
    (kk : Fin 384) (C : Fin 512) (j : Fin 8192) (R : Fin 33792) (hR : R.val = b * 8192 + j.val) (hj : j.val + 128 = s * 128 + kk.val) :
    kcat x2 x3 x4 kk C = X (ix2 R C) := by
  have := j.isLt
  have := kk.isLt
  unfold kcat
  split
  · exact h2 _ C R (by show R.val = (b * 64 + (s - 1)) * 128 + kk.val; omega)
  · split
    · exact h3 _ C R (by show R.val = (b * 64 + s) * 128 + (kk.val - 128); omega)
    · exact h4 _ C R (by show R.val = (b * 64 + min 63 (s + 1)) * 128 + (kk.val - 256); omega)

/-- The result of the call from the memory it is launched on. -/
abbrev res (c : Dev nD) : FVec Ideal S33792x1024 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

section Rows

/-- A function of four arguments at equal arguments. -/
theorem congr_four {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

variable (q : FVec Ideal S4x8192x16x64 .f32) (k v : FVec Ideal S4x8192x4x64 .f32) (qc : FVec Ideal S4x256x16x64 .f32)
  (kc vc : FVec Ideal S4x256x4x64 .f32) (sink : FVec Ideal S16 .f32)

/-- `result` at a row of the sequence. -/
theorem result_lat (R : Fin 33792) (C : Fin 1024) (b : Fin 4) (n : Fin 8192) (h : Fin 16) (d : Fin 64)
    (hR : R.val = b.val * 8192 + n.val) (hC : C.val = h.val * 64 + d.val) :
    result q k v qc kc vc sink (ix2 R C) = latOut q k v kc vc sink b n h d := by
  unfold result
  rw [dif_pos (show ((ix2 R C : S33792x1024.Idx) 0).val < 32768 by show R.val < 32768; omega)]
  exact congr_four (latOut q k v kc vc sink) (Fin.ext (by show R.val / 8192 = b.val; omega)) (Fin.ext (by show R.val % 8192 = n.val; omega))
    (Fin.ext (by show C.val / 64 = h.val; omega)) (Fin.ext (by show C.val % 64 = d.val; omega))

/-- `result` at a row of the context. -/
theorem result_ctx (R : Fin 33792) (C : Fin 1024) (b : Fin 4) (n : Fin 256) (h : Fin 16) (d : Fin 64)
    (hR : R.val = 32768 + b.val * 256 + n.val) (hC : C.val = h.val * 64 + d.val) :
    result q k v qc kc vc sink (ix2 R C) = ctxOut qc kc vc sink b n h d := by
  unfold result
  rw [dif_neg (show ¬((ix2 R C : S33792x1024.Idx) 0).val < 32768 by show ¬R.val < 32768; omega)]
  exact congr_four (ctxOut qc kc vc sink) (Fin.ext (by show (R.val - 32768) / 256 = b.val; omega)) (Fin.ext (by show (R.val - 32768) % 256 = n.val; omega))
    (Fin.ext (by show C.val / 64 = h.val; omega)) (Fin.ext (by show C.val % 64 = d.val; omega))

end Rows

/-- What the body writes at a point is that point's block of the result. -/
theorem blk_res (c : Dev nD) (t : Fin cfg0.N) (r : Fin 128) (C : Fin 1024) (R : Fin 33792) (hR : R.val = win0_10.index t 0 * 128 + r.val) :
    blkG (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r C)
      = res m c (ix2 R C) := by
  have ht : t.val < 264 := t.isLt
  have hr := r.isLt
  have hCl := C.isLt
  have e10 := (idx10 t).1
  obtain ⟨c0, c1⟩ := coords0 t
  have h0 := iblk0 m c t
  have hX1 := fun (r : Fin 128) (C : Fin 1024) (R : Fin 33792) => read1 (V m c main_v5) t r C R
  have hX2 := fun (r : Fin 128) (C : Fin 512) (R : Fin 33792) => read2 (V m c main_v11) t r C R
  have hX3 := fun (r : Fin 128) (C : Fin 512) (R : Fin 33792) => read3 (V m c main_v11) t r C R
  have hX4 := fun (r : Fin 128) (C : Fin 512) (R : Fin 33792) => read4 (V m c main_v11) t r C R
  have hX5 := fun (r : Fin 256) (C : Fin 512) (R : Fin 33792) => read5 (V m c main_v11) t r C R
  have hX6 := fun (r : Fin 128) (C : Fin 512) (R : Fin 33792) => read6 (V m c main_v17) t r C R
  have hX7 := fun (r : Fin 128) (C : Fin 512) (R : Fin 33792) => read7 (V m c main_v17) t r C R
  have hX8 := fun (r : Fin 128) (C : Fin 512) (R : Fin 33792) => read8 (V m c main_v17) t r C R
  have hX9 := fun (r : Fin 256) (C : Fin 512) (R : Fin 33792) => read9 (V m c main_v17) t r C R
  rw [← arr1] at hX1
  rw [← arr2] at hX2
  rw [← arr3] at hX3
  rw [← arr4] at hX4
  rw [← arr5] at hX5
  rw [← arr6] at hX6
  rw [← arr7] at hX7
  rw [← arr8] at hX8
  rw [← arr9] at hX9
  rw [V_v5] at hX1
  rw [V_v11] at hX2 hX3 hX4 hX5
  rw [V_v17] at hX6 hX7 hX8 hX9
  rw [(idx1 t).1] at hX1
  rw [(idx2 t).1] at hX2
  rw [(idx3 t).1] at hX3
  rw [(idx4 t).1] at hX4
  rw [(idx5 t).1] at hX5
  rw [(idx6 t).1] at hX6
  rw [(idx7 t).1] at hX7
  rw [(idx8 t).1] at hX8
  rw [(idx9 t).1] at hX9
  unfold res
  rw [e10] at hR
  generalize (iblk m c 0 t : Vec Ideal S16 .f32) = x0 at *
  generalize (iblk m c 1 t : Vec Ideal S128x1024 .bf16) = x1 at *
  generalize (iblk m c 2 t : Vec Ideal S128x512 .bf16) = x2 at *
  generalize (iblk m c 3 t : Vec Ideal S128x512 .bf16) = x3 at *
  generalize (iblk m c 4 t : Vec Ideal S128x512 .bf16) = x4 at *
  generalize (iblk m c 5 t : Vec Ideal S256x512 .bf16) = x5 at *
  generalize (iblk m c 6 t : Vec Ideal S128x512 .bf16) = x6 at *
  generalize (iblk m c 7 t : Vec Ideal S128x512 .bf16) = x7 at *
  generalize (iblk m c 8 t : Vec Ideal S128x512 .bf16) = x8 at *
  generalize (iblk m c 9 t : Vec Ideal S256x512 .bf16) = x9 at *
  have hb : t.val / 66 < 4 := by omega
  rw [blkG_eq _ _ _ _ _ _ _ _ _ _ _ (ix2 r C) r ⟨C.val / 64, by omega⟩ ⟨C.val % 64, by omega⟩ rfl (by show C.val = C.val / 64 * 64 + C.val % 64; omega)]
  have h5 : ∀ (kk : Fin 256) (h : Fin 16) (e : Fin 64), x5 (ix2 kk (gcol h e)) = (m ((c : Thread nD τ).loc main_arg4) : FVec Ideal S4x256x4x64 .f32) (ix4 ⟨t.val / 66, hb⟩ kk (kvh h) e) := fun kk h e =>
    (hX5 kk (gcol h e) ⟨(128 + t.val / 66) * 256 + kk.val, by omega⟩ rfl).trans
      (hostK_ctx _ _ _ _ ⟨t.val / 66, hb⟩ kk (kvh h) ⟨h.val % 2, by omega⟩ e (by show (128 + t.val / 66) * 256 + kk.val = 32768 + t.val / 66 * 256 + kk.val; omega) rfl)
  have h9 : ∀ (kk : Fin 256) (h : Fin 16) (e : Fin 64), x9 (ix2 kk (gcol h e)) = (m ((c : Thread nD τ).loc main_arg5) : FVec Ideal S4x256x4x64 .f32) (ix4 ⟨t.val / 66, hb⟩ kk (kvh h) e) := fun kk h e =>
    (hX9 kk (gcol h e) ⟨(128 + t.val / 66) * 256 + kk.val, by omega⟩ rfl).trans
      (hostK_ctx _ _ _ _ ⟨t.val / 66, hb⟩ kk (kvh h) ⟨h.val % 2, by omega⟩ e (by show (128 + t.val / 66) * 256 + kk.val = 32768 + t.val / 66 * 256 + kk.val; omega) rfl)
  by_cases hs : t.val % 66 < 64
  · rw [if_pos hs] at hX1 hX2 hX3 hX4 hX6 hX7 hX8 hR
    refine (blkOut_lat (grid0.coords t) x0 x1 x2 x3 x4 x5 x6 x7 x8 x9 _ _ _ _ _ _ ⟨t.val / 66, hb⟩ (t.val % 66) hs c1 r ⟨t.val % 66 * 128 + r.val, by omega⟩ rfl
      h0 (fun h e => ?_) (fun kk j h e hj => ?_) (fun kk j h e hj => ?_) h5 h9 _ _).trans
      (result_lat _ _ _ _ _ _ _ R C ⟨t.val / 66, hb⟩ _ _ _ (by show R.val = t.val / 66 * 8192 + (t.val % 66 * 128 + r.val); omega) (by show C.val = C.val / 64 * 64 + C.val % 64; omega)).symm
    · exact (hX1 r (hcol h e) R (by omega)).trans (hostQ_lat _ _ _ _ ⟨t.val / 66, hb⟩ ⟨t.val % 66 * 128 + r.val, by omega⟩ h e (by show R.val = t.val / 66 * 8192 + (t.val % 66 * 128 + r.val); omega) rfl)
    · have hjl := j.isLt
      exact (kcat_read x2 x3 x4 _ (t.val / 66) (t.val % 66) hs hX2 hX3 hX4 kk (gcol h e) j ⟨t.val / 66 * 8192 + j.val, by omega⟩ rfl hj).trans
        (hostK_lat _ _ _ _ ⟨t.val / 66, hb⟩ j (kvh h) ⟨h.val % 2, by omega⟩ e rfl rfl)
    · have hjl := j.isLt
      exact (kcat_read x6 x7 x8 _ (t.val / 66) (t.val % 66) hs hX6 hX7 hX8 kk (gcol h e) j ⟨t.val / 66 * 8192 + j.val, by omega⟩ rfl hj).trans
        (hostK_lat _ _ _ _ ⟨t.val / 66, hb⟩ j (kvh h) ⟨h.val % 2, by omega⟩ e rfl rfl)
  · rw [if_neg hs] at hX1 hR
    have hs2 : t.val % 66 < 66 := Nat.mod_lt _ (by norm_num)
    refine (blkOut_ctx (grid0.coords t) x0 x1 x2 x3 x4 x5 x6 x7 x8 x9 _ _ _ _ ⟨t.val / 66, hb⟩ (by omega) r ⟨(t.val % 66 - 64) * 128 + r.val, by omega⟩
      h0 (fun h e => ?_) h5 h9 _ _).trans
      (result_ctx _ _ _ _ _ _ _ R C ⟨t.val / 66, hb⟩ _ _ _ (by show R.val = 32768 + t.val / 66 * 256 + ((t.val % 66 - 64) * 128 + r.val); omega) (by show C.val = C.val / 64 * 64 + C.val % 64; omega)).symm
    exact (hX1 r (hcol h e) R (by omega)).trans (hostQ_ctx _ _ _ _ ⟨t.val / 66, hb⟩ ⟨(t.val % 66 - 64) * 128 + r.val, by omega⟩ h e (by show R.val = 32768 + t.val / 66 * 256 + ((t.val % 66 - 64) * 128 + r.val); omega) rfl)

/-- Window 10's block of an array at a point. -/
theorem read10 (X : FVec Ideal S33792x1024 .bf16) (t : Fin cfg0.N) (r : Fin 128) (C : Fin 1024) (R : Fin 33792) (hR : R.val = win0_10.index t 0 * 128 + r.val) :
    (((cfg0.win 10).blk t).view.read (Elt Ideal) X : Vec Ideal S128x1024 .bf16) (ix2 r C) = X (ix2 R C) := by
  have h0 : ((win0_10.rect t).emb (ix2 r C) 0 : Nat) = win0_10.index t 0 * 128 + r.val := Window.rect_emb_val win0_10 t (ix2 r C) 0
  have h1 : ((win0_10.rect t).emb (ix2 r C) 1 : Nat) = win0_10.index t 1 * 1024 + C.val := Window.rect_emb_val win0_10 t (ix2 r C) 1
  rw [(idx10 t).2] at h1
  exact congrArg X (idx_eq_ix2 _ R C (h0.trans hR.symm) (h1.trans (by rw [Nat.zero_mul, Nat.zero_add])))

/-- Every write-back writes the result's block. -/
theorem flushed_res (c : Dev nD) (t : Fin cfg0.N) :
    (dats m 0 c).flushed 10 t = ((cfg0.win 10).blk t).view.read (Elt Ideal) (res m c) := by
  rw [Value.flushed10_A]
  have key : ∀ y : S128x1024.Idx, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) y
      = (((cfg0.win 10).blk t).view.read (Elt Ideal) (res m c) : Vec Ideal S128x1024 .bf16) y := by
    intro y
    have ht : t.val < 264 := t.isLt
    have e10 := (idx10 t).1
    have hb : win0_10.index t 0 < 264 := by rw [e10]; split <;> omega
    obtain ⟨r, C, rfl⟩ : ∃ (r : Fin 128) (C : Fin 1024), y = ix2 r C := ⟨y 0, y 1, eq_ix2 y⟩
    have hr := r.isLt
    rw [out_apply, read10 (res m c) t r C ⟨win0_10.index t 0 * 128 + r.val, by omega⟩ rfl]
    exact blk_res m c t r C _ rfl
  exact funext key

/-- The blocks cover the array. -/
theorem cover_res (i : S33792x1024.Idx) : ∃ t : Fin cfg0.N, (cfg0.win 10).flush t = true ∧ i ∈ ((cfg0.win 10).blk t).view.set := by
  have h0 : (i 0).val < 33792 := (i 0).isLt
  have h1 : (i 1).val < 1024 := (i 1).isLt
  have key : ∃ t : Fin cfg0.N, win0_10.index t 0 = (i 0).val / 128 := by
    by_cases h : (i 0).val < 32768
    · refine ⟨⟨(i 0).val / 8192 * 66 + (i 0).val % 8192 / 128, by show _ < 264; omega⟩, ?_⟩
      rw [(idx10 _).1, if_pos (by show ((i 0).val / 8192 * 66 + (i 0).val % 8192 / 128) % 66 < 64; omega)]
      show ((i 0).val / 8192 * 66 + (i 0).val % 8192 / 128) / 66 * 64 + ((i 0).val / 8192 * 66 + (i 0).val % 8192 / 128) % 66 = _
      omega
    · refine ⟨⟨((i 0).val - 32768) / 256 * 66 + 64 + ((i 0).val - 32768) % 256 / 128, by show _ < 264; omega⟩, ?_⟩
      rw [(idx10 _).1, if_neg (by show ¬(((i 0).val - 32768) / 256 * 66 + 64 + ((i 0).val - 32768) % 256 / 128) % 66 < 64; omega)]
      show 256 + (((i 0).val - 32768) / 256 * 66 + 64 + ((i 0).val - 32768) % 256 / 128) / 66 * 2 + ((((i 0).val - 32768) / 256 * 66 + 64 + ((i 0).val - 32768) % 256 / 128) % 66 - 64) = _
      omega
  obtain ⟨t, ht⟩ := key
  refine ⟨t, flush0_10 t, ?_⟩
  have e0 : ((win0_10.rect t).emb (ix2 (⟨(i 0).val % 128, by omega⟩ : Fin 128) (⟨(i 1).val, h1⟩ : Fin 1024)) 0 : Nat) = win0_10.index t 0 * 128 + (i 0).val % 128 := Window.rect_emb_val win0_10 t _ 0
  have e1 : ((win0_10.rect t).emb (ix2 (⟨(i 0).val % 128, by omega⟩ : Fin 128) (⟨(i 1).val, h1⟩ : Fin 1024)) 1 : Nat) = win0_10.index t 1 * 1024 + (i 1).val := Window.rect_emb_val win0_10 t _ 1
  rw [(idx10 t).2] at e1
  have e : i = (win0_10.rect t).emb (ix2 (⟨(i 0).val % 128, by omega⟩ : Fin 128) (⟨(i 1).val, h1⟩ : Fin 1024)) :=
    (eq_ix2 i).trans (idx_eq_ix2 _ (i 0) (i 1) (e0.trans (by rw [ht]; omega)) (e1.trans (by rw [Nat.zero_mul, Nat.zero_add]))).symm
  rw [e]
  exact ((cfg0.win 10).blk t).view.emb_mem_set _

/-- The result array after the grid is `result` of the arguments. -/
theorem final_res (c : Dev nD) : (dats m 0 c).arrAt 10 cfg0.N = res m c :=
  (dats m 0 c).arrAt_eq_of_cover 10 (res m c) (fun t _ => flushed_res m c t) cover_res

end Cert.KernelIdeal.Hd

end
-- ==== Proof.RefLat.lean ====
module
public import proofs.«01_k».proof.Proof.Array
public import proofs.«01_k».proof.Proof.Gen.ReferenceIdeal.Read
public import Idealize.ShloMosaic.PureOps.Reduce

@[expose] public section

/-! What the reference's first operations are: the mask's words, the query heads as four groups of four, and the maximum over the last axis. -/

noncomputable section

namespace Cert.ReferenceIdeal.Rd

open Cert.ReferenceIdeal Cert.ReferenceIdeal.Read Idealize.ShloMosaic Idealize.ShloMosaic.TcCoe
open Cert.Att
open Cert.KernelIdeal.Hd (score near kvh latOut ctxOut result ofBits_eighth ofBits_ninf cat_lo cat_hi idx_eq_ix2)

/-- A function at an index known to be another. -/
theorem at_of {ι : Type} {α : Type} (f : ι → α) {i : ι} {x : α} (i' : ι) (h : i = i') (e : f i' = x) : f i = x := h ▸ e

/-- The query head `r` of key head `g`. -/
abbrev hd (g r : Fin 4) : Fin 16 := ⟨g.val * 4 + r.val, by omega⟩

/-- The comparison of a difference's absolute value with 128 is the comparison of the positions. -/
theorem mask_word (n j : ℕ) (hn : n < 8192) (hj : j < 8192) :
    IntOp.cmpi .sle (IntOp.absi (IntOp.subi (BitVec.ofNat 32 n) (BitVec.ofNat 32 j))) 128#32
      = if n ≤ j + 128 ∧ j ≤ n + 128 then 1#1 else 0#1 := by
  have key : (IntOp.absi (IntOp.subi (BitVec.ofNat 32 n) (BitVec.ofNat 32 j))).toInt = ((n - j) + (j - n) : ℕ) := by
    unfold IntOp.absi IntOp.subi
    rcases Nat.lt_or_ge n j with h | h
    · have e : BitVec.ofNat 32 n - BitVec.ofNat 32 j = BitVec.ofNat 32 (2 ^ 32 - (j - n)) := by
        apply BitVec.eq_of_toNat_eq
        simp only [BitVec.toNat_sub, BitVec.toNat_ofNat]
        omega
      rw [e, if_pos (by rw [BitVec.msb_eq_decide]; simp only [BitVec.toNat_ofNat, decide_eq_true_eq]; omega)]
      have e2 : -BitVec.ofNat 32 (2 ^ 32 - (j - n)) = BitVec.ofNat 32 (j - n) := by
        apply BitVec.eq_of_toNat_eq
        simp only [BitVec.toNat_neg, BitVec.toNat_ofNat]
        omega
      rw [e2, BitVec.toInt_eq_toNat_cond, BitVec.toNat_ofNat]
      split <;> omega
    · have e : BitVec.ofNat 32 n - BitVec.ofNat 32 j = BitVec.ofNat 32 (n - j) := by
        apply BitVec.eq_of_toNat_eq
        simp only [BitVec.toNat_sub, BitVec.toNat_ofNat]
        omega
      rw [e, if_neg (by rw [BitVec.msb_eq_decide]; simp only [BitVec.toNat_ofNat, decide_eq_true_eq]; omega)]
      rw [BitVec.toInt_eq_toNat_cond, BitVec.toNat_ofNat]
      split <;> omega
  have e128 : (128#32 : BitVec 32).toInt = 128 := by decide
  show BitVec.ofBool (BitVec.sle _ _) = _
  unfold BitVec.sle
  rw [key, e128]
  by_cases h : n ≤ j + 128 ∧ j ≤ n + 128
  · rw [if_pos h, decide_eq_true (by omega)]; rfl
  · rw [if_neg h, decide_eq_false (by omega)]; rfl

/-- The host's maximum over the last of five axes, from `-∞`, is the supremum. -/
theorem reduceMax_last {A B C n N : ℕ} (x : FVec Ideal ⟨5, ![A, B, C, n, N]⟩ .f32) (init : FVec Ideal S_ .f32)
    (h' : Shape.ReducesTo ⟨5, ![A, B, C, n, N]⟩ [4] ⟨4, ![A, B, C, n]⟩) (h : Shape.Reduces ⟨5, ![A, B, C, n, N]⟩ [4] ⟨4, ![A, B, C, n]⟩)
    (hu : 0 < S_.numel) (hi : ∀ i, init i = (⊥ : EReal)) (b : Fin A) (g : Fin B) (r : Fin C) (p : Fin n) :
    (Host.reduce (FloatOps.maximumf (F := Ideal) (φ := .f32)) x init h' hu (ix4 b g r p) : EReal) = Finset.univ.sup fun j : Fin N => (x (ix5 b g r p j) : EReal) := by
  rw [Host.reduce_eq_fold_single FloatOps.maximumf x _ h' h hu, hi]
  have e : (x ∘ h.lift (ix4 b g r p)) = fun j : Fin N => x (ix5 b g r p j) := by
    funext j
    exact congrArg x (funext fun a => Fin.ext (match a with | ⟨0, _⟩ => rfl | ⟨1, _⟩ => rfl | ⟨2, _⟩ => rfl | ⟨3, _⟩ => rfl | ⟨4, _⟩ => rfl))
  rw [e]
  rfl

theorem ofBits_zero : (Scalar.ofBits .f32 0x00000000#32 : Ideal .f32) = (0 : EReal) := by
  show Ideal.ofBits .f32 0x00000000#32 = _
  simp [Ideal.ofBits, Ideal.ieee]

variable (q : FVec Ideal S4x8192x16x64 .f32) (k v : FVec Ideal S4x8192x4x64 .f32) (qc : FVec Ideal S4x256x16x64 .f32)
  (kc vc : FVec Ideal S4x256x4x64 .f32) (sk : FVec Ideal S16 .f32)

/-- The sinks by key head and query head. -/
theorem a0 (g r : Fin 4) (i : S1x4x4x1x1.Idx) (h1 : (i 1).val = g.val) (h2 : (i 2).val = r.val) :
    val_main_v0 (F := Ideal) sk i = sk (ix1 (hd g r)) := by
  refine (val_main_v0_apply (F := Ideal) sk i).trans (congrArg sk (funext fun a => Fin.ext ?_))
  have e0 : (i 0).val < 1 := (i 0).isLt
  have e3 : (i 3).val < 1 := (i 3).isLt
  have e4 : (i 4).val < 1 := (i 4).isLt
  match a with
  | ⟨0, _⟩ => show ((((i 0).val * 4 + (i 1).val) * 4 + (i 2).val) * 1 + (i 3).val) * 1 + (i 4).val = g.val * 4 + r.val; omega

/-- The sequence's queries by key head and query head. -/
theorem a1 (b : Fin 4) (n : Fin 8192) (g r : Fin 4) (e : Fin 64) :
    val_main_v1 (F := Ideal) q (ix5 b n g r e) = q (ix4 b n (hd g r) e) := by
  refine (val_main_v1_apply (F := Ideal) q _).trans (congrArg q (funext fun a => Fin.ext ?_))
  match a with
  | ⟨0, _⟩ => show ((((b.val * 8192 + n.val) * 4 + g.val) * 4 + r.val) * 64 + e.val) / 8388608 = b.val; omega
  | ⟨1, _⟩ => show ((((b.val * 8192 + n.val) * 4 + g.val) * 4 + r.val) * 64 + e.val) / 1024 % 8192 = n.val; omega
  | ⟨2, _⟩ => show ((((b.val * 8192 + n.val) * 4 + g.val) * 4 + r.val) * 64 + e.val) / 64 % 16 = g.val * 4 + r.val; omega
  | ⟨3, _⟩ => show ((((b.val * 8192 + n.val) * 4 + g.val) * 4 + r.val) * 64 + e.val) % 64 = e.val; omega

/-- The mask. -/
theorem a10 (n j : Fin 8192) : val_main_v10 (F := Ideal) (ix2 n j) = if near n j then 1#1 else 0#1 := by
  rw [val_main_v10_apply, val_main_v8_apply, val_main_v7_apply, val_main_v9_apply, val_main_c_apply, val_main_v5_apply, val_main_v6_apply,
    val_main_v3_apply, val_main_v4_apply, val_main_v2_apply, val_main_v2_apply]
  exact mask_word n.val j.val n.isLt j.isLt

/-- The masked scores of the sequence's keys. -/
abbrev sw (b g r : Fin 4) (n : Fin 8192) : Fin 8192 → EReal := fun j =>
  if near n j then score k q (fun e => ix4 b j g e) (fun e => ix4 b n (hd g r) e) else ⊥
/-- The scores of the context's keys. -/
abbrev sc (b g r : Fin 4) (n : Fin 8192) : Fin 256 → EReal := fun j =>
  score kc q (fun e => ix4 b j g e) (fun e => ix4 b n (hd g r) e)
/-- The scores a context token gives the context's keys. -/
abbrev sx (b g r : Fin 4) (n : Fin 256) : Fin 256 → EReal := fun j =>
  score kc qc (fun e => ix4 b j g e) (fun e => ix4 b n (hd g r) e)

/-- A key's score. -/
theorem a14 (b g r : Fin 4) (n : Fin 8192) (j : Fin 8192) :
    val_main_v14 (F := Ideal) q k (ix5 b g r n j) = score k q (fun e => ix4 b j g e) (fun e => ix4 b n (hd g r) e) := by
  rw [val_main_v14_apply, val_main_v12_apply, val_main_v11_apply, val_main_v13_apply, val_main_cst_apply]
  refine congrArg₂ (fun x y : EReal => x * y) (Finset.sum_congr rfl fun e _ => ?_) ofBits_eighth
  refine congrArg₂ (fun x y : EReal => x * y) (congrArg k (funext fun a => match a with | ⟨0, _⟩ => rfl | ⟨1, _⟩ => rfl | ⟨2, _⟩ => rfl | ⟨3, _⟩ => rfl)) ?_
  exact at_of (val_main_v1 (F := Ideal) q) (ix5 b n g r e) (funext fun a => match a with | ⟨0, _⟩ => rfl | ⟨1, _⟩ => rfl | ⟨2, _⟩ => rfl | ⟨3, _⟩ => rfl | ⟨4, _⟩ => rfl) (a1 q b n g r e)

/-- The masked score. -/
theorem a15 (b g r : Fin 4) (n j : Fin 8192) : val_main_v15 (F := Ideal) q k (ix5 b g r n j) = sw q k b g r n j := by
  rw [val_main_v15_apply, val_main_call0_v1_apply, val_main_call0_v2_apply, val_main_call0_v0_apply, val_main_cst_0_apply, a14]
  rw [show val_main_v10 (F := Ideal) (idx_main_call0_v1 (ix5 b g r n j)) = if near n j then 1#1 else 0#1 from
    (congrArg (val_main_v10 (F := Ideal)) (funext fun a => match a with | ⟨0, _⟩ => rfl | ⟨1, _⟩ => rfl)).trans (a10 n j)]
  unfold Scalar.select sw
  by_cases h : near n j
  · rw [if_pos h, if_pos h]; rfl
  · rw [if_neg h, if_neg h, if_neg (by decide)]; exact ofBits_ninf

/-- A key's score. -/
theorem a19 (b g r : Fin 4) (n : Fin 8192) (j : Fin 256) :
    val_main_v19 (F := Ideal) q kc (ix5 b g r n j) = score kc q (fun e => ix4 b j g e) (fun e => ix4 b n (hd g r) e) := by
  rw [val_main_v19_apply, val_main_v17_apply, val_main_v16_apply, val_main_v18_apply, val_main_cst_1_apply]
  refine congrArg₂ (fun x y : EReal => x * y) (Finset.sum_congr rfl fun e _ => ?_) ofBits_eighth
  refine congrArg₂ (fun x y : EReal => x * y) (congrArg kc (funext fun a => match a with | ⟨0, _⟩ => rfl | ⟨1, _⟩ => rfl | ⟨2, _⟩ => rfl | ⟨3, _⟩ => rfl)) ?_
  exact at_of (val_main_v1 (F := Ideal) q) (ix5 b n g r e) (funext fun a => match a with | ⟨0, _⟩ => rfl | ⟨1, _⟩ => rfl | ⟨2, _⟩ => rfl | ⟨3, _⟩ => rfl | ⟨4, _⟩ => rfl) (a1 q b n g r e)

/-- The greatest masked score. -/
theorem a20 (b g r : Fin 4) (n : Fin 8192) : (val_main_v20 (F := Ideal) q k (ix4 b g r n) : EReal) = Finset.univ.sup (sw q k b g r n) := by
  unfold val_main_v20
  refine (reduceMax_last (val_main_v15 (F := Ideal) q k) _ _ (by decide) _ (fun i => ofBits_ninf) b g r n).trans ?_
  exact congrArg (Finset.sup Finset.univ) (funext fun j => a15 q k b g r n j)

/-- The greatest score of a context key. -/
theorem a22 (b g r : Fin 4) (n : Fin 8192) : (val_main_v22 (F := Ideal) q kc (ix4 b g r n) : EReal) = Finset.univ.sup (sc q kc b g r n) := by
  unfold val_main_v22
  refine (reduceMax_last (val_main_v19 (F := Ideal) q kc) _ _ (by decide) _ (fun i => ofBits_ninf) b g r n).trans ?_
  exact congrArg (Finset.sup Finset.univ) (funext fun j => a19 q kc b g r n j)

/-- The maximum on a unit axis. -/
theorem a21 (b g r : Fin 4) (n : Fin 8192) (z : Fin 1) : val_main_v21 (F := Ideal) q k (ix5 b g r n z) = val_main_v20 (F := Ideal) q k (ix4 b g r n) :=
  (val_main_v21_apply (F := Ideal) q k _).trans (at_of (val_main_v20 (F := Ideal) q k) (ix4 b g r n) (funext fun a => match a with | ⟨0, _⟩ => rfl | ⟨1, _⟩ => rfl | ⟨2, _⟩ => rfl | ⟨3, _⟩ => rfl) rfl)

/-- The maximum on a unit axis. -/
theorem a23 (b g r : Fin 4) (n : Fin 8192) (z : Fin 1) : val_main_v23 (F := Ideal) q kc (ix5 b g r n z) = val_main_v22 (F := Ideal) q kc (ix4 b g r n) :=
  (val_main_v23_apply (F := Ideal) q kc _).trans (at_of (val_main_v22 (F := Ideal) q kc) (ix4 b g r n) (funext fun a => match a with | ⟨0, _⟩ => rfl | ⟨1, _⟩ => rfl | ⟨2, _⟩ => rfl | ⟨3, _⟩ => rfl) rfl)

/-- The greatest of all scores and the sink. -/
theorem a26 (b g r : Fin 4) (n : Fin 8192) (z : Fin 1) :
    (val_main_v26 (F := Ideal) q k kc sk (ix5 b g r n z) : EReal) = top (sw q k b g r n) (sc q kc b g r n) (sk (ix1 (hd g r))) := by
  rw [val_main_v26_apply, val_main_v24_apply, val_main_v25_apply, a21, a23, a20, a22, a0 sk g r _ rfl rfl]
  rfl

/-- The weight of a sequence key. -/
theorem a29 (b g r : Fin 4) (n j : Fin 8192) :
    (val_main_v29 (F := Ideal) q k kc sk (ix5 b g r n j) : EReal)
      = Ideal.exp (sw q k b g r n j - top (sw q k b g r n) (sc q kc b g r n) (sk (ix1 (hd g r)))) := by
  rw [val_main_v29_apply, val_main_v28_apply, val_main_v27_apply, a15,
    show idx_main_v27 (ix5 b g r n j) = ix5 b g r n 0 from (funext fun a => match a with | ⟨0, _⟩ => rfl | ⟨1, _⟩ => rfl | ⟨2, _⟩ => rfl | ⟨3, _⟩ => rfl | ⟨4, _⟩ => rfl), a26]
  rfl

/-- The weight of a context key. -/
theorem a32 (b g r : Fin 4) (n : Fin 8192) (j : Fin 256) :
    (val_main_v32 (F := Ideal) q k kc sk (ix5 b g r n j) : EReal)
      = Ideal.exp (sc q kc b g r n j - top (sw q k b g r n) (sc q kc b g r n) (sk (ix1 (hd g r)))) := by
  rw [val_main_v32_apply, val_main_v31_apply, val_main_v30_apply, a19,
    show idx_main_v30 (ix5 b g r n j) = ix5 b g r n 0 from (funext fun a => match a with | ⟨0, _⟩ => rfl | ⟨1, _⟩ => rfl | ⟨2, _⟩ => rfl | ⟨3, _⟩ => rfl | ⟨4, _⟩ => rfl), a26]
  rfl

/-- The sink's weight. -/
theorem a38 (b g r : Fin 4) (n : Fin 8192) (z : Fin 1) :
    (val_main_v38 (F := Ideal) q k kc sk (ix5 b g r n z) : EReal)
      = Ideal.exp (sk (ix1 (hd g r)) - top (sw q k b g r n) (sc q kc b g r n) (sk (ix1 (hd g r)))) := by
  rw [val_main_v38_apply, val_main_v37_apply, val_main_v36_apply, a26, a0 sk g r _ rfl rfl]
  rfl

/-- The sum of the weights. -/
theorem a40 (b g r : Fin 4) (n : Fin 8192) :
    (val_main_v40 (F := Ideal) q k kc sk (ix4 b g r n) : EReal)
      = ((∑ j, Ideal.exp (sw q k b g r n j - top (sw q k b g r n) (sc q kc b g r n) (sk (ix1 (hd g r)))))
          + ∑ j, Ideal.exp (sc q kc b g r n j - top (sw q k b g r n) (sc q kc b g r n) (sk (ix1 (hd g r)))))
        + Ideal.exp (sk (ix1 (hd g r)) - top (sw q k b g r n) (sc q kc b g r n) (sk (ix1 (hd g r)))) := by
  rw [val_main_v40_apply, val_main_v35_apply, val_main_v39_apply, val_main_v33_apply, val_main_v34_apply, val_main_cst_4_apply, val_main_cst_5_apply]
  refine congrArg₂ (fun x y : EReal => x + y) (congrArg₂ (fun x y : EReal => x + y) ?_ ?_) ?_
  · refine (congrArg₂ (fun x y : EReal => x + y) ofBits_zero (Finset.sum_congr rfl fun j _ => ?_)).trans (zero_add _)
    exact at_of (val_main_v29 (F := Ideal) q k kc sk) (ix5 b g r n j) (funext fun a => match a with | ⟨0, _⟩ => rfl | ⟨1, _⟩ => rfl | ⟨2, _⟩ => rfl | ⟨3, _⟩ => rfl | ⟨4, _⟩ => rfl) (a29 q k kc sk b g r n j)
  · refine (congrArg₂ (fun x y : EReal => x + y) ofBits_zero (Finset.sum_congr rfl fun j _ => ?_)).trans (zero_add _)
    exact at_of (val_main_v32 (F := Ideal) q k kc sk) (ix5 b g r n j) (funext fun a => match a with | ⟨0, _⟩ => rfl | ⟨1, _⟩ => rfl | ⟨2, _⟩ => rfl | ⟨3, _⟩ => rfl | ⟨4, _⟩ => rfl) (a32 q k kc sk b g r n j)
  · refine at_of (val_main_v38 (F := Ideal) q k kc sk) (ix5 b g r n 0) (funext fun a => Fin.ext ?_) (a38 q k kc sk b g r n 0)
    match a with
    | ⟨0, _⟩ => show (((b.val * 4 + g.val) * 4 + r.val) * 8192 + n.val) / 131072 = b.val; omega
    | ⟨1, _⟩ => show (((b.val * 4 + g.val) * 4 + r.val) * 8192 + n.val) / 32768 % 4 = g.val; omega
    | ⟨2, _⟩ => show (((b.val * 4 + g.val) * 4 + r.val) * 8192 + n.val) / 8192 % 4 = r.val; omega
    | ⟨3, _⟩ => show (((b.val * 4 + g.val) * 4 + r.val) * 8192 + n.val) / 1 % 8192 = n.val; omega
    | ⟨4, _⟩ => rfl

/-- The sequence's attention before the heads are joined. -/
theorem a49 (b : Fin 4) (n : Fin 8192) (g r : Fin 4) (d : Fin 64) :
    (val_main_v49 (F := Ideal) q k v kc vc sk (ix5 b n g r d) : EReal)
      = att (sw q k b g r n) (fun j => v (ix4 b j g d)) (sc q kc b g r n) (fun j => vc (ix4 b j g d)) (sk (ix1 (hd g r))) := by
  rw [val_main_v49_apply, val_main_v45_apply, val_main_v42_apply, val_main_v44_apply, val_main_v41_apply, val_main_v43_apply,
    val_main_v48_apply, val_main_v47_apply, val_main_v46_apply]
  unfold att
  refine congrArg₂ Ideal.div (congrArg₂ (fun x y : EReal => x + y) (Finset.sum_congr rfl fun j _ => ?_) (Finset.sum_congr rfl fun j _ => ?_)) ?_
  · refine (mul_comm _ _).trans (congrArg₂ (fun x y : EReal => x * y) ?_ (congrArg v (funext fun a => match a with | ⟨0, _⟩ => rfl | ⟨1, _⟩ => rfl | ⟨2, _⟩ => rfl | ⟨3, _⟩ => rfl)))
    exact at_of (val_main_v29 (F := Ideal) q k kc sk) (ix5 b g r n j) (funext fun a => match a with | ⟨0, _⟩ => rfl | ⟨1, _⟩ => rfl | ⟨2, _⟩ => rfl | ⟨3, _⟩ => rfl | ⟨4, _⟩ => rfl) (a29 q k kc sk b g r n j)
  · refine (mul_comm _ _).trans (congrArg₂ (fun x y : EReal => x * y) ?_ (congrArg vc (funext fun a => match a with | ⟨0, _⟩ => rfl | ⟨1, _⟩ => rfl | ⟨2, _⟩ => rfl | ⟨3, _⟩ => rfl)))
    exact at_of (val_main_v32 (F := Ideal) q k kc sk) (ix5 b g r n j) (funext fun a => match a with | ⟨0, _⟩ => rfl | ⟨1, _⟩ => rfl | ⟨2, _⟩ => rfl | ⟨3, _⟩ => rfl | ⟨4, _⟩ => rfl) (a32 q k kc sk b g r n j)
  · exact at_of (val_main_v40 (F := Ideal) q k kc sk) (ix4 b g r n) (funext fun a => match a with | ⟨0, _⟩ => rfl | ⟨1, _⟩ => rfl | ⟨2, _⟩ => rfl | ⟨3, _⟩ => rfl) (a40 q k kc sk b g r n)

end Cert.ReferenceIdeal.Rd

end
-- ==== Proof.RefCtx.lean ====
module
public import proofs.«01_k».proof.Proof.RefLat
public import proofs.«01_k».proof.Proof.Final

@[expose] public section

/-! What the reference computes for the context's tokens, and its result: the array the kernel writes. -/

noncomputable section

namespace Cert.ReferenceIdeal.Rd

open Cert.ReferenceIdeal Cert.ReferenceIdeal.Read Idealize.ShloMosaic Idealize.ShloMosaic.TcCoe
open Cert.Att
open Cert.KernelIdeal.Hd (score near kvh latOut ctxOut result result_lat result_ctx ofBits_eighth ofBits_ninf cat_lo cat_hi)

variable (q : FVec Ideal S4x8192x16x64 .f32) (k v : FVec Ideal S4x8192x4x64 .f32) (qc : FVec Ideal S4x256x16x64 .f32)
  (kc vc : FVec Ideal S4x256x4x64 .f32) (sk : FVec Ideal S16 .f32)

/-- Attention whose first group of keys is empty. -/
theorem att_zero {κ : Type} [Fintype κ] (s w : κ → EReal) (z : EReal) :
    att (fun _ : Fin 0 => ⊥) (fun _ => 0) s w z
      = Ideal.div (∑ j, Ideal.exp (s j - max (Finset.univ.sup s) z) * w j)
          ((∑ j, Ideal.exp (s j - max (Finset.univ.sup s) z)) + Ideal.exp (z - max (Finset.univ.sup s) z)) := by
  have ht : top (fun _ : Fin 0 => (⊥ : EReal)) s z = max (Finset.univ.sup s) z := by
    unfold top
    rw [show (Finset.univ : Finset (Fin 0)).sup (fun _ => (⊥ : EReal)) = ⊥ from Finset.sup_bot _, bot_sup_eq]
  unfold att
  rw [ht, Fin.sum_univ_zero, Fin.sum_univ_zero, zero_add, zero_add]

/-- The context's queries by key head and query head. -/
theorem a51 (b : Fin 4) (n : Fin 256) (g r : Fin 4) (e : Fin 64) :
    val_main_v51 (F := Ideal) qc (ix5 b n g r e) = qc (ix4 b n (hd g r) e) := by
  refine (val_main_v51_apply (F := Ideal) qc _).trans (congrArg qc (funext fun a => Fin.ext ?_))
  match a with
  | ⟨0, _⟩ => show ((((b.val * 256 + n.val) * 4 + g.val) * 4 + r.val) * 64 + e.val) / 262144 = b.val; omega
  | ⟨1, _⟩ => show ((((b.val * 256 + n.val) * 4 + g.val) * 4 + r.val) * 64 + e.val) / 1024 % 256 = n.val; omega
  | ⟨2, _⟩ => show ((((b.val * 256 + n.val) * 4 + g.val) * 4 + r.val) * 64 + e.val) / 64 % 16 = g.val * 4 + r.val; omega
  | ⟨3, _⟩ => show ((((b.val * 256 + n.val) * 4 + g.val) * 4 + r.val) * 64 + e.val) % 64 = e.val; omega

/-- A key's score. -/
theorem a55 (b g r : Fin 4) (n j : Fin 256) :
    val_main_v55 (F := Ideal) qc kc (ix5 b g r n j) = score kc qc (fun e => ix4 b j g e) (fun e => ix4 b n (hd g r) e) := by
  rw [val_main_v55_apply, val_main_v53_apply, val_main_v52_apply, val_main_v54_apply, val_main_cst_6_apply]
  refine congrArg₂ (fun x y : EReal => x * y) (Finset.sum_congr rfl fun e _ => ?_) ofBits_eighth
  refine congrArg₂ (fun x y : EReal => x * y) (congrArg kc (funext fun a => match a with | ⟨0, _⟩ => rfl | ⟨1, _⟩ => rfl | ⟨2, _⟩ => rfl | ⟨3, _⟩ => rfl)) ?_
  exact at_of (val_main_v51 (F := Ideal) qc) (ix5 b n g r e) (funext fun a => match a with | ⟨0, _⟩ => rfl | ⟨1, _⟩ => rfl | ⟨2, _⟩ => rfl | ⟨3, _⟩ => rfl | ⟨4, _⟩ => rfl) (a51 qc b n g r e)

/-- The greatest score. -/
theorem a56 (b g r : Fin 4) (n : Fin 256) : (val_main_v56 (F := Ideal) qc kc (ix4 b g r n) : EReal) = Finset.univ.sup (sx qc kc b g r n) := by
  unfold val_main_v56
  refine (reduceMax_last (val_main_v55 (F := Ideal) qc kc) _ _ (by decide) _ (fun i => ofBits_ninf) b g r n).trans ?_
  exact congrArg (Finset.sup Finset.univ) (funext fun j => a55 qc kc b g r n j)

/-- The maximum on a unit axis. -/
theorem a57 (b g r : Fin 4) (n : Fin 256) (z : Fin 1) : val_main_v57 (F := Ideal) qc kc (ix5 b g r n z) = val_main_v56 (F := Ideal) qc kc (ix4 b g r n) :=
  (val_main_v57_apply (F := Ideal) qc kc _).trans (at_of (val_main_v56 (F := Ideal) qc kc) (ix4 b g r n) (funext fun a => match a with | ⟨0, _⟩ => rfl | ⟨1, _⟩ => rfl | ⟨2, _⟩ => rfl | ⟨3, _⟩ => rfl) rfl)

/-- The greatest of all scores and the sink. -/
theorem a59 (b g r : Fin 4) (n : Fin 256) (z : Fin 1) :
    (val_main_v59 (F := Ideal) qc kc sk (ix5 b g r n z) : EReal) = max (Finset.univ.sup (sx qc kc b g r n)) (sk (ix1 (hd g r))) := by
  rw [val_main_v59_apply, val_main_v58_apply, a57, a56, a0 sk g r _ rfl rfl]
  rfl

/-- The weight of a key. -/
theorem a62 (b g r : Fin 4) (n j : Fin 256) :
    (val_main_v62 (F := Ideal) qc kc sk (ix5 b g r n j) : EReal) = Ideal.exp (sx qc kc b g r n j - max (Finset.univ.sup (sx qc kc b g r n)) (sk (ix1 (hd g r)))) := by
  rw [val_main_v62_apply, val_main_v61_apply, val_main_v60_apply, a55,
    show idx_main_v60 (ix5 b g r n j) = ix5 b g r n 0 from (funext fun a => match a with | ⟨0, _⟩ => rfl | ⟨1, _⟩ => rfl | ⟨2, _⟩ => rfl | ⟨3, _⟩ => rfl | ⟨4, _⟩ => rfl), a59]
  rfl

/-- The sink's weight. -/
theorem a66 (b g r : Fin 4) (n : Fin 256) (z : Fin 1) :
    (val_main_v66 (F := Ideal) qc kc sk (ix5 b g r n z) : EReal) = Ideal.exp (sk (ix1 (hd g r)) - max (Finset.univ.sup (sx qc kc b g r n)) (sk (ix1 (hd g r)))) := by
  rw [val_main_v66_apply, val_main_v65_apply, val_main_v64_apply, a59, a0 sk g r _ rfl rfl]
  rfl

/-- The sum of the weights. -/
theorem a68 (b g r : Fin 4) (n : Fin 256) :
    (val_main_v68 (F := Ideal) qc kc sk (ix4 b g r n) : EReal)
      = (∑ j, Ideal.exp (sx qc kc b g r n j - max (Finset.univ.sup (sx qc kc b g r n)) (sk (ix1 (hd g r))))) + Ideal.exp (sk (ix1 (hd g r)) - max (Finset.univ.sup (sx qc kc b g r n)) (sk (ix1 (hd g r)))) := by
  rw [val_main_v68_apply, val_main_v67_apply, val_main_v63_apply, val_main_cst_8_apply]
  refine congrArg₂ (fun x y : EReal => x + y) ?_ ?_
  · refine (congrArg₂ (fun x y : EReal => x + y) ofBits_zero (Finset.sum_congr rfl fun j _ => ?_)).trans (zero_add _)
    exact at_of (val_main_v62 (F := Ideal) qc kc sk) (ix5 b g r n j) (funext fun a => match a with | ⟨0, _⟩ => rfl | ⟨1, _⟩ => rfl | ⟨2, _⟩ => rfl | ⟨3, _⟩ => rfl | ⟨4, _⟩ => rfl) (a62 qc kc sk b g r n j)
  · refine at_of (val_main_v66 (F := Ideal) qc kc sk) (ix5 b g r n 0) (funext fun a => Fin.ext ?_) (a66 qc kc sk b g r n 0)
    match a with
    | ⟨0, _⟩ => show (((b.val * 4 + g.val) * 4 + r.val) * 256 + n.val) / 4096 = b.val; omega
    | ⟨1, _⟩ => show (((b.val * 4 + g.val) * 4 + r.val) * 256 + n.val) / 1024 % 4 = g.val; omega
    | ⟨2, _⟩ => show (((b.val * 4 + g.val) * 4 + r.val) * 256 + n.val) / 256 % 4 = r.val; omega
    | ⟨3, _⟩ => show (((b.val * 4 + g.val) * 4 + r.val) * 256 + n.val) / 1 % 256 = n.val; omega
    | ⟨4, _⟩ => rfl

/-- The context's attention before the heads are joined. -/
theorem a74 (b : Fin 4) (n : Fin 256) (g r : Fin 4) (d : Fin 64) :
    (val_main_v74 (F := Ideal) qc kc vc sk (ix5 b n g r d) : EReal)
      = att (fun _ : Fin 0 => ⊥) (fun _ => 0) (sx qc kc b g r n) (fun j => vc (ix4 b j g d)) (sk (ix1 (hd g r))) := by
  rw [att_zero, val_main_v74_apply, val_main_v70_apply, val_main_v69_apply, val_main_v73_apply, val_main_v72_apply, val_main_v71_apply]
  refine congrArg₂ Ideal.div (Finset.sum_congr rfl fun j _ => ?_) ?_
  · refine (mul_comm _ _).trans (congrArg₂ (fun x y : EReal => x * y) ?_ (congrArg vc (funext fun a => match a with | ⟨0, _⟩ => rfl | ⟨1, _⟩ => rfl | ⟨2, _⟩ => rfl | ⟨3, _⟩ => rfl)))
    exact at_of (val_main_v62 (F := Ideal) qc kc sk) (ix5 b g r n j) (funext fun a => match a with | ⟨0, _⟩ => rfl | ⟨1, _⟩ => rfl | ⟨2, _⟩ => rfl | ⟨3, _⟩ => rfl | ⟨4, _⟩ => rfl) (a62 qc kc sk b g r n j)
  · exact at_of (val_main_v68 (F := Ideal) qc kc sk) (ix4 b g r n) (funext fun a => match a with | ⟨0, _⟩ => rfl | ⟨1, _⟩ => rfl | ⟨2, _⟩ => rfl | ⟨3, _⟩ => rfl) (a68 qc kc sk b g r n)

/-- A query head's key head. -/
theorem kvh_hd (g r : Fin 4) : kvh (hd g r) = g := Fin.ext (by show (g.val * 4 + r.val) / 4 = g.val; omega)

/-- The sequence's attention, in the words of the result array. -/
theorem a49' (b : Fin 4) (n : Fin 8192) (g r : Fin 4) (d : Fin 64) :
    (val_main_v49 (F := Ideal) q k v kc vc sk (ix5 b n g r d) : EReal) = latOut q k v kc vc sk b n (hd g r) d := by
  rw [a49]
  unfold latOut
  rw [kvh_hd]

/-- The context's attention, in the words of the result array. -/
theorem a74' (b : Fin 4) (n : Fin 256) (g r : Fin 4) (d : Fin 64) :
    (val_main_v74 (F := Ideal) qc kc vc sk (ix5 b n g r d) : EReal) = ctxOut qc kc vc sk b n (hd g r) d := by
  rw [a74]
  unfold ctxOut
  rw [kvh_hd]

/-- The sequence's rows. -/
theorem a50 (R : Fin 32768) (C : Fin 1024) (b : Fin 4) (n : Fin 8192) (g r : Fin 4) (d : Fin 64)
    (hR : R.val = b.val * 8192 + n.val) (hC : C.val = (g.val * 4 + r.val) * 64 + d.val) :
    (val_main_v50 (F := Ideal) q k v kc vc sk (ix2 R C) : EReal) = latOut q k v kc vc sk b n (hd g r) d := by
  refine (val_main_v50_apply (F := Ideal) q k v kc vc sk _).trans
    (at_of (val_main_v49 (F := Ideal) q k v kc vc sk) (ix5 b n g r d) (funext fun a => Fin.ext ?_) (a49' q k v kc vc sk b n g r d))
  match a with
  | ⟨0, _⟩ => show (R.val * 1024 + C.val) / 8388608 = b.val; omega
  | ⟨1, _⟩ => show (R.val * 1024 + C.val) / 1024 % 8192 = n.val; omega
  | ⟨2, _⟩ => show (R.val * 1024 + C.val) / 256 % 4 = g.val; omega
  | ⟨3, _⟩ => show (R.val * 1024 + C.val) / 64 % 4 = r.val; omega
  | ⟨4, _⟩ => show (R.val * 1024 + C.val) % 64 = d.val; omega

/-- The context's rows. -/
theorem a75 (R : Fin 1024) (C : Fin 1024) (b : Fin 4) (n : Fin 256) (g r : Fin 4) (d : Fin 64)
    (hR : R.val = b.val * 256 + n.val) (hC : C.val = (g.val * 4 + r.val) * 64 + d.val) :
    (val_main_v75 (F := Ideal) qc kc vc sk (ix2 R C) : EReal) = ctxOut qc kc vc sk b n (hd g r) d := by
  refine (val_main_v75_apply (F := Ideal) qc kc vc sk _).trans
    (at_of (val_main_v74 (F := Ideal) qc kc vc sk) (ix5 b n g r d) (funext fun a => Fin.ext ?_) (a74' qc kc vc sk b n g r d))
  match a with
  | ⟨0, _⟩ => show (R.val * 1024 + C.val) / 262144 = b.val; omega
  | ⟨1, _⟩ => show (R.val * 1024 + C.val) / 1024 % 256 = n.val; omega
  | ⟨2, _⟩ => show (R.val * 1024 + C.val) / 256 % 4 = g.val; omega
  | ⟨3, _⟩ => show (R.val * 1024 + C.val) / 64 % 4 = r.val; omega
  | ⟨4, _⟩ => show (R.val * 1024 + C.val) % 64 = d.val; omega

/-- The reference's result is the array the kernel writes. -/
theorem reference_result : val_main_v77 (F := Ideal) q k v qc kc vc sk = result q k v qc kc vc sk := by
  refine funext fun y => ?_
  obtain ⟨R, C, rfl⟩ : ∃ (R : Fin 33792) (C : Fin 1024), y = ix2 R C :=
    ⟨y 0, y 1, funext fun a => match a with | ⟨0, _⟩ => rfl | ⟨1, _⟩ => rfl⟩
  refine (val_main_v77_apply (F := Ideal) q k v qc kc vc sk _).trans ?_
  show (val_main_v76 (F := Ideal) q k v qc kc vc sk (ix2 R C) : EReal) = _
  unfold val_main_v76
  have hC := C.isLt
  have hR := R.isLt
  by_cases h : R.val < 32768
  · refine (cat_lo (val_main_v50 (F := Ideal) q k v kc vc sk) (val_main_v75 (F := Ideal) qc kc vc sk) _ R C h).trans ?_
    refine (a50 q k v kc vc sk ⟨R.val, h⟩ C ⟨R.val / 8192, by omega⟩ ⟨R.val % 8192, by omega⟩ ⟨C.val / 256, by omega⟩ ⟨C.val / 64 % 4, by omega⟩
      ⟨C.val % 64, by omega⟩ (by show R.val = R.val / 8192 * 8192 + R.val % 8192; omega)
      (by show C.val = (C.val / 256 * 4 + C.val / 64 % 4) * 64 + C.val % 64; omega)).trans ?_
    exact (result_lat q k v qc kc vc sk R C _ _ _ _ (by show R.val = R.val / 8192 * 8192 + R.val % 8192; omega)
      (by show C.val = (C.val / 256 * 4 + C.val / 64 % 4) * 64 + C.val % 64; omega)).symm
  · refine (cat_hi (val_main_v50 (F := Ideal) q k v kc vc sk) (val_main_v75 (F := Ideal) qc kc vc sk) _ R C (by omega)).trans ?_
    refine (a75 qc kc vc sk ⟨R.val - 32768, by omega⟩ C ⟨(R.val - 32768) / 256, by omega⟩ ⟨(R.val - 32768) % 256, by omega⟩ ⟨C.val / 256, by omega⟩ ⟨C.val / 64 % 4, by omega⟩
      ⟨C.val % 64, by omega⟩ (by show R.val - 32768 = (R.val - 32768) / 256 * 256 + (R.val - 32768) % 256; omega)
      (by show C.val = (C.val / 256 * 4 + C.val / 64 % 4) * 64 + C.val % 64; omega)).trans ?_
    exact (result_ctx q k v qc kc vc sk R C _ _ _ _ (by show R.val = 32768 + (R.val - 32768) / 256 * 256 + (R.val - 32768) % 256; omega)
      (by show C.val = (C.val / 256 * 4 + C.val / 64 % 4) * 64 + C.val % 64; omega)).symm

end Cert.ReferenceIdeal.Rd

end
-- ==== Proof.PjBody.lean ====
module
public import proofs.«01_k».proof.Proof.Gen.Kernel2Ideal
public import proofs.«01_k».proof.Proof.Gen.Kernel2Ideal.Value
public import Idealize.ShloMosaic.Lib.Pipeline.Value
public import Idealize.ShloMosaic.Lib.Pointwise
public import Idealize.ShloMosaic.PureOps.Ideal
public import Idealize.ShloMosaic.PureOps.Reduce
public import Mathlib.Algebra.BigOperators.Fin
public import Mathlib.Data.EReal.Operations

@[expose] public section

noncomputable section

namespace Cert.Kernel2Ideal.Pj

open Cert.Kernel2Ideal Cert.Kernel2Ideal.Gen Idealize.ShloMosaic Idealize.ShloMosaic.TcCoe Idealize.ShloMosaic.Tactic Idealize.SL.Sem
open scoped BigOperators

/-- The normed and modulated row. -/
def normed (h sh sc g : Fin 1024 → EReal) (e : Fin 1024) : EReal :=
  h e * Ideal.rsqrt (Ideal.div (∑ j : Fin 1024, h j * h j) (Ideal.ofBits .f32 0x44800000#32) + Ideal.ofBits .f32 0x358637BD#32) * g e * (Ideal.ofBits .f32 0x3F800000#32 + sc e) + sh e

theorem normed_congr {h sh sc g h' sh' sc' g' : Fin 1024 → EReal} (e1 : ∀ j, h j = h' j) (e2 : ∀ j, sh j = sh' j) (e3 : ∀ j, sc j = sc' j)
    (e4 : ∀ j, g j = g' j) (e : Fin 1024) : normed h sh sc g e = normed h' sh' sc' g' e := by
  rw [funext e1, funext e2, funext e3, funext e4]

theorem pay2_apply (v0 : Vec Ideal S512x1024 .f32) (v1 : Vec Ideal S1x1024 .f32) (v3 v5 : Vec Ideal S1x1x1024 .f32) (r : Fin 512) (e : Fin 1024) :
    (k0_pay2 v0 v1 v3 v5 : FVec Ideal S512x1024 .bf16) (ix2 r e)
      = normed (fun j => v0 (ix2 r j)) (fun j => v5 (ix3 0 0 j)) (fun j => v3 (ix3 0 0 j)) (fun j => v1 (ix2 0 j)) e := by
  unfold k0_pay2 normed
  pointwise

/-- A product of the row block with one block of columns. -/
def dotA (a : FVec Ideal S512x1024 .bf16) (r : Fin 512) (w : Fin 1024 → EReal) : EReal := ∑ e : Fin 1024, (a (ix2 r e) : EReal) * w e

theorem pay3_apply (v0 : Vec Ideal S512x1024 .f32) (v1 : Vec Ideal S1x1024 .f32) (v3 v5 : Vec Ideal S1x1x1024 .f32) (w : Vec Ideal S1024x512 .bf16) (r c : Fin 512) :
    (k0_pay3 v0 v1 v3 v5 w : FVec Ideal S512x512 .f32) (ix2 r c)
      = dotA (k0_pay2 v0 v1 v3 v5) r (fun e => w (ix2 e c)) := by
  unfold k0_pay3 dotA
  pointwise [dot_S512x1024_S1024x512_S512x512_1_0_0_1_n_n]

theorem pay4_apply (v0 : Vec Ideal S512x1024 .f32) (v1 : Vec Ideal S1x1024 .f32) (v3 v5 : Vec Ideal S1x1x1024 .f32) (w : Vec Ideal S1024x512 .bf16) (r c : Fin 512) :
    (k0_pay4 v0 v1 v3 v5 w : FVec Ideal S512x512 .f32) (ix2 r c) = dotA (k0_pay2 v0 v1 v3 v5) r (fun e => w (ix2 e c)) := by
  unfold k0_pay4 dotA
  pointwise [dot_S512x1024_S1024x512_S512x512_1_0_0_1_n_n]
theorem pay5_apply (a : FVec Ideal S512x1024 .bf16) (w : Vec Ideal S1024x512 .bf16) (r c : Fin 512) :
    (k0_pay5 a w : FVec Ideal S512x512 .f32) (ix2 r c) = dotA a r (fun e => w (ix2 e c)) := by
  unfold k0_pay5 dotA
  pointwise [dot_S512x1024_S1024x512_S512x512_1_0_0_1_n_n]
theorem pay6_apply (a : FVec Ideal S512x1024 .bf16) (w : Vec Ideal S1024x512 .bf16) (r c : Fin 512) :
    (k0_pay6 a w : FVec Ideal S512x512 .f32) (ix2 r c) = dotA a r (fun e => w (ix2 e c)) := by
  unfold k0_pay6 dotA
  pointwise [dot_S512x1024_S1024x512_S512x512_1_0_0_1_n_n]
theorem pay7_apply (a : FVec Ideal S512x1024 .bf16) (w : Vec Ideal S1024x512 .bf16) (r c : Fin 512) :
    (k0_pay7 a w : FVec Ideal S512x512 .f32) (ix2 r c) = dotA a r (fun e => w (ix2 e c)) := by
  unfold k0_pay7 dotA
  pointwise [dot_S512x1024_S1024x512_S512x512_1_0_0_1_n_n]
theorem pay8_apply (a : FVec Ideal S512x1024 .bf16) (w : Vec Ideal S1024x512 .bf16) (r c : Fin 512) :
    (k0_pay8 a w : FVec Ideal S512x512 .f32) (ix2 r c) = dotA a r (fun e => w (ix2 e c)) := by
  unfold k0_pay8 dotA
  pointwise [dot_S512x1024_S1024x512_S512x512_1_0_0_1_n_n]
theorem pay9_apply (a : FVec Ideal S512x1024 .bf16) (w : Vec Ideal S1024x512 .bf16) (r c : Fin 512) :
    (k0_pay9 a w : FVec Ideal S512x512 .f32) (ix2 r c) = dotA a r (fun e => w (ix2 e c)) := by
  unfold k0_pay9 dotA
  pointwise [dot_S512x1024_S1024x512_S512x512_1_0_0_1_n_n]
theorem pay10_apply (a : FVec Ideal S512x1024 .bf16) (w : Vec Ideal S1024x512 .bf16) (r c : Fin 512) :
    (k0_pay10 a w : FVec Ideal S512x512 .f32) (ix2 r c) = dotA a r (fun e => w (ix2 e c)) := by
  unfold k0_pay10 dotA
  pointwise [dot_S512x1024_S1024x512_S512x512_1_0_0_1_n_n]
theorem pay1_apply (a : FVec Ideal S512x1024 .bf16) (w : Vec Ideal S1024x128 .bf16) (r : Fin 512) (c : Fin 128) :
    (k0_pay1 a w : FVec Ideal S512x128 .f32) (ix2 r c) = dotA a r (fun e => w (ix2 e c)) := by
  unfold k0_pay1 dotA
  pointwise [dot_S512x1024_S1024x128_S512x128_1_0_0_1_n_n]

/-- The normed and modulated rows of a block. -/
def rowA (x0 : Vec Ideal S512x1024 .f32) (x1 : Vec Ideal S1x6x1024 .f32) (x2 : Vec Ideal S1x1024 .f32) (r : Fin 512) : Fin 1024 → EReal :=
  normed (fun j => x0 (ix2 r j)) (fun j => x1 (ix3 0 0 j)) (fun j => x1 (ix3 0 1 j)) (fun j => x2 (ix2 0 j))

/-- A block of rows times a column of the weights. -/
def projA (x0 : Vec Ideal S512x1024 .f32) (x1 : Vec Ideal S1x6x1024 .f32) (x2 : Vec Ideal S1x1024 .f32) (x3 : Vec Ideal S1024x4224 .bf16)
    (r : Fin 512) (C : Fin 4224) : EReal := ∑ e : Fin 1024, rowA x0 x1 x2 r e * (x3 (ix2 e C) : EReal)

theorem ld_h (x0 : Vec Ideal S512x1024 .f32) (r : Fin 512) (j : Fin 1024) : View.ld x0 r0_0 (ix2 r j) = x0 (ix2 r j) := by
  unfold r0_0
  pointwise
theorem ld_g (x2 : Vec Ideal S1x1024 .f32) (j : Fin 1024) : View.ld x2 r0_1 (ix2 0 j) = x2 (ix2 0 j) := by
  unfold r0_1
  pointwise
theorem ld_sc (x1 : Vec Ideal S1x6x1024 .f32) (j : Fin 1024) : View.ld x1 r0_2 (ix3 0 0 j) = x1 (ix3 0 1 j) := by
  unfold r0_2
  pointwise
theorem ld_sh (x1 : Vec Ideal S1x6x1024 .f32) (j : Fin 1024) : View.ld x1 r0_3 (ix3 0 0 j) = x1 (ix3 0 0 j) := by
  unfold r0_3
  pointwise

theorem pay11_apply (x0 : Vec Ideal S512x1024 .f32) (x1 : Vec Ideal S1x6x1024 .f32) (x2 : Vec Ideal S1x1024 .f32) (x3 : Vec Ideal S1024x4224 .bf16)
    (r : Fin 512) (e : Fin 1024) :
    (k0_pay2 (View.ld x0 r0_0) (View.ld x2 r0_1) (View.ld x1 r0_2) (View.ld x1 r0_3) : FVec Ideal S512x1024 .bf16) (ix2 r e) = rowA x0 x1 x2 r e := by
  exact (pay2_apply _ _ _ _ r e).trans (normed_congr (ld_h x0 r) (ld_sh x1) (ld_sc x1) (ld_g x2) e)

theorem ld_w (x3 : Vec Ideal S1024x4224 .bf16) (o : ℕ) (inb) (e : Fin 1024) (c : Fin 512) (h : o + c.val < 4224) :
    View.ld x3 (Rect.unit ![0, o] ![1024, 512] inb) (ix2 e c) = x3 (ix2 e ⟨o + c.val, h⟩) := by
  pointwise
theorem ld_w' (x3 : Vec Ideal S1024x4224 .bf16) (o : ℕ) (inb) (e : Fin 1024) (c : Fin 128) (h : o + c.val < 4224) :
    View.ld x3 (Rect.unit ![0, o] ![1024, 128] inb) (ix2 e c) = x3 (ix2 e ⟨o + c.val, h⟩) := by
  pointwise

theorem dotA_eq (a : FVec Ideal S512x1024 .bf16) (x0 : Vec Ideal S512x1024 .f32) (x1 : Vec Ideal S1x6x1024 .f32) (x2 : Vec Ideal S1x1024 .f32) (x3 : Vec Ideal S1024x4224 .bf16)
    (ha : ∀ r e, (a (ix2 r e) : EReal) = rowA x0 x1 x2 r e) (r : Fin 512) (C : Fin 4224) (w : Fin 1024 → EReal) (hw : ∀ e, w e = x3 (ix2 e C)) :
    dotA a r w = projA x0 x1 x2 x3 r C :=
  Finset.sum_congr rfl fun e _ => by rw [ha, hw]

/-- Block columns of the first output: q, k and v. -/
def blk4 (x0 : Vec Ideal S512x1024 .f32) (x1 : Vec Ideal S1x6x1024 .f32) (x2 : Vec Ideal S1x1024 .f32) (x3 : Vec Ideal S1024x4224 .bf16) : Vec Ideal S512x3072 .f32 :=
  fun y => projA x0 x1 x2 x3 (y 0) ⟨(y 1).val, by have h : (y 1).val < 3072 := (y 1).isLt; omega⟩
/-- Block columns of the second: z. -/
def blk5 (x0 : Vec Ideal S512x1024 .f32) (x1 : Vec Ideal S1x6x1024 .f32) (x2 : Vec Ideal S1x1024 .f32) (x3 : Vec Ideal S1024x4224 .bf16) : Vec Ideal S512x1024 .f32 :=
  fun y => projA x0 x1 x2 x3 (y 0) ⟨3072 + (y 1).val, by have h : (y 1).val < 1024 := (y 1).isLt; omega⟩
/-- Block columns of the third: the gates and what pads them. -/
def blk6 (x0 : Vec Ideal S512x1024 .f32) (x1 : Vec Ideal S1x6x1024 .f32) (x2 : Vec Ideal S1x1024 .f32) (x3 : Vec Ideal S1024x4224 .bf16) : Vec Ideal S512x128 .f32 :=
  fun y => projA x0 x1 x2 x3 (y 0) ⟨4096 + (y 1).val, by have h : (y 1).val < 128 := (y 1).isLt; omega⟩

section pieces
variable (x0 : Vec Ideal S512x1024 .f32) (x1 : Vec Ideal S1x6x1024 .f32) (x2 : Vec Ideal S1x1024 .f32) (x3 : Vec Ideal S1024x4224 .bf16)

/-- One piece of 512 columns: its payload `P`, a product with the columns from `o`, stored in the first output from column `o`. -/
theorem piece4 (P : FVec Ideal S512x512 .f32) (a : FVec Ideal S512x1024 .bf16) (ha : ∀ r e, (a (ix2 r e) : EReal) = rowA x0 x1 x2 r e) (o : ℕ) (ho : o ≤ 2560) (inb)
    (hP : ∀ r c : Fin 512, P (ix2 r c) = dotA a r (fun e => View.ld x3 (Rect.unit ![0, o] ![1024, 512] inb) (ix2 e c))) (x : S512x512.Idx) (y : S512x3072.Idx)
    (h0 : (y 0).val = (x 0).val) (h1 : (y 1).val = o + (x 1).val) : P x = blk4 x0 x1 x2 x3 y := by
  have hx : (x 1).val < 512 := (x 1).isLt
  obtain ⟨r, c, rfl⟩ : ∃ (r : Fin 512) (c : Fin 512), x = ix2 r c := ⟨x 0, x 1, eq_ix2 x⟩
  have hc := c.isLt
  obtain ⟨R, C, rfl⟩ : ∃ (R : Fin 512) (C : Fin 3072), y = ix2 R C := ⟨y 0, y 1, eq_ix2 y⟩
  obtain rfl : R = r := Fin.ext h0
  refine (hP R c).trans (dotA_eq a x0 x1 x2 x3 ha R ⟨C.val, by omega⟩ _ fun e => ?_)
  refine (ld_w x3 o inb e c (by omega)).trans ?_
  exact congrArg (fun k => x3 (ix2 e k)) (Fin.ext h1.symm)

theorem piece5 (P : FVec Ideal S512x512 .f32) (a : FVec Ideal S512x1024 .bf16) (ha : ∀ r e, (a (ix2 r e) : EReal) = rowA x0 x1 x2 r e) (o : ℕ) (ho : o ≤ 512) (inb)
    (hP : ∀ r c : Fin 512, P (ix2 r c) = dotA a r (fun e => View.ld x3 (Rect.unit ![0, 3072 + o] ![1024, 512] inb) (ix2 e c))) (x : S512x512.Idx) (y : S512x1024.Idx)
    (h0 : (y 0).val = (x 0).val) (h1 : (y 1).val = o + (x 1).val) : P x = blk5 x0 x1 x2 x3 y := by
  have hx : (x 1).val < 512 := (x 1).isLt
  obtain ⟨r, c, rfl⟩ : ∃ (r : Fin 512) (c : Fin 512), x = ix2 r c := ⟨x 0, x 1, eq_ix2 x⟩
  have hc := c.isLt
  obtain ⟨R, C, rfl⟩ : ∃ (R : Fin 512) (C : Fin 1024), y = ix2 R C := ⟨y 0, y 1, eq_ix2 y⟩
  obtain rfl : R = r := Fin.ext h0
  have h1' : C.val = o + c.val := h1
  refine (hP R c).trans (dotA_eq a x0 x1 x2 x3 ha R ⟨3072 + C.val, by omega⟩ _ fun e => ?_)
  refine (ld_w x3 _ inb e c (by omega)).trans ?_
  exact congrArg (fun k => x3 (ix2 e k)) (Fin.ext (by show 3072 + o + c.val = 3072 + C.val; omega))

theorem piece6 (P : FVec Ideal S512x128 .f32) (a : FVec Ideal S512x1024 .bf16) (ha : ∀ r e, (a (ix2 r e) : EReal) = rowA x0 x1 x2 r e) (inb)
    (hP : ∀ (r : Fin 512) (c : Fin 128), P (ix2 r c) = dotA a r (fun e => View.ld x3 (Rect.unit ![0, 4096] ![1024, 128] inb) (ix2 e c))) (x : S512x128.Idx) (y : S512x128.Idx)
    (h0 : (y 0).val = (x 0).val) (h1 : (y 1).val = (x 1).val) : P x = blk6 x0 x1 x2 x3 y := by
  obtain ⟨r, c, rfl⟩ : ∃ (r : Fin 512) (c : Fin 128), x = ix2 r c := ⟨x 0, x 1, eq_ix2 x⟩
  have hc := c.isLt
  obtain ⟨R, C, rfl⟩ : ∃ (R : Fin 512) (C : Fin 128), y = ix2 R C := ⟨y 0, y 1, eq_ix2 y⟩
  obtain rfl : R = r := Fin.ext h0
  obtain rfl : C = c := Fin.ext h1
  refine (hP R C).trans (dotA_eq a x0 x1 x2 x3 ha R ⟨4096 + C.val, by omega⟩ _ fun e => ?_)
  exact ld_w' x3 _ inb e C (by omega)

theorem out4_eq (y : S512x3072.Idx) : out0_4 x0 x1 x2 x3 y = blk4 x0 x1 x2 x3 y := by
  unfold_out out0_4
  refine View.canon_apply_of_pieces (blk4 x0 x1 x2 x3) _ ?_ y (cover0_4 _ _ _ _ _ _ y)
  simp only [List.forall_mem_cons, List.not_mem_nil, false_implies, implies_true, and_true]
  have ha := pay11_apply x0 x1 x2 x3
  refine ⟨?_, ?_, ?_, ?_, ?_, ?_⟩
  · exact fun x => piece4 x0 x1 x2 x3 _ _ ha 2560 (by decide) _ (pay8_apply _ _) x _ (by show 0 + 1 * (x 0).val = _; omega) (by show 2560 + 1 * (x 1).val = _; omega)
  · exact fun x => piece4 x0 x1 x2 x3 _ _ ha 2048 (by decide) _ (pay7_apply _ _) x _ (by show 0 + 1 * (x 0).val = _; omega) (by show 2048 + 1 * (x 1).val = _; omega)
  · exact fun x => piece4 x0 x1 x2 x3 _ _ ha 1536 (by decide) _ (pay6_apply _ _) x _ (by show 0 + 1 * (x 0).val = _; omega) (by show 1536 + 1 * (x 1).val = _; omega)
  · exact fun x => piece4 x0 x1 x2 x3 _ _ ha 1024 (by decide) _ (pay5_apply _ _) x _ (by show 0 + 1 * (x 0).val = _; omega) (by show 1024 + 1 * (x 1).val = _; omega)
  · exact fun x => piece4 x0 x1 x2 x3 _ _ ha 512 (by decide) _ (pay4_apply _ _ _ _ _) x _ (by show 0 + 1 * (x 0).val = _; omega) (by show 512 + 1 * (x 1).val = _; omega)
  · exact fun x => piece4 x0 x1 x2 x3 _ _ ha 0 (by decide) _ (pay3_apply _ _ _ _ _) x _ (by show 0 + 1 * (x 0).val = _; omega) (by show 0 + 1 * (x 1).val = _; omega)

theorem out5_eq (y : S512x1024.Idx) : out0_5 x0 x1 x2 x3 y = blk5 x0 x1 x2 x3 y := by
  unfold_out out0_5
  refine View.canon_apply_of_pieces (blk5 x0 x1 x2 x3) _ ?_ y (cover0_5 _ _ y)
  simp only [List.forall_mem_cons, List.not_mem_nil, false_implies, implies_true, and_true]
  have ha := pay11_apply x0 x1 x2 x3
  refine ⟨?_, ?_⟩
  · exact fun x => piece5 x0 x1 x2 x3 _ _ ha 512 (by decide) _ (pay10_apply _ _) x _ (by show 0 + 1 * (x 0).val = _; omega) (by show 512 + 1 * (x 1).val = _; omega)
  · exact fun x => piece5 x0 x1 x2 x3 _ _ ha 0 (by decide) _ (pay9_apply _ _) x _ (by show 0 + 1 * (x 0).val = _; omega) (by show 0 + 1 * (x 1).val = _; omega)

theorem out6_eq (y : S512x128.Idx) : out0_6 x0 x1 x2 x3 y = blk6 x0 x1 x2 x3 y := by
  unfold_out out0_6
  refine View.canon_apply_of_pieces (blk6 x0 x1 x2 x3) _ ?_ y (cover0_6 _ y)
  simp only [List.forall_mem_cons, List.not_mem_nil, false_implies, implies_true, and_true]
  have ha := pay11_apply x0 x1 x2 x3
  exact fun x => piece6 x0 x1 x2 x3 _ _ ha _ (pay1_apply _ _) x _ (by show 0 + 1 * (x 0).val = _; omega) (by show 0 + 1 * (x 1).val = _; omega)

end pieces

end Cert.Kernel2Ideal.Pj

end
-- ==== Proof.PjFinal.lean ====
module
public import proofs.«01_k».proof.Proof.PjBody
public import Idealize.ShloMosaic.Lib.StableHlo.RunRead

@[expose] public section

/-! The projection's three result arrays are `res4`, `res5` and `res6` of the arguments: each point of the grid writes its
block of rows, and the blocks cover the arrays. -/

noncomputable section

namespace Cert.Kernel2Ideal.Pj

open Cert.Kernel2Ideal Cert.Kernel2Ideal.Gen Idealize.ShloMosaic Idealize.ShloMosaic.TcCoe Idealize.ShloMosaic.Tactic Idealize.SL.Sem Idealize.ShloMosaic.Pipeline
open scoped BigOperators

/-! ## What is computed -/

/-- The modulation of a row: one of four for the sequences' rows, the fifth for the context's. -/
def modRow (R : Fin 33792) : Fin 5 := ⟨min (R.val / 8192) 4, by omega⟩

/-- Row `R` of the layer's input, normed and modulated. -/
def rowOf (h : FVec Ideal S33792x1024 .f32) (md : FVec Ideal S5x6x1024 .f32) (g : FVec Ideal S1024 .f32) (R : Fin 33792) : Fin 1024 → EReal :=
  normed (fun j => h (ix2 R j)) (fun j => md (ix3 (modRow R) 0 j)) (fun j => md (ix3 (modRow R) 1 j)) (fun j => g (ix1 j))

/-- That row times column `C` of the weights. -/
def proj (h : FVec Ideal S33792x1024 .f32) (md : FVec Ideal S5x6x1024 .f32) (g : FVec Ideal S1024 .f32) (w : FVec Ideal S1024x4128 .f32)
    (R : Fin 33792) (C : Fin 4128) : EReal := ∑ e : Fin 1024, rowOf h md g R e * (w (ix2 e C) : EReal)

/-- The first result: the columns of q, k and v. -/
def res4 (h : FVec Ideal S33792x1024 .f32) (md : FVec Ideal S5x6x1024 .f32) (g : FVec Ideal S1024 .f32) (w : FVec Ideal S1024x4128 .f32) : FVec Ideal S33792x3072 .f32 :=
  fun y => proj h md g w (y 0) ⟨(y 1).val, by have h : (y 1).val < 3072 := (y 1).isLt; omega⟩

/-- The second: the columns of z. -/
def res5 (h : FVec Ideal S33792x1024 .f32) (md : FVec Ideal S5x6x1024 .f32) (g : FVec Ideal S1024 .f32) (w : FVec Ideal S1024x4128 .f32) : FVec Ideal S33792x1024 .f32 :=
  fun y => proj h md g w (y 0) ⟨3072 + (y 1).val, by have h : (y 1).val < 1024 := (y 1).isLt; omega⟩

/-- The third: the 32 columns of the gates, and zeros. -/
def res6 (h : FVec Ideal S33792x1024 .f32) (md : FVec Ideal S5x6x1024 .f32) (g : FVec Ideal S1024 .f32) (w : FVec Ideal S1024x4128 .f32) : FVec Ideal S33792x128 .f32 :=
  fun y => if hy : (y 1).val < 32 then proj h md g w (y 0) ⟨4096 + (y 1).val, by omega⟩ else (0 : EReal)

theorem res6_lo (h : FVec Ideal S33792x1024 .f32) (md : FVec Ideal S5x6x1024 .f32) (g : FVec Ideal S1024 .f32) (w : FVec Ideal S1024x4128 .f32) (R : Fin 33792) (C : Fin 128)
    (hC : C.val < 32) : res6 h md g w (ix2 R C) = proj h md g w R ⟨4096 + C.val, by omega⟩ := by
  unfold res6
  exact dif_pos hC

theorem res6_hi (h : FVec Ideal S33792x1024 .f32) (md : FVec Ideal S5x6x1024 .f32) (g : FVec Ideal S1024 .f32) (w : FVec Ideal S1024x4128 .f32) (R : Fin 33792) (C : Fin 128)
    (hC : ¬ C.val < 32) : res6 h md g w (ix2 R C) = (0 : EReal) := by
  unfold res6
  exact dif_neg hC

/-! ## What the windows hold -/

variable (m : (ℓ : Loc nD τ sig) → Buf (Elt Ideal) ℓ)

/-- The weights as the kernel is given them: the columns of zeros beside the gates' 32. -/
def hostW (w : FVec Ideal S1024x4128 .f32) : FVec Ideal S1024x4224 .bf16 :=
  truncf .bf16 (concatenate S1024x4224 1 [⟨S1024x4128, w⟩, ⟨S1024x96, broadcastInDim S1024x96 ![] bcast_S_S1024x96 (constant S_ .f32 0x00000000#32)⟩]
    concatenates_S1024x4128_S1024x96_S1024x4224_d1) bitsLt_bf16_f32

theorem V_v2 (c : Dev nD) : V m c main_v2 = hostW (m ((c : Thread nD τ).loc main_arg3)) := by
  unfold V
  after_reads_simp
  rfl

theorem V_v3 (c : Dev nD) : V m c main_v3 = shapeCast S1x1024 (m ((c : Thread nD τ).loc main_arg2)) shapeCasts_S1024_S1x1024 := by
  unfold V
  after_reads_simp
  rfl

theorem V_arg0 (c : Dev nD) : V m c main_arg0 = m ((c : Thread nD τ).loc main_arg0) := by
  unfold V
  after_reads_simp

theorem V_arg1 (c : Dev nD) : V m c main_arg1 = m ((c : Thread nD τ).loc main_arg1) := by
  unfold V
  after_reads_simp

theorem hostW_lo (w : FVec Ideal S1024x4128 .f32) (e : Fin 1024) (C : Fin 4224) (h : C.val < 4128) : (hostW w (ix2 e C) : EReal) = w (ix2 e ⟨C.val, h⟩) :=
  concatenate_pair_apply_left (t := S1024x4224) (s₁ := S1024x4128) (s₂ := S1024x96) 1 w _ concatenates_S1024x4128_S1024x96_S1024x4224_d1 (ix2 e C) rfl
    (ix2 e ⟨C.val, h⟩) (fun x => match x with | ⟨0, _⟩ => rfl | ⟨1, _⟩ => rfl)

theorem hostW_hi (w : FVec Ideal S1024x4128 .f32) (e : Fin 1024) (C : Fin 4224) (h : 4128 ≤ C.val) : (hostW w (ix2 e C) : EReal) = 0 :=
  (concatenate_pair_apply_right (t := S1024x4224) (s₁ := S1024x4128) (s₂ := S1024x96) 1 w
    (broadcastInDim S1024x96 ![] bcast_S_S1024x96 (constant (F := Ideal) S_ .f32 0x00000000#32)) concatenates_S1024x4128_S1024x96_S1024x4224_d1 (ix2 e C) rfl rfl
    (ix2 e ⟨C.val - 4128, by omega⟩) (fun x hx => match x with | ⟨0, _⟩ => rfl | ⟨1, _⟩ => absurd rfl hx)
    (by show C.val - 4128 + 4128 = C.val; omega)).trans Ideal.ofBits_zero_f32

theorem idx_eq_ix2 {a b : ℕ} (y : Shape.Idx ⟨2, ![a, b]⟩) (R : Fin a) (C : Fin b) (h0 : (y 0).val = R.val) (h1 : (y 1).val = C.val) :
    y = ix2 R C := by
  rw [eq_ix2 y]
  exact congrArg₂ ix2 (Fin.ext h0) (Fin.ext h1)

theorem idx_eq_ix3 {a b d : ℕ} (y : Shape.Idx ⟨3, ![a, b, d]⟩) (A : Fin a) (B : Fin b) (C : Fin d) (h0 : (y 0).val = A.val) (h1 : (y 1).val = B.val)
    (h2 : (y 2).val = C.val) : y = ix3 A B C := by
  rw [eq_ix3 y]
  obtain rfl : y 0 = A := Fin.ext h0
  obtain rfl : y 1 = B := Fin.ext h1
  obtain rfl : y 2 = C := Fin.ext h2
  rfl

/-- Which block of its array each window holds at each point. -/
theorem idx0 : ∀ t : Fin cfg0.N, win0_0.index t 0 = t.val ∧ win0_0.index t 1 = 0 := by decide +kernel
theorem idx1 : ∀ t : Fin cfg0.N, win0_1.index t 0 = min (t.val / 16) 4 ∧ win0_1.index t 1 = 0 ∧ win0_1.index t 2 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel

/-- Window 0's block of an array at a point: 512 rows. -/
theorem read0 (X : FVec Ideal S33792x1024 .f32) (t : Fin cfg0.N) (r : Fin 512) (C : Fin 1024) (R : Fin 33792) (hR : R.val = t.val * 512 + r.val) :
    (((cfg0.win 0).blk t).view.read (Elt Ideal) X : Vec Ideal S512x1024 .f32) (ix2 r C) = X (ix2 R C) := by
  have h0 : ((win0_0.rect t).emb (ix2 r C) 0 : Nat) = win0_0.index t 0 * 512 + r.val := Window.rect_emb_val win0_0 t (ix2 r C) 0
  have h1 : ((win0_0.rect t).emb (ix2 r C) 1 : Nat) = win0_0.index t 1 * 1024 + C.val := Window.rect_emb_val win0_0 t (ix2 r C) 1
  rw [(idx0 t).1] at h0
  rw [(idx0 t).2] at h1
  exact congrArg X (idx_eq_ix2 _ R C (h0.trans hR.symm) (h1.trans (by rw [Nat.zero_mul, Nat.zero_add])))

/-- Window 1's: the modulation of one sequence, or of the context. -/
theorem read1 (X : FVec Ideal S5x6x1024 .f32) (t : Fin cfg0.N) (k : Fin 6) (C : Fin 1024) (b : Fin 5) (hb : b.val = min (t.val / 16) 4) :
    (((cfg0.win 1).blk t).view.read (Elt Ideal) X : Vec Ideal S1x6x1024 .f32) (ix3 0 k C) = X (ix3 b k C) := by
  have h0 : ((win0_1.rect t).emb (ix3 0 k C) 0 : Nat) = win0_1.index t 0 * 1 + 0 := Window.rect_emb_val win0_1 t (ix3 0 k C) 0
  have h1 : ((win0_1.rect t).emb (ix3 0 k C) 1 : Nat) = win0_1.index t 1 * 6 + k.val := Window.rect_emb_val win0_1 t (ix3 0 k C) 1
  have h2 : ((win0_1.rect t).emb (ix3 0 k C) 2 : Nat) = win0_1.index t 2 * 1024 + C.val := Window.rect_emb_val win0_1 t (ix3 0 k C) 2
  rw [(idx1 t).1] at h0
  rw [(idx1 t).2.1] at h1
  rw [(idx1 t).2.2] at h2
  exact congrArg X (idx_eq_ix3 _ b k C (h0.trans (by omega)) (h1.trans (by omega)) (h2.trans (by omega)))

/-- Window 2's: the whole gain. -/
theorem read2 (X : FVec Ideal S1x1024 .f32) (t : Fin cfg0.N) (C : Fin 1024) :
    (((cfg0.win 2).blk t).view.read (Elt Ideal) X : Vec Ideal S1x1024 .f32) (ix2 0 C) = X (ix2 0 C) := by
  have h0 : ((win0_2.rect t).emb (ix2 0 C) 0 : Nat) = win0_2.index t 0 * 1 + 0 := Window.rect_emb_val win0_2 t (ix2 0 C) 0
  have h1 : ((win0_2.rect t).emb (ix2 0 C) 1 : Nat) = win0_2.index t 1 * 1024 + C.val := Window.rect_emb_val win0_2 t (ix2 0 C) 1
  rw [(idx2 t).1] at h0
  rw [(idx2 t).2] at h1
  exact congrArg X (idx_eq_ix2 _ 0 C (h0.trans rfl) (h1.trans (by rw [Nat.zero_mul, Nat.zero_add])))

/-- Window 3's: the whole of the weights. -/
theorem read3 (X : FVec Ideal S1024x4224 .bf16) (t : Fin cfg0.N) (e : Fin 1024) (C : Fin 4224) :
    (((cfg0.win 3).blk t).view.read (Elt Ideal) X : Vec Ideal S1024x4224 .bf16) (ix2 e C) = X (ix2 e C) := by
  have h0 : ((win0_3.rect t).emb (ix2 e C) 0 : Nat) = win0_3.index t 0 * 1024 + e.val := Window.rect_emb_val win0_3 t (ix2 e C) 0
  have h1 : ((win0_3.rect t).emb (ix2 e C) 1 : Nat) = win0_3.index t 1 * 4224 + C.val := Window.rect_emb_val win0_3 t (ix2 e C) 1
  rw [(idx3 t).1] at h0
  rw [(idx3 t).2] at h1
  exact congrArg X (idx_eq_ix2 _ e C (h0.trans (by rw [Nat.zero_mul, Nat.zero_add])) (h1.trans (by rw [Nat.zero_mul, Nat.zero_add])))

theorem read4 (X : FVec Ideal S33792x3072 .f32) (t : Fin cfg0.N) (r : Fin 512) (C : Fin 3072) (R : Fin 33792) (hR : R.val = t.val * 512 + r.val) :
    (((cfg0.win 4).blk t).view.read (Elt Ideal) X : Vec Ideal S512x3072 .f32) (ix2 r C) = X (ix2 R C) := by
  have h0 : ((win0_4.rect t).emb (ix2 r C) 0 : Nat) = win0_4.index t 0 * 512 + r.val := Window.rect_emb_val win0_4 t (ix2 r C) 0
  have h1 : ((win0_4.rect t).emb (ix2 r C) 1 : Nat) = win0_4.index t 1 * 3072 + C.val := Window.rect_emb_val win0_4 t (ix2 r C) 1
  rw [(idx4 t).1] at h0
  rw [(idx4 t).2] at h1
  exact congrArg X (idx_eq_ix2 _ R C (h0.trans hR.symm) (h1.trans (by rw [Nat.zero_mul, Nat.zero_add])))

theorem read5 (X : FVec Ideal S33792x1024 .f32) (t : Fin cfg0.N) (r : Fin 512) (C : Fin 1024) (R : Fin 33792) (hR : R.val = t.val * 512 + r.val) :
    (((cfg0.win 5).blk t).view.read (Elt Ideal) X : Vec Ideal S512x1024 .f32) (ix2 r C) = X (ix2 R C) := by
  have h0 : ((win0_5.rect t).emb (ix2 r C) 0 : Nat) = win0_5.index t 0 * 512 + r.val := Window.rect_emb_val win0_5 t (ix2 r C) 0
  have h1 : ((win0_5.rect t).emb (ix2 r C) 1 : Nat) = win0_5.index t 1 * 1024 + C.val := Window.rect_emb_val win0_5 t (ix2 r C) 1
  rw [(idx5 t).1] at h0
  rw [(idx5 t).2] at h1
  exact congrArg X (idx_eq_ix2 _ R C (h0.trans hR.symm) (h1.trans (by rw [Nat.zero_mul, Nat.zero_add])))

theorem read6 (X : FVec Ideal S33792x128 .f32) (t : Fin cfg0.N) (r : Fin 512) (C : Fin 128) (R : Fin 33792) (hR : R.val = t.val * 512 + r.val) :
    (((cfg0.win 6).blk t).view.read (Elt Ideal) X : Vec Ideal S512x128 .f32) (ix2 r C) = X (ix2 R C) := by
  have h0 : ((win0_6.rect t).emb (ix2 r C) 0 : Nat) = win0_6.index t 0 * 512 + r.val := Window.rect_emb_val win0_6 t (ix2 r C) 0
  have h1 : ((win0_6.rect t).emb (ix2 r C) 1 : Nat) = win0_6.index t 1 * 128 + C.val := Window.rect_emb_val win0_6 t (ix2 r C) 1
  rw [(idx6 t).1] at h0
  rw [(idx6 t).2] at h1
  exact congrArg X (idx_eq_ix2 _ R C (h0.trans hR.symm) (h1.trans (by rw [Nat.zero_mul, Nat.zero_add])))

/-- The arguments on core `c`. -/
abbrev a0 (c : Dev nD) : FVec Ideal S33792x1024 .f32 := m ((c : Thread nD τ).loc main_arg0)
abbrev a1 (c : Dev nD) : FVec Ideal S5x6x1024 .f32 := m ((c : Thread nD τ).loc main_arg1)
abbrev a2 (c : Dev nD) : FVec Ideal S1024 .f32 := m ((c : Thread nD τ).loc main_arg2)
abbrev a3 (c : Dev nD) : FVec Ideal S1024x4128 .f32 := m ((c : Thread nD τ).loc main_arg3)

theorem blk0_apply (c : Dev nD) (t : Fin cfg0.N) (r : Fin 512) (C : Fin 1024) (R : Fin 33792) (hR : R.val = t.val * 512 + r.val) :
    (iblk m c 0 t : Vec Ideal S512x1024 .f32) (ix2 r C) = a0 m c (ix2 R C) :=
  (read0 (V m c main_arg0) t r C R hR).trans (congrFun (V_arg0 m c) _)

theorem blk1_apply (c : Dev nD) (t : Fin cfg0.N) (k : Fin 6) (C : Fin 1024) (b : Fin 5) (hb : b.val = min (t.val / 16) 4) :
    (iblk m c 1 t : Vec Ideal S1x6x1024 .f32) (ix3 0 k C) = a1 m c (ix3 b k C) :=
  (read1 (V m c main_arg1) t k C b hb).trans (congrFun (V_arg1 m c) _)

theorem blk2_apply (c : Dev nD) (t : Fin cfg0.N) (C : Fin 1024) :
    (iblk m c 2 t : Vec Ideal S1x1024 .f32) (ix2 0 C) = a2 m c (ix1 C) := by
  refine (read2 (V m c main_v3) t C).trans ((congrFun (V_v3 m c) _).trans ?_)
  refine shapeCast_apply (t := S1x1024) (s := S1024) _ _ _ _ ?_
  rw [Shape.rowMajor_val_one, Shape.rowMajor_val_two]
  show C.val = 0 * 1024 + C.val
  omega

theorem blk3_apply (c : Dev nD) (t : Fin cfg0.N) (e : Fin 1024) (C : Fin 4224) :
    (iblk m c 3 t : Vec Ideal S1024x4224 .bf16) (ix2 e C) = hostW (a3 m c) (ix2 e C) :=
  (read3 (V m c main_v2) t e C).trans (congrFun (V_v2 m c) _)

/-- The rows of a point's block are the rows of the array. -/
theorem rowA_blk (c : Dev nD) (t : Fin cfg0.N) (r : Fin 512) (R : Fin 33792) (hR : R.val = t.val * 512 + r.val) (e : Fin 1024) :
    rowA (iblk m c 0 t) (iblk m c 1 t) (iblk m c 2 t) r e = rowOf (a0 m c) (a1 m c) (a2 m c) R e := by
  have hb : (modRow R).val = min (t.val / 16) 4 := by
    have := r.isLt
    show min (R.val / 8192) 4 = _
    omega
  exact normed_congr (fun j => blk0_apply m c t r j R hR) (fun j => blk1_apply m c t 0 j _ hb) (fun j => blk1_apply m c t 1 j _ hb) (fun j => blk2_apply m c t j) e

/-- A column of the block among the weights' own. -/
theorem projA_lo (c : Dev nD) (t : Fin cfg0.N) (r : Fin 512) (R : Fin 33792) (hR : R.val = t.val * 512 + r.val) (C : Fin 4224) (h : C.val < 4128) :
    projA (iblk m c 0 t) (iblk m c 1 t) (iblk m c 2 t) (iblk m c 3 t) r C = proj (a0 m c) (a1 m c) (a2 m c) (a3 m c) R ⟨C.val, h⟩ := by
  refine Finset.sum_congr rfl fun e _ => ?_
  rw [rowA_blk m c t r R hR e]
  exact congrArg (fun x : EReal => _ * x) ((blk3_apply m c t e C).trans (hostW_lo _ e C h))

/-- A column of the zeros. -/
theorem projA_hi (c : Dev nD) (t : Fin cfg0.N) (r : Fin 512) (C : Fin 4224) (h : 4128 ≤ C.val) :
    projA (iblk m c 0 t) (iblk m c 1 t) (iblk m c 2 t) (iblk m c 3 t) r C = 0 := by
  refine Finset.sum_eq_zero fun e _ => ?_
  exact (congrArg (fun x : EReal => _ * x) ((blk3_apply m c t e C).trans (hostW_hi _ e C h))).trans (mul_zero _)

/-! ## The arrays -/

abbrev r4 (c : Dev nD) : FVec Ideal S33792x3072 .f32 := res4 (a0 m c) (a1 m c) (a2 m c) (a3 m c)
abbrev r5 (c : Dev nD) : FVec Ideal S33792x1024 .f32 := res5 (a0 m c) (a1 m c) (a2 m c) (a3 m c)
abbrev r6 (c : Dev nD) : FVec Ideal S33792x128 .f32 := res6 (a0 m c) (a1 m c) (a2 m c) (a3 m c)

theorem flushed_4 (c : Dev nD) (t : Fin cfg0.N) : (dats m 0 c).flushed 4 t = ((cfg0.win 4).blk t).view.read (Elt Ideal) (r4 m c) := by
  rw [Value.flushed4]
  have key : ∀ y : S512x3072.Idx, out0_4 (iblk m c 0 t) (iblk m c 1 t) (iblk m c 2 t) (iblk m c 3 t) y
      = (((cfg0.win 4).blk t).view.read (Elt Ideal) (r4 m c) : Vec Ideal S512x3072 .f32) y := by
    intro y
    have ht : t.val < 66 := t.isLt
    obtain ⟨r, C, rfl⟩ : ∃ (r : Fin 512) (C : Fin 3072), y = ix2 r C := ⟨y 0, y 1, eq_ix2 y⟩
    have hr := r.isLt
    have hC := C.isLt
    rw [out4_eq, read4 (r4 m c) t r C ⟨t.val * 512 + r.val, by omega⟩ rfl]
    exact projA_lo m c t r ⟨t.val * 512 + r.val, by omega⟩ rfl ⟨C.val, by omega⟩ (by show C.val < 4128; omega)
  exact funext key

theorem flushed_5 (c : Dev nD) (t : Fin cfg0.N) : (dats m 0 c).flushed 5 t = ((cfg0.win 5).blk t).view.read (Elt Ideal) (r5 m c) := by
  rw [Value.flushed5]
  have key : ∀ y : S512x1024.Idx, out0_5 (iblk m c 0 t) (iblk m c 1 t) (iblk m c 2 t) (iblk m c 3 t) y
      = (((cfg0.win 5).blk t).view.read (Elt Ideal) (r5 m c) : Vec Ideal S512x1024 .f32) y := by
    intro y
    have ht : t.val < 66 := t.isLt
    obtain ⟨r, C, rfl⟩ : ∃ (r : Fin 512) (C : Fin 1024), y = ix2 r C := ⟨y 0, y 1, eq_ix2 y⟩
    have hr := r.isLt
    have hC := C.isLt
    rw [out5_eq, read5 (r5 m c) t r C ⟨t.val * 512 + r.val, by omega⟩ rfl]
    exact projA_lo m c t r ⟨t.val * 512 + r.val, by omega⟩ rfl ⟨3072 + C.val, by omega⟩ (by show 3072 + C.val < 4128; omega)
  exact funext key

theorem flushed_6 (c : Dev nD) (t : Fin cfg0.N) : (dats m 0 c).flushed 6 t = ((cfg0.win 6).blk t).view.read (Elt Ideal) (r6 m c) := by
  rw [Value.flushed6]
  have key : ∀ y : S512x128.Idx, out0_6 (iblk m c 0 t) (iblk m c 1 t) (iblk m c 2 t) (iblk m c 3 t) y
      = (((cfg0.win 6).blk t).view.read (Elt Ideal) (r6 m c) : Vec Ideal S512x128 .f32) y := by
    intro y
    have ht : t.val < 66 := t.isLt
    obtain ⟨r, C, rfl⟩ : ∃ (r : Fin 512) (C : Fin 128), y = ix2 r C := ⟨y 0, y 1, eq_ix2 y⟩
    have hr := r.isLt
    have hC := C.isLt
    rw [out6_eq, read6 (r6 m c) t r C ⟨t.val * 512 + r.val, by omega⟩ rfl]
    by_cases h : C.val < 32
    · exact (projA_lo m c t r ⟨t.val * 512 + r.val, by omega⟩ rfl ⟨4096 + C.val, by omega⟩ (by show 4096 + C.val < 4128; omega)).trans (res6_lo _ _ _ _ _ C h).symm
    · exact (projA_hi m c t r ⟨4096 + C.val, by omega⟩ (by show 4128 ≤ 4096 + C.val; omega)).trans (res6_hi _ _ _ _ _ C h).symm
  exact funext key

theorem cover_4 (i : S33792x3072.Idx) : ∃ t : Fin cfg0.N, (cfg0.win 4).flush t = true ∧ i ∈ ((cfg0.win 4).blk t).view.set := by
  have h0 : (i 0).val < 33792 := (i 0).isLt
  have h1 : (i 1).val < 3072 := (i 1).isLt
  obtain ⟨t, ht⟩ : ∃ t : Fin cfg0.N, t.val = (i 0).val / 512 := ⟨⟨(i 0).val / 512, by show _ < 66; omega⟩, rfl⟩
  refine ⟨t, flush0_4 t, ?_⟩
  have e0 : ((win0_4.rect t).emb (ix2 (⟨(i 0).val % 512, by omega⟩ : Fin 512) (⟨(i 1).val, h1⟩ : Fin 3072)) 0 : Nat) = win0_4.index t 0 * 512 + (i 0).val % 512 := Window.rect_emb_val win0_4 t _ 0
  have e1 : ((win0_4.rect t).emb (ix2 (⟨(i 0).val % 512, by omega⟩ : Fin 512) (⟨(i 1).val, h1⟩ : Fin 3072)) 1 : Nat) = win0_4.index t 1 * 3072 + (i 1).val := Window.rect_emb_val win0_4 t _ 1
  rw [(idx4 t).1] at e0
  rw [(idx4 t).2] at e1
  have e : i = (win0_4.rect t).emb (ix2 (⟨(i 0).val % 512, by omega⟩ : Fin 512) (⟨(i 1).val, h1⟩ : Fin 3072)) :=
    (eq_ix2 i).trans (idx_eq_ix2 _ (i 0) (i 1) (e0.trans (by rw [ht]; omega)) (e1.trans (by rw [Nat.zero_mul, Nat.zero_add]))).symm
  rw [e]
  exact ((cfg0.win 4).blk t).view.emb_mem_set _

theorem cover_5 (i : S33792x1024.Idx) : ∃ t : Fin cfg0.N, (cfg0.win 5).flush t = true ∧ i ∈ ((cfg0.win 5).blk t).view.set := by
  have h0 : (i 0).val < 33792 := (i 0).isLt
  have h1 : (i 1).val < 1024 := (i 1).isLt
  obtain ⟨t, ht⟩ : ∃ t : Fin cfg0.N, t.val = (i 0).val / 512 := ⟨⟨(i 0).val / 512, by show _ < 66; omega⟩, rfl⟩
  refine ⟨t, flush0_5 t, ?_⟩
  have e0 : ((win0_5.rect t).emb (ix2 (⟨(i 0).val % 512, by omega⟩ : Fin 512) (⟨(i 1).val, h1⟩ : Fin 1024)) 0 : Nat) = win0_5.index t 0 * 512 + (i 0).val % 512 := Window.rect_emb_val win0_5 t _ 0
  have e1 : ((win0_5.rect t).emb (ix2 (⟨(i 0).val % 512, by omega⟩ : Fin 512) (⟨(i 1).val, h1⟩ : Fin 1024)) 1 : Nat) = win0_5.index t 1 * 1024 + (i 1).val := Window.rect_emb_val win0_5 t _ 1
  rw [(idx5 t).1] at e0
  rw [(idx5 t).2] at e1
  have e : i = (win0_5.rect t).emb (ix2 (⟨(i 0).val % 512, by omega⟩ : Fin 512) (⟨(i 1).val, h1⟩ : Fin 1024)) :=
    (eq_ix2 i).trans (idx_eq_ix2 _ (i 0) (i 1) (e0.trans (by rw [ht]; omega)) (e1.trans (by rw [Nat.zero_mul, Nat.zero_add]))).symm
  rw [e]
  exact ((cfg0.win 5).blk t).view.emb_mem_set _

theorem cover_6 (i : S33792x128.Idx) : ∃ t : Fin cfg0.N, (cfg0.win 6).flush t = true ∧ i ∈ ((cfg0.win 6).blk t).view.set := by
  have h0 : (i 0).val < 33792 := (i 0).isLt
  have h1 : (i 1).val < 128 := (i 1).isLt
  obtain ⟨t, ht⟩ : ∃ t : Fin cfg0.N, t.val = (i 0).val / 512 := ⟨⟨(i 0).val / 512, by show _ < 66; omega⟩, rfl⟩
  refine ⟨t, flush0_6 t, ?_⟩
  have e0 : ((win0_6.rect t).emb (ix2 (⟨(i 0).val % 512, by omega⟩ : Fin 512) (⟨(i 1).val, h1⟩ : Fin 128)) 0 : Nat) = win0_6.index t 0 * 512 + (i 0).val % 512 := Window.rect_emb_val win0_6 t _ 0
  have e1 : ((win0_6.rect t).emb (ix2 (⟨(i 0).val % 512, by omega⟩ : Fin 512) (⟨(i 1).val, h1⟩ : Fin 128)) 1 : Nat) = win0_6.index t 1 * 128 + (i 1).val := Window.rect_emb_val win0_6 t _ 1
  rw [(idx6 t).1] at e0
  rw [(idx6 t).2] at e1
  have e : i = (win0_6.rect t).emb (ix2 (⟨(i 0).val % 512, by omega⟩ : Fin 512) (⟨(i 1).val, h1⟩ : Fin 128)) :=
    (eq_ix2 i).trans (idx_eq_ix2 _ (i 0) (i 1) (e0.trans (by rw [ht]; omega)) (e1.trans (by rw [Nat.zero_mul, Nat.zero_add]))).symm
  rw [e]
  exact ((cfg0.win 6).blk t).view.emb_mem_set _

/-- The first result array after the grid. -/
theorem final_4 (c : Dev nD) : (dats m 0 c).arrAt 4 cfg0.N = r4 m c := (dats m 0 c).arrAt_eq_of_cover 4 (r4 m c) (fun t _ => flushed_4 m c t) cover_4
/-- The second. -/
theorem final_5 (c : Dev nD) : (dats m 0 c).arrAt 5 cfg0.N = r5 m c := (dats m 0 c).arrAt_eq_of_cover 5 (r5 m c) (fun t _ => flushed_5 m c t) cover_5
/-- The third. -/
theorem final_6 (c : Dev nD) : (dats m 0 c).arrAt 6 cfg0.N = r6 m c := (dats m 0 c).arrAt_eq_of_cover 6 (r6 m c) (fun t _ => flushed_6 m c t) cover_6

end Cert.Kernel2Ideal.Pj

end
-- ==== Proof.PjRef.lean ====
module
public import proofs.«01_k».proof.Proof.PjFinal
public import proofs.«01_k».proof.Proof.Gen.Reference2Ideal.Read

@[expose] public section

/-! The projection's reference, element by element: its three results are `res4`, `res5` and `res6` too. -/

noncomputable section

namespace Cert.Reference2Ideal.Pj

open Cert.Reference2Ideal Cert.Reference2Ideal.Gen Cert.Reference2Ideal.Read Idealize.ShloMosaic Idealize.ShloMosaic.TcCoe
open Cert.Kernel2Ideal.Pj
open scoped BigOperators

/-- A function at an index equal to another. -/
theorem at_ix {ι : Type} {α : Type} (f : ι → α) {i : ι} {x : α} (i' : ι) (h : i = i') (e : f i' = x) : f i = x := h ▸ e

variable (h : FVec Ideal S33792x1024 .f32) (md : FVec Ideal S5x6x1024 .f32) (g : FVec Ideal S1024 .f32) (w : FVec Ideal S1024x4128 .f32)

/-- The reciprocal root of a row's mean square. -/
theorem b7 (R : Fin 33792) : (val_main_v7 (F := Ideal) h (ix2 R 0) : EReal)
    = Ideal.rsqrt (Ideal.div (∑ j : Fin 1024, (h (ix2 R j) : EReal) * h (ix2 R j)) (Ideal.ofBits .f32 0x44800000#32) + Ideal.ofBits .f32 0x358637BD#32) := by
  have e1 : (val_main_v1 (F := Ideal) h (ix1 R) : EReal) = ∑ j : Fin 1024, (h (ix2 R j) : EReal) * h (ix2 R j) := by
    refine (val_main_v1_apply h (ix1 R)).trans ?_
    refine (congrArg₂ (fun x y : EReal => x + y) Ideal.ofBits_zero_f32 (Finset.sum_congr rfl fun j _ => ?_)).trans (zero_add _)
    exact at_ix (val_main_v0 (F := Ideal) h) (ix2 R j) (idx_eq_ix2 _ R j rfl rfl) rfl
  have e2 : (val_main_v2 (F := Ideal) h (ix2 R 0) : EReal) = ∑ j : Fin 1024, (h (ix2 R j) : EReal) * h (ix2 R j) :=
    (val_main_v2_apply (F := Ideal) h _).trans (at_ix (val_main_v1 (F := Ideal) h) (ix1 R) (funext fun a => match a with | ⟨0, _⟩ => rfl) e1)
  refine (val_main_v7_apply (F := Ideal) h _).trans (congrArg Ideal.rsqrt ?_)
  refine (val_main_v6_apply (F := Ideal) h _).trans (congrArg₂ (fun x y : EReal => x + y) ?_ rfl)
  have e3 : (val_main_v3 (F := Ideal) (ix2 R 0) : EReal) = Ideal.ofBits .f32 0x44800000#32 := val_main_v3_apply (F := Ideal) _
  refine (val_main_v4_apply (F := Ideal) h _).trans (?_ : Ideal.div (val_main_v2 (F := Ideal) h (ix2 R 0)) (val_main_v3 (F := Ideal) (ix2 R 0)) = _)
  rw [e2, e3]

/-- The normed row. -/
theorem b12 (R : Fin 33792) (e : Fin 1024) : (val_main_v12 (F := Ideal) h g (ix2 R e) : EReal)
    = (h (ix2 R e) : EReal) * Ideal.rsqrt (Ideal.div (∑ j : Fin 1024, (h (ix2 R j) : EReal) * h (ix2 R j)) (Ideal.ofBits .f32 0x44800000#32) + Ideal.ofBits .f32 0x358637BD#32)
      * g (ix1 e) := by
  refine (val_main_v12_apply (F := Ideal) h g _).trans (congrArg₂ (fun x y : EReal => x * y) ?_ ?_)
  · refine (val_main_v9_apply (F := Ideal) h _).trans (congrArg (fun x : EReal => _ * x) ?_)
    exact (val_main_v8_apply (F := Ideal) h _).trans (at_ix (val_main_v7 (F := Ideal) h) (ix2 R 0) (idx_eq_ix2 _ R 0 rfl rfl) (b7 h R))
  · refine (val_main_v11_apply (F := Ideal) g _).trans ((val_main_v10_apply (F := Ideal) g _).trans ?_)
    exact congrArg g (funext fun a => match a with | ⟨0, _⟩ => rfl)

/-- The scales. -/
theorem b14 (b : Fin 5) (C : Fin 1024) : val_main_v14 (F := Ideal) md (ix2 b C) = md (ix3 b 1 C) := by
  refine (val_main_v14_apply (F := Ideal) md _).trans ((val_main_v13_apply (F := Ideal) md _).trans (congrArg md ?_))
  exact idx_eq_ix3 _ b 1 C (by show (b.val * 1024 + C.val) / 1024 = b.val; omega) rfl (by show (b.val * 1024 + C.val) % 1024 = C.val; omega)

/-- The shifts. -/
theorem b27 (b : Fin 5) (C : Fin 1024) : val_main_v27 (F := Ideal) md (ix2 b C) = md (ix3 b 0 C) := by
  refine (val_main_v27_apply (F := Ideal) md _).trans ((val_main_v26_apply (F := Ideal) md _).trans (congrArg md ?_))
  exact idx_eq_ix3 _ b 0 C (by show (b.val * 1024 + C.val) / 1024 = b.val; omega) rfl (by show (b.val * 1024 + C.val) % 1024 = C.val; omega)

theorem modRow_lat (R : Fin 33792) (hR : R.val < 32768) : (modRow R).val = R.val / 8192 := by show min (R.val / 8192) 4 = _; omega
theorem modRow_ctx (R : Fin 33792) (hR : ¬ R.val < 32768) : (modRow R).val = 4 := by have := R.isLt; show min (R.val / 8192) 4 = _; omega

theorem cat_rows (a : FVec Ideal S32768x1024 .f32) (b : FVec Ideal S1024x1024 .f32) (R : Fin 33792) (C : Fin 1024) (x : EReal)
    (hlo : ∀ (r : Fin 32768), r.val = R.val → (a (ix2 r C) : EReal) = x) (hhi : ¬ R.val < 32768 → ∀ (r : Fin 1024), (b (ix2 r C) : EReal) = x) :
    (concatenate S33792x1024 0 [⟨S32768x1024, a⟩, ⟨S1024x1024, b⟩] concatenates_S32768x1024_S1024x1024_S33792x1024_d0 (ix2 R C) : EReal) = x := by
  by_cases hR : R.val < 32768
  · exact (concatenate_pair_apply_left (t := S33792x1024) (s₁ := S32768x1024) (s₂ := S1024x1024) 0 a b _ (ix2 R C) rfl
      (ix2 ⟨R.val, hR⟩ C) (fun x => match x with | ⟨0, _⟩ => rfl | ⟨1, _⟩ => rfl)).trans (hlo _ rfl)
  · exact (concatenate_pair_apply_right (t := S33792x1024) (s₁ := S32768x1024) (s₂ := S1024x1024) 0 a b _ (ix2 R C) rfl rfl
      (ix2 ⟨R.val - 32768, by omega⟩ C) (fun x hx => match x with | ⟨0, _⟩ => absurd rfl hx | ⟨1, _⟩ => rfl)
      (by show R.val - 32768 + 32768 = R.val; omega)).trans (hhi hR _)

/-- Each row's scale. -/
theorem b22 (R : Fin 33792) (C : Fin 1024) : (val_main_v22 (F := Ideal) md (ix2 R C) : EReal) = md (ix3 (modRow R) 1 C) := by
  unfold val_main_v22
  have hC := C.isLt
  refine cat_rows _ _ R C _ (fun r hr => ?_) (fun hR r => ?_)
  · have hr' := r.isLt
    have hm := modRow_lat R (by omega)
    refine (val_main_v18_apply (F := Ideal) md _).trans ((val_main_v17_apply (F := Ideal) md _).trans ((val_main_v16_apply (F := Ideal) md _).trans
      ((val_main_v15_apply (F := Ideal) md _).trans ?_)))
    exact at_ix (val_main_v14 (F := Ideal) md) (ix2 (modRow R) C) (idx_eq_ix2 _ (modRow R) C
      (by show (r.val * 1024 + C.val) / 8388608 = _; omega) (by show (r.val * 1024 + C.val) % 1024 = C.val; omega)) (b14 md _ C)
  · have hm := modRow_ctx R hR
    refine (val_main_v21_apply (F := Ideal) md _).trans ((val_main_v20_apply (F := Ideal) md _).trans ((val_main_v19_apply (F := Ideal) md _).trans ?_))
    exact at_ix (val_main_v14 (F := Ideal) md) (ix2 (modRow R) C) (idx_eq_ix2 _ (modRow R) C
      (by show 4 + 0 = _; omega) (by show C.val % 1024 = C.val; omega)) (b14 md _ C)

/-- Each row's shift. -/
theorem b35 (R : Fin 33792) (C : Fin 1024) : (val_main_v35 (F := Ideal) md (ix2 R C) : EReal) = md (ix3 (modRow R) 0 C) := by
  unfold val_main_v35
  have hC := C.isLt
  refine cat_rows _ _ R C _ (fun r hr => ?_) (fun hR r => ?_)
  · have hr' := r.isLt
    have hm := modRow_lat R (by omega)
    refine (val_main_v31_apply (F := Ideal) md _).trans ((val_main_v30_apply (F := Ideal) md _).trans ((val_main_v29_apply (F := Ideal) md _).trans
      ((val_main_v28_apply (F := Ideal) md _).trans ?_)))
    exact at_ix (val_main_v27 (F := Ideal) md) (ix2 (modRow R) C) (idx_eq_ix2 _ (modRow R) C
      (by show (r.val * 1024 + C.val) / 8388608 = _; omega) (by show (r.val * 1024 + C.val) % 1024 = C.val; omega)) (b27 md _ C)
  · have hm := modRow_ctx R hR
    refine (val_main_v34_apply (F := Ideal) md _).trans ((val_main_v33_apply (F := Ideal) md _).trans ((val_main_v32_apply (F := Ideal) md _).trans ?_))
    exact at_ix (val_main_v27 (F := Ideal) md) (ix2 (modRow R) C) (idx_eq_ix2 _ (modRow R) C
      (by show 4 + 0 = _; omega) (by show C.val % 1024 = C.val; omega)) (b27 md _ C)

/-- The normed and modulated row. -/
theorem b36 (R : Fin 33792) (e : Fin 1024) : (val_main_v36 (F := Ideal) h md g (ix2 R e) : EReal) = rowOf h md g R e := by
  refine (val_main_v36_apply (F := Ideal) h md g _).trans (congrArg₂ (fun x y : EReal => x + y) ?_ (b35 md R e))
  refine (val_main_v25_apply (F := Ideal) h md g _).trans (congrArg₂ (fun x y : EReal => x * y) (b12 h g R e) ?_)
  exact (val_main_v24_apply (F := Ideal) md _).trans (congrArg (fun x : EReal => _ + x) (b22 md R e))

/-- The product. -/
theorem b37 (R : Fin 33792) (C : Fin 4128) : (val_main_v37 (F := Ideal) h md g w (ix2 R C) : EReal) = proj h md g w R C := by
  refine (val_main_v37_apply h md g w (ix2 R C)).trans (Finset.sum_congr rfl fun e _ => congrArg₂ (fun x y : EReal => x * y) ?_ ?_)
  · exact at_ix (val_main_v36 (F := Ideal) h md g) (ix2 R e) (idx_eq_ix2 _ R e rfl rfl) (b36 h md g R e)
  · exact congrArg w (idx_eq_ix2 _ e C rfl rfl)

/-- The reference's first result. -/
theorem reference_4 : val_main_v39 (F := Ideal) h md g w = res4 h md g w := by
  funext y
  obtain ⟨R, C, rfl⟩ : ∃ (R : Fin 33792) (C : Fin 3072), y = ix2 R C := ⟨y 0, y 1, eq_ix2 y⟩
  have hC := C.isLt
  exact (val_main_v39_apply (F := Ideal) h md g w _).trans (at_ix (val_main_v37 (F := Ideal) h md g w) (ix2 R ⟨C.val, by omega⟩) (idx_eq_ix2 _ R ⟨C.val, by omega⟩ rfl rfl) (b37 h md g w R _))

/-- Its second. -/
theorem reference_5 : val_main_v40 (F := Ideal) h md g w = res5 h md g w := by
  funext y
  obtain ⟨R, C, rfl⟩ : ∃ (R : Fin 33792) (C : Fin 1024), y = ix2 R C := ⟨y 0, y 1, eq_ix2 y⟩
  have hC := C.isLt
  exact (val_main_v40_apply (F := Ideal) h md g w _).trans (at_ix (val_main_v37 (F := Ideal) h md g w) (ix2 R ⟨3072 + C.val, by omega⟩) (idx_eq_ix2 _ R ⟨3072 + C.val, by omega⟩ rfl rfl) (b37 h md g w R _))

/-- Its third. -/
theorem reference_6 : val_main_v42 (F := Ideal) h md g w = res6 h md g w := by
  funext y
  obtain ⟨R, C, rfl⟩ : ∃ (R : Fin 33792) (C : Fin 128), y = ix2 R C := ⟨y 0, y 1, eq_ix2 y⟩
  have hC := C.isLt
  unfold val_main_v42
  by_cases hc : C.val < 32
  · refine (concatenate_pair_apply_left (t := S33792x128) (s₁ := S33792x32) (s₂ := S33792x96) 1 _ _ _ (ix2 R C) rfl
      (ix2 R ⟨C.val, hc⟩) (fun x => match x with | ⟨0, _⟩ => rfl | ⟨1, _⟩ => rfl)).trans (Eq.trans ?_ (res6_lo h md g w R C hc).symm)
    exact (val_main_v38_apply (F := Ideal) h md g w _).trans (at_ix (val_main_v37 (F := Ideal) h md g w) (ix2 R ⟨4096 + C.val, by omega⟩) (idx_eq_ix2 _ R ⟨4096 + C.val, by omega⟩ rfl rfl) (b37 h md g w R _))
  · refine (concatenate_pair_apply_right (t := S33792x128) (s₁ := S33792x32) (s₂ := S33792x96) 1 _ _ _ (ix2 R C) rfl rfl
      (ix2 R ⟨C.val - 32, by omega⟩) (fun x hx => match x with | ⟨0, _⟩ => rfl | ⟨1, _⟩ => absurd rfl hx)
      (by show C.val - 32 + 32 = C.val; omega)).trans (Eq.trans ?_ (res6_hi h md g w R C hc).symm)
    exact Ideal.ofBits_zero_f32

end Cert.Reference2Ideal.Pj

end
-- ==== Proof.ExRunIdeal.lean ====
/-
  The experts' call `Kernel3Ideal`: what the body leaves at one point of the grid, run over any staging memrefs.
  The tables are read only; the scratch holds the weights of the last expert that was cast.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

namespace Cert.Kernel3Ideal.Ex

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the blocks' experts, as the body is handed it. -/
abbrev tbE : Memref sig .tc .smem S163 .i32 := Memref.whole main_v6
abbrev tbEw : (tbE).IsWhole := Memref.isWhole_whole _
/-- The table of the blocks' places in the tokens. -/
abbrev tbO : Memref sig .tc .smem S163 .i32 := Memref.whole main_v8
abbrev tbOw : (tbO).IsWhole := Memref.isWhole_whole _
/-- The number of active blocks. -/
abbrev tbN : Memref sig .tc .smem S1 .i32 := Memref.whole main_arg3
abbrev tbNw : (tbN).IsWhole := Memref.isWhole_whole _

/-- The contents of a table's buffer on a core, and the buffer held at half its share at given contents. -/
abbrev TbB (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbB (F := F) c M) : sProp 𝕄 :=
  M.view.loc (c : Thread nD τ) ↦{fullShare.right} f

/-- The number of active blocks as the body reads it. -/
abbrev sN (c : Dev nD) (tN : TbB (F := F) c tbN) : BitVec 32 :=
  View.readAt (Elt F) tbN.view (Rect.unit (s := S1) ![0] ![1] inb_S1_S1_0).toLoadRect tN (Shape.Idx.first (lt_of_lt_of_eq Nat.one_pos numel1_S1.symm))
/-- A block's expert as the body reads it. -/
abbrev sE (c : Dev nD) (i : grid0.Coords) (tE : TbB (F := F) c tbE) : BitVec 32 :=
  View.readAt (Elt F) tbE.view (Rect.unit (s := S163) (k0_off1 i) ![1] (k0_off1_inb i)).toLoadRect tE (Shape.Idx.first (lt_of_lt_of_eq Nat.one_pos numel1_S1.symm))
/-- The expert of the block before it (of the first, its own). -/
abbrev sE' (c : Dev nD) (i : grid0.Coords) (tE : TbB (F := F) c tbE) : BitVec 32 :=
  View.readAt (Elt F) tbE.view (Rect.unit (s := S163) (k0_off2 i) ![1] (k0_off2_inb i)).toLoadRect tE (Shape.Idx.first (lt_of_lt_of_eq Nat.one_pos numel1_S1.symm))

/-- A block's weights are cast: it is active, and the first or of another expert than the one before. -/
abbrev cNew (i : grid0.Coords) (n a b : BitVec 32) : Prop :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne a b)))) 0#32 = 1#1

/-- Every eighth row of a block from row `k`. -/
abbrev slab0 : Rect S4096x128 := ⟨(⟨![0, 0], S512x128.size, ![8, 1], inb_S4096x128_S512x128_0_0_s_8_1⟩ : LoadRect S4096x128), spos_8_1⟩
abbrev slab1 : Rect S4096x128 := ⟨(⟨![1, 0], S512x128.size, ![8, 1], inb_S4096x128_S512x128_1_0_s_8_1⟩ : LoadRect S4096x128), spos_8_1⟩
abbrev slab2 : Rect S4096x128 := ⟨(⟨![2, 0], S512x128.size, ![8, 1], inb_S4096x128_S512x128_2_0_s_8_1⟩ : LoadRect S4096x128), spos_8_1⟩
abbrev slab3 : Rect S4096x128 := ⟨(⟨![3, 0], S512x128.size, ![8, 1], inb_S4096x128_S512x128_3_0_s_8_1⟩ : LoadRect S4096x128), spos_8_1⟩
abbrev slab4 : Rect S4096x128 := ⟨(⟨![4, 0], S512x128.size, ![8, 1], inb_S4096x128_S512x128_4_0_s_8_1⟩ : LoadRect S4096x128), spos_8_1⟩
abbrev slab5 : Rect S4096x128 := ⟨(⟨![5, 0], S512x128.size, ![8, 1], inb_S4096x128_S512x128_5_0_s_8_1⟩ : LoadRect S4096x128), spos_8_1⟩
abbrev slab6 : Rect S4096x128 := ⟨(⟨![6, 0], S512x128.size, ![8, 1], inb_S4096x128_S512x128_6_0_s_8_1⟩ : LoadRect S4096x128), spos_8_1⟩
abbrev slab7 : Rect S4096x128 := ⟨(⟨![7, 0], S512x128.size, ![8, 1], inb_S4096x128_S512x128_7_0_s_8_1⟩ : LoadRect S4096x128), spos_8_1⟩

/-- The whole product of a block of tokens with an expert's weights. -/
def prodOf (x0 : Vec F S4096x128 .f32) (w1 : Vec F S1024x1024 .bf16) (w2 : Vec F S512x1024 .bf16) : FVec F S512x1024 .f32 :=
  k0_pay10 (View.ld x0 slab0) (View.ld x0 slab1) (View.ld x0 slab2) (View.ld x0 slab3) (View.ld x0 slab4) (View.ld x0 slab5) (View.ld x0 slab6) (View.ld x0 slab7) w1 w2

/-- What an active block stores: the product's eight column slabs, each over every eighth row. -/
def outL (x0 : Vec F S4096x128 .f32) (w1 : Vec F S1024x1024 .bf16) (w2 : Vec F S512x1024 .bf16) : List (View.Piece (Elt F) S4096x128 .f32) :=
  [⟨slab7, k0_pay8 (prodOf x0 w1 w2)⟩, ⟨slab6, k0_pay7 (prodOf x0 w1 w2)⟩, ⟨slab5, k0_pay6 (prodOf x0 w1 w2)⟩, ⟨slab4, k0_pay5 (prodOf x0 w1 w2)⟩,
    ⟨slab3, k0_pay4 (prodOf x0 w1 w2)⟩, ⟨slab2, k0_pay3 (prodOf x0 w1 w2)⟩, ⟨slab1, k0_pay12 (View.ld x0 slab0) (View.ld x0 slab1) (View.ld x0 slab2) (View.ld x0 slab3) (View.ld x0 slab4) (View.ld x0 slab5) (View.ld x0 slab6) (View.ld x0 slab7) w1 w2⟩,
    ⟨slab0, k0_pay11 (View.ld x0 slab0) (View.ld x0 slab1) (View.ld x0 slab2) (View.ld x0 slab3) (View.ld x0 slab4) (View.ld x0 slab5) (View.ld x0 slab6) (View.ld x0 slab7) w1 w2⟩]

theorem cover (p0 p1 p2 p3 p4 p5 p6 p7 : Vec F S512x128 .f32) (y : S4096x128.Idx) :
    ∃ pc ∈ ([⟨slab7, p7⟩, ⟨slab6, p6⟩, ⟨slab5, p5⟩, ⟨slab4, p4⟩, ⟨slab3, p3⟩, ⟨slab2, p2⟩, ⟨slab1, p1⟩, ⟨slab0, p0⟩] : List (View.Piece (Elt F) S4096x128 .f32)), y ∈ pc.1.set := by
  have h0 : (y 0).val < 4096 := (y 0).isLt
  have h1 : (y 1).val < 128 := (y 1).isLt
  have key : ∀ (k : ℕ) (inb : ∀ a, S512x128.size a = 0 ∨ (![k, 0] : Fin 2 → ℕ) a + (![8, 1] : Fin 2 → ℕ) a * (S512x128.size a - 1) < S4096x128.size a) (sp), (y 0).val % 8 = k →
      y ∈ (⟨(⟨![k, 0], S512x128.size, ![8, 1], inb⟩ : LoadRect S4096x128), sp⟩ : Rect S4096x128).set := by
    intro k inb sp hk
    refine (LoadRect.mem_set _).mpr fun a => ?_
    match a with
    | ⟨0, _⟩ => exact ⟨(y 0).val / 8, by show _ < 512; omega, by show (y 0).val = k + 8 * ((y 0).val / 8); omega⟩
    | ⟨1, _⟩ => exact ⟨(y 1).val, h1, by show (y 1).val = 0 + 1 * (y 1).val; omega⟩
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
  · exact ⟨⟨slab0, p0⟩, by simp, key 0 _ _ h⟩
  · exact ⟨⟨slab1, p1⟩, by simp, key 1 _ _ h⟩
  · exact ⟨⟨slab2, p2⟩, by simp, key 2 _ _ h⟩
  · exact ⟨⟨slab3, p3⟩, by simp, key 3 _ _ h⟩
  · exact ⟨⟨slab4, p4⟩, by simp, key 4 _ _ h⟩
  · exact ⟨⟨slab5, p5⟩, by simp, key 5 _ _ h⟩
  · exact ⟨⟨slab6, p6⟩, by simp, key 6 _ _ h⟩
  · exact ⟨⟨slab7, p7⟩, by simp, key 7 _ _ h⟩

theorem runA (c : Dev nD) (i : grid0.Coords) (a4 : Memref sig .tc .vmem S4096x128 .f32) (h4 : a4.IsWhole) (a5 : Memref sig .tc .vmem S1x1x1024x1024 .f32) (h5 : a5.IsWhole) (a6 : Memref sig .tc .vmem S1x1x512x1024 .f32) (h6 : a6.IsWhole) (a7 : Memref sig .tc .vmem S4096x128 .f32) (h7 : a7.IsWhole) (a8 : Memref sig .tc .vmem S1024x1024 .bf16) (h8 : a8.IsWhole) (a9 : Memref sig .tc .vmem S512x1024 .bf16) (h9 : a9.IsWhole)
    (x0 : Vec F S4096x128 .f32) (x1 : Vec F S1x1x1024x1024 .f32) (x2 : Vec F S1x1x512x1024 .f32) (tE : TbB (F := F) c tbE) (tO : TbB (F := F) c tbO) (tN : TbB (F := F) c tbN)
    (hc0 : cNew i (sN c tN) (sE c i tE) (sE' c i tE)) (hc1 : k0_cond2 i (sN c tN) = 1#1) (hc2 : ¬k0_cond3 i (sN c tN) = 1#1)
    (E : Set ℕ) (K : PUnit → sProp 𝕄) :
        iprop(owns (c : Thread nD τ) a4 fullShare x0 ∗ owns (c : Thread nD τ) a5 fullShare x1 ∗ owns (c : Thread nD τ) a6 fullShare x2 ∗ (∃ d, owns (c : Thread nD τ) a7 fullShare d) ∗ (∃ d, owns (c : Thread nD τ) a8 fullShare d) ∗ (∃ d, owns (c : Thread nD τ) a9 fullShare d) ∗ tbPt c tbE tE ∗ tbPt c tbO tO ∗ tbPt c tbN tN
            ∗ (iprop(owns (c : Thread nD τ) a4 fullShare x0 ∗ owns (c : Thread nD τ) a5 fullShare x1 ∗ owns (c : Thread nD τ) a6 fullShare x2 ∗ owns (c : Thread nD τ) a7 fullShare (View.canon (outL x0 (k0_pay1 x1) (k0_pay2 x2))) ∗ owns (c : Thread nD τ) a8 fullShare (k0_pay1 x1) ∗ owns (c : Thread nD τ) a9 fullShare (k0_pay2 x2) ∗ tbPt c tbE tE ∗ tbPt c tbO tO ∗ tbPt c tbN tN) -∗ K ⟨⟩))
          ⊢ wp frame (wpE (defs₀ (F := F)) Variants.none c none) E (cc0_moe_experts i tbE tbEw tbO tbOw tbN tbNw a4 h4 a5 h5 a6 h6 a7 h7 a8 h8 a9 h9) K := by
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HTe, HTo, HTn, Hk⟩
    obtain rfl := h4.eq_unread hf0; obtain rfl := h5.eq_unread hf1; obtain rfl := h6.eq_unread hf2
    sl_exec (disch := first | sl_exact hc0 | sl_exact hc1 | sl_exact hc2)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr
      swap; · iexact H3
      ipureintro
      refine (View.read_writes_eq_canon _ _ _ fun y => cover _ _ _ _ _ _ _ _ y).trans (congrArg View.canon ?_)
      have e8 : runA.sl.v29 c a5 h5 a8 x1 = k0_pay1 x1 := by
        unfold runA.sl.v29
        exact (View.readCov_full _ _ _ _ _).trans (congrArg k0_pay1 ((View.readAt_full _ _ _).trans hf1))
      have e9 : runA.sl.v43 c a6 h6 a9 x2 = k0_pay2 x2 := by
        unfold runA.sl.v43
        exact (View.readCov_full _ _ _ _ _).trans (congrArg k0_pay2 ((View.readAt_full _ _ _).trans hf2))
      exact (show _ = outL (View.read (Elt F) a4.view (h4.unread x0)) (runA.sl.v29 c a5 h5 a8 x1) (runA.sl.v43 c a6 h6 a9 x2) from rfl).trans (by rw [hf0, e8, e9])
    isplitl [HS0]
    · iexists _; isplitr
      swap; · iexact HS0
      ipureintro
      exact ((View.read_writes_full _ _ _ _ _).trans (congrArg k0_pay1 ((View.readAt_full _ _ _).trans hf1)))
    isplitl [HS1]
    · iexists _; isplitr
      swap; · iexact HS1
      ipureintro
      exact ((View.read_writes_full _ _ _ _ _).trans (congrArg k0_pay2 ((View.readAt_full _ _ _).trans hf2)))
    isplitl [HTe]; · iexact HTe
    isplitl [HTo]; · iexact HTo
    iexact HTn

theorem runB (c : Dev nD) (i : grid0.Coords) (a4 : Memref sig .tc .vmem S4096x128 .f32) (h4 : a4.IsWhole) (a5 : Memref sig .tc .vmem S1x1x1024x1024 .f32) (h5 : a5.IsWhole) (a6 : Memref sig .tc .vmem S1x1x512x1024 .f32) (h6 : a6.IsWhole) (a7 : Memref sig .tc .vmem S4096x128 .f32) (h7 : a7.IsWhole) (a8 : Memref sig .tc .vmem S1024x1024 .bf16) (h8 : a8.IsWhole) (a9 : Memref sig .tc .vmem S512x1024 .bf16) (h9 : a9.IsWhole)
    (x0 : Vec F S4096x128 .f32) (x1 : Vec F S1x1x1024x1024 .f32) (x2 : Vec F S1x1x512x1024 .f32) (w1 : Vec F S1024x1024 .bf16) (w2 : Vec F S512x1024 .bf16) (tE : TbB (F := F) c tbE) (tO : TbB (F := F) c tbO) (tN : TbB (F := F) c tbN)
    (hc0 : ¬cNew i (sN c tN) (sE c i tE) (sE' c i tE)) (hc1 : k0_cond2 i (sN c tN) = 1#1) (hc2 : ¬k0_cond3 i (sN c tN) = 1#1)
    (E : Set ℕ) (K : PUnit → sProp 𝕄) :
        iprop(owns (c : Thread nD τ) a4 fullShare x0 ∗ owns (c : Thread nD τ) a5 fullShare x1 ∗ owns (c : Thread nD τ) a6 fullShare x2 ∗ (∃ d, owns (c : Thread nD τ) a7 fullShare d) ∗ owns (c : Thread nD τ) a8 fullShare (w1) ∗ owns (c : Thread nD τ) a9 fullShare (w2) ∗ tbPt c tbE tE ∗ tbPt c tbO tO ∗ tbPt c tbN tN
            ∗ (iprop(owns (c : Thread nD τ) a4 fullShare x0 ∗ owns (c : Thread nD τ) a5 fullShare x1 ∗ owns (c : Thread nD τ) a6 fullShare x2 ∗ owns (c : Thread nD τ) a7 fullShare (View.canon (outL x0 w1 w2)) ∗ owns (c : Thread nD τ) a8 fullShare (w1) ∗ owns (c : Thread nD τ) a9 fullShare (w2) ∗ tbPt c tbE tE ∗ tbPt c tbO tO ∗ tbPt c tbN tN) -∗ K ⟨⟩))
          ⊢ wp frame (wpE (defs₀ (F := F)) Variants.none c none) E (cc0_moe_experts i tbE tbEw tbO tbOw tbN tbNw a4 h4 a5 h5 a6 h6 a7 h7 a8 h8 a9 h9) K := by
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HTe, HTo, HTn, Hk⟩
    obtain rfl := h4.eq_unread hf0; obtain rfl := h5.eq_unread hf1; obtain rfl := h6.eq_unread hf2; obtain rfl := h8.eq_unread hfs0; obtain rfl := h9.eq_unread hfs1
    sl_exec (disch := first | sl_exact hc0 | sl_exact hc1 | sl_exact hc2)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr
      swap; · iexact H3
      ipureintro
      refine (View.read_writes_eq_canon _ _ _ fun y => cover _ _ _ _ _ _ _ _ y).trans (congrArg View.canon ?_)
      have e8 : View.readAt (Elt F) a8.view (Rect.unit (s := S1024x1024) ![0, 0] S1024x1024.size inb_S1024x1024_S1024x1024_0_0).toLoadRect (h8.unread w1) = w1 :=
        (View.readAt_full _ _ _).trans hfs0
      have e9 : View.readAt (Elt F) a9.view (Rect.unit (s := S512x1024) ![0, 0] S512x1024.size inb_S512x1024_S512x1024_0_0).toLoadRect (h9.unread w2) = w2 :=
        (View.readAt_full _ _ _).trans hfs1
      exact (show _ = outL (View.read (Elt F) a4.view (h4.unread x0)) (View.readAt (Elt F) a8.view (Rect.unit (s := S1024x1024) ![0, 0] S1024x1024.size inb_S1024x1024_S1024x1024_0_0).toLoadRect (h8.unread w1)) (View.readAt (Elt F) a9.view (Rect.unit (s := S512x1024) ![0, 0] S512x1024.size inb_S512x1024_S512x1024_0_0).toLoadRect (h9.unread w2)) from rfl).trans (by rw [hf0, e8, e9])
    isplitl [HS0]
    · iexists _; isplitr
      swap; · iexact HS0
      ipureintro
      exact hfs0
    isplitl [HS1]
    · iexists _; isplitr
      swap; · iexact HS1
      ipureintro
      exact hfs1
    isplitl [HTe]; · iexact HTe
    isplitl [HTo]; · iexact HTo
    iexact HTn

theorem runC (c : Dev nD) (i : grid0.Coords) (a4 : Memref sig .tc .vmem S4096x128 .f32) (h4 : a4.IsWhole) (a5 : Memref sig .tc .vmem S1x1x1024x1024 .f32) (h5 : a5.IsWhole) (a6 : Memref sig .tc .vmem S1x1x512x1024 .f32) (h6 : a6.IsWhole) (a7 : Memref sig .tc .vmem S4096x128 .f32) (h7 : a7.IsWhole) (a8 : Memref sig .tc .vmem S1024x1024 .bf16) (h8 : a8.IsWhole) (a9 : Memref sig .tc .vmem S512x1024 .bf16) (h9 : a9.IsWhole)
    (x0 : Vec F S4096x128 .f32) (x1 : Vec F S1x1x1024x1024 .f32) (x2 : Vec F S1x1x512x1024 .f32) (w1 : Vec F S1024x1024 .bf16) (w2 : Vec F S512x1024 .bf16) (tE : TbB (F := F) c tbE) (tO : TbB (F := F) c tbO) (tN : TbB (F := F) c tbN)
    (hc0 : ¬cNew i (sN c tN) (sE c i tE) (sE' c i tE)) (hc1 : ¬k0_cond2 i (sN c tN) = 1#1) (hc2 : k0_cond3 i (sN c tN) = 1#1)
    (E : Set ℕ) (K : PUnit → sProp 𝕄) :
        iprop(owns (c : Thread nD τ) a4 fullShare x0 ∗ owns (c : Thread nD τ) a5 fullShare x1 ∗ owns (c : Thread nD τ) a6 fullShare x2 ∗ (∃ d, owns (c : Thread nD τ) a7 fullShare d) ∗ owns (c : Thread nD τ) a8 fullShare (w1) ∗ owns (c : Thread nD τ) a9 fullShare (w2) ∗ tbPt c tbE tE ∗ tbPt c tbO tO ∗ tbPt c tbN tN
            ∗ (iprop(owns (c : Thread nD τ) a4 fullShare x0 ∗ owns (c : Thread nD τ) a5 fullShare x1 ∗ owns (c : Thread nD τ) a6 fullShare x2 ∗ owns (c : Thread nD τ) a7 fullShare ((k0_pay9 (F := F))) ∗ owns (c : Thread nD τ) a8 fullShare (w1) ∗ owns (c : Thread nD τ) a9 fullShare (w2) ∗ tbPt c tbE tE ∗ tbPt c tbO tO ∗ tbPt c tbN tN) -∗ K ⟨⟩))
          ⊢ wp frame (wpE (defs₀ (F := F)) Variants.none c none) E (cc0_moe_experts i tbE tbEw tbO tbOw tbN tbNw a4 h4 a5 h5 a6 h6 a7 h7 a8 h8 a9 h9) K := by
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HTe, HTo, HTn, Hk⟩
    obtain rfl := h4.eq_unread hf0; obtain rfl := h5.eq_unread hf1; obtain rfl := h6.eq_unread hf2; obtain rfl := h8.eq_unread hfs0; obtain rfl := h9.eq_unread hfs1
    sl_exec (disch := first | sl_exact hc0 | sl_exact hc1 | sl_exact hc2)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr
      swap; · iexact H3
      ipureintro
      exact View.read_writes_full _ _ _ _ _
    isplitl [HS0]
    · iexists _; isplitr
      swap; · iexact HS0
      ipureintro
      exact hfs0
    isplitl [HS1]
    · iexists _; isplitr
      swap; · iexact HS1
      ipureintro
      exact hfs1
    isplitl [HTe]; · iexact HTe
    isplitl [HTo]; · iexact HTo
    iexact HTn

end Cert.Kernel3Ideal.Ex
end
-- ==== Proof.ExWordsIdeal.lean ====
/-
  The experts' call `Kernel3Ideal`: the words its body decides by. Whether a block is active, whether its weights are cast.
-/
module

public import proofs.«01_k».proof.Proof.ExRunIdeal

@[expose] public section

set_option maxRecDepth 16384

noncomputable section

namespace Cert.Kernel3Ideal.Ex

open Cert.Kernel3Ideal Cert.Kernel3Ideal.Gen
open Idealize.ShloMosaic Idealize.ShloMosaic.TcCoe Idealize.ShloMosaic.Tactic

variable {F : FTy → Type} [FloatOps F]

/-- A block's place in a table. -/
abbrev at163 (k : ℕ) (h : k < 163) : S163.Idx := fun | ⟨0, _⟩ => ⟨k, h⟩

/-- The only place of the one-word table. -/
abbrev at1 : S1.Idx := fun | ⟨0, _⟩ => ⟨0, Nat.one_pos⟩

/-- A block is active: its number is below the number of active blocks, as signed words. -/
def Act (k : ℕ) (n : BitVec 32) : Prop := (k : ℤ) < n.toInt

theorem slt_iff (k : ℕ) (h : k < 163) (n : BitVec 32) : Scalar.cmpi .slt (BitVec.ofNat 32 k) n = 1#1 ↔ Act k n := by
  have e : (BitVec.ofNat 32 k).toInt = (k : ℤ) := WordCmp.toInt_ofNat_of_lt (by omega)
  show IntOp.cmpi .slt (BitVec.ofNat 32 k) n = 1#1 ↔ _
  rw [WordCmp.cmpi_slt_eq, WordCmp.ofBool_decide_eq_one_iff, e]; rfl

/-- The body's second condition says that the block is active. -/
theorem cond2_iff (i : grid0.Coords) (n : BitVec 32) : k0_cond2 i n = 1#1 ↔ Act (i 0).val n := by
  rw [← slt_iff _ (i 0).isLt]
  unfold k0_cond2; dsimp only
  generalize Scalar.cmpi .slt (BitVec.ofNat 32 (i 0).val) n = x
  revert x; decide

/-- The body's third condition says that the block is not active. -/
theorem cond3_iff (i : grid0.Coords) (n : BitVec 32) : k0_cond3 i n = 1#1 ↔ ¬Act (i 0).val n := by
  rw [← slt_iff _ (i 0).isLt]
  unfold k0_cond3; dsimp only
  generalize Scalar.cmpi .slt (BitVec.ofNat 32 (i 0).val) n = x
  revert x; decide

/-- The body's first condition: the block is active, and the first or of another expert than the one before. -/
theorem cNew_iff (i : grid0.Coords) (n a b : BitVec 32) : cNew i n a b ↔ Act (i 0).val n ∧ ((i 0).val = 0 ∨ a ≠ b) := by
  have h : (i 0).val < 163 := (i 0).isLt
  have e0 : Scalar.cmpi .eq (BitVec.ofNat 32 (i 0).val) 0#32 = 1#1 ↔ (i 0).val = 0 := by
    show IntOp.cmpi .eq _ _ = 1#1 ↔ _
    rw [WordCmp.cmpi_eq_eq_toNat, WordCmp.ofBool_decide_eq_one_iff, WordCmp.toNat_ofNat_of_lt (by omega)]; rfl
  have e1 : Scalar.cmpi .ne a b = 1#1 ↔ a ≠ b := by
    show IntOp.cmpi .ne _ _ = 1#1 ↔ _
    rw [WordCmp.cmpi_ne_eq, WordCmp.ofBool_decide_eq_one_iff]
  rw [← slt_iff _ h, ← e0, ← e1]
  unfold cNew
  generalize Scalar.cmpi .slt (BitVec.ofNat 32 (i 0).val) n = x
  generalize Scalar.cmpi .eq (BitVec.ofNat 32 (i 0).val) 0#32 = y
  generalize Scalar.cmpi .ne a b = z
  revert x y z; decide

/-- The output window is idle nowhere: every point stores into it. -/
theorem idle3 (pf : pre0.Contents (Elt F)) (i : grid0.Coords) : idle0 pf 3 i = false := by
  show (!(k0_cond2 i (pf.atD 2 ![0]) == 1#1) && !(k0_cond3 i (pf.atD 2 ![0]) == 1#1)) = false
  by_cases h : Act (i 0).val (pf.atD 2 ![0])
  · rw [(cond2_iff i _).mpr h]; rfl
  · rw [(cond3_iff i _).mpr h]; simp

theorem off1_val : ∀ x : Fin 163, (Scalar.indexCast (BitVec.ofNat 32 x.val) : Index).toNat = x.val := by decide +kernel
theorem off2_val : ∀ x : Fin 163, (Scalar.indexCast (Scalar.maxsi (Scalar.subi (BitVec.ofNat 32 x.val) 1#32) 0#32) : Index).toNat = x.val - 1 := by decide +kernel

/-- The expert the body reads for its block is the table's at the block. -/
theorem sE_eq (c : Dev nD) (i : grid0.Coords) (tE : TbB (F := F) c tbE) : sE c i tE = (tE : S163.Idx → BitVec 32) (at163 (i 0).val (i 0).isLt) := by
  show tE _ = _
  congr 1; funext a
  match a with
  | ⟨0, _⟩ => exact Fin.ext ((congrArg (· + 1 * 0) (off1_val (i 0))).trans (by show (i 0).val + 1 * 0 = (i 0).val; omega))

/-- The expert it compares with is the table's at the block before. -/
theorem sE'_eq (c : Dev nD) (i : grid0.Coords) (tE : TbB (F := F) c tbE) :
    sE' c i tE = (tE : S163.Idx → BitVec 32) (at163 ((i 0).val - 1) (lt_of_le_of_lt (Nat.sub_le _ _) (i 0).isLt)) := by
  show tE _ = _
  congr 1; funext a
  match a with
  | ⟨0, _⟩ => exact Fin.ext ((congrArg (· + 1 * 0) (off2_val (i 0))).trans (by show ((i 0).val - 1) + 1 * 0 = (i 0).val - 1; omega))

/-- The number of active blocks it reads is the third table's one word. -/
theorem sN_eq (c : Dev nD) (tN : TbB (F := F) c tbN) : sN c tN = (tN : S1.Idx → BitVec 32) at1 := by
  show tN _ = _
  congr 1; funext a
  match a with
  | ⟨0, _⟩ => exact Fin.ext rfl

/-- The place of a block's tokens as a window's index map reads it. -/
theorem ix_tokens (pf : pre0.Contents (Elt F)) (i : grid0.Coords) :
    ix0 pf 0 i = ![((pf 1 : S163.Idx → BitVec 32) (at163 (i 0).val (i 0).isLt)).toNat, 0] := by
  show (![_, 0] : Fin 2 → ℕ) = _
  congr 2
  show pf 1 _ = pf 1 _
  congr 1; funext a
  match a with
  | ⟨0, _⟩ => exact Fin.ext ((congrArg (· + 1 * 0) (off1_val (i 0))).trans (by show (i 0).val + 1 * 0 = (i 0).val; omega))

/-- The place of a block's first weights as a window's index map reads it. -/
theorem ix_in (pf : pre0.Contents (Elt F)) (i : grid0.Coords) :
    ix0 pf 1 i = ![0, ((pf 0 : S163.Idx → BitVec 32) (at163 (i 0).val (i 0).isLt)).toNat, 0, 0] := by
  show (![0, _, 0, 0] : Fin 4 → ℕ) = _
  congr 3
  show pf 0 _ = pf 0 _
  congr 1; funext a
  match a with
  | ⟨0, _⟩ => exact Fin.ext ((congrArg (· + 1 * 0) (off1_val (i 0))).trans (by show (i 0).val + 1 * 0 = (i 0).val; omega))

/-- The place of a block's second weights. -/
theorem ix_out (pf : pre0.Contents (Elt F)) (i : grid0.Coords) :
    ix0 pf 2 i = ![0, ((pf 0 : S163.Idx → BitVec 32) (at163 (i 0).val (i 0).isLt)).toNat, 0, 0] := ix_in pf i

/-- The place of a block's results is the block's number. -/
theorem ix_res (pf : pre0.Contents (Elt F)) (i : grid0.Coords) : ix0 pf 3 i = ![(i 0).val, 0] := by
  show (![_, 0] : Fin 2 → ℕ) = _
  congr 1
  exact (by decide +kernel : ∀ x : Fin 163, (BitVec.ofNat 32 x.val).toNat = x.val) (i 0)

end Cert.Kernel3Ideal.Ex

end
-- ==== Proof.ExFrameIdeal.lean ====
/-
  The experts' call `Kernel3Ideal`: it terminates, and what every array of its pipeline holds at the end.
  The scratch holds, after an active block, that block's weights; the next block, if active and of the same expert,
  finds its own there.
-/
module

public import proofs.«01_k».proof.Proof.ExWordsIdeal
public import Idealize.ShloMosaic.Lib.Claim

@[expose] public section

set_option maxRecDepth 16384

noncomputable section

namespace Cert.Kernel3Ideal.Ex

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers once the host line that reads the tables has run. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the host line and then the pipeline. -/
theorem main_split (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The host line writes no argument. -/
theorem V_kept (c : Dev nD) (b : Ref sig .tc) (hb : ∀ w ∈ [main_v0, main_c, main_v1, main_v2, main_v3, main_v4, main_v5, main_v6, main_v7, main_v8], b ≠ w) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The tables the pipeline is entered with. -/
def tbl : pre0.Contents (Elt F) := fun j => V m (0 : Dev nD) (pre0.ref j)
theorem V_tbl (c : Dev nD) (j : Fin 3) : V m c (pre0.ref j) = tbl m j := by
  obtain rfl : c = 0 := Subsingleton.elim _ _; rfl
/-- Every window's block lies inside its array, at the tables the host line leaves. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tbPt c tbE (tbl m 0) ∗ tbPt c tbO (tbl m 1) ∗ tbPt c tbN (tbl m 2)) := by
  unfold Pipeline.ΦT Pipeline.prefHeld
  exact bigSep_univ_eq_bigSepL [(0 : Fin 3), (1 : Fin 3), (2 : Fin 3)] (by decide) (by decide) _

/-- A window's block at a point, of its array as the pipeline finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev i0 (hO : Ok m) (c : Dev nD) (t : Fin (cfgM m hO).N) : Vec F S4096x128 .f32 := iblk m hO c 0 t
abbrev i1 (hO : Ok m) (c : Dev nD) (t : Fin (cfgM m hO).N) : Vec F S1x1x1024x1024 .f32 := iblk m hO c 1 t
abbrev i2 (hO : Ok m) (c : Dev nD) (t : Fin (cfgM m hO).N) : Vec F S1x1x512x1024 .f32 := iblk m hO c 2 t

abbrev st0 (hO : Ok m) (t : Fin (cfgM m hO).N) : Memref sig .tc .vmem S4096x128 .f32 := spec0_0.stage ((cfgM m hO).slots t 0)
abbrev st1 (hO : Ok m) (t : Fin (cfgM m hO).N) : Memref sig .tc .vmem S1x1x1024x1024 .f32 := spec0_1.stage ((cfgM m hO).slots t 1)
abbrev st2 (hO : Ok m) (t : Fin (cfgM m hO).N) : Memref sig .tc .vmem S1x1x512x1024 .f32 := spec0_2.stage ((cfgM m hO).slots t 2)
abbrev st3 (hO : Ok m) (t : Fin (cfgM m hO).N) : Memref sig .tc .vmem S4096x128 .f32 := spec0_3.stage ((cfgM m hO).slots t 3)
abbrev sc0 : Memref sig .tc .vmem S1024x1024 .bf16 := Memref.whole cc0_scratch0
abbrev sc1 : Memref sig .tc .vmem S512x1024 .bf16 := Memref.whole cc0_scratch1

/-- The body at a point, over the point's staging memrefs. -/
abbrev bodyOf (hO : Ok m) (t : Fin (cfgM m hO).N) : Prog (TpuEff nD τ sig (Elt F) Λ₀ .tc) PUnit :=
  cc0_moe_experts (grid0.coords t) tbE tbEw tbO tbOw tbN tbNw (st0 m hO t) (hstage0_0 (((cfgM m hO).slots t 0).cast nbuf0_0))
    (st1 m hO t) (hstage0_1 (((cfgM m hO).slots t 1).cast nbuf0_1)) (st2 m hO t) (hstage0_2 (((cfgM m hO).slots t 2).cast nbuf0_2))
    (st3 m hO t) (hstage0_3 (((cfgM m hO).slots t 3).cast nbuf0_3)) sc0 (Memref.isWhole_whole _) sc1 (Memref.isWhole_whole _)

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The number of active blocks, and the expert of a block, as the tables hold them. -/
def nA : BitVec 32 := (tbl m 2 : S1.Idx → BitVec 32) at1
def eA (k : ℕ) (h : k < 163) : BitVec 32 := (tbl m 0 : S163.Idx → BitVec 32) (at163 k h)

theorem crd (t : Fin grid0.N) : (grid0.coords t 0).val = t.val :=
  (by decide +kernel : ∀ t : Fin grid0.N, (grid0.coords t 0).val = t.val) t

/-- The scratch after `k` points: the weights of block `k - 1`, if that block is active. -/
def Kept (hO : Ok m) (c : Dev nD) (k : ℕ) (d0 : Vec F S1024x1024 .bf16) (d1 : Vec F S512x1024 .bf16) : Prop :=
  ∀ s : Fin (cfgM m hO).N, s.val + 1 = k → Act s.val (nA m) → d0 = k0_pay1 (i1 m hO c s) ∧ d1 = k0_pay2 (i2 m hO c s)

/-- What holds between points. -/
def Inv (hO : Ok m) (c : Dev nD) (k : ℕ) : sProp 𝕄 :=
  iprop(iprop((∃ d0 d1, ⌜Kept m hO c k d0 d1⌝ ∗ owns (c : Thread nD τ) sc0 fullShare d0 ∗ owns (c : Thread nD τ) sc1 fullShare d1) ∗ (∃ r, prngReg c r)) ∗ Pipeline.ΦT pre0 (tbl m) c)

open Classical in
/-- The output's block after its point: the product's slabs of an active block, zeros of another. -/
def outB (hO : Ok m) (c : Dev nD) (t : Fin (cfgM m hO).N) : Vec F S4096x128 .f32 :=
  if Act t.val (nA m) then View.canon (outL (i0 m hO c t) (k0_pay1 (i1 m hO c t)) (k0_pay2 (i2 m hO c t))) else k0_pay9

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outB m hO c t
  Φ t := Inv m hO c t.val
  q _ := fullShare
  owed _ := 0

theorem dats_A (hO : Ok m) (c : Dev nD) (w : Fin (cfgM m hO).W) : (dats m hO 0 c).A w = V m c (Pipeline.arrRef spec0 w) := by
  dsimp only [dats]

theorem left0 (hO : Ok m) (c : Dev nD) (t : Fin (cfgM m hO).N) : (dats m hO 0 c).after 0 t = iblk m hO c 0 t := by dsimp only [dats]; try rfl
theorem left1 (hO : Ok m) (c : Dev nD) (t : Fin (cfgM m hO).N) : (dats m hO 0 c).after 1 t = iblk m hO c 1 t := by dsimp only [dats]; try rfl
theorem left2 (hO : Ok m) (c : Dev nD) (t : Fin (cfgM m hO).N) : (dats m hO 0 c).after 2 t = iblk m hO c 2 t := by dsimp only [dats]; try rfl
theorem left3 (hO : Ok m) (c : Dev nD) (t : Fin (cfgM m hO).N) : (dats m hO 0 c).after 3 t = outB m hO c t := by dsimp only [dats]; try rfl

theorem fet1 (hO : Ok m) (c : Dev nD) (t : Fin (cfgM m hO).N) (d) : (dats m hO 0 c).fetched 1 t d = iblk m hO c 1 t := by
  unfold Dat.fetched Dat.blockOf iblk; rw [dats_A]; try rfl
theorem fet2 (hO : Ok m) (c : Dev nD) (t : Fin (cfgM m hO).N) (d) : (dats m hO 0 c).fetched 2 t d = iblk m hO c 2 t := by
  unfold Dat.fetched Dat.blockOf iblk; rw [dats_A]; try rfl

/-- An input's staging buffer holds its block at every point. -/
theorem found0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [left0]; unfold Dat.blockOf iblk; rw [dats_A]; try rfl) t d).trans
    (by unfold Dat.fetched Dat.blockOf iblk; rw [dats_A]; try rfl)
theorem found1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [left1]; unfold Dat.blockOf iblk; rw [dats_A]; try rfl) t d).trans
    (fet1 m hO c t d)
theorem found2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [left2]; unfold Dat.blockOf iblk; rw [dats_A]; try rfl) t d).trans
    (fet2 m hO c t d)

/-- Two blocks of one expert have the same weights. -/
theorem same1 (hO : Ok m) (c : Dev nD) (t s : Fin (cfgM m hO).N) (h : ix0 (tbl m) 1 (grid0.coords t) = ix0 (tbl m) 1 (grid0.coords s)) :
    i1 m hO c t = i1 m hO c s :=
  (fet1 m hO c t (i1 m hO c t)).symm.trans (((dats m hO 0 c).fetched_congr 1 h rfl _).trans (fet1 m hO c s _))
theorem same2 (hO : Ok m) (c : Dev nD) (t s : Fin (cfgM m hO).N) (h : ix0 (tbl m) 2 (grid0.coords t) = ix0 (tbl m) 2 (grid0.coords s)) :
    i2 m hO c t = i2 m hO c s :=
  (fet2 m hO c t (i2 m hO c t)).symm.trans (((dats m hO 0 c).fetched_congr 2 h rfl _).trans (fet2 m hO c s _))

/-- An active block whose weights are not cast finds them in the scratch. -/
theorem kept_same (hO : Ok m) (c : Dev nD) (t : Fin (cfgM m hO).N) (d0 : Vec F S1024x1024 .bf16) (d1 : Vec F S512x1024 .bf16)
    (hk : Kept m hO c t.val d0 d1) (ha : Act t.val (nA m)) (h0 : t.val ≠ 0)
    (he : sE c (grid0.coords t) (tbl m 0) = sE' c (grid0.coords t) (tbl m 0)) :
    d0 = k0_pay1 (i1 m hO c t) ∧ d1 = k0_pay2 (i2 m hO c t) := by
  have hN : t.val < 163 := lt_of_lt_of_eq t.isLt (show (cfgM m hO).N = 163 from N_0)
  let s : Fin (cfgM m hO).N := ⟨t.val - 1, lt_of_le_of_lt (Nat.sub_le _ _) t.isLt⟩
  have hs : s.val + 1 = t.val := by show t.val - 1 + 1 = t.val; omega
  have hsa : Act s.val (nA m) := by
    have : (t.val : ℤ) < (nA m).toInt := ha
    show ((s.val : ℕ) : ℤ) < _
    omega
  obtain ⟨e0, e1⟩ := hk s hs hsa
  replace he := (sE_eq c (grid0.coords t) (tbl m 0)).symm.trans (he.trans (sE'_eq c (grid0.coords t) (tbl m 0)))
  have hcs : ∀ (h), (tbl m 0 : S163.Idx → BitVec 32) (at163 ((grid0.coords t 0).val - 1) h) = (tbl m 0 : S163.Idx → BitVec 32) (at163 (grid0.coords s 0).val (grid0.coords s 0).isLt) := by
    intro h
    congr 1; funext a
    match a with
    | ⟨0, _⟩ => exact Fin.ext (by show (grid0.coords t 0).val - 1 = (grid0.coords s 0).val; rw [crd, crd])
  rw [hcs] at he
  have h1 : ix0 (tbl m) 1 (grid0.coords t) = ix0 (tbl m) 1 (grid0.coords s) := by
    rw [ix_in, ix_in, he]
  have h2 : ix0 (tbl m) 2 (grid0.coords t) = ix0 (tbl m) 2 (grid0.coords s) := by
    rw [ix_out, ix_out, he]
  rw [same1 m hO c t s h1, same2 m hO c t s h2]
  exact ⟨e0, e1⟩

/-- After a point at whose end the scratch holds the block's weights, or whose block is not active, the scratch is as
    the invariant says. -/
theorem kept_of (hO : Ok m) (c : Dev nD) (t : Fin (cfgM m hO).N) (d0 : Vec F S1024x1024 .bf16) (d1 : Vec F S512x1024 .bf16)
    (h : Act t.val (nA m) → d0 = k0_pay1 (i1 m hO c t) ∧ d1 = k0_pay2 (i2 m hO c t)) : Kept m hO c (t.val + 1) d0 d1 := by
  intro s hs ha
  obtain rfl : s = t := Fin.ext (by omega)
  exact h ha

/-- What the body is called with at a point, -/
def preP (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))

/-- and what it returns. -/
def postP (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 6400000 in
/-- The body at any point: from what it is called with, it returns what the proof data say. -/
theorem body_sound (hO : Ok m) (c : Dev nD) (t : Fin (cfgM m hO).N) :
    preP m hO c t ⊢ wp frame (wpE (defs₀ (F := F)) Variants.none c none) Set.univ (bodyOf m hO t) (fun _ => postP m hO c t) := by
  unfold preP postP
  simp only [found0, found1, found2]
  have hN : t.val < 163 := lt_of_lt_of_eq t.isLt (show (cfgM m hO).N = 163 from N_0)
  have hct : (grid0.coords t 0).val = t.val := crd t
  rw [show (dats m hO 0 c).owesAt () t.succ = (dats m hO 0 c).owesAt () t.castSucc from rfl]
  rw [show (dats m hO 0 c).Φ t.succ = Inv m hO c (t.val + 1) from rfl, show (dats m hO 0 c).Φ t.castSucc = Inv m hO c t.val from rfl]
  rw [show (dats m hO 0 c).leavesExact 0 t = owns (c : Thread nD τ) (st0 m hO t) fullShare ((dats m hO 0 c).after 0 t) from by
      unfold Dat.leavesExact; rw [show (cfgM m hO).idle 0 (grid0.coords t) = false from rfl]; try rfl, left0]
  rw [show (dats m hO 0 c).leavesExact 1 t = owns (c : Thread nD τ) (st1 m hO t) fullShare ((dats m hO 0 c).after 1 t) from by
      unfold Dat.leavesExact; rw [show (cfgM m hO).idle 1 (grid0.coords t) = false from rfl]; try rfl, left1]
  rw [show (dats m hO 0 c).leavesExact 2 t = owns (c : Thread nD τ) (st2 m hO t) fullShare ((dats m hO 0 c).after 2 t) from by
      unfold Dat.leavesExact; rw [show (cfgM m hO).idle 2 (grid0.coords t) = false from rfl]; try rfl, left2]
  rw [show (dats m hO 0 c).leavesExact 3 t = owns (c : Thread nD τ) (st3 m hO t) fullShare ((dats m hO 0 c).after 3 t) from by
      unfold Dat.leavesExact; rw [show (cfgM m hO).idle 3 (grid0.coords t) = false from idle3 (tbl m) (grid0.coords t)]; try rfl, left3]
  unfold Inv
  rw [PhiT_eq]
  have hn : sN c (tbl m 2) = nA m := sN_eq c (tbl m 2)
  iintro ⟨⟨⟨⟨%d0, %d1, %hk, HS0, HS1⟩, Hg⟩, HT0, HT1, HT2⟩, Ho, ⟨%x0, H0⟩, ⟨%x1, H1⟩, ⟨%x2, H2⟩, ⟨%x3, H3⟩⟩
  by_cases ha : Act t.val (nA m)
  · have h2 : k0_cond2 (grid0.coords t) (sN c (tbl m 2)) = 1#1 := (cond2_iff _ _).mpr (by rw [hct, hn]; exact ha)
    have h3 : ¬k0_cond3 (grid0.coords t) (sN c (tbl m 2)) = 1#1 := fun h => (cond3_iff _ _).mp h (by rw [hct, hn]; exact ha)
    by_cases hw : cNew (grid0.coords t) (sN c (tbl m 2)) (sE c (grid0.coords t) (tbl m 0)) (sE' c (grid0.coords t) (tbl m 0))
    · iapply runA c (grid0.coords t) _ _ _ _ _ _ _ _ _ _ _ _ (i0 m hO c t) (i1 m hO c t) (i2 m hO c t) (tbl m 0) (tbl m 1) (tbl m 2) hw h2 h3 Set.univ _
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · iexists _, _
            isplitr
            swap
            · isplitl [HS0]; · iexact HS0
              iexact HS1
            ipureintro; exact kept_of m hO c t _ _ fun _ => ⟨rfl, rfl⟩
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold outB; rw [if_pos ha]
      iexact H3
    · have hnw : ¬(t.val = 0 ∨ sE c (grid0.coords t) (tbl m 0) ≠ sE' c (grid0.coords t) (tbl m 0)) := fun h =>
        hw ((cNew_iff _ _ _ _).mpr ⟨by rw [hct, hn]; exact ha, by rw [hct]; exact h⟩)
      obtain ⟨rfl, rfl⟩ := kept_same m hO c t d0 d1 hk ha (fun h => hnw (.inl h)) (not_not.mp fun h => hnw (.inr h))
      iapply runB c (grid0.coords t) _ _ _ _ _ _ _ _ _ _ _ _ (i0 m hO c t) (i1 m hO c t) (i2 m hO c t) _ _ (tbl m 0) (tbl m 1) (tbl m 2) hw h2 h3 Set.univ _
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · iexists _, _
            isplitr
            swap
            · isplitl [HS0]; · iexact HS0
              iexact HS1
            ipureintro; exact kept_of m hO c t _ _ fun _ => ⟨rfl, rfl⟩
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold outB; rw [if_pos ha]
      iexact H3
  · have h2 : ¬k0_cond2 (grid0.coords t) (sN c (tbl m 2)) = 1#1 := fun h => ha (by have := (cond2_iff _ _).mp h; rwa [hct, hn] at this)
    have h3 : k0_cond3 (grid0.coords t) (sN c (tbl m 2)) = 1#1 := (cond3_iff _ _).mpr (by rw [hct, hn]; exact ha)
    have hw : ¬cNew (grid0.coords t) (sN c (tbl m 2)) (sE c (grid0.coords t) (tbl m 0)) (sE' c (grid0.coords t) (tbl m 0)) := fun h =>
      ha (by have := ((cNew_iff _ _ _ _).mp h).1; rwa [hct, hn] at this)
    iapply runC c (grid0.coords t) _ _ _ _ _ _ _ _ _ _ _ _ (i0 m hO c t) (i1 m hO c t) (i2 m hO c t) d0 d1 (tbl m 0) (tbl m 1) (tbl m 2) hw h2 h3 Set.univ _
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    isplitl [HT2]; · iexact HT2
    iintro ⟨H0, H1, H2, H3, HS0, HS1, HT0, HT1, HT2⟩
    isplitl [HS0 HS1 Hg HT0 HT1 HT2]
    · isplitl [HS0 HS1 Hg]
      · isplitl [HS0 HS1]
        · iexists _, _
          isplitr
          swap
          · isplitl [HS0]; · iexact HS0
            iexact HS1
          ipureintro; exact kept_of m hO c t _ _ fun h => absurd h ha
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    unfold outB; rw [if_neg ha]
    iexact H3

theorem row_eq (hO : Ok m) (t : Fin (cfgM m hO).N) :
    defs₀ (F := F) .tc (cfgM m hO).body ((cfgM m hO).bodyArgs t ((cfgM m hO).slots t)) = bodyOf m hO t := by
  unfold defs₀; rw [Defs.onTc_tc]

set_option maxHeartbeats 3200000 in
/-- The body meets its obligation at every point. -/
theorem body_meets (hO : Ok m) (c : Dev nD) : BodyObligation (dats (F := F) m hO 0 c) (defs₀ (F := F)) Variants.none () Set.univ := fun t => by
  rw [bigSep_W0, bigSep_W0, row_eq m hO]
  exact triple_restated (body_sound m hO c t) rfl .rfl fun _ => .rfl

/-- What the launch hands the pipeline is the invariant before the first point. -/
theorem enter (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, PhiA_eq]
  unfold Inv
  iintro ⟨⟨⟨⟨%d0, HS0⟩, ⟨%d1, HS1⟩⟩, Hg⟩, HT⟩
  isplitl [HS0 HS1 Hg]
  · isplitl [HS0 HS1]
    · iexists _, _
      isplitr
      swap
      · isplitl [HS0]; · iexact HS0
        iexact HS1
      ipureintro; intro s hs; exact absurd hs (Nat.succ_ne_zero _)
    iexact Hg
  iexact HT

/-- The invariant gives back what the launch handed over. -/
theorem leave (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, PhiA_eq]
  unfold Inv
  iintro ⟨⟨⟨%d0, %d1, -, HS0, HS1⟩, Hg⟩, -⟩
  isplitl [HS0 HS1]
  · isplitl [HS0]
    · iexists _; iexact HS0
    iexists _; iexact HS1
  iexact Hg

set_option backward.isDefEq.respectTransparency.types false in
/-- From any memory whose tables keep the blocks inside the arrays every execution terminates, every array of the pipeline holds
    what the proof data say, and every counter is at zero. -/
theorem launched (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_meets m hO c).loose) (hshare := fun c => (dats m hO 0 c).share_full fun _ => rfl)
    (howed := fun _ _ => rfl) (V := V m) (hmain := main_split m Variants.none) (hA := dats_A m hO) (hpf := V_tbl m)
    (hin := enter m hO) (hout := leave m hO)

/-- Every argument ends as it was, and every counter is at zero. -/
theorem kept (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).1 0).trans (((dats m hO 0 c).arrAt_in 0 rfl _).trans ((dats_A m hO c 0).trans (V_kept m c main_arg0 (by decide)))),
      ((h.1 c).2 main_arg1 (by decide : main_arg1 ∈ Pipeline.restRefs sig spec0)).trans (V_kept m c main_arg1 (by decide)),
      ((h.1 c).2 main_arg2 (by decide : main_arg2 ∈ Pipeline.restRefs sig spec0)).trans (V_kept m c main_arg2 (by decide)),
      ((h.1 c).2 main_arg3 (by decide : main_arg3 ∈ Pipeline.restRefs sig spec0)).trans (V_kept m c main_arg3 (by decide)),
      ((h.1 c).1 1).trans (((dats m hO 0 c).arrAt_in 1 rfl _).trans ((dats_A m hO c 1).trans (V_kept m c main_arg4 (by decide)))),
      ((h.1 c).1 2).trans (((dats m hO 0 c).arrAt_in 2 rfl _).trans ((dats_A m hO c 2).trans (V_kept m c main_arg5 (by decide))))⟩, h.2⟩) (launched m ρ hO)

end Cert.Kernel3Ideal.Ex

end
-- ==== Proof.ExTablesIdeal.lean ====
/-
  The experts' call `Kernel3Ideal`: the tables the host line leaves. An entry is an entry of the argument; an active block's is
  the argument's at the block.
-/
module

public import proofs.«01_k».proof.Proof.ExFrameIdeal
public import Idealize.ShloMosaic.Lib.ValueIdxCore
public import Idealize.ShloMosaic.Lib.StableHlo.RunRead

@[expose] public section

set_option maxRecDepth 16384

noncomputable section

namespace Cert.Kernel3Ideal.Ex

open Cert.Kernel3Ideal Cert.Kernel3Ideal.Gen
open Idealize.ShloMosaic Idealize.ShloMosaic.TcCoe Idealize.ShloMosaic.Tactic

variable {F : FTy → Type} [FloatOps F]
variable (m : (ℓ : Loc nD τ sig) → Buf (Elt F) ℓ)

/-- A block's place in the column of clamped numbers. -/
abbrev col (k : ℕ) (h : k < 163) : S163x1.Idx := fun | ⟨0, _⟩ => ⟨k, h⟩ | ⟨1, _⟩ => ⟨0, Nat.one_pos⟩

/-- Each block's number, clamped below the number of active blocks. -/
def blkOf (n : IVec S1 32) : IVec S163x1 32 :=
  broadcastInDim S163x1 ![0] bcast_S163_S163x1_0 (minsi (iotaInDim S163 32 0)
    (broadcastInDim S163 ![0] bcast_S1_S163_0 (subi n (broadcastInDim S1 ![] bcast_S_S1 (constantI S_ 32 1#32)))))

theorem V_experts : V m 0 main_v6 = Host.gather gather_S163_S163x1_S163_n_0_n_n_0_1_1 (m (((0 : Dev nD) : Thread nD τ).loc main_arg1) : IVec S163 32) (blkOf (m (((0 : Dev nD) : Thread nD τ).loc main_arg3))) := by
  unfold V
  after_reads_simp
  rfl

theorem V_places : V m 0 main_v8 = Host.gather gather_S163_S163x1_S163_n_0_n_n_0_1_1 (m (((0 : Dev nD) : Thread nD τ).loc main_arg2) : IVec S163 32) (blkOf (m (((0 : Dev nD) : Thread nD τ).loc main_arg3))) := by
  unfold V
  after_reads_simp
  rfl

theorem nA_eq : nA m = (m (((0 : Dev nD) : Thread nD τ).loc main_arg3) : IVec S1 32) at1 :=
  congrFun (V_kept m 0 main_arg3 (by decide)) at1

/-- An entry gathered is the operand's at its start, read signed and clamped. -/
theorem take_at (x : IVec S163 32) (idx : IVec S163x1 32) (k : ℕ) (h : k < 163) :
    Host.gather gather_S163_S163x1_S163_n_0_n_n_0_1_1 x idx (at163 k h)
      = x (at163 (min (idx (col k h)).toInt.toNat 162) (by omega)) := by
  unfold Host.gather
  congr 1
  funext a
  obtain rfl : a = 0 := Subsingleton.elim _ _
  refine Fin.ext ?_
  let d := gather_S163_S163x1_S163_n_0_n_n_0_1_1
  show d.start (at163 k h) idx 0 + d.batchCoord (at163 k h) 0 + d.offCoord (at163 k h) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (at163 k h) ⟨List.idxOf (0 : Fin 1) d.startIndexMap,
      List.idxOf_lt_length_iff.2 (List.mem_singleton.mpr rfl)⟩ = (col k h) := by
    funext b; refine Fin.ext ?_
    match b with
    | ⟨0, _⟩ => rfl
    | ⟨1, _⟩ => rfl
  rw [hsi]
  rfl

/-- A block's clamped number: the least of its own and the last active block's. -/
theorem blkOf_eq (n : IVec S1 32) (k : ℕ) (h : k < 163) : blkOf n (col k h) = IntOp.minsi (BitVec.ofNat 32 k) (IntOp.subi (n at1) 1#32) := by
  have h1 : ∀ y : IVec S163 32, broadcastInDim S163x1 ![0] bcast_S163_S163x1_0 y (col k h) = y (at163 k h) := fun y =>
    broadcastInDim_apply _ bcast_S163_S163x1_0 y (col k h) (at163 k h) (fun a => match a with
    | ⟨0, _⟩ => by show k = if (163 : Nat) = 1 then 0 else k; rw [if_neg (by decide)])
  have h2 : ∀ y : IVec S1 32, broadcastInDim S163 ![0] bcast_S1_S163_0 y (at163 k h) = y at1 := fun y =>
    broadcastInDim_apply _ bcast_S1_S163_0 y (at163 k h) at1 (fun a => match a with
    | ⟨0, _⟩ => by show 0 = if (1 : Nat) = 1 then 0 else k; rw [if_pos rfl])
  unfold blkOf
  rw [h1]
  rw [show ∀ (x y : IVec S163 32) j, minsi x y j = IntOp.minsi (x j) (y j) from fun _ _ _ => rfl, h2]
  rw [show ∀ (x y : IVec S1 32) j, subi x y j = IntOp.subi (x j) (y j) from fun _ _ _ => rfl]
  exact congrArg₂ IntOp.minsi rfl (congrArg (IntOp.subi (n at1)) rfl)

/-- The clamped number of an active block is its own. -/
theorem blkOf_act (n : IVec S1 32) (k : ℕ) (h : k < 163) (ha : Act k (n at1)) :
    (blkOf n (col k h)).toInt.toNat = k := by
  have e := blkOf_eq n k h
  rw [e]
  generalize n at1 = w at ha ⊢
  have hk : (BitVec.ofNat 32 k).toInt = (k : ℤ) := WordCmp.toInt_ofNat_of_lt (by omega)
  have ha' : (k : ℤ) < w.toInt := ha
  have hw : (IntOp.subi w 1#32).toInt = w.toInt - 1 := by
    show (w - 1#32).toInt = _
    have h1 := BitVec.toInt_lt (x := w)
    rw [BitVec.toInt_sub, show (1#32).toInt = 1 from rfl]
    exact Int.bmod_eq_of_le (by omega) (by omega)
  have hm : (IntOp.minsi (BitVec.ofNat 32 k) (IntOp.subi w 1#32)).toInt = (k : ℤ) := by
    unfold IntOp.minsi
    split
    · exact hk
    · next hn =>
      rw [BitVec.slt_iff_toInt_lt, hk, hw] at hn
      rw [hw]; omega
  rw [hm]; rfl

/-- The table's entry of block `k` is one that is read: `k` is no more than the last active block's number, or is zero. -/
def Used (k : ℕ) (n : BitVec 32) : Prop := (k : ℤ) ≤ max (IntOp.subi n 1#32).toInt 0

/-- An active block's entry is read. -/
theorem used_of_act (k : ℕ) (n : BitVec 32) (ha : Act k n) : Used k n := by
  have ha' : (k : ℤ) < n.toInt := ha
  have hw : (IntOp.subi n 1#32).toInt = n.toInt - 1 := by
    show (n - 1#32).toInt = _
    have h1 := BitVec.toInt_lt (x := n)
    rw [BitVec.toInt_sub, show (1#32).toInt = 1 from rfl]
    exact Int.bmod_eq_of_le (by omega) (by omega)
  unfold Used
  rw [hw]; omega

/-- The clamped number of any block is that of an entry read. -/
theorem blkOf_used (n : IVec S1 32) (k : ℕ) (h : k < 163) : Used (min (blkOf n (col k h)).toInt.toNat 162) (n at1) := by
  rw [blkOf_eq]
  unfold Used
  generalize IntOp.subi (n at1) 1#32 = w
  have hk : (BitVec.ofNat 32 k).toInt = (k : ℤ) := WordCmp.toInt_ofNat_of_lt (by omega)
  have hm : (IntOp.minsi (BitVec.ofNat 32 k) w).toInt ≤ w.toInt := by
    unfold IntOp.minsi
    split
    · next hn =>
      rw [BitVec.slt_iff_toInt_lt] at hn
      omega
    · exact le_refl _
  omega

theorem experts_mem (k : ℕ) (h : k < 163) : ∃ (j : ℕ) (hj : j < 163), Used j ((m (((0 : Dev nD) : Thread nD τ).loc main_arg3) : IVec S1 32) at1)
    ∧ (tbl m 0 : S163.Idx → BitVec 32) (at163 k h) = (m (((0 : Dev nD) : Thread nD τ).loc main_arg1) : IVec S163 32) (at163 j hj) :=
  ⟨_, _, blkOf_used _ k h, (congrFun (V_experts m) (at163 k h)).trans (take_at _ _ k h)⟩

theorem places_mem (k : ℕ) (h : k < 163) : ∃ (j : ℕ) (hj : j < 163), Used j ((m (((0 : Dev nD) : Thread nD τ).loc main_arg3) : IVec S1 32) at1)
    ∧ (tbl m 1 : S163.Idx → BitVec 32) (at163 k h) = (m (((0 : Dev nD) : Thread nD τ).loc main_arg2) : IVec S163 32) (at163 j hj) :=
  ⟨_, _, blkOf_used _ k h, (congrFun (V_places m) (at163 k h)).trans (take_at _ _ k h)⟩

/-- The table's expert of an active block is the argument's. -/
theorem experts_act (k : ℕ) (h : k < 163) (ha : Act k (nA m)) :
    (tbl m 0 : S163.Idx → BitVec 32) (at163 k h) = (m (((0 : Dev nD) : Thread nD τ).loc main_arg1) : IVec S163 32) (at163 k h) := by
  refine (congrFun (V_experts m) (at163 k h)).trans ((take_at _ _ k h).trans ?_)
  congr 1; funext a
  match a with
  | ⟨0, _⟩ => exact Fin.ext (by
      show min _ 162 = k
      rw [blkOf_act _ k h (by rw [← nA_eq m]; exact ha)]; omega)

/-- The table's place of an active block is the argument's. -/
theorem places_act (k : ℕ) (h : k < 163) (ha : Act k (nA m)) :
    (tbl m 1 : S163.Idx → BitVec 32) (at163 k h) = (m (((0 : Dev nD) : Thread nD τ).loc main_arg2) : IVec S163 32) (at163 k h) := by
  refine (congrFun (V_places m) (at163 k h)).trans ((take_at _ _ k h).trans ?_)
  congr 1; funext a
  match a with
  | ⟨0, _⟩ => exact Fin.ext (by
      show min _ 162 = k
      rw [blkOf_act _ k h (by rw [← nA_eq m]; exact ha)]; omega)

/-- With the entries read in range every block lies inside its array. -/
theorem ok_of (hE : ∀ k h, Used k ((m (((0 : Dev nD) : Thread nD τ).loc main_arg3) : IVec S1 32) at1) → ((m (((0 : Dev nD) : Thread nD τ).loc main_arg1) : IVec S163 32) (at163 k h)).toNat < 32)
    (hO : ∀ k h, Used k ((m (((0 : Dev nD) : Thread nD τ).loc main_arg3) : IVec S1 32) at1) → ((m (((0 : Dev nD) : Thread nD τ).loc main_arg2) : IVec S163 32) (at163 k h)).toNat < 2112) : Ok m := by
  have bE : ∀ k h, ((tbl m 0 : S163.Idx → BitVec 32) (at163 k h)).toNat < 32 := fun k h => by
    obtain ⟨j, hj, u, e⟩ := experts_mem m k h; rw [e]; exact hE j hj u
  have bO : ∀ k h, ((tbl m 1 : S163.Idx → BitVec 32) (at163 k h)).toNat < 2112 := fun k h => by
    obtain ⟨j, hj, u, e⟩ := places_mem m k h; rw [e]; exact hO j hj u
  have kO : ∀ (X : Fin 2 → ℕ) (x : ℕ), X = ![x, 0] → x < 2112 → ∀ a, (X a + 1) * S4096x128.size a ≤ S8650752x128.size a := by
    rintro X x rfl hx a
    match a with
    | ⟨0, _⟩ => show (x + 1) * 4096 ≤ 8650752; omega
    | ⟨1, _⟩ => show (0 + 1) * 128 ≤ 128; omega
  have kI : ∀ (X : Fin 4 → ℕ) (x : ℕ), X = ![0, x, 0, 0] → x < 32 → ∀ a, (X a + 1) * S1x1x1024x1024.size a ≤ S2x32x1024x1024.size a := by
    rintro X x rfl hx a
    match a with
    | ⟨0, _⟩ => show (0 + 1) * 1 ≤ 2; omega
    | ⟨1, _⟩ => show (x + 1) * 1 ≤ 32; omega
    | ⟨2, _⟩ => show (0 + 1) * 1024 ≤ 1024; omega
    | ⟨3, _⟩ => show (0 + 1) * 1024 ≤ 1024; omega
  have kU : ∀ (X : Fin 4 → ℕ) (x : ℕ), X = ![0, x, 0, 0] → x < 32 → ∀ a, (X a + 1) * S1x1x512x1024.size a ≤ S2x32x512x1024.size a := by
    rintro X x rfl hx a
    match a with
    | ⟨0, _⟩ => show (0 + 1) * 1 ≤ 2; omega
    | ⟨1, _⟩ => show (x + 1) * 1 ≤ 32; omega
    | ⟨2, _⟩ => show (0 + 1) * 512 ≤ 512; omega
    | ⟨3, _⟩ => show (0 + 1) * 1024 ≤ 1024; omega
  exact ⟨fun i => ⟨kO _ _ (ix_tokens (tbl m) i) (bO _ _), .inl rfl⟩, fun i => ⟨kI _ _ (ix_in (tbl m) i) (bE _ _), .inl rfl⟩,
    fun i => ⟨kU _ _ (ix_out (tbl m) i) (bE _ _), .inl rfl⟩⟩

end Cert.Kernel3Ideal.Ex

end
-- ==== Proof.ExPre.lean ====
/-
  The experts' call: what the range of its tables says of their entries, and that the call then terminates and keeps its
  arguments.
-/
module

public import proofs.«01_k».proof.Defs
public import proofs.«01_k».proof.Proof.ExTables
public import proofs.«01_k».proof.Proof.ExTablesIdeal
public import proofs.«01_k».proof.Proof.Gen.Pre_tables_in_range

@[expose] public section

namespace Cert.ExPre

open Idealize.ShloMosaic Idealize.ShloMosaic.TcCoe

theorem one_iff (p : Bool) : (BitVec.ofBool p = 1#1) ↔ p = true := by cases p <;> decide
theorem both_iff (p q : BitVec 1) : (p &&& q = 1#1) ↔ p = 1#1 ∧ q = 1#1 := by revert p q; decide

/-- A word read signed between zero and a small bound is below the bound read unsigned. -/
theorem toNat_lt (w b : BitVec 32) (hb : b.toNat < 2147483648) (h0 : BitVec.sle 0#32 w = true) (h1 : BitVec.slt w b = true) : w.toNat < b.toNat := by
  simp only [BitVec.sle, BitVec.slt, decide_eq_true_eq] at h0 h1
  have hw := BitVec.toInt_eq_toNat_cond w
  have hbi := BitVec.toInt_eq_toNat_cond b
  have hz : (0#32 : BitVec 32).toInt = 0 := by decide
  have := w.isLt
  split at hw <;> split at hbi <;> omega

theorem either_iff (p q : BitVec 1) : (p ||| q = 1#1) ↔ p = 1#1 ∨ q = 1#1 := by revert p q; decide

/-- The greater of a word and zero, read signed. -/
theorem max_toInt (w : BitVec 32) : (IntOp.maxsi w 0#32).toInt = max w.toInt 0 := by
  have hz : (0#32 : BitVec 32).toInt = 0 := by decide
  unfold IntOp.maxsi
  split
  · next h => rw [BitVec.slt_iff_toInt_lt, hz] at h; omega
  · next h => rw [BitVec.slt_iff_toInt_lt, hz] at h; rw [hz]; omega

/-- A block's place in a table. -/
abbrev pl (k : ℕ) (h : k < 163) : Cert.Pre_tables_in_range.S163.Idx := Cert.Kernel3.Ex.at163 k h
/-- The one place of the number of active blocks. -/
abbrev pl1 : Cert.Pre_tables_in_range.S1.Idx := Cert.Kernel3.Ex.at1

/-- The precondition in plain words: each entry read is an expert below 32 and a place below 2112. -/
theorem ranges {F : FTy → Type} [FloatOps F] (x0 : FVec F Cert.Pre_tables_in_range.S8650752x128 .f32) (x1 x2 : IVec Cert.Pre_tables_in_range.S163 32)
    (x3 : IVec Cert.Pre_tables_in_range.S1 32) (x4 : FVec F Cert.Pre_tables_in_range.S2x32x1024x1024 .f32) (x5 : FVec F Cert.Pre_tables_in_range.S2x32x512x1024 .f32)
    (h : Cert.Pre_tables_in_range.fn (F := F) x0 x1 x2 x3 x4 x5 = fun _ => 1#1) :
    (∀ (k : ℕ) (hk : k < 163), (k : ℤ) ≤ max (IntOp.subi (x3 pl1) 1#32).toInt 0 → (x1 (pl k hk)).toNat < 32)
    ∧ ∀ (k : ℕ) (hk : k < 163), (k : ℤ) ≤ max (IntOp.subi (x3 pl1) 1#32).toInt 0 → (x2 (pl k hk)).toNat < 2112 := by
  have key : ∀ (k : ℕ) (hk : k < 163), (k : ℤ) ≤ max (IntOp.subi (x3 pl1) 1#32).toInt 0 → (x1 (pl k hk)).toNat < 32 ∧ (x2 (pl k hk)).toNat < 2112 := fun k hk u => by
    have e := congrFun h (pl k hk)
    have h2 : ∀ y : IVec Cert.Pre_tables_in_range.S1 32, broadcastInDim Cert.Pre_tables_in_range.S163 ![0] Cert.Pre_tables_in_range.Facts.bcast_S1_S163_0 y (pl k hk) = y pl1 := fun y =>
      broadcastInDim_apply _ Cert.Pre_tables_in_range.Facts.bcast_S1_S163_0 y (pl k hk) pl1 (fun a => match a with
      | ⟨0, _⟩ => by show 0 = if (1 : Nat) = 1 then 0 else k; rw [if_pos rfl])
    simp only [Cert.Pre_tables_in_range.fn, Cert.Pre_tables_in_range.fn_part1, ori, andi, cmpi, IntOp.cmpi, IntOp.andi, IntOp.ori, h2, one_iff, both_iff, either_iff] at e
    rcases e with e | ⟨⟨⟨e1, e2⟩, e3⟩, e4⟩
    · exfalso
      have e' : BitVec.slt (IntOp.maxsi (IntOp.subi (x3 pl1) 1#32) 0#32) (BitVec.ofNat 32 k) = true := e
      rw [BitVec.slt_iff_toInt_lt, max_toInt, show (BitVec.ofNat 32 k).toInt = (k : ℤ) from WordCmp.toInt_ofNat_of_lt (by omega)] at e'
      omega
    · exact ⟨toNat_lt _ 32#32 (by decide) e1 e2, toNat_lt _ 2112#32 (by decide) e3 e4⟩
  exact ⟨fun k hk u => (key k hk u).1, fun k hk u => (key k hk u).2⟩

/-- Every block of the experts' call lies inside its array. -/
theorem ok (m : (ℓ : Loc Cert.Kernel3.nD Cert.Kernel3.τ Cert.Kernel3.sig) → Buf (Elt Bits) ℓ) (h : Cert.Pre_Kernel3 m) : Cert.Kernel3.Ex.Ok m :=
  Cert.Kernel3.Ex.ok_of m (ranges _ _ _ _ _ _ (h 0)).1 (ranges _ _ _ _ _ _ (h 0)).2
/-- Likewise over the extended reals. -/
theorem okIdeal (m : (ℓ : Loc Cert.Kernel3Ideal.nD Cert.Kernel3Ideal.τ Cert.Kernel3Ideal.sig) → Buf (Elt Ideal) ℓ) (h : Cert.Pre_Kernel3Ideal m) :
    Cert.Kernel3Ideal.Ex.Ok m :=
  Cert.Kernel3Ideal.Ex.ok_of m (ranges _ _ _ _ _ _ (h 0)).1 (ranges _ _ _ _ _ _ (h 0)).2

/-- The experts' call terminates, keeps its arguments and leaves every counter at zero. -/
theorem frame : Cert.quiescent_Kernel3 (hKernel3 := Cert.Kernel3.Gen.facts) (hPre_tables_in_range := Cert.Pre_tables_in_range.Gen.facts) :=
  fun m ρ h => Cert.Kernel3.Ex.kept m ρ (ok m h)
/-- Likewise over the extended reals. -/
theorem frameIdeal : Cert.quiescent_Kernel3Ideal (hKernel3Ideal := Cert.Kernel3Ideal.Gen.facts) (hPre_tables_in_range := Cert.Pre_tables_in_range.Gen.facts) :=
  fun m ρ h => Cert.Kernel3Ideal.Ex.kept m ρ (okIdeal m h)

end Cert.ExPre
-- ==== Proof.ExBody.lean ====
/-
  The experts' call: what one block computes. A block's 512 tokens lie eight rows to a token; the hidden columns are gated and
  multiplied back.
-/
module

public import proofs.«01_k».proof.Proof.ExRunIdeal
public import Idealize.ShloMosaic.Lib.Pipeline.Value
public import Idealize.ShloMosaic.Lib.Pointwise
public import Idealize.ShloMosaic.PureOps.Ideal
public import Idealize.ShloMosaic.PureOps.Reduce
public import Mathlib.Algebra.BigOperators.Fin
public import Mathlib.Data.EReal.Operations

@[expose] public section

set_option maxRecDepth 16384

noncomputable section

namespace Cert.Kernel3Ideal.Ex

open Cert.Kernel3Ideal Cert.Kernel3Ideal.Gen Idealize.ShloMosaic Idealize.ShloMosaic.TcCoe Idealize.ShloMosaic.Tactic Idealize.SL.Sem
open scoped BigOperators

/-- A token times one hidden column. -/
def hid (x : Fin 1024 → EReal) (w : Fin 1024 → Fin 1024 → EReal) (j : Fin 1024) : EReal := ∑ e : Fin 1024, x e * w e j

/-- The gate. -/
def gate (a b : EReal) : EReal :=
  a * Ideal.div (Ideal.ofBits .f32 0x3F800000#32) (Ideal.ofBits .f32 0x3F800000#32 + Ideal.exp (-a)) * b

/-- A token through one expert. -/
def mlp (x : Fin 1024 → EReal) (w : Fin 1024 → Fin 1024 → EReal) (u : Fin 512 → Fin 1024 → EReal) (C : Fin 1024) : EReal :=
  ∑ j : Fin 512, gate (hid x w ⟨j.val, by omega⟩) (hid x w ⟨512 + j.val, by omega⟩) * u j C

theorem mlp_congr {x x' : Fin 1024 → EReal} {w w' : Fin 1024 → Fin 1024 → EReal} {u u' : Fin 512 → Fin 1024 → EReal} (hx : ∀ e, x e = x' e)
    (hw : ∀ e j, w e j = w' e j) (hu : ∀ j C, u j C = u' j C) (C : Fin 1024) : mlp x w u C = mlp x' w' u' C := by
  rw [funext hx, funext fun e => funext (hw e), funext fun j => funext (hu j)]

/-- Eight slabs side by side. -/
def wide (v19 v20 v21 v22 v23 v24 v25 v26 : Vec Ideal S512x128 .f32) : FVec Ideal S512x1024 .f32 :=
  concatenate S512x1024 1 [⟨S512x128, v19⟩, ⟨S512x128, v20⟩, ⟨S512x128, v21⟩, ⟨S512x128, v22⟩, ⟨S512x128, v23⟩, ⟨S512x128, v24⟩, ⟨S512x128, v25⟩, ⟨S512x128, v26⟩] concatenates_S512x128_S512x128_S512x128_S512x128_S512x128_S512x128_S512x128_S512x128_S512x1024_d1

/-- The hidden columns of a block. -/
def hidV (a : FVec Ideal S512x1024 .f32) (w : Vec Ideal S1024x1024 .bf16) : FVec Ideal S512x1024 .f32 :=
  matmul (φ₂ := .bf16) dot_S512x1024_S1024x1024_S512x1024_1_0_0_1_n_n none (truncf .bf16 a bitsLt_bf16_f32) w (constant S512x1024 .f32 0x00000000#32)

theorem hidV_apply (a : FVec Ideal S512x1024 .f32) (w : Vec Ideal S1024x1024 .bf16) (r : Fin 512) (j : Fin 1024) :
    (hidV a w (ix2 r j) : EReal) = hid (fun e => a (ix2 r e)) (fun e j => w (ix2 e j)) j := by
  unfold hidV hid
  pointwise [dot_S512x1024_S1024x1024_S512x1024_1_0_0_1_n_n]

/-- The gated columns. -/
def gateV (v30 : FVec Ideal S512x1024 .f32) : FVec Ideal S512x512 .f32 :=
  let v31 : FVec Ideal S512x512 .f32 := extractStridedSlice S512x512 ![0, 0] v30 slices_S512x1024_o0_0_S512x512
  mulf (mulf v31 (divf (broadcast S512x512 (Scalar.ofBits .f32 0x3F800000#32)) (addf (broadcast S512x512 (Scalar.ofBits .f32 0x3F800000#32))
    (exp (subf (broadcast S512x512 (Scalar.ofBits .f32 0x00000000#32)) v31))))) (extractStridedSlice S512x512 ![0, 512] v30 slices_S512x1024_o0_512_S512x512)

theorem gateV_apply (h : FVec Ideal S512x1024 .f32) (r j : Fin 512) :
    (gateV h (ix2 r j) : EReal) = gate (h (ix2 r ⟨j.val, by omega⟩)) (h (ix2 r ⟨512 + j.val, by omega⟩)) := by
  have key : (gateV h (ix2 r j) : EReal) = h (ix2 r ⟨j.val, by omega⟩) * Ideal.div (Ideal.ofBits .f32 0x3F800000#32) (Ideal.ofBits .f32 0x3F800000#32
      + Ideal.exp (Ideal.ofBits .f32 0x00000000#32 - h (ix2 r ⟨j.val, by omega⟩))) * h (ix2 r ⟨512 + j.val, by omega⟩) := by
    unfold gateV
    pointwise
  rw [key, Ideal.ofBits_zero_f32, zero_sub]
  rfl

/-- The product with the second weights. -/
def outV (g : FVec Ideal S512x512 .f32) (u : Vec Ideal S512x1024 .bf16) : FVec Ideal S512x1024 .f32 :=
  matmul (φ₂ := .bf16) dot_S512x512_S512x1024_S512x1024_1_0_0_1_n_n none (truncf .bf16 g bitsLt_bf16_f32) u (constant S512x1024 .f32 0x00000000#32)

theorem outV_apply (g : FVec Ideal S512x512 .f32) (u : Vec Ideal S512x1024 .bf16) (r : Fin 512) (C : Fin 1024) :
    (outV g u (ix2 r C) : EReal) = ∑ j : Fin 512, (g (ix2 r j) : EReal) * u (ix2 j C) := by
  unfold outV
  pointwise [dot_S512x512_S512x1024_S512x1024_1_0_0_1_n_n]

theorem pay10_eq (v19 v20 v21 v22 v23 v24 v25 v26 : Vec Ideal S512x128 .f32) (w : Vec Ideal S1024x1024 .bf16) (u : Vec Ideal S512x1024 .bf16) :
    k0_pay10 v19 v20 v21 v22 v23 v24 v25 v26 w u = outV (gateV (hidV (wide v19 v20 v21 v22 v23 v24 v25 v26) w)) u := rfl

/-- A slab's row is every eighth row of the block. -/
theorem ld_slab (x0 : Vec Ideal S4096x128 .f32) (k : ℕ) (inb) (sp) (r : Fin 512) (c : Fin 128) (h : 8 * r.val + k < 4096) :
    View.ld x0 ⟨(⟨![k, 0], S512x128.size, ![8, 1], inb⟩ : LoadRect S4096x128), sp⟩ (ix2 r c) = x0 (ix2 ⟨8 * r.val + k, h⟩ c) := by
  unfold View.ld
  refine congrArg x0 (funext fun a => ?_)
  match a with
  | ⟨0, _⟩ => exact Fin.ext (by show k + 8 * r.val = 8 * r.val + k; omega)
  | ⟨1, _⟩ => exact Fin.ext (by show 0 + 1 * c.val = c.val; omega)

/-- The token's row `r`: its eight rows of 128 one after the other. -/
def tok (x0 : Vec Ideal S4096x128 .f32) (r : Fin 512) (e : Fin 1024) : EReal :=
  x0 (ix2 ⟨8 * r.val + e.val / 128, by omega⟩ ⟨e.val % 128, by omega⟩)

theorem wide_piece (v19 v20 v21 v22 v23 v24 v25 v26 : Vec Ideal S512x128 .f32) (k : Fin 8) (r : Fin 512) (e : Fin 1024) (hk : e.val / 128 = k.val) :
    wide v19 v20 v21 v22 v23 v24 v25 v26 (ix2 r e) = (![v19, v20, v21, v22, v23, v24, v25, v26] k) (ix2 r ⟨e.val % 128, by omega⟩) := by
  have off : ∀ b : Fin S512x128.rank, b.cast (show S512x128.rank = S512x1024.rank from rfl) ≠ (1 : Fin S512x1024.rank) →
      (ix2 (n0 := 512) (n1 := 128) r ⟨e.val % 128, by omega⟩ b).val = (ix2 (n0 := 512) (n1 := 1024) r e (b.cast (show S512x128.rank = S512x1024.rank from rfl))).val :=
    fun b hb => match b with | ⟨0, _⟩ => rfl | ⟨1, _⟩ => absurd rfl hb
  unfold wide
  match k, hk with
  | ⟨0, _⟩, hk => exact concatenate_apply_piece (t := S512x1024) 1 _ _ (ix2 r e) 0 (by simp) S512x128 v19 rfl rfl 0 rfl _ off (by show 0 + e.val % 128 = e.val; simp only at hk; omega)
  | ⟨1, _⟩, hk => exact concatenate_apply_piece (t := S512x1024) 1 _ _ (ix2 r e) 1 (by simp) S512x128 v20 rfl rfl 128 rfl _ off (by show 128 + e.val % 128 = e.val; simp only at hk; omega)
  | ⟨2, _⟩, hk => exact concatenate_apply_piece (t := S512x1024) 1 _ _ (ix2 r e) 2 (by simp) S512x128 v21 rfl rfl 256 rfl _ off (by show 256 + e.val % 128 = e.val; simp only at hk; omega)
  | ⟨3, _⟩, hk => exact concatenate_apply_piece (t := S512x1024) 1 _ _ (ix2 r e) 3 (by simp) S512x128 v22 rfl rfl 384 rfl _ off (by show 384 + e.val % 128 = e.val; simp only at hk; omega)
  | ⟨4, _⟩, hk => exact concatenate_apply_piece (t := S512x1024) 1 _ _ (ix2 r e) 4 (by simp) S512x128 v23 rfl rfl 512 rfl _ off (by show 512 + e.val % 128 = e.val; simp only at hk; omega)
  | ⟨5, _⟩, hk => exact concatenate_apply_piece (t := S512x1024) 1 _ _ (ix2 r e) 5 (by simp) S512x128 v24 rfl rfl 640 rfl _ off (by show 640 + e.val % 128 = e.val; simp only at hk; omega)
  | ⟨6, _⟩, hk => exact concatenate_apply_piece (t := S512x1024) 1 _ _ (ix2 r e) 6 (by simp) S512x128 v25 rfl rfl 768 rfl _ off (by show 768 + e.val % 128 = e.val; simp only at hk; omega)
  | ⟨7, _⟩, hk => exact concatenate_apply_piece (t := S512x1024) 1 _ _ (ix2 r e) 7 (by simp) S512x128 v26 rfl rfl 896 rfl _ off (by show 896 + e.val % 128 = e.val; simp only at hk; omega)

theorem slab_tok (x0 : Vec Ideal S4096x128 .f32) (r : Fin 512) (e : Fin 1024) (k : ℕ) (hk : e.val / 128 = k) (inb) (sp) :
    View.ld x0 ⟨(⟨![k, 0], S512x128.size, ![8, 1], inb⟩ : LoadRect S4096x128), sp⟩ (ix2 r ⟨e.val % 128, by omega⟩) = tok x0 r e := by
  subst hk
  exact ld_slab x0 _ inb sp r _ (by omega)

theorem wide_tok (x0 : Vec Ideal S4096x128 .f32) (r : Fin 512) (e : Fin 1024) :
    (wide (View.ld x0 slab0) (View.ld x0 slab1) (View.ld x0 slab2) (View.ld x0 slab3) (View.ld x0 slab4) (View.ld x0 slab5) (View.ld x0 slab6) (View.ld x0 slab7) (ix2 r e) : EReal)
      = tok x0 r e := by
  have he : e.val < 1024 := e.isLt
  obtain ⟨k, hk⟩ : ∃ k : Fin 8, e.val / 128 = k.val := ⟨⟨e.val / 128, by omega⟩, rfl⟩
  refine (wide_piece _ _ _ _ _ _ _ _ k r e hk).trans ?_
  match k, hk with
  | ⟨0, _⟩, hk => exact slab_tok x0 r e 0 hk _ _
  | ⟨1, _⟩, hk => exact slab_tok x0 r e 1 hk _ _
  | ⟨2, _⟩, hk => exact slab_tok x0 r e 2 hk _ _
  | ⟨3, _⟩, hk => exact slab_tok x0 r e 3 hk _ _
  | ⟨4, _⟩, hk => exact slab_tok x0 r e 4 hk _ _
  | ⟨5, _⟩, hk => exact slab_tok x0 r e 5 hk _ _
  | ⟨6, _⟩, hk => exact slab_tok x0 r e 6 hk _ _
  | ⟨7, _⟩, hk => exact slab_tok x0 r e 7 hk _ _

/-- A block's product: each token through the expert. -/
theorem prodOf_apply (x0 : Vec Ideal S4096x128 .f32) (w : Vec Ideal S1024x1024 .bf16) (u : Vec Ideal S512x1024 .bf16) (r : Fin 512) (C : Fin 1024) :
    (prodOf x0 w u (ix2 r C) : EReal) = mlp (tok x0 r) (fun e j => w (ix2 e j)) (fun j C => u (ix2 j C)) C := by
  unfold prodOf
  rw [pay10_eq]
  refine (outV_apply _ u r C).trans (Finset.sum_congr rfl fun j _ => congrArg (fun z : EReal => z * u (ix2 j C)) ?_)
  refine (gateV_apply _ r j).trans (congrArg₂ gate ?_ ?_)
  · exact (hidV_apply _ w r _).trans (congrArg (fun x => hid x (fun e j => w (ix2 e j)) _) (funext fun e => wide_tok x0 r e))
  · exact (hidV_apply _ w r _).trans (congrArg (fun x => hid x (fun e j => w (ix2 e j)) _) (funext fun e => wide_tok x0 r e))

/-- What an active block writes. -/
def blkX (x0 : Vec Ideal S4096x128 .f32) (w : Vec Ideal S1024x1024 .bf16) (u : Vec Ideal S512x1024 .bf16) : Vec Ideal S4096x128 .f32 :=
  fun y => prodOf x0 w u (ix2 ⟨(y 0).val / 8, by have h : (y 0).val < 4096 := (y 0).isLt; omega⟩
    ⟨(y 0).val % 8 * 128 + (y 1).val, by have h : (y 1).val < 128 := (y 1).isLt; omega⟩)

theorem sliced (p : FVec Ideal S512x1024 .f32) (o : ℕ) (hs : S512x1024.Slices ![0, o] S512x128) (r : Fin 512) (c : Fin 128) (h : o + c.val < 1024) :
    extractStridedSlice S512x128 ![0, o] p hs (ix2 r c) = p (ix2 r ⟨o + c.val, h⟩) := by
  pointwise

theorem piece (x0 : Vec Ideal S4096x128 .f32) (w : Vec Ideal S1024x1024 .bf16) (u : Vec Ideal S512x1024 .bf16) (P : FVec Ideal S512x128 .f32) (k : ℕ) (hk : k < 8)
    (hP : ∀ (r : Fin 512) (c : Fin 128), P (ix2 r c) = prodOf x0 w u (ix2 r ⟨128 * k + c.val, by omega⟩)) (x : S512x128.Idx) (y : S4096x128.Idx)
    (h0 : (y 0).val = k + 8 * (x 0).val) (h1 : (y 1).val = 0 + 1 * (x 1).val) : P x = blkX x0 w u y := by
  obtain ⟨r, c, rfl⟩ : ∃ (r : Fin 512) (c : Fin 128), x = ix2 r c := ⟨x 0, x 1, eq_ix2 x⟩
  have h0' : (y 0).val = k + 8 * r.val := h0
  have h1' : (y 1).val = 0 + 1 * c.val := h1
  refine (hP r c).trans ?_
  unfold blkX
  refine congrArg (prodOf x0 w u) (congrArg₂ ix2 (Fin.ext ?_) (Fin.ext ?_))
  · show r.val = (y 0).val / 8; omega
  · show 128 * k + c.val = (y 0).val % 8 * 128 + (y 1).val; omega

/-- The eight slabs stored are the block. -/
theorem canon_outL (x0 : Vec Ideal S4096x128 .f32) (w : Vec Ideal S1024x1024 .bf16) (u : Vec Ideal S512x1024 .bf16) (y : S4096x128.Idx) :
    View.canon (outL x0 w u) y = blkX x0 w u y := by
  refine View.canon_apply_of_pieces (blkX x0 w u) _ ?_ y (cover _ _ _ _ _ _ _ _ y)
  unfold outL
  simp only [List.forall_mem_cons, List.not_mem_nil, false_implies, implies_true, and_true]
  refine ⟨?_, ?_, ?_, ?_, ?_, ?_, ?_, ?_⟩
  · exact fun x => piece x0 w u (k0_pay8 (prodOf x0 w u)) 7 (by decide) (fun r c => sliced (prodOf x0 w u) 896 slices_S512x1024_o0_896_S512x128 r c (by omega)) x _ rfl rfl
  · exact fun x => piece x0 w u (k0_pay7 (prodOf x0 w u)) 6 (by decide) (fun r c => sliced (prodOf x0 w u) 768 slices_S512x1024_o0_768_S512x128 r c (by omega)) x _ rfl rfl
  · exact fun x => piece x0 w u (k0_pay6 (prodOf x0 w u)) 5 (by decide) (fun r c => sliced (prodOf x0 w u) 640 slices_S512x1024_o0_640_S512x128 r c (by omega)) x _ rfl rfl
  · exact fun x => piece x0 w u (k0_pay5 (prodOf x0 w u)) 4 (by decide) (fun r c => sliced (prodOf x0 w u) 512 slices_S512x1024_o0_512_S512x128 r c (by omega)) x _ rfl rfl
  · exact fun x => piece x0 w u (k0_pay4 (prodOf x0 w u)) 3 (by decide) (fun r c => sliced (prodOf x0 w u) 384 slices_S512x1024_o0_384_S512x128 r c (by omega)) x _ rfl rfl
  · exact fun x => piece x0 w u (k0_pay3 (prodOf x0 w u)) 2 (by decide) (fun r c => sliced (prodOf x0 w u) 256 slices_S512x1024_o0_256_S512x128 r c (by omega)) x _ rfl rfl
  · exact fun x => piece x0 w u (k0_pay12 (View.ld x0 slab0) (View.ld x0 slab1) (View.ld x0 slab2) (View.ld x0 slab3) (View.ld x0 slab4) (View.ld x0 slab5) (View.ld x0 slab6) (View.ld x0 slab7) w u) 1 (by decide) (fun r c => sliced (prodOf x0 w u) 128 slices_S512x1024_o0_128_S512x128 r c (by omega)) x _ rfl rfl
  · exact fun x => piece x0 w u (k0_pay11 (View.ld x0 slab0) (View.ld x0 slab1) (View.ld x0 slab2) (View.ld x0 slab3) (View.ld x0 slab4) (View.ld x0 slab5) (View.ld x0 slab6) (View.ld x0 slab7) w u) 0 (by decide) (fun r c => sliced (prodOf x0 w u) 0 slices_S512x1024_o0_0_S512x128 r c (by omega)) x _ rfl rfl

/-- A block of the first weights. -/
theorem pay1_apply (x1 : Vec Ideal S1x1x1024x1024 .f32) (e j : Fin 1024) : (k0_pay1 x1 (ix2 e j) : EReal) = x1 (ix4 0 0 e j) := by
  unfold k0_pay1
  pointwise
/-- A block of the second. -/
theorem pay2_apply (x2 : Vec Ideal S1x1x512x1024 .f32) (j : Fin 512) (C : Fin 1024) : (k0_pay2 x2 (ix2 j C) : EReal) = x2 (ix4 0 0 j C) := by
  unfold k0_pay2
  pointwise
theorem pay9_apply (y : S4096x128.Idx) : (k0_pay9 (F := Ideal) y : EReal) = 0 := Ideal.ofBits_zero_f32

/-- An active block, of the blocks it is given. -/
theorem block_apply (x0 : Vec Ideal S4096x128 .f32) (x1 : Vec Ideal S1x1x1024x1024 .f32) (x2 : Vec Ideal S1x1x512x1024 .f32) (y : S4096x128.Idx) (r : Fin 512) (C : Fin 1024)
    (hr : r.val = (y 0).val / 8) (hC : C.val = (y 0).val % 8 * 128 + (y 1).val) :
    (View.canon (outL x0 (k0_pay1 x1) (k0_pay2 x2)) y : EReal) = mlp (tok x0 r) (fun e j => x1 (ix4 0 0 e j)) (fun j C => x2 (ix4 0 0 j C)) C := by
  refine (canon_outL x0 _ _ y).trans ?_
  unfold blkX
  rw [show (⟨(y 0).val / 8, by have h : (y 0).val < 4096 := (y 0).isLt; omega⟩ : Fin 512) = r from Fin.ext hr.symm,
    show (⟨(y 0).val % 8 * 128 + (y 1).val, by have h : (y 1).val < 128 := (y 1).isLt; omega⟩ : Fin 1024) = C from Fin.ext hC.symm]
  exact (prodOf_apply x0 _ _ r C).trans (mlp_congr (fun _ => rfl) (pay1_apply x1) (pay2_apply x2) C)

end Cert.Kernel3Ideal.Ex

end
-- ==== Proof.ExFinal.lean ====
/-
  The experts' call: its result array is `resEx` of the arguments. Each point of the grid writes the block of 512 tokens of its
  number, and the blocks cover the array.
-/
module

public import proofs.«01_k».proof.Proof.ExTablesIdeal
public import proofs.«01_k».proof.Proof.ExBody
public import proofs.«01_k».proof.Proof.PjFinal

@[expose] public section

set_option maxRecDepth 16384

noncomputable section

namespace Cert.Kernel3Ideal.Ex

open Cert.Kernel3Ideal Cert.Kernel3Ideal.Gen Idealize.ShloMosaic Idealize.ShloMosaic.TcCoe Idealize.ShloMosaic.Tactic Idealize.SL.Sem Idealize.ShloMosaic.Pipeline
open Cert.Kernel2Ideal.Pj (idx_eq_ix2)
open scoped BigOperators

/-! ## What is computed -/

/-- The block of tokens a place names, kept inside the array. -/
def placeOf (x2 : IVec S163 32) (k : Fin 163) : Fin 2112 := ⟨min (x2 (at163 k.val k.isLt)).toNat 2111, by omega⟩
/-- The expert of a block, kept inside the array. -/
def expertOf (x1 : IVec S163 32) (k : Fin 163) : Fin 32 := ⟨min (x1 (at163 k.val k.isLt)).toNat 31, by omega⟩

/-- Token `r` of the block at place `p`. -/
def tokenOf (x0 : FVec Ideal S8650752x128 .f32) (p : Fin 2112) (r : Fin 512) (e : Fin 1024) : EReal :=
  x0 (ix2 ⟨p.val * 4096 + (8 * r.val + e.val / 128), by omega⟩ ⟨e.val % 128, by omega⟩)

open Classical in
/-- Column `C` of token `r` of block `k`: the token through the block's expert if the block is active, else zero. -/
def rowEx (x0 : FVec Ideal S8650752x128 .f32) (x1 x2 : IVec S163 32) (x3 : IVec S1 32) (x4 : FVec Ideal S2x32x1024x1024 .f32) (x5 : FVec Ideal S2x32x512x1024 .f32)
    (k : Fin 163) (r : Fin 512) (C : Fin 1024) : EReal :=
  if Act k.val (x3 at1) then mlp (tokenOf x0 (placeOf x2 k) r) (fun e j => x4 (ix4 0 (expertOf x1 k) e j)) (fun j C => x5 (ix4 0 (expertOf x1 k) j C)) C else 0

/-- The result array: eight rows of 128 to a token. -/
def resEx (x0 : FVec Ideal S8650752x128 .f32) (x1 x2 : IVec S163 32) (x3 : IVec S1 32) (x4 : FVec Ideal S2x32x1024x1024 .f32) (x5 : FVec Ideal S2x32x512x1024 .f32) :
    FVec Ideal S667648x128 .f32 := fun y =>
  rowEx x0 x1 x2 x3 x4 x5 ⟨(y 0).val / 4096, by have h : (y 0).val < 667648 := (y 0).isLt; omega⟩ ⟨(y 0).val % 4096 / 8, by omega⟩
    ⟨(y 0).val % 8 * 128 + (y 1).val, by have h : (y 1).val < 128 := (y 1).isLt; omega⟩

theorem rowEx_on (x0 : FVec Ideal S8650752x128 .f32) (x1 x2 : IVec S163 32) (x3 : IVec S1 32) (x4 : FVec Ideal S2x32x1024x1024 .f32) (x5 : FVec Ideal S2x32x512x1024 .f32)
    (k : Fin 163) (r : Fin 512) (C : Fin 1024) (h : Act k.val (x3 at1)) : rowEx x0 x1 x2 x3 x4 x5 k r C
      = mlp (tokenOf x0 (placeOf x2 k) r) (fun e j => x4 (ix4 0 (expertOf x1 k) e j)) (fun j C => x5 (ix4 0 (expertOf x1 k) j C)) C := by
  unfold rowEx; exact if_pos h
theorem rowEx_off (x0 : FVec Ideal S8650752x128 .f32) (x1 x2 : IVec S163 32) (x3 : IVec S1 32) (x4 : FVec Ideal S2x32x1024x1024 .f32) (x5 : FVec Ideal S2x32x512x1024 .f32)
    (k : Fin 163) (r : Fin 512) (C : Fin 1024) (h : ¬ Act k.val (x3 at1)) : rowEx x0 x1 x2 x3 x4 x5 k r C = 0 := by
  unfold rowEx; exact if_neg h

theorem resEx_apply (x0 : FVec Ideal S8650752x128 .f32) (x1 x2 : IVec S163 32) (x3 : IVec S1 32) (x4 : FVec Ideal S2x32x1024x1024 .f32) (x5 : FVec Ideal S2x32x512x1024 .f32)
    (y : S667648x128.Idx) (k : Fin 163) (r : Fin 512) (C : Fin 1024) (hk : (y 0).val / 4096 = k.val) (hr : (y 0).val % 4096 / 8 = r.val) (hC : (y 0).val % 8 * 128 + (y 1).val = C.val) :
    resEx x0 x1 x2 x3 x4 x5 y = rowEx x0 x1 x2 x3 x4 x5 k r C := by
  unfold resEx
  congr 1 <;> exact Fin.ext (by assumption)

theorem idx_eq_ix4 {a b c d : ℕ} (y : Shape.Idx ⟨4, ![a, b, c, d]⟩) (A : Fin a) (B : Fin b) (C : Fin c) (D : Fin d) (h0 : (y 0).val = A.val) (h1 : (y 1).val = B.val)
    (h2 : (y 2).val = C.val) (h3 : (y 3).val = D.val) : y = ix4 A B C D := by
  rw [eq_ix4 y]
  obtain rfl : y 0 = A := Fin.ext h0
  obtain rfl : y 1 = B := Fin.ext h1
  obtain rfl : y 2 = C := Fin.ext h2
  obtain rfl : y 3 = D := Fin.ext h3
  rfl

/-! ## What the windows hold -/

variable (m : (ℓ : Loc nD τ sig) → Buf (Elt Ideal) ℓ) (ρ : Dev nD → PrngReg) (hO : Ok m)

theorem read0 (X : FVec Ideal S8650752x128 .f32) (t : Fin (cfgM m hO).N) (o : ℕ) (ho : ((cfgM m hO).win 0).index t = ![o, 0]) (r : Fin 4096) (c : Fin 128) (R : Fin 8650752)
    (hR : R.val = o * 4096 + r.val) :
    ((((cfgM m hO).win 0).blk t).view.read (Elt Ideal) X : Vec Ideal S4096x128 .f32) (ix2 r c) = X (ix2 R c) := by
  have h0 : ((((cfgM m hO).win 0).rect t).emb (ix2 r c) (0 : Fin 2) : Nat) = ((cfgM m hO).win 0).index t (0 : Fin 2) * 4096 + r.val := Window.rect_emb_val ((cfgM m hO).win 0) t (ix2 r c) (0 : Fin 2)
  have h1 : ((((cfgM m hO).win 0).rect t).emb (ix2 r c) (1 : Fin 2) : Nat) = ((cfgM m hO).win 0).index t (1 : Fin 2) * 128 + c.val := Window.rect_emb_val ((cfgM m hO).win 0) t (ix2 r c) (1 : Fin 2)
  rw [ho] at h0 h1
  exact congrArg X (idx_eq_ix2 _ R c (h0.trans hR.symm) (h1.trans (by show 0 * 128 + c.val = c.val; omega)))

theorem read1 (X : FVec Ideal S2x32x1024x1024 .f32) (t : Fin (cfgM m hO).N) (E : Fin 32) (ho : ((cfgM m hO).win 1).index t = ![0, E.val, 0, 0]) (e j : Fin 1024) :
    ((((cfgM m hO).win 1).blk t).view.read (Elt Ideal) X : Vec Ideal S1x1x1024x1024 .f32) (ix4 0 0 e j) = X (ix4 0 E e j) := by
  have h0 : ((((cfgM m hO).win 1).rect t).emb (ix4 0 0 e j) (0 : Fin 4) : Nat) = ((cfgM m hO).win 1).index t (0 : Fin 4) * 1 + 0 := Window.rect_emb_val ((cfgM m hO).win 1) t (ix4 0 0 e j) (0 : Fin 4)
  have h1 : ((((cfgM m hO).win 1).rect t).emb (ix4 0 0 e j) (1 : Fin 4) : Nat) = ((cfgM m hO).win 1).index t (1 : Fin 4) * 1 + 0 := Window.rect_emb_val ((cfgM m hO).win 1) t (ix4 0 0 e j) (1 : Fin 4)
  have h2 : ((((cfgM m hO).win 1).rect t).emb (ix4 0 0 e j) (2 : Fin 4) : Nat) = ((cfgM m hO).win 1).index t (2 : Fin 4) * 1024 + e.val := Window.rect_emb_val ((cfgM m hO).win 1) t (ix4 0 0 e j) (2 : Fin 4)
  have h3 : ((((cfgM m hO).win 1).rect t).emb (ix4 0 0 e j) (3 : Fin 4) : Nat) = ((cfgM m hO).win 1).index t (3 : Fin 4) * 1024 + j.val := Window.rect_emb_val ((cfgM m hO).win 1) t (ix4 0 0 e j) (3 : Fin 4)
  rw [ho] at h0 h1 h2 h3
  exact congrArg X (idx_eq_ix4 _ 0 E e j (h0.trans rfl) (h1.trans (by show E.val * 1 + 0 = E.val; omega)) (h2.trans (by show 0 * 1024 + e.val = e.val; omega))
    (h3.trans (by show 0 * 1024 + j.val = j.val; omega)))

theorem read2 (X : FVec Ideal S2x32x512x1024 .f32) (t : Fin (cfgM m hO).N) (E : Fin 32) (ho : ((cfgM m hO).win 2).index t = ![0, E.val, 0, 0]) (e : Fin 512) (j : Fin 1024) :
    ((((cfgM m hO).win 2).blk t).view.read (Elt Ideal) X : Vec Ideal S1x1x512x1024 .f32) (ix4 0 0 e j) = X (ix4 0 E e j) := by
  have h0 : ((((cfgM m hO).win 2).rect t).emb (ix4 0 0 e j) (0 : Fin 4) : Nat) = ((cfgM m hO).win 2).index t (0 : Fin 4) * 1 + 0 := Window.rect_emb_val ((cfgM m hO).win 2) t (ix4 0 0 e j) (0 : Fin 4)
  have h1 : ((((cfgM m hO).win 2).rect t).emb (ix4 0 0 e j) (1 : Fin 4) : Nat) = ((cfgM m hO).win 2).index t (1 : Fin 4) * 1 + 0 := Window.rect_emb_val ((cfgM m hO).win 2) t (ix4 0 0 e j) (1 : Fin 4)
  have h2 : ((((cfgM m hO).win 2).rect t).emb (ix4 0 0 e j) (2 : Fin 4) : Nat) = ((cfgM m hO).win 2).index t (2 : Fin 4) * 512 + e.val := Window.rect_emb_val ((cfgM m hO).win 2) t (ix4 0 0 e j) (2 : Fin 4)
  have h3 : ((((cfgM m hO).win 2).rect t).emb (ix4 0 0 e j) (3 : Fin 4) : Nat) = ((cfgM m hO).win 2).index t (3 : Fin 4) * 1024 + j.val := Window.rect_emb_val ((cfgM m hO).win 2) t (ix4 0 0 e j) (3 : Fin 4)
  rw [ho] at h0 h1 h2 h3
  exact congrArg X (idx_eq_ix4 _ 0 E e j (h0.trans rfl) (h1.trans (by show E.val * 1 + 0 = E.val; omega)) (h2.trans (by show 0 * 512 + e.val = e.val; omega))
    (h3.trans (by show 0 * 1024 + j.val = j.val; omega)))

theorem idx3 (t : Fin (cfgM m hO).N) : ((cfgM m hO).win 3).index t = ![t.val, 0] :=
  (ix_res (tbl m) (grid0.coords t)).trans (by rw [crd])

theorem read3 (X : FVec Ideal S667648x128 .f32) (t : Fin (cfgM m hO).N) (r : Fin 4096) (c : Fin 128) (R : Fin 667648) (hR : R.val = t.val * 4096 + r.val) :
    ((((cfgM m hO).win 3).blk t).view.read (Elt Ideal) X : Vec Ideal S4096x128 .f32) (ix2 r c) = X (ix2 R c) := by
  have h0 : ((((cfgM m hO).win 3).rect t).emb (ix2 r c) (0 : Fin 2) : Nat) = ((cfgM m hO).win 3).index t (0 : Fin 2) * 4096 + r.val := Window.rect_emb_val ((cfgM m hO).win 3) t (ix2 r c) (0 : Fin 2)
  have h1 : ((((cfgM m hO).win 3).rect t).emb (ix2 r c) (1 : Fin 2) : Nat) = ((cfgM m hO).win 3).index t (1 : Fin 2) * 128 + c.val := Window.rect_emb_val ((cfgM m hO).win 3) t (ix2 r c) (1 : Fin 2)
  rw [idx3] at h0 h1
  exact congrArg X (idx_eq_ix2 _ R c (h0.trans hR.symm) (h1.trans (by show 0 * 128 + c.val = c.val; omega)))

abbrev a0 : FVec Ideal S8650752x128 .f32 := m (((0 : Dev nD) : Thread nD τ).loc main_arg0)
abbrev a1 : IVec S163 32 := m (((0 : Dev nD) : Thread nD τ).loc main_arg1)
abbrev a2 : IVec S163 32 := m (((0 : Dev nD) : Thread nD τ).loc main_arg2)
abbrev a3 : IVec S1 32 := m (((0 : Dev nD) : Thread nD τ).loc main_arg3)
abbrev a4 : FVec Ideal S2x32x1024x1024 .f32 := m (((0 : Dev nD) : Thread nD τ).loc main_arg4)
abbrev a5 : FVec Ideal S2x32x512x1024 .f32 := m (((0 : Dev nD) : Thread nD τ).loc main_arg5)
abbrev rX : FVec Ideal S667648x128 .f32 := resEx (a0 m) (a1 m) (a2 m) (a3 m) (a4 m) (a5 m)

theorem at163_crd (t : Fin (cfgM m hO).N) (h) (h') : at163 (grid0.coords t 0).val h = at163 t.val h' := by
  funext a
  match a with
  | ⟨0, _⟩ => exact Fin.ext (crd t)

theorem place_at (t : Fin (cfgM m hO).N) (n : ℕ) (h) (h') (e : ((tbl m 1 : S163.Idx → BitVec 32) (at163 t.val h')).toNat = n) :
    ((tbl m 1 : S163.Idx → BitVec 32) (at163 (grid0.coords t 0).val h)).toNat = n :=
  (congrArg (fun i => ((tbl m 1 : S163.Idx → BitVec 32) i).toNat) (at163_crd m hO t h h')).trans e

theorem expert_at (t : Fin (cfgM m hO).N) (n : ℕ) (h) (h') (e : ((tbl m 0 : S163.Idx → BitVec 32) (at163 t.val h')).toNat = n) :
    ((tbl m 0 : S163.Idx → BitVec 32) (at163 (grid0.coords t 0).val h)).toNat = n :=
  (congrArg (fun i => ((tbl m 0 : S163.Idx → BitVec 32) i).toNat) (at163_crd m hO t h h')).trans e

/-- An active point's block of tokens, -/
theorem idx0 (hP : ∀ k h, Used k (a3 m at1) → (a2 m (at163 k h)).toNat < 2112) (t : Fin (cfgM m hO).N) (k : Fin 163) (hk : k.val = t.val) (ha : Act t.val (nA m)) :
    ((cfgM m hO).win 0).index t = ![(placeOf (a2 m) k).val, 0] := by
  refine (ix_tokens (tbl m) (grid0.coords t)).trans ?_
  have e : ((tbl m 1 : S163.Idx → BitVec 32) (at163 (grid0.coords t 0).val (grid0.coords t 0).isLt)).toNat = (placeOf (a2 m) k).val := by
    refine place_at m hO t _ _ (by rw [← hk]; exact k.isLt) ?_
    rw [places_act m t.val _ ha]
    have := hP k.val k.isLt (used_of_act _ _ (Eq.subst (motive := fun n => Act k.val n) (nA_eq m) (by rw [hk]; exact ha)))
    show _ = min (a2 m (at163 k.val k.isLt)).toNat 2111
    obtain ⟨k, hk'⟩ := k
    obtain rfl : k = t.val := hk
    exact (Nat.min_eq_left (Nat.le_of_lt_succ this)).symm
  rw [← e]

/-- and its expert's weights. -/
theorem idxE (hE : ∀ k h, Used k (a3 m at1) → (a1 m (at163 k h)).toNat < 32) (t : Fin (cfgM m hO).N) (k : Fin 163) (hk : k.val = t.val) (ha : Act t.val (nA m)) :
    ((tbl m 0 : S163.Idx → BitVec 32) (at163 (grid0.coords t 0).val (grid0.coords t 0).isLt)).toNat = (expertOf (a1 m) k).val := by
  refine expert_at m hO t _ _ (by rw [← hk]; exact k.isLt) ?_
  rw [experts_act m t.val _ ha]
  have := hE k.val k.isLt (used_of_act _ _ (Eq.subst (motive := fun n => Act k.val n) (nA_eq m) (by rw [hk]; exact ha)))
  show _ = min (a1 m (at163 k.val k.isLt)).toNat 31
  obtain ⟨k, hk'⟩ := k
  obtain rfl : k = t.val := hk
  exact (Nat.min_eq_left (Nat.le_of_lt_succ this)).symm

theorem idx1 (hE : ∀ k h, Used k (a3 m at1) → (a1 m (at163 k h)).toNat < 32) (t : Fin (cfgM m hO).N) (k : Fin 163) (hk : k.val = t.val) (ha : Act t.val (nA m)) :
    ((cfgM m hO).win 1).index t = ![0, (expertOf (a1 m) k).val, 0, 0] :=
  (ix_in (tbl m) (grid0.coords t)).trans (by rw [← idxE m hO hE t k hk ha])
theorem idx2 (hE : ∀ k h, Used k (a3 m at1) → (a1 m (at163 k h)).toNat < 32) (t : Fin (cfgM m hO).N) (k : Fin 163) (hk : k.val = t.val) (ha : Act t.val (nA m)) :
    ((cfgM m hO).win 2).index t = ![0, (expertOf (a1 m) k).val, 0, 0] :=
  (ix_out (tbl m) (grid0.coords t)).trans (by rw [← idxE m hO hE t k hk ha])

/-- What a point leaves in its block is the result's block. -/
theorem outB_apply (hE : ∀ k h, Used k (a3 m at1) → (a1 m (at163 k h)).toNat < 32) (hP : ∀ k h, Used k (a3 m at1) → (a2 m (at163 k h)).toNat < 2112) (c : Dev nD) (t : Fin (cfgM m hO).N) (k : Fin 163) (hk : k.val = t.val)
    (R : Fin 4096) (L : Fin 128) (r : Fin 512) (C : Fin 1024) (hr : r.val = R.val / 8) (hC : C.val = R.val % 8 * 128 + L.val) :
    (outB m hO c t (ix2 R L) : EReal) = rowEx (a0 m) (a1 m) (a2 m) (a3 m) (a4 m) (a5 m) k r C := by
  obtain rfl : c = 0 := Subsingleton.elim _ _
  unfold outB
  by_cases ha : Act t.val (nA m)
  · rw [if_pos ha, rowEx_on _ _ _ _ _ _ k r C (Eq.subst (motive := fun n => Act k.val n) (nA_eq m) (by rw [hk]; exact ha))]
    refine (block_apply _ _ _ (ix2 R L) r C hr hC).trans (mlp_congr (fun e => ?_) (fun e j => ?_) (fun j C => ?_) C)
    · unfold tok tokenOf
      refine (read0 m hO (V m 0 main_arg0) t _ (idx0 m hO hP t k hk ha) _ _ ⟨(placeOf (a2 m) k).val * 4096 + (8 * r.val + e.val / 128), by have := (placeOf (a2 m) k).isLt; omega⟩ rfl).trans ?_
      exact congrFun (V_kept m 0 main_arg0 (by decide)) _
    · exact (read1 m hO (V m 0 main_arg4) t _ (idx1 m hO hE t k hk ha) e j).trans (congrFun (V_kept m 0 main_arg4 (by decide)) _)
    · exact (read2 m hO (V m 0 main_arg5) t _ (idx2 m hO hE t k hk ha) j C).trans (congrFun (V_kept m 0 main_arg5 (by decide)) _)
  · rw [if_neg ha, rowEx_off _ _ _ _ _ _ k r C (Eq.subst (motive := fun n => ¬ Act k.val n) (nA_eq m) (by rw [hk]; exact ha))]
    exact pay9_apply _

theorem flushed_3 (hE : ∀ k h, Used k (a3 m at1) → (a1 m (at163 k h)).toNat < 32) (hP : ∀ k h, Used k (a3 m at1) → (a2 m (at163 k h)).toNat < 2112) (c : Dev nD) (t : Fin (cfgM m hO).N) :
    (dats m hO 0 c).flushed 3 t = (((cfgM m hO).win 3).blk t).view.read (Elt Ideal) (rX m) := by
  show ((cfgM m hO).win 3).cut (grid0.coords t) ((dats m hO 0 c).after 3 t) = _
  rw [left3]
  have hN : t.val < 163 := lt_of_lt_of_eq t.isLt (show (cfgM m hO).N = 163 from N_0)
  have key : ∀ y : S4096x128.Idx, outB m hO c t y = ((((cfgM m hO).win 3).blk t).view.read (Elt Ideal) (rX m) : Vec Ideal S4096x128 .f32) y := by
    intro y
    obtain ⟨R, L, rfl⟩ : ∃ (R : Fin 4096) (L : Fin 128), y = ix2 R L := ⟨y 0, y 1, eq_ix2 y⟩
    have hR := R.isLt
    have hL := L.isLt
    rw [read3 m hO (rX m) t R L ⟨t.val * 4096 + R.val, by omega⟩ rfl]
    refine (outB_apply m hO hE hP c t ⟨t.val, hN⟩ rfl R L ⟨R.val / 8, by omega⟩ ⟨R.val % 8 * 128 + L.val, by omega⟩ rfl rfl).trans ?_
    exact (resEx_apply _ _ _ _ _ _ _ _ _ _ (by show (t.val * 4096 + R.val) / 4096 = t.val; omega) (by show (t.val * 4096 + R.val) % 4096 / 8 = R.val / 8; omega)
      (by show (t.val * 4096 + R.val) % 8 * 128 + L.val = R.val % 8 * 128 + L.val; omega)).symm
  exact funext key

theorem flush_3 (t : Fin (cfgM m hO).N) : ((cfgM m hO).win 3).flush t = true := by
  refine (Window.flush_out _ rfl t).mpr ?_
  by_cases h : t.val + 1 = (cfgM m hO).N
  · exact Or.inl h
  · have hl : t.val + 1 < (cfgM m hO).N := by have := t.isLt; omega
    refine Or.inr ⟨hl, fun e => ?_⟩
    rw [idx3, idx3] at e
    have := congrFun e 0
    have : t.val + 1 = t.val := this
    omega

theorem cover_3 (i : S667648x128.Idx) : ∃ t : Fin (cfgM m hO).N, ((cfgM m hO).win 3).flush t = true ∧ i ∈ (((cfgM m hO).win 3).blk t).view.set := by
  have h0 : (i 0).val < 667648 := (i 0).isLt
  have h1 : (i 1).val < 128 := (i 1).isLt
  obtain ⟨t, ht⟩ : ∃ t : Fin (cfgM m hO).N, t.val = (i 0).val / 4096 := ⟨⟨(i 0).val / 4096, lt_of_lt_of_eq (show _ < 163 by omega) (show (cfgM m hO).N = 163 from N_0).symm⟩, rfl⟩
  refine ⟨t, flush_3 m hO t, ?_⟩
  have e0 : ((((cfgM m hO).win 3).rect t).emb (ix2 (⟨(i 0).val % 4096, by omega⟩ : Fin 4096) (⟨(i 1).val, h1⟩ : Fin 128)) (0 : Fin 2) : Nat) = ((cfgM m hO).win 3).index t (0 : Fin 2) * 4096 + (i 0).val % 4096 := Window.rect_emb_val ((cfgM m hO).win 3) t _ (0 : Fin 2)
  have e1 : ((((cfgM m hO).win 3).rect t).emb (ix2 (⟨(i 0).val % 4096, by omega⟩ : Fin 4096) (⟨(i 1).val, h1⟩ : Fin 128)) (1 : Fin 2) : Nat) = ((cfgM m hO).win 3).index t (1 : Fin 2) * 128 + (i 1).val := Window.rect_emb_val ((cfgM m hO).win 3) t _ (1 : Fin 2)
  rw [idx3] at e0 e1
  have e : i = (((cfgM m hO).win 3).rect t).emb (ix2 (⟨(i 0).val % 4096, by omega⟩ : Fin 4096) (⟨(i 1).val, h1⟩ : Fin 128)) :=
    (eq_ix2 i).trans (idx_eq_ix2 _ (i 0) (i 1) (e0.trans (by show t.val * 4096 + _ = _; rw [ht]; omega)) (e1.trans (by show 0 * 128 + _ = _; omega))).symm
  rw [e]
  exact (((cfgM m hO).win 3).blk t).view.emb_mem_set _

/-- The result array after the grid. -/
theorem final_3 (hE : ∀ k h, Used k (a3 m at1) → (a1 m (at163 k h)).toNat < 32) (hP : ∀ k h, Used k (a3 m at1) → (a2 m (at163 k h)).toNat < 2112) (c : Dev nD) : (dats m hO 0 c).arrAt 3 (cfgM m hO).N = rX m :=
  (dats m hO 0 c).arrAt_eq_of_cover 3 (rX m) (fun t _ => flushed_3 m hO hE hP c t) (cover_3 m hO)

/-- The call ends with `resEx` of its arguments, and keeps them. -/
theorem ends (hE : ∀ k h, Used k (a3 m at1) → (a1 m (at163 k h)).toNat < 32) (hP : ∀ k h, Used k (a3 m at1) → (a2 m (at163 k h)).toNat < 2112) : θ_run defs (onTc (τ := τ) (main (F := Ideal))) ⟨m, fun _ => 0, ρ⟩ (fun r => ∀ c : Dev nD,
      r.2.mem ((c.tc : Thread nD τ).loc main_v9) = rX m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h.1 c).1 3).trans (final_3 m (ok_of m hE hP) hE hP c),
      ((h.1 c).1 0).trans (((dats m (ok_of m hE hP) 0 c).arrAt_in 0 rfl _).trans ((dats_A m (ok_of m hE hP) c 0).trans (V_kept m c main_arg0 (by decide)))),
      ((h.1 c).2 main_arg1 (by decide : main_arg1 ∈ Pipeline.restRefs sig spec0)).trans (V_kept m c main_arg1 (by decide)),
      ((h.1 c).2 main_arg2 (by decide : main_arg2 ∈ Pipeline.restRefs sig spec0)).trans (V_kept m c main_arg2 (by decide)),
      ((h.1 c).2 main_arg3 (by decide : main_arg3 ∈ Pipeline.restRefs sig spec0)).trans (V_kept m c main_arg3 (by decide)),
      ((h.1 c).1 1).trans (((dats m (ok_of m hE hP) 0 c).arrAt_in 1 rfl _).trans ((dats_A m (ok_of m hE hP) c 1).trans (V_kept m c main_arg4 (by decide)))),
      ((h.1 c).1 2).trans (((dats m (ok_of m hE hP) 0 c).arrAt_in 2 rfl _).trans ((dats_A m (ok_of m hE hP) c 2).trans (V_kept m c main_arg5 (by decide))))⟩) (launched m ρ (ok_of m hE hP))

end Cert.Kernel3Ideal.Ex

end
-- ==== Proof.ExRef.lean ====
/-
  The experts' reference, element by element: its result is `resEx` of the arguments too.
-/
module

public import proofs.«01_k».proof.Proof.ExFinal
public import proofs.«01_k».proof.Proof.PjRef
public import proofs.«01_k».proof.Proof.Gen.Reference3Ideal.Read

@[expose] public section

noncomputable section

namespace Cert.Reference3Ideal.Ex

open Cert.Reference3Ideal Cert.Reference3Ideal.Gen Cert.Reference3Ideal.Read Idealize.ShloMosaic Idealize.ShloMosaic.TcCoe
open Cert.Kernel2Ideal.Pj (idx_eq_ix2 idx_eq_ix3)
open Cert.Reference2Ideal.Pj (at_ix)
open Cert.Kernel3Ideal.Ex
open scoped BigOperators

/-! ## Whole slabs taken by number -/

/-- The dimension numbers of taking whole `A` by `B` slabs of an operand of `N` of them. -/
abbrev slabDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem one_ne : ¬ (1 : Fin 3) = 0 := by decide
theorem two_ne : ¬ (2 : Fin 3) = 0 := by decide

/-- An element of a slab taken is the operand's, at the slab's number read signed and clamped. -/
theorem slab_apply {α : Type} {N A B n : ℕ} (hN : 0 < N) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (k : Fin n) (a : Fin A) (b : Fin B) :
    Host.gather (slabDims N A B n wf) x idx (ix3 k a b) = x (ix3 ⟨min (idx (ix2 k 0)).toInt.toNat (N - 1), by omega⟩ a b) := by
  unfold Host.gather
  congr 1
  funext c
  refine Fin.ext ?_
  show (slabDims N A B n wf).start (ix3 k a b) idx c + (slabDims N A B n wf).batchCoord (ix3 k a b) c + (slabDims N A B n wf).offCoord (ix3 k a b) c = _
  rw [GatherDims.batchCoord_eq_zero _ _ _ List.not_mem_nil]
  match c with
  | ⟨0, _⟩ =>
    show (slabDims N A B n wf).start (ix3 k a b) idx 0 + 0 + (slabDims N A B n wf).offCoord (ix3 k a b) 0 = _
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B n wf).startIndexMap from List.mem_singleton.mpr rfl)]
    have hsi : (slabDims N A B n wf).siIdx (ix3 k a b) ⟨List.idxOf (0 : Fin 3) (slabDims N A B n wf).startIndexMap,
        List.idxOf_lt_length_iff.2 (List.mem_singleton.mpr rfl)⟩ = ix2 k 0 := by
      funext d; refine Fin.ext ?_
      match d with
      | ⟨0, _⟩ => rfl
      | ⟨1, _⟩ => rfl
    rw [hsi]
    rfl
  | ⟨1, _⟩ =>
    show (slabDims N A B n wf).start (ix3 k a b) idx 1 + 0 + (slabDims N A B n wf).offCoord (ix3 k a b) 1 = a.val
    unfold GatherDims.start
    rw [dif_neg (show ¬ (1 : Fin 3) ∈ (slabDims N A B n wf).startIndexMap from fun h => one_ne (List.mem_singleton.mp h))]
    simp only [Nat.zero_add]
    rfl
  | ⟨2, _⟩ =>
    show (slabDims N A B n wf).start (ix3 k a b) idx 2 + 0 + (slabDims N A B n wf).offCoord (ix3 k a b) 2 = b.val
    unfold GatherDims.start
    rw [dif_neg (show ¬ (2 : Fin 3) ∈ (slabDims N A B n wf).startIndexMap from fun h => two_ne (List.mem_singleton.mp h))]
    simp only [Nat.zero_add]
    rfl

/-- A word below half its range is the same read signed. -/
theorem toInt_small (w : BitVec 32) (h : w.toNat < 2147483648) : w.toInt.toNat = w.toNat := by
  rw [WordCmp.toInt_eq_toNat_of_lt_half (x := w) (by omega)]; rfl

variable (x0 : FVec Ideal S8650752x128 .f32) (x1 x2 : IVec S163 32) (x3 : IVec S1 32) (x4 : FVec Ideal S2x32x1024x1024 .f32) (x5 : FVec Ideal S2x32x512x1024 .f32)
/-- The block of tokens. -/
theorem c1 (k : Fin 163) (hP : (x2 (at163 k.val k.isLt)).toNat < 2112) (r : Fin 512) (e : Fin 1024) : (val_main_v1 (F := Ideal) x0 x2 (ix3 k r e) : EReal) = tokenOf x0 (placeOf x2 k) r e := by
  unfold val_main_v1
  refine (slab_apply (N := 2112) (A := 512) (B := 1024) (n := 163) (by decide) gather_S2112x512x1024_S163x1_S163x512x1024_12_0_n_n_0_1_15121024_wf _ _ k r e).trans ?_
  refine (val_main_v0_apply (F := Ideal) x0 _).trans ?_
  have hv : val_main_call0_v0 (F := Ideal) x2 (ix2 k 0) = x2 (at163 k.val k.isLt) :=
    (val_main_call0_v0_apply (F := Ideal) x2 _).trans (congrArg x2 (funext fun a => match a with | ⟨0, _⟩ => rfl))
  have hp := hP
  have hw : min (val_main_call0_v0 (F := Ideal) x2 (ix2 k 0)).toInt.toNat (2112 - 1) = (placeOf x2 k).val := by
    rw [hv, toInt_small _ (by omega)]; rfl
  have hr := r.isLt
  have he := e.isLt
  unfold tokenOf
  refine congrArg x0 (idx_eq_ix2 _ _ _ ?_ ?_)
  · show ((min (val_main_call0_v0 (F := Ideal) x2 (ix2 k 0)).toInt.toNat (2112 - 1) * 512 + r.val) * 1024 + e.val) / 128 = (placeOf x2 k).val * 4096 + (8 * r.val + e.val / 128)
    rw [hw]; omega
  · show ((min (val_main_call0_v0 (F := Ideal) x2 (ix2 k 0)).toInt.toNat (2112 - 1) * 512 + r.val) * 1024 + e.val) % 128 = e.val % 128
    omega

/-- The first weights of the block's expert. -/
theorem c4 (k : Fin 163) (hE : (x1 (at163 k.val k.isLt)).toNat < 32) (e j : Fin 1024) : (val_main_v4 (F := Ideal) x1 x4 (ix3 k e j) : EReal) = x4 (ix4 0 (expertOf x1 k) e j) := by
  unfold val_main_v4
  refine (slab_apply (N := 32) (A := 1024) (B := 1024) (n := 163) (by decide) gather_S32x1024x1024_S163x1_S163x1024x1024_12_0_n_n_0_1_110241024_wf _ _ k e j).trans ?_
  refine (val_main_v3_apply (F := Ideal) x4 _).trans ((val_main_v2_apply (F := Ideal) x4 _).trans ?_)
  have hv : val_main_call1_v0 (F := Ideal) x1 (ix2 k 0) = x1 (at163 k.val k.isLt) :=
    (val_main_call1_v0_apply (F := Ideal) x1 _).trans (congrArg x1 (funext fun a => match a with | ⟨0, _⟩ => rfl))
  have hp := hE
  have hw : min (val_main_call1_v0 (F := Ideal) x1 (ix2 k 0)).toInt.toNat (32 - 1) = (expertOf x1 k).val := by
    rw [hv, toInt_small _ (by omega)]; rfl
  have h1 := e.isLt
  have h2 := j.isLt
  have h3 := (expertOf x1 k).isLt
  refine congrArg x4 (idx_eq_ix4 _ _ _ _ _ ?_ ?_ ?_ ?_)
  · rfl
  · show ((min (val_main_call1_v0 (F := Ideal) x1 (ix2 k 0)).toInt.toNat (32 - 1) * 1024 + e.val) * 1024 + j.val) / 1048576 % 32 = (expertOf x1 k).val
    rw [hw]; omega
  · show ((min (val_main_call1_v0 (F := Ideal) x1 (ix2 k 0)).toInt.toNat (32 - 1) * 1024 + e.val) * 1024 + j.val) / 1024 % 1024 = e.val
    omega
  · show ((min (val_main_call1_v0 (F := Ideal) x1 (ix2 k 0)).toInt.toNat (32 - 1) * 1024 + e.val) * 1024 + j.val) % 1024 = j.val
    omega

/-- The second weights of the block's expert. -/
theorem c12 (k : Fin 163) (hE : (x1 (at163 k.val k.isLt)).toNat < 32) (j : Fin 512) (C : Fin 1024) : (val_main_v12 (F := Ideal) x1 x5 (ix3 k j C) : EReal) = x5 (ix4 0 (expertOf x1 k) j C) := by
  unfold val_main_v12
  refine (slab_apply (N := 32) (A := 512) (B := 1024) (n := 163) (by decide) gather_S32x512x1024_S163x1_S163x512x1024_12_0_n_n_0_1_15121024_wf _ _ k j C).trans ?_
  refine (val_main_v11_apply (F := Ideal) x5 _).trans ((val_main_v10_apply (F := Ideal) x5 _).trans ?_)
  have hv : val_main_call3_v0 (F := Ideal) x1 (ix2 k 0) = x1 (at163 k.val k.isLt) :=
    (val_main_call3_v0_apply (F := Ideal) x1 _).trans (congrArg x1 (funext fun a => match a with | ⟨0, _⟩ => rfl))
  have hp := hE
  have hw : min (val_main_call3_v0 (F := Ideal) x1 (ix2 k 0)).toInt.toNat (32 - 1) = (expertOf x1 k).val := by
    rw [hv, toInt_small _ (by omega)]; rfl
  have h1 := j.isLt
  have h2 := C.isLt
  have h3 := (expertOf x1 k).isLt
  refine congrArg x5 (idx_eq_ix4 _ _ _ _ _ ?_ ?_ ?_ ?_)
  · rfl
  · show ((min (val_main_call3_v0 (F := Ideal) x1 (ix2 k 0)).toInt.toNat (32 - 1) * 512 + j.val) * 1024 + C.val) / 524288 % 32 = (expertOf x1 k).val
    rw [hw]; omega
  · show ((min (val_main_call3_v0 (F := Ideal) x1 (ix2 k 0)).toInt.toNat (32 - 1) * 512 + j.val) * 1024 + C.val) / 1024 % 512 = j.val
    omega
  · show ((min (val_main_call3_v0 (F := Ideal) x1 (ix2 k 0)).toInt.toNat (32 - 1) * 512 + j.val) * 1024 + C.val) % 1024 = C.val
    omega

/-- The hidden columns. -/
theorem c5 (k : Fin 163) (hE : (x1 (at163 k.val k.isLt)).toNat < 32) (hP : (x2 (at163 k.val k.isLt)).toNat < 2112) (r : Fin 512) (j : Fin 1024) : (val_main_v5 (F := Ideal) x0 x1 x2 x4 (ix3 k r j) : EReal)
    = hid (tokenOf x0 (placeOf x2 k) r) (fun e j => x4 (ix4 0 (expertOf x1 k) e j)) j := by
  refine (val_main_v5_apply x0 x1 x2 x4 (ix3 k r j)).trans (Finset.sum_congr rfl fun e _ => congrArg₂ (fun x y : EReal => x * y) ?_ ?_)
  · exact at_ix (val_main_v1 (F := Ideal) x0 x2) (ix3 k r e) (idx_eq_ix3 _ k r e rfl rfl rfl) (c1 x0 x2 k hP r e)
  · exact at_ix (val_main_v4 (F := Ideal) x1 x4) (ix3 k e j) (idx_eq_ix3 _ k e j rfl rfl rfl) (c4 x1 x4 k hE e j)

/-- The gated columns. -/
theorem c9 (k : Fin 163) (hE : (x1 (at163 k.val k.isLt)).toNat < 32) (hP : (x2 (at163 k.val k.isLt)).toNat < 2112) (r j : Fin 512) : (val_main_v9 (F := Ideal) x0 x1 x2 x4 (ix3 k r j) : EReal)
    = gate (hid (tokenOf x0 (placeOf x2 k) r) (fun e j => x4 (ix4 0 (expertOf x1 k) e j)) ⟨j.val, by omega⟩)
        (hid (tokenOf x0 (placeOf x2 k) r) (fun e j => x4 (ix4 0 (expertOf x1 k) e j)) ⟨512 + j.val, by omega⟩) := by
  have e6 : (val_main_v6 (F := Ideal) x0 x1 x2 x4 (ix3 k r j) : EReal) = hid (tokenOf x0 (placeOf x2 k) r) (fun e j => x4 (ix4 0 (expertOf x1 k) e j)) ⟨j.val, by omega⟩ :=
    (val_main_v6_apply (F := Ideal) x0 x1 x2 x4 _).trans (at_ix (val_main_v5 (F := Ideal) x0 x1 x2 x4) (ix3 k r ⟨j.val, by omega⟩) (idx_eq_ix3 _ k r ⟨j.val, by omega⟩ rfl rfl rfl)
      (c5 x0 x1 x2 x4 k hE hP r _))
  have e8 : (val_main_v8 (F := Ideal) x0 x1 x2 x4 (ix3 k r j) : EReal) = hid (tokenOf x0 (placeOf x2 k) r) (fun e j => x4 (ix4 0 (expertOf x1 k) e j)) ⟨512 + j.val, by omega⟩ :=
    (val_main_v8_apply (F := Ideal) x0 x1 x2 x4 _).trans (at_ix (val_main_v5 (F := Ideal) x0 x1 x2 x4) (ix3 k r ⟨512 + j.val, by omega⟩) (idx_eq_ix3 _ k r ⟨512 + j.val, by omega⟩ rfl rfl rfl)
      (c5 x0 x1 x2 x4 k hE hP r _))
  have e2 : (val_main_call2_v2 (F := Ideal) (ix3 k r j) : EReal) = Ideal.ofBits .f32 0x3F800000#32 := val_main_call2_v2_apply (F := Ideal) _
  have e4 : (val_main_call2_v4 (F := Ideal) (ix3 k r j) : EReal) = Ideal.ofBits .f32 0x3F800000#32 := val_main_call2_v4_apply (F := Ideal) _
  have e0 : (val_main_call2_v0 (F := Ideal) x0 x1 x2 x4 (ix3 k r j) : EReal) = -(val_main_v6 (F := Ideal) x0 x1 x2 x4 (ix3 k r j) : EReal) := val_main_call2_v0_apply (F := Ideal) x0 x1 x2 x4 _
  have e1 : (val_main_call2_v1 (F := Ideal) x0 x1 x2 x4 (ix3 k r j) : EReal) = Ideal.exp (val_main_call2_v0 (F := Ideal) x0 x1 x2 x4 (ix3 k r j)) := val_main_call2_v1_apply (F := Ideal) x0 x1 x2 x4 _
  have e3 : (val_main_call2_v3 (F := Ideal) x0 x1 x2 x4 (ix3 k r j) : EReal) = (val_main_call2_v2 (F := Ideal) (ix3 k r j) : EReal) + val_main_call2_v1 (F := Ideal) x0 x1 x2 x4 (ix3 k r j) := val_main_call2_v3_apply (F := Ideal) x0 x1 x2 x4 _
  have e5 : (val_main_call2_v5 (F := Ideal) x0 x1 x2 x4 (ix3 k r j) : EReal) = Ideal.div (val_main_call2_v4 (F := Ideal) (ix3 k r j)) (val_main_call2_v3 (F := Ideal) x0 x1 x2 x4 (ix3 k r j)) := val_main_call2_v5_apply (F := Ideal) x0 x1 x2 x4 _
  have e7 : (val_main_v7 (F := Ideal) x0 x1 x2 x4 (ix3 k r j) : EReal) = (val_main_v6 (F := Ideal) x0 x1 x2 x4 (ix3 k r j) : EReal) * val_main_call2_v5 (F := Ideal) x0 x1 x2 x4 (ix3 k r j) := val_main_v7_apply (F := Ideal) x0 x1 x2 x4 _
  have e9 : (val_main_v9 (F := Ideal) x0 x1 x2 x4 (ix3 k r j) : EReal) = (val_main_v7 (F := Ideal) x0 x1 x2 x4 (ix3 k r j) : EReal) * val_main_v8 (F := Ideal) x0 x1 x2 x4 (ix3 k r j) := val_main_v9_apply (F := Ideal) x0 x1 x2 x4 _
  rw [e9, e7, e5, e4, e3, e2, e1, e0, e6, e8]
  rfl

/-- The product with the second weights. -/
theorem c13 (k : Fin 163) (hE : (x1 (at163 k.val k.isLt)).toNat < 32) (hP : (x2 (at163 k.val k.isLt)).toNat < 2112) (r : Fin 512) (C : Fin 1024) : (val_main_v13 (F := Ideal) x0 x1 x2 x4 x5 (ix3 k r C) : EReal)
    = mlp (tokenOf x0 (placeOf x2 k) r) (fun e j => x4 (ix4 0 (expertOf x1 k) e j)) (fun j C => x5 (ix4 0 (expertOf x1 k) j C)) C := by
  refine (val_main_v13_apply x0 x1 x2 x4 x5 (ix3 k r C)).trans (Finset.sum_congr rfl fun j _ => congrArg₂ (fun x y : EReal => x * y) ?_ ?_)
  · exact at_ix (val_main_v9 (F := Ideal) x0 x1 x2 x4) (ix3 k r j) (idx_eq_ix3 _ k r j rfl rfl rfl) (c9 x0 x1 x2 x4 k hE hP r j)
  · exact at_ix (val_main_v12 (F := Ideal) x1 x5) (ix3 k j C) (idx_eq_ix3 _ k j C rfl rfl rfl) (c12 x1 x5 k hE j C)

/-- The mask is one exactly at an active block. -/
theorem mask_iff (k : Fin 163) (r : Fin 512) (C : Fin 1024) : val_main_call4_v1 (F := Ideal) x3 (ix3 k r C) = 1#1 ↔ Act k.val (x3 at1) := by
  have e : val_main_call4_v1 (F := Ideal) x3 (ix3 k r C) = IntOp.cmpi .slt (BitVec.ofNat 32 k.val) (x3 at1) := by
    refine (val_main_call4_v1_apply (F := Ideal) x3 _).trans ((val_main_v18_apply (F := Ideal) x3 _).trans ((val_main_v17_apply (F := Ideal) x3 _).trans ?_))
    refine congrArg₂ (IntOp.cmpi .slt) rfl ((val_main_v16_apply (F := Ideal) x3 _).trans ?_)
    unfold val_main_v15
    exact shapeCast_apply x3 shapeCasts_S1_S_ _ at1 rfl
  rw [e]
  exact slt_iff k.val k.isLt (x3 at1)

/-- The reference's result. -/
theorem reference (hE : ∀ k h, Used k (x3 at1) → (x1 (at163 k h)).toNat < 32) (hP : ∀ k h, Used k (x3 at1) → (x2 (at163 k h)).toNat < 2112) : val_main_v20 (F := Ideal) x0 x1 x2 x3 x4 x5 = resEx x0 x1 x2 x3 x4 x5 := by
  funext y
  obtain ⟨R, L, rfl⟩ : ∃ (R : Fin 667648) (L : Fin 128), y = ix2 R L := ⟨y 0, y 1, eq_ix2 y⟩
  have hR := R.isLt
  have hL := L.isLt
  obtain ⟨k, hk⟩ : ∃ k : Fin 163, R.val / 4096 = k.val := ⟨⟨R.val / 4096, by omega⟩, rfl⟩
  obtain ⟨r, hr⟩ : ∃ r : Fin 512, R.val % 4096 / 8 = r.val := ⟨⟨R.val % 4096 / 8, by omega⟩, rfl⟩
  obtain ⟨C, hC⟩ : ∃ C : Fin 1024, R.val % 8 * 128 + L.val = C.val := ⟨⟨R.val % 8 * 128 + L.val, by omega⟩, rfl⟩
  refine Eq.trans ?_ (resEx_apply x0 x1 x2 x3 x4 x5 (ix2 R L) k r C hk hr hC).symm
  refine (val_main_v20_apply (F := Ideal) x0 x1 x2 x3 x4 x5 _).trans (at_ix (val_main_v19 (F := Ideal) x0 x1 x2 x3 x4 x5) (ix3 k r C) (idx_eq_ix3 _ k r C
    (by show (R.val * 128 + L.val) / 524288 = k.val; omega) (by show (R.val * 128 + L.val) / 1024 % 512 = r.val; omega) (by show (R.val * 128 + L.val) % 1024 = C.val; omega)) ?_)
  refine (val_main_v19_apply (F := Ideal) x0 x1 x2 x3 x4 x5 _).trans ?_
  by_cases ha : Act k.val (x3 at1)
  · rw [(mask_iff x3 k r C).mpr ha, rowEx_on _ _ _ _ _ _ k r C ha]
    exact c13 x0 x1 x2 x4 x5 k (hE k.val k.isLt (used_of_act _ _ ha)) (hP k.val k.isLt (used_of_act _ _ ha)) r C
  · have hz : val_main_call4_v1 (F := Ideal) x3 (ix3 k r C) = 0#1 := (fun (b : BitVec 1) (hb : ¬ b = 1#1) => (by revert b; decide : b = 0#1)) _ (fun h => ha ((mask_iff x3 k r C).mp h))
    rw [hz, rowEx_off _ _ _ _ _ _ k r C ha]
    exact (val_main_call4_v2_apply (F := Ideal) (ix3 k r C)).trans Ideal.ofBits_zero_f32

end Cert.Reference3Ideal.Ex

end
-- ==== Proof.ApBody.lean ====
module
public import proofs.«01_k».proof.Proof.Gen.Kernel4Ideal
public import proofs.«01_k».proof.Proof.Gen.Kernel4Ideal.Value
public import proofs.«01_k».proof.Proof.PjBody

@[expose] public section

noncomputable section

namespace Cert.Kernel4Ideal.Ap

open Cert.Kernel4Ideal Cert.Kernel4Ideal.Gen Idealize.ShloMosaic Idealize.ShloMosaic.TcCoe Idealize.ShloMosaic.Tactic Idealize.SL.Sem
open Cert.Kernel2Ideal.Pj (normed normed_congr)
open scoped BigOperators

/-- A pair of heads normed lane by lane: the mean of the squares is their product with the matrix `gm`. -/
def yS (P : Fin 128 → EReal) (gm : Fin 128 → Fin 128 → EReal) (g : Fin 128 → EReal) (l : Fin 128) : EReal :=
  P l * Ideal.rsqrt ((∑ k : Fin 128, P k * P k * gm k l) + Ideal.ofBits .f32 0x358637BD#32) * g l

/-- The lane a lane is turned with. -/
def mate (l : Fin 128) : Fin 128 := if l.val % 32 < 16 then ⟨(l.val + 16) % 128, Nat.mod_lt _ (by decide)⟩ else ⟨(l.val + 112) % 128, Nat.mod_lt _ (by decide)⟩

/-- The normed pair of heads turned by its position's angles. -/
def nrS (P : Fin 128 → EReal) (gm : Fin 128 → Fin 128 → EReal) (g cs sn : Fin 128 → EReal) (l : Fin 128) : EReal :=
  yS P gm g l * cs l + yS P gm g (mate l) * sn l

theorem nrS_congr {P P' : Fin 128 → EReal} {gm gm' : Fin 128 → Fin 128 → EReal} {g g' cs cs' sn sn' : Fin 128 → EReal} (e1 : ∀ k, P k = P' k)
    (e2 : ∀ k l, gm k l = gm' k l) (e3 : ∀ k, g k = g' k) (e4 : ∀ k, cs k = cs' k) (e5 : ∀ k, sn k = sn' k) (l : Fin 128) :
    nrS P gm g cs sn l = nrS P' gm' g' cs' sn' l := by
  obtain rfl : P = P' := funext e1
  obtain rfl : gm = gm' := funext fun k => funext (e2 k)
  obtain rfl : g = g' := funext e3
  obtain rfl : cs = cs' := funext e4
  obtain rfl : sn = sn' := funext e5
  rfl

section vectors

/-- The normed rows as the body computes them. -/
def yV (p : FVec Ideal S512x128 .f32) (g : Vec Ideal S1x128 .f32) (gm : FVec Ideal S128x128 .bf16) : FVec Ideal S512x128 .f32 :=
  mulf (mulf p (rsqrt (addf (matmul dot_S512x128_S128x128_S512x128_1_0_0_1_n_n none (truncf .bf16 (mulf p p) bitsLt_bf16_f32) gm (constant S512x128 .f32 0x00000000#32))
    (broadcast S512x128 (Scalar.ofBits .f32 0x358637BD#32 : Ideal .f32))))) (broadcastTo S512x128 (shapeCast S1x128 g shapeCasts_S1x128_S1x128) broadcasts_S1x128_S512x128)

/-- The turned rows as the body computes them. -/
def rotV (y cs sn : FVec Ideal S512x128 .f32) (m : IVec S1x128 1) : FVec Ideal S512x128 .f32 :=
  addf (mulf y cs) (mulf (select (broadcastTo S512x128 (shapeCast S1x128 m shapeCasts_S1x128_S1x128) broadcasts_S1x128_S512x128)
    (dynamicRotate 1 112#32 none y rotates_S512x128_d1) (dynamicRotate 1 16#32 none y rotates_S512x128_d1)) sn)

/-- A row block of q: scaled. -/
def qV (x : FVec Ideal S512x128 .f32) : FVec Ideal S512x128 .bf16 :=
  truncf .bf16 (mulf x (broadcast S512x128 (Scalar.ofBits .f32 0x3E000000#32 : Ideal .f32))) bitsLt_bf16_f32

/-- The first 128 columns of a product. -/
def lo (d : FVec Ideal S512x256 .f32) : FVec Ideal S512x128 .f32 := extractStridedSlice S512x128 ![0, 0] d slices_S512x256_o0_0_S512x128
/-- The last 128 columns of a product. -/
def hi (d : FVec Ideal S512x256 .f32) : FVec Ideal S512x128 .f32 := extractStridedSlice S512x128 ![0, 128] d slices_S512x256_o0_128_S512x128

/-- A pair of heads, the first of which is written twice. -/
def wideA (x : FVec Ideal S512x128 .f32) (m : IVec S1x128 1) : FVec Ideal S512x128 .bf16 :=
  truncf .bf16 (select (broadcastTo S512x128 (shapeCast S1x128 m shapeCasts_S1x128_S1x128) broadcasts_S1x128_S512x128) x (dynamicRotate 1 64#32 none x rotates_S512x128_d1)) bitsLt_bf16_f32
/-- A pair of heads, the second of which is written twice. -/
def wideB (x : FVec Ideal S512x128 .f32) (m : IVec S1x128 1) : FVec Ideal S512x128 .bf16 :=
  truncf .bf16 (select (broadcastTo S512x128 (shapeCast S1x128 m shapeCasts_S1x128_S1x128) broadcasts_S1x128_S512x128) (dynamicRotate 1 64#32 none x rotates_S512x128_d1) x) bitsLt_bf16_f32

theorem yV_apply (p : FVec Ideal S512x128 .f32) (g : Vec Ideal S1x128 .f32) (gm : FVec Ideal S128x128 .bf16) (r : Fin 512) (l : Fin 128) :
    (yV p g gm) (ix2 r l) = yS (fun k => p (ix2 r k)) (fun k l => gm (ix2 k l)) (fun k => g (ix2 0 k)) l := by
  unfold yV yS
  pointwise [dot_S512x128_S128x128_S512x128_1_0_0_1_n_n]

theorem rotV_apply (y cs sn : FVec Ideal S512x128 .f32) (m : IVec S1x128 1) (hm : ∀ l : Fin 128, m (ix2 0 l) = if l.val % 32 < 16 then 1#1 else 0#1) (r : Fin 512) (l : Fin 128) :
    (rotV y cs sn m) (ix2 r l) = (y (ix2 r l) : EReal) * cs (ix2 r l) + (y (ix2 r (mate l)) : EReal) * sn (ix2 r l) := by
  unfold rotV mate
  pointwise
  have h := hm l
  by_cases c : l.val % 32 < 16
  · rw [if_pos c] at h ⊢
    simp only [h]
    first
      | rfl
      | skip
  · rw [if_neg c] at h ⊢
    simp only [h]
    first
      | rfl
      | skip

theorem wideA_apply (x : FVec Ideal S512x128 .f32) (m : IVec S1x128 1) (hm : ∀ l : Fin 128, m (ix2 0 l) = if l.val < 64 then 1#1 else 0#1) (r : Fin 512) (l : Fin 128) :
    (wideA x m) (ix2 r l) = (x (ix2 r ⟨l.val % 64, (Nat.mod_lt _ (by decide)).trans (by decide)⟩) : EReal) := by
  unfold wideA
  pointwise
  have h := hm l
  have := l.isLt
  by_cases c : l.val < 64
  · rw [if_pos c] at h
    simp only [h]
    exact congrArg (fun k => x (ix2 r k)) (Fin.ext (by show l.val = l.val % 64; omega))
  · rw [if_neg c] at h
    simp only [h]
    exact congrArg (fun k => x (ix2 r k)) (Fin.ext (by show (l.val + 128 - 64) % 128 = l.val % 64; omega))

theorem wideB_apply (x : FVec Ideal S512x128 .f32) (m : IVec S1x128 1) (hm : ∀ l : Fin 128, m (ix2 0 l) = if l.val < 64 then 1#1 else 0#1) (r : Fin 512) (l : Fin 128) :
    (wideB x m) (ix2 r l) = (x (ix2 r ⟨64 + l.val % 64, by have := l.isLt; omega⟩) : EReal) := by
  unfold wideB
  pointwise
  have h := hm l
  have := l.isLt
  by_cases c : l.val < 64
  · rw [if_pos c] at h
    simp only [h]
    exact congrArg (fun k => x (ix2 r k)) (Fin.ext (by show (l.val + 128 - 64) % 128 = 64 + l.val % 64; omega))
  · rw [if_neg c] at h
    simp only [h]
    exact congrArg (fun k => x (ix2 r k)) (Fin.ext (by show l.val = 64 + l.val % 64; omega))

/-- A product of the row block with one column of weights. -/
def dotA (a : FVec Ideal S512x1024 .bf16) (r : Fin 512) (w : Fin 1024 → EReal) : EReal := ∑ e : Fin 1024, (a (ix2 r e) : EReal) * w e

theorem lo_apply (a : FVec Ideal S512x1024 .bf16) (w : Vec Ideal S1024x256 .bf16) (r : Fin 512) (l : Fin 128) :
    (lo (k0_pay16 a w)) (ix2 r l) = dotA a r (fun e => w (ix2 e ⟨l.val, by have := l.isLt; omega⟩)) := by
  unfold lo k0_pay16 dotA
  pointwise [dot_S512x1024_S1024x256_S512x256_1_0_0_1_n_n]

theorem hi_apply (a : FVec Ideal S512x1024 .bf16) (w : Vec Ideal S1024x256 .bf16) (r : Fin 512) (l : Fin 128) :
    (hi (k0_pay16 a w)) (ix2 r l) = dotA a r (fun e => w (ix2 e ⟨128 + l.val, by have := l.isLt; omega⟩)) := by
  unfold hi k0_pay16 dotA
  pointwise [dot_S512x1024_S1024x256_S512x256_1_0_0_1_n_n]

theorem qV_apply (x : FVec Ideal S512x128 .f32) (r : Fin 512) (l : Fin 128) : (qV x) (ix2 r l) = (x (ix2 r l) : EReal) * Ideal.ofBits .f32 0x3E000000#32 := by
  unfold qV
  pointwise

end vectors

/-! ## The masks -/

/-- The lanes' numbers. -/
abbrev lanes : IVec S1x128 32 := iota .tc S1x128 32 [1] iota_S1x128_d1_w32

theorem mask_first (l : Fin 128) : (k0_pay13 lanes 32#32 (Scalar.cmpi .eq 32#32 0#32) 1#32) (ix2 0 l) = if l.val % 32 < 16 then 1#1 else 0#1 := by
  unfold k0_pay13
  pointwise
  revert l
  decide

theorem mask_low (l : Fin 128) : (k0_pay14 lanes) (ix2 0 l) = if l.val < 64 then 1#1 else 0#1 := by
  unfold k0_pay14
  pointwise
  revert l
  decide

/-! ## The stored values, as vectors -/

section payloads
variable (a : FVec Ideal S512x1024 .bf16) (cs sn : FVec Ideal S512x128 .f32) (m lw : IVec S1x128 1) (gm : FVec Ideal S128x128 .bf16) (gmv : Vec Ideal S128x128 .bf16)
  (w : Vec Ideal S1024x256 .bf16) (g : Vec Ideal S1x128 .f32) (d : FVec Ideal S512x256 .f32)

/-- The normed and turned rows. -/
abbrev nrV (p : FVec Ideal S512x128 .f32) : FVec Ideal S512x128 .f32 := rotV (yV p g gm) cs sn m

theorem pay18_eq (v : IVec S1x128 32) (c32 : BitVec 32) (q : BitVec 1) (c1 : BitVec 32) :
    k0_pay18 (k0_pay17 a cs sn v c32 q c1 gmv w g) = qV (nrV cs sn (k0_pay13 v c32 q c1) (k0_pay15 gmv) g (lo (k0_pay16 a w))) := rfl
theorem pay19_eq : k0_pay19 cs sn m gm d g = qV (nrV cs sn m gm g (hi d)) := rfl
theorem pay24_eq : k0_pay24 cs sn m (k0_pay21 a w) (k0_pay22 g) (k0_pay23 a gm w) = qV (nrV cs sn m gm g (lo (k0_pay16 a w))) := rfl
theorem pay25_eq : k0_pay25 cs sn m gm (k0_pay20 a w) g = qV (nrV cs sn m gm g (hi (k0_pay16 a w))) := rfl
theorem pay28_eq : k0_pay28 a cs sn m gm (k0_pay26 w) g = qV (nrV cs sn m gm g (lo (k0_pay16 a w))) := rfl
theorem pay32_eq : k0_pay32 sn (k0_pay30 a m gm (k0_pay26 w) g) (k0_pay31 a cs gm (k0_pay26 w) g) = qV (nrV cs sn m gm g (hi (k0_pay16 a w))) := rfl
theorem pay34_eq : k0_pay34 a cs sn m gm w g = qV (nrV cs sn m gm g (lo (k0_pay16 a w))) := rfl
theorem pay38_eq : k0_pay38 cs sn m (k0_pay35 a w) (k0_pay36 g) (k0_pay37 a gm w) (Scalar.ofBits .f32 0x358637BD#32) = qV (nrV cs sn m gm g (hi (k0_pay16 a w))) := rfl
theorem pay43_eq : k0_pay43 (k0_pay40 a cs sn m gm w g) (k0_pay41 a cs sn m gm w g) (k0_pay42 lw) = wideA (nrV cs sn m gm g (lo (k0_pay16 a w))) lw := rfl
theorem pay44_eq : k0_pay44 lw (k0_pay40 a cs sn m gm w g) (k0_pay41 a cs sn m gm w g) = wideB (nrV cs sn m gm g (lo (k0_pay16 a w))) lw := rfl
theorem pay47_eq : k0_pay47 cs sn m lw gm (k0_pay39 a w) g = wideA (nrV cs sn m gm g (hi (k0_pay16 a w))) lw := rfl
theorem pay48_eq : k0_pay48 cs sn m lw gm (k0_pay39 a w) g = wideB (nrV cs sn m gm g (hi (k0_pay16 a w))) lw := rfl
theorem pay4_eq : k0_pay4 a lw w = wideA (lo (k0_pay16 a w)) lw := rfl
theorem pay5_eq : k0_pay5 a lw w = wideB (lo (k0_pay16 a w)) lw := rfl
theorem pay8_eq : k0_pay8 a lw w = wideA (hi (k0_pay16 a w)) lw := rfl
theorem pay9_eq : k0_pay9 a lw w = wideB (hi (k0_pay16 a w)) lw := rfl

end payloads

/-! ## The blocks -/

/-- A block's rows: of the sequences' or, from point 64 on, of the context's. -/
def rowA (i : grid0.Coords) (x0 x1 : Vec Ideal S512x1024 .f32) (x2 : Vec Ideal S1x6x1024 .f32) (x3 : Vec Ideal S1x1024 .f32) (r : Fin 512) : Fin 1024 → EReal :=
  normed (fun j => if (i 0).val < 64 then x0 (ix2 r j) else x1 (ix2 r j)) (fun j => x2 (ix3 0 0 j)) (fun j => x2 (ix3 0 1 j)) (fun j => x3 (ix2 0 j))

/-- Rows times a column of the weights. -/
def projA (i : grid0.Coords) (x0 x1 : Vec Ideal S512x1024 .f32) (x2 : Vec Ideal S1x6x1024 .f32) (x3 : Vec Ideal S1x1024 .f32) (x4 : Vec Ideal S1024x1536 .bf16)
    (r : Fin 512) (C : Fin 1536) : EReal := ∑ e : Fin 1024, rowA i x0 x1 x2 x3 r e * (x4 (ix2 e C) : EReal)

theorem slt64 (n : ℕ) (h : n < 66) : Scalar.cmpi .slt (BitVec.ofNat 32 n) 64#32 = if n < 64 then 1#1 else 0#1 := by
  have : ∀ k : Fin 66, Scalar.cmpi .slt (BitVec.ofNat 32 k.val) 64#32 = if k.val < 64 then 1#1 else 0#1 := by decide
  exact this ⟨n, h⟩

theorem pay10_apply (i : grid0.Coords) (v1 v2 : Vec Ideal S512x1024 .f32) (v4 : Vec Ideal S1x1024 .f32) (v6 v8 : Vec Ideal S1x1x1024 .f32) (r : Fin 512) (e : Fin 1024) :
    (k0_pay10 i v1 v2 v4 v6 v8 : FVec Ideal S512x1024 .bf16) (ix2 r e)
      = normed (fun j => if (i 0).val < 64 then v1 (ix2 r j) else v2 (ix2 r j)) (fun j => v8 (ix3 0 0 j)) (fun j => v6 (ix3 0 0 j)) (fun j => v4 (ix2 0 j)) e := by
  unfold k0_pay10
  have h := slt64 (i 0).val (i 0).isLt
  by_cases c : (i 0).val < 64
  · rw [if_pos c] at h
    simp only [h, if_pos c]
    unfold normed
    pointwise
  · rw [if_neg c] at h
    simp only [h, if_neg c]
    unfold normed
    pointwise

theorem ld_h (x0 : Vec Ideal S512x1024 .f32) (r : Fin 512) (j : Fin 1024) : View.ld x0 r0_0 (ix2 r j) = x0 (ix2 r j) := by
  unfold r0_0
  pointwise
theorem ld_g (x2 : Vec Ideal S1x1024 .f32) (j : Fin 1024) : View.ld x2 r0_1 (ix2 0 j) = x2 (ix2 0 j) := by
  unfold r0_1
  pointwise
theorem ld_sc (x1 : Vec Ideal S1x6x1024 .f32) (j : Fin 1024) : View.ld x1 r0_2 (ix3 0 0 j) = x1 (ix3 0 1 j) := by
  unfold r0_2
  pointwise
theorem ld_sh (x1 : Vec Ideal S1x6x1024 .f32) (j : Fin 1024) : View.ld x1 r0_3 (ix3 0 0 j) = x1 (ix3 0 0 j) := by
  unfold r0_3
  pointwise
theorem ld_w (x : Vec Ideal S1024x1536 .bf16) (o : ℕ) (inb) (e : Fin 1024) (c : Fin 256) (h : o + c.val < 1536) :
    View.ld x (Rect.unit ![0, o] ![1024, 256] inb) (ix2 e c) = x (ix2 e ⟨o + c.val, h⟩) := by
  pointwise
theorem ld_g0 (x : Vec Ideal S2x128 .f32) (j : Fin 128) : View.ld x r0_7 (ix2 0 j) = x (ix2 0 j) := by
  unfold r0_7
  pointwise
theorem ld_g1 (x : Vec Ideal S2x128 .f32) (j : Fin 128) : View.ld x r0_20 (ix2 0 j) = x (ix2 1 j) := by
  unfold r0_20
  pointwise
theorem ld_cs (x : Vec Ideal S512x128 .f32) (r : Fin 512) (j : Fin 128) : (k0_pay11 (View.ld x r0_4)) (ix2 r j) = x (ix2 r j) := by
  unfold k0_pay11 r0_4
  pointwise
theorem ld_sn (x : Vec Ideal S512x128 .f32) (r : Fin 512) (j : Fin 128) : (k0_pay12 (View.ld x r0_4)) (ix2 r j) = x (ix2 r j) := by
  unfold k0_pay12 r0_4
  pointwise
theorem ld_gm (x : Vec Ideal S128x128 .bf16) (k l : Fin 128) : (k0_pay15 (View.ld x r0_5)) (ix2 k l) = x (ix2 k l) := by
  unfold k0_pay15 r0_5
  pointwise

section pieces
variable (i : grid0.Coords) (x0 x1 : Vec Ideal S512x1024 .f32) (x2 : Vec Ideal S1x6x1024 .f32) (x3 : Vec Ideal S1x1024 .f32) (x4 : Vec Ideal S1024x1536 .bf16)
  (x5 : Vec Ideal S2x128 .f32) (x6 : Vec Ideal S128x128 .bf16) (x7 x8 : Vec Ideal S512x128 .f32)

/-- The row block of the body. -/
abbrev aV : FVec Ideal S512x1024 .bf16 := k0_pay10 i (View.ld x0 r0_0) (View.ld x1 r0_0) (View.ld x3 r0_1) (View.ld x2 r0_2) (View.ld x2 r0_3)

theorem aV_apply (r : Fin 512) (e : Fin 1024) : (aV i x0 x1 x2 x3) (ix2 r e) = rowA i x0 x1 x2 x3 r e := by
  refine (pay10_apply i _ _ _ _ _ r e).trans (normed_congr (fun j => ?_) (ld_sh x2) (ld_sc x2) (ld_g x3) e)
  rw [ld_h, ld_h]

theorem p_lo (o : ℕ) (inb) (r : Fin 512) (l : Fin 128) (h : o + l.val < 1536) :
    (lo (k0_pay16 (aV i x0 x1 x2 x3) (View.ld x4 (Rect.unit ![0, o] ![1024, 256] inb)))) (ix2 r l) = projA i x0 x1 x2 x3 x4 r ⟨o + l.val, h⟩ := by
  refine (lo_apply _ _ r l).trans (Finset.sum_congr rfl fun e _ => ?_)
  rw [aV_apply]
  exact congrArg (fun x : EReal => _ * x) (ld_w x4 o inb e _ h)

theorem p_hi (o : ℕ) (inb) (r : Fin 512) (l : Fin 128) (h : o + 128 + l.val < 1536) :
    (hi (k0_pay16 (aV i x0 x1 x2 x3) (View.ld x4 (Rect.unit ![0, o] ![1024, 256] inb)))) (ix2 r l) = projA i x0 x1 x2 x3 x4 r ⟨o + 128 + l.val, h⟩ := by
  refine (hi_apply _ _ r l).trans (Finset.sum_congr rfl fun e _ => ?_)
  rw [aV_apply]
  refine congrArg (fun x : EReal => _ * x) ((ld_w x4 o inb e _ (by show o + (128 + l.val) < 1536; omega)).trans ?_)
  exact congrArg (fun k => x4 (ix2 e k)) (Fin.ext (by show o + (128 + l.val) = o + 128 + l.val; omega))

/-- Column `C` of the product, its head normed with gain `gi` and turned. -/
def nrA (gi : Fin 2) (r : Fin 512) (C : Fin 1536) : EReal :=
  nrS (fun k => projA i x0 x1 x2 x3 x4 r ⟨128 * (C.val / 128) + k.val, by have := k.isLt; have := C.isLt; omega⟩) (fun k l => x6 (ix2 k l)) (fun k => x5 (ix2 gi k))
    (fun k => x7 (ix2 r k)) (fun k => x8 (ix2 r k)) ⟨C.val % 128, Nat.mod_lt _ (by decide)⟩

theorem nrV_apply (p : FVec Ideal S512x128 .f32) (B : ℕ) (hB : B ≤ 1408) (hB' : B % 128 = 0)
    (hp : ∀ (r : Fin 512) (l : Fin 128), p (ix2 r l) = projA i x0 x1 x2 x3 x4 r ⟨B + l.val, by have := l.isLt; omega⟩)
    (g : Vec Ideal S1x128 .f32) (gi : Fin 2) (hg : ∀ k : Fin 128, g (ix2 0 k) = x5 (ix2 gi k)) (r : Fin 512) (l : Fin 128) :
    (nrV (k0_pay11 (View.ld x7 r0_4)) (k0_pay12 (View.ld x8 r0_4)) (k0_pay13 lanes 32#32 (Scalar.cmpi .eq 32#32 0#32) 1#32) (k0_pay15 (View.ld x6 r0_5)) g p) (ix2 r l)
      = nrA i x0 x1 x2 x3 x4 x5 x6 x7 x8 gi r ⟨B + l.val, by have := l.isLt; omega⟩ := by
  have hl := l.isLt
  refine (rotV_apply _ _ _ _ mask_first r l).trans ?_
  rw [yV_apply, yV_apply]
  refine (nrS_congr (P' := fun k => projA i x0 x1 x2 x3 x4 r ⟨128 * ((B + l.val) / 128) + k.val, by have := k.isLt; omega⟩) (cs := fun k => (k0_pay11 (View.ld x7 r0_4)) (ix2 r k)) (sn := fun k => (k0_pay12 (View.ld x8 r0_4)) (ix2 r k)) (fun k => ?_) (ld_gm x6) hg (ld_cs x7 r) (ld_sn x8 r) l).trans ?_
  · refine (hp r k).trans (congrArg (projA i x0 x1 x2 x3 x4 r) (Fin.ext ?_))
    show B + k.val = 128 * ((B + l.val) / 128) + k.val
    omega
  · unfold nrA
    exact congrArg (nrS _ _ _ _ _) (Fin.ext (by show l.val = (B + l.val) % 128; omega))

/-- The block of q. -/
def blk9 : Vec Ideal S512x1024 .bf16 :=
  fun y => (nrA i x0 x1 x2 x3 x4 x5 x6 x7 x8 0 (y 0) ⟨(y 1).val, by have h : (y 1).val < 1024 := (y 1).isLt; omega⟩ * Ideal.ofBits .f32 0x3E000000#32 : EReal)
/-- The block of k, each head twice. -/
def blk10 : Vec Ideal S512x512 .bf16 :=
  fun y => (nrA i x0 x1 x2 x3 x4 x5 x6 x7 x8 1 (y 0) ⟨1024 + 64 * ((y 1).val / 128) + (y 1).val % 64, by have h : (y 1).val < 512 := (y 1).isLt; omega⟩ : EReal)
/-- The block of v, each head twice. -/
def blk11 : Vec Ideal S512x512 .bf16 :=
  fun y => (projA i x0 x1 x2 x3 x4 (y 0) ⟨1280 + 64 * ((y 1).val / 128) + (y 1).val % 64, by have h : (y 1).val < 512 := (y 1).isLt; omega⟩ : EReal)

theorem piece9 (X : FVec Ideal S512x128 .f32) (B : ℕ) (hB : B ≤ 896)
    (hX : ∀ (r : Fin 512) (l : Fin 128), X (ix2 r l) = nrA i x0 x1 x2 x3 x4 x5 x6 x7 x8 0 r ⟨B + l.val, by have := l.isLt; omega⟩) (x : S512x128.Idx) (y : S512x1024.Idx)
    (h0 : (y 0).val = (x 0).val) (h1 : (y 1).val = B + (x 1).val) : qV X x = blk9 i x0 x1 x2 x3 x4 x5 x6 x7 x8 y := by
  obtain ⟨r, c, rfl⟩ : ∃ (r : Fin 512) (c : Fin 128), x = ix2 r c := ⟨x 0, x 1, eq_ix2 x⟩
  have hc := c.isLt
  obtain ⟨R, C, rfl⟩ : ∃ (R : Fin 512) (C : Fin 1024), y = ix2 R C := ⟨y 0, y 1, eq_ix2 y⟩
  obtain rfl : R = r := Fin.ext h0
  refine (qV_apply X R c).trans (congrArg (fun t : EReal => t * _) ((hX R c).trans ?_))
  exact congrArg (nrA i x0 x1 x2 x3 x4 x5 x6 x7 x8 0 R) (Fin.ext h1.symm)

theorem piece10a (X : FVec Ideal S512x128 .f32) (h : ℕ) (hB : h ≤ 1)
    (hX : ∀ (r : Fin 512) (l : Fin 128), X (ix2 r l) = nrA i x0 x1 x2 x3 x4 x5 x6 x7 x8 1 r ⟨1024 + 128 * h + l.val, by have := l.isLt; omega⟩) (x : S512x128.Idx) (y : S512x512.Idx)
    (h0 : (y 0).val = (x 0).val) (h1 : (y 1).val = 256 * h + (x 1).val) : wideA X (k0_pay14 lanes) x = blk10 i x0 x1 x2 x3 x4 x5 x6 x7 x8 y := by
  obtain ⟨r, c, rfl⟩ : ∃ (r : Fin 512) (c : Fin 128), x = ix2 r c := ⟨x 0, x 1, eq_ix2 x⟩
  have hc := c.isLt
  obtain ⟨R, C, rfl⟩ : ∃ (R : Fin 512) (C : Fin 512), y = ix2 R C := ⟨y 0, y 1, eq_ix2 y⟩
  obtain rfl : R = r := Fin.ext h0
  have h1' : C.val = 256 * h + c.val := h1
  refine (wideA_apply X _ mask_low R c).trans ((hX R _).trans ?_)
  exact congrArg (nrA i x0 x1 x2 x3 x4 x5 x6 x7 x8 1 R) (Fin.ext (by show 1024 + 128 * h + c.val % 64 = 1024 + 64 * (C.val / 128) + C.val % 64; omega))

theorem piece10b (X : FVec Ideal S512x128 .f32) (h : ℕ) (hB : h ≤ 1)
    (hX : ∀ (r : Fin 512) (l : Fin 128), X (ix2 r l) = nrA i x0 x1 x2 x3 x4 x5 x6 x7 x8 1 r ⟨1024 + 128 * h + l.val, by have := l.isLt; omega⟩) (x : S512x128.Idx) (y : S512x512.Idx)
    (h0 : (y 0).val = (x 0).val) (h1 : (y 1).val = 256 * h + 128 + (x 1).val) : wideB X (k0_pay14 lanes) x = blk10 i x0 x1 x2 x3 x4 x5 x6 x7 x8 y := by
  obtain ⟨r, c, rfl⟩ : ∃ (r : Fin 512) (c : Fin 128), x = ix2 r c := ⟨x 0, x 1, eq_ix2 x⟩
  have hc := c.isLt
  obtain ⟨R, C, rfl⟩ : ∃ (R : Fin 512) (C : Fin 512), y = ix2 R C := ⟨y 0, y 1, eq_ix2 y⟩
  obtain rfl : R = r := Fin.ext h0
  have h1' : C.val = 256 * h + 128 + c.val := h1
  refine (wideB_apply X _ mask_low R c).trans ((hX R _).trans ?_)
  exact congrArg (nrA i x0 x1 x2 x3 x4 x5 x6 x7 x8 1 R) (Fin.ext (by show 1024 + 128 * h + (64 + c.val % 64) = 1024 + 64 * (C.val / 128) + C.val % 64; omega))

theorem piece11a (X : FVec Ideal S512x128 .f32) (h : ℕ) (hB : h ≤ 1)
    (hX : ∀ (r : Fin 512) (l : Fin 128), X (ix2 r l) = projA i x0 x1 x2 x3 x4 r ⟨1280 + 128 * h + l.val, by have := l.isLt; omega⟩) (x : S512x128.Idx) (y : S512x512.Idx)
    (h0 : (y 0).val = (x 0).val) (h1 : (y 1).val = 256 * h + (x 1).val) : wideA X (k0_pay14 lanes) x = blk11 i x0 x1 x2 x3 x4 y := by
  obtain ⟨r, c, rfl⟩ : ∃ (r : Fin 512) (c : Fin 128), x = ix2 r c := ⟨x 0, x 1, eq_ix2 x⟩
  have hc := c.isLt
  obtain ⟨R, C, rfl⟩ : ∃ (R : Fin 512) (C : Fin 512), y = ix2 R C := ⟨y 0, y 1, eq_ix2 y⟩
  obtain rfl : R = r := Fin.ext h0
  have h1' : C.val = 256 * h + c.val := h1
  refine (wideA_apply X _ mask_low R c).trans ((hX R _).trans ?_)
  exact congrArg (projA i x0 x1 x2 x3 x4 R) (Fin.ext (by show 1280 + 128 * h + c.val % 64 = 1280 + 64 * (C.val / 128) + C.val % 64; omega))

theorem piece11b (X : FVec Ideal S512x128 .f32) (h : ℕ) (hB : h ≤ 1)
    (hX : ∀ (r : Fin 512) (l : Fin 128), X (ix2 r l) = projA i x0 x1 x2 x3 x4 r ⟨1280 + 128 * h + l.val, by have := l.isLt; omega⟩) (x : S512x128.Idx) (y : S512x512.Idx)
    (h0 : (y 0).val = (x 0).val) (h1 : (y 1).val = 256 * h + 128 + (x 1).val) : wideB X (k0_pay14 lanes) x = blk11 i x0 x1 x2 x3 x4 y := by
  obtain ⟨r, c, rfl⟩ : ∃ (r : Fin 512) (c : Fin 128), x = ix2 r c := ⟨x 0, x 1, eq_ix2 x⟩
  have hc := c.isLt
  obtain ⟨R, C, rfl⟩ : ∃ (R : Fin 512) (C : Fin 512), y = ix2 R C := ⟨y 0, y 1, eq_ix2 y⟩
  obtain rfl : R = r := Fin.ext h0
  have h1' : C.val = 256 * h + 128 + c.val := h1
  refine (wideB_apply X _ mask_low R c).trans ((hX R _).trans ?_)
  exact congrArg (projA i x0 x1 x2 x3 x4 R) (Fin.ext (by show 1280 + 128 * h + (64 + c.val % 64) = 1280 + 64 * (C.val / 128) + C.val % 64; omega))

theorem out9_eq (y : S512x1024.Idx) : out0_9 i x0 x1 x2 x3 x4 x5 x6 x7 x8 y = blk9 i x0 x1 x2 x3 x4 x5 x6 x7 x8 y := by
  unfold_out out0_9
  refine View.canon_apply_of_pieces (blk9 i x0 x1 x2 x3 x4 x5 x6 x7 x8) _ ?_ y (cover0_9 _ _ _ _ _ _ _ _ y)
  simp only [List.forall_mem_cons, List.not_mem_nil, false_implies, implies_true, and_true]
  refine ⟨?_, ?_, ?_, ?_, ?_, ?_, ?_, ?_⟩
  · exact fun x => (congrFun (pay38_eq _ _ _ _ _ _ _) x).trans (piece9 i x0 x1 x2 x3 x4 x5 x6 x7 x8 _ 896 (by decide) (nrV_apply i x0 x1 x2 x3 x4 x5 x6 x7 x8 _ 896 (by decide) (by decide) (fun r l => p_hi i x0 x1 x2 x3 x4 768 _ r l (by have := l.isLt; omega)) _ 0 (ld_g0 x5)) x _ (by show 0 + 1 * (x 0).val = _; omega) (by show 896 + 1 * (x 1).val = _; omega))
  · exact fun x => (congrFun (pay34_eq _ _ _ _ _ _ _) x).trans (piece9 i x0 x1 x2 x3 x4 x5 x6 x7 x8 _ 768 (by decide) (nrV_apply i x0 x1 x2 x3 x4 x5 x6 x7 x8 _ 768 (by decide) (by decide) (fun r l => p_lo i x0 x1 x2 x3 x4 768 _ r l (by have := l.isLt; omega)) _ 0 (ld_g0 x5)) x _ (by show 0 + 1 * (x 0).val = _; omega) (by show 768 + 1 * (x 1).val = _; omega))
  · exact fun x => (congrFun (pay32_eq _ _ _ _ _ _ _) x).trans (piece9 i x0 x1 x2 x3 x4 x5 x6 x7 x8 _ 640 (by decide) (nrV_apply i x0 x1 x2 x3 x4 x5 x6 x7 x8 _ 640 (by decide) (by decide) (fun r l => p_hi i x0 x1 x2 x3 x4 512 _ r l (by have := l.isLt; omega)) _ 0 (ld_g0 x5)) x _ (by show 0 + 1 * (x 0).val = _; omega) (by show 640 + 1 * (x 1).val = _; omega))
  · exact fun x => (congrFun (pay28_eq _ _ _ _ _ _ _) x).trans (piece9 i x0 x1 x2 x3 x4 x5 x6 x7 x8 _ 512 (by decide) (nrV_apply i x0 x1 x2 x3 x4 x5 x6 x7 x8 _ 512 (by decide) (by decide) (fun r l => p_lo i x0 x1 x2 x3 x4 512 _ r l (by have := l.isLt; omega)) _ 0 (ld_g0 x5)) x _ (by show 0 + 1 * (x 0).val = _; omega) (by show 512 + 1 * (x 1).val = _; omega))
  · exact fun x => (congrFun (pay25_eq _ _ _ _ _ _ _) x).trans (piece9 i x0 x1 x2 x3 x4 x5 x6 x7 x8 _ 384 (by decide) (nrV_apply i x0 x1 x2 x3 x4 x5 x6 x7 x8 _ 384 (by decide) (by decide) (fun r l => p_hi i x0 x1 x2 x3 x4 256 _ r l (by have := l.isLt; omega)) _ 0 (ld_g0 x5)) x _ (by show 0 + 1 * (x 0).val = _; omega) (by show 384 + 1 * (x 1).val = _; omega))
  · exact fun x => (congrFun (pay24_eq _ _ _ _ _ _ _) x).trans (piece9 i x0 x1 x2 x3 x4 x5 x6 x7 x8 _ 256 (by decide) (nrV_apply i x0 x1 x2 x3 x4 x5 x6 x7 x8 _ 256 (by decide) (by decide) (fun r l => p_lo i x0 x1 x2 x3 x4 256 _ r l (by have := l.isLt; omega)) _ 0 (ld_g0 x5)) x _ (by show 0 + 1 * (x 0).val = _; omega) (by show 256 + 1 * (x 1).val = _; omega))
  · exact fun x => (congrFun (pay19_eq _ _ _ _ _ _) x).trans (piece9 i x0 x1 x2 x3 x4 x5 x6 x7 x8 _ 128 (by decide) (nrV_apply i x0 x1 x2 x3 x4 x5 x6 x7 x8 _ 128 (by decide) (by decide) (fun r l => p_hi i x0 x1 x2 x3 x4 0 _ r l (by have := l.isLt; omega)) _ 0 (ld_g0 x5)) x _ (by show 0 + 1 * (x 0).val = _; omega) (by show 128 + 1 * (x 1).val = _; omega))
  · exact fun x => (congrFun (pay18_eq _ _ _ _ _ _ _ _ _ _) x).trans (piece9 i x0 x1 x2 x3 x4 x5 x6 x7 x8 _ 0 (by decide) (nrV_apply i x0 x1 x2 x3 x4 x5 x6 x7 x8 _ 0 (by decide) (by decide) (fun r l => p_lo i x0 x1 x2 x3 x4 0 _ r l (by have := l.isLt; omega)) _ 0 (ld_g0 x5)) x _ (by show 0 + 1 * (x 0).val = _; omega) (by show 0 + 1 * (x 1).val = _; omega))

theorem out10_eq (y : S512x512.Idx) : out0_10 i x0 x1 x2 x3 x4 x5 x6 x7 x8 y = blk10 i x0 x1 x2 x3 x4 x5 x6 x7 x8 y := by
  unfold_out out0_10
  refine View.canon_apply_of_pieces (blk10 i x0 x1 x2 x3 x4 x5 x6 x7 x8) _ ?_ y (cover0_10 _ _ _ _ y)
  simp only [List.forall_mem_cons, List.not_mem_nil, false_implies, implies_true, and_true]
  refine ⟨?_, ?_, ?_, ?_⟩
  · exact fun x => (congrFun (pay48_eq _ _ _ _ _ _ _ _) x).trans (piece10b i x0 x1 x2 x3 x4 x5 x6 x7 x8 _ 1 (by decide) (nrV_apply i x0 x1 x2 x3 x4 x5 x6 x7 x8 _ 1152 (by decide) (by decide) (fun r l => p_hi i x0 x1 x2 x3 x4 1024 _ r l (by have := l.isLt; omega)) _ 1 (ld_g1 x5)) x _ (by show 0 + 1 * (x 0).val = _; omega) (by show 384 + 1 * (x 1).val = _; omega))
  · exact fun x => (congrFun (pay47_eq _ _ _ _ _ _ _ _) x).trans (piece10a i x0 x1 x2 x3 x4 x5 x6 x7 x8 _ 1 (by decide) (nrV_apply i x0 x1 x2 x3 x4 x5 x6 x7 x8 _ 1152 (by decide) (by decide) (fun r l => p_hi i x0 x1 x2 x3 x4 1024 _ r l (by have := l.isLt; omega)) _ 1 (ld_g1 x5)) x _ (by show 0 + 1 * (x 0).val = _; omega) (by show 256 + 1 * (x 1).val = _; omega))
  · exact fun x => (congrFun (pay44_eq _ _ _ _ _ _ _ _) x).trans (piece10b i x0 x1 x2 x3 x4 x5 x6 x7 x8 _ 0 (by decide) (nrV_apply i x0 x1 x2 x3 x4 x5 x6 x7 x8 _ 1024 (by decide) (by decide) (fun r l => p_lo i x0 x1 x2 x3 x4 1024 _ r l (by have := l.isLt; omega)) _ 1 (ld_g1 x5)) x _ (by show 0 + 1 * (x 0).val = _; omega) (by show 128 + 1 * (x 1).val = _; omega))
  · exact fun x => (congrFun (pay43_eq _ _ _ _ _ _ _ _) x).trans (piece10a i x0 x1 x2 x3 x4 x5 x6 x7 x8 _ 0 (by decide) (nrV_apply i x0 x1 x2 x3 x4 x5 x6 x7 x8 _ 1024 (by decide) (by decide) (fun r l => p_lo i x0 x1 x2 x3 x4 1024 _ r l (by have := l.isLt; omega)) _ 1 (ld_g1 x5)) x _ (by show 0 + 1 * (x 0).val = _; omega) (by show 0 + 1 * (x 1).val = _; omega))

theorem out11_eq (y : S512x512.Idx) : out0_11 i x0 x1 x2 x3 x4 x5 x6 x7 x8 y = blk11 i x0 x1 x2 x3 x4 y := by
  unfold_out out0_11
  refine View.canon_apply_of_pieces (blk11 i x0 x1 x2 x3 x4) _ ?_ y (cover0_11 _ _ _ _ y)
  simp only [List.forall_mem_cons, List.not_mem_nil, false_implies, implies_true, and_true]
  refine ⟨?_, ?_, ?_, ?_⟩
  · exact fun x => (congrFun (pay9_eq _ _ _) x).trans (piece11b i x0 x1 x2 x3 x4 _ 1 (by decide) (fun r l => p_hi i x0 x1 x2 x3 x4 1280 _ r l (by have := l.isLt; omega)) x _ (by show 0 + 1 * (x 0).val = _; omega) (by show 384 + 1 * (x 1).val = _; omega))
  · exact fun x => (congrFun (pay8_eq _ _ _) x).trans (piece11a i x0 x1 x2 x3 x4 _ 1 (by decide) (fun r l => p_hi i x0 x1 x2 x3 x4 1280 _ r l (by have := l.isLt; omega)) x _ (by show 0 + 1 * (x 0).val = _; omega) (by show 256 + 1 * (x 1).val = _; omega))
  · exact fun x => (congrFun (pay5_eq _ _ _) x).trans (piece11b i x0 x1 x2 x3 x4 _ 0 (by decide) (fun r l => p_lo i x0 x1 x2 x3 x4 1280 _ r l (by have := l.isLt; omega)) x _ (by show 0 + 1 * (x 0).val = _; omega) (by show 128 + 1 * (x 1).val = _; omega))
  · exact fun x => (congrFun (pay4_eq _ _ _) x).trans (piece11a i x0 x1 x2 x3 x4 _ 0 (by decide) (fun r l => p_lo i x0 x1 x2 x3 x4 1280 _ r l (by have := l.isLt; omega)) x _ (by show 0 + 1 * (x 0).val = _; omega) (by show 0 + 1 * (x 1).val = _; omega))

end pieces

end Cert.Kernel4Ideal.Ap

end
-- ==== Proof.ApHost.lean ====
module
public import proofs.«01_k».proof.Proof.ApBody
public import proofs.«01_k».proof.Proof.PjFinal
public import Idealize.ShloMosaic.Lib.StableHlo.RunRead

@[expose] public section

/-! The tables the attention's projection is given: the heads' gains, the matrix that takes the mean over a head, and the
cosines and sines of the positions' angles. -/

noncomputable section

namespace Cert.Kernel4Ideal.Ap

open Cert.Kernel4Ideal Cert.Kernel4Ideal.Gen Idealize.ShloMosaic Idealize.ShloMosaic.TcCoe Idealize.ShloMosaic.Tactic Idealize.SL.Sem
open Cert.Kernel2Ideal.Pj (idx_eq_ix2 idx_eq_ix3)
open scoped BigOperators

theorem idx_eq_ix1 {a : ℕ} (y : Shape.Idx ⟨1, ![a]⟩) (R : Fin a) (h0 : (y 0).val = R.val) : y = ix1 R :=
  funext fun x => match x with | ⟨0, _⟩ => Fin.ext h0

/-! ## The angles -/

/-- The row of each of a sequence's 8192 positions. -/
def hRow : FVec Ideal S8192 .f32 :=
  shapeCast S8192 (broadcastInDim S128x64 ![0] bcast_S128_S128x64_0 (sitofp (F := Ideal) .f32 (iotaInDim S128 32 0))) shapeCasts_S128x64_S8192

/-- The column. -/
def hCol : FVec Ideal S8192 .f32 :=
  shapeCast S8192 (broadcastInDim S128x64 ![0, 1] bcast_S1x64_S128x64_0_1 (shapeCast S1x64 (sitofp (F := Ideal) .f32 (iotaInDim S64 32 0)) shapeCasts_S64_S1x64))
    shapeCasts_S128x64_S8192

/-- The sixteen frequencies. -/
def hInv : FVec Ideal S16 .f32 :=
  Host.powf (broadcastInDim S16 ![] bcast_S_S16 (constant (F := Ideal) S_ .f32 0x461C4000#32))
    (Host.divf (Host.negf (sitofp (F := Ideal) .f32 (iotaInDim S16 32 0))) (broadcastInDim S16 ![] bcast_S_S16 (constant (F := Ideal) S_ .f32 0x41800000#32)))

/-- Positions times frequencies. -/
def hAng (p : FVec Ideal S8192 .f32) : FVec Ideal S8192x16 .f32 :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 hInv))

/-- The angle of position `n`: axis 0 turns by the row, axis 1 by the column. -/
def ang (n : Fin 8192) (ax : Fin 2) (f : Fin 16) : EReal := if ax.val = 0 then hAng hRow (ix2 n f) else hAng hCol (ix2 n f)

/-- The four pieces of a head's 64 lanes. -/
abbrev hAparts : List ((s : Shape) × FVec Ideal s .f32) := [⟨S8192x16, hAng hRow⟩, ⟨S8192x16, hAng hRow⟩, ⟨S8192x16, hAng hCol⟩, ⟨S8192x16, hAng hCol⟩]

/-- The angles of a head's 64 lanes. -/
def hA : FVec Ideal S8192x64 .f32 :=
  concatenate S8192x64 1 [⟨S8192x16, hAng hRow⟩, ⟨S8192x16, hAng hRow⟩, ⟨S8192x16, hAng hCol⟩, ⟨S8192x16, hAng hCol⟩]
    concatenates_S8192x16_S8192x16_S8192x16_S8192x16_S8192x64_d1

/-- A head's lanes twice over. -/
def tile (X : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 X shapeCasts_S8192x64_S1x8192x1x64))
    shapeCasts_S1x8192x2x64_S8192x128

theorem tile_apply (X : FVec Ideal S8192x64 .f32) (n : Fin 8192) (l : Fin 128) : tile X (ix2 n l) = X (ix2 n ⟨l.val % 64, by omega⟩) := by
  unfold tile
  have hn := n.isLt
  have hl := l.isLt
  refine (shapeCast_apply (t := S8192x128) (s := S1x8192x2x64) _ _ _ (ix4 0 n ⟨l.val / 64, by omega⟩ ⟨l.val % 64, by omega⟩) ?_).trans ?_
  · rw [Shape.rowMajor_val_four, Shape.rowMajor_val_two]
    show ((0 * 8192 + n.val) * 2 + l.val / 64) * 64 + l.val % 64 = n.val * 128 + l.val
    omega
  refine (broadcastInDim_apply _ bcast_S1x8192x1x64_S1x8192x2x64_0_1_2_3 _ _ (ix4 0 n 0 ⟨l.val % 64, by omega⟩) (fun a => match a with
    | ⟨0, _⟩ => ?_ | ⟨1, _⟩ => ?_ | ⟨2, _⟩ => ?_ | ⟨3, _⟩ => ?_)).trans ?_
  · show 0 = if (1 : Nat) = 1 then 0 else 0
    rfl
  · show n.val = if (8192 : Nat) = 1 then 0 else n.val
    rw [if_neg (by decide)]
  · show 0 = if (1 : Nat) = 1 then 0 else l.val / 64
    rw [if_pos rfl]
  · show l.val % 64 = if (64 : Nat) = 1 then 0 else l.val % 64
    rw [if_neg (by decide)]
  refine shapeCast_apply (t := S1x8192x1x64) (s := S8192x64) _ _ _ _ ?_
  rw [Shape.rowMajor_val_four, Shape.rowMajor_val_two]
  show n.val * 64 + l.val % 64 = ((0 * 8192 + n.val) * 1 + 0) * 64 + l.val % 64
  omega

theorem hA_apply (n : Fin 8192) (d : Fin 64) : (hA (ix2 n d) : EReal) = ang n ⟨d.val / 32, by omega⟩ ⟨d.val % 16, by omega⟩ := by
  have hd := d.isLt
  unfold hA
  unfold ang
  rcases (by omega : d.val < 16 ∨ (16 ≤ d.val ∧ d.val < 32) ∨ (32 ≤ d.val ∧ d.val < 48) ∨ 48 ≤ d.val) with h | h | h | h
  · refine (concatenate_apply_piece (t := S8192x64) 1 hAparts concatenates_S8192x16_S8192x16_S8192x16_S8192x16_S8192x64_d1 (ix2 n d) 0 (by show 0 < 4; decide) S8192x16 (hAng hRow) rfl rfl 0 rfl
      (ix2 n ⟨d.val - 0, by omega⟩) (fun b hb => match b with | ⟨0, _⟩ => rfl | ⟨1, _⟩ => absurd rfl hb) (by show 0 + (d.val - 0) = d.val; omega)).trans ?_
    exact Eq.trans (congrArg (hAng hRow) (idx_eq_ix2 _ n _ rfl (by show d.val - 0 = d.val % 16; omega))) (if_pos (by show d.val / 32 = 0; omega)).symm
  · refine (concatenate_apply_piece (t := S8192x64) 1 hAparts concatenates_S8192x16_S8192x16_S8192x16_S8192x16_S8192x64_d1 (ix2 n d) 1 (by show 1 < 4; decide) S8192x16 (hAng hRow) rfl rfl 16 rfl
      (ix2 n ⟨d.val - 16, by omega⟩) (fun b hb => match b with | ⟨0, _⟩ => rfl | ⟨1, _⟩ => absurd rfl hb) (by show 16 + (d.val - 16) = d.val; omega)).trans ?_
    exact Eq.trans (congrArg (hAng hRow) (idx_eq_ix2 _ n _ rfl (by show d.val - 16 = d.val % 16; omega))) (if_pos (by show d.val / 32 = 0; omega)).symm
  · refine (concatenate_apply_piece (t := S8192x64) 1 hAparts concatenates_S8192x16_S8192x16_S8192x16_S8192x16_S8192x64_d1 (ix2 n d) 2 (by show 2 < 4; decide) S8192x16 (hAng hCol) rfl rfl 32 rfl
      (ix2 n ⟨d.val - 32, by omega⟩) (fun b hb => match b with | ⟨0, _⟩ => rfl | ⟨1, _⟩ => absurd rfl hb) (by show 32 + (d.val - 32) = d.val; omega)).trans ?_
    exact Eq.trans (congrArg (hAng hCol) (idx_eq_ix2 _ n _ rfl (by show d.val - 32 = d.val % 16; omega))) (if_neg (by show ¬ d.val / 32 = 0; omega)).symm
  · refine (concatenate_apply_piece (t := S8192x64) 1 hAparts concatenates_S8192x16_S8192x16_S8192x16_S8192x16_S8192x64_d1 (ix2 n d) 3 (by show 3 < 4; decide) S8192x16 (hAng hCol) rfl rfl 48 rfl
      (ix2 n ⟨d.val - 48, by omega⟩) (fun b hb => match b with | ⟨0, _⟩ => rfl | ⟨1, _⟩ => absurd rfl hb) (by show 48 + (d.val - 48) = d.val; omega)).trans ?_
    exact Eq.trans (congrArg (hAng hCol) (idx_eq_ix2 _ n _ rfl (by show d.val - 48 = d.val % 16; omega))) (if_neg (by show ¬ d.val / 32 = 0; omega)).symm

/-! ## The signs -/

def hSgn32 : FVec Ideal S32 .f32 :=
  concatenate S32 0 [⟨S16, Host.negf (broadcastInDim S16 ![] bcast_S_S16 (constant (F := Ideal) S_ .f32 0x3F800000#32))⟩,
    ⟨S16, broadcastInDim S16 ![] bcast_S_S16 (constant (F := Ideal) S_ .f32 0x3F800000#32)⟩] concatenates_S16_S16_S32_d0

def hSgn : FVec Ideal S64 .f32 :=
  shapeCast S64 (broadcastInDim S2x32 ![0, 1] bcast_S1x32_S2x32_0_1 (shapeCast S1x32 hSgn32 shapeCasts_S32_S1x32)) shapeCasts_S2x32_S64

theorem hSgn32_apply (k : Fin 32) : (hSgn32 (ix1 k) : EReal) = if k.val < 16 then -1 else 1 := by
  have hk := k.isLt
  unfold hSgn32
  by_cases h : k.val < 16
  · rw [if_pos h]
    refine (concatenate_pair_apply_left (t := S32) (s₁ := S16) (s₂ := S16) 0 _ _ concatenates_S16_S16_S32_d0 (ix1 k) rfl
      (ix1 ⟨k.val, h⟩) (fun x => match x with | ⟨0, _⟩ => rfl)).trans ?_
    exact congrArg (fun x : EReal => -x) Ideal.ofBits_one_f32
  · rw [if_neg h]
    refine (concatenate_pair_apply_right (t := S32) (s₁ := S16) (s₂ := S16) 0 _ _ concatenates_S16_S16_S32_d0 (ix1 k) rfl rfl
      (ix1 ⟨k.val - 16, by omega⟩) (fun x hx => match x with | ⟨0, _⟩ => absurd rfl hx) (by show k.val - 16 + 16 = k.val; omega)).trans ?_
    exact Ideal.ofBits_one_f32

theorem hSgn_apply (d : Fin 64) : (hSgn (ix1 d) : EReal) = if d.val % 32 < 16 then -1 else 1 := by
  have hd := d.isLt
  unfold hSgn
  refine (shapeCast_apply (t := S64) (s := S2x32) _ _ _ (ix2 ⟨d.val / 32, by omega⟩ ⟨d.val % 32, by omega⟩) ?_).trans ?_
  · rw [Shape.rowMajor_val_two, Shape.rowMajor_val_one]
    show d.val / 32 * 32 + d.val % 32 = d.val
    omega
  refine (broadcastInDim_apply _ bcast_S1x32_S2x32_0_1 _ _ (ix2 0 ⟨d.val % 32, by omega⟩) (fun a => match a with
    | ⟨0, _⟩ => ?_ | ⟨1, _⟩ => ?_)).trans ?_
  · show 0 = if (1 : Nat) = 1 then 0 else d.val / 32
    rw [if_pos rfl]
  · show d.val % 32 = if (32 : Nat) = 1 then 0 else d.val % 32
    rw [if_neg (by decide)]
  refine (shapeCast_apply (t := S1x32) (s := S32) _ _ _ (ix1 ⟨d.val % 32, by omega⟩) ?_).trans (hSgn32_apply _)
  rw [Shape.rowMajor_val_two, Shape.rowMajor_val_one]
  show d.val % 32 = 0 * 32 + d.val % 32
  omega

/-! ## The cosines and the signed sines -/

def hCos : FVec Ideal S8704x128 .f32 :=
  concatenate S8704x128 0 [⟨S8192x128, tile (Host.cos hA)⟩, ⟨S512x128, broadcastInDim S512x128 ![] bcast_S_S512x128 (constant (F := Ideal) S_ .f32 0x3F800000#32)⟩]
    concatenates_S8192x128_S512x128_S8704x128_d0

def hSinS : FVec Ideal S8192x64 .f32 :=
  mulf (Host.sin hA) (broadcastInDim S8192x64 ![0, 1] bcast_S1x64_S8192x64_0_1 (broadcastInDim S1x64 ![1] bcast_S64_S1x64_1 hSgn))

def hSin : FVec Ideal S8704x128 .f32 :=
  concatenate S8704x128 0 [⟨S8192x128, tile hSinS⟩, ⟨S512x128, broadcastInDim S512x128 ![] bcast_S_S512x128 (constant (F := Ideal) S_ .f32 0x00000000#32)⟩]
    concatenates_S8192x128_S512x128_S8704x128_d0

theorem hSinS_apply (n : Fin 8192) (d : Fin 64) : (hSinS (ix2 n d) : EReal) = (Host.sin hA (ix2 n d) : EReal) * (if d.val % 32 < 16 then -1 else 1) := by
  refine congrArg (fun x : EReal => (Host.sin hA (ix2 n d) : EReal) * x) (Eq.trans ?_ (hSgn_apply d))
  refine (broadcastInDim_apply _ bcast_S1x64_S8192x64_0_1 _ _ (ix2 0 d) (fun a => match a with
    | ⟨0, _⟩ => ?_ | ⟨1, _⟩ => ?_)).trans ?_
  · show 0 = if (1 : Nat) = 1 then 0 else n.val
    rw [if_pos rfl]
  · show d.val = if (64 : Nat) = 1 then 0 else d.val
    rw [if_neg (by decide)]
  refine broadcastInDim_apply _ bcast_S64_S1x64_1 _ _ (ix1 d) (fun a => match a with
    | ⟨0, _⟩ => ?_)
  show d.val = if (64 : Nat) = 1 then 0 else d.val
  rw [if_neg (by decide)]

/-- The cosine of an angle. -/
def cosA (n : Fin 8192) (ax : Fin 2) (f : Fin 16) : EReal := FloatOps.cos (F := Ideal) (φ := .f32) (ang n ax f)
/-- Its sine. -/
def sinA (n : Fin 8192) (ax : Fin 2) (f : Fin 16) : EReal := FloatOps.sin (F := Ideal) (φ := .f32) (ang n ax f)

theorem hCos_lo (N : Fin 8704) (l : Fin 128) (h : N.val < 8192) : (hCos (ix2 N l) : EReal) = cosA ⟨N.val, h⟩ ⟨l.val % 64 / 32, by omega⟩ ⟨l.val % 64 % 16, by omega⟩ := by
  unfold hCos
  refine (concatenate_pair_apply_left (t := S8704x128) (s₁ := S8192x128) (s₂ := S512x128) 0 _ _ concatenates_S8192x128_S512x128_S8704x128_d0 (ix2 N l) rfl
    (ix2 ⟨N.val, h⟩ l) (fun x => match x with | ⟨0, _⟩ => rfl | ⟨1, _⟩ => rfl)).trans ((tile_apply _ _ _).trans ?_)
  exact congrArg (FloatOps.cos (F := Ideal) (φ := .f32)) (hA_apply _ _)

theorem hCos_hi (N : Fin 8704) (l : Fin 128) (h : ¬ N.val < 8192) : (hCos (ix2 N l) : EReal) = 1 := by
  have hN := N.isLt
  unfold hCos
  exact (concatenate_pair_apply_right (t := S8704x128) (s₁ := S8192x128) (s₂ := S512x128) 0 _ _ concatenates_S8192x128_S512x128_S8704x128_d0 (ix2 N l) rfl rfl
    (ix2 ⟨N.val - 8192, by omega⟩ l) (fun x hx => match x with | ⟨0, _⟩ => absurd rfl hx | ⟨1, _⟩ => rfl) (by show N.val - 8192 + 8192 = N.val; omega)).trans
    Ideal.ofBits_one_f32

theorem hSin_lo (N : Fin 8704) (l : Fin 128) (h : N.val < 8192) : (hSin (ix2 N l) : EReal)
    = sinA ⟨N.val, h⟩ ⟨l.val % 64 / 32, by omega⟩ ⟨l.val % 64 % 16, by omega⟩ * (if l.val % 64 % 32 < 16 then -1 else 1) := by
  unfold hSin
  refine (concatenate_pair_apply_left (t := S8704x128) (s₁ := S8192x128) (s₂ := S512x128) 0 _ _ concatenates_S8192x128_S512x128_S8704x128_d0 (ix2 N l) rfl
    (ix2 ⟨N.val, h⟩ l) (fun x => match x with | ⟨0, _⟩ => rfl | ⟨1, _⟩ => rfl)).trans ((tile_apply _ _ _).trans ((hSinS_apply _ _).trans ?_))
  exact congrArg (fun x : EReal => FloatOps.sin (F := Ideal) (φ := .f32) x * _) (hA_apply _ _)

theorem hSin_hi (N : Fin 8704) (l : Fin 128) (h : ¬ N.val < 8192) : (hSin (ix2 N l) : EReal) = 0 := by
  have hN := N.isLt
  unfold hSin
  exact (concatenate_pair_apply_right (t := S8704x128) (s₁ := S8192x128) (s₂ := S512x128) 0 _ _ concatenates_S8192x128_S512x128_S8704x128_d0 (ix2 N l) rfl rfl
    (ix2 ⟨N.val - 8192, by omega⟩ l) (fun x hx => match x with | ⟨0, _⟩ => absurd rfl hx | ⟨1, _⟩ => rfl) (by show N.val - 8192 + 8192 = N.val; omega)).trans
    Ideal.ofBits_zero_f32

/-! ## The gains of the heads -/

/-- A head's gain twice over. -/
def hG2 (a : FVec Ideal S64 .f32) : FVec Ideal S128 .f32 :=
  shapeCast S128 (broadcastInDim S2x64 ![0, 1] bcast_S1x64_S2x64_0_1 (shapeCast S1x64 a shapeCasts_S64_S1x64)) shapeCasts_S2x64_S128

def hGain (a b : FVec Ideal S64 .f32) : FVec Ideal S2x128 .f32 :=
  concatenate S2x128 0 [⟨S1x128, broadcastInDim S1x128 ![1] bcast_S128_S1x128_1 (hG2 a)⟩, ⟨S1x128, broadcastInDim S1x128 ![1] bcast_S128_S1x128_1 (hG2 b)⟩]
    concatenates_S1x128_S1x128_S2x128_d0

theorem hG2_apply (a : FVec Ideal S64 .f32) (l : Fin 128) : hG2 a (ix1 l) = a (ix1 ⟨l.val % 64, by omega⟩) := by
  have hl := l.isLt
  unfold hG2
  refine (shapeCast_apply (t := S128) (s := S2x64) _ _ _ (ix2 ⟨l.val / 64, by omega⟩ ⟨l.val % 64, by omega⟩) ?_).trans ?_
  · rw [Shape.rowMajor_val_two, Shape.rowMajor_val_one]
    show l.val / 64 * 64 + l.val % 64 = l.val
    omega
  refine (broadcastInDim_apply _ bcast_S1x64_S2x64_0_1 _ _ (ix2 0 ⟨l.val % 64, by omega⟩) (fun a => match a with
    | ⟨0, _⟩ => ?_ | ⟨1, _⟩ => ?_)).trans ?_
  · show 0 = if (1 : Nat) = 1 then 0 else l.val / 64
    rw [if_pos rfl]
  · show l.val % 64 = if (64 : Nat) = 1 then 0 else l.val % 64
    rw [if_neg (by decide)]
  refine shapeCast_apply (t := S1x64) (s := S64) _ _ _ (ix1 ⟨l.val % 64, by omega⟩) ?_
  rw [Shape.rowMajor_val_two, Shape.rowMajor_val_one]
  show l.val % 64 = 0 * 64 + l.val % 64
  omega

theorem row_apply (X : FVec Ideal S128 .f32) (l : Fin 128) : broadcastInDim S1x128 ![1] bcast_S128_S1x128_1 X (ix2 0 l) = X (ix1 l) := by
  refine broadcastInDim_apply _ bcast_S128_S1x128_1 _ _ (ix1 l) (fun a => match a with
    | ⟨0, _⟩ => ?_)
  show l.val = if (128 : Nat) = 1 then 0 else l.val
  rw [if_neg (by decide)]

theorem hGain_0 (a b : FVec Ideal S64 .f32) (l : Fin 128) : hGain a b (ix2 0 l) = a (ix1 ⟨l.val % 64, by omega⟩) := by
  unfold hGain
  exact (concatenate_pair_apply_left (t := S2x128) (s₁ := S1x128) (s₂ := S1x128) 0 _ _ concatenates_S1x128_S1x128_S2x128_d0 (ix2 0 l) rfl
    (ix2 0 l) (fun x => match x with | ⟨0, _⟩ => rfl | ⟨1, _⟩ => rfl)).trans ((row_apply _ l).trans (hG2_apply a l))

theorem hGain_1 (a b : FVec Ideal S64 .f32) (l : Fin 128) : hGain a b (ix2 1 l) = b (ix1 ⟨l.val % 64, by omega⟩) := by
  unfold hGain
  exact (concatenate_pair_apply_right (t := S2x128) (s₁ := S1x128) (s₂ := S1x128) 0 _ _ concatenates_S1x128_S1x128_S2x128_d0 (ix2 1 l) rfl rfl
    (ix2 0 l) (fun x hx => match x with | ⟨0, _⟩ => absurd rfl hx | ⟨1, _⟩ => rfl) rfl).trans ((row_apply _ l).trans (hG2_apply b l))

/-! ## The mean over a head -/

/-- The head of each lane, down the rows. -/
def wCol : IVec S128x1 32 :=
  let x : IVec S128x1 32 := broadcastInDim S128x1 ![0] bcast_S128_S128x1_0 (iotaInDim S128 32 0)
  let k : IVec S_ 32 := constantI S_ 32 64#32
  let q : IVec S128x1 32 := Host.divsi x (broadcastInDim S128x1 ![] bcast_S_S128x1 k)
  select (andi (cmpi .ne (signi x) (broadcastInDim S128x1 ![] bcast_S_S128x1 (signi k)))
      (cmpi .ne (Host.remsi x (broadcastInDim S128x1 ![] bcast_S_S128x1 k)) (broadcastInDim S128x1 ![] bcast_S_S128x1 (constantI S_ 32 0#32))))
    (subi q (broadcastInDim S128x1 ![] bcast_S_S128x1 (constantI S_ 32 1#32))) q

/-- Across the columns. -/
def wRow : IVec S1x128 32 :=
  let x : IVec S1x128 32 := broadcastInDim S1x128 ![1] bcast_S128_S1x128_1 (iotaInDim S128 32 0)
  let k : IVec S_ 32 := constantI S_ 32 64#32
  let q : IVec S1x128 32 := Host.divsi x (broadcastInDim S1x128 ![] bcast_S_S1x128 k)
  select (andi (cmpi .ne (signi x) (broadcastInDim S1x128 ![] bcast_S_S1x128 (signi k)))
      (cmpi .ne (Host.remsi x (broadcastInDim S1x128 ![] bcast_S_S1x128 k)) (broadcastInDim S1x128 ![] bcast_S_S1x128 (constantI S_ 32 0#32))))
    (subi q (broadcastInDim S1x128 ![] bcast_S_S1x128 (constantI S_ 32 1#32))) q

theorem wCol_apply : ∀ k : Fin 128, wCol (ix2 k 0) = BitVec.ofNat 32 (k.val / 64) := by decide +kernel
theorem wRow_apply : ∀ k : Fin 128, wRow (ix2 0 k) = BitVec.ofNat 32 (k.val / 64) := by decide +kernel

def hGm : FVec Ideal S128x128 .bf16 :=
  truncf .bf16 (Host.divf (uitofp (F := Ideal) .f32 (cmpi .eq (broadcastInDim S128x128 ![0, 1] bcast_S128x1_S128x128_0_1 wCol) (broadcastInDim S128x128 ![0, 1] bcast_S1x128_S128x128_0_1 wRow)))
    (broadcastInDim S128x128 ![] bcast_S_S128x128 (constant (F := Ideal) S_ .f32 0x42800000#32))) bitsLt_bf16_f32

theorem hGm_apply (k l : Fin 128) : (hGm (ix2 k l) : EReal) = Ideal.div (if k.val / 64 = l.val / 64 then 1 else 0) (Ideal.ofBits .f32 0x42800000#32) := by
  have e1 : broadcastInDim S128x128 ![0, 1] bcast_S128x1_S128x128_0_1 wCol (ix2 k l) = BitVec.ofNat 32 (k.val / 64) := by
    refine (broadcastInDim_apply _ bcast_S128x1_S128x128_0_1 _ _ (ix2 k 0) (fun a => match a with
      | ⟨0, _⟩ => ?_ | ⟨1, _⟩ => ?_)).trans (wCol_apply k)
    · show k.val = if (128 : Nat) = 1 then 0 else k.val
      rw [if_neg (by decide)]
    · show 0 = if (1 : Nat) = 1 then 0 else l.val
      rw [if_pos rfl]
  have e2 : broadcastInDim S128x128 ![0, 1] bcast_S1x128_S128x128_0_1 wRow (ix2 k l) = BitVec.ofNat 32 (l.val / 64) := by
    refine (broadcastInDim_apply _ bcast_S1x128_S128x128_0_1 _ _ (ix2 0 l) (fun a => match a with
      | ⟨0, _⟩ => ?_ | ⟨1, _⟩ => ?_)).trans (wRow_apply l)
    · show 0 = if (1 : Nat) = 1 then 0 else k.val
      rw [if_pos rfl]
    · show l.val = if (128 : Nat) = 1 then 0 else l.val
      rw [if_neg (by decide)]
  have e3 : ∀ a b : Fin 2, (((IntOp.cmpi .eq (BitVec.ofNat 32 a.val) (BitVec.ofNat 32 b.val)).toNat : ℝ) : EReal) = if a.val = b.val then 1 else 0 := by
    intro a b
    fin_cases a <;> fin_cases b <;> simp [IntOp.cmpi]
  refine (?_ : (hGm (ix2 k l) : EReal) = Ideal.div (((IntOp.cmpi .eq (broadcastInDim S128x128 ![0, 1] bcast_S128x1_S128x128_0_1 wCol (ix2 k l))
    (broadcastInDim S128x128 ![0, 1] bcast_S1x128_S128x128_0_1 wRow (ix2 k l))).toNat : ℝ) : EReal) (Ideal.ofBits .f32 0x42800000#32)).trans ?_
  · rfl
  rw [e1, e2]
  exact congrArg (fun x : EReal => Ideal.div x _) (e3 ⟨k.val / 64, by omega⟩ ⟨l.val / 64, by omega⟩)

/-! ## These are what the kernel is given -/

variable (m : (ℓ : Loc nD τ sig) → Buf (Elt Ideal) ℓ)

theorem V_arg0 (c : Dev nD) : V m c main_arg0 = m ((c : Thread nD τ).loc main_arg0) := by unfold V; after_reads_simp
theorem V_arg1 (c : Dev nD) : V m c main_arg1 = m ((c : Thread nD τ).loc main_arg1) := by unfold V; after_reads_simp
theorem V_arg2 (c : Dev nD) : V m c main_arg2 = m ((c : Thread nD τ).loc main_arg2) := by unfold V; after_reads_simp

theorem V_v0 (c : Dev nD) : V m c main_v0 = truncf (F := Ideal) .bf16 (m ((c : Thread nD τ).loc main_arg4) : FVec Ideal S1024x1536 .f32) bitsLt_bf16_f32 := by
  unfold V
  after_reads_simp
  try rfl

theorem V_v69 (c : Dev nD) : V m c main_v69 = shapeCast S1x1024 (m ((c : Thread nD τ).loc main_arg3)) shapeCasts_S1024_S1x1024 := by
  unfold V
  after_reads_simp
  try rfl

theorem V_v9 (c : Dev nD) : V m c main_v9 = hGain (m ((c : Thread nD τ).loc main_arg5)) (m ((c : Thread nD τ).loc main_arg6)) := by
  unfold V
  after_reads_simp
  rfl

theorem V_v22 (c : Dev nD) : V m c main_v22 = hGm := by
  unfold V
  after_reads_simp
  rfl

theorem V_v66 (c : Dev nD) : V m c main_v66 = hCos := by
  unfold V
  after_reads_simp
  rfl

theorem V_v68 (c : Dev nD) : V m c main_v68 = hSin := by
  unfold V
  after_reads_simp
  rfl

end Cert.Kernel4Ideal.Ap

end
-- ==== Proof.ApHead.lean ====
module
public import proofs.«01_k».proof.Proof.ApHost
public import proofs.«01_k».proof.Proof.PjRef

@[expose] public section

/-! What the attention's projection computes: the product of the normed and modulated rows with the weights, its q and k
normed head by head and turned by their position's angles. -/

noncomputable section

namespace Cert.Kernel4Ideal.Ap

open Cert.Kernel4Ideal Cert.Kernel4Ideal.Gen Idealize.ShloMosaic Idealize.ShloMosaic.TcCoe Idealize.ShloMosaic.Tactic Idealize.SL.Sem
open Cert.Kernel2Ideal.Pj (idx_eq_ix2 idx_eq_ix3 rowOf modRow)
open scoped BigOperators

/-- The rows of the sequences, then those of the context. -/
def hcat (x : FVec Ideal S32768x1024 .f32) (c : FVec Ideal S1024x1024 .f32) : FVec Ideal S33792x1024 .f32 :=
  concatenate S33792x1024 0 [⟨S32768x1024, x⟩, ⟨S1024x1024, c⟩] Cert.Reference2Ideal.Gen.concatenates_S32768x1024_S1024x1024_S33792x1024_d0

/-- Row `R` times column `C` of the weights. -/
def pr (h : FVec Ideal S33792x1024 .f32) (md : FVec Ideal S5x6x1024 .f32) (g : FVec Ideal S1024 .f32) (w : FVec Ideal S1024x1536 .f32)
    (R : Fin 33792) (C : Fin 1536) : EReal := ∑ e : Fin 1024, rowOf h md g R e * (w (ix2 e C) : EReal)

/-- A head over its root mean square, times the gain. -/
def yh (P : Fin 64 → EReal) (g : FVec Ideal S64 .f32) (d : Fin 64) : EReal :=
  P d * Ideal.rsqrt (Ideal.div (∑ k : Fin 64, P k * P k) (Ideal.ofBits .f32 0x42800000#32) + Ideal.ofBits .f32 0x358637BD#32) * g (ix1 d)

/-- That turned: a sequence's rows by their position's angles, the context's not at all. -/
def hd (P : Fin 64 → EReal) (g : FVec Ideal S64 .f32) (R : Fin 33792) (d : Fin 64) : EReal :=
  if R.val < 32768 then
    if d.val % 32 < 16 then
      yh P g d * cosA ⟨R.val % 8192, Nat.mod_lt _ (by decide)⟩ ⟨d.val / 32, by omega⟩ ⟨d.val % 16, by omega⟩
        - yh P g ⟨(d.val + 16) % 64, by omega⟩ * sinA ⟨R.val % 8192, Nat.mod_lt _ (by decide)⟩ ⟨d.val / 32, by omega⟩ ⟨d.val % 16, by omega⟩
    else
      yh P g d * cosA ⟨R.val % 8192, Nat.mod_lt _ (by decide)⟩ ⟨d.val / 32, by omega⟩ ⟨d.val % 16, by omega⟩
        + yh P g ⟨(d.val + 48) % 64, by omega⟩ * sinA ⟨R.val % 8192, Nat.mod_lt _ (by decide)⟩ ⟨d.val / 32, by omega⟩ ⟨d.val % 16, by omega⟩
  else yh P g d

theorem hd_congr {P P' : Fin 64 → EReal} (e : ∀ k, P k = P' k) (g : FVec Ideal S64 .f32) (R : Fin 33792) (d : Fin 64) : hd P g R d = hd P' g R d := by
  obtain rfl : P = P' := funext e
  rfl

section
variable (x : FVec Ideal S32768x1024 .f32) (cx : FVec Ideal S1024x1024 .f32) (md : FVec Ideal S5x6x1024 .f32) (g : FVec Ideal S1024 .f32) (w : FVec Ideal S1024x1536 .f32)
  (qg kg : FVec Ideal S64 .f32)

/-- The first result: q, scaled by an eighth. -/
def res9 : FVec Ideal S33792x1024 .bf16 := fun y =>
  (hd (fun k => pr (hcat x cx) md g w (y 0) ⟨64 * ((y 1).val / 64) + k.val, by have h : (y 1).val < 1024 := (y 1).isLt; omega⟩) qg (y 0) ⟨(y 1).val % 64, by omega⟩
    * Ideal.ofBits .f32 0x3E000000#32 : EReal)

/-- The second: k, each head twice. -/
def res10 : FVec Ideal S33792x512 .bf16 := fun y =>
  (hd (fun k => pr (hcat x cx) md g w (y 0) ⟨1024 + 64 * ((y 1).val / 128) + k.val, by have h : (y 1).val < 512 := (y 1).isLt; omega⟩) kg (y 0) ⟨(y 1).val % 64, by omega⟩ : EReal)

/-- The third: v, each head twice. -/
def res11 : FVec Ideal S33792x512 .bf16 := fun y =>
  (pr (hcat x cx) md g w (y 0) ⟨1280 + 64 * ((y 1).val / 128) + (y 1).val % 64, by have h : (y 1).val < 512 := (y 1).isLt; omega⟩ : EReal)
end

/-! ## A pair of heads, lane by lane -/

theorem c64 : Ideal.ofBits .f32 0x42800000#32 = ((64 : ℝ) : EReal) := by
  simp [Ideal.ofBits, Ideal.ieee]
  rw [← EReal.coe_mul]
  norm_num

theorem c64_ne : Ideal.ofBits .f32 0x42800000#32 ≠ 0 := by
  rw [c64]
  norm_num

theorem sum_scale {n : ℕ} (f : Fin n → EReal) (c : ℝ) (hc : 0 ≤ c) : ∑ e, f e * (c : EReal) = (∑ e, f e) * (c : EReal) := by
  have h : ∀ s : Finset (Fin n), ∑ e ∈ s, f e * (c : EReal) = (∑ e ∈ s, f e) * (c : EReal) := by
    classical
    intro s
    induction s using Finset.induction_on with
    | empty => simp
    | insert a s ha ih =>
      rw [Finset.sum_insert ha, Finset.sum_insert ha, ih,
        EReal.right_distrib_of_nonneg_of_ne_top (by exact_mod_cast hc) (EReal.coe_ne_top c)]
  exact h Finset.univ

theorem halves (F : Fin 128 → EReal) : ∑ k : Fin 128, F k = ∑ k : Fin 64, F ⟨k.val, by omega⟩ + ∑ k : Fin 64, F ⟨64 + k.val, by omega⟩ :=
  Fin.sum_univ_add (a := 64) (b := 64) F

theorem gm_one : (Ideal.div 1 (Ideal.ofBits .f32 0x42800000#32) : EReal) = ((1 / 64 : ℝ) : EReal) := by
  rw [c64, Ideal.div_coe (by norm_num), one_mul]

/-- The product with the matrix is the mean over the lane's head. -/
theorem mean_eq (Q : Fin 128 → EReal) (l : Fin 128) : ∑ k : Fin 128, Q k * (hGm (ix2 k l) : EReal)
    = Ideal.div (∑ k : Fin 64, Q ⟨64 * (l.val / 64) + k.val, by omega⟩) (Ideal.ofBits .f32 0x42800000#32) := by
  have hl := l.isLt
  have same : ∀ k : Fin 128, k.val / 64 = l.val / 64 → Q k * (hGm (ix2 k l) : EReal) = Q k * ((1 / 64 : ℝ) : EReal) := by
    intro k hk
    rw [hGm_apply, if_pos hk, gm_one]
  have other : ∀ k : Fin 128, ¬ k.val / 64 = l.val / 64 → Q k * (hGm (ix2 k l) : EReal) = 0 := by
    intro k hk
    rw [hGm_apply, if_neg hk, Ideal.zero_div c64_ne, mul_zero]
  have last : ∀ S : EReal, S * ((1 / 64 : ℝ) : EReal) = Ideal.div S (Ideal.ofBits .f32 0x42800000#32) := fun S => by
    rw [← gm_one, Ideal.mul_one_div c64_ne]
  rw [halves]
  rcases (by omega : l.val / 64 = 0 ∨ l.val / 64 = 1) with h | h
  · rw [Finset.sum_eq_zero (f := fun k : Fin 64 => Q ⟨64 + k.val, by omega⟩ * (hGm (ix2 ⟨64 + k.val, by omega⟩ l) : EReal))
      (fun k _ => other _ (by show ¬ (64 + k.val) / 64 = _; omega)), add_zero,
      Finset.sum_congr rfl (fun k _ => same ⟨k.val, by omega⟩ (by show k.val / 64 = _; omega)), sum_scale _ _ (by norm_num), last]
    refine congrArg (fun S : EReal => Ideal.div S _) (Finset.sum_congr rfl fun k _ => congrArg Q (Fin.ext ?_))
    show k.val = 64 * (l.val / 64) + k.val
    omega
  · rw [Finset.sum_eq_zero (f := fun k : Fin 64 => Q ⟨k.val, by omega⟩ * (hGm (ix2 ⟨k.val, by omega⟩ l) : EReal))
      (fun k _ => other _ (by show ¬ k.val / 64 = _; omega)), zero_add,
      Finset.sum_congr rfl (fun k _ => same ⟨64 + k.val, by omega⟩ (by show (64 + k.val) / 64 = _; omega)), sum_scale _ _ (by norm_num), last]
    refine congrArg (fun S : EReal => Ideal.div S _) (Finset.sum_congr rfl fun k _ => congrArg Q (Fin.ext ?_))
    show 64 + k.val = 64 * (l.val / 64) + k.val
    omega

theorem yS_eq (P : Fin 128 → EReal) (g : FVec Ideal S64 .f32) (l : Fin 128) (H : ℕ) (hH : H = l.val / 64) (hH' : H < 2) (d : Fin 64) (hd : d.val = l.val % 64) :
    yS P (fun k l => hGm (ix2 k l)) (fun k => g (ix1 ⟨k.val % 64, by omega⟩)) l = yh (fun k => P ⟨64 * H + k.val, by omega⟩) g d := by
  subst hH
  have hl := l.isLt
  unfold yS yh
  rw [mean_eq (fun k => P k * P k) l]
  beta_reduce
  have e1 : P l = P ⟨64 * (l.val / 64) + d.val, by omega⟩ := congrArg P (Fin.ext (by show l.val = 64 * (l.val / 64) + d.val; omega))
  have e2 : (⟨l.val % 64, by omega⟩ : Fin 64) = d := Fin.ext hd.symm
  rw [← e1, e2]

/-- The kernel's pair of heads is each of them by itself. -/
theorem nrS_eq (P : Fin 128 → EReal) (g : FVec Ideal S64 .f32) (R : Fin 33792) (N : Fin 8704) (hlo : R.val < 32768 → N.val = R.val % 8192) (hhi : ¬ R.val < 32768 → ¬ N.val < 8192)
    (l : Fin 128) : nrS P (fun k l => hGm (ix2 k l)) (fun k => g (ix1 ⟨k.val % 64, by omega⟩)) (fun k => hCos (ix2 N k)) (fun k => hSin (ix2 N k)) l
      = hd (fun k => P ⟨64 * (l.val / 64) + k.val, by omega⟩) g R ⟨l.val % 64, by omega⟩ := by
  have hl := l.isLt
  unfold nrS hd
  beta_reduce
  have ey := yS_eq P g l (l.val / 64) rfl (by omega) ⟨l.val % 64, by omega⟩ rfl
  rw [ey]
  by_cases hR : R.val < 32768
  · have hN := hlo hR
    have hN' : N.val < 8192 := by omega
    have en : (⟨N.val, hN'⟩ : Fin 8192) = ⟨R.val % 8192, Nat.mod_lt _ (by decide)⟩ := Fin.ext hN
    rw [if_pos hR, hCos_lo N l hN', hSin_lo N l hN', en]
    by_cases h : l.val % 64 % 32 < 16
    · have hm : (mate l).val = l.val + 16 := by
        unfold mate
        rw [if_pos (by omega)]
        show (l.val + 16) % 128 = _
        omega
      rw [if_pos h, if_pos h, yS_eq P g (mate l) (l.val / 64) (by omega) (by omega) ⟨(l.val % 64 + 16) % 64, by omega⟩ (by show (l.val % 64 + 16) % 64 = _; omega)]
      rw [mul_neg, mul_one, mul_neg, sub_eq_add_neg]
    · have hm : (mate l).val = l.val - 16 := by
        unfold mate
        rw [if_neg (by omega)]
        show (l.val + 112) % 128 = _
        omega
      rw [if_neg h, if_neg h, yS_eq P g (mate l) (l.val / 64) (by omega) (by omega) ⟨(l.val % 64 + 48) % 64, by omega⟩ (by show (l.val % 64 + 48) % 64 = _; omega)]
      rw [mul_one]
  · rw [if_neg hR, hCos_hi N l (hhi hR), hSin_hi N l (hhi hR), mul_one, mul_zero, add_zero]

end Cert.Kernel4Ideal.Ap

end
-- ==== Proof.ApFinal.lean ====
module
public import proofs.«01_k».proof.Proof.ApHead

@[expose] public section

/-! The attention's projection's three result arrays are `res9`, `res10` and `res11` of the arguments: each point of the grid
writes its block of rows, and the blocks cover the arrays. -/

noncomputable section

namespace Cert.Kernel4Ideal.Ap

open Cert.Kernel4Ideal Cert.Kernel4Ideal.Gen Idealize.ShloMosaic Idealize.ShloMosaic.TcCoe Idealize.ShloMosaic.Tactic Idealize.SL.Sem Idealize.ShloMosaic.Pipeline
open Cert.Kernel2Ideal.Pj (idx_eq_ix2 idx_eq_ix3 rowOf modRow normed normed_congr)
open Cert.Reference2Ideal.Pj (cat_rows)
open scoped BigOperators

variable (m : (ℓ : Loc nD τ sig) → Buf (Elt Ideal) ℓ)

/-- Which block of its array each window holds at each point. -/
theorem idxC : ∀ t : Fin cfg0.N, (grid0.coords t 0).val = t.val := by decide +kernel
theorem idx0 : ∀ t : Fin cfg0.N, win0_0.index t 0 = min t.val 63 ∧ win0_0.index t 1 = 0 := by decide +kernel
theorem idx1 : ∀ t : Fin cfg0.N, win0_1.index t 0 = t.val - 64 ∧ win0_1.index t 1 = 0 := by decide +kernel
theorem idx2 : ∀ t : Fin cfg0.N, win0_2.index t 0 = min (t.val / 16) 4 ∧ win0_2.index t 1 = 0 ∧ win0_2.index t 2 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = (if t.val < 64 then t.val % 16 else 16) ∧ win0_7.index t 1 = 0 := by decide +kernel
theorem idx8 : ∀ t : Fin cfg0.N, win0_8.index t 0 = (if t.val < 64 then t.val % 16 else 16) ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel
theorem idx11 : ∀ t : Fin cfg0.N, win0_11.index t 0 = t.val ∧ win0_11.index t 1 = 0 := by decide +kernel

theorem read0 (X : FVec Ideal S32768x1024 .f32) (t : Fin cfg0.N) (r : Fin 512) (C : Fin 1024) (R : Fin 32768) (hR : R.val = (min t.val 63) * 512 + r.val) :
    (((cfg0.win 0).blk t).view.read (Elt Ideal) X : Vec Ideal S512x1024 .f32) (ix2 r C) = X (ix2 R C) := by
  have h0 : ((win0_0.rect t).emb (ix2 r C) 0 : Nat) = win0_0.index t 0 * 512 + r.val := Window.rect_emb_val win0_0 t (ix2 r C) 0
  have h1 : ((win0_0.rect t).emb (ix2 r C) 1 : Nat) = win0_0.index t 1 * 1024 + C.val := Window.rect_emb_val win0_0 t (ix2 r C) 1
  rw [(idx0 t).1] at h0
  rw [(idx0 t).2] at h1
  exact congrArg X (idx_eq_ix2 _ R C (h0.trans hR.symm) (h1.trans (by rw [Nat.zero_mul, Nat.zero_add])))

theorem read1 (X : FVec Ideal S1024x1024 .f32) (t : Fin cfg0.N) (r : Fin 512) (C : Fin 1024) (R : Fin 1024) (hR : R.val = (t.val - 64) * 512 + r.val) :
    (((cfg0.win 1).blk t).view.read (Elt Ideal) X : Vec Ideal S512x1024 .f32) (ix2 r C) = X (ix2 R C) := by
  have h0 : ((win0_1.rect t).emb (ix2 r C) 0 : Nat) = win0_1.index t 0 * 512 + r.val := Window.rect_emb_val win0_1 t (ix2 r C) 0
  have h1 : ((win0_1.rect t).emb (ix2 r C) 1 : Nat) = win0_1.index t 1 * 1024 + C.val := Window.rect_emb_val win0_1 t (ix2 r C) 1
  rw [(idx1 t).1] at h0
  rw [(idx1 t).2] at h1
  exact congrArg X (idx_eq_ix2 _ R C (h0.trans hR.symm) (h1.trans (by rw [Nat.zero_mul, Nat.zero_add])))

theorem read2 (X : FVec Ideal S5x6x1024 .f32) (t : Fin cfg0.N) (k : Fin 6) (C : Fin 1024) (b : Fin 5) (hb : b.val = min (t.val / 16) 4) :
    (((cfg0.win 2).blk t).view.read (Elt Ideal) X : Vec Ideal S1x6x1024 .f32) (ix3 0 k C) = X (ix3 b k C) := by
  have h0 : ((win0_2.rect t).emb (ix3 0 k C) 0 : Nat) = win0_2.index t 0 * 1 + 0 := Window.rect_emb_val win0_2 t (ix3 0 k C) 0
  have h1 : ((win0_2.rect t).emb (ix3 0 k C) 1 : Nat) = win0_2.index t 1 * 6 + k.val := Window.rect_emb_val win0_2 t (ix3 0 k C) 1
  have h2 : ((win0_2.rect t).emb (ix3 0 k C) 2 : Nat) = win0_2.index t 2 * 1024 + C.val := Window.rect_emb_val win0_2 t (ix3 0 k C) 2
  rw [(idx2 t).1] at h0
  rw [(idx2 t).2.1] at h1
  rw [(idx2 t).2.2] at h2
  exact congrArg X (idx_eq_ix3 _ b k C (h0.trans (by omega)) (h1.trans (by omega)) (h2.trans (by omega)))

theorem read3 (X : FVec Ideal S1x1024 .f32) (t : Fin cfg0.N) (e : Fin 1) (C : Fin 1024) :
    (((cfg0.win 3).blk t).view.read (Elt Ideal) X : Vec Ideal S1x1024 .f32) (ix2 e C) = X (ix2 e C) := by
  have h0 : ((win0_3.rect t).emb (ix2 e C) 0 : Nat) = win0_3.index t 0 * 1 + e.val := Window.rect_emb_val win0_3 t (ix2 e C) 0
  have h1 : ((win0_3.rect t).emb (ix2 e C) 1 : Nat) = win0_3.index t 1 * 1024 + C.val := Window.rect_emb_val win0_3 t (ix2 e C) 1
  rw [(idx3 t).1] at h0
  rw [(idx3 t).2] at h1
  exact congrArg X (idx_eq_ix2 _ e C (h0.trans (by rw [Nat.zero_mul, Nat.zero_add])) (h1.trans (by rw [Nat.zero_mul, Nat.zero_add])))

theorem read4 (X : FVec Ideal S1024x1536 .bf16) (t : Fin cfg0.N) (e : Fin 1024) (C : Fin 1536) :
    (((cfg0.win 4).blk t).view.read (Elt Ideal) X : Vec Ideal S1024x1536 .bf16) (ix2 e C) = X (ix2 e C) := by
  have h0 : ((win0_4.rect t).emb (ix2 e C) 0 : Nat) = win0_4.index t 0 * 1024 + e.val := Window.rect_emb_val win0_4 t (ix2 e C) 0
  have h1 : ((win0_4.rect t).emb (ix2 e C) 1 : Nat) = win0_4.index t 1 * 1536 + C.val := Window.rect_emb_val win0_4 t (ix2 e C) 1
  rw [(idx4 t).1] at h0
  rw [(idx4 t).2] at h1
  exact congrArg X (idx_eq_ix2 _ e C (h0.trans (by rw [Nat.zero_mul, Nat.zero_add])) (h1.trans (by rw [Nat.zero_mul, Nat.zero_add])))

theorem read5 (X : FVec Ideal S2x128 .f32) (t : Fin cfg0.N) (e : Fin 2) (C : Fin 128) :
    (((cfg0.win 5).blk t).view.read (Elt Ideal) X : Vec Ideal S2x128 .f32) (ix2 e C) = X (ix2 e C) := by
  have h0 : ((win0_5.rect t).emb (ix2 e C) 0 : Nat) = win0_5.index t 0 * 2 + e.val := Window.rect_emb_val win0_5 t (ix2 e C) 0
  have h1 : ((win0_5.rect t).emb (ix2 e C) 1 : Nat) = win0_5.index t 1 * 128 + C.val := Window.rect_emb_val win0_5 t (ix2 e C) 1
  rw [(idx5 t).1] at h0
  rw [(idx5 t).2] at h1
  exact congrArg X (idx_eq_ix2 _ e C (h0.trans (by rw [Nat.zero_mul, Nat.zero_add])) (h1.trans (by rw [Nat.zero_mul, Nat.zero_add])))

theorem read6 (X : FVec Ideal S128x128 .bf16) (t : Fin cfg0.N) (e : Fin 128) (C : Fin 128) :
    (((cfg0.win 6).blk t).view.read (Elt Ideal) X : Vec Ideal S128x128 .bf16) (ix2 e C) = X (ix2 e C) := by
  have h0 : ((win0_6.rect t).emb (ix2 e C) 0 : Nat) = win0_6.index t 0 * 128 + e.val := Window.rect_emb_val win0_6 t (ix2 e C) 0
  have h1 : ((win0_6.rect t).emb (ix2 e C) 1 : Nat) = win0_6.index t 1 * 128 + C.val := Window.rect_emb_val win0_6 t (ix2 e C) 1
  rw [(idx6 t).1] at h0
  rw [(idx6 t).2] at h1
  exact congrArg X (idx_eq_ix2 _ e C (h0.trans (by rw [Nat.zero_mul, Nat.zero_add])) (h1.trans (by rw [Nat.zero_mul, Nat.zero_add])))

theorem read7 (X : FVec Ideal S8704x128 .f32) (t : Fin cfg0.N) (r : Fin 512) (C : Fin 128) (R : Fin 8704) (hR : R.val = (if t.val < 64 then t.val % 16 else 16) * 512 + r.val) :
    (((cfg0.win 7).blk t).view.read (Elt Ideal) X : Vec Ideal S512x128 .f32) (ix2 r C) = X (ix2 R C) := by
  have h0 : ((win0_7.rect t).emb (ix2 r C) 0 : Nat) = win0_7.index t 0 * 512 + r.val := Window.rect_emb_val win0_7 t (ix2 r C) 0
  have h1 : ((win0_7.rect t).emb (ix2 r C) 1 : Nat) = win0_7.index t 1 * 128 + C.val := Window.rect_emb_val win0_7 t (ix2 r C) 1
  rw [(idx7 t).1] at h0
  rw [(idx7 t).2] at h1
  exact congrArg X (idx_eq_ix2 _ R C (h0.trans hR.symm) (h1.trans (by rw [Nat.zero_mul, Nat.zero_add])))

theorem read8 (X : FVec Ideal S8704x128 .f32) (t : Fin cfg0.N) (r : Fin 512) (C : Fin 128) (R : Fin 8704) (hR : R.val = (if t.val < 64 then t.val % 16 else 16) * 512 + r.val) :
    (((cfg0.win 8).blk t).view.read (Elt Ideal) X : Vec Ideal S512x128 .f32) (ix2 r C) = X (ix2 R C) := by
  have h0 : ((win0_8.rect t).emb (ix2 r C) 0 : Nat) = win0_8.index t 0 * 512 + r.val := Window.rect_emb_val win0_8 t (ix2 r C) 0
  have h1 : ((win0_8.rect t).emb (ix2 r C) 1 : Nat) = win0_8.index t 1 * 128 + C.val := Window.rect_emb_val win0_8 t (ix2 r C) 1
  rw [(idx8 t).1] at h0
  rw [(idx8 t).2] at h1
  exact congrArg X (idx_eq_ix2 _ R C (h0.trans hR.symm) (h1.trans (by rw [Nat.zero_mul, Nat.zero_add])))

theorem read9 (X : FVec Ideal S33792x1024 .bf16) (t : Fin cfg0.N) (r : Fin 512) (C : Fin 1024) (R : Fin 33792) (hR : R.val = (t.val) * 512 + r.val) :
    (((cfg0.win 9).blk t).view.read (Elt Ideal) X : Vec Ideal S512x1024 .bf16) (ix2 r C) = X (ix2 R C) := by
  have h0 : ((win0_9.rect t).emb (ix2 r C) 0 : Nat) = win0_9.index t 0 * 512 + r.val := Window.rect_emb_val win0_9 t (ix2 r C) 0
  have h1 : ((win0_9.rect t).emb (ix2 r C) 1 : Nat) = win0_9.index t 1 * 1024 + C.val := Window.rect_emb_val win0_9 t (ix2 r C) 1
  rw [(idx9 t).1] at h0
  rw [(idx9 t).2] at h1
  exact congrArg X (idx_eq_ix2 _ R C (h0.trans hR.symm) (h1.trans (by rw [Nat.zero_mul, Nat.zero_add])))

theorem read10 (X : FVec Ideal S33792x512 .bf16) (t : Fin cfg0.N) (r : Fin 512) (C : Fin 512) (R : Fin 33792) (hR : R.val = (t.val) * 512 + r.val) :
    (((cfg0.win 10).blk t).view.read (Elt Ideal) X : Vec Ideal S512x512 .bf16) (ix2 r C) = X (ix2 R C) := by
  have h0 : ((win0_10.rect t).emb (ix2 r C) 0 : Nat) = win0_10.index t 0 * 512 + r.val := Window.rect_emb_val win0_10 t (ix2 r C) 0
  have h1 : ((win0_10.rect t).emb (ix2 r C) 1 : Nat) = win0_10.index t 1 * 512 + C.val := Window.rect_emb_val win0_10 t (ix2 r C) 1
  rw [(idx10 t).1] at h0
  rw [(idx10 t).2] at h1
  exact congrArg X (idx_eq_ix2 _ R C (h0.trans hR.symm) (h1.trans (by rw [Nat.zero_mul, Nat.zero_add])))

theorem read11 (X : FVec Ideal S33792x512 .bf16) (t : Fin cfg0.N) (r : Fin 512) (C : Fin 512) (R : Fin 33792) (hR : R.val = (t.val) * 512 + r.val) :
    (((cfg0.win 11).blk t).view.read (Elt Ideal) X : Vec Ideal S512x512 .bf16) (ix2 r C) = X (ix2 R C) := by
  have h0 : ((win0_11.rect t).emb (ix2 r C) 0 : Nat) = win0_11.index t 0 * 512 + r.val := Window.rect_emb_val win0_11 t (ix2 r C) 0
  have h1 : ((win0_11.rect t).emb (ix2 r C) 1 : Nat) = win0_11.index t 1 * 512 + C.val := Window.rect_emb_val win0_11 t (ix2 r C) 1
  rw [(idx11 t).1] at h0
  rw [(idx11 t).2] at h1
  exact congrArg X (idx_eq_ix2 _ R C (h0.trans hR.symm) (h1.trans (by rw [Nat.zero_mul, Nat.zero_add])))

/-- The arguments on core `c`. -/
abbrev a0 (c : Dev nD) : FVec Ideal S32768x1024 .f32 := m ((c : Thread nD τ).loc main_arg0)
abbrev a1 (c : Dev nD) : FVec Ideal S1024x1024 .f32 := m ((c : Thread nD τ).loc main_arg1)
abbrev a2 (c : Dev nD) : FVec Ideal S5x6x1024 .f32 := m ((c : Thread nD τ).loc main_arg2)
abbrev a3 (c : Dev nD) : FVec Ideal S1024 .f32 := m ((c : Thread nD τ).loc main_arg3)
abbrev a4 (c : Dev nD) : FVec Ideal S1024x1536 .f32 := m ((c : Thread nD τ).loc main_arg4)
abbrev a5 (c : Dev nD) : FVec Ideal S64 .f32 := m ((c : Thread nD τ).loc main_arg5)
abbrev a6 (c : Dev nD) : FVec Ideal S64 .f32 := m ((c : Thread nD τ).loc main_arg6)

theorem blk0_apply (c : Dev nD) (t : Fin cfg0.N) (r : Fin 512) (C : Fin 1024) (R : Fin 32768) (hR : R.val = min t.val 63 * 512 + r.val) :
    (iblk m c 0 t : Vec Ideal S512x1024 .f32) (ix2 r C) = a0 m c (ix2 R C) :=
  (read0 (V m c main_arg0) t r C R hR).trans (congrFun (V_arg0 m c) _)

theorem blk1_apply (c : Dev nD) (t : Fin cfg0.N) (r : Fin 512) (C : Fin 1024) (R : Fin 1024) (hR : R.val = (t.val - 64) * 512 + r.val) :
    (iblk m c 1 t : Vec Ideal S512x1024 .f32) (ix2 r C) = a1 m c (ix2 R C) :=
  (read1 (V m c main_arg1) t r C R hR).trans (congrFun (V_arg1 m c) _)

theorem blk2_apply (c : Dev nD) (t : Fin cfg0.N) (k : Fin 6) (C : Fin 1024) (b : Fin 5) (hb : b.val = min (t.val / 16) 4) :
    (iblk m c 2 t : Vec Ideal S1x6x1024 .f32) (ix3 0 k C) = a2 m c (ix3 b k C) :=
  (read2 (V m c main_arg2) t k C b hb).trans (congrFun (V_arg2 m c) _)

theorem blk3_apply (c : Dev nD) (t : Fin cfg0.N) (C : Fin 1024) :
    (iblk m c 3 t : Vec Ideal S1x1024 .f32) (ix2 0 C) = a3 m c (ix1 C) := by
  refine (read3 (V m c main_v69) t 0 C).trans ((congrFun (V_v69 m c) _).trans ?_)
  refine shapeCast_apply (t := S1x1024) (s := S1024) _ _ _ _ ?_
  rw [Shape.rowMajor_val_one, Shape.rowMajor_val_two]
  show C.val = 0 * 1024 + C.val
  omega

theorem blk4_apply (c : Dev nD) (t : Fin cfg0.N) (e : Fin 1024) (C : Fin 1536) :
    ((iblk m c 4 t : Vec Ideal S1024x1536 .bf16) (ix2 e C) : EReal) = a4 m c (ix2 e C) :=
  (read4 (V m c main_v0) t e C).trans (congrFun (V_v0 m c) _)

theorem blk5_apply (c : Dev nD) (t : Fin cfg0.N) (e : Fin 2) (C : Fin 128) :
    (iblk m c 5 t : Vec Ideal S2x128 .f32) (ix2 e C) = hGain (a5 m c) (a6 m c) (ix2 e C) :=
  (read5 (V m c main_v9) t e C).trans (congrFun (V_v9 m c) _)

theorem blk6_apply (c : Dev nD) (t : Fin cfg0.N) (e : Fin 128) (C : Fin 128) :
    (iblk m c 6 t : Vec Ideal S128x128 .bf16) (ix2 e C) = hGm (ix2 e C) :=
  (read6 (V m c main_v22) t e C).trans (congrFun (V_v22 m c) _)

theorem blk7_apply (c : Dev nD) (t : Fin cfg0.N) (r : Fin 512) (C : Fin 128) (N : Fin 8704) (hN : N.val = (if t.val < 64 then t.val % 16 else 16) * 512 + r.val) :
    (iblk m c 7 t : Vec Ideal S512x128 .f32) (ix2 r C) = hCos (ix2 N C) :=
  (read7 (V m c main_v66) t r C N hN).trans (congrFun (V_v66 m c) _)

theorem blk8_apply (c : Dev nD) (t : Fin cfg0.N) (r : Fin 512) (C : Fin 128) (N : Fin 8704) (hN : N.val = (if t.val < 64 then t.val % 16 else 16) * 512 + r.val) :
    (iblk m c 8 t : Vec Ideal S512x128 .f32) (ix2 r C) = hSin (ix2 N C) :=
  (read8 (V m c main_v68) t r C N hN).trans (congrFun (V_v68 m c) _)

theorem hcat_lo (x : FVec Ideal S32768x1024 .f32) (cx : FVec Ideal S1024x1024 .f32) (R : Fin 33792) (C : Fin 1024) (h : R.val < 32768) :
    hcat x cx (ix2 R C) = x (ix2 ⟨R.val, h⟩ C) :=
  concatenate_pair_apply_left (t := S33792x1024) (s₁ := S32768x1024) (s₂ := S1024x1024) 0 x cx _ (ix2 R C) rfl
    (ix2 ⟨R.val, h⟩ C) (fun x => match x with | ⟨0, _⟩ => rfl | ⟨1, _⟩ => rfl)

theorem hcat_hi (x : FVec Ideal S32768x1024 .f32) (cx : FVec Ideal S1024x1024 .f32) (R : Fin 33792) (C : Fin 1024) (h : 32768 ≤ R.val) :
    hcat x cx (ix2 R C) = cx (ix2 ⟨R.val - 32768, by omega⟩ C) :=
  concatenate_pair_apply_right (t := S33792x1024) (s₁ := S32768x1024) (s₂ := S1024x1024) 0 x cx _ (ix2 R C) rfl rfl
    (ix2 ⟨R.val - 32768, by omega⟩ C) (fun x hx => match x with | ⟨0, _⟩ => absurd rfl hx | ⟨1, _⟩ => rfl)
    (by show R.val - 32768 + 32768 = R.val; omega)

/-- The rows of a point's block are the rows of the array. -/
theorem rowA_blk (c : Dev nD) (t : Fin cfg0.N) (r : Fin 512) (R : Fin 33792) (hR : R.val = t.val * 512 + r.val) (e : Fin 1024) :
    rowA (grid0.coords t) (iblk m c 0 t) (iblk m c 1 t) (iblk m c 2 t) (iblk m c 3 t) r e = rowOf (hcat (a0 m c) (a1 m c)) (a2 m c) (a3 m c) R e := by
  have ht : t.val < 66 := t.isLt
  have hr := r.isLt
  have hb : (modRow R).val = min (t.val / 16) 4 := by
    show min (R.val / 8192) 4 = _
    omega
  refine normed_congr (fun j => ?_) (fun j => blk2_apply m c t 0 j _ hb) (fun j => blk2_apply m c t 1 j _ hb) (fun j => blk3_apply m c t j) e
  rw [idxC t]
  by_cases h : t.val < 64
  · rw [if_pos h]
    exact (blk0_apply m c t r j ⟨R.val, by omega⟩ (by show R.val = _; omega)).trans (hcat_lo _ _ R j (by omega)).symm
  · rw [if_neg h]
    exact (blk1_apply m c t r j ⟨R.val - 32768, by omega⟩ (by show R.val - 32768 = _; omega)).trans (hcat_hi _ _ R j (by omega)).symm

theorem projA_blk (c : Dev nD) (t : Fin cfg0.N) (r : Fin 512) (R : Fin 33792) (hR : R.val = t.val * 512 + r.val) (C : Fin 1536) :
    projA (grid0.coords t) (iblk m c 0 t) (iblk m c 1 t) (iblk m c 2 t) (iblk m c 3 t) (iblk m c 4 t) r C = pr (hcat (a0 m c) (a1 m c)) (a2 m c) (a3 m c) (a4 m c) R C := by
  refine Finset.sum_congr rfl fun e _ => ?_
  rw [rowA_blk m c t r R hR e]
  exact congrArg (fun x : EReal => _ * x) (blk4_apply m c t e C)

/-- A lane of the block's normed and turned heads. -/
theorem nrA_blk (c : Dev nD) (t : Fin cfg0.N) (r : Fin 512) (R : Fin 33792) (hR : R.val = t.val * 512 + r.val) (gi : Fin 2) (g : FVec Ideal S64 .f32)
    (hg : ∀ l : Fin 128, hGain (a5 m c) (a6 m c) (ix2 gi l) = g (ix1 ⟨l.val % 64, by omega⟩)) (C : Fin 1536) (B : ℕ) (hB : B + 64 ≤ 1536) (hBC : B = 64 * (C.val / 64)) (d : Fin 64)
    (hd' : d.val = C.val % 64) :
    nrA (grid0.coords t) (iblk m c 0 t) (iblk m c 1 t) (iblk m c 2 t) (iblk m c 3 t) (iblk m c 4 t) (iblk m c 5 t) (iblk m c 6 t) (iblk m c 7 t) (iblk m c 8 t) gi r C
      = hd (fun k => pr (hcat (a0 m c) (a1 m c)) (a2 m c) (a3 m c) (a4 m c) R ⟨B + k.val, by omega⟩) g R d := by
  have ht : t.val < 66 := t.isLt
  have hr := r.isLt
  have hC := C.isLt
  obtain ⟨N, hN⟩ : ∃ N : Fin 8704, N.val = (if t.val < 64 then t.val % 16 else 16) * 512 + r.val :=
    ⟨⟨(if t.val < 64 then t.val % 16 else 16) * 512 + r.val, by split_ifs <;> omega⟩, rfl⟩
  unfold nrA
  refine (nrS_congr (P' := fun k => pr (hcat (a0 m c) (a1 m c)) (a2 m c) (a3 m c) (a4 m c) R ⟨128 * (C.val / 128) + k.val, by omega⟩)
    (gm' := fun k l => hGm (ix2 k l)) (g' := fun k => g (ix1 ⟨k.val % 64, by omega⟩)) (cs' := fun k => hCos (ix2 N k)) (sn' := fun k => hSin (ix2 N k))
    (fun k => projA_blk m c t r R hR _) (fun k l => blk6_apply m c t k l) (fun k => (blk5_apply m c t gi k).trans (hg k)) (fun k => blk7_apply m c t r k N hN)
    (fun k => blk8_apply m c t r k N hN) _).trans ?_
  refine (nrS_eq _ g R N (fun h => ?_) (fun h => ?_) _).trans ?_
  · rw [hN, if_pos (by omega)]
    omega
  · rw [hN, if_neg (by omega)]
    omega
  · have ed : (⟨C.val % 128 % 64, by omega⟩ : Fin 64) = d := Fin.ext (by show C.val % 128 % 64 = d.val; omega)
    refine (hd_congr (fun k => ?_) g R _).trans (congrArg (hd _ g R) ed)
    exact congrArg (pr _ _ _ _ R) (Fin.ext (by show 128 * (C.val / 128) + (64 * (C.val % 128 / 64) + k.val) = B + k.val; omega))

/-! ## The arrays -/

abbrev r9 (c : Dev nD) : FVec Ideal S33792x1024 .bf16 := res9 (a0 m c) (a1 m c) (a2 m c) (a3 m c) (a4 m c) (a5 m c)
abbrev r10 (c : Dev nD) : FVec Ideal S33792x512 .bf16 := res10 (a0 m c) (a1 m c) (a2 m c) (a3 m c) (a4 m c) (a6 m c)
abbrev r11 (c : Dev nD) : FVec Ideal S33792x512 .bf16 := res11 (a0 m c) (a1 m c) (a2 m c) (a3 m c) (a4 m c)

theorem flushed_9 (c : Dev nD) (t : Fin cfg0.N) : (dats m 0 c).flushed 9 t = ((cfg0.win 9).blk t).view.read (Elt Ideal) (r9 m c) := by
  rw [Value.flushed9]
  have key : ∀ y : S512x1024.Idx, out0_9 (grid0.coords t) (iblk m c 0 t) (iblk m c 1 t) (iblk m c 2 t) (iblk m c 3 t) (iblk m c 4 t) (iblk m c 5 t) (iblk m c 6 t) (iblk m c 7 t) (iblk m c 8 t) y
      = (((cfg0.win 9).blk t).view.read (Elt Ideal) (r9 m c) : Vec Ideal S512x1024 .bf16) y := by
    intro y
    have ht : t.val < 66 := t.isLt
    obtain ⟨r, C, rfl⟩ : ∃ (r : Fin 512) (C : Fin 1024), y = ix2 r C := ⟨y 0, y 1, eq_ix2 y⟩
    have hr := r.isLt
    have hC := C.isLt
    rw [out9_eq, read9 (r9 m c) t r C ⟨t.val * 512 + r.val, by omega⟩ rfl]
    exact congrArg (fun x : EReal => x * Ideal.ofBits .f32 0x3E000000#32) (nrA_blk m c t r ⟨t.val * 512 + r.val, by omega⟩ rfl 0 (a5 m c) (hGain_0 _ _) ⟨C.val, by omega⟩ (64 * (C.val / 64)) (by omega) rfl ⟨C.val % 64, by omega⟩ rfl)
  exact funext key

theorem cover_9 (i : S33792x1024.Idx) : ∃ t : Fin cfg0.N, (cfg0.win 9).flush t = true ∧ i ∈ ((cfg0.win 9).blk t).view.set := by
  have h0 : (i 0).val < 33792 := (i 0).isLt
  have h1 : (i 1).val < 1024 := (i 1).isLt
  obtain ⟨t, ht⟩ : ∃ t : Fin cfg0.N, t.val = (i 0).val / 512 := ⟨⟨(i 0).val / 512, by show _ < 66; omega⟩, rfl⟩
  refine ⟨t, flush0_9 t, ?_⟩
  have e0 : ((win0_9.rect t).emb (ix2 (⟨(i 0).val % 512, by omega⟩ : Fin 512) (⟨(i 1).val, h1⟩ : Fin 1024)) 0 : Nat) = win0_9.index t 0 * 512 + (i 0).val % 512 := Window.rect_emb_val win0_9 t _ 0
  have e1 : ((win0_9.rect t).emb (ix2 (⟨(i 0).val % 512, by omega⟩ : Fin 512) (⟨(i 1).val, h1⟩ : Fin 1024)) 1 : Nat) = win0_9.index t 1 * 1024 + (i 1).val := Window.rect_emb_val win0_9 t _ 1
  rw [(idx9 t).1] at e0
  rw [(idx9 t).2] at e1
  have e : i = (win0_9.rect t).emb (ix2 (⟨(i 0).val % 512, by omega⟩ : Fin 512) (⟨(i 1).val, h1⟩ : Fin 1024)) :=
    (eq_ix2 i).trans (idx_eq_ix2 _ (i 0) (i 1) (e0.trans (by rw [ht]; omega)) (e1.trans (by rw [Nat.zero_mul, Nat.zero_add]))).symm
  rw [e]
  exact ((cfg0.win 9).blk t).view.emb_mem_set _

/-- The result array after the grid. -/
theorem final_9 (c : Dev nD) : (dats m 0 c).arrAt 9 cfg0.N = r9 m c := (dats m 0 c).arrAt_eq_of_cover 9 (r9 m c) (fun t _ => flushed_9 m c t) cover_9

theorem flushed_10 (c : Dev nD) (t : Fin cfg0.N) : (dats m 0 c).flushed 10 t = ((cfg0.win 10).blk t).view.read (Elt Ideal) (r10 m c) := by
  rw [Value.flushed10]
  have key : ∀ y : S512x512.Idx, out0_10 (grid0.coords t) (iblk m c 0 t) (iblk m c 1 t) (iblk m c 2 t) (iblk m c 3 t) (iblk m c 4 t) (iblk m c 5 t) (iblk m c 6 t) (iblk m c 7 t) (iblk m c 8 t) y
      = (((cfg0.win 10).blk t).view.read (Elt Ideal) (r10 m c) : Vec Ideal S512x512 .bf16) y := by
    intro y
    have ht : t.val < 66 := t.isLt
    obtain ⟨r, C, rfl⟩ : ∃ (r : Fin 512) (C : Fin 512), y = ix2 r C := ⟨y 0, y 1, eq_ix2 y⟩
    have hr := r.isLt
    have hC := C.isLt
    rw [out10_eq, read10 (r10 m c) t r C ⟨t.val * 512 + r.val, by omega⟩ rfl]
    exact nrA_blk m c t r ⟨t.val * 512 + r.val, by omega⟩ rfl 1 (a6 m c) (hGain_1 _ _) ⟨1024 + 64 * (C.val / 128) + C.val % 64, by omega⟩ (1024 + 64 * (C.val / 128)) (by omega)
      (by show 1024 + 64 * (C.val / 128) = 64 * ((1024 + 64 * (C.val / 128) + C.val % 64) / 64); omega) ⟨C.val % 64, by omega⟩ (by show C.val % 64 = (1024 + 64 * (C.val / 128) + C.val % 64) % 64; omega)
  exact funext key

theorem cover_10 (i : S33792x512.Idx) : ∃ t : Fin cfg0.N, (cfg0.win 10).flush t = true ∧ i ∈ ((cfg0.win 10).blk t).view.set := by
  have h0 : (i 0).val < 33792 := (i 0).isLt
  have h1 : (i 1).val < 512 := (i 1).isLt
  obtain ⟨t, ht⟩ : ∃ t : Fin cfg0.N, t.val = (i 0).val / 512 := ⟨⟨(i 0).val / 512, by show _ < 66; omega⟩, rfl⟩
  refine ⟨t, flush0_10 t, ?_⟩
  have e0 : ((win0_10.rect t).emb (ix2 (⟨(i 0).val % 512, by omega⟩ : Fin 512) (⟨(i 1).val, h1⟩ : Fin 512)) 0 : Nat) = win0_10.index t 0 * 512 + (i 0).val % 512 := Window.rect_emb_val win0_10 t _ 0
  have e1 : ((win0_10.rect t).emb (ix2 (⟨(i 0).val % 512, by omega⟩ : Fin 512) (⟨(i 1).val, h1⟩ : Fin 512)) 1 : Nat) = win0_10.index t 1 * 512 + (i 1).val := Window.rect_emb_val win0_10 t _ 1
  rw [(idx10 t).1] at e0
  rw [(idx10 t).2] at e1
  have e : i = (win0_10.rect t).emb (ix2 (⟨(i 0).val % 512, by omega⟩ : Fin 512) (⟨(i 1).val, h1⟩ : Fin 512)) :=
    (eq_ix2 i).trans (idx_eq_ix2 _ (i 0) (i 1) (e0.trans (by rw [ht]; omega)) (e1.trans (by rw [Nat.zero_mul, Nat.zero_add]))).symm
  rw [e]
  exact ((cfg0.win 10).blk t).view.emb_mem_set _

/-- The result array after the grid. -/
theorem final_10 (c : Dev nD) : (dats m 0 c).arrAt 10 cfg0.N = r10 m c := (dats m 0 c).arrAt_eq_of_cover 10 (r10 m c) (fun t _ => flushed_10 m c t) cover_10

theorem flushed_11 (c : Dev nD) (t : Fin cfg0.N) : (dats m 0 c).flushed 11 t = ((cfg0.win 11).blk t).view.read (Elt Ideal) (r11 m c) := by
  rw [Value.flushed11]
  have key : ∀ y : S512x512.Idx, out0_11 (grid0.coords t) (iblk m c 0 t) (iblk m c 1 t) (iblk m c 2 t) (iblk m c 3 t) (iblk m c 4 t) (iblk m c 5 t) (iblk m c 6 t) (iblk m c 7 t) (iblk m c 8 t) y
      = (((cfg0.win 11).blk t).view.read (Elt Ideal) (r11 m c) : Vec Ideal S512x512 .bf16) y := by
    intro y
    have ht : t.val < 66 := t.isLt
    obtain ⟨r, C, rfl⟩ : ∃ (r : Fin 512) (C : Fin 512), y = ix2 r C := ⟨y 0, y 1, eq_ix2 y⟩
    have hr := r.isLt
    have hC := C.isLt
    rw [out11_eq, read11 (r11 m c) t r C ⟨t.val * 512 + r.val, by omega⟩ rfl]
    exact projA_blk m c t r ⟨t.val * 512 + r.val, by omega⟩ rfl _
  exact funext key

theorem cover_11 (i : S33792x512.Idx) : ∃ t : Fin cfg0.N, (cfg0.win 11).flush t = true ∧ i ∈ ((cfg0.win 11).blk t).view.set := by
  have h0 : (i 0).val < 33792 := (i 0).isLt
  have h1 : (i 1).val < 512 := (i 1).isLt
  obtain ⟨t, ht⟩ : ∃ t : Fin cfg0.N, t.val = (i 0).val / 512 := ⟨⟨(i 0).val / 512, by show _ < 66; omega⟩, rfl⟩
  refine ⟨t, flush0_11 t, ?_⟩
  have e0 : ((win0_11.rect t).emb (ix2 (⟨(i 0).val % 512, by omega⟩ : Fin 512) (⟨(i 1).val, h1⟩ : Fin 512)) 0 : Nat) = win0_11.index t 0 * 512 + (i 0).val % 512 := Window.rect_emb_val win0_11 t _ 0
  have e1 : ((win0_11.rect t).emb (ix2 (⟨(i 0).val % 512, by omega⟩ : Fin 512) (⟨(i 1).val, h1⟩ : Fin 512)) 1 : Nat) = win0_11.index t 1 * 512 + (i 1).val := Window.rect_emb_val win0_11 t _ 1
  rw [(idx11 t).1] at e0
  rw [(idx11 t).2] at e1
  have e : i = (win0_11.rect t).emb (ix2 (⟨(i 0).val % 512, by omega⟩ : Fin 512) (⟨(i 1).val, h1⟩ : Fin 512)) :=
    (eq_ix2 i).trans (idx_eq_ix2 _ (i 0) (i 1) (e0.trans (by rw [ht]; omega)) (e1.trans (by rw [Nat.zero_mul, Nat.zero_add]))).symm
  rw [e]
  exact ((cfg0.win 11).blk t).view.emb_mem_set _

/-- The result array after the grid. -/
theorem final_11 (c : Dev nD) : (dats m 0 c).arrAt 11 cfg0.N = r11 m c := (dats m 0 c).arrAt_eq_of_cover 11 (r11 m c) (fun t _ => flushed_11 m c t) cover_11

end Cert.Kernel4Ideal.Ap

end
-- ==== Proof.ApRef.lean ====
module
public import proofs.«01_k».proof.Proof.ApFinal
public import proofs.«01_k».proof.Proof.Gen.Reference4Ideal.Read

@[expose] public section

/-! The attention's projection's reference, element by element: its three results are `res9`, `res10` and `res11` too. -/

noncomputable section

namespace Cert.Reference4Ideal.Ap

open Cert.Reference4Ideal Cert.Reference4Ideal.Gen Cert.Reference4Ideal.Read Idealize.ShloMosaic Idealize.ShloMosaic.TcCoe
open Cert.Kernel2Ideal.Pj (idx_eq_ix2 idx_eq_ix3 rowOf modRow)
open Cert.Reference2Ideal.Pj (at_ix b36)
open Cert.Kernel4Ideal.Ap (hcat pr yh hd hd_congr res9 res10 res11 hAng hRow hCol ang cosA sinA)
open scoped BigOperators

theorem idx_eq_ix4 {a b c d : ℕ} (y : Shape.Idx ⟨4, ![a, b, c, d]⟩) (A : Fin a) (B : Fin b) (C : Fin c) (D : Fin d) (h0 : (y 0).val = A.val) (h1 : (y 1).val = B.val)
    (h2 : (y 2).val = C.val) (h3 : (y 3).val = D.val) : y = ix4 A B C D :=
  funext fun x => match x with | ⟨0, _⟩ => Fin.ext h0 | ⟨1, _⟩ => Fin.ext h1 | ⟨2, _⟩ => Fin.ext h2 | ⟨3, _⟩ => Fin.ext h3

theorem idx_eq_ix5 {a b c d e : ℕ} (y : Shape.Idx ⟨5, ![a, b, c, d, e]⟩) (A : Fin a) (B : Fin b) (C : Fin c) (D : Fin d) (E : Fin e) (h0 : (y 0).val = A.val) (h1 : (y 1).val = B.val)
    (h2 : (y 2).val = C.val) (h3 : (y 3).val = D.val) (h4 : (y 4).val = E.val) : y = ix5 A B C D E :=
  funext fun x => match x with | ⟨0, _⟩ => Fin.ext h0 | ⟨1, _⟩ => Fin.ext h1 | ⟨2, _⟩ => Fin.ext h2 | ⟨3, _⟩ => Fin.ext h3 | ⟨4, _⟩ => Fin.ext h4

variable (x0 : FVec Ideal S32768x1024 .f32) (x1 : FVec Ideal S1024x1024 .f32) (x2 : FVec Ideal S5x6x1024 .f32) (x3 : FVec Ideal S1024 .f32) (x4 : FVec Ideal S1024x1536 .f32)
  (x5 x6 : FVec Ideal S64 .f32)

/-- The rows of the sequences above those of the context, normed and modulated as for the other projection. -/
theorem c37 : val_main_v37 (F := Ideal) x0 x1 x2 x3 = Cert.Reference2Ideal.Read.val_main_v36 (F := Ideal) (hcat x0 x1) x2 x3 := rfl

/-- The product. -/
theorem c38 (R : Fin 33792) (C : Fin 1536) : (val_main_v38 (F := Ideal) x0 x1 x2 x3 x4 (ix2 R C) : EReal) = pr (hcat x0 x1) x2 x3 x4 R C := by
  refine (val_main_v38_apply x0 x1 x2 x3 x4 (ix2 R C)).trans (Finset.sum_congr rfl fun e _ => congrArg₂ (fun x y : EReal => x * y) ?_ ?_)
  · exact at_ix (val_main_v37 (F := Ideal) x0 x1 x2 x3) (ix2 R e) (idx_eq_ix2 _ R e rfl rfl) ((congrFun (c37 x0 x1 x2 x3) _).trans (b36 (hcat x0 x1) x2 x3 R e))
  · exact congrArg x4 (idx_eq_ix2 _ e C rfl rfl)

/-! ## The angles -/

theorem c56 : val_main_v56 (F := Ideal) = hAng hRow := rfl
theorem c61 : val_main_v61 (F := Ideal) = hAng hCol := rfl

theorem c64 (n : Fin 8192) (a : Fin 2) (f : Fin 16) : (val_main_v64 (F := Ideal) (ix3 n a f) : EReal) = ang n a f := by
  have ha := a.isLt
  unfold val_main_v64 ang
  by_cases h : a.val = 0
  · rw [if_pos h]
    refine (concatenate_pair_apply_left (t := S8192x2x16) (s₁ := S8192x1x16) (s₂ := S8192x1x16) 1 _ _ _ (ix3 n a f) rfl
      (ix3 n 0 f) (fun x => match x with | ⟨0, _⟩ => rfl | ⟨1, _⟩ => h.symm | ⟨2, _⟩ => rfl)).trans ((val_main_v62_apply (F := Ideal) _).trans ?_)
    exact at_ix (val_main_v56 (F := Ideal)) (ix2 n f) (idx_eq_ix2 _ n f rfl rfl) (congrFun c56 _)
  · rw [if_neg h]
    refine (concatenate_pair_apply_right (t := S8192x2x16) (s₁ := S8192x1x16) (s₂ := S8192x1x16) 1 _ _ _ (ix3 n a f) rfl rfl
      (ix3 n 0 f) (fun x hx => match x with | ⟨0, _⟩ => rfl | ⟨1, _⟩ => absurd rfl hx | ⟨2, _⟩ => rfl) (by show 0 + 1 = a.val; omega)).trans ((val_main_v63_apply (F := Ideal) _).trans ?_)
    exact at_ix (val_main_v61 (F := Ideal)) (ix2 n f) (idx_eq_ix2 _ n f rfl rfl) (congrFun c61 _)

theorem c68 (r : Fin 32768) (a : Fin 2) (f : Fin 16) : (val_main_v68 (F := Ideal) (ix4 r 0 a f) : EReal) = cosA ⟨r.val % 8192, Nat.mod_lt _ (by decide)⟩ a f := by
  have hr := r.isLt
  have ha := a.isLt
  have hf := f.isLt
  refine (val_main_v68_apply (F := Ideal) _).trans (at_ix (val_main_v67 (F := Ideal)) (ix4 ⟨r.val / 8192, by omega⟩ ⟨r.val % 8192, Nat.mod_lt _ (by decide)⟩ a f) (idx_eq_ix4 _ _ _ _ _
    (by show (((r.val * 1 + 0) * 2 + a.val) * 16 + f.val) / 262144 = r.val / 8192; omega)
    (by show (((r.val * 1 + 0) * 2 + a.val) * 16 + f.val) / 32 % 8192 = r.val % 8192; omega)
    (by show (((r.val * 1 + 0) * 2 + a.val) * 16 + f.val) / 16 % 2 = a.val; omega)
    (by show (((r.val * 1 + 0) * 2 + a.val) * 16 + f.val) % 16 = f.val; omega)) ?_)
  refine (val_main_v67_apply (F := Ideal) _).trans ((val_main_v66_apply (F := Ideal) _).trans ?_)
  refine at_ix (val_main_v65 (F := Ideal)) (ix3 ⟨r.val % 8192, Nat.mod_lt _ (by decide)⟩ a f) (idx_eq_ix3 _ _ _ _ rfl rfl rfl) ?_
  exact congrArg (FloatOps.cos (F := Ideal) (φ := .f32)) (c64 _ a f)

theorem c72 (r : Fin 32768) (a : Fin 2) (f : Fin 16) : (val_main_v72 (F := Ideal) (ix4 r 0 a f) : EReal) = sinA ⟨r.val % 8192, Nat.mod_lt _ (by decide)⟩ a f := by
  have hr := r.isLt
  have ha := a.isLt
  have hf := f.isLt
  refine (val_main_v72_apply (F := Ideal) _).trans (at_ix (val_main_v71 (F := Ideal)) (ix4 ⟨r.val / 8192, by omega⟩ ⟨r.val % 8192, Nat.mod_lt _ (by decide)⟩ a f) (idx_eq_ix4 _ _ _ _ _
    (by show (((r.val * 1 + 0) * 2 + a.val) * 16 + f.val) / 262144 = r.val / 8192; omega)
    (by show (((r.val * 1 + 0) * 2 + a.val) * 16 + f.val) / 32 % 8192 = r.val % 8192; omega)
    (by show (((r.val * 1 + 0) * 2 + a.val) * 16 + f.val) / 16 % 2 = a.val; omega)
    (by show (((r.val * 1 + 0) * 2 + a.val) * 16 + f.val) % 16 = f.val; omega)) ?_)
  refine (val_main_v71_apply (F := Ideal) _).trans ((val_main_v70_apply (F := Ideal) _).trans ?_)
  refine at_ix (val_main_v69 (F := Ideal)) (ix3 ⟨r.val % 8192, Nat.mod_lt _ (by decide)⟩ a f) (idx_eq_ix3 _ _ _ _ rfl rfl rfl) ?_
  exact congrArg (FloatOps.sin (F := Ideal) (φ := .f32)) (c64 _ a f)

/-! ## q -/

/-- A head of it. -/
def Pq (R : Fin 33792) (H : Fin 16) (k : Fin 64) : EReal := pr (hcat x0 x1) x2 x3 x4 R ⟨64 * H.val + k.val, by omega⟩

theorem c74 (R : Fin 33792) (H : Fin 16) (k : Fin 64) : (val_main_v74 (F := Ideal) x0 x1 x2 x3 x4 (ix3 R H k) : EReal) = Pq x0 x1 x2 x3 x4 R H k := by
  have hR := R.isLt
  have hH := H.isLt
  have hk := k.isLt
  refine (val_main_v74_apply (F := Ideal) x0 x1 x2 x3 x4 _).trans ((val_main_v73_apply (F := Ideal) x0 x1 x2 x3 x4 _).trans ?_)
  exact at_ix (val_main_v38 (F := Ideal) x0 x1 x2 x3 x4) (ix2 R ⟨64 * H.val + k.val, by omega⟩) (idx_eq_ix2 _ R ⟨64 * H.val + k.val, by omega⟩
    (by show ((R.val * 16 + H.val) * 64 + k.val) / 1024 = R.val; omega)
    (by show ((R.val * 16 + H.val) * 64 + k.val) % 1024 = 64 * H.val + k.val; omega)) (c38 x0 x1 x2 x3 x4 R _)

theorem c82 (R : Fin 33792) (H : Fin 16) : (val_main_v82 (F := Ideal) x0 x1 x2 x3 x4 (ix3 R H 0) : EReal)
    = Ideal.rsqrt (Ideal.div (∑ k : Fin 64, Pq x0 x1 x2 x3 x4 R H k * Pq x0 x1 x2 x3 x4 R H k) (Ideal.ofBits .f32 0x42800000#32) + Ideal.ofBits .f32 0x358637BD#32) := by
  have e1 : (val_main_v76 (F := Ideal) x0 x1 x2 x3 x4 (ix2 R H) : EReal) = ∑ k : Fin 64, Pq x0 x1 x2 x3 x4 R H k * Pq x0 x1 x2 x3 x4 R H k := by
    refine (val_main_v76_apply x0 x1 x2 x3 x4 (ix2 R H)).trans ?_
    refine (congrArg₂ (fun x y : EReal => x + y) Ideal.ofBits_zero_f32 (Finset.sum_congr rfl fun k _ => ?_)).trans (zero_add _)
    refine at_ix (val_main_v75 (F := Ideal) x0 x1 x2 x3 x4) (ix3 R H k) (idx_eq_ix3 _ R H k rfl rfl rfl) ?_
    exact (val_main_v75_apply (F := Ideal) x0 x1 x2 x3 x4 _).trans (congrArg₂ (fun x y : EReal => x * y) (c74 x0 x1 x2 x3 x4 R H k) (c74 x0 x1 x2 x3 x4 R H k))
  have e2 : (val_main_v77 (F := Ideal) x0 x1 x2 x3 x4 (ix3 R H 0) : EReal) = ∑ k : Fin 64, Pq x0 x1 x2 x3 x4 R H k * Pq x0 x1 x2 x3 x4 R H k :=
    (val_main_v77_apply (F := Ideal) x0 x1 x2 x3 x4 _).trans (at_ix (val_main_v76 (F := Ideal) x0 x1 x2 x3 x4) (ix2 R H) (idx_eq_ix2 _ R H rfl rfl) e1)
  refine (val_main_v82_apply (F := Ideal) x0 x1 x2 x3 x4 _).trans (congrArg Ideal.rsqrt ?_)
  refine (val_main_v81_apply (F := Ideal) x0 x1 x2 x3 x4 _).trans (congrArg₂ (fun x y : EReal => x + y) ?_ rfl)
  have e3 : (val_main_v78 (F := Ideal) (ix3 R H 0) : EReal) = Ideal.ofBits .f32 0x42800000#32 := val_main_v78_apply (F := Ideal) _
  refine (val_main_v79_apply (F := Ideal) x0 x1 x2 x3 x4 _).trans (?_ : Ideal.div (val_main_v77 (F := Ideal) x0 x1 x2 x3 x4 (ix3 R H 0)) (val_main_v78 (F := Ideal) (ix3 R H 0)) = _)
  rw [e2, e3]

/-- Each head normed. -/
theorem c87 (R : Fin 33792) (H : Fin 16) (d : Fin 64) : (val_main_v87 (F := Ideal) x0 x1 x2 x3 x4 x5 (ix3 R H d) : EReal) = yh (Pq x0 x1 x2 x3 x4 R H) x5 d := by
  refine (val_main_v87_apply (F := Ideal) x0 x1 x2 x3 x4 x5 _).trans (congrArg₂ (fun x y : EReal => x * y) ?_ ?_)
  · refine (val_main_v84_apply (F := Ideal) x0 x1 x2 x3 x4 _).trans (congrArg₂ (fun x y : EReal => x * y) (c74 x0 x1 x2 x3 x4 R H d) ?_)
    exact (val_main_v83_apply (F := Ideal) x0 x1 x2 x3 x4 _).trans (at_ix (val_main_v82 (F := Ideal) x0 x1 x2 x3 x4) (ix3 R H 0) (idx_eq_ix3 _ R H 0 rfl rfl rfl) (c82 x0 x1 x2 x3 x4 R H))
  · refine (val_main_v86_apply (F := Ideal) x5 _).trans ((val_main_v85_apply (F := Ideal) x5 _).trans (congrArg x5 ?_))
    exact funext fun a => match a with | ⟨0, _⟩ => rfl

theorem c89 (r : Fin 32768) (H : Fin 16) (a b : Fin 2) (f : Fin 16) (R : Fin 33792) (hR : R.val = r.val) (d : Fin 64) (hd : d.val = 32 * a.val + 16 * b.val + f.val) :
    (val_main_v89 (F := Ideal) x0 x1 x2 x3 x4 x5 (ix5 r H a b f) : EReal) = yh (Pq x0 x1 x2 x3 x4 R H) x5 d := by
  have hr := r.isLt
  have hH := H.isLt
  have ha := a.isLt
  have hb := b.isLt
  have hf := f.isLt
  refine (val_main_v89_apply (F := Ideal) x0 x1 x2 x3 x4 x5 _).trans (at_ix (val_main_v88 (F := Ideal) x0 x1 x2 x3 x4 x5) (ix3 r H d) (idx_eq_ix3 _ r H d
    (by show ((((r.val * 16 + H.val) * 2 + a.val) * 2 + b.val) * 16 + f.val) / 1024 = r.val; omega)
    (by show ((((r.val * 16 + H.val) * 2 + a.val) * 2 + b.val) * 16 + f.val) / 64 % 16 = H.val; omega)
    (by show ((((r.val * 16 + H.val) * 2 + a.val) * 2 + b.val) * 16 + f.val) % 64 = d.val; omega)) ?_)
  exact (val_main_v88_apply (F := Ideal) x0 x1 x2 x3 x4 x5 _).trans (at_ix (val_main_v87 (F := Ideal) x0 x1 x2 x3 x4 x5) (ix3 R H d) (idx_eq_ix3 _ R H d hR.symm rfl rfl) (c87 x0 x1 x2 x3 x4 x5 R H d))

theorem c91 (r : Fin 32768) (H : Fin 16) (a : Fin 2) (f : Fin 16) (R : Fin 33792) (hR : R.val = r.val) (d : Fin 64) (hd : d.val = 32 * a.val + 0 + f.val) :
    (val_main_v91 (F := Ideal) x0 x1 x2 x3 x4 x5 (ix4 r H a f) : EReal) = yh (Pq x0 x1 x2 x3 x4 R H) x5 d := by
  have hr := r.isLt
  have hH := H.isLt
  have ha := a.isLt
  have hf := f.isLt
  refine (val_main_v91_apply (F := Ideal) x0 x1 x2 x3 x4 x5 _).trans (at_ix (val_main_v90 (F := Ideal) x0 x1 x2 x3 x4 x5) (ix5 r H a 0 f) (idx_eq_ix5 _ r H a 0 f
    (by show (((r.val * 16 + H.val) * 2 + a.val) * 16 + f.val) / 512 = r.val; omega)
    (by show (((r.val * 16 + H.val) * 2 + a.val) * 16 + f.val) / 32 % 16 = H.val; omega)
    (by show (((r.val * 16 + H.val) * 2 + a.val) * 16 + f.val) / 16 % 2 = a.val; omega) rfl
    (by show (((r.val * 16 + H.val) * 2 + a.val) * 16 + f.val) % 16 = f.val; omega)) ?_)
  exact (val_main_v90_apply (F := Ideal) x0 x1 x2 x3 x4 x5 _).trans (at_ix (val_main_v89 (F := Ideal) x0 x1 x2 x3 x4 x5) (ix5 r H a 0 f) (idx_eq_ix5 _ r H a 0 f rfl rfl rfl rfl rfl)
    (c89 x0 x1 x2 x3 x4 x5 r H a 0 f R hR d (by show d.val = 32 * a.val + 16 * 0 + f.val; omega)))

theorem c93 (r : Fin 32768) (H : Fin 16) (a : Fin 2) (f : Fin 16) (R : Fin 33792) (hR : R.val = r.val) (d : Fin 64) (hd : d.val = 32 * a.val + 16 + f.val) :
    (val_main_v93 (F := Ideal) x0 x1 x2 x3 x4 x5 (ix4 r H a f) : EReal) = yh (Pq x0 x1 x2 x3 x4 R H) x5 d := by
  have hr := r.isLt
  have hH := H.isLt
  have ha := a.isLt
  have hf := f.isLt
  refine (val_main_v93_apply (F := Ideal) x0 x1 x2 x3 x4 x5 _).trans (at_ix (val_main_v92 (F := Ideal) x0 x1 x2 x3 x4 x5) (ix5 r H a 0 f) (idx_eq_ix5 _ r H a 0 f
    (by show (((r.val * 16 + H.val) * 2 + a.val) * 16 + f.val) / 512 = r.val; omega)
    (by show (((r.val * 16 + H.val) * 2 + a.val) * 16 + f.val) / 32 % 16 = H.val; omega)
    (by show (((r.val * 16 + H.val) * 2 + a.val) * 16 + f.val) / 16 % 2 = a.val; omega) rfl
    (by show (((r.val * 16 + H.val) * 2 + a.val) * 16 + f.val) % 16 = f.val; omega)) ?_)
  exact (val_main_v92_apply (F := Ideal) x0 x1 x2 x3 x4 x5 _).trans (at_ix (val_main_v89 (F := Ideal) x0 x1 x2 x3 x4 x5) (ix5 r H a 1 f) (idx_eq_ix5 _ r H a 1 f rfl rfl rfl rfl rfl)
    (c89 x0 x1 x2 x3 x4 x5 r H a 1 f R hR d (by show d.val = 32 * a.val + 16 * 1 + f.val; omega)))

theorem c98 (r : Fin 32768) (H : Fin 16) (a : Fin 2) (f : Fin 16) (R : Fin 33792) (hR : R.val = r.val) (d : Fin 64) (hd' : d.val = 32 * a.val + 0 + f.val) :
    (val_main_v98 (F := Ideal) x0 x1 x2 x3 x4 x5 (ix4 r H a f) : EReal) = hd (Pq x0 x1 x2 x3 x4 R H) x5 R d := by
  have hr := r.isLt
  have ha := a.isLt
  have hf := f.isLt
  unfold hd
  rw [if_pos (show R.val < 32768 by omega), if_pos (show d.val % 32 < 16 by omega)]
  have en : (⟨R.val % 8192, Nat.mod_lt _ (by decide)⟩ : Fin 8192) = ⟨r.val % 8192, Nat.mod_lt _ (by decide)⟩ := Fin.ext (by show R.val % 8192 = r.val % 8192; rw [hR])
  have ea : (⟨d.val / 32, by omega⟩ : Fin 2) = a := Fin.ext (by show d.val / 32 = a.val; omega)
  have ef : (⟨d.val % 16, by omega⟩ : Fin 16) = f := Fin.ext (by show d.val % 16 = f.val; omega)
  rw [en, ea, ef]
  refine (val_main_v98_apply (F := Ideal) x0 x1 x2 x3 x4 x5 _).trans (congrArg₂ (fun x y : EReal => x - y) ?_ ?_)
  · refine (val_main_v95_apply (F := Ideal) x0 x1 x2 x3 x4 x5 _).trans (congrArg₂ (fun x y : EReal => x * y) (c91 x0 x1 x2 x3 x4 x5 r H a f R hR d (by omega)) ?_)
    exact (val_main_v94_apply (F := Ideal) _).trans (at_ix (val_main_v68 (F := Ideal)) (ix4 r 0 a f) (idx_eq_ix4 _ r 0 a f rfl rfl rfl rfl) (c68 r a f))
  · refine (val_main_v97_apply (F := Ideal) x0 x1 x2 x3 x4 x5 _).trans (congrArg₂ (fun x y : EReal => x * y) (c93 x0 x1 x2 x3 x4 x5 r H a f R hR _ (by show (d.val + 16) % 64 = _; omega)) ?_)
    exact (val_main_v96_apply (F := Ideal) _).trans (at_ix (val_main_v72 (F := Ideal)) (ix4 r 0 a f) (idx_eq_ix4 _ r 0 a f rfl rfl rfl rfl) (c72 r a f))

theorem c103 (r : Fin 32768) (H : Fin 16) (a : Fin 2) (f : Fin 16) (R : Fin 33792) (hR : R.val = r.val) (d : Fin 64) (hd' : d.val = 32 * a.val + 16 + f.val) :
    (val_main_v103 (F := Ideal) x0 x1 x2 x3 x4 x5 (ix4 r H a f) : EReal) = hd (Pq x0 x1 x2 x3 x4 R H) x5 R d := by
  have hr := r.isLt
  have ha := a.isLt
  have hf := f.isLt
  unfold hd
  rw [if_pos (show R.val < 32768 by omega), if_neg (show ¬ d.val % 32 < 16 by omega)]
  have en : (⟨R.val % 8192, Nat.mod_lt _ (by decide)⟩ : Fin 8192) = ⟨r.val % 8192, Nat.mod_lt _ (by decide)⟩ := Fin.ext (by show R.val % 8192 = r.val % 8192; rw [hR])
  have ea : (⟨d.val / 32, by omega⟩ : Fin 2) = a := Fin.ext (by show d.val / 32 = a.val; omega)
  have ef : (⟨d.val % 16, by omega⟩ : Fin 16) = f := Fin.ext (by show d.val % 16 = f.val; omega)
  rw [en, ea, ef]
  refine (val_main_v103_apply (F := Ideal) x0 x1 x2 x3 x4 x5 _).trans (congrArg₂ (fun x y : EReal => x + y) ?_ ?_)
  · refine (val_main_v100_apply (F := Ideal) x0 x1 x2 x3 x4 x5 _).trans (congrArg₂ (fun x y : EReal => x * y) (c93 x0 x1 x2 x3 x4 x5 r H a f R hR d (by omega)) ?_)
    exact (val_main_v99_apply (F := Ideal) _).trans (at_ix (val_main_v68 (F := Ideal)) (ix4 r 0 a f) (idx_eq_ix4 _ r 0 a f rfl rfl rfl rfl) (c68 r a f))
  · refine (val_main_v102_apply (F := Ideal) x0 x1 x2 x3 x4 x5 _).trans (congrArg₂ (fun x y : EReal => x * y) (c91 x0 x1 x2 x3 x4 x5 r H a f R hR _ (by show (d.val + 48) % 64 = _; omega)) ?_)
    exact (val_main_v101_apply (F := Ideal) _).trans (at_ix (val_main_v72 (F := Ideal)) (ix4 r 0 a f) (idx_eq_ix4 _ r 0 a f rfl rfl rfl rfl) (c72 r a f))

theorem c106 (r : Fin 32768) (H : Fin 16) (a b : Fin 2) (f : Fin 16) (R : Fin 33792) (hR : R.val = r.val) (d : Fin 64) (hd' : d.val = 32 * a.val + 16 * b.val + f.val) :
    (val_main_v106 (F := Ideal) x0 x1 x2 x3 x4 x5 (ix5 r H a b f) : EReal) = hd (Pq x0 x1 x2 x3 x4 R H) x5 R d := by
  have hb := b.isLt
  unfold val_main_v106
  by_cases h : b.val = 0
  · refine (concatenate_pair_apply_left (t := S32768x16x2x2x16) (s₁ := S32768x16x2x1x16) (s₂ := S32768x16x2x1x16) 3 _ _ _ (ix5 r H a b f) rfl
      (ix5 r H a 0 f) (fun x => match x with | ⟨0, _⟩ => rfl | ⟨1, _⟩ => rfl | ⟨2, _⟩ => rfl | ⟨3, _⟩ => h.symm | ⟨4, _⟩ => rfl)).trans ((val_main_v104_apply (F := Ideal) x0 x1 x2 x3 x4 x5 _).trans ?_)
    exact at_ix (val_main_v98 (F := Ideal) x0 x1 x2 x3 x4 x5) (ix4 r H a f) (idx_eq_ix4 _ r H a f rfl rfl rfl rfl) (c98 x0 x1 x2 x3 x4 x5 r H a f R hR d (by omega))
  · refine (concatenate_pair_apply_right (t := S32768x16x2x2x16) (s₁ := S32768x16x2x1x16) (s₂ := S32768x16x2x1x16) 3 _ _ _ (ix5 r H a b f) rfl rfl
      (ix5 r H a 0 f) (fun x hx => match x with | ⟨0, _⟩ => rfl | ⟨1, _⟩ => rfl | ⟨2, _⟩ => rfl | ⟨3, _⟩ => absurd rfl hx | ⟨4, _⟩ => rfl) (by show 0 + 1 = b.val; omega)).trans
      ((val_main_v105_apply (F := Ideal) x0 x1 x2 x3 x4 x5 _).trans ?_)
    exact at_ix (val_main_v103 (F := Ideal) x0 x1 x2 x3 x4 x5) (ix4 r H a f) (idx_eq_ix4 _ r H a f rfl rfl rfl rfl) (c103 x0 x1 x2 x3 x4 x5 r H a f R hR d (by omega))

theorem c107 (r : Fin 32768) (H : Fin 16) (d : Fin 64) (R : Fin 33792) (hR : R.val = r.val) :
    (val_main_v107 (F := Ideal) x0 x1 x2 x3 x4 x5 (ix3 r H d) : EReal) = hd (Pq x0 x1 x2 x3 x4 R H) x5 R d := by
  have hr := r.isLt
  have hH := H.isLt
  have hd' := d.isLt
  refine (val_main_v107_apply (F := Ideal) x0 x1 x2 x3 x4 x5 _).trans (at_ix (val_main_v106 (F := Ideal) x0 x1 x2 x3 x4 x5) (ix5 r H ⟨d.val / 32, by omega⟩ ⟨d.val / 16 % 2, by omega⟩ ⟨d.val % 16, by omega⟩) (idx_eq_ix5 _ _ _ _ _ _
    (by show ((r.val * 16 + H.val) * 64 + d.val) / 1024 = r.val; omega)
    (by show ((r.val * 16 + H.val) * 64 + d.val) / 64 % 16 = H.val; omega)
    (by show ((r.val * 16 + H.val) * 64 + d.val) / 32 % 2 = d.val / 32; omega)
    (by show ((r.val * 16 + H.val) * 64 + d.val) / 16 % 2 = d.val / 16 % 2; omega)
    (by show ((r.val * 16 + H.val) * 64 + d.val) % 16 = d.val % 16; omega)) ?_)
  exact c106 x0 x1 x2 x3 x4 x5 r H _ _ _ R hR d (by show d.val = 32 * (d.val / 32) + 16 * (d.val / 16 % 2) + d.val % 16; omega)

/-- Each head turned. -/
theorem c109 (R : Fin 33792) (H : Fin 16) (d : Fin 64) : (val_main_v109 (F := Ideal) x0 x1 x2 x3 x4 x5 (ix3 R H d) : EReal) = hd (Pq x0 x1 x2 x3 x4 R H) x5 R d := by
  have hR := R.isLt
  unfold val_main_v109
  by_cases h : R.val < 32768
  · exact (concatenate_pair_apply_left (t := S33792x16x64) (s₁ := S32768x16x64) (s₂ := S1024x16x64) 0 _ _ _ (ix3 R H d) rfl
      (ix3 ⟨R.val, h⟩ H d) (fun x => match x with | ⟨0, _⟩ => rfl | ⟨1, _⟩ => rfl | ⟨2, _⟩ => rfl)).trans (c107 x0 x1 x2 x3 x4 x5 ⟨R.val, h⟩ H d R rfl)
  · refine (concatenate_pair_apply_right (t := S33792x16x64) (s₁ := S32768x16x64) (s₂ := S1024x16x64) 0 _ _ _ (ix3 R H d) rfl rfl
      (ix3 ⟨R.val - 32768, by omega⟩ H d) (fun x hx => match x with | ⟨0, _⟩ => absurd rfl hx | ⟨1, _⟩ => rfl | ⟨2, _⟩ => rfl)
      (by show R.val - 32768 + 32768 = R.val; omega)).trans ((val_main_v108_apply (F := Ideal) x0 x1 x2 x3 x4 x5 _).trans ?_)
    refine at_ix (val_main_v87 (F := Ideal) x0 x1 x2 x3 x4 x5) (ix3 R H d) (idx_eq_ix3 _ R H d (by show 32768 + (R.val - 32768) = R.val; omega) rfl rfl) ((c87 x0 x1 x2 x3 x4 x5 R H d).trans ?_)
    unfold hd
    exact (if_neg h).symm

/-! ## k -/

/-- A head of it. -/
def Pk (R : Fin 33792) (H : Fin 4) (k : Fin 64) : EReal := pr (hcat x0 x1) x2 x3 x4 R ⟨1024 + 64 * H.val + k.val, by omega⟩

theorem c115 (R : Fin 33792) (H : Fin 4) (k : Fin 64) : (val_main_v115 (F := Ideal) x0 x1 x2 x3 x4 (ix3 R H k) : EReal) = Pk x0 x1 x2 x3 x4 R H k := by
  have hR := R.isLt
  have hH := H.isLt
  have hk := k.isLt
  refine (val_main_v115_apply (F := Ideal) x0 x1 x2 x3 x4 _).trans ((val_main_v114_apply (F := Ideal) x0 x1 x2 x3 x4 _).trans ?_)
  exact at_ix (val_main_v38 (F := Ideal) x0 x1 x2 x3 x4) (ix2 R ⟨1024 + 64 * H.val + k.val, by omega⟩) (idx_eq_ix2 _ R ⟨1024 + 64 * H.val + k.val, by omega⟩
    (by show ((R.val * 4 + H.val) * 64 + k.val) / 256 = R.val; omega)
    (by show 1024 + ((R.val * 4 + H.val) * 64 + k.val) % 256 = 1024 + 64 * H.val + k.val; omega)) (c38 x0 x1 x2 x3 x4 R _)

theorem c123 (R : Fin 33792) (H : Fin 4) : (val_main_v123 (F := Ideal) x0 x1 x2 x3 x4 (ix3 R H 0) : EReal)
    = Ideal.rsqrt (Ideal.div (∑ k : Fin 64, Pk x0 x1 x2 x3 x4 R H k * Pk x0 x1 x2 x3 x4 R H k) (Ideal.ofBits .f32 0x42800000#32) + Ideal.ofBits .f32 0x358637BD#32) := by
  have e1 : (val_main_v117 (F := Ideal) x0 x1 x2 x3 x4 (ix2 R H) : EReal) = ∑ k : Fin 64, Pk x0 x1 x2 x3 x4 R H k * Pk x0 x1 x2 x3 x4 R H k := by
    refine (val_main_v117_apply x0 x1 x2 x3 x4 (ix2 R H)).trans ?_
    refine (congrArg₂ (fun x y : EReal => x + y) Ideal.ofBits_zero_f32 (Finset.sum_congr rfl fun k _ => ?_)).trans (zero_add _)
    refine at_ix (val_main_v116 (F := Ideal) x0 x1 x2 x3 x4) (ix3 R H k) (idx_eq_ix3 _ R H k rfl rfl rfl) ?_
    exact (val_main_v116_apply (F := Ideal) x0 x1 x2 x3 x4 _).trans (congrArg₂ (fun x y : EReal => x * y) (c115 x0 x1 x2 x3 x4 R H k) (c115 x0 x1 x2 x3 x4 R H k))
  have e2 : (val_main_v118 (F := Ideal) x0 x1 x2 x3 x4 (ix3 R H 0) : EReal) = ∑ k : Fin 64, Pk x0 x1 x2 x3 x4 R H k * Pk x0 x1 x2 x3 x4 R H k :=
    (val_main_v118_apply (F := Ideal) x0 x1 x2 x3 x4 _).trans (at_ix (val_main_v117 (F := Ideal) x0 x1 x2 x3 x4) (ix2 R H) (idx_eq_ix2 _ R H rfl rfl) e1)
  refine (val_main_v123_apply (F := Ideal) x0 x1 x2 x3 x4 _).trans (congrArg Ideal.rsqrt ?_)
  refine (val_main_v122_apply (F := Ideal) x0 x1 x2 x3 x4 _).trans (congrArg₂ (fun x y : EReal => x + y) ?_ rfl)
  have e3 : (val_main_v119 (F := Ideal) (ix3 R H 0) : EReal) = Ideal.ofBits .f32 0x42800000#32 := val_main_v119_apply (F := Ideal) _
  refine (val_main_v120_apply (F := Ideal) x0 x1 x2 x3 x4 _).trans (?_ : Ideal.div (val_main_v118 (F := Ideal) x0 x1 x2 x3 x4 (ix3 R H 0)) (val_main_v119 (F := Ideal) (ix3 R H 0)) = _)
  rw [e2, e3]

/-- Each head normed. -/
theorem c128 (R : Fin 33792) (H : Fin 4) (d : Fin 64) : (val_main_v128 (F := Ideal) x0 x1 x2 x3 x4 x6 (ix3 R H d) : EReal) = yh (Pk x0 x1 x2 x3 x4 R H) x6 d := by
  refine (val_main_v128_apply (F := Ideal) x0 x1 x2 x3 x4 x6 _).trans (congrArg₂ (fun x y : EReal => x * y) ?_ ?_)
  · refine (val_main_v125_apply (F := Ideal) x0 x1 x2 x3 x4 _).trans (congrArg₂ (fun x y : EReal => x * y) (c115 x0 x1 x2 x3 x4 R H d) ?_)
    exact (val_main_v124_apply (F := Ideal) x0 x1 x2 x3 x4 _).trans (at_ix (val_main_v123 (F := Ideal) x0 x1 x2 x3 x4) (ix3 R H 0) (idx_eq_ix3 _ R H 0 rfl rfl rfl) (c123 x0 x1 x2 x3 x4 R H))
  · refine (val_main_v127_apply (F := Ideal) x6 _).trans ((val_main_v126_apply (F := Ideal) x6 _).trans (congrArg x6 ?_))
    exact funext fun a => match a with | ⟨0, _⟩ => rfl

theorem c130 (r : Fin 32768) (H : Fin 4) (a b : Fin 2) (f : Fin 16) (R : Fin 33792) (hR : R.val = r.val) (d : Fin 64) (hd : d.val = 32 * a.val + 16 * b.val + f.val) :
    (val_main_v130 (F := Ideal) x0 x1 x2 x3 x4 x6 (ix5 r H a b f) : EReal) = yh (Pk x0 x1 x2 x3 x4 R H) x6 d := by
  have hr := r.isLt
  have hH := H.isLt
  have ha := a.isLt
  have hb := b.isLt
  have hf := f.isLt
  refine (val_main_v130_apply (F := Ideal) x0 x1 x2 x3 x4 x6 _).trans (at_ix (val_main_v129 (F := Ideal) x0 x1 x2 x3 x4 x6) (ix3 r H d) (idx_eq_ix3 _ r H d
    (by show ((((r.val * 4 + H.val) * 2 + a.val) * 2 + b.val) * 16 + f.val) / 256 = r.val; omega)
    (by show ((((r.val * 4 + H.val) * 2 + a.val) * 2 + b.val) * 16 + f.val) / 64 % 4 = H.val; omega)
    (by show ((((r.val * 4 + H.val) * 2 + a.val) * 2 + b.val) * 16 + f.val) % 64 = d.val; omega)) ?_)
  exact (val_main_v129_apply (F := Ideal) x0 x1 x2 x3 x4 x6 _).trans (at_ix (val_main_v128 (F := Ideal) x0 x1 x2 x3 x4 x6) (ix3 R H d) (idx_eq_ix3 _ R H d hR.symm rfl rfl) (c128 x0 x1 x2 x3 x4 x6 R H d))

theorem c132 (r : Fin 32768) (H : Fin 4) (a : Fin 2) (f : Fin 16) (R : Fin 33792) (hR : R.val = r.val) (d : Fin 64) (hd : d.val = 32 * a.val + 0 + f.val) :
    (val_main_v132 (F := Ideal) x0 x1 x2 x3 x4 x6 (ix4 r H a f) : EReal) = yh (Pk x0 x1 x2 x3 x4 R H) x6 d := by
  have hr := r.isLt
  have hH := H.isLt
  have ha := a.isLt
  have hf := f.isLt
  refine (val_main_v132_apply (F := Ideal) x0 x1 x2 x3 x4 x6 _).trans (at_ix (val_main_v131 (F := Ideal) x0 x1 x2 x3 x4 x6) (ix5 r H a 0 f) (idx_eq_ix5 _ r H a 0 f
    (by show (((r.val * 4 + H.val) * 2 + a.val) * 16 + f.val) / 128 = r.val; omega)
    (by show (((r.val * 4 + H.val) * 2 + a.val) * 16 + f.val) / 32 % 4 = H.val; omega)
    (by show (((r.val * 4 + H.val) * 2 + a.val) * 16 + f.val) / 16 % 2 = a.val; omega) rfl
    (by show (((r.val * 4 + H.val) * 2 + a.val) * 16 + f.val) % 16 = f.val; omega)) ?_)
  exact (val_main_v131_apply (F := Ideal) x0 x1 x2 x3 x4 x6 _).trans (at_ix (val_main_v130 (F := Ideal) x0 x1 x2 x3 x4 x6) (ix5 r H a 0 f) (idx_eq_ix5 _ r H a 0 f rfl rfl rfl rfl rfl)
    (c130 x0 x1 x2 x3 x4 x6 r H a 0 f R hR d (by show d.val = 32 * a.val + 16 * 0 + f.val; omega)))

theorem c134 (r : Fin 32768) (H : Fin 4) (a : Fin 2) (f : Fin 16) (R : Fin 33792) (hR : R.val = r.val) (d : Fin 64) (hd : d.val = 32 * a.val + 16 + f.val) :
    (val_main_v134 (F := Ideal) x0 x1 x2 x3 x4 x6 (ix4 r H a f) : EReal) = yh (Pk x0 x1 x2 x3 x4 R H) x6 d := by
  have hr := r.isLt
  have hH := H.isLt
  have ha := a.isLt
  have hf := f.isLt
  refine (val_main_v134_apply (F := Ideal) x0 x1 x2 x3 x4 x6 _).trans (at_ix (val_main_v133 (F := Ideal) x0 x1 x2 x3 x4 x6) (ix5 r H a 0 f) (idx_eq_ix5 _ r H a 0 f
    (by show (((r.val * 4 + H.val) * 2 + a.val) * 16 + f.val) / 128 = r.val; omega)
    (by show (((r.val * 4 + H.val) * 2 + a.val) * 16 + f.val) / 32 % 4 = H.val; omega)
    (by show (((r.val * 4 + H.val) * 2 + a.val) * 16 + f.val) / 16 % 2 = a.val; omega) rfl
    (by show (((r.val * 4 + H.val) * 2 + a.val) * 16 + f.val) % 16 = f.val; omega)) ?_)
  exact (val_main_v133_apply (F := Ideal) x0 x1 x2 x3 x4 x6 _).trans (at_ix (val_main_v130 (F := Ideal) x0 x1 x2 x3 x4 x6) (ix5 r H a 1 f) (idx_eq_ix5 _ r H a 1 f rfl rfl rfl rfl rfl)
    (c130 x0 x1 x2 x3 x4 x6 r H a 1 f R hR d (by show d.val = 32 * a.val + 16 * 1 + f.val; omega)))

theorem c139 (r : Fin 32768) (H : Fin 4) (a : Fin 2) (f : Fin 16) (R : Fin 33792) (hR : R.val = r.val) (d : Fin 64) (hd' : d.val = 32 * a.val + 0 + f.val) :
    (val_main_v139 (F := Ideal) x0 x1 x2 x3 x4 x6 (ix4 r H a f) : EReal) = hd (Pk x0 x1 x2 x3 x4 R H) x6 R d := by
  have hr := r.isLt
  have ha := a.isLt
  have hf := f.isLt
  unfold hd
  rw [if_pos (show R.val < 32768 by omega), if_pos (show d.val % 32 < 16 by omega)]
  have en : (⟨R.val % 8192, Nat.mod_lt _ (by decide)⟩ : Fin 8192) = ⟨r.val % 8192, Nat.mod_lt _ (by decide)⟩ := Fin.ext (by show R.val % 8192 = r.val % 8192; rw [hR])
  have ea : (⟨d.val / 32, by omega⟩ : Fin 2) = a := Fin.ext (by show d.val / 32 = a.val; omega)
  have ef : (⟨d.val % 16, by omega⟩ : Fin 16) = f := Fin.ext (by show d.val % 16 = f.val; omega)
  rw [en, ea, ef]
  refine (val_main_v139_apply (F := Ideal) x0 x1 x2 x3 x4 x6 _).trans (congrArg₂ (fun x y : EReal => x - y) ?_ ?_)
  · refine (val_main_v136_apply (F := Ideal) x0 x1 x2 x3 x4 x6 _).trans (congrArg₂ (fun x y : EReal => x * y) (c132 x0 x1 x2 x3 x4 x6 r H a f R hR d (by omega)) ?_)
    exact (val_main_v135_apply (F := Ideal) _).trans (at_ix (val_main_v68 (F := Ideal)) (ix4 r 0 a f) (idx_eq_ix4 _ r 0 a f rfl rfl rfl rfl) (c68 r a f))
  · refine (val_main_v138_apply (F := Ideal) x0 x1 x2 x3 x4 x6 _).trans (congrArg₂ (fun x y : EReal => x * y) (c134 x0 x1 x2 x3 x4 x6 r H a f R hR _ (by show (d.val + 16) % 64 = _; omega)) ?_)
    exact (val_main_v137_apply (F := Ideal) _).trans (at_ix (val_main_v72 (F := Ideal)) (ix4 r 0 a f) (idx_eq_ix4 _ r 0 a f rfl rfl rfl rfl) (c72 r a f))

theorem c144 (r : Fin 32768) (H : Fin 4) (a : Fin 2) (f : Fin 16) (R : Fin 33792) (hR : R.val = r.val) (d : Fin 64) (hd' : d.val = 32 * a.val + 16 + f.val) :
    (val_main_v144 (F := Ideal) x0 x1 x2 x3 x4 x6 (ix4 r H a f) : EReal) = hd (Pk x0 x1 x2 x3 x4 R H) x6 R d := by
  have hr := r.isLt
  have ha := a.isLt
  have hf := f.isLt
  unfold hd
  rw [if_pos (show R.val < 32768 by omega), if_neg (show ¬ d.val % 32 < 16 by omega)]
  have en : (⟨R.val % 8192, Nat.mod_lt _ (by decide)⟩ : Fin 8192) = ⟨r.val % 8192, Nat.mod_lt _ (by decide)⟩ := Fin.ext (by show R.val % 8192 = r.val % 8192; rw [hR])
  have ea : (⟨d.val / 32, by omega⟩ : Fin 2) = a := Fin.ext (by show d.val / 32 = a.val; omega)
  have ef : (⟨d.val % 16, by omega⟩ : Fin 16) = f := Fin.ext (by show d.val % 16 = f.val; omega)
  rw [en, ea, ef]
  refine (val_main_v144_apply (F := Ideal) x0 x1 x2 x3 x4 x6 _).trans (congrArg₂ (fun x y : EReal => x + y) ?_ ?_)
  · refine (val_main_v141_apply (F := Ideal) x0 x1 x2 x3 x4 x6 _).trans (congrArg₂ (fun x y : EReal => x * y) (c134 x0 x1 x2 x3 x4 x6 r H a f R hR d (by omega)) ?_)
    exact (val_main_v140_apply (F := Ideal) _).trans (at_ix (val_main_v68 (F := Ideal)) (ix4 r 0 a f) (idx_eq_ix4 _ r 0 a f rfl rfl rfl rfl) (c68 r a f))
  · refine (val_main_v143_apply (F := Ideal) x0 x1 x2 x3 x4 x6 _).trans (congrArg₂ (fun x y : EReal => x * y) (c132 x0 x1 x2 x3 x4 x6 r H a f R hR _ (by show (d.val + 48) % 64 = _; omega)) ?_)
    exact (val_main_v142_apply (F := Ideal) _).trans (at_ix (val_main_v72 (F := Ideal)) (ix4 r 0 a f) (idx_eq_ix4 _ r 0 a f rfl rfl rfl rfl) (c72 r a f))

theorem c147 (r : Fin 32768) (H : Fin 4) (a b : Fin 2) (f : Fin 16) (R : Fin 33792) (hR : R.val = r.val) (d : Fin 64) (hd' : d.val = 32 * a.val + 16 * b.val + f.val) :
    (val_main_v147 (F := Ideal) x0 x1 x2 x3 x4 x6 (ix5 r H a b f) : EReal) = hd (Pk x0 x1 x2 x3 x4 R H) x6 R d := by
  have hb := b.isLt
  unfold val_main_v147
  by_cases h : b.val = 0
  · refine (concatenate_pair_apply_left (t := S32768x4x2x2x16) (s₁ := S32768x4x2x1x16) (s₂ := S32768x4x2x1x16) 3 _ _ _ (ix5 r H a b f) rfl
      (ix5 r H a 0 f) (fun x => match x with | ⟨0, _⟩ => rfl | ⟨1, _⟩ => rfl | ⟨2, _⟩ => rfl | ⟨3, _⟩ => h.symm | ⟨4, _⟩ => rfl)).trans ((val_main_v145_apply (F := Ideal) x0 x1 x2 x3 x4 x6 _).trans ?_)
    exact at_ix (val_main_v139 (F := Ideal) x0 x1 x2 x3 x4 x6) (ix4 r H a f) (idx_eq_ix4 _ r H a f rfl rfl rfl rfl) (c139 x0 x1 x2 x3 x4 x6 r H a f R hR d (by omega))
  · refine (concatenate_pair_apply_right (t := S32768x4x2x2x16) (s₁ := S32768x4x2x1x16) (s₂ := S32768x4x2x1x16) 3 _ _ _ (ix5 r H a b f) rfl rfl
      (ix5 r H a 0 f) (fun x hx => match x with | ⟨0, _⟩ => rfl | ⟨1, _⟩ => rfl | ⟨2, _⟩ => rfl | ⟨3, _⟩ => absurd rfl hx | ⟨4, _⟩ => rfl) (by show 0 + 1 = b.val; omega)).trans
      ((val_main_v146_apply (F := Ideal) x0 x1 x2 x3 x4 x6 _).trans ?_)
    exact at_ix (val_main_v144 (F := Ideal) x0 x1 x2 x3 x4 x6) (ix4 r H a f) (idx_eq_ix4 _ r H a f rfl rfl rfl rfl) (c144 x0 x1 x2 x3 x4 x6 r H a f R hR d (by omega))

theorem c148 (r : Fin 32768) (H : Fin 4) (d : Fin 64) (R : Fin 33792) (hR : R.val = r.val) :
    (val_main_v148 (F := Ideal) x0 x1 x2 x3 x4 x6 (ix3 r H d) : EReal) = hd (Pk x0 x1 x2 x3 x4 R H) x6 R d := by
  have hr := r.isLt
  have hH := H.isLt
  have hd' := d.isLt
  refine (val_main_v148_apply (F := Ideal) x0 x1 x2 x3 x4 x6 _).trans (at_ix (val_main_v147 (F := Ideal) x0 x1 x2 x3 x4 x6) (ix5 r H ⟨d.val / 32, by omega⟩ ⟨d.val / 16 % 2, by omega⟩ ⟨d.val % 16, by omega⟩) (idx_eq_ix5 _ _ _ _ _ _
    (by show ((r.val * 4 + H.val) * 64 + d.val) / 256 = r.val; omega)
    (by show ((r.val * 4 + H.val) * 64 + d.val) / 64 % 4 = H.val; omega)
    (by show ((r.val * 4 + H.val) * 64 + d.val) / 32 % 2 = d.val / 32; omega)
    (by show ((r.val * 4 + H.val) * 64 + d.val) / 16 % 2 = d.val / 16 % 2; omega)
    (by show ((r.val * 4 + H.val) * 64 + d.val) % 16 = d.val % 16; omega)) ?_)
  exact c147 x0 x1 x2 x3 x4 x6 r H _ _ _ R hR d (by show d.val = 32 * (d.val / 32) + 16 * (d.val / 16 % 2) + d.val % 16; omega)

/-- Each head turned. -/
theorem c150 (R : Fin 33792) (H : Fin 4) (d : Fin 64) : (val_main_v150 (F := Ideal) x0 x1 x2 x3 x4 x6 (ix3 R H d) : EReal) = hd (Pk x0 x1 x2 x3 x4 R H) x6 R d := by
  have hR := R.isLt
  unfold val_main_v150
  by_cases h : R.val < 32768
  · exact (concatenate_pair_apply_left (t := S33792x4x64) (s₁ := S32768x4x64) (s₂ := S1024x4x64) 0 _ _ _ (ix3 R H d) rfl
      (ix3 ⟨R.val, h⟩ H d) (fun x => match x with | ⟨0, _⟩ => rfl | ⟨1, _⟩ => rfl | ⟨2, _⟩ => rfl)).trans (c148 x0 x1 x2 x3 x4 x6 ⟨R.val, h⟩ H d R rfl)
  · refine (concatenate_pair_apply_right (t := S33792x4x64) (s₁ := S32768x4x64) (s₂ := S1024x4x64) 0 _ _ _ (ix3 R H d) rfl rfl
      (ix3 ⟨R.val - 32768, by omega⟩ H d) (fun x hx => match x with | ⟨0, _⟩ => absurd rfl hx | ⟨1, _⟩ => rfl | ⟨2, _⟩ => rfl)
      (by show R.val - 32768 + 32768 = R.val; omega)).trans ((val_main_v149_apply (F := Ideal) x0 x1 x2 x3 x4 x6 _).trans ?_)
    refine at_ix (val_main_v128 (F := Ideal) x0 x1 x2 x3 x4 x6) (ix3 R H d) (idx_eq_ix3 _ R H d (by show 32768 + (R.val - 32768) = R.val; omega) rfl rfl) ((c128 x0 x1 x2 x3 x4 x6 R H d).trans ?_)
    unfold hd
    exact (if_neg h).symm

/-! ## The results -/

/-- The reference's first result. -/
theorem reference_9 : val_main_v113 (F := Ideal) x0 x1 x2 x3 x4 x5 = res9 x0 x1 x2 x3 x4 x5 := by
  funext y
  obtain ⟨R, C, rfl⟩ : ∃ (R : Fin 33792) (C : Fin 1024), y = ix2 R C := ⟨y 0, y 1, eq_ix2 y⟩
  have hR := R.isLt
  have hC := C.isLt
  refine (val_main_v113_apply (F := Ideal) x0 x1 x2 x3 x4 x5 _).trans ((val_main_v112_apply (F := Ideal) x0 x1 x2 x3 x4 x5 _).trans ?_)
  refine at_ix (val_main_v111 (F := Ideal) x0 x1 x2 x3 x4 x5) (ix3 R ⟨C.val / 64, by omega⟩ ⟨C.val % 64, by omega⟩) (idx_eq_ix3 _ _ _ _
    (by show (R.val * 1024 + C.val) / 1024 = R.val; omega) (by show (R.val * 1024 + C.val) / 64 % 16 = C.val / 64; omega)
    (by show (R.val * 1024 + C.val) % 64 = C.val % 64; omega)) ?_
  exact (val_main_v111_apply (F := Ideal) x0 x1 x2 x3 x4 x5 _).trans (congrArg₂ (fun x y : EReal => x * y) (c109 x0 x1 x2 x3 x4 x5 R _ _) (val_main_v110_apply (F := Ideal) _))

/-- Its second. -/
theorem reference_10 : val_main_v154 (F := Ideal) x0 x1 x2 x3 x4 x6 = res10 x0 x1 x2 x3 x4 x6 := by
  funext y
  obtain ⟨R, C, rfl⟩ : ∃ (R : Fin 33792) (C : Fin 512), y = ix2 R C := ⟨y 0, y 1, eq_ix2 y⟩
  have hR := R.isLt
  have hC := C.isLt
  refine (val_main_v154_apply (F := Ideal) x0 x1 x2 x3 x4 x6 _).trans ((val_main_v153_apply (F := Ideal) x0 x1 x2 x3 x4 x6 _).trans
    ((val_main_v152_apply (F := Ideal) x0 x1 x2 x3 x4 x6 _).trans ((val_main_v151_apply (F := Ideal) x0 x1 x2 x3 x4 x6 _).trans ?_)))
  exact at_ix (val_main_v150 (F := Ideal) x0 x1 x2 x3 x4 x6) (ix3 R ⟨C.val / 128, by omega⟩ ⟨C.val % 64, by omega⟩) (idx_eq_ix3 _ _ _ _
    (by show (R.val * 512 + C.val) / 512 = R.val; omega) (by show (R.val * 512 + C.val) / 128 % 4 = C.val / 128; omega)
    (by show (R.val * 512 + C.val) % 64 = C.val % 64; omega)) (c150 x0 x1 x2 x3 x4 x6 R _ _)

/-- Its third. -/
theorem reference_11 : val_main_v160 (F := Ideal) x0 x1 x2 x3 x4 = res11 x0 x1 x2 x3 x4 := by
  funext y
  obtain ⟨R, C, rfl⟩ : ∃ (R : Fin 33792) (C : Fin 512), y = ix2 R C := ⟨y 0, y 1, eq_ix2 y⟩
  have hR := R.isLt
  have hC := C.isLt
  refine (val_main_v160_apply (F := Ideal) x0 x1 x2 x3 x4 _).trans ((val_main_v159_apply (F := Ideal) x0 x1 x2 x3 x4 _).trans
    ((val_main_v158_apply (F := Ideal) x0 x1 x2 x3 x4 _).trans ((val_main_v157_apply (F := Ideal) x0 x1 x2 x3 x4 _).trans ?_)))
  refine at_ix (val_main_v156 (F := Ideal) x0 x1 x2 x3 x4) (ix3 R ⟨C.val / 128, by omega⟩ ⟨C.val % 64, by omega⟩) (idx_eq_ix3 _ _ _ _
    (by show (R.val * 512 + C.val) / 512 = R.val; omega) (by show (R.val * 512 + C.val) / 128 % 4 = C.val / 128; omega)
    (by show (R.val * 512 + C.val) % 64 = C.val % 64; omega)) ?_
  refine (val_main_v156_apply (F := Ideal) x0 x1 x2 x3 x4 _).trans ((val_main_v155_apply (F := Ideal) x0 x1 x2 x3 x4 _).trans ?_)
  exact at_ix (val_main_v38 (F := Ideal) x0 x1 x2 x3 x4) (ix2 R ⟨1280 + 64 * (C.val / 128) + C.val % 64, by omega⟩) (idx_eq_ix2 _ R ⟨1280 + 64 * (C.val / 128) + C.val % 64, by omega⟩
    (by show ((R.val * 4 + C.val / 128) * 64 + C.val % 64) / 256 = R.val; omega)
    (by show 1280 + ((R.val * 4 + C.val / 128) * 64 + C.val % 64) % 256 = 1280 + 64 * (C.val / 128) + C.val % 64; omega)) (c38 x0 x1 x2 x3 x4 R _)

end Cert.Reference4Ideal.Ap

end
-- ==== Proof.MdFinal.lean ====
module
public import proofs.«01_k».proof.Proof.PjFinal
public import proofs.«01_k».proof.Proof.Gen.Kernel5Ideal
public import proofs.«01_k».proof.Proof.Gen.Kernel5Ideal.Value

@[expose] public section

/-! The modulation's result array is `res` of the arguments where conditions and weights are finite: what is left of a value
after its high part is then zero, and so are the two products with it. -/

noncomputable section

namespace Cert.Kernel5Ideal.Md

open Cert.Kernel5Ideal Cert.Kernel5Ideal.Gen Idealize.ShloMosaic Idealize.ShloMosaic.TcCoe Idealize.ShloMosaic.Tactic Idealize.SL.Sem Idealize.ShloMosaic.Pipeline
open Cert.Kernel2Ideal.Pj (idx_eq_ix2 idx_eq_ix3)
open scoped BigOperators

/-! ## What is computed -/

/-- A value times the logistic function of it. -/
def silu (x : EReal) : EReal := x * Ideal.div (Ideal.ofBits .f32 0x3F800000#32) (Ideal.ofBits .f32 0x3F800000#32 + Ideal.exp (-x))

/-- The conditions' parts: four of the batch, the context's, and three rows of zeros. -/
abbrev parts (a : FVec Ideal S4x1024 .f32) (b : FVec Ideal S1024 .f32) : List ((s : Shape) × (FVec Ideal s .f32)) :=
  [⟨S4x1024, a⟩, ⟨S1x1024, broadcastInDim S1x1024 ![1] bcast_S1024_S1x1024_1 b⟩,
    ⟨S3x1024, broadcastInDim S3x1024 ![] bcast_S_S3x1024 (constant (F := Ideal) S_ .f32 0x00000000#32)⟩]

/-- One below the other. -/
def conds (a : FVec Ideal S4x1024 .f32) (b : FVec Ideal S1024 .f32) : FVec Ideal S8x1024 .f32 :=
  concatenate S8x1024 0 (parts a b) concatenates_S4x1024_S1x1024_S3x1024_S8x1024_d0

/-- The modulation of condition `r` in layer `l`, at column `C`. -/
def md (s : FVec Ideal S8x1024 .f32) (w : FVec Ideal S2x1024x6144 .f32) (b : FVec Ideal S2x6144 .f32) (l : Fin 2) (r : Fin 8) (C : Fin 6144) : EReal :=
  (∑ e : Fin 1024, silu (s (ix2 r e)) * (w (ix3 l e C) : EReal)) + b (ix2 l C)

/-- All of them. -/
def res (a : FVec Ideal S4x1024 .f32) (a' : FVec Ideal S1024 .f32) (w : FVec Ideal S2x1024x6144 .f32) (b : FVec Ideal S2x6144 .f32) : FVec Ideal S2x8x6144 .f32 :=
  fun y => md (conds a a') w b (y 0) (y 1) (y 2)

/-! ## Finite values -/

/-- A value that is a real number. -/
def Fin' (x : EReal) : Prop := ∃ r : ℝ, x = (r : EReal)

theorem one_eq : Ideal.ofBits .f32 0x3F800000#32 = ((1 : ℝ) : EReal) := by
  simp [Ideal.ofBits, Ideal.ieee]
  rw [← EReal.coe_mul]
  norm_num

theorem silu_fin {x : EReal} (h : Fin' x) : Fin' (silu x) := by
  obtain ⟨r, rfl⟩ := h
  refine ⟨r * (1 * (1 / (1 + Real.exp (-r)))), ?_⟩
  have hp : (1 + Real.exp (-r)) ≠ 0 := by positivity
  unfold silu
  rw [one_eq, ← EReal.coe_neg, Ideal.exp_coe, ← EReal.coe_add, Ideal.div_coe hp, ← EReal.coe_mul, ← EReal.coe_mul]

theorem sub_fin {x : EReal} (h : Fin' x) : x - x = 0 := by
  obtain ⟨r, rfl⟩ := h
  rw [← EReal.coe_sub, sub_self, EReal.coe_zero]

theorem conds_fin (a : FVec Ideal S4x1024 .f32) (b : FVec Ideal S1024 .f32) (ha : ∀ i, Fin' (a i)) (hb : ∀ i, Fin' (b i)) (r : Fin 8) (e : Fin 1024) :
    Fin' (conds a b (ix2 r e)) := by
  have hr := r.isLt
  have hb' : ∀ e : Fin 1024, Fin' ((broadcastInDim S1x1024 ![1] bcast_S1024_S1x1024_1 b : FVec Ideal S1x1024 .f32) (ix2 0 e)) := fun e =>
    (broadcastInDim_apply _ bcast_S1024_S1x1024_1 b (ix2 0 e) (ix1 e) (fun a => match a with
      | ⟨0, _⟩ => by show e.val = if (1024 : Nat) = 1 then 0 else e.val; rw [if_neg (by decide)])).symm ▸ hb (ix1 e)
  rcases (by omega : r.val < 4 ∨ r.val = 4 ∨ 5 ≤ r.val) with h | h | h
  · obtain ⟨x, hx⟩ := ha (ix2 ⟨r.val, h⟩ e)
    exact ⟨x, (concatenate_apply_piece (t := S8x1024) 0 (parts a b) concatenates_S4x1024_S1x1024_S3x1024_S8x1024_d0 (ix2 r e) 0 (by show 0 < 3; decide) S4x1024 a rfl rfl 0 rfl
      (ix2 ⟨r.val, h⟩ e) (fun b hb => match b with | ⟨0, _⟩ => absurd rfl hb | ⟨1, _⟩ => rfl) (by show 0 + r.val = r.val; omega)).trans hx⟩
  · obtain ⟨x, hx⟩ := hb' e
    exact ⟨x, (concatenate_apply_piece (t := S8x1024) 0 (parts a b) concatenates_S4x1024_S1x1024_S3x1024_S8x1024_d0 (ix2 r e) 1 (by show 1 < 3; decide) S1x1024
      (broadcastInDim S1x1024 ![1] bcast_S1024_S1x1024_1 b) rfl rfl 4 rfl
      (ix2 0 e) (fun b hb => match b with | ⟨0, _⟩ => absurd rfl hb | ⟨1, _⟩ => rfl) (by show 4 + 0 = r.val; omega)).trans hx⟩
  · exact ⟨0, (concatenate_apply_piece (t := S8x1024) 0 (parts a b) concatenates_S4x1024_S1x1024_S3x1024_S8x1024_d0 (ix2 r e) 2 (by show 2 < 3; decide) S3x1024
      (broadcastInDim S3x1024 ![] bcast_S_S3x1024 (constant (F := Ideal) S_ .f32 0x00000000#32)) rfl rfl 5 rfl
      (ix2 ⟨r.val - 5, by omega⟩ e) (fun b hb => match b with | ⟨0, _⟩ => absurd rfl hb | ⟨1, _⟩ => rfl) (by show 5 + (r.val - 5) = r.val; omega)).trans (Ideal.ofBits_zero_f32.trans EReal.coe_zero.symm)⟩

/-! ## One point of the grid -/

/-- A column of the block the body stores, from a condition `f`, a column `g` of the weights and a bias, with the parts left over written out. -/
def payV (f g : Fin 1024 → EReal) (b : EReal) : EReal :=
  ((∑ e : Fin 1024, silu (f e) * g e) + (∑ e : Fin 1024, (silu (f e) - silu (f e)) * g e) + ∑ e : Fin 1024, silu (f e) * (g e - g e)) + b

theorem payV_congr {f g f' g' : Fin 1024 → EReal} {b b' : EReal} (e1 : ∀ e, f e = f' e) (e2 : ∀ e, g e = g' e) (e3 : b = b') : payV f g b = payV f' g' b' := by
  rw [funext e1, funext e2, e3]

/-- From finite values the parts left over are zero. -/
theorem payV_fin (f g : Fin 1024 → EReal) (b : EReal) (hf : ∀ e, Fin' (f e)) (hg : ∀ e, Fin' (g e)) : payV f g b = (∑ e : Fin 1024, silu (f e) * g e) + b := by
  unfold payV
  rw [Finset.sum_eq_zero (f := fun e : Fin 1024 => (silu (f e) - silu (f e)) * g e) fun e _ => by rw [sub_fin (silu_fin (hf e)), zero_mul],
    Finset.sum_eq_zero (f := fun e : Fin 1024 => silu (f e) * (g e - g e)) fun e _ => by rw [sub_fin (hg e), mul_zero], add_zero, add_zero]

theorem pay_apply (s : Vec Ideal S8x1024 .f32) (w : Vec Ideal S1x1024x1024 .f32) (b : Vec Ideal S1x1x1024 .f32) (r : Fin 8) (C : Fin 1024) :
    (k0_pay1 s w b : FVec Ideal S1x8x1024 .f32) (ix3 0 r C) = payV (fun e => s (ix2 r e)) (fun e => w (ix3 0 e C)) (b (ix3 0 0 C)) := by
  have hn : ∀ x : EReal, (0 : EReal) - x = -x := fun x => by rw [sub_eq_add_neg, zero_add]
  unfold k0_pay1 payV silu
  pointwise [dot_S8x1024_S1024x1024_S8x1024_1_0_0_1_n_n, hn]

theorem ld_s (x : Vec Ideal S8x1024 .f32) (r : Fin 8) (e : Fin 1024) : View.ld x r0_0 (ix2 r e) = x (ix2 r e) := by
  unfold r0_0
  pointwise
theorem ld_w (x : Vec Ideal S1x1024x1024 .f32) (e C : Fin 1024) : View.ld x r0_1 (ix3 0 e C) = x (ix3 0 e C) := by
  unfold r0_1
  pointwise
theorem ld_b (x : Vec Ideal S1x1x1024 .f32) (C : Fin 1024) : View.ld x r0_2 (ix3 0 0 C) = x (ix3 0 0 C) := by
  unfold r0_2
  pointwise

/-- The block a point leaves, from finite conditions and weights. -/
theorem out3_eq (x0 : Vec Ideal S8x1024 .f32) (x1 : Vec Ideal S1x1024x1024 .f32) (x2 : Vec Ideal S1x1x1024 .f32) (r : Fin 8) (C : Fin 1024)
    (h0 : ∀ e, Fin' (x0 (ix2 r e))) (h1 : ∀ e, Fin' (x1 (ix3 0 e C))) :
    (out0_3 x0 x1 x2 (ix3 0 r C) : EReal) = (∑ e : Fin 1024, silu (x0 (ix2 r e)) * (x1 (ix3 0 e C) : EReal)) + x2 (ix3 0 0 C) := by
  refine Eq.trans ?_ ((pay_apply (View.ld x0 r0_0) (View.ld x1 r0_1) (View.ld x2 r0_2) r C).trans
    ((payV_congr (fun e => ld_s x0 r e) (fun e => ld_w x1 e C) (ld_b x2 C)).trans (payV_fin _ _ _ h0 h1)))
  unfold out0_3
  refine View.canon_apply_of_pieces (Val := Elt Ideal) (k0_pay1 (View.ld x0 r0_0) (View.ld x1 r0_1) (View.ld x2 r0_2) : Vec Ideal S1x8x1024 .f32) _ ?_ _ (cover0_3 _ _)
  simp only [List.forall_mem_cons, List.not_mem_nil, false_implies, implies_true, and_true]
  intro x
  refine congrArg (k0_pay1 (View.ld x0 r0_0) (View.ld x1 r0_1) (View.ld x2 r0_2) : Vec Ideal S1x8x1024 .f32) ?_
  funext a
  exact Fin.ext (match a with
    | ⟨0, _⟩ => by show (x 0).val = 0 + 1 * (x 0).val; omega
    | ⟨1, _⟩ => by show (x 1).val = 0 + 1 * (x 1).val; omega
    | ⟨2, _⟩ => by show (x 2).val = 0 + 1 * (x 2).val; omega)

/-! ## What the windows hold -/

variable (m : (ℓ : Loc nD τ sig) → Buf (Elt Ideal) ℓ)

theorem V_v2 (c : Dev nD) : V m c main_v2 = conds (m ((c : Thread nD τ).loc main_arg0)) (m ((c : Thread nD τ).loc main_arg1)) := by
  unfold V
  after_reads_simp
  rfl

theorem V_v3 (c : Dev nD) : V m c main_v3 = shapeCast S2x1x6144 (m ((c : Thread nD τ).loc main_arg3)) shapeCasts_S2x6144_S2x1x6144 := by
  unfold V
  after_reads_simp
  rfl

theorem bias_apply (b : FVec Ideal S2x6144 .f32) (l : Fin 2) (C : Fin 6144) :
    (shapeCast S2x1x6144 b shapeCasts_S2x6144_S2x1x6144 (ix3 l 0 C) : EReal) = b (ix2 l C) := by
  pointwise

/-- Which block of its array each window holds at each point. -/
theorem idx0 : ∀ t : Fin cfg0.N, win0_0.index t 0 = 0 ∧ win0_0.index t 1 = 0 := by decide +kernel
theorem idx1 : ∀ t : Fin cfg0.N, win0_1.index t 0 = t.val / 6 ∧ win0_1.index t 1 = 0 ∧ win0_1.index t 2 = t.val % 6 := by decide +kernel
theorem idx2 : ∀ t : Fin cfg0.N, win0_2.index t 0 = t.val / 6 ∧ win0_2.index t 1 = 0 ∧ win0_2.index t 2 = t.val % 6 := by decide +kernel
theorem idx3 : ∀ t : Fin cfg0.N, win0_3.index t 0 = t.val / 6 ∧ win0_3.index t 1 = 0 ∧ win0_3.index t 2 = t.val % 6 := by decide +kernel

theorem read0 (X : FVec Ideal S8x1024 .f32) (t : Fin cfg0.N) (r : Fin 8) (e : Fin 1024) :
    (((cfg0.win 0).blk t).view.read (Elt Ideal) X : Vec Ideal S8x1024 .f32) (ix2 r e) = X (ix2 r e) := by
  have h0 : ((win0_0.rect t).emb (ix2 r e) 0 : Nat) = win0_0.index t 0 * 8 + r.val := Window.rect_emb_val win0_0 t (ix2 r e) 0
  have h1 : ((win0_0.rect t).emb (ix2 r e) 1 : Nat) = win0_0.index t 1 * 1024 + e.val := Window.rect_emb_val win0_0 t (ix2 r e) 1
  rw [(idx0 t).1] at h0
  rw [(idx0 t).2] at h1
  exact congrArg X (idx_eq_ix2 _ r e (h0.trans (by omega)) (h1.trans (by omega)))

theorem read1 (X : FVec Ideal S2x1024x6144 .f32) (t : Fin cfg0.N) (e C : Fin 1024) (l : Fin 2) (C' : Fin 6144) (hl : l.val = t.val / 6) (hC : C'.val = t.val % 6 * 1024 + C.val) :
    (((cfg0.win 1).blk t).view.read (Elt Ideal) X : Vec Ideal S1x1024x1024 .f32) (ix3 0 e C) = X (ix3 l e C') := by
  have h0 : ((win0_1.rect t).emb (ix3 0 e C) 0 : Nat) = win0_1.index t 0 * 1 + 0 := Window.rect_emb_val win0_1 t (ix3 0 e C) 0
  have h1 : ((win0_1.rect t).emb (ix3 0 e C) 1 : Nat) = win0_1.index t 1 * 1024 + e.val := Window.rect_emb_val win0_1 t (ix3 0 e C) 1
  have h2 : ((win0_1.rect t).emb (ix3 0 e C) 2 : Nat) = win0_1.index t 2 * 1024 + C.val := Window.rect_emb_val win0_1 t (ix3 0 e C) 2
  rw [(idx1 t).1] at h0
  rw [(idx1 t).2.1] at h1
  rw [(idx1 t).2.2] at h2
  exact congrArg X (idx_eq_ix3 _ l e C' (h0.trans (by omega)) (h1.trans (by omega)) (h2.trans (by omega)))

theorem read2 (X : FVec Ideal S2x1x6144 .f32) (t : Fin cfg0.N) (C : Fin 1024) (l : Fin 2) (C' : Fin 6144) (hl : l.val = t.val / 6) (hC : C'.val = t.val % 6 * 1024 + C.val) :
    (((cfg0.win 2).blk t).view.read (Elt Ideal) X : Vec Ideal S1x1x1024 .f32) (ix3 0 0 C) = X (ix3 l 0 C') := by
  have h0 : ((win0_2.rect t).emb (ix3 0 0 C) 0 : Nat) = win0_2.index t 0 * 1 + 0 := Window.rect_emb_val win0_2 t (ix3 0 0 C) 0
  have h1 : ((win0_2.rect t).emb (ix3 0 0 C) 1 : Nat) = win0_2.index t 1 * 1 + 0 := Window.rect_emb_val win0_2 t (ix3 0 0 C) 1
  have h2 : ((win0_2.rect t).emb (ix3 0 0 C) 2 : Nat) = win0_2.index t 2 * 1024 + C.val := Window.rect_emb_val win0_2 t (ix3 0 0 C) 2
  rw [(idx2 t).1] at h0
  rw [(idx2 t).2.1] at h1
  rw [(idx2 t).2.2] at h2
  exact congrArg X (idx_eq_ix3 _ l 0 C' (h0.trans (by omega)) (h1.trans (by show _ = 0; omega)) (h2.trans (by omega)))

theorem read3 (X : FVec Ideal S2x8x6144 .f32) (t : Fin cfg0.N) (r : Fin 8) (C : Fin 1024) (l : Fin 2) (C' : Fin 6144) (hl : l.val = t.val / 6) (hC : C'.val = t.val % 6 * 1024 + C.val) :
    (((cfg0.win 3).blk t).view.read (Elt Ideal) X : Vec Ideal S1x8x1024 .f32) (ix3 0 r C) = X (ix3 l r C') := by
  have h0 : ((win0_3.rect t).emb (ix3 0 r C) 0 : Nat) = win0_3.index t 0 * 1 + 0 := Window.rect_emb_val win0_3 t (ix3 0 r C) 0
  have h1 : ((win0_3.rect t).emb (ix3 0 r C) 1 : Nat) = win0_3.index t 1 * 8 + r.val := Window.rect_emb_val win0_3 t (ix3 0 r C) 1
  have h2 : ((win0_3.rect t).emb (ix3 0 r C) 2 : Nat) = win0_3.index t 2 * 1024 + C.val := Window.rect_emb_val win0_3 t (ix3 0 r C) 2
  rw [(idx3 t).1] at h0
  rw [(idx3 t).2.1] at h1
  rw [(idx3 t).2.2] at h2
  exact congrArg X (idx_eq_ix3 _ l r C' (h0.trans (by omega)) (h1.trans (by omega)) (h2.trans (by omega)))

/-! ## The array -/

/-- The arguments on core `c`. -/
abbrev a0 (c : Dev nD) : FVec Ideal S4x1024 .f32 := m ((c : Thread nD τ).loc main_arg0)
abbrev a1 (c : Dev nD) : FVec Ideal S1024 .f32 := m ((c : Thread nD τ).loc main_arg1)
abbrev a2 (c : Dev nD) : FVec Ideal S2x1024x6144 .f32 := m ((c : Thread nD τ).loc main_arg2)
abbrev a3 (c : Dev nD) : FVec Ideal S2x6144 .f32 := m ((c : Thread nD τ).loc main_arg3)

/-- The conditions and the weights on core `c` are finite. -/
def Ok (c : Dev nD) : Prop := (∀ i, Fin' (a0 m c i)) ∧ (∀ i, Fin' (a1 m c i)) ∧ ∀ i, Fin' (a2 m c i)

abbrev r3 (c : Dev nD) : FVec Ideal S2x8x6144 .f32 := res (a0 m c) (a1 m c) (a2 m c) (a3 m c)

theorem blk0_apply (c : Dev nD) (t : Fin cfg0.N) (r : Fin 8) (e : Fin 1024) :
    (iblk m c 0 t : Vec Ideal S8x1024 .f32) (ix2 r e) = conds (a0 m c) (a1 m c) (ix2 r e) :=
  (read0 (V m c main_v2) t r e).trans (congrFun (V_v2 m c) _)

theorem blk1_apply (c : Dev nD) (t : Fin cfg0.N) (e C : Fin 1024) (l : Fin 2) (C' : Fin 6144) (hl : l.val = t.val / 6) (hC : C'.val = t.val % 6 * 1024 + C.val) :
    (iblk m c 1 t : Vec Ideal S1x1024x1024 .f32) (ix3 0 e C) = a2 m c (ix3 l e C') :=
  (read1 (V m c main_arg2) t e C l C' hl hC).trans (congrFun (V_main_arg2 m c) _)

theorem blk2_apply (c : Dev nD) (t : Fin cfg0.N) (C : Fin 1024) (l : Fin 2) (C' : Fin 6144) (hl : l.val = t.val / 6) (hC : C'.val = t.val % 6 * 1024 + C.val) :
    (iblk m c 2 t : Vec Ideal S1x1x1024 .f32) (ix3 0 0 C) = a3 m c (ix2 l C') :=
  (read2 (V m c main_v3) t C l C' hl hC).trans ((congrFun (V_v3 m c) _).trans (bias_apply _ l C'))

theorem flushed_3 (c : Dev nD) (h : Ok m c) (t : Fin cfg0.N) : (dats m 0 c).flushed 3 t = ((cfg0.win 3).blk t).view.read (Elt Ideal) (r3 m c) := by
  rw [Value.flushed3]
  have key : ∀ y : S1x8x1024.Idx, out0_3 (iblk m c 0 t) (iblk m c 1 t) (iblk m c 2 t) y
      = (((cfg0.win 3).blk t).view.read (Elt Ideal) (r3 m c) : Vec Ideal S1x8x1024 .f32) y := by
    intro y
    have ht : t.val < 12 := t.isLt
    obtain ⟨z, r, C, rfl⟩ : ∃ (z : Fin 1) (r : Fin 8) (C : Fin 1024), y = ix3 z r C := ⟨y 0, y 1, y 2, eq_ix3 y⟩
    obtain rfl : z = 0 := Subsingleton.elim _ _
    have hC := C.isLt
    obtain ⟨l, hl⟩ : ∃ l : Fin 2, l.val = t.val / 6 := ⟨⟨t.val / 6, by omega⟩, rfl⟩
    obtain ⟨C', hC'⟩ : ∃ C' : Fin 6144, C'.val = t.val % 6 * 1024 + C.val := ⟨⟨t.val % 6 * 1024 + C.val, by omega⟩, rfl⟩
    have b0 := fun e => blk0_apply m c t r e
    have b1 := fun e => blk1_apply m c t e C l C' hl hC'
    rw [read3 (r3 m c) t r C l C' hl hC']
    refine (out3_eq (iblk m c 0 t) (iblk m c 1 t) (iblk m c 2 t) r C (fun e => ?_) (fun e => ?_)).trans ?_
    · obtain ⟨x, hx⟩ := conds_fin _ _ h.1 h.2.1 r e
      exact ⟨x, (b0 e).trans hx⟩
    · obtain ⟨x, hx⟩ := h.2.2 (ix3 l e C')
      exact ⟨x, (b1 e).trans hx⟩
    · refine congrArg₂ (fun x y : EReal => x + y) (Finset.sum_congr rfl fun e _ => ?_) (blk2_apply m c t C l C' hl hC')
      exact congrArg₂ (fun x y : EReal => silu x * y) (b0 e) (b1 e)
  exact funext key

theorem cover_3 (i : S2x8x6144.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 6144 := (i 2).isLt
  obtain ⟨t, ht⟩ : ∃ t : Fin cfg0.N, t.val = (i 0).val * 6 + (i 2).val / 1024 := ⟨⟨(i 0).val * 6 + (i 2).val / 1024, by show _ < 12; omega⟩, rfl⟩
  refine ⟨t, flush0_3 t, ?_⟩
  have e0 : ((win0_3.rect t).emb (ix3 (0 : Fin 1) (⟨(i 1).val, h1⟩ : Fin 8) (⟨(i 2).val % 1024, by omega⟩ : Fin 1024)) 0 : Nat) = win0_3.index t 0 * 1 + 0 := Window.rect_emb_val win0_3 t _ 0
  have e1 : ((win0_3.rect t).emb (ix3 (0 : Fin 1) (⟨(i 1).val, h1⟩ : Fin 8) (⟨(i 2).val % 1024, by omega⟩ : Fin 1024)) 1 : Nat) = win0_3.index t 1 * 8 + (i 1).val := Window.rect_emb_val win0_3 t _ 1
  have e2 : ((win0_3.rect t).emb (ix3 (0 : Fin 1) (⟨(i 1).val, h1⟩ : Fin 8) (⟨(i 2).val % 1024, by omega⟩ : Fin 1024)) 2 : Nat) = win0_3.index t 2 * 1024 + (i 2).val % 1024 := Window.rect_emb_val win0_3 t _ 2
  rw [(idx3 t).1] at e0
  rw [(idx3 t).2.1] at e1
  rw [(idx3 t).2.2] at e2
  have e : i = (win0_3.rect t).emb (ix3 (0 : Fin 1) (⟨(i 1).val, h1⟩ : Fin 8) (⟨(i 2).val % 1024, by omega⟩ : Fin 1024)) :=
    (eq_ix3 i).trans (idx_eq_ix3 _ (i 0) (i 1) (i 2) (e0.trans (by rw [ht]; omega)) (e1.trans (by omega)) (e2.trans (by rw [ht]; omega))).symm
  rw [e]
  exact ((cfg0.win 3).blk t).view.emb_mem_set _

/-- The result array after the grid. -/
theorem final_3 (c : Dev nD) (h : Ok m c) : (dats m 0 c).arrAt 3 cfg0.N = r3 m c := (dats m 0 c).arrAt_eq_of_cover 3 (r3 m c) (fun t _ => flushed_3 m c h t) cover_3

end Cert.Kernel5Ideal.Md

end
-- ==== Proof.MdRef.lean ====
module
public import proofs.«01_k».proof.Proof.MdFinal
public import proofs.«01_k».proof.Proof.PjRef
public import proofs.«01_k».proof.Proof.Gen.Reference5Ideal.Read
public import proofs.«01_k».proof.Proof.Gen.Pre_conditions_finite
public import proofs.«01_k».proof.Defs
public import Idealize.ShloMosaic.Lib.ReduceAll

@[expose] public section

/-! The modulation's reference, element by element: its result is `res` too; and what the precondition says of the arguments. -/

noncomputable section

namespace Cert.Reference5Ideal.Md

open Cert.Reference5Ideal Cert.Reference5Ideal.Gen Cert.Reference5Ideal.Read Idealize.ShloMosaic Idealize.ShloMosaic.TcCoe
open Cert.Kernel5Ideal.Md
open Cert.Kernel2Ideal.Pj (idx_eq_ix2 idx_eq_ix3)
open Cert.Reference2Ideal.Pj (at_ix)
open scoped BigOperators

variable (a : FVec Ideal S4x1024 .f32) (a' : FVec Ideal S1024 .f32) (w : FVec Ideal S2x1024x6144 .f32) (b : FVec Ideal S2x6144 .f32)

/-- The conditions' own function. -/
theorem b3 (r : Fin 8) (e : Fin 1024) : (val_main_v3 (F := Ideal) a a' (ix2 r e) : EReal) = silu (conds a a' (ix2 r e)) := by
  have h2 : (val_main_v2 (F := Ideal) a a' (ix2 r e) : EReal) = conds a a' (ix2 r e) := rfl
  have h4 : (val_main_call0_v4 (F := Ideal) (ix2 r e) : EReal) = Ideal.ofBits .f32 0x3F800000#32 := val_main_call0_v4_apply (F := Ideal) _
  have h2' : (val_main_call0_v2 (F := Ideal) (ix2 r e) : EReal) = Ideal.ofBits .f32 0x3F800000#32 := val_main_call0_v2_apply (F := Ideal) _
  refine (?_ : _ = (val_main_v2 (F := Ideal) a a' (ix2 r e) : EReal) * Ideal.div (val_main_call0_v4 (F := Ideal) (ix2 r e))
    ((val_main_call0_v2 (F := Ideal) (ix2 r e) : EReal) + Ideal.exp (-(val_main_v2 (F := Ideal) a a' (ix2 r e) : EReal)))).trans ?_
  · rfl
  · rw [h2, h4, h2']
    rfl

/-- The first layer's weights, and the second's. -/
theorem b5 (e : Fin 1024) (C : Fin 6144) : val_main_v5 (F := Ideal) w (ix2 e C) = w (ix3 0 e C) := by
  have he := e.isLt
  have hC := C.isLt
  refine (val_main_v5_apply (F := Ideal) w _).trans ((val_main_v4_apply (F := Ideal) w _).trans (congrArg w ?_))
  exact idx_eq_ix3 _ 0 e C rfl (by show (e.val * 6144 + C.val) / 6144 % 1024 = e.val; omega) (by show (e.val * 6144 + C.val) % 6144 = C.val; omega)
theorem b13 (e : Fin 1024) (C : Fin 6144) : val_main_v13 (F := Ideal) w (ix2 e C) = w (ix3 1 e C) := by
  have he := e.isLt
  have hC := C.isLt
  refine (val_main_v13_apply (F := Ideal) w _).trans ((val_main_v12_apply (F := Ideal) w _).trans (congrArg w ?_))
  exact idx_eq_ix3 _ 1 e C rfl (by show (e.val * 6144 + C.val) / 6144 % 1024 = e.val; omega) (by show (e.val * 6144 + C.val) % 6144 = C.val; omega)

/-- The biases. -/
theorem b10 (r : Fin 8) (C : Fin 6144) : val_main_v10 (F := Ideal) b (ix2 r C) = b (ix2 0 C) := by
  have hC := C.isLt
  refine (val_main_v10_apply (F := Ideal) b _).trans ((val_main_v9_apply (F := Ideal) b _).trans ((val_main_v8_apply (F := Ideal) b _).trans
    ((val_main_v7_apply (F := Ideal) b _).trans (congrArg b ?_))))
  exact idx_eq_ix2 _ 0 C rfl (by show C.val % 6144 = C.val; omega)
theorem b18 (r : Fin 8) (C : Fin 6144) : val_main_v18 (F := Ideal) b (ix2 r C) = b (ix2 1 C) := by
  have hC := C.isLt
  refine (val_main_v18_apply (F := Ideal) b _).trans ((val_main_v17_apply (F := Ideal) b _).trans ((val_main_v16_apply (F := Ideal) b _).trans
    ((val_main_v15_apply (F := Ideal) b _).trans (congrArg b ?_))))
  exact idx_eq_ix2 _ 1 C rfl (by show C.val % 6144 = C.val; omega)

/-- Each layer's modulation. -/
theorem b11 (r : Fin 8) (C : Fin 6144) : (val_main_v11 (F := Ideal) a a' w b (ix2 r C) : EReal) = md (conds a a') w b 0 r C := by
  refine (val_main_v11_apply (F := Ideal) a a' w b _).trans (congrArg₂ (fun x y : EReal => x + y) ?_ (b10 b r C))
  refine (val_main_v6_apply a a' w (ix2 r C)).trans (Finset.sum_congr rfl fun e _ => congrArg₂ (fun x y : EReal => x * y) ?_ ?_)
  · exact at_ix (val_main_v3 (F := Ideal) a a') (ix2 r e) (idx_eq_ix2 _ r e rfl rfl) (b3 a a' r e)
  · exact at_ix (val_main_v5 (F := Ideal) w) (ix2 e C) (idx_eq_ix2 _ e C rfl rfl) (b5 w e C)
theorem b19 (r : Fin 8) (C : Fin 6144) : (val_main_v19 (F := Ideal) a a' w b (ix2 r C) : EReal) = md (conds a a') w b 1 r C := by
  refine (val_main_v19_apply (F := Ideal) a a' w b _).trans (congrArg₂ (fun x y : EReal => x + y) ?_ (b18 b r C))
  refine (val_main_v14_apply a a' w (ix2 r C)).trans (Finset.sum_congr rfl fun e _ => congrArg₂ (fun x y : EReal => x * y) ?_ ?_)
  · exact at_ix (val_main_v3 (F := Ideal) a a') (ix2 r e) (idx_eq_ix2 _ r e rfl rfl) (b3 a a' r e)
  · exact at_ix (val_main_v13 (F := Ideal) w) (ix2 e C) (idx_eq_ix2 _ e C rfl rfl) (b13 w e C)

/-- The reference's result. -/
theorem reference : val_main_v22 (F := Ideal) a a' w b = res a a' w b := by
  funext y
  obtain ⟨l, r, C, rfl⟩ : ∃ (l : Fin 2) (r : Fin 8) (C : Fin 6144), y = ix3 l r C := ⟨y 0, y 1, y 2, eq_ix3 y⟩
  have hl := l.isLt
  unfold val_main_v22
  by_cases h : l.val = 0
  · obtain rfl : l = 0 := Fin.ext h
    refine (concatenate_pair_apply_left (t := S2x8x6144) (s₁ := S1x8x6144) (s₂ := S1x8x6144) 0 _ _ _ (ix3 0 r C) rfl
      (ix3 0 r C) (fun x => match x with | ⟨0, _⟩ => rfl | ⟨1, _⟩ => rfl | ⟨2, _⟩ => rfl)).trans ?_
    exact (val_main_v20_apply (F := Ideal) a a' w b _).trans (at_ix (val_main_v11 (F := Ideal) a a' w b) (ix2 r C) (idx_eq_ix2 _ r C rfl rfl) (b11 a a' w b r C))
  · obtain rfl : l = 1 := Fin.ext (by show l.val = 1; omega)
    refine (concatenate_pair_apply_right (t := S2x8x6144) (s₁ := S1x8x6144) (s₂ := S1x8x6144) 0 _ _ _ (ix3 1 r C) rfl rfl
      (ix3 0 r C) (fun x hx => match x with | ⟨0, _⟩ => absurd rfl hx | ⟨1, _⟩ => rfl | ⟨2, _⟩ => rfl) (by rfl)).trans ?_
    exact (val_main_v21_apply (F := Ideal) a a' w b _).trans (at_ix (val_main_v19 (F := Ideal) a a' w b) (ix2 r C) (idx_eq_ix2 _ r C rfl rfl) (b19 a a' w b r C))

/-! ## The precondition -/

theorem inf_eq : Ideal.ofBits .f32 0x7F800000#32 = ⊤ := by
  simp [Ideal.ofBits, Ideal.ieee]

theorem fin_of {x : EReal} (h : Ideal.cmp .olt (max x (-x)) (Ideal.ofBits .f32 0x7F800000#32) = 1#1) : Fin' x := by
  rw [inf_eq] at h
  have h' : max x (-x) < ⊤ := by
    by_contra hn
    simp [Ideal.cmp, hn] at h
  induction x with
  | bot => simp at h'
  | top => simp at h'
  | coe r => exact ⟨r, rfl⟩

theorem both_iff (p q : BitVec 1) : (p &&& q = 1#1) ↔ p = 1#1 ∧ q = 1#1 := by revert p q; decide

/-- The precondition in plain words: conditions and weights are real numbers. -/
theorem finite (h : Cert.Pre_conditions_finite.fn (F := Ideal) a a' w b = fun _ => 1#1) : (∀ i, Fin' (a i)) ∧ (∀ i, Fin' (a' i)) ∧ ∀ i, Fin' (w i) := by
  haveI : Subsingleton Cert.Pre_conditions_finite.S_.Idx := ⟨fun x y => funext fun k => k.elim0⟩
  have e := congrFun h (fun k => k.elim0)
  unfold Cert.Pre_conditions_finite.fn at e
  obtain ⟨e12, e3⟩ := (both_iff _ _).1 e
  obtain ⟨e1, e2⟩ := (both_iff _ _).1 e12
  exact ⟨fun i => fin_of (Host.reduce_andi_all _ _ _ _ _ e1 i), fun i => fin_of (Host.reduce_andi_all _ _ _ _ _ e2 i), fun i => fin_of (Host.reduce_andi_all _ _ _ _ _ e3 i)⟩

end Cert.Reference5Ideal.Md

end
-- ==== Proof.DcBody.lean ====
module
public import proofs.«01_k».proof.Proof.MdFinal
public import proofs.«01_k».proof.Proof.Gen.Kernel6Ideal.Value

@[expose] public section

/-! The body of the convolution's call: its scratch array holds a block of rows with eight of either neighbour's, and each of its
four output blocks is read off that array and the other blocks. -/

noncomputable section

namespace Cert.Kernel6Ideal.Dc

open Cert.Kernel6Ideal Cert.Kernel6Ideal.Gen Idealize.ShloMosaic Idealize.ShloMosaic.TcCoe Idealize.ShloMosaic.Tactic Idealize.SL.Sem Idealize.ShloMosaic.Pipeline
open Cert.Kernel2Ideal.Pj (idx_eq_ix2 idx_eq_ix3)
open Cert.Kernel5Ideal.Md (silu)
open scoped BigOperators

/-! ## The scratch array -/

/-- The block's place in its sequence, from the point's number. -/
def pos (w : BitVec 32) : BitVec 32 :=
  Scalar.select (Scalar.cmpi CmpIPredicate.slt w 128#32)
    (Scalar.select (Scalar.andi (Scalar.xori (Scalar.cmpi CmpIPredicate.slt (Scalar.remsi w 32#32) 0#32) 0#1)
        (Scalar.cmpi CmpIPredicate.ne (Scalar.remsi w 32#32) 0#32)) (Scalar.addi (Scalar.remsi w 32#32) 32#32) (Scalar.remsi w 32#32))
    (Scalar.select (Scalar.andi (Scalar.xori (Scalar.cmpi CmpIPredicate.slt (Scalar.remsi (Scalar.subi w 128#32) 1#32) 0#32) 0#1)
        (Scalar.cmpi CmpIPredicate.ne (Scalar.remsi (Scalar.subi w 128#32) 1#32) 0#32))
      (Scalar.addi (Scalar.remsi (Scalar.subi w 128#32) 1#32) 1#32) (Scalar.remsi (Scalar.subi w 128#32) 1#32))
/-- Is the block the first of its sequence? -/
def first (w : BitVec 32) : BitVec 1 := Scalar.cmpi CmpIPredicate.eq (pos w) 0#32
/-- Is it the last? -/
def last (w : BitVec 32) : BitVec 1 :=
  Scalar.cmpi CmpIPredicate.eq (pos w) (Scalar.subi (Scalar.select (Scalar.cmpi CmpIPredicate.slt w 128#32) 32#32 1#32) 1#32)

/-- What the scratch array holds: the end of the block before or zeros, the block, the start of the one after or zeros. -/
def xeAt (p q : BitVec 1) (x0 : Vec Ideal S256x3072 .f32) (x1 x2 : Vec Ideal S8x3072 .f32) (r : Fin 272) (C : Fin 3072) : EReal :=
  if h0 : r.val < 8 then (if p = 1#1 then (0 : EReal) else x1 (ix2 ⟨r.val, h0⟩ C))
  else if h1 : r.val < 264 then x0 (ix2 ⟨r.val - 8, by omega⟩ C)
  else (if q = 1#1 then (0 : EReal) else x2 (ix2 ⟨r.val - 264, by omega⟩ C))
def xe (p q : BitVec 1) (x0 : Vec Ideal S256x3072 .f32) (x1 x2 : Vec Ideal S8x3072 .f32) : S272x3072.Idx → Elt Ideal .f32 := fun y => xeAt p q x0 x1 x2 (y 0) (y 1)

abbrev scr (p q : BitVec 1) (x0 : Vec Ideal S256x3072 .f32) (x1 x2 : Vec Ideal S8x3072 .f32) : List (View.Piece (Elt Ideal) S272x3072 .f32) :=
  [⟨Rect.unit ![264, 0] ![8, 3072] inb_S272x3072_S8x3072_264_0, k0_pay4 q (View.ld x2 (Rect.unit ![0, 0] ![8, 3072] inb_S8x3072_S8x3072_0_0))⟩,
   ⟨Rect.unit ![0, 0] ![8, 3072] inb_S272x3072_S8x3072_0_0, k0_pay3 p (View.ld x1 (Rect.unit ![0, 0] ![8, 3072] inb_S8x3072_S8x3072_0_0))⟩,
   ⟨Rect.unit ![8, 0] ![256, 3072] inb_S272x3072_S256x3072_8_0, k0_pay2 (View.ld x0 (Rect.unit ![0, 0] ![256, 3072] inb_S256x3072_S256x3072_0_0))⟩]

theorem ld8 (x : Vec Ideal S8x3072 .f32) (r : Fin 8) (C : Fin 3072) :
    View.ld x (Rect.unit ![0, 0] ![8, 3072] inb_S8x3072_S8x3072_0_0) (ix2 r C) = x (ix2 r C) := by
  pointwise
theorem ld256 (x : Vec Ideal S256x3072 .f32) (r : Fin 256) (C : Fin 3072) :
    View.ld x (Rect.unit ![0, 0] ![256, 3072] inb_S256x3072_S256x3072_0_0) (ix2 r C) = x (ix2 r C) := by
  pointwise

theorem pay2_apply (x : Vec Ideal S256x3072 .f32) (r : Fin 256) (C : Fin 3072) : (k0_pay2 x : FVec Ideal S256x3072 .f32) (ix2 r C) = x (ix2 r C) := by
  unfold k0_pay2
  pointwise
theorem pay3_apply (p : BitVec 1) (x : Vec Ideal S8x3072 .f32) (r : Fin 8) (C : Fin 3072) :
    (k0_pay3 p x : FVec Ideal S8x3072 .f32) (ix2 r C) = if p = 1#1 then (0 : EReal) else x (ix2 r C) := by
  unfold k0_pay3 Scalar.select
  split_ifs <;> first
    | exact absurd (show p = 1#1 from ‹p = 1›) ‹¬ p = 1#1›
    | exact absurd (show p = 1 from ‹p = 1#1›) ‹¬ p = 1›
    | pointwise
theorem pay4_apply (p : BitVec 1) (x : Vec Ideal S8x3072 .f32) (r : Fin 8) (C : Fin 3072) :
    (k0_pay4 p x : FVec Ideal S8x3072 .f32) (ix2 r C) = if p = 1#1 then (0 : EReal) else x (ix2 r C) := by
  unfold k0_pay4 Scalar.select
  split_ifs <;> first
    | exact absurd (show p = 1#1 from ‹p = 1›) ‹¬ p = 1#1›
    | exact absurd (show p = 1 from ‹p = 1#1›) ‹¬ p = 1›
    | pointwise

theorem scr_cover (p q : BitVec 1) (x0 : Vec Ideal S256x3072 .f32) (x1 x2 : Vec Ideal S8x3072 .f32) (y : S272x3072.Idx) : ∃ pc ∈ scr p q x0 x1 x2, y ∈ pc.1.set := by
  have h0 : (y 0).val < 272 := (y 0).isLt
  have h1 : (y 1).val < 3072 := (y 1).isLt
  by_cases ha : (y 0).val < 8
  · refine ⟨_, List.mem_cons_of_mem _ List.mem_cons_self, (Rect.mem_set_unit (inb := inb_S272x3072_S8x3072_0_0)).mpr fun a => ?_⟩
    match a with
    | ⟨0, _⟩ => exact ⟨Nat.zero_le _, (show (y 0).val < 0 + 8 by omega)⟩
    | ⟨1, _⟩ => exact ⟨Nat.zero_le _, (show (y 1).val < 0 + 3072 by omega)⟩
  · by_cases hb : (y 0).val < 264
    · refine ⟨_, List.mem_cons_of_mem _ (List.mem_cons_of_mem _ List.mem_cons_self), (Rect.mem_set_unit (inb := inb_S272x3072_S256x3072_8_0)).mpr fun a => ?_⟩
      match a with
      | ⟨0, _⟩ => exact ⟨(show 8 ≤ (y 0).val by omega), (show (y 0).val < 8 + 256 by omega)⟩
      | ⟨1, _⟩ => exact ⟨Nat.zero_le _, (show (y 1).val < 0 + 3072 by omega)⟩
    · refine ⟨_, List.mem_cons_self, (Rect.mem_set_unit (inb := inb_S272x3072_S8x3072_264_0)).mpr fun a => ?_⟩
      match a with
      | ⟨0, _⟩ => exact ⟨(show 264 ≤ (y 0).val by omega), (show (y 0).val < 264 + 8 by omega)⟩
      | ⟨1, _⟩ => exact ⟨Nat.zero_le _, (show (y 1).val < 0 + 3072 by omega)⟩

theorem scr_canon (p q : BitVec 1) (x0 : Vec Ideal S256x3072 .f32) (x1 x2 : Vec Ideal S8x3072 .f32) : View.canon (scr p q x0 x1 x2) = xe p q x0 x1 x2 := by
  funext y
  refine View.canon_apply_of_pieces (Val := Elt Ideal) (xe p q x0 x1 x2) _ ?_ y (scr_cover p q x0 x1 x2 y)
  simp only [List.forall_mem_cons, List.not_mem_nil, false_implies, implies_true, and_true]
  refine ⟨fun x => ?_, fun x => ?_, fun x => ?_⟩
  · obtain ⟨r, C, rfl⟩ : ∃ (r : Fin 8) (C : Fin 3072), x = ix2 r C := ⟨x 0, x 1, eq_ix2 x⟩
    have e : (Rect.unit ![264, 0] ![8, 3072] inb_S272x3072_S8x3072_264_0).emb (ix2 r C) = ix2 (⟨264 + r.val, by omega⟩ : Fin 272) C :=
      idx_eq_ix2 _ _ C (by show 264 + 1 * r.val = 264 + r.val; omega) (by show 0 + 1 * C.val = C.val; omega)
    refine ((pay4_apply q _ r C).trans ?_).trans (congrArg (xe p q x0 x1 x2) e).symm
    change _ = xeAt p q x0 x1 x2 ⟨264 + r.val, by omega⟩ C
    unfold xeAt
    rw [dif_neg (show ¬ (264 + r.val < 8) by omega), dif_neg (show ¬ (264 + r.val < 264) by omega), ld8]
    exact congrArg (fun k => if q = 1#1 then (0 : EReal) else x2 (ix2 k C)) (Fin.ext (by show r.val = 264 + r.val - 264; omega))
  · obtain ⟨r, C, rfl⟩ : ∃ (r : Fin 8) (C : Fin 3072), x = ix2 r C := ⟨x 0, x 1, eq_ix2 x⟩
    have e : (Rect.unit ![0, 0] ![8, 3072] inb_S272x3072_S8x3072_0_0).emb (ix2 r C) = ix2 (⟨r.val, by omega⟩ : Fin 272) C :=
      idx_eq_ix2 _ _ C (by show 0 + 1 * r.val = r.val; omega) (by show 0 + 1 * C.val = C.val; omega)
    refine ((pay3_apply p _ r C).trans ?_).trans (congrArg (xe p q x0 x1 x2) e).symm
    change _ = xeAt p q x0 x1 x2 ⟨r.val, by omega⟩ C
    unfold xeAt
    rw [dif_pos (show r.val < 8 from r.isLt), ld8]
  · obtain ⟨r, C, rfl⟩ : ∃ (r : Fin 256) (C : Fin 3072), x = ix2 r C := ⟨x 0, x 1, eq_ix2 x⟩
    have e : (Rect.unit ![8, 0] ![256, 3072] inb_S272x3072_S256x3072_8_0).emb (ix2 r C) = ix2 (⟨8 + r.val, by omega⟩ : Fin 272) C :=
      idx_eq_ix2 _ _ C (by show 8 + 1 * r.val = 8 + r.val; omega) (by show 0 + 1 * C.val = C.val; omega)
    refine ((pay2_apply _ r C).trans ?_).trans (congrArg (xe p q x0 x1 x2) e).symm
    change _ = xeAt p q x0 x1 x2 ⟨8 + r.val, by omega⟩ C
    unfold xeAt
    rw [dif_neg (show ¬ (8 + r.val < 8) by omega), dif_pos (show 8 + r.val < 264 by omega), ld256]
    exact congrArg (fun k => x0 (ix2 k C)) (Fin.ext (by show r.val = 8 + r.val - 8; omega))

/-- A load of the scratch array reads it. -/
theorem scr_ld {sp : Space} (v : View sig .tc sp S272x3072 .f32) (p q : BitVec 1) (x0 : Vec Ideal S256x3072 .f32) (x1 x2 : Vec Ideal S8x3072 .f32) (r : Rect S272x3072) :
    v.readCov (Val := Elt Ideal) [⟨Rect.unit ![264, 0] ![8, 3072] inb_S272x3072_S8x3072_264_0, k0_pay4 q (View.ld x2 (Rect.unit ![0, 0] ![8, 3072] inb_S8x3072_S8x3072_0_0))⟩,
   ⟨Rect.unit ![0, 0] ![8, 3072] inb_S272x3072_S8x3072_0_0, k0_pay3 p (View.ld x1 (Rect.unit ![0, 0] ![8, 3072] inb_S8x3072_S8x3072_0_0))⟩,
   ⟨Rect.unit ![8, 0] ![256, 3072] inb_S272x3072_S256x3072_8_0, k0_pay2 (View.ld x0 (Rect.unit ![0, 0] ![256, 3072] inb_S256x3072_S256x3072_0_0))⟩] r.toLoadRect
      = View.ld (xe p q x0 x1 x2) r := by
  have h := scr_canon p q x0 x1 x2
  rw [View.readCov_eq_canon', h]

/-! ## A chunk of 128 columns -/

/-- Five taps: each row of weights, laid over the rows, times the rows it meets. -/
def acc (w0 w1 w2 w3 w4 : Vec Ideal S1x128 .f32) (X0 X1 X2 X3 X4 : Vec Ideal S256x128 .f32) : FVec Ideal S256x128 .f32 :=
  addf (addf (addf (addf (addf (broadcast S256x128 (Scalar.ofBits .f32 0x00000000#32)) (mulf (broadcastTo S256x128 (shapeCast S1x128 w0 shapeCasts_S1x128_S1x128) broadcasts_S1x128_S256x128) X0)) (mulf (broadcastTo S256x128 (shapeCast S1x128 w1 shapeCasts_S1x128_S1x128) broadcasts_S1x128_S256x128) X1)) (mulf (broadcastTo S256x128 (shapeCast S1x128 w2 shapeCasts_S1x128_S1x128) broadcasts_S1x128_S256x128) X2)) (mulf (broadcastTo S256x128 (shapeCast S1x128 w3 shapeCasts_S1x128_S1x128) broadcasts_S1x128_S256x128) X3)) (mulf (broadcastTo S256x128 (shapeCast S1x128 w4 shapeCasts_S1x128_S1x128) broadcasts_S1x128_S256x128) X4)

def sil (a : FVec Ideal S256x128 .f32) : FVec Ideal S256x128 .f32 :=
  mulf a (divf (broadcast S256x128 (Scalar.ofBits .f32 0x3F800000#32)) (addf (broadcast S256x128 (Scalar.ofBits .f32 0x3F800000#32)) (exp (subf (broadcast S256x128 (Scalar.ofBits .f32 0x00000000#32)) a))))

def l2n (y : FVec Ideal S256x128 .f32) : FVec Ideal S256x128 .f32 :=
  mulf y (broadcastTo S256x128 (rsqrt (addf (shapeCast S256x1 (multiReduction .add [1] S256 (mulf y y) 0x00000000#32 reduces_S256x128_S256 (.inl rfl) rfl) shapeCasts_S256_S256x1) (broadcast S256x1 (Scalar.ofBits .f32 0x358637BD#32)))) broadcasts_S256x1_S256x128)

def vOut (a : FVec Ideal S256x128 .f32) : FVec Ideal S256x128 .bf16 := truncf .bf16 (sil a) bitsLt_bf16_f32
def kOut (a : FVec Ideal S256x128 .f32) : FVec Ideal S256x128 .bf16 := truncf .bf16 (l2n (sil a)) bitsLt_bf16_f32
def qOut (a : FVec Ideal S256x128 .f32) : FVec Ideal S256x128 .bf16 := truncf .bf16 (mulf (l2n (sil a)) (broadcast S256x128 (Scalar.ofBits .f32 0x3DB504F3#32))) bitsLt_bf16_f32

def acc0 (X : Vec Ideal S272x3072 .f32) (x3 : Vec Ideal S8x3072 .f32) : FVec Ideal S256x128 .f32 :=
  acc (View.ld x3 (Rect.unit ![0, 0] ![1, 128] inb_S8x3072_S1x128_0_0)) (View.ld x3 (Rect.unit ![1, 0] ![1, 128] inb_S8x3072_S1x128_1_0)) (View.ld x3 (Rect.unit ![2, 0] ![1, 128] inb_S8x3072_S1x128_2_0)) (View.ld x3 (Rect.unit ![3, 0] ![1, 128] inb_S8x3072_S1x128_3_0)) (View.ld x3 (Rect.unit ![4, 0] ![1, 128] inb_S8x3072_S1x128_4_0))
    (View.ld X (Rect.unit ![6, 0] ![256, 128] inb_S272x3072_S256x128_6_0)) (View.ld X (Rect.unit ![7, 0] ![256, 128] inb_S272x3072_S256x128_7_0)) (View.ld X (Rect.unit ![8, 0] ![256, 128] inb_S272x3072_S256x128_8_0)) (View.ld X (Rect.unit ![9, 0] ![256, 128] inb_S272x3072_S256x128_9_0)) (View.ld X (Rect.unit ![10, 0] ![256, 128] inb_S272x3072_S256x128_10_0))
def acc1 (X : Vec Ideal S272x3072 .f32) (x3 : Vec Ideal S8x3072 .f32) : FVec Ideal S256x128 .f32 :=
  acc (View.ld x3 (Rect.unit ![0, 128] ![1, 128] inb_S8x3072_S1x128_0_128)) (View.ld x3 (Rect.unit ![1, 128] ![1, 128] inb_S8x3072_S1x128_1_128)) (View.ld x3 (Rect.unit ![2, 128] ![1, 128] inb_S8x3072_S1x128_2_128)) (View.ld x3 (Rect.unit ![3, 128] ![1, 128] inb_S8x3072_S1x128_3_128)) (View.ld x3 (Rect.unit ![4, 128] ![1, 128] inb_S8x3072_S1x128_4_128))
    (View.ld X (Rect.unit ![6, 128] ![256, 128] inb_S272x3072_S256x128_6_128)) (View.ld X (Rect.unit ![7, 128] ![256, 128] inb_S272x3072_S256x128_7_128)) (View.ld X (Rect.unit ![8, 128] ![256, 128] inb_S272x3072_S256x128_8_128)) (View.ld X (Rect.unit ![9, 128] ![256, 128] inb_S272x3072_S256x128_9_128)) (View.ld X (Rect.unit ![10, 128] ![256, 128] inb_S272x3072_S256x128_10_128))
def acc2 (X : Vec Ideal S272x3072 .f32) (x3 : Vec Ideal S8x3072 .f32) : FVec Ideal S256x128 .f32 :=
  acc (View.ld x3 (Rect.unit ![0, 256] ![1, 128] inb_S8x3072_S1x128_0_256)) (View.ld x3 (Rect.unit ![1, 256] ![1, 128] inb_S8x3072_S1x128_1_256)) (View.ld x3 (Rect.unit ![2, 256] ![1, 128] inb_S8x3072_S1x128_2_256)) (View.ld x3 (Rect.unit ![3, 256] ![1, 128] inb_S8x3072_S1x128_3_256)) (View.ld x3 (Rect.unit ![4, 256] ![1, 128] inb_S8x3072_S1x128_4_256))
    (View.ld X (Rect.unit ![6, 256] ![256, 128] inb_S272x3072_S256x128_6_256)) (View.ld X (Rect.unit ![7, 256] ![256, 128] inb_S272x3072_S256x128_7_256)) (View.ld X (Rect.unit ![8, 256] ![256, 128] inb_S272x3072_S256x128_8_256)) (View.ld X (Rect.unit ![9, 256] ![256, 128] inb_S272x3072_S256x128_9_256)) (View.ld X (Rect.unit ![10, 256] ![256, 128] inb_S272x3072_S256x128_10_256))
def acc3 (X : Vec Ideal S272x3072 .f32) (x3 : Vec Ideal S8x3072 .f32) : FVec Ideal S256x128 .f32 :=
  acc (View.ld x3 (Rect.unit ![0, 384] ![1, 128] inb_S8x3072_S1x128_0_384)) (View.ld x3 (Rect.unit ![1, 384] ![1, 128] inb_S8x3072_S1x128_1_384)) (View.ld x3 (Rect.unit ![2, 384] ![1, 128] inb_S8x3072_S1x128_2_384)) (View.ld x3 (Rect.unit ![3, 384] ![1, 128] inb_S8x3072_S1x128_3_384)) (View.ld x3 (Rect.unit ![4, 384] ![1, 128] inb_S8x3072_S1x128_4_384))
    (View.ld X (Rect.unit ![6, 384] ![256, 128] inb_S272x3072_S256x128_6_384)) (View.ld X (Rect.unit ![7, 384] ![256, 128] inb_S272x3072_S256x128_7_384)) (View.ld X (Rect.unit ![8, 384] ![256, 128] inb_S272x3072_S256x128_8_384)) (View.ld X (Rect.unit ![9, 384] ![256, 128] inb_S272x3072_S256x128_9_384)) (View.ld X (Rect.unit ![10, 384] ![256, 128] inb_S272x3072_S256x128_10_384))
def acc4 (X : Vec Ideal S272x3072 .f32) (x3 : Vec Ideal S8x3072 .f32) : FVec Ideal S256x128 .f32 :=
  acc (View.ld x3 (Rect.unit ![0, 512] ![1, 128] inb_S8x3072_S1x128_0_512)) (View.ld x3 (Rect.unit ![1, 512] ![1, 128] inb_S8x3072_S1x128_1_512)) (View.ld x3 (Rect.unit ![2, 512] ![1, 128] inb_S8x3072_S1x128_2_512)) (View.ld x3 (Rect.unit ![3, 512] ![1, 128] inb_S8x3072_S1x128_3_512)) (View.ld x3 (Rect.unit ![4, 512] ![1, 128] inb_S8x3072_S1x128_4_512))
    (View.ld X (Rect.unit ![6, 512] ![256, 128] inb_S272x3072_S256x128_6_512)) (View.ld X (Rect.unit ![7, 512] ![256, 128] inb_S272x3072_S256x128_7_512)) (View.ld X (Rect.unit ![8, 512] ![256, 128] inb_S272x3072_S256x128_8_512)) (View.ld X (Rect.unit ![9, 512] ![256, 128] inb_S272x3072_S256x128_9_512)) (View.ld X (Rect.unit ![10, 512] ![256, 128] inb_S272x3072_S256x128_10_512))
def acc5 (X : Vec Ideal S272x3072 .f32) (x3 : Vec Ideal S8x3072 .f32) : FVec Ideal S256x128 .f32 :=
  acc (View.ld x3 (Rect.unit ![0, 640] ![1, 128] inb_S8x3072_S1x128_0_640)) (View.ld x3 (Rect.unit ![1, 640] ![1, 128] inb_S8x3072_S1x128_1_640)) (View.ld x3 (Rect.unit ![2, 640] ![1, 128] inb_S8x3072_S1x128_2_640)) (View.ld x3 (Rect.unit ![3, 640] ![1, 128] inb_S8x3072_S1x128_3_640)) (View.ld x3 (Rect.unit ![4, 640] ![1, 128] inb_S8x3072_S1x128_4_640))
    (View.ld X (Rect.unit ![6, 640] ![256, 128] inb_S272x3072_S256x128_6_640)) (View.ld X (Rect.unit ![7, 640] ![256, 128] inb_S272x3072_S256x128_7_640)) (View.ld X (Rect.unit ![8, 640] ![256, 128] inb_S272x3072_S256x128_8_640)) (View.ld X (Rect.unit ![9, 640] ![256, 128] inb_S272x3072_S256x128_9_640)) (View.ld X (Rect.unit ![10, 640] ![256, 128] inb_S272x3072_S256x128_10_640))
def acc6 (X : Vec Ideal S272x3072 .f32) (x3 : Vec Ideal S8x3072 .f32) : FVec Ideal S256x128 .f32 :=
  acc (View.ld x3 (Rect.unit ![0, 768] ![1, 128] inb_S8x3072_S1x128_0_768)) (View.ld x3 (Rect.unit ![1, 768] ![1, 128] inb_S8x3072_S1x128_1_768)) (View.ld x3 (Rect.unit ![2, 768] ![1, 128] inb_S8x3072_S1x128_2_768)) (View.ld x3 (Rect.unit ![3, 768] ![1, 128] inb_S8x3072_S1x128_3_768)) (View.ld x3 (Rect.unit ![4, 768] ![1, 128] inb_S8x3072_S1x128_4_768))
    (View.ld X (Rect.unit ![6, 768] ![256, 128] inb_S272x3072_S256x128_6_768)) (View.ld X (Rect.unit ![7, 768] ![256, 128] inb_S272x3072_S256x128_7_768)) (View.ld X (Rect.unit ![8, 768] ![256, 128] inb_S272x3072_S256x128_8_768)) (View.ld X (Rect.unit ![9, 768] ![256, 128] inb_S272x3072_S256x128_9_768)) (View.ld X (Rect.unit ![10, 768] ![256, 128] inb_S272x3072_S256x128_10_768))
def acc7 (X : Vec Ideal S272x3072 .f32) (x3 : Vec Ideal S8x3072 .f32) : FVec Ideal S256x128 .f32 :=
  acc (View.ld x3 (Rect.unit ![0, 896] ![1, 128] inb_S8x3072_S1x128_0_896)) (View.ld x3 (Rect.unit ![1, 896] ![1, 128] inb_S8x3072_S1x128_1_896)) (View.ld x3 (Rect.unit ![2, 896] ![1, 128] inb_S8x3072_S1x128_2_896)) (View.ld x3 (Rect.unit ![3, 896] ![1, 128] inb_S8x3072_S1x128_3_896)) (View.ld x3 (Rect.unit ![4, 896] ![1, 128] inb_S8x3072_S1x128_4_896))
    (View.ld X (Rect.unit ![6, 896] ![256, 128] inb_S272x3072_S256x128_6_896)) (View.ld X (Rect.unit ![7, 896] ![256, 128] inb_S272x3072_S256x128_7_896)) (View.ld X (Rect.unit ![8, 896] ![256, 128] inb_S272x3072_S256x128_8_896)) (View.ld X (Rect.unit ![9, 896] ![256, 128] inb_S272x3072_S256x128_9_896)) (View.ld X (Rect.unit ![10, 896] ![256, 128] inb_S272x3072_S256x128_10_896))
def acc8 (X : Vec Ideal S272x3072 .f32) (x3 : Vec Ideal S8x3072 .f32) : FVec Ideal S256x128 .f32 :=
  acc (View.ld x3 (Rect.unit ![0, 1024] ![1, 128] inb_S8x3072_S1x128_0_1024)) (View.ld x3 (Rect.unit ![1, 1024] ![1, 128] inb_S8x3072_S1x128_1_1024)) (View.ld x3 (Rect.unit ![2, 1024] ![1, 128] inb_S8x3072_S1x128_2_1024)) (View.ld x3 (Rect.unit ![3, 1024] ![1, 128] inb_S8x3072_S1x128_3_1024)) (View.ld x3 (Rect.unit ![4, 1024] ![1, 128] inb_S8x3072_S1x128_4_1024))
    (View.ld X (Rect.unit ![6, 1024] ![256, 128] inb_S272x3072_S256x128_6_1024)) (View.ld X (Rect.unit ![7, 1024] ![256, 128] inb_S272x3072_S256x128_7_1024)) (View.ld X (Rect.unit ![8, 1024] ![256, 128] inb_S272x3072_S256x128_8_1024)) (View.ld X (Rect.unit ![9, 1024] ![256, 128] inb_S272x3072_S256x128_9_1024)) (View.ld X (Rect.unit ![10, 1024] ![256, 128] inb_S272x3072_S256x128_10_1024))
def acc9 (X : Vec Ideal S272x3072 .f32) (x3 : Vec Ideal S8x3072 .f32) : FVec Ideal S256x128 .f32 :=
  acc (View.ld x3 (Rect.unit ![0, 1152] ![1, 128] inb_S8x3072_S1x128_0_1152)) (View.ld x3 (Rect.unit ![1, 1152] ![1, 128] inb_S8x3072_S1x128_1_1152)) (View.ld x3 (Rect.unit ![2, 1152] ![1, 128] inb_S8x3072_S1x128_2_1152)) (View.ld x3 (Rect.unit ![3, 1152] ![1, 128] inb_S8x3072_S1x128_3_1152)) (View.ld x3 (Rect.unit ![4, 1152] ![1, 128] inb_S8x3072_S1x128_4_1152))
    (View.ld X (Rect.unit ![6, 1152] ![256, 128] inb_S272x3072_S256x128_6_1152)) (View.ld X (Rect.unit ![7, 1152] ![256, 128] inb_S272x3072_S256x128_7_1152)) (View.ld X (Rect.unit ![8, 1152] ![256, 128] inb_S272x3072_S256x128_8_1152)) (View.ld X (Rect.unit ![9, 1152] ![256, 128] inb_S272x3072_S256x128_9_1152)) (View.ld X (Rect.unit ![10, 1152] ![256, 128] inb_S272x3072_S256x128_10_1152))
def acc10 (X : Vec Ideal S272x3072 .f32) (x3 : Vec Ideal S8x3072 .f32) : FVec Ideal S256x128 .f32 :=
  acc (View.ld x3 (Rect.unit ![0, 1280] ![1, 128] inb_S8x3072_S1x128_0_1280)) (View.ld x3 (Rect.unit ![1, 1280] ![1, 128] inb_S8x3072_S1x128_1_1280)) (View.ld x3 (Rect.unit ![2, 1280] ![1, 128] inb_S8x3072_S1x128_2_1280)) (View.ld x3 (Rect.unit ![3, 1280] ![1, 128] inb_S8x3072_S1x128_3_1280)) (View.ld x3 (Rect.unit ![4, 1280] ![1, 128] inb_S8x3072_S1x128_4_1280))
    (View.ld X (Rect.unit ![6, 1280] ![256, 128] inb_S272x3072_S256x128_6_1280)) (View.ld X (Rect.unit ![7, 1280] ![256, 128] inb_S272x3072_S256x128_7_1280)) (View.ld X (Rect.unit ![8, 1280] ![256, 128] inb_S272x3072_S256x128_8_1280)) (View.ld X (Rect.unit ![9, 1280] ![256, 128] inb_S272x3072_S256x128_9_1280)) (View.ld X (Rect.unit ![10, 1280] ![256, 128] inb_S272x3072_S256x128_10_1280))
def acc11 (X : Vec Ideal S272x3072 .f32) (x3 : Vec Ideal S8x3072 .f32) : FVec Ideal S256x128 .f32 :=
  acc (View.ld x3 (Rect.unit ![0, 1408] ![1, 128] inb_S8x3072_S1x128_0_1408)) (View.ld x3 (Rect.unit ![1, 1408] ![1, 128] inb_S8x3072_S1x128_1_1408)) (View.ld x3 (Rect.unit ![2, 1408] ![1, 128] inb_S8x3072_S1x128_2_1408)) (View.ld x3 (Rect.unit ![3, 1408] ![1, 128] inb_S8x3072_S1x128_3_1408)) (View.ld x3 (Rect.unit ![4, 1408] ![1, 128] inb_S8x3072_S1x128_4_1408))
    (View.ld X (Rect.unit ![6, 1408] ![256, 128] inb_S272x3072_S256x128_6_1408)) (View.ld X (Rect.unit ![7, 1408] ![256, 128] inb_S272x3072_S256x128_7_1408)) (View.ld X (Rect.unit ![8, 1408] ![256, 128] inb_S272x3072_S256x128_8_1408)) (View.ld X (Rect.unit ![9, 1408] ![256, 128] inb_S272x3072_S256x128_9_1408)) (View.ld X (Rect.unit ![10, 1408] ![256, 128] inb_S272x3072_S256x128_10_1408))
def acc12 (X : Vec Ideal S272x3072 .f32) (x3 : Vec Ideal S8x3072 .f32) : FVec Ideal S256x128 .f32 :=
  acc (View.ld x3 (Rect.unit ![0, 1536] ![1, 128] inb_S8x3072_S1x128_0_1536)) (View.ld x3 (Rect.unit ![1, 1536] ![1, 128] inb_S8x3072_S1x128_1_1536)) (View.ld x3 (Rect.unit ![2, 1536] ![1, 128] inb_S8x3072_S1x128_2_1536)) (View.ld x3 (Rect.unit ![3, 1536] ![1, 128] inb_S8x3072_S1x128_3_1536)) (View.ld x3 (Rect.unit ![4, 1536] ![1, 128] inb_S8x3072_S1x128_4_1536))
    (View.ld X (Rect.unit ![6, 1536] ![256, 128] inb_S272x3072_S256x128_6_1536)) (View.ld X (Rect.unit ![7, 1536] ![256, 128] inb_S272x3072_S256x128_7_1536)) (View.ld X (Rect.unit ![8, 1536] ![256, 128] inb_S272x3072_S256x128_8_1536)) (View.ld X (Rect.unit ![9, 1536] ![256, 128] inb_S272x3072_S256x128_9_1536)) (View.ld X (Rect.unit ![10, 1536] ![256, 128] inb_S272x3072_S256x128_10_1536))
def acc13 (X : Vec Ideal S272x3072 .f32) (x3 : Vec Ideal S8x3072 .f32) : FVec Ideal S256x128 .f32 :=
  acc (View.ld x3 (Rect.unit ![0, 1664] ![1, 128] inb_S8x3072_S1x128_0_1664)) (View.ld x3 (Rect.unit ![1, 1664] ![1, 128] inb_S8x3072_S1x128_1_1664)) (View.ld x3 (Rect.unit ![2, 1664] ![1, 128] inb_S8x3072_S1x128_2_1664)) (View.ld x3 (Rect.unit ![3, 1664] ![1, 128] inb_S8x3072_S1x128_3_1664)) (View.ld x3 (Rect.unit ![4, 1664] ![1, 128] inb_S8x3072_S1x128_4_1664))
    (View.ld X (Rect.unit ![6, 1664] ![256, 128] inb_S272x3072_S256x128_6_1664)) (View.ld X (Rect.unit ![7, 1664] ![256, 128] inb_S272x3072_S256x128_7_1664)) (View.ld X (Rect.unit ![8, 1664] ![256, 128] inb_S272x3072_S256x128_8_1664)) (View.ld X (Rect.unit ![9, 1664] ![256, 128] inb_S272x3072_S256x128_9_1664)) (View.ld X (Rect.unit ![10, 1664] ![256, 128] inb_S272x3072_S256x128_10_1664))
def acc14 (X : Vec Ideal S272x3072 .f32) (x3 : Vec Ideal S8x3072 .f32) : FVec Ideal S256x128 .f32 :=
  acc (View.ld x3 (Rect.unit ![0, 1792] ![1, 128] inb_S8x3072_S1x128_0_1792)) (View.ld x3 (Rect.unit ![1, 1792] ![1, 128] inb_S8x3072_S1x128_1_1792)) (View.ld x3 (Rect.unit ![2, 1792] ![1, 128] inb_S8x3072_S1x128_2_1792)) (View.ld x3 (Rect.unit ![3, 1792] ![1, 128] inb_S8x3072_S1x128_3_1792)) (View.ld x3 (Rect.unit ![4, 1792] ![1, 128] inb_S8x3072_S1x128_4_1792))
    (View.ld X (Rect.unit ![6, 1792] ![256, 128] inb_S272x3072_S256x128_6_1792)) (View.ld X (Rect.unit ![7, 1792] ![256, 128] inb_S272x3072_S256x128_7_1792)) (View.ld X (Rect.unit ![8, 1792] ![256, 128] inb_S272x3072_S256x128_8_1792)) (View.ld X (Rect.unit ![9, 1792] ![256, 128] inb_S272x3072_S256x128_9_1792)) (View.ld X (Rect.unit ![10, 1792] ![256, 128] inb_S272x3072_S256x128_10_1792))
def acc15 (X : Vec Ideal S272x3072 .f32) (x3 : Vec Ideal S8x3072 .f32) : FVec Ideal S256x128 .f32 :=
  acc (View.ld x3 (Rect.unit ![0, 1920] ![1, 128] inb_S8x3072_S1x128_0_1920)) (View.ld x3 (Rect.unit ![1, 1920] ![1, 128] inb_S8x3072_S1x128_1_1920)) (View.ld x3 (Rect.unit ![2, 1920] ![1, 128] inb_S8x3072_S1x128_2_1920)) (View.ld x3 (Rect.unit ![3, 1920] ![1, 128] inb_S8x3072_S1x128_3_1920)) (View.ld x3 (Rect.unit ![4, 1920] ![1, 128] inb_S8x3072_S1x128_4_1920))
    (View.ld X (Rect.unit ![6, 1920] ![256, 128] inb_S272x3072_S256x128_6_1920)) (View.ld X (Rect.unit ![7, 1920] ![256, 128] inb_S272x3072_S256x128_7_1920)) (View.ld X (Rect.unit ![8, 1920] ![256, 128] inb_S272x3072_S256x128_8_1920)) (View.ld X (Rect.unit ![9, 1920] ![256, 128] inb_S272x3072_S256x128_9_1920)) (View.ld X (Rect.unit ![10, 1920] ![256, 128] inb_S272x3072_S256x128_10_1920))
def acc16 (X : Vec Ideal S272x3072 .f32) (x3 : Vec Ideal S8x3072 .f32) : FVec Ideal S256x128 .f32 :=
  acc (View.ld x3 (Rect.unit ![0, 2048] ![1, 128] inb_S8x3072_S1x128_0_2048)) (View.ld x3 (Rect.unit ![1, 2048] ![1, 128] inb_S8x3072_S1x128_1_2048)) (View.ld x3 (Rect.unit ![2, 2048] ![1, 128] inb_S8x3072_S1x128_2_2048)) (View.ld x3 (Rect.unit ![3, 2048] ![1, 128] inb_S8x3072_S1x128_3_2048)) (View.ld x3 (Rect.unit ![4, 2048] ![1, 128] inb_S8x3072_S1x128_4_2048))
    (View.ld X (Rect.unit ![6, 2048] ![256, 128] inb_S272x3072_S256x128_6_2048)) (View.ld X (Rect.unit ![7, 2048] ![256, 128] inb_S272x3072_S256x128_7_2048)) (View.ld X (Rect.unit ![8, 2048] ![256, 128] inb_S272x3072_S256x128_8_2048)) (View.ld X (Rect.unit ![9, 2048] ![256, 128] inb_S272x3072_S256x128_9_2048)) (View.ld X (Rect.unit ![10, 2048] ![256, 128] inb_S272x3072_S256x128_10_2048))
def acc17 (X : Vec Ideal S272x3072 .f32) (x3 : Vec Ideal S8x3072 .f32) : FVec Ideal S256x128 .f32 :=
  acc (View.ld x3 (Rect.unit ![0, 2176] ![1, 128] inb_S8x3072_S1x128_0_2176)) (View.ld x3 (Rect.unit ![1, 2176] ![1, 128] inb_S8x3072_S1x128_1_2176)) (View.ld x3 (Rect.unit ![2, 2176] ![1, 128] inb_S8x3072_S1x128_2_2176)) (View.ld x3 (Rect.unit ![3, 2176] ![1, 128] inb_S8x3072_S1x128_3_2176)) (View.ld x3 (Rect.unit ![4, 2176] ![1, 128] inb_S8x3072_S1x128_4_2176))
    (View.ld X (Rect.unit ![6, 2176] ![256, 128] inb_S272x3072_S256x128_6_2176)) (View.ld X (Rect.unit ![7, 2176] ![256, 128] inb_S272x3072_S256x128_7_2176)) (View.ld X (Rect.unit ![8, 2176] ![256, 128] inb_S272x3072_S256x128_8_2176)) (View.ld X (Rect.unit ![9, 2176] ![256, 128] inb_S272x3072_S256x128_9_2176)) (View.ld X (Rect.unit ![10, 2176] ![256, 128] inb_S272x3072_S256x128_10_2176))
def acc18 (X : Vec Ideal S272x3072 .f32) (x3 : Vec Ideal S8x3072 .f32) : FVec Ideal S256x128 .f32 :=
  acc (View.ld x3 (Rect.unit ![0, 2304] ![1, 128] inb_S8x3072_S1x128_0_2304)) (View.ld x3 (Rect.unit ![1, 2304] ![1, 128] inb_S8x3072_S1x128_1_2304)) (View.ld x3 (Rect.unit ![2, 2304] ![1, 128] inb_S8x3072_S1x128_2_2304)) (View.ld x3 (Rect.unit ![3, 2304] ![1, 128] inb_S8x3072_S1x128_3_2304)) (View.ld x3 (Rect.unit ![4, 2304] ![1, 128] inb_S8x3072_S1x128_4_2304))
    (View.ld X (Rect.unit ![6, 2304] ![256, 128] inb_S272x3072_S256x128_6_2304)) (View.ld X (Rect.unit ![7, 2304] ![256, 128] inb_S272x3072_S256x128_7_2304)) (View.ld X (Rect.unit ![8, 2304] ![256, 128] inb_S272x3072_S256x128_8_2304)) (View.ld X (Rect.unit ![9, 2304] ![256, 128] inb_S272x3072_S256x128_9_2304)) (View.ld X (Rect.unit ![10, 2304] ![256, 128] inb_S272x3072_S256x128_10_2304))
def acc19 (X : Vec Ideal S272x3072 .f32) (x3 : Vec Ideal S8x3072 .f32) : FVec Ideal S256x128 .f32 :=
  acc (View.ld x3 (Rect.unit ![0, 2432] ![1, 128] inb_S8x3072_S1x128_0_2432)) (View.ld x3 (Rect.unit ![1, 2432] ![1, 128] inb_S8x3072_S1x128_1_2432)) (View.ld x3 (Rect.unit ![2, 2432] ![1, 128] inb_S8x3072_S1x128_2_2432)) (View.ld x3 (Rect.unit ![3, 2432] ![1, 128] inb_S8x3072_S1x128_3_2432)) (View.ld x3 (Rect.unit ![4, 2432] ![1, 128] inb_S8x3072_S1x128_4_2432))
    (View.ld X (Rect.unit ![6, 2432] ![256, 128] inb_S272x3072_S256x128_6_2432)) (View.ld X (Rect.unit ![7, 2432] ![256, 128] inb_S272x3072_S256x128_7_2432)) (View.ld X (Rect.unit ![8, 2432] ![256, 128] inb_S272x3072_S256x128_8_2432)) (View.ld X (Rect.unit ![9, 2432] ![256, 128] inb_S272x3072_S256x128_9_2432)) (View.ld X (Rect.unit ![10, 2432] ![256, 128] inb_S272x3072_S256x128_10_2432))
def acc20 (X : Vec Ideal S272x3072 .f32) (x3 : Vec Ideal S8x3072 .f32) : FVec Ideal S256x128 .f32 :=
  acc (View.ld x3 (Rect.unit ![0, 2560] ![1, 128] inb_S8x3072_S1x128_0_2560)) (View.ld x3 (Rect.unit ![1, 2560] ![1, 128] inb_S8x3072_S1x128_1_2560)) (View.ld x3 (Rect.unit ![2, 2560] ![1, 128] inb_S8x3072_S1x128_2_2560)) (View.ld x3 (Rect.unit ![3, 2560] ![1, 128] inb_S8x3072_S1x128_3_2560)) (View.ld x3 (Rect.unit ![4, 2560] ![1, 128] inb_S8x3072_S1x128_4_2560))
    (View.ld X (Rect.unit ![6, 2560] ![256, 128] inb_S272x3072_S256x128_6_2560)) (View.ld X (Rect.unit ![7, 2560] ![256, 128] inb_S272x3072_S256x128_7_2560)) (View.ld X (Rect.unit ![8, 2560] ![256, 128] inb_S272x3072_S256x128_8_2560)) (View.ld X (Rect.unit ![9, 2560] ![256, 128] inb_S272x3072_S256x128_9_2560)) (View.ld X (Rect.unit ![10, 2560] ![256, 128] inb_S272x3072_S256x128_10_2560))
def acc21 (X : Vec Ideal S272x3072 .f32) (x3 : Vec Ideal S8x3072 .f32) : FVec Ideal S256x128 .f32 :=
  acc (View.ld x3 (Rect.unit ![0, 2688] ![1, 128] inb_S8x3072_S1x128_0_2688)) (View.ld x3 (Rect.unit ![1, 2688] ![1, 128] inb_S8x3072_S1x128_1_2688)) (View.ld x3 (Rect.unit ![2, 2688] ![1, 128] inb_S8x3072_S1x128_2_2688)) (View.ld x3 (Rect.unit ![3, 2688] ![1, 128] inb_S8x3072_S1x128_3_2688)) (View.ld x3 (Rect.unit ![4, 2688] ![1, 128] inb_S8x3072_S1x128_4_2688))
    (View.ld X (Rect.unit ![6, 2688] ![256, 128] inb_S272x3072_S256x128_6_2688)) (View.ld X (Rect.unit ![7, 2688] ![256, 128] inb_S272x3072_S256x128_7_2688)) (View.ld X (Rect.unit ![8, 2688] ![256, 128] inb_S272x3072_S256x128_8_2688)) (View.ld X (Rect.unit ![9, 2688] ![256, 128] inb_S272x3072_S256x128_9_2688)) (View.ld X (Rect.unit ![10, 2688] ![256, 128] inb_S272x3072_S256x128_10_2688))
def acc22 (X : Vec Ideal S272x3072 .f32) (x3 : Vec Ideal S8x3072 .f32) : FVec Ideal S256x128 .f32 :=
  acc (View.ld x3 (Rect.unit ![0, 2816] ![1, 128] inb_S8x3072_S1x128_0_2816)) (View.ld x3 (Rect.unit ![1, 2816] ![1, 128] inb_S8x3072_S1x128_1_2816)) (View.ld x3 (Rect.unit ![2, 2816] ![1, 128] inb_S8x3072_S1x128_2_2816)) (View.ld x3 (Rect.unit ![3, 2816] ![1, 128] inb_S8x3072_S1x128_3_2816)) (View.ld x3 (Rect.unit ![4, 2816] ![1, 128] inb_S8x3072_S1x128_4_2816))
    (View.ld X (Rect.unit ![6, 2816] ![256, 128] inb_S272x3072_S256x128_6_2816)) (View.ld X (Rect.unit ![7, 2816] ![256, 128] inb_S272x3072_S256x128_7_2816)) (View.ld X (Rect.unit ![8, 2816] ![256, 128] inb_S272x3072_S256x128_8_2816)) (View.ld X (Rect.unit ![9, 2816] ![256, 128] inb_S272x3072_S256x128_9_2816)) (View.ld X (Rect.unit ![10, 2816] ![256, 128] inb_S272x3072_S256x128_10_2816))
def acc23 (X : Vec Ideal S272x3072 .f32) (x3 : Vec Ideal S8x3072 .f32) : FVec Ideal S256x128 .f32 :=
  acc (View.ld x3 (Rect.unit ![0, 2944] ![1, 128] inb_S8x3072_S1x128_0_2944)) (View.ld x3 (Rect.unit ![1, 2944] ![1, 128] inb_S8x3072_S1x128_1_2944)) (View.ld x3 (Rect.unit ![2, 2944] ![1, 128] inb_S8x3072_S1x128_2_2944)) (View.ld x3 (Rect.unit ![3, 2944] ![1, 128] inb_S8x3072_S1x128_3_2944)) (View.ld x3 (Rect.unit ![4, 2944] ![1, 128] inb_S8x3072_S1x128_4_2944))
    (View.ld X (Rect.unit ![6, 2944] ![256, 128] inb_S272x3072_S256x128_6_2944)) (View.ld X (Rect.unit ![7, 2944] ![256, 128] inb_S272x3072_S256x128_7_2944)) (View.ld X (Rect.unit ![8, 2944] ![256, 128] inb_S272x3072_S256x128_8_2944)) (View.ld X (Rect.unit ![9, 2944] ![256, 128] inb_S272x3072_S256x128_9_2944)) (View.ld X (Rect.unit ![10, 2944] ![256, 128] inb_S272x3072_S256x128_10_2944))

/-- The eight blocks of columns stored into the block of q, the last first. -/
abbrev piecesq (X : Vec Ideal S272x3072 .f32) (x3 : Vec Ideal S8x3072 .f32) : List (View.Piece (Elt Ideal) S256x1024 .bf16) :=
  [⟨Rect.unit ![0, 896] ![256, 128] inb_S256x1024_S256x128_0_896, qOut (acc7 X x3)⟩,
   ⟨Rect.unit ![0, 768] ![256, 128] inb_S256x1024_S256x128_0_768, qOut (acc6 X x3)⟩,
   ⟨Rect.unit ![0, 640] ![256, 128] inb_S256x1024_S256x128_0_640, qOut (acc5 X x3)⟩,
   ⟨Rect.unit ![0, 512] ![256, 128] inb_S256x1024_S256x128_0_512, qOut (acc4 X x3)⟩,
   ⟨Rect.unit ![0, 384] ![256, 128] inb_S256x1024_S256x128_0_384, qOut (acc3 X x3)⟩,
   ⟨Rect.unit ![0, 256] ![256, 128] inb_S256x1024_S256x128_0_256, qOut (acc2 X x3)⟩,
   ⟨Rect.unit ![0, 128] ![256, 128] inb_S256x1024_S256x128_0_128, qOut (acc1 X x3)⟩,
   ⟨Rect.unit ![0, 0] ![256, 128] inb_S256x1024_S256x128_0_0, qOut (acc0 X x3)⟩]

/-- The eight blocks of columns stored into the block of k, the last first. -/
abbrev piecesk (X : Vec Ideal S272x3072 .f32) (x3 : Vec Ideal S8x3072 .f32) : List (View.Piece (Elt Ideal) S256x1024 .bf16) :=
  [⟨Rect.unit ![0, 896] ![256, 128] inb_S256x1024_S256x128_0_896, kOut (acc15 X x3)⟩,
   ⟨Rect.unit ![0, 768] ![256, 128] inb_S256x1024_S256x128_0_768, kOut (acc14 X x3)⟩,
   ⟨Rect.unit ![0, 640] ![256, 128] inb_S256x1024_S256x128_0_640, kOut (acc13 X x3)⟩,
   ⟨Rect.unit ![0, 512] ![256, 128] inb_S256x1024_S256x128_0_512, kOut (acc12 X x3)⟩,
   ⟨Rect.unit ![0, 384] ![256, 128] inb_S256x1024_S256x128_0_384, kOut (acc11 X x3)⟩,
   ⟨Rect.unit ![0, 256] ![256, 128] inb_S256x1024_S256x128_0_256, kOut (acc10 X x3)⟩,
   ⟨Rect.unit ![0, 128] ![256, 128] inb_S256x1024_S256x128_0_128, kOut (acc9 X x3)⟩,
   ⟨Rect.unit ![0, 0] ![256, 128] inb_S256x1024_S256x128_0_0, kOut (acc8 X x3)⟩]

/-- The eight blocks of columns stored into the block of v, the last first. -/
abbrev piecesv (X : Vec Ideal S272x3072 .f32) (x3 : Vec Ideal S8x3072 .f32) : List (View.Piece (Elt Ideal) S256x1024 .bf16) :=
  [⟨Rect.unit ![0, 896] ![256, 128] inb_S256x1024_S256x128_0_896, vOut (acc23 X x3)⟩,
   ⟨Rect.unit ![0, 768] ![256, 128] inb_S256x1024_S256x128_0_768, vOut (acc22 X x3)⟩,
   ⟨Rect.unit ![0, 640] ![256, 128] inb_S256x1024_S256x128_0_640, vOut (acc21 X x3)⟩,
   ⟨Rect.unit ![0, 512] ![256, 128] inb_S256x1024_S256x128_0_512, vOut (acc20 X x3)⟩,
   ⟨Rect.unit ![0, 384] ![256, 128] inb_S256x1024_S256x128_0_384, vOut (acc19 X x3)⟩,
   ⟨Rect.unit ![0, 256] ![256, 128] inb_S256x1024_S256x128_0_256, vOut (acc18 X x3)⟩,
   ⟨Rect.unit ![0, 128] ![256, 128] inb_S256x1024_S256x128_0_128, vOut (acc17 X x3)⟩,
   ⟨Rect.unit ![0, 0] ![256, 128] inb_S256x1024_S256x128_0_0, vOut (acc16 X x3)⟩]

variable (c : Dev nD) (i : grid0.Coords) (arg1 : Memref sig .tc .vmem S256x3072 .f32) (harg1 : arg1.IsWhole) (arg2 : Memref sig .tc .vmem S8x3072 .f32) (harg2 : arg2.IsWhole) (arg3 : Memref sig .tc .vmem S8x3072 .f32) (harg3 : arg3.IsWhole) (arg4 : Memref sig .tc .vmem S8x3072 .f32) (harg4 : arg4.IsWhole) (arg5 : Memref sig .tc .vmem S256x128 .f32) (harg5 : arg5.IsWhole) (arg6 : Memref sig .tc .vmem S2x128 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S272x3072 .f32) (harg11 : arg11.IsWhole)
    (x0 : Vec Ideal S256x3072 .f32) (x1 : Vec Ideal S8x3072 .f32) (x2 : Vec Ideal S8x3072 .f32) (x3 : Vec Ideal S8x3072 .f32) (x4 : Vec Ideal S256x128 .f32) (x5 : Vec Ideal S2x128 .f32)

/-- The scratch array's contents at a point. -/
abbrev XE (i : grid0.Coords) (x0 : Vec Ideal S256x3072 .f32) (x1 x2 : Vec Ideal S8x3072 .f32) : Vec Ideal S272x3072 .f32 :=
  xe (first (BitVec.ofNat 32 (i 0).val)) (last (BitVec.ofNat 32 (i 0).val)) x0 x1 x2

set_option maxHeartbeats 4000000 in
set_option maxRecDepth 16384 in
theorem run_q : (kernelRun0_A c i arg1 harg1 arg2 harg2 arg3 harg3 arg4 harg4 arg5 harg5 arg6 harg6 arg7 harg7 arg8 harg8 arg9 harg9 arg10 harg10 arg11 harg11 x0 x1 x2 x3 x4 x5).1 = piecesq (XE i x0 x1 x2) x3 := by
  unfold kernelRun0_A
  dsimp only
  sl_unfold_words
  simp only [View.readAt_eq_ld, harg1.read_unread, harg2.read_unread, harg3.read_unread, harg4.read_unread, scr_ld]
  unfold XE
  generalize hp : first (BitVec.ofNat 32 (i 0).val) = p
  generalize hq : last (BitVec.ofNat 32 (i 0).val) = q
  unfold first pos at hp
  unfold last pos at hq
  simp only [hp, hq]
  generalize xe p q x0 x1 x2 = X
  unfold piecesq
  repeat' refine congrArg₂ List.cons (congrArg (Sigma.mk _) ?_) ?_
  all_goals rfl

set_option maxHeartbeats 4000000 in
set_option maxRecDepth 16384 in
theorem run_k : (kernelRun0_A c i arg1 harg1 arg2 harg2 arg3 harg3 arg4 harg4 arg5 harg5 arg6 harg6 arg7 harg7 arg8 harg8 arg9 harg9 arg10 harg10 arg11 harg11 x0 x1 x2 x3 x4 x5).2.1 = piecesk (XE i x0 x1 x2) x3 := by
  unfold kernelRun0_A
  dsimp only
  sl_unfold_words
  simp only [View.readAt_eq_ld, harg1.read_unread, harg2.read_unread, harg3.read_unread, harg4.read_unread, scr_ld]
  unfold XE
  generalize hp : first (BitVec.ofNat 32 (i 0).val) = p
  generalize hq : last (BitVec.ofNat 32 (i 0).val) = q
  unfold first pos at hp
  unfold last pos at hq
  simp only [hp, hq]
  generalize xe p q x0 x1 x2 = X
  unfold piecesk
  repeat' refine congrArg₂ List.cons (congrArg (Sigma.mk _) ?_) ?_
  all_goals rfl

set_option maxHeartbeats 4000000 in
set_option maxRecDepth 16384 in
theorem run_v : (kernelRun0_A c i arg1 harg1 arg2 harg2 arg3 harg3 arg4 harg4 arg5 harg5 arg6 harg6 arg7 harg7 arg8 harg8 arg9 harg9 arg10 harg10 arg11 harg11 x0 x1 x2 x3 x4 x5).2.2.1 = piecesv (XE i x0 x1 x2) x3 := by
  unfold kernelRun0_A
  dsimp only
  sl_unfold_words
  simp only [View.readAt_eq_ld, harg1.read_unread, harg2.read_unread, harg3.read_unread, harg4.read_unread, scr_ld]
  unfold XE
  generalize hp : first (BitVec.ofNat 32 (i 0).val) = p
  generalize hq : last (BitVec.ofNat 32 (i 0).val) = q
  unfold first pos at hp
  unfold last pos at hq
  simp only [hp, hq]
  generalize xe p q x0 x1 x2 = X
  unfold piecesv
  repeat' refine congrArg₂ List.cons (congrArg (Sigma.mk _) ?_) ?_
  all_goals rfl

end Cert.Kernel6Ideal.Dc

end
-- ==== Proof.DcBlk.lean ====
module
public import proofs.«01_k».proof.Proof.DcBody

@[expose] public section

/-! What the convolution's call leaves in each block: five taps of the rows around, the silu, and for q and k the head's norm. -/

noncomputable section

namespace Cert.Kernel6Ideal.Dc

open Cert.Kernel6Ideal Cert.Kernel6Ideal.Gen Idealize.ShloMosaic Idealize.ShloMosaic.TcCoe Idealize.ShloMosaic.Tactic Idealize.SL.Sem Idealize.ShloMosaic.Pipeline
open Cert.Kernel2Ideal.Pj (idx_eq_ix2 idx_eq_ix3)
open Cert.Kernel5Ideal.Md (silu)
open scoped BigOperators

/-- Five products, added from the first on. -/
def five (w x : Fin 5 → EReal) : EReal := w 0 * x 0 + w 1 * x 1 + w 2 * x 2 + w 3 * x 3 + w 4 * x 4
theorem five_congr {w w' x x' : Fin 5 → EReal} (hw : ∀ j, w j = w' j) (hx : ∀ j, x j = x' j) : five w x = five w' x' := by
  rw [funext hw, funext hx]

/-- A lane over the head's norm. -/
def l2 (y : Fin 128 → EReal) (l : Fin 128) : EReal := y l * Ideal.rsqrt ((∑ k : Fin 128, y k * y k) + Ideal.ofBits .f32 0x358637BD#32)

theorem bcw (w : Vec Ideal S1x128 .f32) (X : Vec Ideal S256x128 .f32) (r : Fin 256) (l : Fin 128) :
    (mulf (broadcastTo S256x128 (shapeCast S1x128 w shapeCasts_S1x128_S1x128) broadcasts_S1x128_S256x128) X : FVec Ideal S256x128 .f32) (ix2 r l) = w (ix2 0 l) * X (ix2 r l) := by
  pointwise

theorem acc_apply (w0 w1 w2 w3 w4 : Vec Ideal S1x128 .f32) (X0 X1 X2 X3 X4 : Vec Ideal S256x128 .f32) (r : Fin 256) (l : Fin 128) :
    (acc w0 w1 w2 w3 w4 X0 X1 X2 X3 X4 : FVec Ideal S256x128 .f32) (ix2 r l)
      = w0 (ix2 0 l) * X0 (ix2 r l) + w1 (ix2 0 l) * X1 (ix2 r l) + w2 (ix2 0 l) * X2 (ix2 r l) + w3 (ix2 0 l) * X3 (ix2 r l) + w4 (ix2 0 l) * X4 (ix2 r l) := by
  unfold acc
  pointwise

theorem sil_apply (a : FVec Ideal S256x128 .f32) (r : Fin 256) (l : Fin 128) : (sil a (ix2 r l) : EReal) = silu (a (ix2 r l)) := by
  unfold sil silu
  pointwise
  rw [zero_sub]

theorem vOut_apply (a : FVec Ideal S256x128 .f32) (r : Fin 256) (l : Fin 128) : (vOut a (ix2 r l) : EReal) = silu (a (ix2 r l)) := sil_apply a r l

theorem l2n_apply (y : FVec Ideal S256x128 .f32) (r : Fin 256) (l : Fin 128) : (l2n y (ix2 r l) : EReal) = l2 (fun k => y (ix2 r k)) l := by
  unfold l2n l2
  pointwise

theorem kOut_apply (a : FVec Ideal S256x128 .f32) (r : Fin 256) (l : Fin 128) : (kOut a (ix2 r l) : EReal) = l2 (fun k => silu (a (ix2 r k))) l :=
  (l2n_apply (sil a) r l).trans (congrArg (fun f => l2 f l) (funext fun k => sil_apply a r k))

theorem qOut_apply (a : FVec Ideal S256x128 .f32) (r : Fin 256) (l : Fin 128) :
    (qOut a (ix2 r l) : EReal) = l2 (fun k => silu (a (ix2 r k))) l * Ideal.ofBits .f32 0x3DB504F3#32 := by
  refine Eq.trans ?_ (congrArg (fun x : EReal => x * Ideal.ofBits .f32 0x3DB504F3#32) (kOut_apply a r l))
  unfold qOut kOut
  pointwise

/-- A column of the block's convolution. -/
def cv (X : Vec Ideal S272x3072 .f32) (x3 : Vec Ideal S8x3072 .f32) (r : Fin 256) (C : Fin 3072) : EReal :=
  five (fun j => x3 (ix2 ⟨j.val, by omega⟩ C)) (fun j => X (ix2 ⟨6 + j.val + r.val, by omega⟩ C))

theorem ldw (x : Vec Ideal S8x3072 .f32) (j co : ℕ) (hj : j < 8) (hc : co + 128 ≤ 3072) (h) (l : Fin 128) :
    View.ld x (Rect.unit ![j, co] ![1, 128] h) (ix2 0 l) = x (ix2 ⟨j, hj⟩ ⟨co + l.val, by omega⟩) := by
  pointwise
theorem ldX (x : Vec Ideal S272x3072 .f32) (j co : ℕ) (hj : j + 256 ≤ 272) (hc : co + 128 ≤ 3072) (h) (r : Fin 256) (l : Fin 128) :
    View.ld x (Rect.unit ![j, co] ![256, 128] h) (ix2 r l) = x (ix2 ⟨j + r.val, by omega⟩ ⟨co + l.val, by omega⟩) := by
  pointwise

theorem acc_ld (X : Vec Ideal S272x3072 .f32) (x3 : Vec Ideal S8x3072 .f32) (co : ℕ) (hc : co + 128 ≤ 3072) (h0 h1 h2 h3 h4 g0 g1 g2 g3 g4) (r : Fin 256) (l : Fin 128) :
    (acc (View.ld x3 (Rect.unit ![0, co] ![1, 128] h0)) (View.ld x3 (Rect.unit ![1, co] ![1, 128] h1)) (View.ld x3 (Rect.unit ![2, co] ![1, 128] h2)) (View.ld x3 (Rect.unit ![3, co] ![1, 128] h3)) (View.ld x3 (Rect.unit ![4, co] ![1, 128] h4))
      (View.ld X (Rect.unit ![6, co] ![256, 128] g0)) (View.ld X (Rect.unit ![7, co] ![256, 128] g1)) (View.ld X (Rect.unit ![8, co] ![256, 128] g2)) (View.ld X (Rect.unit ![9, co] ![256, 128] g3)) (View.ld X (Rect.unit ![10, co] ![256, 128] g4)) (ix2 r l) : EReal) = cv X x3 r ⟨co + l.val, by omega⟩ := by
  refine (acc_apply _ _ _ _ _ _ _ _ _ _ r l).trans ?_
  rw [ldw x3 0 co (by decide) hc, ldX X 6 co (by decide) hc, ldw x3 1 co (by decide) hc, ldX X 7 co (by decide) hc, ldw x3 2 co (by decide) hc, ldX X 8 co (by decide) hc, ldw x3 3 co (by decide) hc, ldX X 9 co (by decide) hc, ldw x3 4 co (by decide) hc, ldX X 10 co (by decide) hc]
  rfl

theorem piece_emb (co : ℕ) (hc : co + 128 ≤ 1024) (h) (r : Fin 256) (l : Fin 128) :
    (Rect.unit (s := S256x1024) ![0, co] ![256, 128] h).emb (ix2 r l) = ix2 r ⟨co + l.val, by omega⟩ :=
  idx_eq_ix2 _ _ _ (by show 0 + 1 * r.val = r.val; omega) (by show co + 1 * l.val = co + l.val; omega)

/-- The blocks of q, k and v a point leaves, by entry. -/
def gv (X : Vec Ideal S272x3072 .f32) (x3 : Vec Ideal S8x3072 .f32) (r : Fin 256) (C : Fin 1024) : EReal := silu (cv X x3 r ⟨2048 + C.val, by omega⟩)
def gk (X : Vec Ideal S272x3072 .f32) (x3 : Vec Ideal S8x3072 .f32) (r : Fin 256) (C : Fin 1024) : EReal :=
  l2 (fun k => silu (cv X x3 r ⟨1024 + 128 * (C.val / 128) + k.val, by omega⟩)) ⟨C.val % 128, by omega⟩
def gq (X : Vec Ideal S272x3072 .f32) (x3 : Vec Ideal S8x3072 .f32) (r : Fin 256) (C : Fin 1024) : EReal :=
  l2 (fun k => silu (cv X x3 r ⟨128 * (C.val / 128) + k.val, by omega⟩)) ⟨C.val % 128, by omega⟩ * Ideal.ofBits .f32 0x3DB504F3#32

theorem l2_congr {y y' : Fin 128 → EReal} {l l' : Fin 128} (h : ∀ k, y k = y' k) (e : l = l') : l2 y l = l2 y' l' := by rw [funext h, e]

abbrev Gq (X : Vec Ideal S272x3072 .f32) (x3 : Vec Ideal S8x3072 .f32) : S256x1024.Idx → Elt Ideal .bf16 := fun y => gq X x3 (y 0) (y 1)

theorem pieceq_val (X : Vec Ideal S272x3072 .f32) (x3 : Vec Ideal S8x3072 .f32) (a : FVec Ideal S256x128 .f32) (co : ℕ) (hd : co % 128 = 0) (hc : co + 128 ≤ 1024)
    (ha : ∀ (r : Fin 256) (l : Fin 128), (a (ix2 r l) : EReal) = cv X x3 r ⟨co + l.val, by omega⟩) (h) (x : S256x128.Idx) :
    qOut a x = Gq X x3 ((Rect.unit (s := S256x1024) ![0, co] ![256, 128] h).emb x) := by
  obtain ⟨r, l, rfl⟩ : ∃ (r : Fin 256) (l : Fin 128), x = ix2 r l := ⟨x 0, x 1, eq_ix2 x⟩
  refine Eq.trans ?_ (congrArg (Gq X x3) (piece_emb co hc _ r l)).symm
  change _ = gq X x3 r ⟨co + l.val, by omega⟩
  unfold gq
  exact (qOut_apply a r l).trans (congrArg (fun x : EReal => x * Ideal.ofBits .f32 0x3DB504F3#32) (l2_congr (fun i => congrArg silu ((ha r i).trans (congrArg (cv X x3 r) (Fin.ext (by show co + i.val = 128 * ((co + l.val) / 128) + i.val; omega))))) (Fin.ext (by show l.val = (co + l.val) % 128; omega))))
theorem piecesq_val (X : Vec Ideal S272x3072 .f32) (x3 : Vec Ideal S8x3072 .f32) : ∀ p ∈ piecesq X x3, ∀ x : p.1.shape.Idx, p.2 x = Gq X x3 (p.1.emb x) := by
  unfold piecesq
  simp only [List.forall_mem_cons, List.not_mem_nil, false_implies, implies_true, and_true]
  exact ⟨pieceq_val X x3 _ 896 rfl (by decide) (acc_ld X x3 896 (by decide) _ _ _ _ _ _ _ _ _ _) _, pieceq_val X x3 _ 768 rfl (by decide) (acc_ld X x3 768 (by decide) _ _ _ _ _ _ _ _ _ _) _, pieceq_val X x3 _ 640 rfl (by decide) (acc_ld X x3 640 (by decide) _ _ _ _ _ _ _ _ _ _) _, pieceq_val X x3 _ 512 rfl (by decide) (acc_ld X x3 512 (by decide) _ _ _ _ _ _ _ _ _ _) _, pieceq_val X x3 _ 384 rfl (by decide) (acc_ld X x3 384 (by decide) _ _ _ _ _ _ _ _ _ _) _, pieceq_val X x3 _ 256 rfl (by decide) (acc_ld X x3 256 (by decide) _ _ _ _ _ _ _ _ _ _) _, pieceq_val X x3 _ 128 rfl (by decide) (acc_ld X x3 128 (by decide) _ _ _ _ _ _ _ _ _ _) _, pieceq_val X x3 _ 0 rfl (by decide) (acc_ld X x3 0 (by decide) _ _ _ _ _ _ _ _ _ _) _⟩

abbrev Gk (X : Vec Ideal S272x3072 .f32) (x3 : Vec Ideal S8x3072 .f32) : S256x1024.Idx → Elt Ideal .bf16 := fun y => gk X x3 (y 0) (y 1)

theorem piecek_val (X : Vec Ideal S272x3072 .f32) (x3 : Vec Ideal S8x3072 .f32) (a : FVec Ideal S256x128 .f32) (co : ℕ) (hd : co % 128 = 0) (hc : co + 128 ≤ 1024)
    (ha : ∀ (r : Fin 256) (l : Fin 128), (a (ix2 r l) : EReal) = cv X x3 r ⟨1024 + co + l.val, by omega⟩) (h) (x : S256x128.Idx) :
    kOut a x = Gk X x3 ((Rect.unit (s := S256x1024) ![0, co] ![256, 128] h).emb x) := by
  obtain ⟨r, l, rfl⟩ : ∃ (r : Fin 256) (l : Fin 128), x = ix2 r l := ⟨x 0, x 1, eq_ix2 x⟩
  refine Eq.trans ?_ (congrArg (Gk X x3) (piece_emb co hc _ r l)).symm
  change _ = gk X x3 r ⟨co + l.val, by omega⟩
  unfold gk
  exact (kOut_apply a r l).trans (l2_congr (fun i => congrArg silu ((ha r i).trans (congrArg (cv X x3 r) (Fin.ext (by show 1024 + co + i.val = 1024 + 128 * ((co + l.val) / 128) + i.val; omega))))) (Fin.ext (by show l.val = (co + l.val) % 128; omega)))
theorem piecesk_val (X : Vec Ideal S272x3072 .f32) (x3 : Vec Ideal S8x3072 .f32) : ∀ p ∈ piecesk X x3, ∀ x : p.1.shape.Idx, p.2 x = Gk X x3 (p.1.emb x) := by
  unfold piecesk
  simp only [List.forall_mem_cons, List.not_mem_nil, false_implies, implies_true, and_true]
  exact ⟨piecek_val X x3 _ 896 rfl (by decide) (acc_ld X x3 1920 (by decide) _ _ _ _ _ _ _ _ _ _) _, piecek_val X x3 _ 768 rfl (by decide) (acc_ld X x3 1792 (by decide) _ _ _ _ _ _ _ _ _ _) _, piecek_val X x3 _ 640 rfl (by decide) (acc_ld X x3 1664 (by decide) _ _ _ _ _ _ _ _ _ _) _, piecek_val X x3 _ 512 rfl (by decide) (acc_ld X x3 1536 (by decide) _ _ _ _ _ _ _ _ _ _) _, piecek_val X x3 _ 384 rfl (by decide) (acc_ld X x3 1408 (by decide) _ _ _ _ _ _ _ _ _ _) _, piecek_val X x3 _ 256 rfl (by decide) (acc_ld X x3 1280 (by decide) _ _ _ _ _ _ _ _ _ _) _, piecek_val X x3 _ 128 rfl (by decide) (acc_ld X x3 1152 (by decide) _ _ _ _ _ _ _ _ _ _) _, piecek_val X x3 _ 0 rfl (by decide) (acc_ld X x3 1024 (by decide) _ _ _ _ _ _ _ _ _ _) _⟩

abbrev Gv (X : Vec Ideal S272x3072 .f32) (x3 : Vec Ideal S8x3072 .f32) : S256x1024.Idx → Elt Ideal .bf16 := fun y => gv X x3 (y 0) (y 1)

theorem piecev_val (X : Vec Ideal S272x3072 .f32) (x3 : Vec Ideal S8x3072 .f32) (a : FVec Ideal S256x128 .f32) (co : ℕ) (hd : co % 128 = 0) (hc : co + 128 ≤ 1024)
    (ha : ∀ (r : Fin 256) (l : Fin 128), (a (ix2 r l) : EReal) = cv X x3 r ⟨2048 + co + l.val, by omega⟩) (h) (x : S256x128.Idx) :
    vOut a x = Gv X x3 ((Rect.unit (s := S256x1024) ![0, co] ![256, 128] h).emb x) := by
  obtain ⟨r, l, rfl⟩ : ∃ (r : Fin 256) (l : Fin 128), x = ix2 r l := ⟨x 0, x 1, eq_ix2 x⟩
  refine Eq.trans ?_ (congrArg (Gv X x3) (piece_emb co hc _ r l)).symm
  change _ = gv X x3 r ⟨co + l.val, by omega⟩
  unfold gv
  exact (vOut_apply a r l).trans (congrArg silu ((ha r l).trans (congrArg (cv X x3 r) (Fin.ext (by show 2048 + co + l.val = 2048 + (co + l.val); omega)))))
theorem piecesv_val (X : Vec Ideal S272x3072 .f32) (x3 : Vec Ideal S8x3072 .f32) : ∀ p ∈ piecesv X x3, ∀ x : p.1.shape.Idx, p.2 x = Gv X x3 (p.1.emb x) := by
  unfold piecesv
  simp only [List.forall_mem_cons, List.not_mem_nil, false_implies, implies_true, and_true]
  exact ⟨piecev_val X x3 _ 896 rfl (by decide) (acc_ld X x3 2944 (by decide) _ _ _ _ _ _ _ _ _ _) _, piecev_val X x3 _ 768 rfl (by decide) (acc_ld X x3 2816 (by decide) _ _ _ _ _ _ _ _ _ _) _, piecev_val X x3 _ 640 rfl (by decide) (acc_ld X x3 2688 (by decide) _ _ _ _ _ _ _ _ _ _) _, piecev_val X x3 _ 512 rfl (by decide) (acc_ld X x3 2560 (by decide) _ _ _ _ _ _ _ _ _ _) _, piecev_val X x3 _ 384 rfl (by decide) (acc_ld X x3 2432 (by decide) _ _ _ _ _ _ _ _ _ _) _, piecev_val X x3 _ 256 rfl (by decide) (acc_ld X x3 2304 (by decide) _ _ _ _ _ _ _ _ _ _) _, piecev_val X x3 _ 128 rfl (by decide) (acc_ld X x3 2176 (by decide) _ _ _ _ _ _ _ _ _ _) _, piecev_val X x3 _ 0 rfl (by decide) (acc_ld X x3 2048 (by decide) _ _ _ _ _ _ _ _ _ _) _⟩

theorem out6_eq (c : Dev nD) (t : Fin cfg0.N) (x0 : Vec Ideal S256x3072 .f32) (x1 : Vec Ideal S8x3072 .f32) (x2 : Vec Ideal S8x3072 .f32) (x3 : Vec Ideal S8x3072 .f32) (x4 : Vec Ideal S256x128 .f32) (x5 : Vec Ideal S2x128 .f32) (y : S256x1024.Idx) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5 y : EReal) = gq (XE (grid0.coords t) x0 x1 x2) x3 (y 0) (y 1) := by
  unfold out0_A_6
  rw [View.read_writes_eq_canon _ _ _ (cover0_A_6 c _ _ _ _ _ _ _ _ _ _ _ _ _ _ _ _ _ _ _ _ _ _ _ _ _ _ _ _ _ ), run_q]
  refine View.canon_apply_of_pieces (Val := Elt Ideal) (Gq (XE (grid0.coords t) x0 x1 x2) x3) (piecesq (XE (grid0.coords t) x0 x1 x2) x3) (piecesq_val (XE (grid0.coords t) x0 x1 x2) x3) y ?_
  rw [← run_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5]
  exact cover0_A_6 c _ _ _ _ _ _ _ _ _ _ _ _ _ _ _ _ _ _ _ _ _ _ _ _ _ _ _ _ _  y

theorem out7_eq (c : Dev nD) (t : Fin cfg0.N) (x0 : Vec Ideal S256x3072 .f32) (x1 : Vec Ideal S8x3072 .f32) (x2 : Vec Ideal S8x3072 .f32) (x3 : Vec Ideal S8x3072 .f32) (x4 : Vec Ideal S256x128 .f32) (x5 : Vec Ideal S2x128 .f32) (y : S256x1024.Idx) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5 y : EReal) = gk (XE (grid0.coords t) x0 x1 x2) x3 (y 0) (y 1) := by
  unfold out0_A_7
  rw [View.read_writes_eq_canon _ _ _ (cover0_A_7 c _ _ _ _ _ _ _ _ _ _ _ _ _ _ _ _ _ _ _ _ _ _ _ _ _ _ _ _ _ ), run_k]
  refine View.canon_apply_of_pieces (Val := Elt Ideal) (Gk (XE (grid0.coords t) x0 x1 x2) x3) (piecesk (XE (grid0.coords t) x0 x1 x2) x3) (piecesk_val (XE (grid0.coords t) x0 x1 x2) x3) y ?_
  rw [← run_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5]
  exact cover0_A_7 c _ _ _ _ _ _ _ _ _ _ _ _ _ _ _ _ _ _ _ _ _ _ _ _ _ _ _ _ _  y

theorem out8_eq (c : Dev nD) (t : Fin cfg0.N) (x0 : Vec Ideal S256x3072 .f32) (x1 : Vec Ideal S8x3072 .f32) (x2 : Vec Ideal S8x3072 .f32) (x3 : Vec Ideal S8x3072 .f32) (x4 : Vec Ideal S256x128 .f32) (x5 : Vec Ideal S2x128 .f32) (y : S256x1024.Idx) :
    (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5 y : EReal) = gv (XE (grid0.coords t) x0 x1 x2) x3 (y 0) (y 1) := by
  unfold out0_A_8
  rw [View.read_writes_eq_canon _ _ _ (cover0_A_8 c _ _ _ _ _ _ _ _ _ _ _ _ _ _ _ _ _ _ _ _ _ _ _ _ _ _ _ _ _ ), run_v]
  refine View.canon_apply_of_pieces (Val := Elt Ideal) (Gv (XE (grid0.coords t) x0 x1 x2) x3) (piecesv (XE (grid0.coords t) x0 x1 x2) x3) (piecesv_val (XE (grid0.coords t) x0 x1 x2) x3) y ?_
  rw [← run_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5]
  exact cover0_A_8 c _ _ _ _ _ _ _ _ _ _ _ _ _ _ _ _ _ _ _ _ _ _ _ _ _ _ _ _ _  y

end Cert.Kernel6Ideal.Dc

end
-- ==== Proof.DcFinal.lean ====
module
public import proofs.«01_k».proof.Proof.DcBlk

@[expose] public section

/-! The convolution's three result arrays are `resq`, `resk` and `resv` of the rows and of the weights: each point of the grid
writes its block of rows, and the blocks cover the arrays. -/

noncomputable section

namespace Cert.Kernel6Ideal.Dc

open Cert.Kernel6Ideal Cert.Kernel6Ideal.Gen Idealize.ShloMosaic Idealize.ShloMosaic.TcCoe Idealize.ShloMosaic.Tactic Idealize.SL.Sem Idealize.ShloMosaic.Pipeline
open Cert.Kernel2Ideal.Pj (idx_eq_ix2 idx_eq_ix3)
open Cert.Kernel5Ideal.Md (silu)
open scoped BigOperators

/-! ## The arrays -/

/-- The first row of row `R`'s sequence or context, and how many rows it has. -/
def start (R : ℕ) : ℕ := if R < 32768 then R / 8192 * 8192 else R / 256 * 256
def len (R : ℕ) : ℕ := if R < 32768 then 8192 else 256

/-- The row `j - 2` rows after row `R`, zeros past the borders of its sequence. -/
def nb (x : FVec Ideal S33792x3072 .f32) (R : Fin 33792) (C : Fin 3072) (j : Fin 5) : EReal :=
  if h : start R.val + 2 ≤ R.val + j.val ∧ R.val + j.val < start R.val + len R.val + 2 ∧ R.val + j.val - 2 < 33792 then x (ix2 ⟨R.val + j.val - 2, h.2.2⟩ C) else 0

/-- The convolution's entry. -/
def cvG (x : FVec Ideal S33792x3072 .f32) (w : FVec Ideal S5x3072 .f32) (R : Fin 33792) (C : Fin 3072) : EReal := five (fun j => w (ix2 j C)) (nb x R C)

def eV (x : FVec Ideal S33792x3072 .f32) (w : FVec Ideal S5x3072 .f32) (R : Fin 33792) (C : Fin 1024) : EReal := silu (cvG x w R ⟨2048 + C.val, by omega⟩)
def eK (x : FVec Ideal S33792x3072 .f32) (w : FVec Ideal S5x3072 .f32) (R : Fin 33792) (C : Fin 1024) : EReal :=
  l2 (fun k => silu (cvG x w R ⟨1024 + 128 * (C.val / 128) + k.val, by omega⟩)) ⟨C.val % 128, by omega⟩
def eQ (x : FVec Ideal S33792x3072 .f32) (w : FVec Ideal S5x3072 .f32) (R : Fin 33792) (C : Fin 1024) : EReal :=
  l2 (fun k => silu (cvG x w R ⟨128 * (C.val / 128) + k.val, by omega⟩)) ⟨C.val % 128, by omega⟩ * Ideal.ofBits .f32 0x3DB504F3#32

def resq (x : FVec Ideal S33792x3072 .f32) (w : FVec Ideal S5x3072 .f32) : FVec Ideal S33792x1024 .bf16 := fun y => eQ x w (y 0) (y 1)
def resk (x : FVec Ideal S33792x3072 .f32) (w : FVec Ideal S5x3072 .f32) : FVec Ideal S33792x1024 .bf16 := fun y => eK x w (y 0) (y 1)
def resv (x : FVec Ideal S33792x3072 .f32) (w : FVec Ideal S5x3072 .f32) : FVec Ideal S33792x1024 .bf16 := fun y => eV x w (y 0) (y 1)

variable (m : (ℓ : Loc nD τ sig) → Buf (Elt Ideal) ℓ)

/-! ## Which block of its array each window holds at each point -/

theorem idxC : ∀ t : Fin cfg0.N, (grid0.coords t 0).val = t.val := by decide +kernel
theorem idx0 : ∀ t : Fin cfg0.N, win0_0.index t 0 = t.val ∧ win0_0.index t 1 = 0 := by decide +kernel
theorem idx1 : ∀ t : Fin cfg0.N, win0_1.index t 0 = t.val * 32 - 1 ∧ win0_1.index t 1 = 0 := by decide +kernel
theorem idx2 : ∀ t : Fin cfg0.N, win0_2.index t 0 = min ((t.val + 1) * 32) 4223 ∧ win0_2.index t 1 = 0 := by decide +kernel
theorem idx3 : ∀ t : Fin cfg0.N, win0_3.index t 0 = 0 ∧ win0_3.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel

theorem first_iff : ∀ t : Fin cfg0.N, first (BitVec.ofNat 32 t.val) = 1#1 ↔ (t.val % 32 = 0 ∨ 128 ≤ t.val) := by decide +kernel
theorem last_iff : ∀ t : Fin cfg0.N, last (BitVec.ofNat 32 t.val) = 1#1 ↔ (t.val % 32 = 31 ∨ 128 ≤ t.val) := by decide +kernel

theorem read0 (X : FVec Ideal S33792x3072 .f32) (t : Fin cfg0.N) (r : Fin 256) (C : Fin 3072) (R : Fin 33792) (hR : R.val = t.val * 256 + r.val) :
    (((cfg0.win 0).blk t).view.read (Elt Ideal) X : Vec Ideal S256x3072 .f32) (ix2 r C) = X (ix2 R C) := by
  have h0 : ((win0_0.rect t).emb (ix2 r C) 0 : Nat) = win0_0.index t 0 * 256 + r.val := Window.rect_emb_val win0_0 t (ix2 r C) 0
  have h1 : ((win0_0.rect t).emb (ix2 r C) 1 : Nat) = win0_0.index t 1 * 3072 + C.val := Window.rect_emb_val win0_0 t (ix2 r C) 1
  rw [(idx0 t).1] at h0
  rw [(idx0 t).2] at h1
  exact congrArg X (idx_eq_ix2 _ R C (h0.trans hR.symm) (h1.trans (by rw [Nat.zero_mul, Nat.zero_add])))

theorem read1 (X : FVec Ideal S33792x3072 .f32) (t : Fin cfg0.N) (r : Fin 8) (C : Fin 3072) (R : Fin 33792) (hR : R.val = (t.val * 32 - 1) * 8 + r.val) :
    (((cfg0.win 1).blk t).view.read (Elt Ideal) X : Vec Ideal S8x3072 .f32) (ix2 r C) = X (ix2 R C) := by
  have h0 : ((win0_1.rect t).emb (ix2 r C) 0 : Nat) = win0_1.index t 0 * 8 + r.val := Window.rect_emb_val win0_1 t (ix2 r C) 0
  have h1 : ((win0_1.rect t).emb (ix2 r C) 1 : Nat) = win0_1.index t 1 * 3072 + C.val := Window.rect_emb_val win0_1 t (ix2 r C) 1
  rw [(idx1 t).1] at h0
  rw [(idx1 t).2] at h1
  exact congrArg X (idx_eq_ix2 _ R C (h0.trans hR.symm) (h1.trans (by rw [Nat.zero_mul, Nat.zero_add])))

theorem read2 (X : FVec Ideal S33792x3072 .f32) (t : Fin cfg0.N) (r : Fin 8) (C : Fin 3072) (R : Fin 33792) (hR : R.val = (min ((t.val + 1) * 32) 4223) * 8 + r.val) :
    (((cfg0.win 2).blk t).view.read (Elt Ideal) X : Vec Ideal S8x3072 .f32) (ix2 r C) = X (ix2 R C) := by
  have h0 : ((win0_2.rect t).emb (ix2 r C) 0 : Nat) = win0_2.index t 0 * 8 + r.val := Window.rect_emb_val win0_2 t (ix2 r C) 0
  have h1 : ((win0_2.rect t).emb (ix2 r C) 1 : Nat) = win0_2.index t 1 * 3072 + C.val := Window.rect_emb_val win0_2 t (ix2 r C) 1
  rw [(idx2 t).1] at h0
  rw [(idx2 t).2] at h1
  exact congrArg X (idx_eq_ix2 _ R C (h0.trans hR.symm) (h1.trans (by rw [Nat.zero_mul, Nat.zero_add])))

theorem read3 (X : FVec Ideal S8x3072 .f32) (t : Fin cfg0.N) (r : Fin 8) (C : Fin 3072) (R : Fin 8) (hR : R.val = 0 * 8 + r.val) :
    (((cfg0.win 3).blk t).view.read (Elt Ideal) X : Vec Ideal S8x3072 .f32) (ix2 r C) = X (ix2 R C) := by
  have h0 : ((win0_3.rect t).emb (ix2 r C) 0 : Nat) = win0_3.index t 0 * 8 + r.val := Window.rect_emb_val win0_3 t (ix2 r C) 0
  have h1 : ((win0_3.rect t).emb (ix2 r C) 1 : Nat) = win0_3.index t 1 * 3072 + C.val := Window.rect_emb_val win0_3 t (ix2 r C) 1
  rw [(idx3 t).1] at h0
  rw [(idx3 t).2] at h1
  exact congrArg X (idx_eq_ix2 _ R C (h0.trans hR.symm) (h1.trans (by rw [Nat.zero_mul, Nat.zero_add])))

theorem read6 (X : FVec Ideal S33792x1024 .bf16) (t : Fin cfg0.N) (r : Fin 256) (C : Fin 1024) (R : Fin 33792) (hR : R.val = t.val * 256 + r.val) :
    (((cfg0.win 6).blk t).view.read (Elt Ideal) X : Vec Ideal S256x1024 .bf16) (ix2 r C) = X (ix2 R C) := by
  have h0 : ((win0_6.rect t).emb (ix2 r C) 0 : Nat) = win0_6.index t 0 * 256 + r.val := Window.rect_emb_val win0_6 t (ix2 r C) 0
  have h1 : ((win0_6.rect t).emb (ix2 r C) 1 : Nat) = win0_6.index t 1 * 1024 + C.val := Window.rect_emb_val win0_6 t (ix2 r C) 1
  rw [(idx6 t).1] at h0
  rw [(idx6 t).2] at h1
  exact congrArg X (idx_eq_ix2 _ R C (h0.trans hR.symm) (h1.trans (by rw [Nat.zero_mul, Nat.zero_add])))

theorem read7 (X : FVec Ideal S33792x1024 .bf16) (t : Fin cfg0.N) (r : Fin 256) (C : Fin 1024) (R : Fin 33792) (hR : R.val = t.val * 256 + r.val) :
    (((cfg0.win 7).blk t).view.read (Elt Ideal) X : Vec Ideal S256x1024 .bf16) (ix2 r C) = X (ix2 R C) := by
  have h0 : ((win0_7.rect t).emb (ix2 r C) 0 : Nat) = win0_7.index t 0 * 256 + r.val := Window.rect_emb_val win0_7 t (ix2 r C) 0
  have h1 : ((win0_7.rect t).emb (ix2 r C) 1 : Nat) = win0_7.index t 1 * 1024 + C.val := Window.rect_emb_val win0_7 t (ix2 r C) 1
  rw [(idx7 t).1] at h0
  rw [(idx7 t).2] at h1
  exact congrArg X (idx_eq_ix2 _ R C (h0.trans hR.symm) (h1.trans (by rw [Nat.zero_mul, Nat.zero_add])))

theorem read8 (X : FVec Ideal S33792x1024 .bf16) (t : Fin cfg0.N) (r : Fin 256) (C : Fin 1024) (R : Fin 33792) (hR : R.val = t.val * 256 + r.val) :
    (((cfg0.win 8).blk t).view.read (Elt Ideal) X : Vec Ideal S256x1024 .bf16) (ix2 r C) = X (ix2 R C) := by
  have h0 : ((win0_8.rect t).emb (ix2 r C) 0 : Nat) = win0_8.index t 0 * 256 + r.val := Window.rect_emb_val win0_8 t (ix2 r C) 0
  have h1 : ((win0_8.rect t).emb (ix2 r C) 1 : Nat) = win0_8.index t 1 * 1024 + C.val := Window.rect_emb_val win0_8 t (ix2 r C) 1
  rw [(idx8 t).1] at h0
  rw [(idx8 t).2] at h1
  exact congrArg X (idx_eq_ix2 _ R C (h0.trans hR.symm) (h1.trans (by rw [Nat.zero_mul, Nat.zero_add])))

/-- The rows and the weights on core `c`. -/
abbrev a0 (c : Dev nD) : FVec Ideal S33792x3072 .f32 := m ((c : Thread nD τ).loc main_arg0)
abbrev a2 (c : Dev nD) : FVec Ideal S5x3072 .f32 := m ((c : Thread nD τ).loc main_arg2)

/-- The weights with three rows of zeros after them. -/
def wpad (w : FVec Ideal S5x3072 .f32) : FVec Ideal S8x3072 .f32 :=
  concatenate S8x3072 0 [⟨S5x3072, w⟩, ⟨S3x3072, broadcastInDim S3x3072 ![] bcast_S_S3x3072 (constant S_ .f32 0x00000000#32)⟩] concatenates_S5x3072_S3x3072_S8x3072_d0

theorem V_arg0 (c : Dev nD) : V m c main_arg0 = m ((c : Thread nD τ).loc main_arg0) := by
  unfold V
  after_reads_simp

theorem V_v1 (c : Dev nD) : V m c main_v1 = wpad (m ((c : Thread nD τ).loc main_arg2)) := by
  unfold V
  after_reads_simp
  rfl

theorem wpad_lo (w : FVec Ideal S5x3072 .f32) (j : Fin 8) (C : Fin 3072) (h : j.val < 5) : (wpad w (ix2 j C) : EReal) = w (ix2 ⟨j.val, h⟩ C) :=
  concatenate_pair_apply_left (t := S8x3072) (s₁ := S5x3072) (s₂ := S3x3072) 0 w _ concatenates_S5x3072_S3x3072_S8x3072_d0 (ix2 j C) rfl
    (ix2 ⟨j.val, h⟩ C) (fun x => match x with | ⟨0, _⟩ => rfl | ⟨1, _⟩ => rfl)

theorem blk0_apply (c : Dev nD) (t : Fin cfg0.N) (r : Fin 256) (C : Fin 3072) (R : Fin 33792) (hR : R.val = t.val * 256 + r.val) :
    (iblk m c 0 t : Vec Ideal S256x3072 .f32) (ix2 r C) = a0 m c (ix2 R C) :=
  (read0 (V m c main_arg0) t r C R hR).trans (congrFun (V_arg0 m c) _)
theorem blk1_apply (c : Dev nD) (t : Fin cfg0.N) (r : Fin 8) (C : Fin 3072) (R : Fin 33792) (hR : R.val = (t.val * 32 - 1) * 8 + r.val) :
    (iblk m c 1 t : Vec Ideal S8x3072 .f32) (ix2 r C) = a0 m c (ix2 R C) :=
  (read1 (V m c main_arg0) t r C R hR).trans (congrFun (V_arg0 m c) _)
theorem blk2_apply (c : Dev nD) (t : Fin cfg0.N) (r : Fin 8) (C : Fin 3072) (R : Fin 33792) (hR : R.val = (min ((t.val + 1) * 32) 4223) * 8 + r.val) :
    (iblk m c 2 t : Vec Ideal S8x3072 .f32) (ix2 r C) = a0 m c (ix2 R C) :=
  (read2 (V m c main_arg0) t r C R hR).trans (congrFun (V_arg0 m c) _)
theorem blk3_apply (c : Dev nD) (t : Fin cfg0.N) (j : Fin 5) (C : Fin 3072) :
    ((iblk m c 3 t : Vec Ideal S8x3072 .f32) (ix2 ⟨j.val, by omega⟩ C) : EReal) = a2 m c (ix2 j C) :=
  ((read3 (V m c main_v1) t ⟨j.val, by omega⟩ C ⟨j.val, by omega⟩ (by show j.val = 0 * 8 + j.val; omega)).trans (congrFun (V_v1 m c) _)).trans (wpad_lo _ _ C j.isLt)

/-- A row of the scratch array, by where it lies. -/
theorem xeAt_lo (p q : BitVec 1) (x0 : Vec Ideal S256x3072 .f32) (x1 x2 : Vec Ideal S8x3072 .f32) (k : Fin 272) (C : Fin 3072) (h : k.val < 8) :
    xeAt p q x0 x1 x2 k C = if p = 1#1 then (0 : EReal) else x1 (ix2 ⟨k.val, h⟩ C) := by
  unfold xeAt; rw [dif_pos h]
theorem xeAt_mid (p q : BitVec 1) (x0 : Vec Ideal S256x3072 .f32) (x1 x2 : Vec Ideal S8x3072 .f32) (k : Fin 272) (C : Fin 3072) (h : ¬ k.val < 8) (h' : k.val < 264) :
    xeAt p q x0 x1 x2 k C = x0 (ix2 ⟨k.val - 8, by omega⟩ C) := by
  unfold xeAt; rw [dif_neg h, dif_pos h']
theorem xeAt_hi (p q : BitVec 1) (x0 : Vec Ideal S256x3072 .f32) (x1 x2 : Vec Ideal S8x3072 .f32) (k : Fin 272) (C : Fin 3072) (h : ¬ k.val < 8) (h' : ¬ k.val < 264) :
    xeAt p q x0 x1 x2 k C = if q = 1#1 then (0 : EReal) else x2 (ix2 ⟨k.val - 264, by omega⟩ C) := by
  unfold xeAt; rw [dif_neg h, dif_neg h']

theorem nb_pos (x : FVec Ideal S33792x3072 .f32) (R : Fin 33792) (C : Fin 3072) (j : Fin 5) (R' : Fin 33792) (h : start R.val + 2 ≤ R.val + j.val)
    (h' : R.val + j.val < start R.val + len R.val + 2) (e : R'.val + 2 = R.val + j.val) : nb x R C j = x (ix2 R' C) := by
  have hR' := R'.isLt
  unfold nb
  rw [dif_pos ⟨h, h', by omega⟩]
  exact congrArg (fun k => x (ix2 k C)) (Fin.ext (by show R.val + j.val - 2 = R'.val; omega))
theorem nb_neg (x : FVec Ideal S33792x3072 .f32) (R : Fin 33792) (C : Fin 3072) (j : Fin 5) (h : R.val + j.val < start R.val + 2 ∨ start R.val + len R.val + 2 ≤ R.val + j.val) : nb x R C j = 0 := by
  unfold nb
  rw [dif_neg (by omega)]

/-- The scratch array's rows are the rows of the sequence around, zeros past its borders. -/
theorem xe_nb (c : Dev nD) (t : Fin cfg0.N) (r : Fin 256) (C : Fin 3072) (R : Fin 33792) (hR : R.val = t.val * 256 + r.val) (j : Fin 5) :
    XE (grid0.coords t) (iblk m c 0 t) (iblk m c 1 t) (iblk m c 2 t) (ix2 ⟨6 + j.val + r.val, by omega⟩ C) = nb (a0 m c) R C j := by
  have ht : t.val < 132 := t.isLt
  have hr := r.isLt
  have hj := j.isLt
  have hst : start R.val = if t.val < 128 then t.val / 32 * 8192 else t.val * 256 := by
    unfold start
    by_cases h : t.val < 128
    · rw [if_pos h, if_pos (by omega)]; omega
    · rw [if_neg h, if_neg (by omega)]; omega
  have hln : len R.val = if t.val < 128 then 8192 else 256 := by
    unfold len
    by_cases h : t.val < 128
    · rw [if_pos h, if_pos (by omega)]
    · rw [if_neg h, if_neg (by omega)]
  change xeAt (first (BitVec.ofNat 32 (grid0.coords t 0).val)) (last (BitVec.ofNat 32 (grid0.coords t 0).val)) (iblk m c 0 t) (iblk m c 1 t) (iblk m c 2 t) ⟨6 + j.val + r.val, by omega⟩ C = _
  rw [idxC t]
  by_cases h1 : 6 + j.val + r.val < 8
  · rw [xeAt_lo _ _ _ _ _ _ _ h1]
    by_cases hf : t.val % 32 = 0 ∨ 128 ≤ t.val
    · rw [if_pos ((first_iff t).mpr hf)]
      refine (nb_neg _ R C j (Or.inl ?_)).symm
      rw [hst]; split_ifs <;> omega
    · rw [if_neg (fun h => hf ((first_iff t).mp h))]
      refine (blk1_apply m c t _ C ⟨t.val * 256 + r.val + j.val - 2, by omega⟩ (by show t.val * 256 + r.val + j.val - 2 = (t.val * 32 - 1) * 8 + (6 + j.val + r.val); omega)).trans
        (nb_pos _ R C j _ ?_ ?_ (by show t.val * 256 + r.val + j.val - 2 + 2 = _; omega)).symm
      · rw [hst]; split_ifs <;> omega
      · rw [hst, hln]; split_ifs <;> omega
  · by_cases h2 : 6 + j.val + r.val < 264
    · rw [xeAt_mid _ _ _ _ _ _ _ h1 h2]
      refine (blk0_apply m c t _ C ⟨t.val * 256 + r.val + j.val - 2, by omega⟩ (by show t.val * 256 + r.val + j.val - 2 = t.val * 256 + (6 + j.val + r.val - 8); omega)).trans
        (nb_pos _ R C j _ ?_ ?_ (by show t.val * 256 + r.val + j.val - 2 + 2 = _; omega)).symm
      · rw [hst]; split_ifs <;> omega
      · rw [hst, hln]; split_ifs <;> omega
    · rw [xeAt_hi _ _ _ _ _ _ _ h1 h2]
      by_cases hf : t.val % 32 = 31 ∨ 128 ≤ t.val
      · rw [if_pos ((last_iff t).mpr hf)]
        refine (nb_neg _ R C j (Or.inr ?_)).symm
        rw [hst, hln]; split_ifs <;> omega
      · rw [if_neg (fun h => hf ((last_iff t).mp h))]
        refine (blk2_apply m c t _ C ⟨t.val * 256 + r.val + j.val - 2, by omega⟩ (by show t.val * 256 + r.val + j.val - 2 = (min ((t.val + 1) * 32) 4223) * 8 + (6 + j.val + r.val - 264); omega)).trans
          (nb_pos _ R C j _ ?_ ?_ (by show t.val * 256 + r.val + j.val - 2 + 2 = _; omega)).symm
        · rw [hst]; split_ifs <;> omega
        · rw [hst, hln]; split_ifs <;> omega

theorem cv_blk (c : Dev nD) (t : Fin cfg0.N) (r : Fin 256) (R : Fin 33792) (hR : R.val = t.val * 256 + r.val) (C : Fin 3072) :
    cv (XE (grid0.coords t) (iblk m c 0 t) (iblk m c 1 t) (iblk m c 2 t)) (iblk m c 3 t) r C = cvG (a0 m c) (a2 m c) R C :=
  five_congr (fun j => blk3_apply m c t j C) (fun j => xe_nb m c t r C R hR j)

theorem flushed_6 (c : Dev nD) (t : Fin cfg0.N) : (dats m 0 c).flushed 6 t = ((cfg0.win 6).blk t).view.read (Elt Ideal) (resq (a0 m c) (a2 m c)) := by
  rw [Value.flushed6_A]
  have key : ∀ y : S256x1024.Idx, out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) y
      = (((cfg0.win 6).blk t).view.read (Elt Ideal) (resq (a0 m c) (a2 m c)) : Vec Ideal S256x1024 .bf16) y := by
    intro y
    have ht : t.val < 132 := t.isLt
    obtain ⟨r, C, rfl⟩ : ∃ (r : Fin 256) (C : Fin 1024), y = ix2 r C := ⟨y 0, y 1, eq_ix2 y⟩
    have hr := r.isLt
    rw [out6_eq, read6 (resq (a0 m c) (a2 m c)) t r C ⟨t.val * 256 + r.val, by omega⟩ rfl]
    exact congrArg (fun x : EReal => x * Ideal.ofBits .f32 0x3DB504F3#32) (l2_congr (fun k => congrArg silu (cv_blk m c t r _ rfl _)) rfl)
  exact funext key

theorem cover_6 (i : S33792x1024.Idx) : ∃ t : Fin cfg0.N, (cfg0.win 6).flush t = true ∧ i ∈ ((cfg0.win 6).blk t).view.set := by
  have h0 : (i 0).val < 33792 := (i 0).isLt
  have h1 : (i 1).val < 1024 := (i 1).isLt
  obtain ⟨t, ht⟩ : ∃ t : Fin cfg0.N, t.val = (i 0).val / 256 := ⟨⟨(i 0).val / 256, by show _ < 132; omega⟩, rfl⟩
  refine ⟨t, flush0_6 t, ?_⟩
  have e0 : ((win0_6.rect t).emb (ix2 (⟨(i 0).val % 256, by omega⟩ : Fin 256) (⟨(i 1).val, h1⟩ : Fin 1024)) 0 : Nat) = win0_6.index t 0 * 256 + (i 0).val % 256 := Window.rect_emb_val win0_6 t _ 0
  have e1 : ((win0_6.rect t).emb (ix2 (⟨(i 0).val % 256, by omega⟩ : Fin 256) (⟨(i 1).val, h1⟩ : Fin 1024)) 1 : Nat) = win0_6.index t 1 * 1024 + (i 1).val := Window.rect_emb_val win0_6 t _ 1
  rw [(idx6 t).1] at e0
  rw [(idx6 t).2] at e1
  have e : i = (win0_6.rect t).emb (ix2 (⟨(i 0).val % 256, by omega⟩ : Fin 256) (⟨(i 1).val, h1⟩ : Fin 1024)) :=
    (eq_ix2 i).trans (idx_eq_ix2 _ (i 0) (i 1) (e0.trans (by rw [ht]; omega)) (e1.trans (by rw [Nat.zero_mul, Nat.zero_add]))).symm
  rw [e]
  exact ((cfg0.win 6).blk t).view.emb_mem_set _

/-- The result array after the grid. -/
theorem final_6 (c : Dev nD) : (dats m 0 c).arrAt 6 cfg0.N = resq (a0 m c) (a2 m c) := (dats m 0 c).arrAt_eq_of_cover 6 (resq (a0 m c) (a2 m c)) (fun t _ => flushed_6 m c t) cover_6

theorem flushed_7 (c : Dev nD) (t : Fin cfg0.N) : (dats m 0 c).flushed 7 t = ((cfg0.win 7).blk t).view.read (Elt Ideal) (resk (a0 m c) (a2 m c)) := by
  rw [Value.flushed7_A]
  have key : ∀ y : S256x1024.Idx, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) y
      = (((cfg0.win 7).blk t).view.read (Elt Ideal) (resk (a0 m c) (a2 m c)) : Vec Ideal S256x1024 .bf16) y := by
    intro y
    have ht : t.val < 132 := t.isLt
    obtain ⟨r, C, rfl⟩ : ∃ (r : Fin 256) (C : Fin 1024), y = ix2 r C := ⟨y 0, y 1, eq_ix2 y⟩
    have hr := r.isLt
    rw [out7_eq, read7 (resk (a0 m c) (a2 m c)) t r C ⟨t.val * 256 + r.val, by omega⟩ rfl]
    exact l2_congr (fun k => congrArg silu (cv_blk m c t r _ rfl _)) rfl
  exact funext key

theorem cover_7 (i : S33792x1024.Idx) : ∃ t : Fin cfg0.N, (cfg0.win 7).flush t = true ∧ i ∈ ((cfg0.win 7).blk t).view.set := by
  have h0 : (i 0).val < 33792 := (i 0).isLt
  have h1 : (i 1).val < 1024 := (i 1).isLt
  obtain ⟨t, ht⟩ : ∃ t : Fin cfg0.N, t.val = (i 0).val / 256 := ⟨⟨(i 0).val / 256, by show _ < 132; omega⟩, rfl⟩
  refine ⟨t, flush0_7 t, ?_⟩
  have e0 : ((win0_7.rect t).emb (ix2 (⟨(i 0).val % 256, by omega⟩ : Fin 256) (⟨(i 1).val, h1⟩ : Fin 1024)) 0 : Nat) = win0_7.index t 0 * 256 + (i 0).val % 256 := Window.rect_emb_val win0_7 t _ 0
  have e1 : ((win0_7.rect t).emb (ix2 (⟨(i 0).val % 256, by omega⟩ : Fin 256) (⟨(i 1).val, h1⟩ : Fin 1024)) 1 : Nat) = win0_7.index t 1 * 1024 + (i 1).val := Window.rect_emb_val win0_7 t _ 1
  rw [(idx7 t).1] at e0
  rw [(idx7 t).2] at e1
  have e : i = (win0_7.rect t).emb (ix2 (⟨(i 0).val % 256, by omega⟩ : Fin 256) (⟨(i 1).val, h1⟩ : Fin 1024)) :=
    (eq_ix2 i).trans (idx_eq_ix2 _ (i 0) (i 1) (e0.trans (by rw [ht]; omega)) (e1.trans (by rw [Nat.zero_mul, Nat.zero_add]))).symm
  rw [e]
  exact ((cfg0.win 7).blk t).view.emb_mem_set _

/-- The result array after the grid. -/
theorem final_7 (c : Dev nD) : (dats m 0 c).arrAt 7 cfg0.N = resk (a0 m c) (a2 m c) := (dats m 0 c).arrAt_eq_of_cover 7 (resk (a0 m c) (a2 m c)) (fun t _ => flushed_7 m c t) cover_7

theorem flushed_8 (c : Dev nD) (t : Fin cfg0.N) : (dats m 0 c).flushed 8 t = ((cfg0.win 8).blk t).view.read (Elt Ideal) (resv (a0 m c) (a2 m c)) := by
  rw [Value.flushed8_A]
  have key : ∀ y : S256x1024.Idx, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) y
      = (((cfg0.win 8).blk t).view.read (Elt Ideal) (resv (a0 m c) (a2 m c)) : Vec Ideal S256x1024 .bf16) y := by
    intro y
    have ht : t.val < 132 := t.isLt
    obtain ⟨r, C, rfl⟩ : ∃ (r : Fin 256) (C : Fin 1024), y = ix2 r C := ⟨y 0, y 1, eq_ix2 y⟩
    have hr := r.isLt
    rw [out8_eq, read8 (resv (a0 m c) (a2 m c)) t r C ⟨t.val * 256 + r.val, by omega⟩ rfl]
    exact congrArg silu (cv_blk m c t r _ rfl _)
  exact funext key

theorem cover_8 (i : S33792x1024.Idx) : ∃ t : Fin cfg0.N, (cfg0.win 8).flush t = true ∧ i ∈ ((cfg0.win 8).blk t).view.set := by
  have h0 : (i 0).val < 33792 := (i 0).isLt
  have h1 : (i 1).val < 1024 := (i 1).isLt
  obtain ⟨t, ht⟩ : ∃ t : Fin cfg0.N, t.val = (i 0).val / 256 := ⟨⟨(i 0).val / 256, by show _ < 132; omega⟩, rfl⟩
  refine ⟨t, flush0_8 t, ?_⟩
  have e0 : ((win0_8.rect t).emb (ix2 (⟨(i 0).val % 256, by omega⟩ : Fin 256) (⟨(i 1).val, h1⟩ : Fin 1024)) 0 : Nat) = win0_8.index t 0 * 256 + (i 0).val % 256 := Window.rect_emb_val win0_8 t _ 0
  have e1 : ((win0_8.rect t).emb (ix2 (⟨(i 0).val % 256, by omega⟩ : Fin 256) (⟨(i 1).val, h1⟩ : Fin 1024)) 1 : Nat) = win0_8.index t 1 * 1024 + (i 1).val := Window.rect_emb_val win0_8 t _ 1
  rw [(idx8 t).1] at e0
  rw [(idx8 t).2] at e1
  have e : i = (win0_8.rect t).emb (ix2 (⟨(i 0).val % 256, by omega⟩ : Fin 256) (⟨(i 1).val, h1⟩ : Fin 1024)) :=
    (eq_ix2 i).trans (idx_eq_ix2 _ (i 0) (i 1) (e0.trans (by rw [ht]; omega)) (e1.trans (by rw [Nat.zero_mul, Nat.zero_add]))).symm
  rw [e]
  exact ((cfg0.win 8).blk t).view.emb_mem_set _

/-- The result array after the grid. -/
theorem final_8 (c : Dev nD) : (dats m 0 c).arrAt 8 cfg0.N = resv (a0 m c) (a2 m c) := (dats m 0 c).arrAt_eq_of_cover 8 (resv (a0 m c) (a2 m c)) (fun t _ => flushed_8 m c t) cover_8

end Cert.Kernel6Ideal.Dc

end
-- ==== Proof.DcRef.lean ====
module
public import proofs.«01_k».proof.Proof.DcFinal
public import proofs.«01_k».proof.Proof.PjRef
public import proofs.«01_k».proof.Proof.Gen.Reference6Ideal.Read

@[expose] public section

/-! The convolution's reference, element by element: its three results are `resq`, `resk` and `resv` too. -/

noncomputable section

namespace Cert.Reference6Ideal.Dc

open Cert.Reference6Ideal Cert.Reference6Ideal.Gen Cert.Reference6Ideal.Read Idealize.ShloMosaic Idealize.ShloMosaic.TcCoe
open Cert.Kernel2Ideal.Pj (idx_eq_ix2 idx_eq_ix3)
open Cert.Reference2Ideal.Pj (at_ix)
open Cert.Kernel5Ideal.Md (silu)
open Cert.Kernel6Ideal.Dc (five five_congr l2 l2_congr nb nb_pos nb_neg cvG start len eQ eK eV resq resk resv)
open scoped BigOperators

variable (x0 : FVec Ideal S33792x3072 .f32) (x2 : FVec Ideal S5x3072 .f32)

theorem startL (R : Fin 33792) (h : R.val < 32768) : start R.val = R.val / 8192 * 8192 ∧ len R.val = 8192 := ⟨if_pos h, if_pos h⟩
theorem startC (R : Fin 33792) (h : ¬ R.val < 32768) : start R.val = R.val / 256 * 256 ∧ len R.val = 256 := ⟨if_neg h, if_neg h⟩

theorem bzL (i : S4x2x3072.Idx) : (val_main_v1 (F := Ideal) i : EReal) = 0 :=
  (val_main_v1_apply (F := Ideal) _).trans Ideal.ofBits_zero_f32

/-- A row of the sequences with the border above them. -/
theorem topL_in (b : Fin 4) (p : Fin 8194) (C : Fin 3072) (R : Fin 33792) (h : 2 ≤ p.val) (hR : R.val = b.val * 8192 + (p.val - 2)) :
    (val_main_v3 (F := Ideal) x0 (ix3 b p C) : EReal) = x0 (ix2 R C) := by
  have hb := b.isLt
  have hC := C.isLt
  have hp := p.isLt
  unfold val_main_v3
  refine (concatenate_pair_apply_right (t := S4x8194x3072) (s₁ := S4x2x3072) (s₂ := S4x8192x3072) 1 _ _ _ (ix3 b p C) rfl rfl
    (ix3 b (⟨p.val - 2, by omega⟩ : Fin 8192) C) (fun x hx => match x with | ⟨0, _⟩ => rfl | ⟨1, _⟩ => absurd rfl hx | ⟨2, _⟩ => rfl)
    (by show p.val - 2 + 2 = p.val; omega)).trans ?_
  refine (val_main_v2_apply (F := Ideal) x0 _).trans ?_
  refine at_ix (val_main_v0 (F := Ideal) x0) (ix2 (⟨b.val * 8192 + (p.val - 2), by omega⟩ : Fin 32768) C) (idx_eq_ix2 _ _ C (by show ((b.val * 8192 + (p.val - 2)) * 3072 + C.val) / 3072 = b.val * 8192 + (p.val - 2); omega)
    (by show ((b.val * 8192 + (p.val - 2)) * 3072 + C.val) % 3072 = C.val; omega)) ?_
  refine (val_main_v0_apply (F := Ideal) x0 _).trans ?_
  exact congrArg x0 (idx_eq_ix2 _ R C (by show (b.val * 8192 + (p.val - 2)) = R.val; omega) rfl)
theorem topL_out (b : Fin 4) (p : Fin 8194) (C : Fin 3072) (h : p.val < 2) :
    (val_main_v3 (F := Ideal) x0 (ix3 b p C) : EReal) = 0 := by
  unfold val_main_v3
  exact (concatenate_pair_apply_left (t := S4x8194x3072) (s₁ := S4x2x3072) (s₂ := S4x8192x3072) 1 _ _ _ (ix3 b p C) rfl
    (ix3 b ⟨p.val, h⟩ C) (fun x => match x with | ⟨0, _⟩ => rfl | ⟨1, _⟩ => rfl | ⟨2, _⟩ => rfl)).trans (bzL _)

/-- A row of the sequences with both borders. -/
theorem padL (b : Fin 4) (p : Fin 8196) (C : Fin 3072) (h : p.val < 8194) :
    (val_main_v4 (F := Ideal) x0 (ix3 b p C) : EReal) = val_main_v3 (F := Ideal) x0 (ix3 b (⟨p.val, h⟩ : Fin 8194) C) := by
  unfold val_main_v4
  exact concatenate_pair_apply_left (t := S4x8196x3072) (s₁ := S4x8194x3072) (s₂ := S4x2x3072) 1 _ _ _ (ix3 b p C) rfl
    (ix3 b ⟨p.val, h⟩ C) (fun x => match x with | ⟨0, _⟩ => rfl | ⟨1, _⟩ => rfl | ⟨2, _⟩ => rfl)
theorem padL_out (b : Fin 4) (p : Fin 8196) (C : Fin 3072) (h : 8194 ≤ p.val) :
    (val_main_v4 (F := Ideal) x0 (ix3 b p C) : EReal) = 0 := by
  have hp := p.isLt
  unfold val_main_v4
  exact (concatenate_pair_apply_right (t := S4x8196x3072) (s₁ := S4x8194x3072) (s₂ := S4x2x3072) 1 _ _ _ (ix3 b p C) rfl rfl
    (ix3 b (⟨p.val - 8194, by omega⟩ : Fin 2) C) (fun x hx => match x with | ⟨0, _⟩ => rfl | ⟨1, _⟩ => absurd rfl hx | ⟨2, _⟩ => rfl)
    (by show p.val - 8194 + 8194 = p.val; omega)).trans (bzL _)

theorem nbL (R : Fin 33792) (hR : R.val < 32768) (b : Fin 4) (r : Fin 8192) (e : R.val = b.val * 8192 + r.val) (C : Fin 3072) (j : Fin 5) (p : Fin 8196) (hp : p.val = j.val + r.val) :
    (val_main_v4 (F := Ideal) x0 (ix3 b p C) : EReal) = nb x0 R C j := by
  have hs := startL R hR
  have hb := b.isLt
  have hr := r.isLt
  have hj := j.isLt
  by_cases h : 2 ≤ p.val ∧ p.val < 8194
  · refine ((padL x0 b p C h.2).trans (topL_in x0 b _ C ⟨b.val * 8192 + (p.val - 2), by omega⟩ h.1 rfl)).trans (nb_pos x0 R C j _ ?_ ?_ ?_).symm
    · rw [hs.1]; omega
    · rw [hs.1, hs.2]; omega
    · show b.val * 8192 + (p.val - 2) + 2 = _; omega
  · refine Eq.trans ?_ (nb_neg x0 R C j ?_).symm
    · by_cases h2 : p.val < 8194
      · exact (padL x0 b p C h2).trans (topL_out x0 b _ C (by show p.val < 2; omega))
      · exact padL_out x0 b p C (by omega)
    · rw [hs.1, hs.2]; omega

theorem xL0 (R : Fin 33792) (hR : R.val < 32768) (b : Fin 4) (r : Fin 8192) (e : R.val = b.val * 8192 + r.val) (C : Fin 3072) : (val_main_v6 (F := Ideal) x0 (ix3 b r C) : EReal) = nb x0 R C 0 := by
  have hr := r.isLt
  refine (val_main_v6_apply (F := Ideal) x0 _).trans ?_
  exact at_ix (val_main_v4 (F := Ideal) x0) (ix3 b (⟨0 + r.val, by omega⟩ : Fin 8196) C) (idx_eq_ix3 _ b _ C rfl (by show r.val = 0 + r.val; omega) rfl) (nbL x0 R hR b r e C 0 _ rfl)
theorem wL0 (b : Fin 4) (r : Fin 8192) (C : Fin 3072) : (val_main_v8 (F := Ideal) x2 (ix3 b r C) : EReal) = x2 (ix2 0 C) := by
  have hC := C.isLt
  refine (val_main_v8_apply (F := Ideal) x2 _).trans ((val_main_v7_apply (F := Ideal) x2 _).trans ((val_main_v5_apply (F := Ideal) x2 _).trans ?_))
  exact congrArg x2 (idx_eq_ix2 _ 0 C rfl rfl)
theorem xL1 (R : Fin 33792) (hR : R.val < 32768) (b : Fin 4) (r : Fin 8192) (e : R.val = b.val * 8192 + r.val) (C : Fin 3072) : (val_main_v11 (F := Ideal) x0 (ix3 b r C) : EReal) = nb x0 R C 1 := by
  have hr := r.isLt
  refine (val_main_v11_apply (F := Ideal) x0 _).trans ?_
  exact at_ix (val_main_v4 (F := Ideal) x0) (ix3 b (⟨1 + r.val, by omega⟩ : Fin 8196) C) (idx_eq_ix3 _ b _ C rfl (by show 1 + r.val = 1 + r.val; omega) rfl) (nbL x0 R hR b r e C 1 _ rfl)
theorem wL1 (b : Fin 4) (r : Fin 8192) (C : Fin 3072) : (val_main_v13 (F := Ideal) x2 (ix3 b r C) : EReal) = x2 (ix2 1 C) := by
  have hC := C.isLt
  refine (val_main_v13_apply (F := Ideal) x2 _).trans ((val_main_v12_apply (F := Ideal) x2 _).trans ((val_main_v10_apply (F := Ideal) x2 _).trans ?_))
  exact congrArg x2 (idx_eq_ix2 _ 1 C rfl rfl)
theorem xL2 (R : Fin 33792) (hR : R.val < 32768) (b : Fin 4) (r : Fin 8192) (e : R.val = b.val * 8192 + r.val) (C : Fin 3072) : (val_main_v17 (F := Ideal) x0 (ix3 b r C) : EReal) = nb x0 R C 2 := by
  have hr := r.isLt
  refine (val_main_v17_apply (F := Ideal) x0 _).trans ?_
  exact at_ix (val_main_v4 (F := Ideal) x0) (ix3 b (⟨2 + r.val, by omega⟩ : Fin 8196) C) (idx_eq_ix3 _ b _ C rfl (by show 2 + r.val = 2 + r.val; omega) rfl) (nbL x0 R hR b r e C 2 _ rfl)
theorem wL2 (b : Fin 4) (r : Fin 8192) (C : Fin 3072) : (val_main_v19 (F := Ideal) x2 (ix3 b r C) : EReal) = x2 (ix2 2 C) := by
  have hC := C.isLt
  refine (val_main_v19_apply (F := Ideal) x2 _).trans ((val_main_v18_apply (F := Ideal) x2 _).trans ((val_main_v16_apply (F := Ideal) x2 _).trans ?_))
  exact congrArg x2 (idx_eq_ix2 _ 2 C rfl rfl)
theorem xL3 (R : Fin 33792) (hR : R.val < 32768) (b : Fin 4) (r : Fin 8192) (e : R.val = b.val * 8192 + r.val) (C : Fin 3072) : (val_main_v23 (F := Ideal) x0 (ix3 b r C) : EReal) = nb x0 R C 3 := by
  have hr := r.isLt
  refine (val_main_v23_apply (F := Ideal) x0 _).trans ?_
  exact at_ix (val_main_v4 (F := Ideal) x0) (ix3 b (⟨3 + r.val, by omega⟩ : Fin 8196) C) (idx_eq_ix3 _ b _ C rfl (by show 3 + r.val = 3 + r.val; omega) rfl) (nbL x0 R hR b r e C 3 _ rfl)
theorem wL3 (b : Fin 4) (r : Fin 8192) (C : Fin 3072) : (val_main_v25 (F := Ideal) x2 (ix3 b r C) : EReal) = x2 (ix2 3 C) := by
  have hC := C.isLt
  refine (val_main_v25_apply (F := Ideal) x2 _).trans ((val_main_v24_apply (F := Ideal) x2 _).trans ((val_main_v22_apply (F := Ideal) x2 _).trans ?_))
  exact congrArg x2 (idx_eq_ix2 _ 3 C rfl rfl)
theorem xL4 (R : Fin 33792) (hR : R.val < 32768) (b : Fin 4) (r : Fin 8192) (e : R.val = b.val * 8192 + r.val) (C : Fin 3072) : (val_main_v29 (F := Ideal) x0 (ix3 b r C) : EReal) = nb x0 R C 4 := by
  have hr := r.isLt
  refine (val_main_v29_apply (F := Ideal) x0 _).trans ?_
  exact at_ix (val_main_v4 (F := Ideal) x0) (ix3 b (⟨4 + r.val, by omega⟩ : Fin 8196) C) (idx_eq_ix3 _ b _ C rfl (by show 4 + r.val = 4 + r.val; omega) rfl) (nbL x0 R hR b r e C 4 _ rfl)
theorem wL4 (b : Fin 4) (r : Fin 8192) (C : Fin 3072) : (val_main_v31 (F := Ideal) x2 (ix3 b r C) : EReal) = x2 (ix2 4 C) := by
  have hC := C.isLt
  refine (val_main_v31_apply (F := Ideal) x2 _).trans ((val_main_v30_apply (F := Ideal) x2 _).trans ((val_main_v28_apply (F := Ideal) x2 _).trans ?_))
  exact congrArg x2 (idx_eq_ix2 _ 4 C rfl rfl)

theorem convL (R : Fin 33792) (hR : R.val < 32768) (b : Fin 4) (r : Fin 8192) (e : R.val = b.val * 8192 + r.val) (C : Fin 3072) :
    (val_main_v33 (F := Ideal) x0 x2 (ix3 b r C) : EReal) = cvG x0 x2 R C := by
  refine (?_ : _ = (val_main_v8 (F := Ideal) x2 (ix3 b r C) : EReal) * val_main_v6 (F := Ideal) x0 (ix3 b r C) + (val_main_v13 (F := Ideal) x2 (ix3 b r C) : EReal) * val_main_v11 (F := Ideal) x0 (ix3 b r C) + (val_main_v19 (F := Ideal) x2 (ix3 b r C) : EReal) * val_main_v17 (F := Ideal) x0 (ix3 b r C) + (val_main_v25 (F := Ideal) x2 (ix3 b r C) : EReal) * val_main_v23 (F := Ideal) x0 (ix3 b r C) + (val_main_v31 (F := Ideal) x2 (ix3 b r C) : EReal) * val_main_v29 (F := Ideal) x0 (ix3 b r C)).trans ?_
  · rfl
  · rw [xL0 x0 R hR b r e C, wL0 x2 b r C, xL1 x0 R hR b r e C, wL1 x2 b r C, xL2 x0 R hR b r e C, wL2 x2 b r C, xL3 x0 R hR b r e C, wL3 x2 b r C, xL4 x0 R hR b r e C, wL4 x2 b r C]
    rfl

theorem bzC (i : S4x2x3072.Idx) : (val_main_v36 (F := Ideal) i : EReal) = 0 :=
  (val_main_v36_apply (F := Ideal) _).trans Ideal.ofBits_zero_f32

/-- A row of the sequences with the border above them. -/
theorem topC_in (b : Fin 4) (p : Fin 258) (C : Fin 3072) (R : Fin 33792) (h : 2 ≤ p.val) (hR : R.val = 32768 + b.val * 256 + (p.val - 2)) :
    (val_main_v38 (F := Ideal) x0 (ix3 b p C) : EReal) = x0 (ix2 R C) := by
  have hb := b.isLt
  have hC := C.isLt
  have hp := p.isLt
  unfold val_main_v38
  refine (concatenate_pair_apply_right (t := S4x258x3072) (s₁ := S4x2x3072) (s₂ := S4x256x3072) 1 _ _ _ (ix3 b p C) rfl rfl
    (ix3 b (⟨p.val - 2, by omega⟩ : Fin 256) C) (fun x hx => match x with | ⟨0, _⟩ => rfl | ⟨1, _⟩ => absurd rfl hx | ⟨2, _⟩ => rfl)
    (by show p.val - 2 + 2 = p.val; omega)).trans ?_
  refine (val_main_v37_apply (F := Ideal) x0 _).trans ?_
  refine at_ix (val_main_v35 (F := Ideal) x0) (ix2 (⟨b.val * 256 + (p.val - 2), by omega⟩ : Fin 1024) C) (idx_eq_ix2 _ _ C (by show ((b.val * 256 + (p.val - 2)) * 3072 + C.val) / 3072 = b.val * 256 + (p.val - 2); omega)
    (by show ((b.val * 256 + (p.val - 2)) * 3072 + C.val) % 3072 = C.val; omega)) ?_
  refine (val_main_v35_apply (F := Ideal) x0 _).trans ?_
  exact congrArg x0 (idx_eq_ix2 _ R C (by show 32768 + (b.val * 256 + (p.val - 2)) = R.val; omega) rfl)
theorem topC_out (b : Fin 4) (p : Fin 258) (C : Fin 3072) (h : p.val < 2) :
    (val_main_v38 (F := Ideal) x0 (ix3 b p C) : EReal) = 0 := by
  unfold val_main_v38
  exact (concatenate_pair_apply_left (t := S4x258x3072) (s₁ := S4x2x3072) (s₂ := S4x256x3072) 1 _ _ _ (ix3 b p C) rfl
    (ix3 b ⟨p.val, h⟩ C) (fun x => match x with | ⟨0, _⟩ => rfl | ⟨1, _⟩ => rfl | ⟨2, _⟩ => rfl)).trans (bzC _)

/-- A row of the sequences with both borders. -/
theorem padC (b : Fin 4) (p : Fin 260) (C : Fin 3072) (h : p.val < 258) :
    (val_main_v39 (F := Ideal) x0 (ix3 b p C) : EReal) = val_main_v38 (F := Ideal) x0 (ix3 b (⟨p.val, h⟩ : Fin 258) C) := by
  unfold val_main_v39
  exact concatenate_pair_apply_left (t := S4x260x3072) (s₁ := S4x258x3072) (s₂ := S4x2x3072) 1 _ _ _ (ix3 b p C) rfl
    (ix3 b ⟨p.val, h⟩ C) (fun x => match x with | ⟨0, _⟩ => rfl | ⟨1, _⟩ => rfl | ⟨2, _⟩ => rfl)
theorem padC_out (b : Fin 4) (p : Fin 260) (C : Fin 3072) (h : 258 ≤ p.val) :
    (val_main_v39 (F := Ideal) x0 (ix3 b p C) : EReal) = 0 := by
  have hp := p.isLt
  unfold val_main_v39
  exact (concatenate_pair_apply_right (t := S4x260x3072) (s₁ := S4x258x3072) (s₂ := S4x2x3072) 1 _ _ _ (ix3 b p C) rfl rfl
    (ix3 b (⟨p.val - 258, by omega⟩ : Fin 2) C) (fun x hx => match x with | ⟨0, _⟩ => rfl | ⟨1, _⟩ => absurd rfl hx | ⟨2, _⟩ => rfl)
    (by show p.val - 258 + 258 = p.val; omega)).trans (bzC _)

theorem nbC (R : Fin 33792) (hR : ¬ R.val < 32768) (b : Fin 4) (r : Fin 256) (e : R.val = 32768 + b.val * 256 + r.val) (C : Fin 3072) (j : Fin 5) (p : Fin 260) (hp : p.val = j.val + r.val) :
    (val_main_v39 (F := Ideal) x0 (ix3 b p C) : EReal) = nb x0 R C j := by
  have hs := startC R hR
  have hb := b.isLt
  have hr := r.isLt
  have hj := j.isLt
  by_cases h : 2 ≤ p.val ∧ p.val < 258
  · refine ((padC x0 b p C h.2).trans (topC_in x0 b _ C ⟨32768 + b.val * 256 + (p.val - 2), by omega⟩ h.1 rfl)).trans (nb_pos x0 R C j _ ?_ ?_ ?_).symm
    · rw [hs.1]; omega
    · rw [hs.1, hs.2]; omega
    · show 32768 + b.val * 256 + (p.val - 2) + 2 = _; omega
  · refine Eq.trans ?_ (nb_neg x0 R C j ?_).symm
    · by_cases h2 : p.val < 258
      · exact (padC x0 b p C h2).trans (topC_out x0 b _ C (by show p.val < 2; omega))
      · exact padC_out x0 b p C (by omega)
    · rw [hs.1, hs.2]; omega

theorem xC0 (R : Fin 33792) (hR : ¬ R.val < 32768) (b : Fin 4) (r : Fin 256) (e : R.val = 32768 + b.val * 256 + r.val) (C : Fin 3072) : (val_main_v41 (F := Ideal) x0 (ix3 b r C) : EReal) = nb x0 R C 0 := by
  have hr := r.isLt
  refine (val_main_v41_apply (F := Ideal) x0 _).trans ?_
  exact at_ix (val_main_v39 (F := Ideal) x0) (ix3 b (⟨0 + r.val, by omega⟩ : Fin 260) C) (idx_eq_ix3 _ b _ C rfl (by show r.val = 0 + r.val; omega) rfl) (nbC x0 R hR b r e C 0 _ rfl)
theorem wC0 (b : Fin 4) (r : Fin 256) (C : Fin 3072) : (val_main_v43 (F := Ideal) x2 (ix3 b r C) : EReal) = x2 (ix2 0 C) := by
  have hC := C.isLt
  refine (val_main_v43_apply (F := Ideal) x2 _).trans ((val_main_v42_apply (F := Ideal) x2 _).trans ((val_main_v40_apply (F := Ideal) x2 _).trans ?_))
  exact congrArg x2 (idx_eq_ix2 _ 0 C rfl rfl)
theorem xC1 (R : Fin 33792) (hR : ¬ R.val < 32768) (b : Fin 4) (r : Fin 256) (e : R.val = 32768 + b.val * 256 + r.val) (C : Fin 3072) : (val_main_v46 (F := Ideal) x0 (ix3 b r C) : EReal) = nb x0 R C 1 := by
  have hr := r.isLt
  refine (val_main_v46_apply (F := Ideal) x0 _).trans ?_
  exact at_ix (val_main_v39 (F := Ideal) x0) (ix3 b (⟨1 + r.val, by omega⟩ : Fin 260) C) (idx_eq_ix3 _ b _ C rfl (by show 1 + r.val = 1 + r.val; omega) rfl) (nbC x0 R hR b r e C 1 _ rfl)
theorem wC1 (b : Fin 4) (r : Fin 256) (C : Fin 3072) : (val_main_v48 (F := Ideal) x2 (ix3 b r C) : EReal) = x2 (ix2 1 C) := by
  have hC := C.isLt
  refine (val_main_v48_apply (F := Ideal) x2 _).trans ((val_main_v47_apply (F := Ideal) x2 _).trans ((val_main_v45_apply (F := Ideal) x2 _).trans ?_))
  exact congrArg x2 (idx_eq_ix2 _ 1 C rfl rfl)
theorem xC2 (R : Fin 33792) (hR : ¬ R.val < 32768) (b : Fin 4) (r : Fin 256) (e : R.val = 32768 + b.val * 256 + r.val) (C : Fin 3072) : (val_main_v52 (F := Ideal) x0 (ix3 b r C) : EReal) = nb x0 R C 2 := by
  have hr := r.isLt
  refine (val_main_v52_apply (F := Ideal) x0 _).trans ?_
  exact at_ix (val_main_v39 (F := Ideal) x0) (ix3 b (⟨2 + r.val, by omega⟩ : Fin 260) C) (idx_eq_ix3 _ b _ C rfl (by show 2 + r.val = 2 + r.val; omega) rfl) (nbC x0 R hR b r e C 2 _ rfl)
theorem wC2 (b : Fin 4) (r : Fin 256) (C : Fin 3072) : (val_main_v54 (F := Ideal) x2 (ix3 b r C) : EReal) = x2 (ix2 2 C) := by
  have hC := C.isLt
  refine (val_main_v54_apply (F := Ideal) x2 _).trans ((val_main_v53_apply (F := Ideal) x2 _).trans ((val_main_v51_apply (F := Ideal) x2 _).trans ?_))
  exact congrArg x2 (idx_eq_ix2 _ 2 C rfl rfl)
theorem xC3 (R : Fin 33792) (hR : ¬ R.val < 32768) (b : Fin 4) (r : Fin 256) (e : R.val = 32768 + b.val * 256 + r.val) (C : Fin 3072) : (val_main_v58 (F := Ideal) x0 (ix3 b r C) : EReal) = nb x0 R C 3 := by
  have hr := r.isLt
  refine (val_main_v58_apply (F := Ideal) x0 _).trans ?_
  exact at_ix (val_main_v39 (F := Ideal) x0) (ix3 b (⟨3 + r.val, by omega⟩ : Fin 260) C) (idx_eq_ix3 _ b _ C rfl (by show 3 + r.val = 3 + r.val; omega) rfl) (nbC x0 R hR b r e C 3 _ rfl)
theorem wC3 (b : Fin 4) (r : Fin 256) (C : Fin 3072) : (val_main_v60 (F := Ideal) x2 (ix3 b r C) : EReal) = x2 (ix2 3 C) := by
  have hC := C.isLt
  refine (val_main_v60_apply (F := Ideal) x2 _).trans ((val_main_v59_apply (F := Ideal) x2 _).trans ((val_main_v57_apply (F := Ideal) x2 _).trans ?_))
  exact congrArg x2 (idx_eq_ix2 _ 3 C rfl rfl)
theorem xC4 (R : Fin 33792) (hR : ¬ R.val < 32768) (b : Fin 4) (r : Fin 256) (e : R.val = 32768 + b.val * 256 + r.val) (C : Fin 3072) : (val_main_v64 (F := Ideal) x0 (ix3 b r C) : EReal) = nb x0 R C 4 := by
  have hr := r.isLt
  refine (val_main_v64_apply (F := Ideal) x0 _).trans ?_
  exact at_ix (val_main_v39 (F := Ideal) x0) (ix3 b (⟨4 + r.val, by omega⟩ : Fin 260) C) (idx_eq_ix3 _ b _ C rfl (by show 4 + r.val = 4 + r.val; omega) rfl) (nbC x0 R hR b r e C 4 _ rfl)
theorem wC4 (b : Fin 4) (r : Fin 256) (C : Fin 3072) : (val_main_v66 (F := Ideal) x2 (ix3 b r C) : EReal) = x2 (ix2 4 C) := by
  have hC := C.isLt
  refine (val_main_v66_apply (F := Ideal) x2 _).trans ((val_main_v65_apply (F := Ideal) x2 _).trans ((val_main_v63_apply (F := Ideal) x2 _).trans ?_))
  exact congrArg x2 (idx_eq_ix2 _ 4 C rfl rfl)

theorem convC (R : Fin 33792) (hR : ¬ R.val < 32768) (b : Fin 4) (r : Fin 256) (e : R.val = 32768 + b.val * 256 + r.val) (C : Fin 3072) :
    (val_main_v68 (F := Ideal) x0 x2 (ix3 b r C) : EReal) = cvG x0 x2 R C := by
  refine (?_ : _ = (val_main_v43 (F := Ideal) x2 (ix3 b r C) : EReal) * val_main_v41 (F := Ideal) x0 (ix3 b r C) + (val_main_v48 (F := Ideal) x2 (ix3 b r C) : EReal) * val_main_v46 (F := Ideal) x0 (ix3 b r C) + (val_main_v54 (F := Ideal) x2 (ix3 b r C) : EReal) * val_main_v52 (F := Ideal) x0 (ix3 b r C) + (val_main_v60 (F := Ideal) x2 (ix3 b r C) : EReal) * val_main_v58 (F := Ideal) x0 (ix3 b r C) + (val_main_v66 (F := Ideal) x2 (ix3 b r C) : EReal) * val_main_v64 (F := Ideal) x0 (ix3 b r C)).trans ?_
  · rfl
  · rw [xC0 x0 R hR b r e C, wC0 x2 b r C, xC1 x0 R hR b r e C, wC1 x2 b r C, xC2 x0 R hR b r e C, wC2 x2 b r C, xC3 x0 R hR b r e C, wC3 x2 b r C, xC4 x0 R hR b r e C, wC4 x2 b r C]
    rfl

/-- The convolution of every row. -/
theorem conv (R : Fin 33792) (C : Fin 3072) : (val_main_v70 (F := Ideal) x0 x2 (ix2 R C) : EReal) = cvG x0 x2 R C := by
  have hR := R.isLt
  have hC := C.isLt
  unfold val_main_v70
  by_cases h : R.val < 32768
  · refine (concatenate_pair_apply_left (t := S33792x3072) (s₁ := S32768x3072) (s₂ := S1024x3072) 0 _ _ _ (ix2 R C) rfl
      (ix2 ⟨R.val, h⟩ C) (fun x => match x with | ⟨0, _⟩ => rfl | ⟨1, _⟩ => rfl)).trans ((val_main_v34_apply (F := Ideal) x0 x2 _).trans ?_)
    exact at_ix (val_main_v33 (F := Ideal) x0 x2) (ix3 (⟨R.val / 8192, by omega⟩ : Fin 4) (⟨R.val % 8192, by omega⟩ : Fin 8192) C) (idx_eq_ix3 _ _ _ C
      (by show (R.val * 3072 + C.val) / 25165824 = R.val / 8192; omega) (by show (R.val * 3072 + C.val) / 3072 % 8192 = R.val % 8192; omega) (by show (R.val * 3072 + C.val) % 3072 = C.val; omega))
      (convL x0 x2 R h _ _ (by show R.val = R.val / 8192 * 8192 + R.val % 8192; omega) C)
  · refine (concatenate_pair_apply_right (t := S33792x3072) (s₁ := S32768x3072) (s₂ := S1024x3072) 0 _ _ _ (ix2 R C) rfl rfl
      (ix2 ⟨R.val - 32768, by omega⟩ C) (fun x hx => match x with | ⟨0, _⟩ => absurd rfl hx | ⟨1, _⟩ => rfl)
      (by show R.val - 32768 + 32768 = R.val; omega)).trans ((val_main_v69_apply (F := Ideal) x0 x2 _).trans ?_)
    exact at_ix (val_main_v68 (F := Ideal) x0 x2) (ix3 (⟨(R.val - 32768) / 256, by omega⟩ : Fin 4) (⟨(R.val - 32768) % 256, by omega⟩ : Fin 256) C) (idx_eq_ix3 _ _ _ C
      (by show ((R.val - 32768) * 3072 + C.val) / 786432 = (R.val - 32768) / 256; omega) (by show ((R.val - 32768) * 3072 + C.val) / 3072 % 256 = (R.val - 32768) % 256; omega) (by show ((R.val - 32768) * 3072 + C.val) % 3072 = C.val; omega))
      (convC x0 x2 R h _ _ (by show R.val = 32768 + (R.val - 32768) / 256 * 256 + (R.val - 32768) % 256; omega) C)

theorem sil (R : Fin 33792) (C : Fin 3072) : (val_main_v71 (F := Ideal) x0 x2 (ix2 R C) : EReal) = silu (cvG x0 x2 R C) := by
  have h4 : (val_main_call0_v4 (F := Ideal) (ix2 R C) : EReal) = Ideal.ofBits .f32 0x3F800000#32 := val_main_call0_v4_apply (F := Ideal) _
  have h2' : (val_main_call0_v2 (F := Ideal) (ix2 R C) : EReal) = Ideal.ofBits .f32 0x3F800000#32 := val_main_call0_v2_apply (F := Ideal) _
  refine (?_ : _ = (val_main_v70 (F := Ideal) x0 x2 (ix2 R C) : EReal) * Ideal.div (val_main_call0_v4 (F := Ideal) (ix2 R C))
    ((val_main_call0_v2 (F := Ideal) (ix2 R C) : EReal) + Ideal.exp (-(val_main_v70 (F := Ideal) x0 x2 (ix2 R C) : EReal)))).trans ?_
  · rfl
  · rw [conv, h4, h2']
    rfl

/-- The heads of q, and of k. -/
abbrev Pq (R : Fin 33792) (H : Fin 8) (k : Fin 128) : EReal := silu (cvG x0 x2 R ⟨128 * H.val + k.val, by omega⟩)
abbrev Pk (R : Fin 33792) (H : Fin 8) (k : Fin 128) : EReal := silu (cvG x0 x2 R ⟨1024 + 128 * H.val + k.val, by omega⟩)

theorem hq (R : Fin 33792) (H : Fin 8) (k : Fin 128) : (val_main_v73 (F := Ideal) x0 x2 (ix3 R H k) : EReal) = Pq x0 x2 R H k := by
  have hR := R.isLt
  have hH := H.isLt
  have hk := k.isLt
  refine (val_main_v73_apply (F := Ideal) x0 x2 _).trans ((val_main_v72_apply (F := Ideal) x0 x2 _).trans ?_)
  exact at_ix (val_main_v71 (F := Ideal) x0 x2) (ix2 R (⟨128 * H.val + k.val, by omega⟩ : Fin 3072)) (idx_eq_ix2 _ R _
    (by show ((R.val * 8 + H.val) * 128 + k.val) / 1024 = R.val; omega)
    (by show ((R.val * 8 + H.val) * 128 + k.val) % 1024 = 128 * H.val + k.val; omega)) (sil x0 x2 R _)

theorem rq (R : Fin 33792) (H : Fin 8) : (val_main_v79 (F := Ideal) x0 x2 (ix3 R H 0) : EReal)
    = Ideal.rsqrt ((∑ k : Fin 128, Pq x0 x2 R H k * Pq x0 x2 R H k) + Ideal.ofBits .f32 0x358637BD#32) := by
  have e1 : (val_main_v75 (F := Ideal) x0 x2 (ix2 R H) : EReal) = ∑ k : Fin 128, Pq x0 x2 R H k * Pq x0 x2 R H k := by
    refine (val_main_v75_apply x0 x2 (ix2 R H)).trans ?_
    refine (congrArg₂ (fun x y : EReal => x + y) Ideal.ofBits_zero_f32 (Finset.sum_congr rfl fun k _ => ?_)).trans (zero_add _)
    refine at_ix (val_main_v74 (F := Ideal) x0 x2) (ix3 R H k) (idx_eq_ix3 _ R H k rfl rfl rfl) ?_
    exact congrArg₂ (fun x y : EReal => x * y) (hq x0 x2 R H k) (hq x0 x2 R H k)
  have e2 : (val_main_v76 (F := Ideal) x0 x2 (ix3 R H 0) : EReal) = ∑ k : Fin 128, Pq x0 x2 R H k * Pq x0 x2 R H k :=
    (val_main_v76_apply (F := Ideal) x0 x2 _).trans (at_ix (val_main_v75 (F := Ideal) x0 x2) (ix2 R H) (idx_eq_ix2 _ R H rfl rfl) e1)
  have e3 : (val_main_v77 (F := Ideal) (ix3 R H 0) : EReal) = Ideal.ofBits .f32 0x358637BD#32 := val_main_v77_apply (F := Ideal) _
  rw [val_main_v79_apply, val_main_v78_apply, e2, e3]
  generalize (∑ k : Fin 128, Pq x0 x2 R H k * Pq x0 x2 R H k) = s
  rfl

theorem nq (R : Fin 33792) (H : Fin 8) (d : Fin 128) : (val_main_v81 (F := Ideal) x0 x2 (ix3 R H d) : EReal) = l2 (Pq x0 x2 R H) d := by
  have e : (val_main_v80 (F := Ideal) x0 x2 (ix3 R H d) : EReal) = Ideal.rsqrt ((∑ k : Fin 128, Pq x0 x2 R H k * Pq x0 x2 R H k) + Ideal.ofBits .f32 0x358637BD#32) :=
    (val_main_v80_apply (F := Ideal) x0 x2 _).trans (at_ix (val_main_v79 (F := Ideal) x0 x2) (ix3 R H 0) (idx_eq_ix3 _ R H 0 rfl rfl rfl) (rq x0 x2 R H))
  exact congrArg₂ (fun x y : EReal => x * y) (hq x0 x2 R H d) e

theorem hk (R : Fin 33792) (H : Fin 8) (k : Fin 128) : (val_main_v85 (F := Ideal) x0 x2 (ix3 R H k) : EReal) = Pk x0 x2 R H k := by
  have hR := R.isLt
  have hH := H.isLt
  have hk := k.isLt
  refine (val_main_v85_apply (F := Ideal) x0 x2 _).trans ((val_main_v84_apply (F := Ideal) x0 x2 _).trans ?_)
  exact at_ix (val_main_v71 (F := Ideal) x0 x2) (ix2 R (⟨1024 + 128 * H.val + k.val, by omega⟩ : Fin 3072)) (idx_eq_ix2 _ R _
    (by show ((R.val * 8 + H.val) * 128 + k.val) / 1024 = R.val; omega)
    (by show 1024 + ((R.val * 8 + H.val) * 128 + k.val) % 1024 = 1024 + 128 * H.val + k.val; omega)) (sil x0 x2 R _)

theorem rk (R : Fin 33792) (H : Fin 8) : (val_main_v91 (F := Ideal) x0 x2 (ix3 R H 0) : EReal)
    = Ideal.rsqrt ((∑ k : Fin 128, Pk x0 x2 R H k * Pk x0 x2 R H k) + Ideal.ofBits .f32 0x358637BD#32) := by
  have e1 : (val_main_v87 (F := Ideal) x0 x2 (ix2 R H) : EReal) = ∑ k : Fin 128, Pk x0 x2 R H k * Pk x0 x2 R H k := by
    refine (val_main_v87_apply x0 x2 (ix2 R H)).trans ?_
    refine (congrArg₂ (fun x y : EReal => x + y) Ideal.ofBits_zero_f32 (Finset.sum_congr rfl fun k _ => ?_)).trans (zero_add _)
    refine at_ix (val_main_v86 (F := Ideal) x0 x2) (ix3 R H k) (idx_eq_ix3 _ R H k rfl rfl rfl) ?_
    exact congrArg₂ (fun x y : EReal => x * y) (hk x0 x2 R H k) (hk x0 x2 R H k)
  have e2 : (val_main_v88 (F := Ideal) x0 x2 (ix3 R H 0) : EReal) = ∑ k : Fin 128, Pk x0 x2 R H k * Pk x0 x2 R H k :=
    (val_main_v88_apply (F := Ideal) x0 x2 _).trans (at_ix (val_main_v87 (F := Ideal) x0 x2) (ix2 R H) (idx_eq_ix2 _ R H rfl rfl) e1)
  have e3 : (val_main_v89 (F := Ideal) (ix3 R H 0) : EReal) = Ideal.ofBits .f32 0x358637BD#32 := val_main_v89_apply (F := Ideal) _
  rw [val_main_v91_apply, val_main_v90_apply, e2, e3]
  generalize (∑ k : Fin 128, Pk x0 x2 R H k * Pk x0 x2 R H k) = s
  rfl

theorem nk (R : Fin 33792) (H : Fin 8) (d : Fin 128) : (val_main_v93 (F := Ideal) x0 x2 (ix3 R H d) : EReal) = l2 (Pk x0 x2 R H) d := by
  have e : (val_main_v92 (F := Ideal) x0 x2 (ix3 R H d) : EReal) = Ideal.rsqrt ((∑ k : Fin 128, Pk x0 x2 R H k * Pk x0 x2 R H k) + Ideal.ofBits .f32 0x358637BD#32) :=
    (val_main_v92_apply (F := Ideal) x0 x2 _).trans (at_ix (val_main_v91 (F := Ideal) x0 x2) (ix3 R H 0) (idx_eq_ix3 _ R H 0 rfl rfl rfl) (rk x0 x2 R H))
  exact congrArg₂ (fun x y : EReal => x * y) (hk x0 x2 R H d) e

/-- The reference's first result. -/
theorem reference_q : val_main_v95 (F := Ideal) x0 x2 = resq x0 x2 := by
  funext y
  obtain ⟨R, C, rfl⟩ : ∃ (R : Fin 33792) (C : Fin 1024), y = ix2 R C := ⟨y 0, y 1, eq_ix2 y⟩
  have hR := R.isLt
  have hC := C.isLt
  refine (val_main_v95_apply (F := Ideal) x0 x2 _).trans ((val_main_v94_apply (F := Ideal) x0 x2 _).trans ?_)
  refine at_ix (val_main_v83 (F := Ideal) x0 x2) (ix3 R (⟨C.val / 128, by omega⟩ : Fin 8) (⟨C.val % 128, by omega⟩ : Fin 128)) (idx_eq_ix3 _ _ _ _
    (by show (R.val * 1024 + C.val) / 1024 = R.val; omega) (by show (R.val * 1024 + C.val) / 128 % 8 = C.val / 128; omega)
    (by show (R.val * 1024 + C.val) % 128 = C.val % 128; omega)) ?_
  exact congrArg₂ (fun x y : EReal => x * y) (nq x0 x2 R _ _) (val_main_v82_apply (F := Ideal) _)

/-- Its second. -/
theorem reference_k : val_main_v97 (F := Ideal) x0 x2 = resk x0 x2 := by
  funext y
  obtain ⟨R, C, rfl⟩ : ∃ (R : Fin 33792) (C : Fin 1024), y = ix2 R C := ⟨y 0, y 1, eq_ix2 y⟩
  have hR := R.isLt
  have hC := C.isLt
  refine (val_main_v97_apply (F := Ideal) x0 x2 _).trans ((val_main_v96_apply (F := Ideal) x0 x2 _).trans ?_)
  exact at_ix (val_main_v93 (F := Ideal) x0 x2) (ix3 R (⟨C.val / 128, by omega⟩ : Fin 8) (⟨C.val % 128, by omega⟩ : Fin 128)) (idx_eq_ix3 _ _ _ _
    (by show (R.val * 1024 + C.val) / 1024 = R.val; omega) (by show (R.val * 1024 + C.val) / 128 % 8 = C.val / 128; omega)
    (by show (R.val * 1024 + C.val) % 128 = C.val % 128; omega)) (nk x0 x2 R _ _)

/-- Its third. -/
theorem reference_v : val_main_v99 (F := Ideal) x0 x2 = resv x0 x2 := by
  funext y
  obtain ⟨R, C, rfl⟩ : ∃ (R : Fin 33792) (C : Fin 1024), y = ix2 R C := ⟨y 0, y 1, eq_ix2 y⟩
  have hR := R.isLt
  have hC := C.isLt
  refine (val_main_v99_apply (F := Ideal) x0 x2 _).trans ((val_main_v98_apply (F := Ideal) x0 x2 _).trans ?_)
  exact at_ix (val_main_v71 (F := Ideal) x0 x2) (ix2 R (⟨2048 + C.val, by omega⟩ : Fin 3072)) (idx_eq_ix2 _ R _ rfl rfl) (sil x0 x2 R _)

end Cert.Reference6Ideal.Dc

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_tables_in_range
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Final
public import proofs.«01_k».proof.Proof.RefCtx
public import proofs.«01_k».proof.Proof.PjFinal
public import proofs.«01_k».proof.Proof.PjRef
public import proofs.«01_k».proof.Proof.ExPre
public import proofs.«01_k».proof.Proof.ExFinal
public import proofs.«01_k».proof.Proof.ExRef
public import proofs.«01_k».proof.Proof.ApFinal
public import proofs.«01_k».proof.Proof.ApRef
public import proofs.«01_k».proof.Proof.MdFinal
public import proofs.«01_k».proof.Proof.MdRef
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_conditions_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.DcFinal
public import proofs.«01_k».proof.Proof.DcRef
public import Idealize.ShloMosaic.Adequacy
public import Idealize.ShloMosaic.Init

@[expose] public section

noncomputable section

namespace Cert.Proof

open Idealize.ShloMosaic Idealize.SL.Sem Cert.Kernel

/-- The idealized reference runs, keeps its arguments, and leaves every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same arguments the kernel and the reference end with one array: row by row the attention with a sink,
    over the positions in the window and the context for a position of the sequence, over the context for a token of it. -/
theorem attention_eq : Cert.algebraic_KernelIdeal_ReferenceIdeal := fun m ρ m' ρ' _ hm =>
  ⟨fun c => Cert.KernelIdeal.Hd.res m c,
    (θ_run Cert.KernelIdeal.defs _ _).mono
      (fun r h c => ⟨(h c).1.trans (Cert.KernelIdeal.Hd.final_res m c), (h c).2⟩)
      (Cert.KernelIdeal.Value.run_blocks (F := Ideal) m ρ),
    (θ_run Cert.ReferenceIdeal.defs _ _).mono
      (fun r h c => ⟨by
        obtain ⟨h0, h1, h2, h3, h4, h5, h6⟩ := hm c
        refine (h c).1.trans ((Cert.ReferenceIdeal.Read.val_main_v77_eq m' c).trans ?_)
        rw [Cert.ReferenceIdeal.Rd.reference_result, h0, h1, h2, h3, h4, h5, h6], (h c).2⟩)
      (Cert.ReferenceIdeal.Value.run (F := Ideal) m' ρ')⟩

/-- The idealized reference of the projection runs, keeps its arguments, and leaves every counter at zero. -/
theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- From the same arguments the projection's kernel and its reference end with three equal arrays: every row normed,
    modulated and multiplied with the columns of q, k and v, with those of z, and with those of the gates beside zeros. -/
theorem projection_eq : Cert.algebraic_Kernel2Ideal_Reference2Ideal := fun m ρ m' ρ' _ hm =>
  ⟨fun c => Cert.Kernel2Ideal.Pj.r4 m c, fun c => Cert.Kernel2Ideal.Pj.r5 m c, fun c => Cert.Kernel2Ideal.Pj.r6 m c,
    (θ_run Cert.Kernel2Ideal.defs _ _).mono
      (fun r h c => ⟨(h c).1.trans (Cert.Kernel2Ideal.Pj.final_4 m c), (h c).2.1.trans (Cert.Kernel2Ideal.Pj.final_5 m c),
        (h c).2.2.1.trans (Cert.Kernel2Ideal.Pj.final_6 m c), (h c).2.2.2⟩)
      (Cert.Kernel2Ideal.Value.run_blocks (F := Ideal) m ρ),
    (θ_run Cert.Reference2Ideal.defs _ _).mono
      (fun r h c => ⟨by
        obtain ⟨h0, h1, h2, h3⟩ := hm c
        refine (h c).1.trans ((Cert.Reference2Ideal.Read.val_main_v39_eq _ _ _ _).trans ?_)
        rw [Cert.Reference2Ideal.Pj.reference_4, h0, h1, h2, h3], by
        obtain ⟨h0, h1, h2, h3⟩ := hm c
        refine (h c).2.1.trans ((Cert.Reference2Ideal.Read.val_main_v40_eq _ _ _ _).trans ?_)
        rw [Cert.Reference2Ideal.Pj.reference_5, h0, h1, h2, h3], by
        obtain ⟨h0, h1, h2, h3⟩ := hm c
        refine (h c).2.2.1.trans ((Cert.Reference2Ideal.Read.val_main_v42_eq _ _ _ _).trans ?_)
        rw [Cert.Reference2Ideal.Pj.reference_6, h0, h1, h2, h3], (h c).2.2.2⟩)
      (Cert.Reference2Ideal.Value.run (F := Ideal) m' ρ')⟩

/-- The idealized reference of the experts runs, keeps its arguments, and leaves every counter at zero. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The same from the memories whose tables are in range. -/
theorem frame_reference3_pre : Cert.quiescent_Reference3Ideal_pre_tables_in_range := fun m ρ _ => frame_reference3 m ρ trivial

/-- From the same arguments, the tables in range, the experts' kernel and its reference end with one array: each token of an
    active block put through the block's expert, gate and all, and zeros in every other block. -/
theorem experts_eq : Cert.algebraic_Kernel3Ideal_Reference3Ideal := fun m ρ m' ρ' hp hm =>
  have hr := Cert.ExPre.ranges _ _ _ _ _ _ (hp 0)
  ⟨fun _ => Cert.Kernel3Ideal.Ex.rX m, Cert.Kernel3Ideal.Ex.ends m ρ hr.1 hr.2,
    (θ_run Cert.Reference3Ideal.defs _ _).mono
      (fun r h c => ⟨by
        obtain rfl : c = 0 := Subsingleton.elim _ _
        obtain ⟨h0, h1, h2, h3, h4, h5⟩ := hm 0
        refine (h 0).1.trans ((Cert.Reference3Ideal.Read.val_main_v20_eq _ _ _ _ _ _).trans ?_)
        rw [h0, h1, h2, h3, h4, h5]
        exact Cert.Reference3Ideal.Ex.reference _ _ _ _ _ _ hr.1 hr.2, (h c).2⟩)
      (Cert.Reference3Ideal.Value.run (F := Ideal) m' ρ')⟩

/-- The idealized reference of the attention's projection runs, keeps its arguments, and leaves every counter at zero. -/
theorem frame_reference4 : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- From the same arguments the attention's projection and its reference end with three equal arrays: the queries, each head
    normed, rotated and scaled, the keys, normed and rotated, and the values, each key's and value's head laid twice over. -/
theorem attn_projection_eq : Cert.algebraic_Kernel4Ideal_Reference4Ideal := fun m ρ m' ρ' _ hm =>
  ⟨fun c => Cert.Kernel4Ideal.Ap.r9 m c, fun c => Cert.Kernel4Ideal.Ap.r10 m c, fun c => Cert.Kernel4Ideal.Ap.r11 m c,
    (θ_run Cert.Kernel4Ideal.defs _ _).mono
      (fun r h c => ⟨(h c).1.trans (Cert.Kernel4Ideal.Ap.final_9 m c), (h c).2.1.trans (Cert.Kernel4Ideal.Ap.final_10 m c),
        (h c).2.2.1.trans (Cert.Kernel4Ideal.Ap.final_11 m c), (h c).2.2.2⟩)
      (Cert.Kernel4Ideal.Value.run_blocks (F := Ideal) m ρ),
    (θ_run Cert.Reference4Ideal.defs _ _).mono
      (fun r h c => ⟨by
        obtain ⟨h0, h1, h2, h3, h4, h5, h6⟩ := hm c
        refine (h c).1.trans ((Cert.Reference4Ideal.Read.val_main_v113_eq m' c).trans ?_)
        rw [Cert.Reference4Ideal.Ap.reference_9, h0, h1, h2, h3, h4, h5], by
        obtain ⟨h0, h1, h2, h3, h4, h5, h6⟩ := hm c
        refine (h c).2.1.trans ((Cert.Reference4Ideal.Read.val_main_v154_eq m' c).trans ?_)
        rw [Cert.Reference4Ideal.Ap.reference_10, h0, h1, h2, h3, h4, h6], by
        obtain ⟨h0, h1, h2, h3, h4, h5, h6⟩ := hm c
        refine (h c).2.2.1.trans ((Cert.Reference4Ideal.Read.val_main_v160_eq _ _ _ _ _).trans ?_)
        rw [Cert.Reference4Ideal.Ap.reference_11, h0, h1, h2, h3, h4], (h c).2.2.2⟩)
      (Cert.Reference4Ideal.Value.run (F := Ideal) m' ρ')⟩

/-- The idealized reference of the modulation runs, keeps its arguments, and leaves every counter at zero. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- From the same arguments, the conditions and the weights finite, the modulation's kernel and its reference end with one array. -/
theorem modulation_eq : Cert.algebraic_Kernel5Ideal_Reference5Ideal_pre_conditions_finite := fun m ρ m' ρ' hp hm =>
  ⟨fun c => Cert.Kernel5Ideal.Md.r3 m c,
    (θ_run Cert.Kernel5Ideal.defs _ _).mono
      (fun r h c => ⟨(h c).1.trans (Cert.Kernel5Ideal.Md.final_3 m c (Cert.Reference5Ideal.Md.finite _ _ _ _ (hp c))), (h c).2⟩)
      (Cert.Kernel5Ideal.Value.run_blocks (F := Ideal) m ρ),
    (θ_run Cert.Reference5Ideal.defs _ _).mono
      (fun r h c => ⟨by
        obtain ⟨h0, h1, h2, h3⟩ := hm c
        refine (h c).1.trans ((Cert.Reference5Ideal.Read.val_main_v22_eq _ _ _ _).trans ?_)
        rw [Cert.Reference5Ideal.Md.reference, h0, h1, h2, h3], (h c).2⟩)
      (Cert.Reference5Ideal.Value.run (F := Ideal) m' ρ')⟩

/-- The idealized reference of the convolution runs, keeps its arguments, and leaves every counter at zero. -/
theorem frame_reference6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- From the same arguments the convolution's kernel and its reference end with three equal arrays: q, k and v after the convolution and
    silu, each head of q and of k divided by its length. -/
theorem convolution_eq : Cert.algebraic_Kernel6Ideal_Reference6Ideal := fun m ρ m' ρ' _ hm =>
  ⟨fun c => Cert.Kernel6Ideal.Dc.resq (Cert.Kernel6Ideal.Dc.a0 m c) (Cert.Kernel6Ideal.Dc.a2 m c),
    fun c => Cert.Kernel6Ideal.Dc.resk (Cert.Kernel6Ideal.Dc.a0 m c) (Cert.Kernel6Ideal.Dc.a2 m c),
    fun c => Cert.Kernel6Ideal.Dc.resv (Cert.Kernel6Ideal.Dc.a0 m c) (Cert.Kernel6Ideal.Dc.a2 m c),
    (θ_run Cert.Kernel6Ideal.defs _ _).mono
      (fun r h c => ⟨(h c).1.trans (Cert.Kernel6Ideal.Dc.final_6 m c), (h c).2.1.trans (Cert.Kernel6Ideal.Dc.final_7 m c),
        (h c).2.2.1.trans (Cert.Kernel6Ideal.Dc.final_8 m c), (h c).2.2.2.2⟩)
      (Cert.Kernel6Ideal.Value.run_blocks (F := Ideal) m ρ),
    (θ_run Cert.Reference6Ideal.defs _ _).mono
      (fun r h c => ⟨by
        obtain ⟨h0, h1, h2, h3, h4⟩ := hm c
        refine (h c).1.trans ((Cert.Reference6Ideal.Read.val_main_v95_eq m' c).trans ?_)
        rw [Cert.Reference6Ideal.Dc.reference_q, h0, h2], by
        obtain ⟨h0, h1, h2, h3, h4⟩ := hm c
        refine (h c).2.1.trans ((Cert.Reference6Ideal.Read.val_main_v97_eq m' c).trans ?_)
        rw [Cert.Reference6Ideal.Dc.reference_k, h0, h2], by
        obtain ⟨h0, h1, h2, h3, h4⟩ := hm c
        refine (h c).2.2.1.trans ((Cert.Reference6Ideal.Read.val_main_v99_eq m' c).trans ?_)
        rw [Cert.Reference6Ideal.Dc.reference_v, h0, h2], (h c).2.2.2⟩)
      (Cert.Reference6Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_tables_in_range.Gen.facts, Cert.Pre_conditions_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  Cert.ExPre.frame, Cert.ExPre.frameIdeal, frame_reference3, frame_reference3_pre,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, frame_reference6,
  trivial, attention_eq, trivial, projection_eq, trivial, experts_eq,
  trivial, attn_projection_eq, trivial, modulation_eq,
  trivial, convolution_eq⟩

end Cert.Proof

end
